-- ==== Defs.lean ====
def Pre_Kernel [hPre_window_in_cache : Cert.Pre_window_in_cache.Facts] (m : (ℓ : Loc Cert.Kernel.nD Cert.Kernel.τ Cert.Kernel.sig) → Buf (Elt Bits) ℓ) : Prop :=
  ∀ c : Dev Cert.Kernel.nD,
    (Cert.Pre_window_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_window_in_cache : Cert.Pre_window_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_window_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_window [hPre_finite_window : Cert.Pre_finite_window.Facts] (m : (ℓ : Loc Cert.KernelIdeal.nD Cert.KernelIdeal.τ Cert.KernelIdeal.sig) → Buf (Elt Ideal) ℓ) : Prop :=
  ∀ c : Dev Cert.KernelIdeal.nD,
    (Cert.Pre_finite_window.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_window [hPre_finite_window : Cert.Pre_finite_window.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_window.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_window_in_cache : Cert.Pre_window_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_window_in_cache : Cert.Pre_window_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_window [hKernelIdeal : Cert.KernelIdeal.Facts] [hPre_finite_window : Cert.Pre_finite_window.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_window m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_window [hReferenceIdeal : Cert.ReferenceIdeal.Facts] [hPre_finite_window : Cert.Pre_finite_window.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_window m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_window [hKernelIdeal : Cert.KernelIdeal.Facts] [hReferenceIdeal : Cert.ReferenceIdeal.Facts] [hPre_finite_window : Cert.Pre_finite_window.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_window m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_window_in_cache : Cert.Pre_window_in_cache.Facts) (hPre_finite_window : Cert.Pre_finite_window.Facts),
    quiescent_Kernel (hKernel := hKernel) (hPre_window_in_cache := hPre_window_in_cache)
    ∧ quiescent_KernelIdeal (hKernelIdeal := hKernelIdeal) (hPre_window_in_cache := hPre_window_in_cache)
    ∧ quiescent_KernelIdeal_pre_finite_window (hKernelIdeal := hKernelIdeal) (hPre_finite_window := hPre_finite_window)
    ∧ quiescent_ReferenceIdeal (hReferenceIdeal := hReferenceIdeal)
    ∧ quiescent_ReferenceIdeal_pre_finite_window (hReferenceIdeal := hReferenceIdeal) (hPre_finite_window := hPre_finite_window)
    ∧ preserves_Kernel_KernelIdeal
    ∧ algebraic_KernelIdeal_ReferenceIdeal_pre_finite_window (hKernelIdeal := hKernelIdeal) (hReferenceIdeal := hReferenceIdeal) (hPre_finite_window := hPre_finite_window)
-- ==== Pre_finite_window.lean ====
abbrev S64x1x16x64 : Shape := ⟨4, ![64, 1, 16, 64]⟩
abbrev S64x1x1x64 : Shape := ⟨4, ![64, 1, 1, 64]⟩
abbrev S64x32768x1x64 : Shape := ⟨4, ![64, 32768, 1, 64]⟩
abbrev S64x1x64 : Shape := ⟨3, ![64, 1, 64]⟩
abbrev S64x32768x1 : Shape := ⟨3, ![64, 32768, 1]⟩
abbrev S64 : Shape := ⟨1, ![64]⟩
abbrev S_ : Shape := ⟨0, ![]⟩
abbrev S64x1x1x1 : Shape := ⟨4, ![64, 1, 1, 1]⟩

class Facts : Prop where
  bcast_S_S64 : S_.BroadcastsInDim S64 (![] : Fin 0 → Fin S64.rank)
  bcast_S64x1x64_S64x1x1x64_0_2_3 : S64x1x64.BroadcastsInDim S64x1x1x64 (![0, 2, 3] : Fin 3 → Fin S64x1x1x64.rank)
  bcast_S_S64x1x16x64 : S_.BroadcastsInDim S64x1x16x64 (![] : Fin 0 → Fin S64x1x16x64.rank)
  bcast_S_S64x1x1x64 : S_.BroadcastsInDim S64x1x1x64 (![] : Fin 0 → Fin S64x1x1x64.rank)
  bcast_S64x1x1x64_S64x1x16x64_0_1_2_3 : S64x1x1x64.BroadcastsInDim S64x1x16x64 (![0, 1, 2, 3] : Fin 4 → Fin S64x1x16x64.rank)
  bcast_S64_S64x1x1x1_0 : S64.BroadcastsInDim S64x1x1x1 (![0] : Fin 1 → Fin S64x1x1x1.rank)
  bcast_S64x1x1x1_S64x1x16x64_0_1_2_3 : S64x1x1x1.BroadcastsInDim S64x1x16x64 (![0, 1, 2, 3] : Fin 4 → Fin S64x1x16x64.rank)

variable [Facts]

def fn_part1 {F : FTy → Type} [FloatOps F] (main_v4 : IVec S64 1) (main_v18 : IVec S64x1x16x64 1) : IVec S64x1x16x64 1 :=
  let main_v19 : IVec S64x1x1x1 1 := broadcastInDim S64x1x1x1 ![0] bcast_S64_S64x1x1x1_0 main_v4
  let main_v20 : IVec S64x1x16x64 1 := broadcastInDim S64x1x16x64 ![0, 1, 2, 3] bcast_S64x1x1x1_S64x1x16x64_0_1_2_3 main_v19
  let main_v21 : IVec S64x1x16x64 1 := andi main_v18 main_v20
  main_v21

def fn {F : FTy → Type} [FloatOps F] (main_arg0 : FVec F S64x1x16x64 .bf16) (main_arg1 : FVec F S64x1x1x64 .bf16) (main_arg2 : FVec F S64x1x1x64 .bf16) (main_arg3 : IVec S64x32768x1x64 8) (main_arg4 : FVec F S64x1x64 .f32) (main_arg5 : IVec S64x32768x1x64 8) (main_arg6 : FVec F S64x32768x1 .f32) (main_arg7 : IVec S64 32) : IVec S64x1x16x64 1 :=
  let main_c : IVec S_ 32 := constantI S_ 32 1024#32
  let main_v0 : IVec S64 32 := broadcastInDim S64 ![] bcast_S_S64 main_c
  let main_v1 : IVec S64 1 := cmpi .sge main_arg7 main_v0
  let main_c_0 : IVec S_ 32 := constantI S_ 32 32768#32
  let main_v2 : IVec S64 32 := broadcastInDim S64 ![] bcast_S_S64 main_c_0
  let main_v3 : IVec S64 1 := cmpi .sle main_arg7 main_v2
  let main_v4 : IVec S64 1 := andi main_v1 main_v3
  let main_v5 : FVec F S64x1x1x64 .f32 := broadcastInDim S64x1x1x64 ![0, 2, 3] bcast_S64x1x64_S64x1x1x64_0_2_3 main_arg4
  let main_v6 : FVec F S64x1x16x64 .bf16 := Host.absf main_arg0
  let main_cst : FVec F S_ .bf16 := constant S_ .bf16 0x7F80#16
  let main_v7 : FVec F S64x1x16x64 .bf16 := broadcastInDim S64x1x16x64 ![] bcast_S_S64x1x16x64 main_cst
  let main_v8 : IVec S64x1x16x64 1 := cmpf .olt main_v6 main_v7
  let main_v9 : FVec F S64x1x1x64 .bf16 := Host.absf main_arg1
  let main_cst_1 : FVec F S_ .bf16 := constant S_ .bf16 0x7F80#16
  let main_v10 : FVec F S64x1x1x64 .bf16 := broadcastInDim S64x1x1x64 ![] bcast_S_S64x1x1x64 main_cst_1
  let main_v11 : IVec S64x1x1x64 1 := cmpf .olt main_v9 main_v10
  let main_v12 : IVec S64x1x16x64 1 := broadcastInDim S64x1x16x64 ![0, 1, 2, 3] bcast_S64x1x1x64_S64x1x16x64_0_1_2_3 main_v11
  let main_v13 : IVec S64x1x16x64 1 := andi main_v8 main_v12
  let main_v14 : FVec F S64x1x1x64 .f32 := Host.absf main_v5
  let main_cst_2 : FVec F S_ .f32 := constant S_ .f32 0x7F800000#32
  let main_v15 : FVec F S64x1x1x64 .f32 := broadcastInDim S64x1x1x64 ![] bcast_S_S64x1x1x64 main_cst_2
  let main_v16 : IVec S64x1x1x64 1 := cmpf .olt main_v14 main_v15
  let main_v17 : IVec S64x1x16x64 1 := broadcastInDim S64x1x16x64 ![0, 1, 2, 3] bcast_S64x1x1x64_S64x1x16x64_0_1_2_3 main_v16
  let main_v18 : IVec S64x1x16x64 1 := andi main_v13 main_v17
  fn_part1 (F := F) main_v4 main_v18
-- ==== Pre_window_in_cache.lean ====
abbrev S64x1x16x64 : Shape := ⟨4, ![64, 1, 16, 64]⟩
abbrev S64x1x1x64 : Shape := ⟨4, ![64, 1, 1, 64]⟩
abbrev S64x32768x1x64 : Shape := ⟨4, ![64, 32768, 1, 64]⟩
abbrev S64x1x64 : Shape := ⟨3, ![64, 1, 64]⟩
abbrev S64x32768x1 : Shape := ⟨3, ![64, 32768, 1]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x1x16x64 .bf16) (main_arg1 : FVec F S64x1x1x64 .bf16) (main_arg2 : FVec F S64x1x1x64 .bf16) (main_arg3 : IVec S64x32768x1x64 8) (main_arg4 : FVec F S64x1x64 .f32) (main_arg5 : IVec S64x32768x1x64 8) (main_arg6 : FVec F S64x32768x1 .f32) (main_arg7 : IVec S64 32) : IVec S64 1 :=
  let main_c : IVec S_ 32 := constantI S_ 32 1024#32
  let main_v0 : IVec S64 32 := broadcastInDim S64 ![] bcast_S_S64 main_c
  let main_v1 : IVec S64 1 := cmpi .sge main_arg7 main_v0
  let main_c_0 : IVec S_ 32 := constantI S_ 32 32768#32
  let main_v2 : IVec S64 32 := broadcastInDim S64 ![] bcast_S_S64 main_c_0
  let main_v3 : IVec S64 1 := cmpi .sle main_arg7 main_v2
  let main_v4 : IVec S64 1 := andi main_v1 main_v3
  main_v4
-- ==== Kernel.lean ====
abbrev S64x1x16x64 : Shape := ⟨4, ![64, 1, 16, 64]⟩
abbrev S64x1x1x64 : Shape := ⟨4, ![64, 1, 1, 64]⟩
abbrev S64x32768x1x64 : Shape := ⟨4, ![64, 32768, 1, 64]⟩
abbrev S64x1x64 : Shape := ⟨3, ![64, 1, 64]⟩
abbrev S64x32768x1 : Shape := ⟨3, ![64, 32768, 1]⟩
abbrev S64 : Shape := ⟨1, ![64]⟩
abbrev S64x1x64x32768 : Shape := ⟨4, ![64, 1, 64, 32768]⟩
abbrev S64x64x32768 : Shape := ⟨3, ![64, 64, 32768]⟩
abbrev S64x1x32768 : Shape := ⟨3, ![64, 1, 32768]⟩
abbrev S64x16x64 : Shape := ⟨3, ![64, 16, 64]⟩
abbrev S64x64 : Shape := ⟨2, ![64, 64]⟩
abbrev S1x64 : Shape := ⟨2, ![1, 64]⟩
abbrev S64x64x1152 : Shape := ⟨3, ![64, 64, 1152]⟩
abbrev S64x1x1152 : Shape := ⟨3, ![64, 1, 1152]⟩
abbrev S64x64x128 : Shape := ⟨3, ![64, 64, 128]⟩
abbrev S8 : Shape := ⟨1, ![8]⟩
abbrev S1 : Shape := ⟨1, ![1]⟩
abbrev S_ : Shape := ⟨0, ![]⟩
abbrev S1x64x1152 : Shape := ⟨3, ![1, 64, 1152]⟩
abbrev S64x1152 : Shape := ⟨2, ![64, 1152]⟩
abbrev S1x1x1152 : Shape := ⟨3, ![1, 1, 1152]⟩
abbrev S1x1152 : Shape := ⟨2, ![1, 1152]⟩
abbrev S64x1 : Shape := ⟨2, ![64, 1]⟩
abbrev S64x128 : Shape := ⟨2, ![64, 128]⟩
abbrev S1x64x128 : Shape := ⟨3, ![1, 64, 128]⟩
abbrev S1x128 : Shape := ⟨2, ![1, 128]⟩
abbrev S16x128 : Shape := ⟨2, ![16, 128]⟩
abbrev S1x1x128 : Shape := ⟨3, ![1, 1, 128]⟩
abbrev S64x1024 : Shape := ⟨2, ![64, 1024]⟩
abbrev S1x16x64 : Shape := ⟨3, ![1, 16, 64]⟩
abbrev S16x64 : Shape := ⟨2, ![16, 64]⟩
abbrev S16x1024 : Shape := ⟨2, ![16, 1024]⟩
abbrev S16 : Shape := ⟨1, ![16]⟩
abbrev S16x1 : Shape := ⟨2, ![16, 1]⟩
abbrev S16x896 : Shape := ⟨2, ![16, 896]⟩
abbrev S1x1024 : Shape := ⟨2, ![1, 1024]⟩

abbrev nBuf : Space → Nat
  | .hbm => 21
  | .vmem => 14
  | .smem => 1
  | _ => 0

abbrev bufTy : (tb : Table) → Fin (tcTables nBuf tb) → BufTy
  | .hbm, ⟨0, _⟩ => ⟨S64x1x16x64, .bf16⟩
  | .hbm, ⟨1, _⟩ => ⟨S64x1x1x64, .bf16⟩
  | .hbm, ⟨2, _⟩ => ⟨S64x1x1x64, .bf16⟩
  | .hbm, ⟨3, _⟩ => ⟨S64x32768x1x64, .i8⟩
  | .hbm, ⟨4, _⟩ => ⟨S64x1x64, .f32⟩
  | .hbm, ⟨5, _⟩ => ⟨S64x32768x1x64, .i8⟩
  | .hbm, ⟨6, _⟩ => ⟨S64x32768x1, .f32⟩
  | .hbm, ⟨7, _⟩ => ⟨S64, .i32⟩
  | .hbm, ⟨8, _⟩ => ⟨S64x1x64x32768, .i8⟩
  | .hbm, ⟨9, _⟩ => ⟨S64x64x32768, .i8⟩
  | .hbm, ⟨10, _⟩ => ⟨S64x1x64x32768, .i8⟩
  | .hbm, ⟨11, _⟩ => ⟨S64x64x32768, .i8⟩
  | .hbm, ⟨12, _⟩ => ⟨S64x1x32768, .f32⟩
  | .hbm, ⟨13, _⟩ => ⟨S64x16x64, .bf16⟩
  | .hbm, ⟨14, _⟩ => ⟨S64x64, .bf16⟩
  | .hbm, ⟨15, _⟩ => ⟨S64x64, .bf16⟩
  | .hbm, ⟨16, _⟩ => ⟨S64x64, .f32⟩
  | .hbm, ⟨17, _⟩ => ⟨S64x16x64, .bf16⟩
  | .hbm, ⟨18, _⟩ => ⟨S64x64, .i8⟩
  | .hbm, ⟨19, _⟩ => ⟨S64x64, .i8⟩
  | .hbm, ⟨20, _⟩ => ⟨S1x64, .f32⟩
  | .local _ .vmem, ⟨0, _⟩ => ⟨S64x16x64, .bf16⟩
  | .local _ .vmem, ⟨1, _⟩ => ⟨S64x64, .bf16⟩
  | .local _ .vmem, ⟨2, _⟩ => ⟨S64x64, .bf16⟩
  | .local _ .vmem, ⟨3, _⟩ => ⟨S64x64, .f32⟩
  | .local _ .vmem, ⟨4, _⟩ => ⟨S64x16x64, .bf16⟩
  | .local _ .vmem, ⟨5, _⟩ => ⟨S64x64, .i8⟩
  | .local _ .vmem, ⟨6, _⟩ => ⟨S64x64, .i8⟩
  | .local _ .vmem, ⟨7, _⟩ => ⟨S1x64, .f32⟩
  | .local _ .vmem, ⟨8, _⟩ => ⟨S64x64x1152, .i8⟩
  | .local _ .vmem, ⟨9, _⟩ => ⟨S64x64x1152, .i8⟩
  | .local _ .vmem, ⟨10, _⟩ => ⟨S64x1x1152, .f32⟩
  | .local _ .vmem, ⟨11, _⟩ => ⟨S64x64x128, .bf16⟩
  | .local _ .vmem, ⟨12, _⟩ => ⟨S64x64, .f32⟩
  | .local _ .vmem, ⟨13, _⟩ => ⟨S64x64, .f32⟩
  | .local _ .smem, ⟨0, _⟩ => ⟨S64, .i32⟩
  | _, _ => ⟨S64x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_156 : BitVec 32 := 8#32
  let v494 : BitVec 32 := Scalar.muli arg19 c8_i32_156
  let c0_i32_157 : BitVec 32 := 0#32
  let v495 : BitVec 32 := Scalar.addi v494 c0_i32_157
  let v496 : Index := Scalar.indexCast v495
  ![v496.toNat]
def k0_mult1 (v497 : BitVec 32) : BitVec 32 :=
  let c1024_i32 : BitVec 32 := 1024#32
  let v498 : BitVec 32 := Scalar.subi v497 c1024_i32
  let c7_i32 : BitVec 32 := 7#32
  let v499 : BitVec 32 := Scalar.shrui v498 c7_i32
  let c128_i32 : BitVec 32 := 128#32
  let v500 : BitVec 32 := Scalar.muli v499 c128_i32
  let c31616_i32 : BitVec 32 := 31616#32
  let v501 : BitVec 32 := Scalar.minsi v500 c31616_i32
  v501

def k0_off2 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off3 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_156 : BitVec 32 := 8#32
  let v494 : BitVec 32 := Scalar.muli arg19 c8_i32_156
  let c0_i32_157 : BitVec 32 := 0#32
  let v495 : BitVec 32 := Scalar.addi v494 c0_i32_157
  let c0_i32_158 : BitVec 32 := 0#32
  let c0_i32_159 : BitVec 32 := 0#32
  ![v495.toNat, 0, 0]
def k0_off4 (k0_t1 : Fin k0_t1_loop.trips) (v497 : BitVec 32) : Fin 3 → Nat :=
  let c0_i32 : BitVec 32 := 0#32
  let c1_i32 : BitVec 32 := 1#32
  let arg19 : BitVec 32 := Scf.iv c0_i32 c1_i32 k0_t1
  let c8_i32_156 : BitVec 32 := 8#32
  let v494 : BitVec 32 := Scalar.muli arg19 c8_i32_156
  let c0_i32_157 : BitVec 32 := 0#32
  let v495 : BitVec 32 := Scalar.addi v494 c0_i32_157
  let c0_i32_160 : BitVec 32 := 0#32
  let c1024_i32 : BitVec 32 := 1024#32
  let v498 : BitVec 32 := Scalar.subi v497 c1024_i32
  let c7_i32 : BitVec 32 := 7#32
  let v499 : BitVec 32 := Scalar.shrui v498 c7_i32
  let c128_i32 : BitVec 32 := 128#32
  let v500 : BitVec 32 := Scalar.muli v499 c128_i32
  let c31616_i32 : BitVec 32 := 31616#32
  let v501 : BitVec 32 := Scalar.minsi v500 c31616_i32
  let v502 : BitVec 32 := v501
  ![v495.toNat, 0, v502.toNat]
def k0_off5 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_156 : BitVec 32 := 8#32
  let v494 : BitVec 32 := Scalar.muli arg19 c8_i32_156
  let c0_i32_157 : BitVec 32 := 0#32
  let v495 : BitVec 32 := Scalar.addi v494 c0_i32_157
  let c0_i32_164 : BitVec 32 := 0#32
  let c0_i32_165 : BitVec 32 := 0#32
  ![v495.toNat, 0, 0]
def k0_off6 (k0_t1 : Fin k0_t1_loop.trips) (v497 : BitVec 32) : Fin 3 → Nat :=
  let c0_i32 : BitVec 32 := 0#32
  let c1_i32 : BitVec 32 := 1#32
  let arg19 : BitVec 32 := Scf.iv c0_i32 c1_i32 k0_t1
  let c8_i32_156 : BitVec 32 := 8#32
  let v494 : BitVec 32 := Scalar.muli arg19 c8_i32_156
  let c0_i32_157 : BitVec 32 := 0#32
  let v495 : BitVec 32 := Scalar.addi v494 c0_i32_157
  let c0_i32_166 : BitVec 32 := 0#32
  let c1024_i32 : BitVec 32 := 1024#32
  let v498 : BitVec 32 := Scalar.subi v497 c1024_i32
  let c7_i32 : BitVec 32 := 7#32
  let v499 : BitVec 32 := Scalar.shrui v498 c7_i32
  let c128_i32 : BitVec 32 := 128#32
  let v500 : BitVec 32 := Scalar.muli v499 c128_i32
  let c31616_i32 : BitVec 32 := 31616#32
  let v501 : BitVec 32 := Scalar.minsi v500 c31616_i32
  let v502 : BitVec 32 := v501
  ![v495.toNat, 0, v502.toNat]

def k0_chk1 (k0_t1 : Fin k0_t1_loop.trips) (v497 : BitVec 32) : Prop :=
  (128 ∣ (k0_mult1 v497).toNat) ∧
  (∀ a, (k0_off4 k0_t1 v497) a + S1x64x1152.size a ≤ S64x64x32768.size a) ∧
  (∀ (hinb : ∀ a, (k0_off4 k0_t1 v497) a + S1x64x1152.size a ≤ S64x64x32768.size a), (Rect.unit (s := S64x64x32768) (k0_off4 k0_t1 v497) S1x64x1152.size hinb).WholeWords (EltTy.packing .i8)) ∧
  (∀ a, (k0_off6 k0_t1 v497) a + S1x1x1152.size a ≤ S64x1x32768.size a)
theorem k0_mult1_dvd : ∀ (k0_t1 : Fin k0_t1_loop.trips) (v497 : BitVec 32) (k0_hw1 : k0_chk1 k0_t1 v497), 128 ∣ (k0_mult1 v497).toNat := fun k0_t1 v497 k0_hw1 => k0_hw1.1
theorem k0_off4_inb : ∀ (k0_t1 : Fin k0_t1_loop.trips) (v497 : BitVec 32) (k0_hw1 : k0_chk1 k0_t1 v497), ∀ a, (k0_off4 k0_t1 v497) a + S1x64x1152.size a ≤ S64x64x32768.size a := fun k0_t1 v497 k0_hw1 => k0_hw1.2.1
theorem k0_off4_wordsi8 : ∀ (k0_t1 : Fin k0_t1_loop.trips) (v497 : BitVec 32) (k0_hw1 : k0_chk1 k0_t1 v497), (Rect.unit (s := S64x64x32768) (k0_off4 k0_t1 v497) S1x64x1152.size (k0_off4_inb k0_t1 v497 k0_hw1)).WholeWords (EltTy.packing .i8) := fun k0_t1 v497 k0_hw1 => k0_hw1.2.2.1 (k0_off4_inb k0_t1 v497 k0_hw1)
theorem k0_off6_inb : ∀ (k0_t1 : Fin k0_t1_loop.trips) (v497 : BitVec 32) (k0_hw1 : k0_chk1 k0_t1 v497), ∀ a, (k0_off6 k0_t1 v497) a + S1x1x1152.size a ≤ S64x1x32768.size a := fun k0_t1 v497 k0_hw1 => k0_hw1.2.2.2

def k0_off7 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_167 : BitVec 32 := 8#32
  let v521 : BitVec 32 := Scalar.muli arg19 c8_i32_167
  let c1_i32_168 : BitVec 32 := 1#32
  let v522 : BitVec 32 := Scalar.addi v521 c1_i32_168
  let v523 : Index := Scalar.indexCast v522
  ![v523.toNat]
def k0_mult2 (v524 : BitVec 32) : BitVec 32 :=
  let c1024_i32_169 : BitVec 32 := 1024#32
  let v525 : BitVec 32 := Scalar.subi v524 c1024_i32_169
  let c7_i32_170 : BitVec 32 := 7#32
  let v526 : BitVec 32 := Scalar.shrui v525 c7_i32_170
  let c128_i32_171 : BitVec 32 := 128#32
  let v527 : BitVec 32 := Scalar.muli v526 c128_i32_171
  let c31616_i32_172 : BitVec 32 := 31616#32
  let v528 : BitVec 32 := Scalar.minsi v527 c31616_i32_172
  v528

def k0_off8 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off9 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_167 : BitVec 32 := 8#32
  let v521 : BitVec 32 := Scalar.muli arg19 c8_i32_167
  let c1_i32_168 : BitVec 32 := 1#32
  let v522 : BitVec 32 := Scalar.addi v521 c1_i32_168
  let c0_i32_173 : BitVec 32 := 0#32
  let c0_i32_174 : BitVec 32 := 0#32
  ![v522.toNat, 0, 0]
def k0_off10 (k0_t1 : Fin k0_t1_loop.trips) (v524 : BitVec 32) : Fin 3 → Nat :=
  let c0_i32 : BitVec 32 := 0#32
  let c1_i32 : BitVec 32 := 1#32
  let arg19 : BitVec 32 := Scf.iv c0_i32 c1_i32 k0_t1
  let c8_i32_167 : BitVec 32 := 8#32
  let v521 : BitVec 32 := Scalar.muli arg19 c8_i32_167
  let c1_i32_168 : BitVec 32 := 1#32
  let v522 : BitVec 32 := Scalar.addi v521 c1_i32_168
  let c0_i32_175 : BitVec 32 := 0#32
  let c1024_i32_169 : BitVec 32 := 1024#32
  let v525 : BitVec 32 := Scalar.subi v524 c1024_i32_169
  let c7_i32_170 : BitVec 32 := 7#32
  let v526 : BitVec 32 := Scalar.shrui v525 c7_i32_170
  let c128_i32_171 : BitVec 32 := 128#32
  let v527 : BitVec 32 := Scalar.muli v526 c128_i32_171
  let c31616_i32_172 : BitVec 32 := 31616#32
  let v528 : BitVec 32 := Scalar.minsi v527 c31616_i32_172
  let v529 : BitVec 32 := v528
  ![v522.toNat, 0, v529.toNat]
def k0_off11 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_167 : BitVec 32 := 8#32
  let v521 : BitVec 32 := Scalar.muli arg19 c8_i32_167
  let c1_i32_168 : BitVec 32 := 1#32
  let v522 : BitVec 32 := Scalar.addi v521 c1_i32_168
  let c0_i32_179 : BitVec 32 := 0#32
  let c0_i32_180 : BitVec 32 := 0#32
  ![v522.toNat, 0, 0]
def k0_off12 (k0_t1 : Fin k0_t1_loop.trips) (v524 : BitVec 32) : Fin 3 → Nat :=
  let c0_i32 : BitVec 32 := 0#32
  let c1_i32 : BitVec 32 := 1#32
  let arg19 : BitVec 32 := Scf.iv c0_i32 c1_i32 k0_t1
  let c8_i32_167 : BitVec 32 := 8#32
  let v521 : BitVec 32 := Scalar.muli arg19 c8_i32_167
  let c1_i32_168 : BitVec 32 := 1#32
  let v522 : BitVec 32 := Scalar.addi v521 c1_i32_168
  let c0_i32_181 : BitVec 32 := 0#32
  let c1024_i32_169 : BitVec 32 := 1024#32
  let v525 : BitVec 32 := Scalar.subi v524 c1024_i32_169
  let c7_i32_170 : BitVec 32 := 7#32
  let v526 : BitVec 32 := Scalar.shrui v525 c7_i32_170
  let c128_i32_171 : BitVec 32 := 128#32
  let v527 : BitVec 32 := Scalar.muli v526 c128_i32_171
  let c31616_i32_172 : BitVec 32 := 31616#32
  let v528 : BitVec 32 := Scalar.minsi v527 c31616_i32_172
  let v529 : BitVec 32 := v528
  ![v522.toNat, 0, v529.toNat]

def k0_chk2 (k0_t1 : Fin k0_t1_loop.trips) (v524 : BitVec 32) : Prop :=
  (128 ∣ (k0_mult2 v524).toNat) ∧
  (∀ a, (k0_off10 k0_t1 v524) a + S1x64x1152.size a ≤ S64x64x32768.size a) ∧
  (∀ (hinb : ∀ a, (k0_off10 k0_t1 v524) a + S1x64x1152.size a ≤ S64x64x32768.size a), (Rect.unit (s := S64x64x32768) (k0_off10 k0_t1 v524) S1x64x1152.size hinb).WholeWords (EltTy.packing .i8)) ∧
  (∀ a, (k0_off12 k0_t1 v524) a + S1x1x1152.size a ≤ S64x1x32768.size a)
theorem k0_mult2_dvd : ∀ (k0_t1 : Fin k0_t1_loop.trips) (v524 : BitVec 32) (k0_hw2 : k0_chk2 k0_t1 v524), 128 ∣ (k0_mult2 v524).toNat := fun k0_t1 v524 k0_hw2 => k0_hw2.1
theorem k0_off10_inb : ∀ (k0_t1 : Fin k0_t1_loop.trips) (v524 : BitVec 32) (k0_hw2 : k0_chk2 k0_t1 v524), ∀ a, (k0_off10 k0_t1 v524) a + S1x64x1152.size a ≤ S64x64x32768.size a := fun k0_t1 v524 k0_hw2 => k0_hw2.2.1
theorem k0_off10_wordsi8 : ∀ (k0_t1 : Fin k0_t1_loop.trips) (v524 : BitVec 32) (k0_hw2 : k0_chk2 k0_t1 v524), (Rect.unit (s := S64x64x32768) (k0_off10 k0_t1 v524) S1x64x1152.size (k0_off10_inb k0_t1 v524 k0_hw2)).WholeWords (EltTy.packing .i8) := fun k0_t1 v524 k0_hw2 => k0_hw2.2.2.1 (k0_off10_inb k0_t1 v524 k0_hw2)
theorem k0_off12_inb : ∀ (k0_t1 : Fin k0_t1_loop.trips) (v524 : BitVec 32) (k0_hw2 : k0_chk2 k0_t1 v524), ∀ a, (k0_off12 k0_t1 v524) a + S1x1x1152.size a ≤ S64x1x32768.size a := fun k0_t1 v524 k0_hw2 => k0_hw2.2.2.2

def k0_off13 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_182 : BitVec 32 := 8#32
  let v548 : BitVec 32 := Scalar.muli arg19 c8_i32_182
  let c2_i32 : BitVec 32 := 2#32
  let v549 : BitVec 32 := Scalar.addi v548 c2_i32
  let v550 : Index := Scalar.indexCast v549
  ![v550.toNat]
def k0_mult3 (v551 : BitVec 32) : BitVec 32 :=
  let c1024_i32_183 : BitVec 32 := 1024#32
  let v552 : BitVec 32 := Scalar.subi v551 c1024_i32_183
  let c7_i32_184 : BitVec 32 := 7#32
  let v553 : BitVec 32 := Scalar.shrui v552 c7_i32_184
  let c128_i32_185 : BitVec 32 := 128#32
  let v554 : BitVec 32 := Scalar.muli v553 c128_i32_185
  let c31616_i32_186 : BitVec 32 := 31616#32
  let v555 : BitVec 32 := Scalar.minsi v554 c31616_i32_186
  v555

def k0_off14 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off15 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_182 : BitVec 32 := 8#32
  let v548 : BitVec 32 := Scalar.muli arg19 c8_i32_182
  let c2_i32 : BitVec 32 := 2#32
  let v549 : BitVec 32 := Scalar.addi v548 c2_i32
  let c0_i32_187 : BitVec 32 := 0#32
  let c0_i32_188 : BitVec 32 := 0#32
  ![v549.toNat, 0, 0]
def k0_off16 (k0_t1 : Fin k0_t1_loop.trips) (v551 : BitVec 32) : Fin 3 → Nat :=
  let c0_i32 : BitVec 32 := 0#32
  let c1_i32 : BitVec 32 := 1#32
  let arg19 : BitVec 32 := Scf.iv c0_i32 c1_i32 k0_t1
  let c8_i32_182 : BitVec 32 := 8#32
  let v548 : BitVec 32 := Scalar.muli arg19 c8_i32_182
  let c2_i32 : BitVec 32 := 2#32
  let v549 : BitVec 32 := Scalar.addi v548 c2_i32
  let c0_i32_189 : BitVec 32 := 0#32
  let c1024_i32_183 : BitVec 32 := 1024#32
  let v552 : BitVec 32 := Scalar.subi v551 c1024_i32_183
  let c7_i32_184 : BitVec 32 := 7#32
  let v553 : BitVec 32 := Scalar.shrui v552 c7_i32_184
  let c128_i32_185 : BitVec 32 := 128#32
  let v554 : BitVec 32 := Scalar.muli v553 c128_i32_185
  let c31616_i32_186 : BitVec 32 := 31616#32
  let v555 : BitVec 32 := Scalar.minsi v554 c31616_i32_186
  let v556 : BitVec 32 := v555
  ![v549.toNat, 0, v556.toNat]
def k0_off17 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_182 : BitVec 32 := 8#32
  let v548 : BitVec 32 := Scalar.muli arg19 c8_i32_182
  let c2_i32 : BitVec 32 := 2#32
  let v549 : BitVec 32 := Scalar.addi v548 c2_i32
  let c0_i32_193 : BitVec 32 := 0#32
  let c0_i32_194 : BitVec 32 := 0#32
  ![v549.toNat, 0, 0]
def k0_off18 (k0_t1 : Fin k0_t1_loop.trips) (v551 : BitVec 32) : Fin 3 → Nat :=
  let c0_i32 : BitVec 32 := 0#32
  let c1_i32 : BitVec 32 := 1#32
  let arg19 : BitVec 32 := Scf.iv c0_i32 c1_i32 k0_t1
  let c8_i32_182 : BitVec 32 := 8#32
  let v548 : BitVec 32 := Scalar.muli arg19 c8_i32_182
  let c2_i32 : BitVec 32 := 2#32
  let v549 : BitVec 32 := Scalar.addi v548 c2_i32
  let c0_i32_195 : BitVec 32 := 0#32
  let c1024_i32_183 : BitVec 32 := 1024#32
  let v552 : BitVec 32 := Scalar.subi v551 c1024_i32_183
  let c7_i32_184 : BitVec 32 := 7#32
  let v553 : BitVec 32 := Scalar.shrui v552 c7_i32_184
  let c128_i32_185 : BitVec 32 := 128#32
  let v554 : BitVec 32 := Scalar.muli v553 c128_i32_185
  let c31616_i32_186 : BitVec 32 := 31616#32
  let v555 : BitVec 32 := Scalar.minsi v554 c31616_i32_186
  let v556 : BitVec 32 := v555
  ![v549.toNat, 0, v556.toNat]

def k0_chk3 (k0_t1 : Fin k0_t1_loop.trips) (v551 : BitVec 32) : Prop :=
  (128 ∣ (k0_mult3 v551).toNat) ∧
  (∀ a, (k0_off16 k0_t1 v551) a + S1x64x1152.size a ≤ S64x64x32768.size a) ∧
  (∀ (hinb : ∀ a, (k0_off16 k0_t1 v551) a + S1x64x1152.size a ≤ S64x64x32768.size a), (Rect.unit (s := S64x64x32768) (k0_off16 k0_t1 v551) S1x64x1152.size hinb).WholeWords (EltTy.packing .i8)) ∧
  (∀ a, (k0_off18 k0_t1 v551) a + S1x1x1152.size a ≤ S64x1x32768.size a)
theorem k0_mult3_dvd : ∀ (k0_t1 : Fin k0_t1_loop.trips) (v551 : BitVec 32) (k0_hw3 : k0_chk3 k0_t1 v551), 128 ∣ (k0_mult3 v551).toNat := fun k0_t1 v551 k0_hw3 => k0_hw3.1
theorem k0_off16_inb : ∀ (k0_t1 : Fin k0_t1_loop.trips) (v551 : BitVec 32) (k0_hw3 : k0_chk3 k0_t1 v551), ∀ a, (k0_off16 k0_t1 v551) a + S1x64x1152.size a ≤ S64x64x32768.size a := fun k0_t1 v551 k0_hw3 => k0_hw3.2.1
theorem k0_off16_wordsi8 : ∀ (k0_t1 : Fin k0_t1_loop.trips) (v551 : BitVec 32) (k0_hw3 : k0_chk3 k0_t1 v551), (Rect.unit (s := S64x64x32768) (k0_off16 k0_t1 v551) S1x64x1152.size (k0_off16_inb k0_t1 v551 k0_hw3)).WholeWords (EltTy.packing .i8) := fun k0_t1 v551 k0_hw3 => k0_hw3.2.2.1 (k0_off16_inb k0_t1 v551 k0_hw3)
theorem k0_off18_inb : ∀ (k0_t1 : Fin k0_t1_loop.trips) (v551 : BitVec 32) (k0_hw3 : k0_chk3 k0_t1 v551), ∀ a, (k0_off18 k0_t1 v551) a + S1x1x1152.size a ≤ S64x1x32768.size a := fun k0_t1 v551 k0_hw3 => k0_hw3.2.2.2

def k0_off19 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_196 : BitVec 32 := 8#32
  let v575 : BitVec 32 := Scalar.muli arg19 c8_i32_196
  let c3_i32 : BitVec 32 := 3#32
  let v576 : BitVec 32 := Scalar.addi v575 c3_i32
  let v577 : Index := Scalar.indexCast v576
  ![v577.toNat]
def k0_mult4 (v578 : BitVec 32) : BitVec 32 :=
  let c1024_i32_197 : BitVec 32 := 1024#32
  let v579 : BitVec 32 := Scalar.subi v578 c1024_i32_197
  let c7_i32_198 : BitVec 32 := 7#32
  let v580 : BitVec 32 := Scalar.shrui v579 c7_i32_198
  let c128_i32_199 : BitVec 32 := 128#32
  let v581 : BitVec 32 := Scalar.muli v580 c128_i32_199
  let c31616_i32_200 : BitVec 32 := 31616#32
  let v582 : BitVec 32 := Scalar.minsi v581 c31616_i32_200
  v582

def k0_off20 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off21 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_196 : BitVec 32 := 8#32
  let v575 : BitVec 32 := Scalar.muli arg19 c8_i32_196
  let c3_i32 : BitVec 32 := 3#32
  let v576 : BitVec 32 := Scalar.addi v575 c3_i32
  let c0_i32_201 : BitVec 32 := 0#32
  let c0_i32_202 : BitVec 32 := 0#32
  ![v576.toNat, 0, 0]
def k0_off22 (k0_t1 : Fin k0_t1_loop.trips) (v578 : BitVec 32) : Fin 3 → Nat :=
  let c0_i32 : BitVec 32 := 0#32
  let c1_i32 : BitVec 32 := 1#32
  let arg19 : BitVec 32 := Scf.iv c0_i32 c1_i32 k0_t1
  let c8_i32_196 : BitVec 32 := 8#32
  let v575 : BitVec 32 := Scalar.muli arg19 c8_i32_196
  let c3_i32 : BitVec 32 := 3#32
  let v576 : BitVec 32 := Scalar.addi v575 c3_i32
  let c0_i32_203 : BitVec 32 := 0#32
  let c1024_i32_197 : BitVec 32 := 1024#32
  let v579 : BitVec 32 := Scalar.subi v578 c1024_i32_197
  let c7_i32_198 : BitVec 32 := 7#32
  let v580 : BitVec 32 := Scalar.shrui v579 c7_i32_198
  let c128_i32_199 : BitVec 32 := 128#32
  let v581 : BitVec 32 := Scalar.muli v580 c128_i32_199
  let c31616_i32_200 : BitVec 32 := 31616#32
  let v582 : BitVec 32 := Scalar.minsi v581 c31616_i32_200
  let v583 : BitVec 32 := v582
  ![v576.toNat, 0, v583.toNat]
def k0_off23 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_196 : BitVec 32 := 8#32
  let v575 : BitVec 32 := Scalar.muli arg19 c8_i32_196
  let c3_i32 : BitVec 32 := 3#32
  let v576 : BitVec 32 := Scalar.addi v575 c3_i32
  let c0_i32_207 : BitVec 32 := 0#32
  let c0_i32_208 : BitVec 32 := 0#32
  ![v576.toNat, 0, 0]
def k0_off24 (k0_t1 : Fin k0_t1_loop.trips) (v578 : BitVec 32) : Fin 3 → Nat :=
  let c0_i32 : BitVec 32 := 0#32
  let c1_i32 : BitVec 32 := 1#32
  let arg19 : BitVec 32 := Scf.iv c0_i32 c1_i32 k0_t1
  let c8_i32_196 : BitVec 32 := 8#32
  let v575 : BitVec 32 := Scalar.muli arg19 c8_i32_196
  let c3_i32 : BitVec 32 := 3#32
  let v576 : BitVec 32 := Scalar.addi v575 c3_i32
  let c0_i32_209 : BitVec 32 := 0#32
  let c1024_i32_197 : BitVec 32 := 1024#32
  let v579 : BitVec 32 := Scalar.subi v578 c1024_i32_197
  let c7_i32_198 : BitVec 32 := 7#32
  let v580 : BitVec 32 := Scalar.shrui v579 c7_i32_198
  let c128_i32_199 : BitVec 32 := 128#32
  let v581 : BitVec 32 := Scalar.muli v580 c128_i32_199
  let c31616_i32_200 : BitVec 32 := 31616#32
  let v582 : BitVec 32 := Scalar.minsi v581 c31616_i32_200
  let v583 : BitVec 32 := v582
  ![v576.toNat, 0, v583.toNat]

def k0_chk4 (k0_t1 : Fin k0_t1_loop.trips) (v578 : BitVec 32) : Prop :=
  (128 ∣ (k0_mult4 v578).toNat) ∧
  (∀ a, (k0_off22 k0_t1 v578) a + S1x64x1152.size a ≤ S64x64x32768.size a) ∧
  (∀ (hinb : ∀ a, (k0_off22 k0_t1 v578) a + S1x64x1152.size a ≤ S64x64x32768.size a), (Rect.unit (s := S64x64x32768) (k0_off22 k0_t1 v578) S1x64x1152.size hinb).WholeWords (EltTy.packing .i8)) ∧
  (∀ a, (k0_off24 k0_t1 v578) a + S1x1x1152.size a ≤ S64x1x32768.size a)
theorem k0_mult4_dvd : ∀ (k0_t1 : Fin k0_t1_loop.trips) (v578 : BitVec 32) (k0_hw4 : k0_chk4 k0_t1 v578), 128 ∣ (k0_mult4 v578).toNat := fun k0_t1 v578 k0_hw4 => k0_hw4.1
theorem k0_off22_inb : ∀ (k0_t1 : Fin k0_t1_loop.trips) (v578 : BitVec 32) (k0_hw4 : k0_chk4 k0_t1 v578), ∀ a, (k0_off22 k0_t1 v578) a + S1x64x1152.size a ≤ S64x64x32768.size a := fun k0_t1 v578 k0_hw4 => k0_hw4.2.1
theorem k0_off22_wordsi8 : ∀ (k0_t1 : Fin k0_t1_loop.trips) (v578 : BitVec 32) (k0_hw4 : k0_chk4 k0_t1 v578), (Rect.unit (s := S64x64x32768) (k0_off22 k0_t1 v578) S1x64x1152.size (k0_off22_inb k0_t1 v578 k0_hw4)).WholeWords (EltTy.packing .i8) := fun k0_t1 v578 k0_hw4 => k0_hw4.2.2.1 (k0_off22_inb k0_t1 v578 k0_hw4)
theorem k0_off24_inb : ∀ (k0_t1 : Fin k0_t1_loop.trips) (v578 : BitVec 32) (k0_hw4 : k0_chk4 k0_t1 v578), ∀ a, (k0_off24 k0_t1 v578) a + S1x1x1152.size a ≤ S64x1x32768.size a := fun k0_t1 v578 k0_hw4 => k0_hw4.2.2.2

def k0_off25 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_210 : BitVec 32 := 8#32
  let v602 : BitVec 32 := Scalar.muli arg19 c8_i32_210
  let c4_i32 : BitVec 32 := 4#32
  let v603 : BitVec 32 := Scalar.addi v602 c4_i32
  let v604 : Index := Scalar.indexCast v603
  ![v604.toNat]
def k0_mult5 (v605 : BitVec 32) : BitVec 32 :=
  let c1024_i32_211 : BitVec 32 := 1024#32
  let v606 : BitVec 32 := Scalar.subi v605 c1024_i32_211
  let c7_i32_212 : BitVec 32 := 7#32
  let v607 : BitVec 32 := Scalar.shrui v606 c7_i32_212
  let c128_i32_213 : BitVec 32 := 128#32
  let v608 : BitVec 32 := Scalar.muli v607 c128_i32_213
  let c31616_i32_214 : BitVec 32 := 31616#32
  let v609 : BitVec 32 := Scalar.minsi v608 c31616_i32_214
  v609

def k0_off26 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off27 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_210 : BitVec 32 := 8#32
  let v602 : BitVec 32 := Scalar.muli arg19 c8_i32_210
  let c4_i32 : BitVec 32 := 4#32
  let v603 : BitVec 32 := Scalar.addi v602 c4_i32
  let c0_i32_215 : BitVec 32 := 0#32
  let c0_i32_216 : BitVec 32 := 0#32
  ![v603.toNat, 0, 0]
def k0_off28 (k0_t1 : Fin k0_t1_loop.trips) (v605 : BitVec 32) : Fin 3 → Nat :=
  let c0_i32 : BitVec 32 := 0#32
  let c1_i32 : BitVec 32 := 1#32
  let arg19 : BitVec 32 := Scf.iv c0_i32 c1_i32 k0_t1
  let c8_i32_210 : BitVec 32 := 8#32
  let v602 : BitVec 32 := Scalar.muli arg19 c8_i32_210
  let c4_i32 : BitVec 32 := 4#32
  let v603 : BitVec 32 := Scalar.addi v602 c4_i32
  let c0_i32_217 : BitVec 32 := 0#32
  let c1024_i32_211 : BitVec 32 := 1024#32
  let v606 : BitVec 32 := Scalar.subi v605 c1024_i32_211
  let c7_i32_212 : BitVec 32 := 7#32
  let v607 : BitVec 32 := Scalar.shrui v606 c7_i32_212
  let c128_i32_213 : BitVec 32 := 128#32
  let v608 : BitVec 32 := Scalar.muli v607 c128_i32_213
  let c31616_i32_214 : BitVec 32 := 31616#32
  let v609 : BitVec 32 := Scalar.minsi v608 c31616_i32_214
  let v610 : BitVec 32 := v609
  ![v603.toNat, 0, v610.toNat]
def k0_off29 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_210 : BitVec 32 := 8#32
  let v602 : BitVec 32 := Scalar.muli arg19 c8_i32_210
  let c4_i32 : BitVec 32 := 4#32
  let v603 : BitVec 32 := Scalar.addi v602 c4_i32
  let c0_i32_221 : BitVec 32 := 0#32
  let c0_i32_222 : BitVec 32 := 0#32
  ![v603.toNat, 0, 0]
def k0_off30 (k0_t1 : Fin k0_t1_loop.trips) (v605 : BitVec 32) : Fin 3 → Nat :=
  let c0_i32 : BitVec 32 := 0#32
  let c1_i32 : BitVec 32 := 1#32
  let arg19 : BitVec 32 := Scf.iv c0_i32 c1_i32 k0_t1
  let c8_i32_210 : BitVec 32 := 8#32
  let v602 : BitVec 32 := Scalar.muli arg19 c8_i32_210
  let c4_i32 : BitVec 32 := 4#32
  let v603 : BitVec 32 := Scalar.addi v602 c4_i32
  let c0_i32_223 : BitVec 32 := 0#32
  let c1024_i32_211 : BitVec 32 := 1024#32
  let v606 : BitVec 32 := Scalar.subi v605 c1024_i32_211
  let c7_i32_212 : BitVec 32 := 7#32
  let v607 : BitVec 32 := Scalar.shrui v606 c7_i32_212
  let c128_i32_213 : BitVec 32 := 128#32
  let v608 : BitVec 32 := Scalar.muli v607 c128_i32_213
  let c31616_i32_214 : BitVec 32 := 31616#32
  let v609 : BitVec 32 := Scalar.minsi v608 c31616_i32_214
  let v610 : BitVec 32 := v609
  ![v603.toNat, 0, v610.toNat]

def k0_chk5 (k0_t1 : Fin k0_t1_loop.trips) (v605 : BitVec 32) : Prop :=
  (128 ∣ (k0_mult5 v605).toNat) ∧
  (∀ a, (k0_off28 k0_t1 v605) a + S1x64x1152.size a ≤ S64x64x32768.size a) ∧
  (∀ (hinb : ∀ a, (k0_off28 k0_t1 v605) a + S1x64x1152.size a ≤ S64x64x32768.size a), (Rect.unit (s := S64x64x32768) (k0_off28 k0_t1 v605) S1x64x1152.size hinb).WholeWords (EltTy.packing .i8)) ∧
  (∀ a, (k0_off30 k0_t1 v605) a + S1x1x1152.size a ≤ S64x1x32768.size a)
theorem k0_mult5_dvd : ∀ (k0_t1 : Fin k0_t1_loop.trips) (v605 : BitVec 32) (k0_hw5 : k0_chk5 k0_t1 v605), 128 ∣ (k0_mult5 v605).toNat := fun k0_t1 v605 k0_hw5 => k0_hw5.1
theorem k0_off28_inb : ∀ (k0_t1 : Fin k0_t1_loop.trips) (v605 : BitVec 32) (k0_hw5 : k0_chk5 k0_t1 v605), ∀ a, (k0_off28 k0_t1 v605) a + S1x64x1152.size a ≤ S64x64x32768.size a := fun k0_t1 v605 k0_hw5 => k0_hw5.2.1
theorem k0_off28_wordsi8 : ∀ (k0_t1 : Fin k0_t1_loop.trips) (v605 : BitVec 32) (k0_hw5 : k0_chk5 k0_t1 v605), (Rect.unit (s := S64x64x32768) (k0_off28 k0_t1 v605) S1x64x1152.size (k0_off28_inb k0_t1 v605 k0_hw5)).WholeWords (EltTy.packing .i8) := fun k0_t1 v605 k0_hw5 => k0_hw5.2.2.1 (k0_off28_inb k0_t1 v605 k0_hw5)
theorem k0_off30_inb : ∀ (k0_t1 : Fin k0_t1_loop.trips) (v605 : BitVec 32) (k0_hw5 : k0_chk5 k0_t1 v605), ∀ a, (k0_off30 k0_t1 v605) a + S1x1x1152.size a ≤ S64x1x32768.size a := fun k0_t1 v605 k0_hw5 => k0_hw5.2.2.2

def k0_off31 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_224 : BitVec 32 := 8#32
  let v629 : BitVec 32 := Scalar.muli arg19 c8_i32_224
  let c5_i32 : BitVec 32 := 5#32
  let v630 : BitVec 32 := Scalar.addi v629 c5_i32
  let v631 : Index := Scalar.indexCast v630
  ![v631.toNat]
def k0_mult6 (v632 : BitVec 32) : BitVec 32 :=
  let c1024_i32_225 : BitVec 32 := 1024#32
  let v633 : BitVec 32 := Scalar.subi v632 c1024_i32_225
  let c7_i32_226 : BitVec 32 := 7#32
  let v634 : BitVec 32 := Scalar.shrui v633 c7_i32_226
  let c128_i32_227 : BitVec 32 := 128#32
  let v635 : BitVec 32 := Scalar.muli v634 c128_i32_227
  let c31616_i32_228 : BitVec 32 := 31616#32
  let v636 : BitVec 32 := Scalar.minsi v635 c31616_i32_228
  v636

def k0_off32 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off33 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_224 : BitVec 32 := 8#32
  let v629 : BitVec 32 := Scalar.muli arg19 c8_i32_224
  let c5_i32 : BitVec 32 := 5#32
  let v630 : BitVec 32 := Scalar.addi v629 c5_i32
  let c0_i32_229 : BitVec 32 := 0#32
  let c0_i32_230 : BitVec 32 := 0#32
  ![v630.toNat, 0, 0]
def k0_off34 (k0_t1 : Fin k0_t1_loop.trips) (v632 : BitVec 32) : Fin 3 → Nat :=
  let c0_i32 : BitVec 32 := 0#32
  let c1_i32 : BitVec 32 := 1#32
  let arg19 : BitVec 32 := Scf.iv c0_i32 c1_i32 k0_t1
  let c8_i32_224 : BitVec 32 := 8#32
  let v629 : BitVec 32 := Scalar.muli arg19 c8_i32_224
  let c5_i32 : BitVec 32 := 5#32
  let v630 : BitVec 32 := Scalar.addi v629 c5_i32
  let c0_i32_231 : BitVec 32 := 0#32
  let c1024_i32_225 : BitVec 32 := 1024#32
  let v633 : BitVec 32 := Scalar.subi v632 c1024_i32_225
  let c7_i32_226 : BitVec 32 := 7#32
  let v634 : BitVec 32 := Scalar.shrui v633 c7_i32_226
  let c128_i32_227 : BitVec 32 := 128#32
  let v635 : BitVec 32 := Scalar.muli v634 c128_i32_227
  let c31616_i32_228 : BitVec 32 := 31616#32
  let v636 : BitVec 32 := Scalar.minsi v635 c31616_i32_228
  let v637 : BitVec 32 := v636
  ![v630.toNat, 0, v637.toNat]
def k0_off35 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_224 : BitVec 32 := 8#32
  let v629 : BitVec 32 := Scalar.muli arg19 c8_i32_224
  let c5_i32 : BitVec 32 := 5#32
  let v630 : BitVec 32 := Scalar.addi v629 c5_i32
  let c0_i32_235 : BitVec 32 := 0#32
  let c0_i32_236 : BitVec 32 := 0#32
  ![v630.toNat, 0, 0]
def k0_off36 (k0_t1 : Fin k0_t1_loop.trips) (v632 : BitVec 32) : Fin 3 → Nat :=
  let c0_i32 : BitVec 32 := 0#32
  let c1_i32 : BitVec 32 := 1#32
  let arg19 : BitVec 32 := Scf.iv c0_i32 c1_i32 k0_t1
  let c8_i32_224 : BitVec 32 := 8#32
  let v629 : BitVec 32 := Scalar.muli arg19 c8_i32_224
  let c5_i32 : BitVec 32 := 5#32
  let v630 : BitVec 32 := Scalar.addi v629 c5_i32
  let c0_i32_237 : BitVec 32 := 0#32
  let c1024_i32_225 : BitVec 32 := 1024#32
  let v633 : BitVec 32 := Scalar.subi v632 c1024_i32_225
  let c7_i32_226 : BitVec 32 := 7#32
  let v634 : BitVec 32 := Scalar.shrui v633 c7_i32_226
  let c128_i32_227 : BitVec 32 := 128#32
  let v635 : BitVec 32 := Scalar.muli v634 c128_i32_227
  let c31616_i32_228 : BitVec 32 := 31616#32
  let v636 : BitVec 32 := Scalar.minsi v635 c31616_i32_228
  let v637 : BitVec 32 := v636
  ![v630.toNat, 0, v637.toNat]

def k0_chk6 (k0_t1 : Fin k0_t1_loop.trips) (v632 : BitVec 32) : Prop :=
  (128 ∣ (k0_mult6 v632).toNat) ∧
  (∀ a, (k0_off34 k0_t1 v632) a + S1x64x1152.size a ≤ S64x64x32768.size a) ∧
  (∀ (hinb : ∀ a, (k0_off34 k0_t1 v632) a + S1x64x1152.size a ≤ S64x64x32768.size a), (Rect.unit (s := S64x64x32768) (k0_off34 k0_t1 v632) S1x64x1152.size hinb).WholeWords (EltTy.packing .i8)) ∧
  (∀ a, (k0_off36 k0_t1 v632) a + S1x1x1152.size a ≤ S64x1x32768.size a)
theorem k0_mult6_dvd : ∀ (k0_t1 : Fin k0_t1_loop.trips) (v632 : BitVec 32) (k0_hw6 : k0_chk6 k0_t1 v632), 128 ∣ (k0_mult6 v632).toNat := fun k0_t1 v632 k0_hw6 => k0_hw6.1
theorem k0_off34_inb : ∀ (k0_t1 : Fin k0_t1_loop.trips) (v632 : BitVec 32) (k0_hw6 : k0_chk6 k0_t1 v632), ∀ a, (k0_off34 k0_t1 v632) a + S1x64x1152.size a ≤ S64x64x32768.size a := fun k0_t1 v632 k0_hw6 => k0_hw6.2.1
theorem k0_off34_wordsi8 : ∀ (k0_t1 : Fin k0_t1_loop.trips) (v632 : BitVec 32) (k0_hw6 : k0_chk6 k0_t1 v632), (Rect.unit (s := S64x64x32768) (k0_off34 k0_t1 v632) S1x64x1152.size (k0_off34_inb k0_t1 v632 k0_hw6)).WholeWords (EltTy.packing .i8) := fun k0_t1 v632 k0_hw6 => k0_hw6.2.2.1 (k0_off34_inb k0_t1 v632 k0_hw6)
theorem k0_off36_inb : ∀ (k0_t1 : Fin k0_t1_loop.trips) (v632 : BitVec 32) (k0_hw6 : k0_chk6 k0_t1 v632), ∀ a, (k0_off36 k0_t1 v632) a + S1x1x1152.size a ≤ S64x1x32768.size a := fun k0_t1 v632 k0_hw6 => k0_hw6.2.2.2

def k0_off37 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_238 : BitVec 32 := 8#32
  let v656 : BitVec 32 := Scalar.muli arg19 c8_i32_238
  let c6_i32 : BitVec 32 := 6#32
  let v657 : BitVec 32 := Scalar.addi v656 c6_i32
  let v658 : Index := Scalar.indexCast v657
  ![v658.toNat]
def k0_mult7 (v659 : BitVec 32) : BitVec 32 :=
  let c1024_i32_239 : BitVec 32 := 1024#32
  let v660 : BitVec 32 := Scalar.subi v659 c1024_i32_239
  let c7_i32_240 : BitVec 32 := 7#32
  let v661 : BitVec 32 := Scalar.shrui v660 c7_i32_240
  let c128_i32_241 : BitVec 32 := 128#32
  let v662 : BitVec 32 := Scalar.muli v661 c128_i32_241
  let c31616_i32_242 : BitVec 32 := 31616#32
  let v663 : BitVec 32 := Scalar.minsi v662 c31616_i32_242
  v663

def k0_off38 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off39 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_238 : BitVec 32 := 8#32
  let v656 : BitVec 32 := Scalar.muli arg19 c8_i32_238
  let c6_i32 : BitVec 32 := 6#32
  let v657 : BitVec 32 := Scalar.addi v656 c6_i32
  let c0_i32_243 : BitVec 32 := 0#32
  let c0_i32_244 : BitVec 32 := 0#32
  ![v657.toNat, 0, 0]
def k0_off40 (k0_t1 : Fin k0_t1_loop.trips) (v659 : BitVec 32) : Fin 3 → Nat :=
  let c0_i32 : BitVec 32 := 0#32
  let c1_i32 : BitVec 32 := 1#32
  let arg19 : BitVec 32 := Scf.iv c0_i32 c1_i32 k0_t1
  let c8_i32_238 : BitVec 32 := 8#32
  let v656 : BitVec 32 := Scalar.muli arg19 c8_i32_238
  let c6_i32 : BitVec 32 := 6#32
  let v657 : BitVec 32 := Scalar.addi v656 c6_i32
  let c0_i32_245 : BitVec 32 := 0#32
  let c1024_i32_239 : BitVec 32 := 1024#32
  let v660 : BitVec 32 := Scalar.subi v659 c1024_i32_239
  let c7_i32_240 : BitVec 32 := 7#32
  let v661 : BitVec 32 := Scalar.shrui v660 c7_i32_240
  let c128_i32_241 : BitVec 32 := 128#32
  let v662 : BitVec 32 := Scalar.muli v661 c128_i32_241
  let c31616_i32_242 : BitVec 32 := 31616#32
  let v663 : BitVec 32 := Scalar.minsi v662 c31616_i32_242
  let v664 : BitVec 32 := v663
  ![v657.toNat, 0, v664.toNat]
def k0_off41 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_238 : BitVec 32 := 8#32
  let v656 : BitVec 32 := Scalar.muli arg19 c8_i32_238
  let c6_i32 : BitVec 32 := 6#32
  let v657 : BitVec 32 := Scalar.addi v656 c6_i32
  let c0_i32_249 : BitVec 32 := 0#32
  let c0_i32_250 : BitVec 32 := 0#32
  ![v657.toNat, 0, 0]
def k0_off42 (k0_t1 : Fin k0_t1_loop.trips) (v659 : BitVec 32) : Fin 3 → Nat :=
  let c0_i32 : BitVec 32 := 0#32
  let c1_i32 : BitVec 32 := 1#32
  let arg19 : BitVec 32 := Scf.iv c0_i32 c1_i32 k0_t1
  let c8_i32_238 : BitVec 32 := 8#32
  let v656 : BitVec 32 := Scalar.muli arg19 c8_i32_238
  let c6_i32 : BitVec 32 := 6#32
  let v657 : BitVec 32 := Scalar.addi v656 c6_i32
  let c0_i32_251 : BitVec 32 := 0#32
  let c1024_i32_239 : BitVec 32 := 1024#32
  let v660 : BitVec 32 := Scalar.subi v659 c1024_i32_239
  let c7_i32_240 : BitVec 32 := 7#32
  let v661 : BitVec 32 := Scalar.shrui v660 c7_i32_240
  let c128_i32_241 : BitVec 32 := 128#32
  let v662 : BitVec 32 := Scalar.muli v661 c128_i32_241
  let c31616_i32_242 : BitVec 32 := 31616#32
  let v663 : BitVec 32 := Scalar.minsi v662 c31616_i32_242
  let v664 : BitVec 32 := v663
  ![v657.toNat, 0, v664.toNat]

def k0_chk7 (k0_t1 : Fin k0_t1_loop.trips) (v659 : BitVec 32) : Prop :=
  (128 ∣ (k0_mult7 v659).toNat) ∧
  (∀ a, (k0_off40 k0_t1 v659) a + S1x64x1152.size a ≤ S64x64x32768.size a) ∧
  (∀ (hinb : ∀ a, (k0_off40 k0_t1 v659) a + S1x64x1152.size a ≤ S64x64x32768.size a), (Rect.unit (s := S64x64x32768) (k0_off40 k0_t1 v659) S1x64x1152.size hinb).WholeWords (EltTy.packing .i8)) ∧
  (∀ a, (k0_off42 k0_t1 v659) a + S1x1x1152.size a ≤ S64x1x32768.size a)
theorem k0_mult7_dvd : ∀ (k0_t1 : Fin k0_t1_loop.trips) (v659 : BitVec 32) (k0_hw7 : k0_chk7 k0_t1 v659), 128 ∣ (k0_mult7 v659).toNat := fun k0_t1 v659 k0_hw7 => k0_hw7.1
theorem k0_off40_inb : ∀ (k0_t1 : Fin k0_t1_loop.trips) (v659 : BitVec 32) (k0_hw7 : k0_chk7 k0_t1 v659), ∀ a, (k0_off40 k0_t1 v659) a + S1x64x1152.size a ≤ S64x64x32768.size a := fun k0_t1 v659 k0_hw7 => k0_hw7.2.1
theorem k0_off40_wordsi8 : ∀ (k0_t1 : Fin k0_t1_loop.trips) (v659 : BitVec 32) (k0_hw7 : k0_chk7 k0_t1 v659), (Rect.unit (s := S64x64x32768) (k0_off40 k0_t1 v659) S1x64x1152.size (k0_off40_inb k0_t1 v659 k0_hw7)).WholeWords (EltTy.packing .i8) := fun k0_t1 v659 k0_hw7 => k0_hw7.2.2.1 (k0_off40_inb k0_t1 v659 k0_hw7)
theorem k0_off42_inb : ∀ (k0_t1 : Fin k0_t1_loop.trips) (v659 : BitVec 32) (k0_hw7 : k0_chk7 k0_t1 v659), ∀ a, (k0_off42 k0_t1 v659) a + S1x1x1152.size a ≤ S64x1x32768.size a := fun k0_t1 v659 k0_hw7 => k0_hw7.2.2.2

def k0_off43 (k0_t1 : Fin k0_t1_loop.trips) : Fin 1 → Nat :=
  let c0_i32 : BitVec 32 := 0#32
  let c1_i32 : BitVec 32 := 1#32
  let arg19 : BitVec 32 := Scf.iv c0_i32 c1_i32 k0_t1
  let c8_i32_252 : BitVec 32 := 8#32
  let v683 : BitVec 32 := Scalar.muli arg19 c8_i32_252
  let c7_i32_253 : BitVec 32 := 7#32
  let v684 : BitVec 32 := Scalar.addi v683 c7_i32_253
  let v685 : Index := Scalar.indexCast v684
  ![v685.toNat]
def k0_mult8 (v686 : BitVec 32) : BitVec 32 :=
  let c1024_i32_254 : BitVec 32 := 1024#32
  let v687 : BitVec 32 := Scalar.subi v686 c1024_i32_254
  let c7_i32_255 : BitVec 32 := 7#32
  let v688 : BitVec 32 := Scalar.shrui v687 c7_i32_255
  let c128_i32_256 : BitVec 32 := 128#32
  let v689 : BitVec 32 := Scalar.muli v688 c128_i32_256
  let c31616_i32_257 : BitVec 32 := 31616#32
  let v690 : BitVec 32 := Scalar.minsi v689 c31616_i32_257
  v690

def k0_off44 (k0_t1 : Fin k0_t1_loop.trips) : Fin 1 → Nat :=
  let c0_i32 : BitVec 32 := 0#32
  let c1_i32 : BitVec 32 := 1#32
  let arg19 : BitVec 32 := Scf.iv c0_i32 c1_i32 k0_t1
  ![arg19.toNat]
def k0_off45 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_252 : BitVec 32 := 8#32
  let v683 : BitVec 32 := Scalar.muli arg19 c8_i32_252
  let c7_i32_253 : BitVec 32 := 7#32
  let v684 : BitVec 32 := Scalar.addi v683 c7_i32_253
  let c0_i32_258 : BitVec 32 := 0#32
  let c0_i32_259 : BitVec 32 := 0#32
  ![v684.toNat, 0, 0]
def k0_off46 (k0_t1 : Fin k0_t1_loop.trips) (v686 : BitVec 32) : Fin 3 → Nat :=
  let c0_i32 : BitVec 32 := 0#32
  let c1_i32 : BitVec 32 := 1#32
  let arg19 : BitVec 32 := Scf.iv c0_i32 c1_i32 k0_t1
  let c8_i32_252 : BitVec 32 := 8#32
  let v683 : BitVec 32 := Scalar.muli arg19 c8_i32_252
  let c7_i32_253 : BitVec 32 := 7#32
  let v684 : BitVec 32 := Scalar.addi v683 c7_i32_253
  let c0_i32_260 : BitVec 32 := 0#32
  let c1024_i32_254 : BitVec 32 := 1024#32
  let v687 : BitVec 32 := Scalar.subi v686 c1024_i32_254
  let c7_i32_255 : BitVec 32 := 7#32
  let v688 : BitVec 32 := Scalar.shrui v687 c7_i32_255
  let c128_i32_256 : BitVec 32 := 128#32
  let v689 : BitVec 32 := Scalar.muli v688 c128_i32_256
  let c31616_i32_257 : BitVec 32 := 31616#32
  let v690 : BitVec 32 := Scalar.minsi v689 c31616_i32_257
  let v691 : BitVec 32 := v690
  ![v684.toNat, 0, v691.toNat]
def k0_off47 (k0_t1 : Fin k0_t1_loop.trips) : Fin 3 → Nat :=
  let c0_i32 : BitVec 32 := 0#32
  let c1_i32 : BitVec 32 := 1#32
  let arg19 : BitVec 32 := Scf.iv c0_i32 c1_i32 k0_t1
  let c8_i32_252 : BitVec 32 := 8#32
  let v683 : BitVec 32 := Scalar.muli arg19 c8_i32_252
  let c7_i32_253 : BitVec 32 := 7#32
  let v684 : BitVec 32 := Scalar.addi v683 c7_i32_253
  let c0_i32_264 : BitVec 32 := 0#32
  let c0_i32_265 : BitVec 32 := 0#32
  ![v684.toNat, 0, 0]
def k0_off48 (k0_t1 : Fin k0_t1_loop.trips) (v686 : BitVec 32) : Fin 3 → Nat :=
  let c0_i32 : BitVec 32 := 0#32
  let c1_i32 : BitVec 32 := 1#32
  let arg19 : BitVec 32 := Scf.iv c0_i32 c1_i32 k0_t1
  let c8_i32_252 : BitVec 32 := 8#32
  let v683 : BitVec 32 := Scalar.muli arg19 c8_i32_252
  let c7_i32_253 : BitVec 32 := 7#32
  let v684 : BitVec 32 := Scalar.addi v683 c7_i32_253
  let c0_i32_266 : BitVec 32 := 0#32
  let c1024_i32_254 : BitVec 32 := 1024#32
  let v687 : BitVec 32 := Scalar.subi v686 c1024_i32_254
  let c7_i32_255 : BitVec 32 := 7#32
  let v688 : BitVec 32 := Scalar.shrui v687 c7_i32_255
  let c128_i32_256 : BitVec 32 := 128#32
  let v689 : BitVec 32 := Scalar.muli v688 c128_i32_256
  let c31616_i32_257 : BitVec 32 := 31616#32
  let v690 : BitVec 32 := Scalar.minsi v689 c31616_i32_257
  let v691 : BitVec 32 := v690
  ![v684.toNat, 0, v691.toNat]

def k0_chk8 (k0_t1 : Fin k0_t1_loop.trips) (v686 : BitVec 32) : Prop :=
  (128 ∣ (k0_mult8 v686).toNat) ∧
  (∀ a, (k0_off46 k0_t1 v686) a + S1x64x1152.size a ≤ S64x64x32768.size a) ∧
  (∀ (hinb : ∀ a, (k0_off46 k0_t1 v686) a + S1x64x1152.size a ≤ S64x64x32768.size a), (Rect.unit (s := S64x64x32768) (k0_off46 k0_t1 v686) S1x64x1152.size hinb).WholeWords (EltTy.packing .i8)) ∧
  (∀ a, (k0_off48 k0_t1 v686) a + S1x1x1152.size a ≤ S64x1x32768.size a)
theorem k0_mult8_dvd : ∀ (k0_t1 : Fin k0_t1_loop.trips) (v686 : BitVec 32) (k0_hw8 : k0_chk8 k0_t1 v686), 128 ∣ (k0_mult8 v686).toNat := fun k0_t1 v686 k0_hw8 => k0_hw8.1
theorem k0_off46_inb : ∀ (k0_t1 : Fin k0_t1_loop.trips) (v686 : BitVec 32) (k0_hw8 : k0_chk8 k0_t1 v686), ∀ a, (k0_off46 k0_t1 v686) a + S1x64x1152.size a ≤ S64x64x32768.size a := fun k0_t1 v686 k0_hw8 => k0_hw8.2.1
theorem k0_off46_wordsi8 : ∀ (k0_t1 : Fin k0_t1_loop.trips) (v686 : BitVec 32) (k0_hw8 : k0_chk8 k0_t1 v686), (Rect.unit (s := S64x64x32768) (k0_off46 k0_t1 v686) S1x64x1152.size (k0_off46_inb k0_t1 v686 k0_hw8)).WholeWords (EltTy.packing .i8) := fun k0_t1 v686 k0_hw8 => k0_hw8.2.2.1 (k0_off46_inb k0_t1 v686 k0_hw8)
theorem k0_off48_inb : ∀ (k0_t1 : Fin k0_t1_loop.trips) (v686 : BitVec 32) (k0_hw8 : k0_chk8 k0_t1 v686), ∀ a, (k0_off48 k0_t1 v686) a + S1x1x1152.size a ≤ S64x1x32768.size a := fun k0_t1 v686 k0_hw8 => k0_hw8.2.2.2

@[reducible] def k0_t2_loop : Scf.Loop 32 :=
  let c0_i32_152 : BitVec 32 := 0#32
  let c8_i32_153 : BitVec 32 := 8#32
  let v493 : BitVec 32 := Scalar.addi c0_i32_152 c8_i32_153
  let c1_i32_154 : BitVec 32 := 1#32
  ⟨c0_i32_152, v493, c1_i32_154⟩
def k0_off49 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_156 : BitVec 32 := 8#32
  let v494 : BitVec 32 := Scalar.muli arg19 c8_i32_156
  let c0_i32_157 : BitVec 32 := 0#32
  let v495 : BitVec 32 := Scalar.addi v494 c0_i32_157
  let v496 : Index := Scalar.indexCast v495
  ![v496.toNat]
def k0_mult9 (v497 : BitVec 32) : BitVec 32 :=
  let c1024_i32 : BitVec 32 := 1024#32
  let v498 : BitVec 32 := Scalar.subi v497 c1024_i32
  let c7_i32 : BitVec 32 := 7#32
  let v499 : BitVec 32 := Scalar.shrui v498 c7_i32
  let c128_i32 : BitVec 32 := 128#32
  let v500 : BitVec 32 := Scalar.muli v499 c128_i32
  let c31616_i32 : BitVec 32 := 31616#32
  let v501 : BitVec 32 := Scalar.minsi v500 c31616_i32
  v501

def k0_off50 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off51 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_156 : BitVec 32 := 8#32
  let v494 : BitVec 32 := Scalar.muli arg19 c8_i32_156
  let c0_i32_157 : BitVec 32 := 0#32
  let v495 : BitVec 32 := Scalar.addi v494 c0_i32_157
  let c0_i32_158 : BitVec 32 := 0#32
  let c0_i32_159 : BitVec 32 := 0#32
  ![v495.toNat, 0, 0]
def k0_off52 (k0_t2 : Fin k0_t2_loop.trips) (v497 : BitVec 32) : Fin 3 → Nat :=
  let c0_i32_152 : BitVec 32 := 0#32
  let c1_i32_154 : BitVec 32 := 1#32
  let arg19 : BitVec 32 := Scf.iv c0_i32_152 c1_i32_154 k0_t2
  let c8_i32_156 : BitVec 32 := 8#32
  let v494 : BitVec 32 := Scalar.muli arg19 c8_i32_156
  let c0_i32_157 : BitVec 32 := 0#32
  let v495 : BitVec 32 := Scalar.addi v494 c0_i32_157
  let c0_i32_160 : BitVec 32 := 0#32
  let c1024_i32 : BitVec 32 := 1024#32
  let v498 : BitVec 32 := Scalar.subi v497 c1024_i32
  let c7_i32 : BitVec 32 := 7#32
  let v499 : BitVec 32 := Scalar.shrui v498 c7_i32
  let c128_i32 : BitVec 32 := 128#32
  let v500 : BitVec 32 := Scalar.muli v499 c128_i32
  let c31616_i32 : BitVec 32 := 31616#32
  let v501 : BitVec 32 := Scalar.minsi v500 c31616_i32
  let v502 : BitVec 32 := v501
  ![v495.toNat, 0, v502.toNat]
def k0_off53 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_156 : BitVec 32 := 8#32
  let v494 : BitVec 32 := Scalar.muli arg19 c8_i32_156
  let c0_i32_157 : BitVec 32 := 0#32
  let v495 : BitVec 32 := Scalar.addi v494 c0_i32_157
  let c0_i32_164 : BitVec 32 := 0#32
  let c0_i32_165 : BitVec 32 := 0#32
  ![v495.toNat, 0, 0]
def k0_off54 (k0_t2 : Fin k0_t2_loop.trips) (v497 : BitVec 32) : Fin 3 → Nat :=
  let c0_i32_152 : BitVec 32 := 0#32
  let c1_i32_154 : BitVec 32 := 1#32
  let arg19 : BitVec 32 := Scf.iv c0_i32_152 c1_i32_154 k0_t2
  let c8_i32_156 : BitVec 32 := 8#32
  let v494 : BitVec 32 := Scalar.muli arg19 c8_i32_156
  let c0_i32_157 : BitVec 32 := 0#32
  let v495 : BitVec 32 := Scalar.addi v494 c0_i32_157
  let c0_i32_166 : BitVec 32 := 0#32
  let c1024_i32 : BitVec 32 := 1024#32
  let v498 : BitVec 32 := Scalar.subi v497 c1024_i32
  let c7_i32 : BitVec 32 := 7#32
  let v499 : BitVec 32 := Scalar.shrui v498 c7_i32
  let c128_i32 : BitVec 32 := 128#32
  let v500 : BitVec 32 := Scalar.muli v499 c128_i32
  let c31616_i32 : BitVec 32 := 31616#32
  let v501 : BitVec 32 := Scalar.minsi v500 c31616_i32
  let v502 : BitVec 32 := v501
  ![v495.toNat, 0, v502.toNat]

def k0_chk9 (k0_t2 : Fin k0_t2_loop.trips) (v497 : BitVec 32) : Prop :=
  (128 ∣ (k0_mult9 v497).toNat) ∧
  (∀ a, (k0_off52 k0_t2 v497) a + S1x64x1152.size a ≤ S64x64x32768.size a) ∧
  (∀ (hinb : ∀ a, (k0_off52 k0_t2 v497) a + S1x64x1152.size a ≤ S64x64x32768.size a), (Rect.unit (s := S64x64x32768) (k0_off52 k0_t2 v497) S1x64x1152.size hinb).WholeWords (EltTy.packing .i8)) ∧
  (∀ a, (k0_off54 k0_t2 v497) a + S1x1x1152.size a ≤ S64x1x32768.size a)
theorem k0_mult9_dvd : ∀ (k0_t2 : Fin k0_t2_loop.trips) (v497 : BitVec 32) (k0_hw9 : k0_chk9 k0_t2 v497), 128 ∣ (k0_mult9 v497).toNat := fun k0_t2 v497 k0_hw9 => k0_hw9.1
theorem k0_off52_inb : ∀ (k0_t2 : Fin k0_t2_loop.trips) (v497 : BitVec 32) (k0_hw9 : k0_chk9 k0_t2 v497), ∀ a, (k0_off52 k0_t2 v497) a + S1x64x1152.size a ≤ S64x64x32768.size a := fun k0_t2 v497 k0_hw9 => k0_hw9.2.1
theorem k0_off52_wordsi8 : ∀ (k0_t2 : Fin k0_t2_loop.trips) (v497 : BitVec 32) (k0_hw9 : k0_chk9 k0_t2 v497), (Rect.unit (s := S64x64x32768) (k0_off52 k0_t2 v497) S1x64x1152.size (k0_off52_inb k0_t2 v497 k0_hw9)).WholeWords (EltTy.packing .i8) := fun k0_t2 v497 k0_hw9 => k0_hw9.2.2.1 (k0_off52_inb k0_t2 v497 k0_hw9)
theorem k0_off54_inb : ∀ (k0_t2 : Fin k0_t2_loop.trips) (v497 : BitVec 32) (k0_hw9 : k0_chk9 k0_t2 v497), ∀ a, (k0_off54 k0_t2 v497) a + S1x1x1152.size a ≤ S64x1x32768.size a := fun k0_t2 v497 k0_hw9 => k0_hw9.2.2.2

def k0_off55 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_167 : BitVec 32 := 8#32
  let v521 : BitVec 32 := Scalar.muli arg19 c8_i32_167
  let c1_i32_168 : BitVec 32 := 1#32
  let v522 : BitVec 32 := Scalar.addi v521 c1_i32_168
  let v523 : Index := Scalar.indexCast v522
  ![v523.toNat]
def k0_mult10 (v524 : BitVec 32) : BitVec 32 :=
  let c1024_i32_169 : BitVec 32 := 1024#32
  let v525 : BitVec 32 := Scalar.subi v524 c1024_i32_169
  let c7_i32_170 : BitVec 32 := 7#32
  let v526 : BitVec 32 := Scalar.shrui v525 c7_i32_170
  let c128_i32_171 : BitVec 32 := 128#32
  let v527 : BitVec 32 := Scalar.muli v526 c128_i32_171
  let c31616_i32_172 : BitVec 32 := 31616#32
  let v528 : BitVec 32 := Scalar.minsi v527 c31616_i32_172
  v528

def k0_off56 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off57 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_167 : BitVec 32 := 8#32
  let v521 : BitVec 32 := Scalar.muli arg19 c8_i32_167
  let c1_i32_168 : BitVec 32 := 1#32
  let v522 : BitVec 32 := Scalar.addi v521 c1_i32_168
  let c0_i32_173 : BitVec 32 := 0#32
  let c0_i32_174 : BitVec 32 := 0#32
  ![v522.toNat, 0, 0]
def k0_off58 (k0_t2 : Fin k0_t2_loop.trips) (v524 : BitVec 32) : Fin 3 → Nat :=
  let c0_i32_152 : BitVec 32 := 0#32
  let c1_i32_154 : BitVec 32 := 1#32
  let arg19 : BitVec 32 := Scf.iv c0_i32_152 c1_i32_154 k0_t2
  let c8_i32_167 : BitVec 32 := 8#32
  let v521 : BitVec 32 := Scalar.muli arg19 c8_i32_167
  let c1_i32_168 : BitVec 32 := 1#32
  let v522 : BitVec 32 := Scalar.addi v521 c1_i32_168
  let c0_i32_175 : BitVec 32 := 0#32
  let c1024_i32_169 : BitVec 32 := 1024#32
  let v525 : BitVec 32 := Scalar.subi v524 c1024_i32_169
  let c7_i32_170 : BitVec 32 := 7#32
  let v526 : BitVec 32 := Scalar.shrui v525 c7_i32_170
  let c128_i32_171 : BitVec 32 := 128#32
  let v527 : BitVec 32 := Scalar.muli v526 c128_i32_171
  let c31616_i32_172 : BitVec 32 := 31616#32
  let v528 : BitVec 32 := Scalar.minsi v527 c31616_i32_172
  let v529 : BitVec 32 := v528
  ![v522.toNat, 0, v529.toNat]
def k0_off59 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_167 : BitVec 32 := 8#32
  let v521 : BitVec 32 := Scalar.muli arg19 c8_i32_167
  let c1_i32_168 : BitVec 32 := 1#32
  let v522 : BitVec 32 := Scalar.addi v521 c1_i32_168
  let c0_i32_179 : BitVec 32 := 0#32
  let c0_i32_180 : BitVec 32 := 0#32
  ![v522.toNat, 0, 0]
def k0_off60 (k0_t2 : Fin k0_t2_loop.trips) (v524 : BitVec 32) : Fin 3 → Nat :=
  let c0_i32_152 : BitVec 32 := 0#32
  let c1_i32_154 : BitVec 32 := 1#32
  let arg19 : BitVec 32 := Scf.iv c0_i32_152 c1_i32_154 k0_t2
  let c8_i32_167 : BitVec 32 := 8#32
  let v521 : BitVec 32 := Scalar.muli arg19 c8_i32_167
  let c1_i32_168 : BitVec 32 := 1#32
  let v522 : BitVec 32 := Scalar.addi v521 c1_i32_168
  let c0_i32_181 : BitVec 32 := 0#32
  let c1024_i32_169 : BitVec 32 := 1024#32
  let v525 : BitVec 32 := Scalar.subi v524 c1024_i32_169
  let c7_i32_170 : BitVec 32 := 7#32
  let v526 : BitVec 32 := Scalar.shrui v525 c7_i32_170
  let c128_i32_171 : BitVec 32 := 128#32
  let v527 : BitVec 32 := Scalar.muli v526 c128_i32_171
  let c31616_i32_172 : BitVec 32 := 31616#32
  let v528 : BitVec 32 := Scalar.minsi v527 c31616_i32_172
  let v529 : BitVec 32 := v528
  ![v522.toNat, 0, v529.toNat]

def k0_chk10 (k0_t2 : Fin k0_t2_loop.trips) (v524 : BitVec 32) : Prop :=
  (128 ∣ (k0_mult10 v524).toNat) ∧
  (∀ a, (k0_off58 k0_t2 v524) a + S1x64x1152.size a ≤ S64x64x32768.size a) ∧
  (∀ (hinb : ∀ a, (k0_off58 k0_t2 v524) a + S1x64x1152.size a ≤ S64x64x32768.size a), (Rect.unit (s := S64x64x32768) (k0_off58 k0_t2 v524) S1x64x1152.size hinb).WholeWords (EltTy.packing .i8)) ∧
  (∀ a, (k0_off60 k0_t2 v524) a + S1x1x1152.size a ≤ S64x1x32768.size a)
theorem k0_mult10_dvd : ∀ (k0_t2 : Fin k0_t2_loop.trips) (v524 : BitVec 32) (k0_hw10 : k0_chk10 k0_t2 v524), 128 ∣ (k0_mult10 v524).toNat := fun k0_t2 v524 k0_hw10 => k0_hw10.1
theorem k0_off58_inb : ∀ (k0_t2 : Fin k0_t2_loop.trips) (v524 : BitVec 32) (k0_hw10 : k0_chk10 k0_t2 v524), ∀ a, (k0_off58 k0_t2 v524) a + S1x64x1152.size a ≤ S64x64x32768.size a := fun k0_t2 v524 k0_hw10 => k0_hw10.2.1
theorem k0_off58_wordsi8 : ∀ (k0_t2 : Fin k0_t2_loop.trips) (v524 : BitVec 32) (k0_hw10 : k0_chk10 k0_t2 v524), (Rect.unit (s := S64x64x32768) (k0_off58 k0_t2 v524) S1x64x1152.size (k0_off58_inb k0_t2 v524 k0_hw10)).WholeWords (EltTy.packing .i8) := fun k0_t2 v524 k0_hw10 => k0_hw10.2.2.1 (k0_off58_inb k0_t2 v524 k0_hw10)
theorem k0_off60_inb : ∀ (k0_t2 : Fin k0_t2_loop.trips) (v524 : BitVec 32) (k0_hw10 : k0_chk10 k0_t2 v524), ∀ a, (k0_off60 k0_t2 v524) a + S1x1x1152.size a ≤ S64x1x32768.size a := fun k0_t2 v524 k0_hw10 => k0_hw10.2.2.2

def k0_off61 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_182 : BitVec 32 := 8#32
  let v548 : BitVec 32 := Scalar.muli arg19 c8_i32_182
  let c2_i32 : BitVec 32 := 2#32
  let v549 : BitVec 32 := Scalar.addi v548 c2_i32
  let v550 : Index := Scalar.indexCast v549
  ![v550.toNat]
def k0_mult11 (v551 : BitVec 32) : BitVec 32 :=
  let c1024_i32_183 : BitVec 32 := 1024#32
  let v552 : BitVec 32 := Scalar.subi v551 c1024_i32_183
  let c7_i32_184 : BitVec 32 := 7#32
  let v553 : BitVec 32 := Scalar.shrui v552 c7_i32_184
  let c128_i32_185 : BitVec 32 := 128#32
  let v554 : BitVec 32 := Scalar.muli v553 c128_i32_185
  let c31616_i32_186 : BitVec 32 := 31616#32
  let v555 : BitVec 32 := Scalar.minsi v554 c31616_i32_186
  v555

def k0_off62 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off63 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_182 : BitVec 32 := 8#32
  let v548 : BitVec 32 := Scalar.muli arg19 c8_i32_182
  let c2_i32 : BitVec 32 := 2#32
  let v549 : BitVec 32 := Scalar.addi v548 c2_i32
  let c0_i32_187 : BitVec 32 := 0#32
  let c0_i32_188 : BitVec 32 := 0#32
  ![v549.toNat, 0, 0]
def k0_off64 (k0_t2 : Fin k0_t2_loop.trips) (v551 : BitVec 32) : Fin 3 → Nat :=
  let c0_i32_152 : BitVec 32 := 0#32
  let c1_i32_154 : BitVec 32 := 1#32
  let arg19 : BitVec 32 := Scf.iv c0_i32_152 c1_i32_154 k0_t2
  let c8_i32_182 : BitVec 32 := 8#32
  let v548 : BitVec 32 := Scalar.muli arg19 c8_i32_182
  let c2_i32 : BitVec 32 := 2#32
  let v549 : BitVec 32 := Scalar.addi v548 c2_i32
  let c0_i32_189 : BitVec 32 := 0#32
  let c1024_i32_183 : BitVec 32 := 1024#32
  let v552 : BitVec 32 := Scalar.subi v551 c1024_i32_183
  let c7_i32_184 : BitVec 32 := 7#32
  let v553 : BitVec 32 := Scalar.shrui v552 c7_i32_184
  let c128_i32_185 : BitVec 32 := 128#32
  let v554 : BitVec 32 := Scalar.muli v553 c128_i32_185
  let c31616_i32_186 : BitVec 32 := 31616#32
  let v555 : BitVec 32 := Scalar.minsi v554 c31616_i32_186
  let v556 : BitVec 32 := v555
  ![v549.toNat, 0, v556.toNat]
def k0_off65 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_182 : BitVec 32 := 8#32
  let v548 : BitVec 32 := Scalar.muli arg19 c8_i32_182
  let c2_i32 : BitVec 32 := 2#32
  let v549 : BitVec 32 := Scalar.addi v548 c2_i32
  let c0_i32_193 : BitVec 32 := 0#32
  let c0_i32_194 : BitVec 32 := 0#32
  ![v549.toNat, 0, 0]
def k0_off66 (k0_t2 : Fin k0_t2_loop.trips) (v551 : BitVec 32) : Fin 3 → Nat :=
  let c0_i32_152 : BitVec 32 := 0#32
  let c1_i32_154 : BitVec 32 := 1#32
  let arg19 : BitVec 32 := Scf.iv c0_i32_152 c1_i32_154 k0_t2
  let c8_i32_182 : BitVec 32 := 8#32
  let v548 : BitVec 32 := Scalar.muli arg19 c8_i32_182
  let c2_i32 : BitVec 32 := 2#32
  let v549 : BitVec 32 := Scalar.addi v548 c2_i32
  let c0_i32_195 : BitVec 32 := 0#32
  let c1024_i32_183 : BitVec 32 := 1024#32
  let v552 : BitVec 32 := Scalar.subi v551 c1024_i32_183
  let c7_i32_184 : BitVec 32 := 7#32
  let v553 : BitVec 32 := Scalar.shrui v552 c7_i32_184
  let c128_i32_185 : BitVec 32 := 128#32
  let v554 : BitVec 32 := Scalar.muli v553 c128_i32_185
  let c31616_i32_186 : BitVec 32 := 31616#32
  let v555 : BitVec 32 := Scalar.minsi v554 c31616_i32_186
  let v556 : BitVec 32 := v555
  ![v549.toNat, 0, v556.toNat]

def k0_chk11 (k0_t2 : Fin k0_t2_loop.trips) (v551 : BitVec 32) : Prop :=
  (128 ∣ (k0_mult11 v551).toNat) ∧
  (∀ a, (k0_off64 k0_t2 v551) a + S1x64x1152.size a ≤ S64x64x32768.size a) ∧
  (∀ (hinb : ∀ a, (k0_off64 k0_t2 v551) a + S1x64x1152.size a ≤ S64x64x32768.size a), (Rect.unit (s := S64x64x32768) (k0_off64 k0_t2 v551) S1x64x1152.size hinb).WholeWords (EltTy.packing .i8)) ∧
  (∀ a, (k0_off66 k0_t2 v551) a + S1x1x1152.size a ≤ S64x1x32768.size a)
theorem k0_mult11_dvd : ∀ (k0_t2 : Fin k0_t2_loop.trips) (v551 : BitVec 32) (k0_hw11 : k0_chk11 k0_t2 v551), 128 ∣ (k0_mult11 v551).toNat := fun k0_t2 v551 k0_hw11 => k0_hw11.1
theorem k0_off64_inb : ∀ (k0_t2 : Fin k0_t2_loop.trips) (v551 : BitVec 32) (k0_hw11 : k0_chk11 k0_t2 v551), ∀ a, (k0_off64 k0_t2 v551) a + S1x64x1152.size a ≤ S64x64x32768.size a := fun k0_t2 v551 k0_hw11 => k0_hw11.2.1
theorem k0_off64_wordsi8 : ∀ (k0_t2 : Fin k0_t2_loop.trips) (v551 : BitVec 32) (k0_hw11 : k0_chk11 k0_t2 v551), (Rect.unit (s := S64x64x32768) (k0_off64 k0_t2 v551) S1x64x1152.size (k0_off64_inb k0_t2 v551 k0_hw11)).WholeWords (EltTy.packing .i8) := fun k0_t2 v551 k0_hw11 => k0_hw11.2.2.1 (k0_off64_inb k0_t2 v551 k0_hw11)
theorem k0_off66_inb : ∀ (k0_t2 : Fin k0_t2_loop.trips) (v551 : BitVec 32) (k0_hw11 : k0_chk11 k0_t2 v551), ∀ a, (k0_off66 k0_t2 v551) a + S1x1x1152.size a ≤ S64x1x32768.size a := fun k0_t2 v551 k0_hw11 => k0_hw11.2.2.2

def k0_off67 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_196 : BitVec 32 := 8#32
  let v575 : BitVec 32 := Scalar.muli arg19 c8_i32_196
  let c3_i32 : BitVec 32 := 3#32
  let v576 : BitVec 32 := Scalar.addi v575 c3_i32
  let v577 : Index := Scalar.indexCast v576
  ![v577.toNat]
def k0_mult12 (v578 : BitVec 32) : BitVec 32 :=
  let c1024_i32_197 : BitVec 32 := 1024#32
  let v579 : BitVec 32 := Scalar.subi v578 c1024_i32_197
  let c7_i32_198 : BitVec 32 := 7#32
  let v580 : BitVec 32 := Scalar.shrui v579 c7_i32_198
  let c128_i32_199 : BitVec 32 := 128#32
  let v581 : BitVec 32 := Scalar.muli v580 c128_i32_199
  let c31616_i32_200 : BitVec 32 := 31616#32
  let v582 : BitVec 32 := Scalar.minsi v581 c31616_i32_200
  v582

def k0_off68 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off69 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_196 : BitVec 32 := 8#32
  let v575 : BitVec 32 := Scalar.muli arg19 c8_i32_196
  let c3_i32 : BitVec 32 := 3#32
  let v576 : BitVec 32 := Scalar.addi v575 c3_i32
  let c0_i32_201 : BitVec 32 := 0#32
  let c0_i32_202 : BitVec 32 := 0#32
  ![v576.toNat, 0, 0]
def k0_off70 (k0_t2 : Fin k0_t2_loop.trips) (v578 : BitVec 32) : Fin 3 → Nat :=
  let c0_i32_152 : BitVec 32 := 0#32
  let c1_i32_154 : BitVec 32 := 1#32
  let arg19 : BitVec 32 := Scf.iv c0_i32_152 c1_i32_154 k0_t2
  let c8_i32_196 : BitVec 32 := 8#32
  let v575 : BitVec 32 := Scalar.muli arg19 c8_i32_196
  let c3_i32 : BitVec 32 := 3#32
  let v576 : BitVec 32 := Scalar.addi v575 c3_i32
  let c0_i32_203 : BitVec 32 := 0#32
  let c1024_i32_197 : BitVec 32 := 1024#32
  let v579 : BitVec 32 := Scalar.subi v578 c1024_i32_197
  let c7_i32_198 : BitVec 32 := 7#32
  let v580 : BitVec 32 := Scalar.shrui v579 c7_i32_198
  let c128_i32_199 : BitVec 32 := 128#32
  let v581 : BitVec 32 := Scalar.muli v580 c128_i32_199
  let c31616_i32_200 : BitVec 32 := 31616#32
  let v582 : BitVec 32 := Scalar.minsi v581 c31616_i32_200
  let v583 : BitVec 32 := v582
  ![v576.toNat, 0, v583.toNat]
def k0_off71 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_196 : BitVec 32 := 8#32
  let v575 : BitVec 32 := Scalar.muli arg19 c8_i32_196
  let c3_i32 : BitVec 32 := 3#32
  let v576 : BitVec 32 := Scalar.addi v575 c3_i32
  let c0_i32_207 : BitVec 32 := 0#32
  let c0_i32_208 : BitVec 32 := 0#32
  ![v576.toNat, 0, 0]
def k0_off72 (k0_t2 : Fin k0_t2_loop.trips) (v578 : BitVec 32) : Fin 3 → Nat :=
  let c0_i32_152 : BitVec 32 := 0#32
  let c1_i32_154 : BitVec 32 := 1#32
  let arg19 : BitVec 32 := Scf.iv c0_i32_152 c1_i32_154 k0_t2
  let c8_i32_196 : BitVec 32 := 8#32
  let v575 : BitVec 32 := Scalar.muli arg19 c8_i32_196
  let c3_i32 : BitVec 32 := 3#32
  let v576 : BitVec 32 := Scalar.addi v575 c3_i32
  let c0_i32_209 : BitVec 32 := 0#32
  let c1024_i32_197 : BitVec 32 := 1024#32
  let v579 : BitVec 32 := Scalar.subi v578 c1024_i32_197
  let c7_i32_198 : BitVec 32 := 7#32
  let v580 : BitVec 32 := Scalar.shrui v579 c7_i32_198
  let c128_i32_199 : BitVec 32 := 128#32
  let v581 : BitVec 32 := Scalar.muli v580 c128_i32_199
  let c31616_i32_200 : BitVec 32 := 31616#32
  let v582 : BitVec 32 := Scalar.minsi v581 c31616_i32_200
  let v583 : BitVec 32 := v582
  ![v576.toNat, 0, v583.toNat]

def k0_chk12 (k0_t2 : Fin k0_t2_loop.trips) (v578 : BitVec 32) : Prop :=
  (128 ∣ (k0_mult12 v578).toNat) ∧
  (∀ a, (k0_off70 k0_t2 v578) a + S1x64x1152.size a ≤ S64x64x32768.size a) ∧
  (∀ (hinb : ∀ a, (k0_off70 k0_t2 v578) a + S1x64x1152.size a ≤ S64x64x32768.size a), (Rect.unit (s := S64x64x32768) (k0_off70 k0_t2 v578) S1x64x1152.size hinb).WholeWords (EltTy.packing .i8)) ∧
  (∀ a, (k0_off72 k0_t2 v578) a + S1x1x1152.size a ≤ S64x1x32768.size a)
theorem k0_mult12_dvd : ∀ (k0_t2 : Fin k0_t2_loop.trips) (v578 : BitVec 32) (k0_hw12 : k0_chk12 k0_t2 v578), 128 ∣ (k0_mult12 v578).toNat := fun k0_t2 v578 k0_hw12 => k0_hw12.1
theorem k0_off70_inb : ∀ (k0_t2 : Fin k0_t2_loop.trips) (v578 : BitVec 32) (k0_hw12 : k0_chk12 k0_t2 v578), ∀ a, (k0_off70 k0_t2 v578) a + S1x64x1152.size a ≤ S64x64x32768.size a := fun k0_t2 v578 k0_hw12 => k0_hw12.2.1
theorem k0_off70_wordsi8 : ∀ (k0_t2 : Fin k0_t2_loop.trips) (v578 : BitVec 32) (k0_hw12 : k0_chk12 k0_t2 v578), (Rect.unit (s := S64x64x32768) (k0_off70 k0_t2 v578) S1x64x1152.size (k0_off70_inb k0_t2 v578 k0_hw12)).WholeWords (EltTy.packing .i8) := fun k0_t2 v578 k0_hw12 => k0_hw12.2.2.1 (k0_off70_inb k0_t2 v578 k0_hw12)
theorem k0_off72_inb : ∀ (k0_t2 : Fin k0_t2_loop.trips) (v578 : BitVec 32) (k0_hw12 : k0_chk12 k0_t2 v578), ∀ a, (k0_off72 k0_t2 v578) a + S1x1x1152.size a ≤ S64x1x32768.size a := fun k0_t2 v578 k0_hw12 => k0_hw12.2.2.2

def k0_off73 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_210 : BitVec 32 := 8#32
  let v602 : BitVec 32 := Scalar.muli arg19 c8_i32_210
  let c4_i32 : BitVec 32 := 4#32
  let v603 : BitVec 32 := Scalar.addi v602 c4_i32
  let v604 : Index := Scalar.indexCast v603
  ![v604.toNat]
def k0_mult13 (v605 : BitVec 32) : BitVec 32 :=
  let c1024_i32_211 : BitVec 32 := 1024#32
  let v606 : BitVec 32 := Scalar.subi v605 c1024_i32_211
  let c7_i32_212 : BitVec 32 := 7#32
  let v607 : BitVec 32 := Scalar.shrui v606 c7_i32_212
  let c128_i32_213 : BitVec 32 := 128#32
  let v608 : BitVec 32 := Scalar.muli v607 c128_i32_213
  let c31616_i32_214 : BitVec 32 := 31616#32
  let v609 : BitVec 32 := Scalar.minsi v608 c31616_i32_214
  v609

def k0_off74 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off75 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_210 : BitVec 32 := 8#32
  let v602 : BitVec 32 := Scalar.muli arg19 c8_i32_210
  let c4_i32 : BitVec 32 := 4#32
  let v603 : BitVec 32 := Scalar.addi v602 c4_i32
  let c0_i32_215 : BitVec 32 := 0#32
  let c0_i32_216 : BitVec 32 := 0#32
  ![v603.toNat, 0, 0]
def k0_off76 (k0_t2 : Fin k0_t2_loop.trips) (v605 : BitVec 32) : Fin 3 → Nat :=
  let c0_i32_152 : BitVec 32 := 0#32
  let c1_i32_154 : BitVec 32 := 1#32
  let arg19 : BitVec 32 := Scf.iv c0_i32_152 c1_i32_154 k0_t2
  let c8_i32_210 : BitVec 32 := 8#32
  let v602 : BitVec 32 := Scalar.muli arg19 c8_i32_210
  let c4_i32 : BitVec 32 := 4#32
  let v603 : BitVec 32 := Scalar.addi v602 c4_i32
  let c0_i32_217 : BitVec 32 := 0#32
  let c1024_i32_211 : BitVec 32 := 1024#32
  let v606 : BitVec 32 := Scalar.subi v605 c1024_i32_211
  let c7_i32_212 : BitVec 32 := 7#32
  let v607 : BitVec 32 := Scalar.shrui v606 c7_i32_212
  let c128_i32_213 : BitVec 32 := 128#32
  let v608 : BitVec 32 := Scalar.muli v607 c128_i32_213
  let c31616_i32_214 : BitVec 32 := 31616#32
  let v609 : BitVec 32 := Scalar.minsi v608 c31616_i32_214
  let v610 : BitVec 32 := v609
  ![v603.toNat, 0, v610.toNat]
def k0_off77 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_210 : BitVec 32 := 8#32
  let v602 : BitVec 32 := Scalar.muli arg19 c8_i32_210
  let c4_i32 : BitVec 32 := 4#32
  let v603 : BitVec 32 := Scalar.addi v602 c4_i32
  let c0_i32_221 : BitVec 32 := 0#32
  let c0_i32_222 : BitVec 32 := 0#32
  ![v603.toNat, 0, 0]
def k0_off78 (k0_t2 : Fin k0_t2_loop.trips) (v605 : BitVec 32) : Fin 3 → Nat :=
  let c0_i32_152 : BitVec 32 := 0#32
  let c1_i32_154 : BitVec 32 := 1#32
  let arg19 : BitVec 32 := Scf.iv c0_i32_152 c1_i32_154 k0_t2
  let c8_i32_210 : BitVec 32 := 8#32
  let v602 : BitVec 32 := Scalar.muli arg19 c8_i32_210
  let c4_i32 : BitVec 32 := 4#32
  let v603 : BitVec 32 := Scalar.addi v602 c4_i32
  let c0_i32_223 : BitVec 32 := 0#32
  let c1024_i32_211 : BitVec 32 := 1024#32
  let v606 : BitVec 32 := Scalar.subi v605 c1024_i32_211
  let c7_i32_212 : BitVec 32 := 7#32
  let v607 : BitVec 32 := Scalar.shrui v606 c7_i32_212
  let c128_i32_213 : BitVec 32 := 128#32
  let v608 : BitVec 32 := Scalar.muli v607 c128_i32_213
  let c31616_i32_214 : BitVec 32 := 31616#32
  let v609 : BitVec 32 := Scalar.minsi v608 c31616_i32_214
  let v610 : BitVec 32 := v609
  ![v603.toNat, 0, v610.toNat]

def k0_chk13 (k0_t2 : Fin k0_t2_loop.trips) (v605 : BitVec 32) : Prop :=
  (128 ∣ (k0_mult13 v605).toNat) ∧
  (∀ a, (k0_off76 k0_t2 v605) a + S1x64x1152.size a ≤ S64x64x32768.size a) ∧
  (∀ (hinb : ∀ a, (k0_off76 k0_t2 v605) a + S1x64x1152.size a ≤ S64x64x32768.size a), (Rect.unit (s := S64x64x32768) (k0_off76 k0_t2 v605) S1x64x1152.size hinb).WholeWords (EltTy.packing .i8)) ∧
  (∀ a, (k0_off78 k0_t2 v605) a + S1x1x1152.size a ≤ S64x1x32768.size a)
theorem k0_mult13_dvd : ∀ (k0_t2 : Fin k0_t2_loop.trips) (v605 : BitVec 32) (k0_hw13 : k0_chk13 k0_t2 v605), 128 ∣ (k0_mult13 v605).toNat := fun k0_t2 v605 k0_hw13 => k0_hw13.1
theorem k0_off76_inb : ∀ (k0_t2 : Fin k0_t2_loop.trips) (v605 : BitVec 32) (k0_hw13 : k0_chk13 k0_t2 v605), ∀ a, (k0_off76 k0_t2 v605) a + S1x64x1152.size a ≤ S64x64x32768.size a := fun k0_t2 v605 k0_hw13 => k0_hw13.2.1
theorem k0_off76_wordsi8 : ∀ (k0_t2 : Fin k0_t2_loop.trips) (v605 : BitVec 32) (k0_hw13 : k0_chk13 k0_t2 v605), (Rect.unit (s := S64x64x32768) (k0_off76 k0_t2 v605) S1x64x1152.size (k0_off76_inb k0_t2 v605 k0_hw13)).WholeWords (EltTy.packing .i8) := fun k0_t2 v605 k0_hw13 => k0_hw13.2.2.1 (k0_off76_inb k0_t2 v605 k0_hw13)
theorem k0_off78_inb : ∀ (k0_t2 : Fin k0_t2_loop.trips) (v605 : BitVec 32) (k0_hw13 : k0_chk13 k0_t2 v605), ∀ a, (k0_off78 k0_t2 v605) a + S1x1x1152.size a ≤ S64x1x32768.size a := fun k0_t2 v605 k0_hw13 => k0_hw13.2.2.2

def k0_off79 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_224 : BitVec 32 := 8#32
  let v629 : BitVec 32 := Scalar.muli arg19 c8_i32_224
  let c5_i32 : BitVec 32 := 5#32
  let v630 : BitVec 32 := Scalar.addi v629 c5_i32
  let v631 : Index := Scalar.indexCast v630
  ![v631.toNat]
def k0_mult14 (v632 : BitVec 32) : BitVec 32 :=
  let c1024_i32_225 : BitVec 32 := 1024#32
  let v633 : BitVec 32 := Scalar.subi v632 c1024_i32_225
  let c7_i32_226 : BitVec 32 := 7#32
  let v634 : BitVec 32 := Scalar.shrui v633 c7_i32_226
  let c128_i32_227 : BitVec 32 := 128#32
  let v635 : BitVec 32 := Scalar.muli v634 c128_i32_227
  let c31616_i32_228 : BitVec 32 := 31616#32
  let v636 : BitVec 32 := Scalar.minsi v635 c31616_i32_228
  v636

def k0_off80 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off81 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_224 : BitVec 32 := 8#32
  let v629 : BitVec 32 := Scalar.muli arg19 c8_i32_224
  let c5_i32 : BitVec 32 := 5#32
  let v630 : BitVec 32 := Scalar.addi v629 c5_i32
  let c0_i32_229 : BitVec 32 := 0#32
  let c0_i32_230 : BitVec 32 := 0#32
  ![v630.toNat, 0, 0]
def k0_off82 (k0_t2 : Fin k0_t2_loop.trips) (v632 : BitVec 32) : Fin 3 → Nat :=
  let c0_i32_152 : BitVec 32 := 0#32
  let c1_i32_154 : BitVec 32 := 1#32
  let arg19 : BitVec 32 := Scf.iv c0_i32_152 c1_i32_154 k0_t2
  let c8_i32_224 : BitVec 32 := 8#32
  let v629 : BitVec 32 := Scalar.muli arg19 c8_i32_224
  let c5_i32 : BitVec 32 := 5#32
  let v630 : BitVec 32 := Scalar.addi v629 c5_i32
  let c0_i32_231 : BitVec 32 := 0#32
  let c1024_i32_225 : BitVec 32 := 1024#32
  let v633 : BitVec 32 := Scalar.subi v632 c1024_i32_225
  let c7_i32_226 : BitVec 32 := 7#32
  let v634 : BitVec 32 := Scalar.shrui v633 c7_i32_226
  let c128_i32_227 : BitVec 32 := 128#32
  let v635 : BitVec 32 := Scalar.muli v634 c128_i32_227
  let c31616_i32_228 : BitVec 32 := 31616#32
  let v636 : BitVec 32 := Scalar.minsi v635 c31616_i32_228
  let v637 : BitVec 32 := v636
  ![v630.toNat, 0, v637.toNat]
def k0_off83 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_224 : BitVec 32 := 8#32
  let v629 : BitVec 32 := Scalar.muli arg19 c8_i32_224
  let c5_i32 : BitVec 32 := 5#32
  let v630 : BitVec 32 := Scalar.addi v629 c5_i32
  let c0_i32_235 : BitVec 32 := 0#32
  let c0_i32_236 : BitVec 32 := 0#32
  ![v630.toNat, 0, 0]
def k0_off84 (k0_t2 : Fin k0_t2_loop.trips) (v632 : BitVec 32) : Fin 3 → Nat :=
  let c0_i32_152 : BitVec 32 := 0#32
  let c1_i32_154 : BitVec 32 := 1#32
  let arg19 : BitVec 32 := Scf.iv c0_i32_152 c1_i32_154 k0_t2
  let c8_i32_224 : BitVec 32 := 8#32
  let v629 : BitVec 32 := Scalar.muli arg19 c8_i32_224
  let c5_i32 : BitVec 32 := 5#32
  let v630 : BitVec 32 := Scalar.addi v629 c5_i32
  let c0_i32_237 : BitVec 32 := 0#32
  let c1024_i32_225 : BitVec 32 := 1024#32
  let v633 : BitVec 32 := Scalar.subi v632 c1024_i32_225
  let c7_i32_226 : BitVec 32 := 7#32
  let v634 : BitVec 32 := Scalar.shrui v633 c7_i32_226
  let c128_i32_227 : BitVec 32 := 128#32
  let v635 : BitVec 32 := Scalar.muli v634 c128_i32_227
  let c31616_i32_228 : BitVec 32 := 31616#32
  let v636 : BitVec 32 := Scalar.minsi v635 c31616_i32_228
  let v637 : BitVec 32 := v636
  ![v630.toNat, 0, v637.toNat]

def k0_chk14 (k0_t2 : Fin k0_t2_loop.trips) (v632 : BitVec 32) : Prop :=
  (128 ∣ (k0_mult14 v632).toNat) ∧
  (∀ a, (k0_off82 k0_t2 v632) a + S1x64x1152.size a ≤ S64x64x32768.size a) ∧
  (∀ (hinb : ∀ a, (k0_off82 k0_t2 v632) a + S1x64x1152.size a ≤ S64x64x32768.size a), (Rect.unit (s := S64x64x32768) (k0_off82 k0_t2 v632) S1x64x1152.size hinb).WholeWords (EltTy.packing .i8)) ∧
  (∀ a, (k0_off84 k0_t2 v632) a + S1x1x1152.size a ≤ S64x1x32768.size a)
theorem k0_mult14_dvd : ∀ (k0_t2 : Fin k0_t2_loop.trips) (v632 : BitVec 32) (k0_hw14 : k0_chk14 k0_t2 v632), 128 ∣ (k0_mult14 v632).toNat := fun k0_t2 v632 k0_hw14 => k0_hw14.1
theorem k0_off82_inb : ∀ (k0_t2 : Fin k0_t2_loop.trips) (v632 : BitVec 32) (k0_hw14 : k0_chk14 k0_t2 v632), ∀ a, (k0_off82 k0_t2 v632) a + S1x64x1152.size a ≤ S64x64x32768.size a := fun k0_t2 v632 k0_hw14 => k0_hw14.2.1
theorem k0_off82_wordsi8 : ∀ (k0_t2 : Fin k0_t2_loop.trips) (v632 : BitVec 32) (k0_hw14 : k0_chk14 k0_t2 v632), (Rect.unit (s := S64x64x32768) (k0_off82 k0_t2 v632) S1x64x1152.size (k0_off82_inb k0_t2 v632 k0_hw14)).WholeWords (EltTy.packing .i8) := fun k0_t2 v632 k0_hw14 => k0_hw14.2.2.1 (k0_off82_inb k0_t2 v632 k0_hw14)
theorem k0_off84_inb : ∀ (k0_t2 : Fin k0_t2_loop.trips) (v632 : BitVec 32) (k0_hw14 : k0_chk14 k0_t2 v632), ∀ a, (k0_off84 k0_t2 v632) a + S1x1x1152.size a ≤ S64x1x32768.size a := fun k0_t2 v632 k0_hw14 => k0_hw14.2.2.2

def k0_off85 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_238 : BitVec 32 := 8#32
  let v656 : BitVec 32 := Scalar.muli arg19 c8_i32_238
  let c6_i32 : BitVec 32 := 6#32
  let v657 : BitVec 32 := Scalar.addi v656 c6_i32
  let v658 : Index := Scalar.indexCast v657
  ![v658.toNat]
def k0_mult15 (v659 : BitVec 32) : BitVec 32 :=
  let c1024_i32_239 : BitVec 32 := 1024#32
  let v660 : BitVec 32 := Scalar.subi v659 c1024_i32_239
  let c7_i32_240 : BitVec 32 := 7#32
  let v661 : BitVec 32 := Scalar.shrui v660 c7_i32_240
  let c128_i32_241 : BitVec 32 := 128#32
  let v662 : BitVec 32 := Scalar.muli v661 c128_i32_241
  let c31616_i32_242 : BitVec 32 := 31616#32
  let v663 : BitVec 32 := Scalar.minsi v662 c31616_i32_242
  v663

def k0_off86 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off87 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_238 : BitVec 32 := 8#32
  let v656 : BitVec 32 := Scalar.muli arg19 c8_i32_238
  let c6_i32 : BitVec 32 := 6#32
  let v657 : BitVec 32 := Scalar.addi v656 c6_i32
  let c0_i32_243 : BitVec 32 := 0#32
  let c0_i32_244 : BitVec 32 := 0#32
  ![v657.toNat, 0, 0]
def k0_off88 (k0_t2 : Fin k0_t2_loop.trips) (v659 : BitVec 32) : Fin 3 → Nat :=
  let c0_i32_152 : BitVec 32 := 0#32
  let c1_i32_154 : BitVec 32 := 1#32
  let arg19 : BitVec 32 := Scf.iv c0_i32_152 c1_i32_154 k0_t2
  let c8_i32_238 : BitVec 32 := 8#32
  let v656 : BitVec 32 := Scalar.muli arg19 c8_i32_238
  let c6_i32 : BitVec 32 := 6#32
  let v657 : BitVec 32 := Scalar.addi v656 c6_i32
  let c0_i32_245 : BitVec 32 := 0#32
  let c1024_i32_239 : BitVec 32 := 1024#32
  let v660 : BitVec 32 := Scalar.subi v659 c1024_i32_239
  let c7_i32_240 : BitVec 32 := 7#32
  let v661 : BitVec 32 := Scalar.shrui v660 c7_i32_240
  let c128_i32_241 : BitVec 32 := 128#32
  let v662 : BitVec 32 := Scalar.muli v661 c128_i32_241
  let c31616_i32_242 : BitVec 32 := 31616#32
  let v663 : BitVec 32 := Scalar.minsi v662 c31616_i32_242
  let v664 : BitVec 32 := v663
  ![v657.toNat, 0, v664.toNat]
def k0_off89 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_238 : BitVec 32 := 8#32
  let v656 : BitVec 32 := Scalar.muli arg19 c8_i32_238
  let c6_i32 : BitVec 32 := 6#32
  let v657 : BitVec 32 := Scalar.addi v656 c6_i32
  let c0_i32_249 : BitVec 32 := 0#32
  let c0_i32_250 : BitVec 32 := 0#32
  ![v657.toNat, 0, 0]
def k0_off90 (k0_t2 : Fin k0_t2_loop.trips) (v659 : BitVec 32) : Fin 3 → Nat :=
  let c0_i32_152 : BitVec 32 := 0#32
  let c1_i32_154 : BitVec 32 := 1#32
  let arg19 : BitVec 32 := Scf.iv c0_i32_152 c1_i32_154 k0_t2
  let c8_i32_238 : BitVec 32 := 8#32
  let v656 : BitVec 32 := Scalar.muli arg19 c8_i32_238
  let c6_i32 : BitVec 32 := 6#32
  let v657 : BitVec 32 := Scalar.addi v656 c6_i32
  let c0_i32_251 : BitVec 32 := 0#32
  let c1024_i32_239 : BitVec 32 := 1024#32
  let v660 : BitVec 32 := Scalar.subi v659 c1024_i32_239
  let c7_i32_240 : BitVec 32 := 7#32
  let v661 : BitVec 32 := Scalar.shrui v660 c7_i32_240
  let c128_i32_241 : BitVec 32 := 128#32
  let v662 : BitVec 32 := Scalar.muli v661 c128_i32_241
  let c31616_i32_242 : BitVec 32 := 31616#32
  let v663 : BitVec 32 := Scalar.minsi v662 c31616_i32_242
  let v664 : BitVec 32 := v663
  ![v657.toNat, 0, v664.toNat]

def k0_chk15 (k0_t2 : Fin k0_t2_loop.trips) (v659 : BitVec 32) : Prop :=
  (128 ∣ (k0_mult15 v659).toNat) ∧
  (∀ a, (k0_off88 k0_t2 v659) a + S1x64x1152.size a ≤ S64x64x32768.size a) ∧
  (∀ (hinb : ∀ a, (k0_off88 k0_t2 v659) a + S1x64x1152.size a ≤ S64x64x32768.size a), (Rect.unit (s := S64x64x32768) (k0_off88 k0_t2 v659) S1x64x1152.size hinb).WholeWords (EltTy.packing .i8)) ∧
  (∀ a, (k0_off90 k0_t2 v659) a + S1x1x1152.size a ≤ S64x1x32768.size a)
theorem k0_mult15_dvd : ∀ (k0_t2 : Fin k0_t2_loop.trips) (v659 : BitVec 32) (k0_hw15 : k0_chk15 k0_t2 v659), 128 ∣ (k0_mult15 v659).toNat := fun k0_t2 v659 k0_hw15 => k0_hw15.1
theorem k0_off88_inb : ∀ (k0_t2 : Fin k0_t2_loop.trips) (v659 : BitVec 32) (k0_hw15 : k0_chk15 k0_t2 v659), ∀ a, (k0_off88 k0_t2 v659) a + S1x64x1152.size a ≤ S64x64x32768.size a := fun k0_t2 v659 k0_hw15 => k0_hw15.2.1
theorem k0_off88_wordsi8 : ∀ (k0_t2 : Fin k0_t2_loop.trips) (v659 : BitVec 32) (k0_hw15 : k0_chk15 k0_t2 v659), (Rect.unit (s := S64x64x32768) (k0_off88 k0_t2 v659) S1x64x1152.size (k0_off88_inb k0_t2 v659 k0_hw15)).WholeWords (EltTy.packing .i8) := fun k0_t2 v659 k0_hw15 => k0_hw15.2.2.1 (k0_off88_inb k0_t2 v659 k0_hw15)
theorem k0_off90_inb : ∀ (k0_t2 : Fin k0_t2_loop.trips) (v659 : BitVec 32) (k0_hw15 : k0_chk15 k0_t2 v659), ∀ a, (k0_off90 k0_t2 v659) a + S1x1x1152.size a ≤ S64x1x32768.size a := fun k0_t2 v659 k0_hw15 => k0_hw15.2.2.2

def k0_off91 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_252 : BitVec 32 := 8#32
  let v683 : BitVec 32 := Scalar.muli arg19 c8_i32_252
  let c7_i32_253 : BitVec 32 := 7#32
  let v684 : BitVec 32 := Scalar.addi v683 c7_i32_253
  let v685 : Index := Scalar.indexCast v684
  ![v685.toNat]
def k0_mult16 (v686 : BitVec 32) : BitVec 32 :=
  let c1024_i32_254 : BitVec 32 := 1024#32
  let v687 : BitVec 32 := Scalar.subi v686 c1024_i32_254
  let c7_i32_255 : BitVec 32 := 7#32
  let v688 : BitVec 32 := Scalar.shrui v687 c7_i32_255
  let c128_i32_256 : BitVec 32 := 128#32
  let v689 : BitVec 32 := Scalar.muli v688 c128_i32_256
  let c31616_i32_257 : BitVec 32 := 31616#32
  let v690 : BitVec 32 := Scalar.minsi v689 c31616_i32_257
  v690

def k0_off92 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  ![arg19.toNat]
def k0_off93 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_252 : BitVec 32 := 8#32
  let v683 : BitVec 32 := Scalar.muli arg19 c8_i32_252
  let c7_i32_253 : BitVec 32 := 7#32
  let v684 : BitVec 32 := Scalar.addi v683 c7_i32_253
  let c0_i32_258 : BitVec 32 := 0#32
  let c0_i32_259 : BitVec 32 := 0#32
  ![v684.toNat, 0, 0]
def k0_off94 (k0_t2 : Fin k0_t2_loop.trips) (v686 : BitVec 32) : Fin 3 → Nat :=
  let c0_i32_152 : BitVec 32 := 0#32
  let c1_i32_154 : BitVec 32 := 1#32
  let arg19 : BitVec 32 := Scf.iv c0_i32_152 c1_i32_154 k0_t2
  let c8_i32_252 : BitVec 32 := 8#32
  let v683 : BitVec 32 := Scalar.muli arg19 c8_i32_252
  let c7_i32_253 : BitVec 32 := 7#32
  let v684 : BitVec 32 := Scalar.addi v683 c7_i32_253
  let c0_i32_260 : BitVec 32 := 0#32
  let c1024_i32_254 : BitVec 32 := 1024#32
  let v687 : BitVec 32 := Scalar.subi v686 c1024_i32_254
  let c7_i32_255 : BitVec 32 := 7#32
  let v688 : BitVec 32 := Scalar.shrui v687 c7_i32_255
  let c128_i32_256 : BitVec 32 := 128#32
  let v689 : BitVec 32 := Scalar.muli v688 c128_i32_256
  let c31616_i32_257 : BitVec 32 := 31616#32
  let v690 : BitVec 32 := Scalar.minsi v689 c31616_i32_257
  let v691 : BitVec 32 := v690
  ![v684.toNat, 0, v691.toNat]
def k0_off95 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_252 : BitVec 32 := 8#32
  let v683 : BitVec 32 := Scalar.muli arg19 c8_i32_252
  let c7_i32_253 : BitVec 32 := 7#32
  let v684 : BitVec 32 := Scalar.addi v683 c7_i32_253
  let c0_i32_264 : BitVec 32 := 0#32
  let c0_i32_265 : BitVec 32 := 0#32
  ![v684.toNat, 0, 0]
def k0_off96 (k0_t2 : Fin k0_t2_loop.trips) (v686 : BitVec 32) : Fin 3 → Nat :=
  let c0_i32_152 : BitVec 32 := 0#32
  let c1_i32_154 : BitVec 32 := 1#32
  let arg19 : BitVec 32 := Scf.iv c0_i32_152 c1_i32_154 k0_t2
  let c8_i32_252 : BitVec 32 := 8#32
  let v683 : BitVec 32 := Scalar.muli arg19 c8_i32_252
  let c7_i32_253 : BitVec 32 := 7#32
  let v684 : BitVec 32 := Scalar.addi v683 c7_i32_253
  let c0_i32_266 : BitVec 32 := 0#32
  let c1024_i32_254 : BitVec 32 := 1024#32
  let v687 : BitVec 32 := Scalar.subi v686 c1024_i32_254
  let c7_i32_255 : BitVec 32 := 7#32
  let v688 : BitVec 32 := Scalar.shrui v687 c7_i32_255
  let c128_i32_256 : BitVec 32 := 128#32
  let v689 : BitVec 32 := Scalar.muli v688 c128_i32_256
  let c31616_i32_257 : BitVec 32 := 31616#32
  let v690 : BitVec 32 := Scalar.minsi v689 c31616_i32_257
  let v691 : BitVec 32 := v690
  ![v684.toNat, 0, v691.toNat]

def k0_chk16 (k0_t2 : Fin k0_t2_loop.trips) (v686 : BitVec 32) : Prop :=
  (128 ∣ (k0_mult16 v686).toNat) ∧
  (∀ a, (k0_off94 k0_t2 v686) a + S1x64x1152.size a ≤ S64x64x32768.size a) ∧
  (∀ (hinb : ∀ a, (k0_off94 k0_t2 v686) a + S1x64x1152.size a ≤ S64x64x32768.size a), (Rect.unit (s := S64x64x32768) (k0_off94 k0_t2 v686) S1x64x1152.size hinb).WholeWords (EltTy.packing .i8)) ∧
  (∀ a, (k0_off96 k0_t2 v686) a + S1x1x1152.size a ≤ S64x1x32768.size a)
theorem k0_mult16_dvd : ∀ (k0_t2 : Fin k0_t2_loop.trips) (v686 : BitVec 32) (k0_hw16 : k0_chk16 k0_t2 v686), 128 ∣ (k0_mult16 v686).toNat := fun k0_t2 v686 k0_hw16 => k0_hw16.1
theorem k0_off94_inb : ∀ (k0_t2 : Fin k0_t2_loop.trips) (v686 : BitVec 32) (k0_hw16 : k0_chk16 k0_t2 v686), ∀ a, (k0_off94 k0_t2 v686) a + S1x64x1152.size a ≤ S64x64x32768.size a := fun k0_t2 v686 k0_hw16 => k0_hw16.2.1
theorem k0_off94_wordsi8 : ∀ (k0_t2 : Fin k0_t2_loop.trips) (v686 : BitVec 32) (k0_hw16 : k0_chk16 k0_t2 v686), (Rect.unit (s := S64x64x32768) (k0_off94 k0_t2 v686) S1x64x1152.size (k0_off94_inb k0_t2 v686 k0_hw16)).WholeWords (EltTy.packing .i8) := fun k0_t2 v686 k0_hw16 => k0_hw16.2.2.1 (k0_off94_inb k0_t2 v686 k0_hw16)
theorem k0_off96_inb : ∀ (k0_t2 : Fin k0_t2_loop.trips) (v686 : BitVec 32) (k0_hw16 : k0_chk16 k0_t2 v686), ∀ a, (k0_off96 k0_t2 v686) a + S1x1x1152.size a ≤ S64x1x32768.size a := fun k0_t2 v686 k0_hw16 => k0_hw16.2.2.2

def k0_off97 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v712 : Index := Scalar.indexCast v711
  ![v712.toNat]
def k0_off98 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v720 : Index := Scalar.indexCast v711
  let c0_273 : Index := 0#32
  let c1024 : Index := 1024#32
  ![v720.toNat, 0, 1024]
def k0_mult17 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c0_i32_274 : BitVec 32 := 0#32
  let v723 : BitVec 32 := Scalar.addi v718 c0_i32_274
  v723

def k0_off99 (k0_t2 : Fin k0_t2_loop.trips) (v713 : BitVec 32) (c0_i32_274 : BitVec 32) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v725 : Index := Scalar.indexCast v711
  let c0_275 : Index := 0#32
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let v723 : BitVec 32 := Scalar.addi v718 c0_i32_274
  let v724 : BitVec 32 := v723
  let v726 : Index := Scalar.indexCast v724
  ![v725.toNat, 0, v726.toNat]
def k0_mult18 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c128_i32_276 : BitVec 32 := 128#32
  let v737 : BitVec 32 := Scalar.addi v718 c128_i32_276
  v737
def k0_mult19 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c256_i32 : BitVec 32 := 256#32
  let v743 : BitVec 32 := Scalar.addi v718 c256_i32
  v743
def k0_mult20 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c384_i32 : BitVec 32 := 384#32
  let v749 : BitVec 32 := Scalar.addi v718 c384_i32
  v749
def k0_mult21 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c512_i32 : BitVec 32 := 512#32
  let v755 : BitVec 32 := Scalar.addi v718 c512_i32
  v755
def k0_mult22 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c640_i32 : BitVec 32 := 640#32
  let v761 : BitVec 32 := Scalar.addi v718 c640_i32
  v761
def k0_mult23 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c768_i32 : BitVec 32 := 768#32
  let v767 : BitVec 32 := Scalar.addi v718 c768_i32
  v767
def k0_mult24 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c896_i32 : BitVec 32 := 896#32
  let v773 : BitVec 32 := Scalar.addi v718 c896_i32
  v773
def k0_off100 (k0_t2 : Fin k0_t2_loop.trips) (c0_i32_268 : BitVec 32) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let v711 : BitVec 32 := Scalar.addi v710 c0_i32_268
  let v779 : Index := Scalar.indexCast v711
  let c0_284 : Index := 0#32
  let c1024_285 : Index := 1024#32
  ![v779.toNat, 0, 1024]
def k0_mult25 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c0_i32_286 : BitVec 32 := 0#32
  let v782 : BitVec 32 := Scalar.addi v718 c0_i32_286
  v782
def k0_mult26 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c128_i32_288 : BitVec 32 := 128#32
  let v796 : BitVec 32 := Scalar.addi v718 c128_i32_288
  v796
def k0_mult27 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c256_i32_290 : BitVec 32 := 256#32
  let v802 : BitVec 32 := Scalar.addi v718 c256_i32_290
  v802
def k0_mult28 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c384_i32_292 : BitVec 32 := 384#32
  let v808 : BitVec 32 := Scalar.addi v718 c384_i32_292
  v808
def k0_mult29 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c512_i32_294 : BitVec 32 := 512#32
  let v814 : BitVec 32 := Scalar.addi v718 c512_i32_294
  v814
def k0_mult30 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c640_i32_296 : BitVec 32 := 640#32
  let v820 : BitVec 32 := Scalar.addi v718 c640_i32_296
  v820
def k0_mult31 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c768_i32_298 : BitVec 32 := 768#32
  let v826 : BitVec 32 := Scalar.addi v718 c768_i32_298
  v826
def k0_mult32 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c896_i32_300 : BitVec 32 := 896#32
  let v832 : BitVec 32 := Scalar.addi v718 c896_i32_300
  v832
def k0_off101 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v838 : Index := Scalar.indexCast v711
  let c0_302 : Index := 0#32
  let c1024_303 : Index := 1024#32
  ![v838.toNat, 0, 1024]
def k0_mult33 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c0_i32_304 : BitVec 32 := 0#32
  let v841 : BitVec 32 := Scalar.addi v718 c0_i32_304
  v841
def k0_off102 (k0_t2 : Fin k0_t2_loop.trips) (v713 : BitVec 32) (c0_i32_304 : BitVec 32) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v843 : Index := Scalar.indexCast v711
  let c0_305 : Index := 0#32
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let v841 : BitVec 32 := Scalar.addi v718 c0_i32_304
  let v842 : BitVec 32 := v841
  let v844 : Index := Scalar.indexCast v842
  ![v843.toNat, 0, v844.toNat]
def k0_mult34 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c128_i32_306 : BitVec 32 := 128#32
  let v850 : BitVec 32 := Scalar.addi v718 c128_i32_306
  v850
def k0_mult35 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c256_i32_308 : BitVec 32 := 256#32
  let v856 : BitVec 32 := Scalar.addi v718 c256_i32_308
  v856
def k0_mult36 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c384_i32_310 : BitVec 32 := 384#32
  let v862 : BitVec 32 := Scalar.addi v718 c384_i32_310
  v862
def k0_mult37 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c512_i32_312 : BitVec 32 := 512#32
  let v868 : BitVec 32 := Scalar.addi v718 c512_i32_312
  v868
def k0_mult38 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c640_i32_314 : BitVec 32 := 640#32
  let v874 : BitVec 32 := Scalar.addi v718 c640_i32_314
  v874
def k0_mult39 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c768_i32_316 : BitVec 32 := 768#32
  let v880 : BitVec 32 := Scalar.addi v718 c768_i32_316
  v880
def k0_mult40 (v713 : BitVec 32) : BitVec 32 :=
  let c1024_i32_269 : BitVec 32 := 1024#32
  let v714 : BitVec 32 := Scalar.subi v713 c1024_i32_269
  let c7_i32_270 : BitVec 32 := 7#32
  let v715 : BitVec 32 := Scalar.shrui v714 c7_i32_270
  let c128_i32_271 : BitVec 32 := 128#32
  let v716 : BitVec 32 := Scalar.muli v715 c128_i32_271
  let c31616_i32_272 : BitVec 32 := 31616#32
  let v717 : BitVec 32 := Scalar.minsi v716 c31616_i32_272
  let v718 : BitVec 32 := Scalar.subi v716 v717
  let c896_i32_318 : BitVec 32 := 896#32
  let v886 : BitVec 32 := Scalar.addi v718 c896_i32_318
  v886

def k0_chk17 (k0_t2 : Fin k0_t2_loop.trips) (v713 : BitVec 32) : Prop :=
  (128 ∣ (k0_mult17 v713).toNat) ∧
  (∀ (r : Fin 8), ∀ a, (k0_off99 k0_t2 v713 (BitVec.ofNat 32 (128 * r.val))) a + S1x64x128.size a ≤ S64x64x1152.size a) ∧
  (128 ∣ (k0_mult18 v713).toNat) ∧
  (128 ∣ (k0_mult19 v713).toNat) ∧
  (128 ∣ (k0_mult20 v713).toNat) ∧
  (128 ∣ (k0_mult21 v713).toNat) ∧
  (128 ∣ (k0_mult22 v713).toNat) ∧
  (128 ∣ (k0_mult23 v713).toNat) ∧
  (128 ∣ (k0_mult24 v713).toNat) ∧
  (128 ∣ (k0_mult25 v713).toNat) ∧
  (128 ∣ (k0_mult26 v713).toNat) ∧
  (128 ∣ (k0_mult27 v713).toNat) ∧
  (128 ∣ (k0_mult28 v713).toNat) ∧
  (128 ∣ (k0_mult29 v713).toNat) ∧
  (128 ∣ (k0_mult30 v713).toNat) ∧
  (128 ∣ (k0_mult31 v713).toNat) ∧
  (128 ∣ (k0_mult32 v713).toNat) ∧
  (128 ∣ (k0_mult33 v713).toNat) ∧
  (∀ (r : Fin 8), ∀ a, (k0_off102 k0_t2 v713 (BitVec.ofNat 32 (128 * r.val))) a + S1x1x128.size a ≤ S64x1x1152.size a) ∧
  (128 ∣ (k0_mult34 v713).toNat) ∧
  (128 ∣ (k0_mult35 v713).toNat) ∧
  (128 ∣ (k0_mult36 v713).toNat) ∧
  (128 ∣ (k0_mult37 v713).toNat) ∧
  (128 ∣ (k0_mult38 v713).toNat) ∧
  (128 ∣ (k0_mult39 v713).toNat) ∧
  (128 ∣ (k0_mult40 v713).toNat)
theorem k0_mult17_dvd : ∀ (k0_t2 : Fin k0_t2_loop.trips) (v713 : BitVec 32) (k0_hw17 : k0_chk17 k0_t2 v713), 128 ∣ (k0_mult17 v713).toNat := fun k0_t2 v713 k0_hw17 => k0_hw17.1
theorem k0_off99_inb : ∀ (k0_t2 : Fin k0_t2_loop.trips) (v713 : BitVec 32) (k0_hw17 : k0_chk17 k0_t2 v713), ∀ (r : Fin 8), ∀ a, (k0_off99 k0_t2 v713 (BitVec.ofNat 32 (128 * r.val))) a + S1x64x128.size a ≤ S64x64x1152.size a := fun k0_t2 v713 k0_hw17 r => k0_hw17.2.1 r
theorem k0_mult18_dvd : ∀ (k0_t2 : Fin k0_t2_loop.trips) (v713 : BitVec 32) (k0_hw17 : k0_chk17 k0_t2 v713), 128 ∣ (k0_mult18 v713).toNat := fun k0_t2 v713 k0_hw17 => k0_hw17.2.2.1
theorem k0_mult19_dvd : ∀ (k0_t2 : Fin k0_t2_loop.trips) (v713 : BitVec 32) (k0_hw17 : k0_chk17 k0_t2 v713), 128 ∣ (k0_mult19 v713).toNat := fun k0_t2 v713 k0_hw17 => k0_hw17.2.2.2.1
theorem k0_mult20_dvd : ∀ (k0_t2 : Fin k0_t2_loop.trips) (v713 : BitVec 32) (k0_hw17 : k0_chk17 k0_t2 v713), 128 ∣ (k0_mult20 v713).toNat := fun k0_t2 v713 k0_hw17 => k0_hw17.2.2.2.2.1
theorem k0_mult21_dvd : ∀ (k0_t2 : Fin k0_t2_loop.trips) (v713 : BitVec 32) (k0_hw17 : k0_chk17 k0_t2 v713), 128 ∣ (k0_mult21 v713).toNat := fun k0_t2 v713 k0_hw17 => k0_hw17.2.2.2.2.2.1
theorem k0_mult22_dvd : ∀ (k0_t2 : Fin k0_t2_loop.trips) (v713 : BitVec 32) (k0_hw17 : k0_chk17 k0_t2 v713), 128 ∣ (k0_mult22 v713).toNat := fun k0_t2 v713 k0_hw17 => k0_hw17.2.2.2.2.2.2.1
theorem k0_mult23_dvd : ∀ (k0_t2 : Fin k0_t2_loop.trips) (v713 : BitVec 32) (k0_hw17 : k0_chk17 k0_t2 v713), 128 ∣ (k0_mult23 v713).toNat := fun k0_t2 v713 k0_hw17 => k0_hw17.2.2.2.2.2.2.2.1
theorem k0_mult24_dvd : ∀ (k0_t2 : Fin k0_t2_loop.trips) (v713 : BitVec 32) (k0_hw17 : k0_chk17 k0_t2 v713), 128 ∣ (k0_mult24 v713).toNat := fun k0_t2 v713 k0_hw17 => k0_hw17.2.2.2.2.2.2.2.2.1
theorem k0_mult25_dvd : ∀ (k0_t2 : Fin k0_t2_loop.trips) (v713 : BitVec 32) (k0_hw17 : k0_chk17 k0_t2 v713), 128 ∣ (k0_mult25 v713).toNat := fun k0_t2 v713 k0_hw17 => k0_hw17.2.2.2.2.2.2.2.2.2.1
theorem k0_mult26_dvd : ∀ (k0_t2 : Fin k0_t2_loop.trips) (v713 : BitVec 32) (k0_hw17 : k0_chk17 k0_t2 v713), 128 ∣ (k0_mult26 v713).toNat := fun k0_t2 v713 k0_hw17 => k0_hw17.2.2.2.2.2.2.2.2.2.2.1
theorem k0_mult27_dvd : ∀ (k0_t2 : Fin k0_t2_loop.trips) (v713 : BitVec 32) (k0_hw17 : k0_chk17 k0_t2 v713), 128 ∣ (k0_mult27 v713).toNat := fun k0_t2 v713 k0_hw17 => k0_hw17.2.2.2.2.2.2.2.2.2.2.2.1
theorem k0_mult28_dvd : ∀ (k0_t2 : Fin k0_t2_loop.trips) (v713 : BitVec 32) (k0_hw17 : k0_chk17 k0_t2 v713), 128 ∣ (k0_mult28 v713).toNat := fun k0_t2 v713 k0_hw17 => k0_hw17.2.2.2.2.2.2.2.2.2.2.2.2.1
theorem k0_mult29_dvd : ∀ (k0_t2 : Fin k0_t2_loop.trips) (v713 : BitVec 32) (k0_hw17 : k0_chk17 k0_t2 v713), 128 ∣ (k0_mult29 v713).toNat := fun k0_t2 v713 k0_hw17 => k0_hw17.2.2.2.2.2.2.2.2.2.2.2.2.2.1
theorem k0_mult30_dvd : ∀ (k0_t2 : Fin k0_t2_loop.trips) (v713 : BitVec 32) (k0_hw17 : k0_chk17 k0_t2 v713), 128 ∣ (k0_mult30 v713).toNat := fun k0_t2 v713 k0_hw17 => k0_hw17.2.2.2.2.2.2.2.2.2.2.2.2.2.2.1
theorem k0_mult31_dvd : ∀ (k0_t2 : Fin k0_t2_loop.trips) (v713 : BitVec 32) (k0_hw17 : k0_chk17 k0_t2 v713), 128 ∣ (k0_mult31 v713).toNat := fun k0_t2 v713 k0_hw17 => k0_hw17.2.2.2.2.2.2.2.2.2.2.2.2.2.2.2.1
theorem k0_mult32_dvd : ∀ (k0_t2 : Fin k0_t2_loop.trips) (v713 : BitVec 32) (k0_hw17 : k0_chk17 k0_t2 v713), 128 ∣ (k0_mult32 v713).toNat := fun k0_t2 v713 k0_hw17 => k0_hw17.2.2.2.2.2.2.2.2.2.2.2.2.2.2.2.2.1
theorem k0_mult33_dvd : ∀ (k0_t2 : Fin k0_t2_loop.trips) (v713 : BitVec 32) (k0_hw17 : k0_chk17 k0_t2 v713), 128 ∣ (k0_mult33 v713).toNat := fun k0_t2 v713 k0_hw17 => k0_hw17.2.2.2.2.2.2.2.2.2.2.2.2.2.2.2.2.2.1
theorem k0_off102_inb : ∀ (k0_t2 : Fin k0_t2_loop.trips) (v713 : BitVec 32) (k0_hw17 : k0_chk17 k0_t2 v713), ∀ (r : Fin 8), ∀ a, (k0_off102 k0_t2 v713 (BitVec.ofNat 32 (128 * r.val))) a + S1x1x128.size a ≤ S64x1x1152.size a := fun k0_t2 v713 k0_hw17 r => k0_hw17.2.2.2.2.2.2.2.2.2.2.2.2.2.2.2.2.2.2.1 r
theorem k0_mult34_dvd : ∀ (k0_t2 : Fin k0_t2_loop.trips) (v713 : BitVec 32) (k0_hw17 : k0_chk17 k0_t2 v713), 128 ∣ (k0_mult34 v713).toNat := fun k0_t2 v713 k0_hw17 => k0_hw17.2.2.2.2.2.2.2.2.2.2.2.2.2.2.2.2.2.2.2.1
theorem k0_mult35_dvd : ∀ (k0_t2 : Fin k0_t2_loop.trips) (v713 : BitVec 32) (k0_hw17 : k0_chk17 k0_t2 v713), 128 ∣ (k0_mult35 v713).toNat := fun k0_t2 v713 k0_hw17 => k0_hw17.2.2.2.2.2.2.2.2.2.2.2.2.2.2.2.2.2.2.2.2.1
theorem k0_mult36_dvd : ∀ (k0_t2 : Fin k0_t2_loop.trips) (v713 : BitVec 32) (k0_hw17 : k0_chk17 k0_t2 v713), 128 ∣ (k0_mult36 v713).toNat := fun k0_t2 v713 k0_hw17 => k0_hw17.2.2.2.2.2.2.2.2.2.2.2.2.2.2.2.2.2.2.2.2.2.1
theorem k0_mult37_dvd : ∀ (k0_t2 : Fin k0_t2_loop.trips) (v713 : BitVec 32) (k0_hw17 : k0_chk17 k0_t2 v713), 128 ∣ (k0_mult37 v713).toNat := fun k0_t2 v713 k0_hw17 => k0_hw17.2.2.2.2.2.2.2.2.2.2.2.2.2.2.2.2.2.2.2.2.2.2.1
theorem k0_mult38_dvd : ∀ (k0_t2 : Fin k0_t2_loop.trips) (v713 : BitVec 32) (k0_hw17 : k0_chk17 k0_t2 v713), 128 ∣ (k0_mult38 v713).toNat := fun k0_t2 v713 k0_hw17 => k0_hw17.2.2.2.2.2.2.2.2.2.2.2.2.2.2.2.2.2.2.2.2.2.2.2.1
theorem k0_mult39_dvd : ∀ (k0_t2 : Fin k0_t2_loop.trips) (v713 : BitVec 32) (k0_hw17 : k0_chk17 k0_t2 v713), 128 ∣ (k0_mult39 v713).toNat := fun k0_t2 v713 k0_hw17 => k0_hw17.2.2.2.2.2.2.2.2.2.2.2.2.2.2.2.2.2.2.2.2.2.2.2.2.1
theorem k0_mult40_dvd : ∀ (k0_t2 : Fin k0_t2_loop.trips) (v713 : BitVec 32) (k0_hw17 : k0_chk17 k0_t2 v713), 128 ∣ (k0_mult40 v713).toNat := fun k0_t2 v713 k0_hw17 => k0_hw17.2.2.2.2.2.2.2.2.2.2.2.2.2.2.2.2.2.2.2.2.2.2.2.2.2

def k0_off103 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v892 : Index := Scalar.indexCast v711
  let c0_320 : Index := 0#32
  let c0_321 : Index := 0#32
  ![v892.toNat, 0, 0]
def k0_off104 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v912 : Index := Scalar.indexCast v711
  let c0_322 : Index := 0#32
  let c0_323 : Index := 0#32
  ![v912.toNat, 0, 0]
def k0_off105 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_267 : BitVec 32 := 8#32
  let v710 : BitVec 32 := Scalar.muli arg19 c8_i32_267
  let c0_i32_268 : BitVec 32 := 0#32
  let v711 : BitVec 32 := Scalar.addi v710 c0_i32_268
  let v918 : Index := Scalar.indexCast v711
  let c0_326 : Index := 0#32
  ![v918.toNat, 0]
def k0_off106 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v982 : Index := Scalar.indexCast v981
  ![v982.toNat]
def k0_mult41 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c0_i32_345 : BitVec 32 := 0#32
  let v993 : BitVec 32 := Scalar.addi v988 c0_i32_345
  v993

def k0_off107 (k0_t2 : Fin k0_t2_loop.trips) (v983 : BitVec 32) (c0_i32_345 : BitVec 32) : Fin 3 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v995 : Index := Scalar.indexCast v981
  let c0_346 : Index := 0#32
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let v993 : BitVec 32 := Scalar.addi v988 c0_i32_345
  let v994 : BitVec 32 := v993
  let v996 : Index := Scalar.indexCast v994
  ![v995.toNat, 0, v996.toNat]
def k0_mult42 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c128_i32_347 : BitVec 32 := 128#32
  let v1007 : BitVec 32 := Scalar.addi v988 c128_i32_347
  v1007
def k0_mult43 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c256_i32_349 : BitVec 32 := 256#32
  let v1013 : BitVec 32 := Scalar.addi v988 c256_i32_349
  v1013
def k0_mult44 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c384_i32_351 : BitVec 32 := 384#32
  let v1019 : BitVec 32 := Scalar.addi v988 c384_i32_351
  v1019
def k0_mult45 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c512_i32_353 : BitVec 32 := 512#32
  let v1025 : BitVec 32 := Scalar.addi v988 c512_i32_353
  v1025
def k0_mult46 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c640_i32_355 : BitVec 32 := 640#32
  let v1031 : BitVec 32 := Scalar.addi v988 c640_i32_355
  v1031
def k0_mult47 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c768_i32_357 : BitVec 32 := 768#32
  let v1037 : BitVec 32 := Scalar.addi v988 c768_i32_357
  v1037
def k0_mult48 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c896_i32_359 : BitVec 32 := 896#32
  let v1043 : BitVec 32 := Scalar.addi v988 c896_i32_359
  v1043
def k0_off108 (k0_t2 : Fin k0_t2_loop.trips) (c1_i32_337 : BitVec 32) : Fin 3 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let v981 : BitVec 32 := Scalar.addi v980 c1_i32_337
  let v1049 : Index := Scalar.indexCast v981
  let c0_361 : Index := 0#32
  let c1024_362 : Index := 1024#32
  ![v1049.toNat, 0, 1024]
def k0_mult49 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c0_i32_363 : BitVec 32 := 0#32
  let v1052 : BitVec 32 := Scalar.addi v988 c0_i32_363
  v1052
def k0_mult50 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c128_i32_365 : BitVec 32 := 128#32
  let v1066 : BitVec 32 := Scalar.addi v988 c128_i32_365
  v1066
def k0_mult51 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c256_i32_367 : BitVec 32 := 256#32
  let v1072 : BitVec 32 := Scalar.addi v988 c256_i32_367
  v1072
def k0_mult52 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c384_i32_369 : BitVec 32 := 384#32
  let v1078 : BitVec 32 := Scalar.addi v988 c384_i32_369
  v1078
def k0_mult53 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c512_i32_371 : BitVec 32 := 512#32
  let v1084 : BitVec 32 := Scalar.addi v988 c512_i32_371
  v1084
def k0_mult54 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c640_i32_373 : BitVec 32 := 640#32
  let v1090 : BitVec 32 := Scalar.addi v988 c640_i32_373
  v1090
def k0_mult55 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c768_i32_375 : BitVec 32 := 768#32
  let v1096 : BitVec 32 := Scalar.addi v988 c768_i32_375
  v1096
def k0_mult56 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c896_i32_377 : BitVec 32 := 896#32
  let v1102 : BitVec 32 := Scalar.addi v988 c896_i32_377
  v1102
def k0_off109 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v1108 : Index := Scalar.indexCast v981
  let c0_379 : Index := 0#32
  let c1024_380 : Index := 1024#32
  ![v1108.toNat, 0, 1024]
def k0_mult57 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c0_i32_381 : BitVec 32 := 0#32
  let v1111 : BitVec 32 := Scalar.addi v988 c0_i32_381
  v1111
def k0_off110 (k0_t2 : Fin k0_t2_loop.trips) (v983 : BitVec 32) (c0_i32_381 : BitVec 32) : Fin 3 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v1113 : Index := Scalar.indexCast v981
  let c0_382 : Index := 0#32
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let v1111 : BitVec 32 := Scalar.addi v988 c0_i32_381
  let v1112 : BitVec 32 := v1111
  let v1114 : Index := Scalar.indexCast v1112
  ![v1113.toNat, 0, v1114.toNat]
def k0_mult58 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c128_i32_383 : BitVec 32 := 128#32
  let v1120 : BitVec 32 := Scalar.addi v988 c128_i32_383
  v1120
def k0_mult59 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c256_i32_385 : BitVec 32 := 256#32
  let v1126 : BitVec 32 := Scalar.addi v988 c256_i32_385
  v1126
def k0_mult60 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c384_i32_387 : BitVec 32 := 384#32
  let v1132 : BitVec 32 := Scalar.addi v988 c384_i32_387
  v1132
def k0_mult61 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c512_i32_389 : BitVec 32 := 512#32
  let v1138 : BitVec 32 := Scalar.addi v988 c512_i32_389
  v1138
def k0_mult62 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c640_i32_391 : BitVec 32 := 640#32
  let v1144 : BitVec 32 := Scalar.addi v988 c640_i32_391
  v1144
def k0_mult63 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c768_i32_393 : BitVec 32 := 768#32
  let v1150 : BitVec 32 := Scalar.addi v988 c768_i32_393
  v1150
def k0_mult64 (v983 : BitVec 32) : BitVec 32 :=
  let c1024_i32_338 : BitVec 32 := 1024#32
  let v984 : BitVec 32 := Scalar.subi v983 c1024_i32_338
  let c7_i32_339 : BitVec 32 := 7#32
  let v985 : BitVec 32 := Scalar.shrui v984 c7_i32_339
  let c128_i32_340 : BitVec 32 := 128#32
  let v986 : BitVec 32 := Scalar.muli v985 c128_i32_340
  let c31616_i32_341 : BitVec 32 := 31616#32
  let v987 : BitVec 32 := Scalar.minsi v986 c31616_i32_341
  let v988 : BitVec 32 := Scalar.subi v986 v987
  let c896_i32_395 : BitVec 32 := 896#32
  let v1156 : BitVec 32 := Scalar.addi v988 c896_i32_395
  v1156

def k0_chk18 (k0_t2 : Fin k0_t2_loop.trips) (v983 : BitVec 32) : Prop :=
  (128 ∣ (k0_mult41 v983).toNat) ∧
  (∀ (r : Fin 8), ∀ a, (k0_off107 k0_t2 v983 (BitVec.ofNat 32 (128 * r.val))) a + S1x64x128.size a ≤ S64x64x1152.size a) ∧
  (128 ∣ (k0_mult42 v983).toNat) ∧
  (128 ∣ (k0_mult43 v983).toNat) ∧
  (128 ∣ (k0_mult44 v983).toNat) ∧
  (128 ∣ (k0_mult45 v983).toNat) ∧
  (128 ∣ (k0_mult46 v983).toNat) ∧
  (128 ∣ (k0_mult47 v983).toNat) ∧
  (128 ∣ (k0_mult48 v983).toNat) ∧
  (128 ∣ (k0_mult49 v983).toNat) ∧
  (128 ∣ (k0_mult50 v983).toNat) ∧
  (128 ∣ (k0_mult51 v983).toNat) ∧
  (128 ∣ (k0_mult52 v983).toNat) ∧
  (128 ∣ (k0_mult53 v983).toNat) ∧
  (128 ∣ (k0_mult54 v983).toNat) ∧
  (128 ∣ (k0_mult55 v983).toNat) ∧
  (128 ∣ (k0_mult56 v983).toNat) ∧
  (128 ∣ (k0_mult57 v983).toNat) ∧
  (∀ (r : Fin 8), ∀ a, (k0_off110 k0_t2 v983 (BitVec.ofNat 32 (128 * r.val))) a + S1x1x128.size a ≤ S64x1x1152.size a) ∧
  (128 ∣ (k0_mult58 v983).toNat) ∧
  (128 ∣ (k0_mult59 v983).toNat) ∧
  (128 ∣ (k0_mult60 v983).toNat) ∧
  (128 ∣ (k0_mult61 v983).toNat) ∧
  (128 ∣ (k0_mult62 v983).toNat) ∧
  (128 ∣ (k0_mult63 v983).toNat) ∧
  (128 ∣ (k0_mult64 v983).toNat)
theorem k0_mult41_dvd : ∀ (k0_t2 : Fin k0_t2_loop.trips) (v983 : BitVec 32) (k0_hw18 : k0_chk18 k0_t2 v983), 128 ∣ (k0_mult41 v983).toNat := fun k0_t2 v983 k0_hw18 => k0_hw18.1
theorem k0_off107_inb : ∀ (k0_t2 : Fin k0_t2_loop.trips) (v983 : BitVec 32) (k0_hw18 : k0_chk18 k0_t2 v983), ∀ (r : Fin 8), ∀ a, (k0_off107 k0_t2 v983 (BitVec.ofNat 32 (128 * r.val))) a + S1x64x128.size a ≤ S64x64x1152.size a := fun k0_t2 v983 k0_hw18 r => k0_hw18.2.1 r
theorem k0_mult42_dvd : ∀ (k0_t2 : Fin k0_t2_loop.trips) (v983 : BitVec 32) (k0_hw18 : k0_chk18 k0_t2 v983), 128 ∣ (k0_mult42 v983).toNat := fun k0_t2 v983 k0_hw18 => k0_hw18.2.2.1
theorem k0_mult43_dvd : ∀ (k0_t2 : Fin k0_t2_loop.trips) (v983 : BitVec 32) (k0_hw18 : k0_chk18 k0_t2 v983), 128 ∣ (k0_mult43 v983).toNat := fun k0_t2 v983 k0_hw18 => k0_hw18.2.2.2.1
theorem k0_mult44_dvd : ∀ (k0_t2 : Fin k0_t2_loop.trips) (v983 : BitVec 32) (k0_hw18 : k0_chk18 k0_t2 v983), 128 ∣ (k0_mult44 v983).toNat := fun k0_t2 v983 k0_hw18 => k0_hw18.2.2.2.2.1
theorem k0_mult45_dvd : ∀ (k0_t2 : Fin k0_t2_loop.trips) (v983 : BitVec 32) (k0_hw18 : k0_chk18 k0_t2 v983), 128 ∣ (k0_mult45 v983).toNat := fun k0_t2 v983 k0_hw18 => k0_hw18.2.2.2.2.2.1
theorem k0_mult46_dvd : ∀ (k0_t2 : Fin k0_t2_loop.trips) (v983 : BitVec 32) (k0_hw18 : k0_chk18 k0_t2 v983), 128 ∣ (k0_mult46 v983).toNat := fun k0_t2 v983 k0_hw18 => k0_hw18.2.2.2.2.2.2.1
theorem k0_mult47_dvd : ∀ (k0_t2 : Fin k0_t2_loop.trips) (v983 : BitVec 32) (k0_hw18 : k0_chk18 k0_t2 v983), 128 ∣ (k0_mult47 v983).toNat := fun k0_t2 v983 k0_hw18 => k0_hw18.2.2.2.2.2.2.2.1
theorem k0_mult48_dvd : ∀ (k0_t2 : Fin k0_t2_loop.trips) (v983 : BitVec 32) (k0_hw18 : k0_chk18 k0_t2 v983), 128 ∣ (k0_mult48 v983).toNat := fun k0_t2 v983 k0_hw18 => k0_hw18.2.2.2.2.2.2.2.2.1
theorem k0_mult49_dvd : ∀ (k0_t2 : Fin k0_t2_loop.trips) (v983 : BitVec 32) (k0_hw18 : k0_chk18 k0_t2 v983), 128 ∣ (k0_mult49 v983).toNat := fun k0_t2 v983 k0_hw18 => k0_hw18.2.2.2.2.2.2.2.2.2.1
theorem k0_mult50_dvd : ∀ (k0_t2 : Fin k0_t2_loop.trips) (v983 : BitVec 32) (k0_hw18 : k0_chk18 k0_t2 v983), 128 ∣ (k0_mult50 v983).toNat := fun k0_t2 v983 k0_hw18 => k0_hw18.2.2.2.2.2.2.2.2.2.2.1
theorem k0_mult51_dvd : ∀ (k0_t2 : Fin k0_t2_loop.trips) (v983 : BitVec 32) (k0_hw18 : k0_chk18 k0_t2 v983), 128 ∣ (k0_mult51 v983).toNat := fun k0_t2 v983 k0_hw18 => k0_hw18.2.2.2.2.2.2.2.2.2.2.2.1
theorem k0_mult52_dvd : ∀ (k0_t2 : Fin k0_t2_loop.trips) (v983 : BitVec 32) (k0_hw18 : k0_chk18 k0_t2 v983), 128 ∣ (k0_mult52 v983).toNat := fun k0_t2 v983 k0_hw18 => k0_hw18.2.2.2.2.2.2.2.2.2.2.2.2.1
theorem k0_mult53_dvd : ∀ (k0_t2 : Fin k0_t2_loop.trips) (v983 : BitVec 32) (k0_hw18 : k0_chk18 k0_t2 v983), 128 ∣ (k0_mult53 v983).toNat := fun k0_t2 v983 k0_hw18 => k0_hw18.2.2.2.2.2.2.2.2.2.2.2.2.2.1
theorem k0_mult54_dvd : ∀ (k0_t2 : Fin k0_t2_loop.trips) (v983 : BitVec 32) (k0_hw18 : k0_chk18 k0_t2 v983), 128 ∣ (k0_mult54 v983).toNat := fun k0_t2 v983 k0_hw18 => k0_hw18.2.2.2.2.2.2.2.2.2.2.2.2.2.2.1
theorem k0_mult55_dvd : ∀ (k0_t2 : Fin k0_t2_loop.trips) (v983 : BitVec 32) (k0_hw18 : k0_chk18 k0_t2 v983), 128 ∣ (k0_mult55 v983).toNat := fun k0_t2 v983 k0_hw18 => k0_hw18.2.2.2.2.2.2.2.2.2.2.2.2.2.2.2.1
theorem k0_mult56_dvd : ∀ (k0_t2 : Fin k0_t2_loop.trips) (v983 : BitVec 32) (k0_hw18 : k0_chk18 k0_t2 v983), 128 ∣ (k0_mult56 v983).toNat := fun k0_t2 v983 k0_hw18 => k0_hw18.2.2.2.2.2.2.2.2.2.2.2.2.2.2.2.2.1
theorem k0_mult57_dvd : ∀ (k0_t2 : Fin k0_t2_loop.trips) (v983 : BitVec 32) (k0_hw18 : k0_chk18 k0_t2 v983), 128 ∣ (k0_mult57 v983).toNat := fun k0_t2 v983 k0_hw18 => k0_hw18.2.2.2.2.2.2.2.2.2.2.2.2.2.2.2.2.2.1
theorem k0_off110_inb : ∀ (k0_t2 : Fin k0_t2_loop.trips) (v983 : BitVec 32) (k0_hw18 : k0_chk18 k0_t2 v983), ∀ (r : Fin 8), ∀ a, (k0_off110 k0_t2 v983 (BitVec.ofNat 32 (128 * r.val))) a + S1x1x128.size a ≤ S64x1x1152.size a := fun k0_t2 v983 k0_hw18 r => k0_hw18.2.2.2.2.2.2.2.2.2.2.2.2.2.2.2.2.2.2.1 r
theorem k0_mult58_dvd : ∀ (k0_t2 : Fin k0_t2_loop.trips) (v983 : BitVec 32) (k0_hw18 : k0_chk18 k0_t2 v983), 128 ∣ (k0_mult58 v983).toNat := fun k0_t2 v983 k0_hw18 => k0_hw18.2.2.2.2.2.2.2.2.2.2.2.2.2.2.2.2.2.2.2.1
theorem k0_mult59_dvd : ∀ (k0_t2 : Fin k0_t2_loop.trips) (v983 : BitVec 32) (k0_hw18 : k0_chk18 k0_t2 v983), 128 ∣ (k0_mult59 v983).toNat := fun k0_t2 v983 k0_hw18 => k0_hw18.2.2.2.2.2.2.2.2.2.2.2.2.2.2.2.2.2.2.2.2.1
theorem k0_mult60_dvd : ∀ (k0_t2 : Fin k0_t2_loop.trips) (v983 : BitVec 32) (k0_hw18 : k0_chk18 k0_t2 v983), 128 ∣ (k0_mult60 v983).toNat := fun k0_t2 v983 k0_hw18 => k0_hw18.2.2.2.2.2.2.2.2.2.2.2.2.2.2.2.2.2.2.2.2.2.1
theorem k0_mult61_dvd : ∀ (k0_t2 : Fin k0_t2_loop.trips) (v983 : BitVec 32) (k0_hw18 : k0_chk18 k0_t2 v983), 128 ∣ (k0_mult61 v983).toNat := fun k0_t2 v983 k0_hw18 => k0_hw18.2.2.2.2.2.2.2.2.2.2.2.2.2.2.2.2.2.2.2.2.2.2.1
theorem k0_mult62_dvd : ∀ (k0_t2 : Fin k0_t2_loop.trips) (v983 : BitVec 32) (k0_hw18 : k0_chk18 k0_t2 v983), 128 ∣ (k0_mult62 v983).toNat := fun k0_t2 v983 k0_hw18 => k0_hw18.2.2.2.2.2.2.2.2.2.2.2.2.2.2.2.2.2.2.2.2.2.2.2.1
theorem k0_mult63_dvd : ∀ (k0_t2 : Fin k0_t2_loop.trips) (v983 : BitVec 32) (k0_hw18 : k0_chk18 k0_t2 v983), 128 ∣ (k0_mult63 v983).toNat := fun k0_t2 v983 k0_hw18 => k0_hw18.2.2.2.2.2.2.2.2.2.2.2.2.2.2.2.2.2.2.2.2.2.2.2.2.1
theorem k0_mult64_dvd : ∀ (k0_t2 : Fin k0_t2_loop.trips) (v983 : BitVec 32) (k0_hw18 : k0_chk18 k0_t2 v983), 128 ∣ (k0_mult64 v983).toNat := fun k0_t2 v983 k0_hw18 => k0_hw18.2.2.2.2.2.2.2.2.2.2.2.2.2.2.2.2.2.2.2.2.2.2.2.2.2

def k0_off111 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v1162 : Index := Scalar.indexCast v981
  let c0_397 : Index := 0#32
  let c0_398 : Index := 0#32
  ![v1162.toNat, 0, 0]
def k0_off112 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v1182 : Index := Scalar.indexCast v981
  let c0_399 : Index := 0#32
  let c0_400 : Index := 0#32
  ![v1182.toNat, 0, 0]
def k0_off113 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_336 : BitVec 32 := 8#32
  let v980 : BitVec 32 := Scalar.muli arg19 c8_i32_336
  let c1_i32_337 : BitVec 32 := 1#32
  let v981 : BitVec 32 := Scalar.addi v980 c1_i32_337
  let v1188 : Index := Scalar.indexCast v981
  let c0_403 : Index := 0#32
  ![v1188.toNat, 0]
def k0_off114 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1252 : Index := Scalar.indexCast v1251
  ![v1252.toNat]
def k0_mult65 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c0_i32_422 : BitVec 32 := 0#32
  let v1263 : BitVec 32 := Scalar.addi v1258 c0_i32_422
  v1263

def k0_off115 (k0_t2 : Fin k0_t2_loop.trips) (v1253 : BitVec 32) (c0_i32_422 : BitVec 32) : Fin 3 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1265 : Index := Scalar.indexCast v1251
  let c0_423 : Index := 0#32
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let v1263 : BitVec 32 := Scalar.addi v1258 c0_i32_422
  let v1264 : BitVec 32 := v1263
  let v1266 : Index := Scalar.indexCast v1264
  ![v1265.toNat, 0, v1266.toNat]
def k0_mult66 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c128_i32_424 : BitVec 32 := 128#32
  let v1277 : BitVec 32 := Scalar.addi v1258 c128_i32_424
  v1277
def k0_mult67 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c256_i32_426 : BitVec 32 := 256#32
  let v1283 : BitVec 32 := Scalar.addi v1258 c256_i32_426
  v1283
def k0_mult68 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c384_i32_428 : BitVec 32 := 384#32
  let v1289 : BitVec 32 := Scalar.addi v1258 c384_i32_428
  v1289
def k0_mult69 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c512_i32_430 : BitVec 32 := 512#32
  let v1295 : BitVec 32 := Scalar.addi v1258 c512_i32_430
  v1295
def k0_mult70 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c640_i32_432 : BitVec 32 := 640#32
  let v1301 : BitVec 32 := Scalar.addi v1258 c640_i32_432
  v1301
def k0_mult71 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c768_i32_434 : BitVec 32 := 768#32
  let v1307 : BitVec 32 := Scalar.addi v1258 c768_i32_434
  v1307
def k0_mult72 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c896_i32_436 : BitVec 32 := 896#32
  let v1313 : BitVec 32 := Scalar.addi v1258 c896_i32_436
  v1313
def k0_off116 (k0_t2 : Fin k0_t2_loop.trips) (c2_i32_414 : BitVec 32) : Fin 3 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let v1251 : BitVec 32 := Scalar.addi v1250 c2_i32_414
  let v1319 : Index := Scalar.indexCast v1251
  let c0_438 : Index := 0#32
  let c1024_439 : Index := 1024#32
  ![v1319.toNat, 0, 1024]
def k0_mult73 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c0_i32_440 : BitVec 32 := 0#32
  let v1322 : BitVec 32 := Scalar.addi v1258 c0_i32_440
  v1322
def k0_mult74 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c128_i32_442 : BitVec 32 := 128#32
  let v1336 : BitVec 32 := Scalar.addi v1258 c128_i32_442
  v1336
def k0_mult75 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c256_i32_444 : BitVec 32 := 256#32
  let v1342 : BitVec 32 := Scalar.addi v1258 c256_i32_444
  v1342
def k0_mult76 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c384_i32_446 : BitVec 32 := 384#32
  let v1348 : BitVec 32 := Scalar.addi v1258 c384_i32_446
  v1348
def k0_mult77 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c512_i32_448 : BitVec 32 := 512#32
  let v1354 : BitVec 32 := Scalar.addi v1258 c512_i32_448
  v1354
def k0_mult78 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c640_i32_450 : BitVec 32 := 640#32
  let v1360 : BitVec 32 := Scalar.addi v1258 c640_i32_450
  v1360
def k0_mult79 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c768_i32_452 : BitVec 32 := 768#32
  let v1366 : BitVec 32 := Scalar.addi v1258 c768_i32_452
  v1366
def k0_mult80 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c896_i32_454 : BitVec 32 := 896#32
  let v1372 : BitVec 32 := Scalar.addi v1258 c896_i32_454
  v1372
def k0_off117 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1378 : Index := Scalar.indexCast v1251
  let c0_456 : Index := 0#32
  let c1024_457 : Index := 1024#32
  ![v1378.toNat, 0, 1024]
def k0_mult81 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c0_i32_458 : BitVec 32 := 0#32
  let v1381 : BitVec 32 := Scalar.addi v1258 c0_i32_458
  v1381
def k0_off118 (k0_t2 : Fin k0_t2_loop.trips) (v1253 : BitVec 32) (c0_i32_458 : BitVec 32) : Fin 3 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1383 : Index := Scalar.indexCast v1251
  let c0_459 : Index := 0#32
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let v1381 : BitVec 32 := Scalar.addi v1258 c0_i32_458
  let v1382 : BitVec 32 := v1381
  let v1384 : Index := Scalar.indexCast v1382
  ![v1383.toNat, 0, v1384.toNat]
def k0_mult82 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c128_i32_460 : BitVec 32 := 128#32
  let v1390 : BitVec 32 := Scalar.addi v1258 c128_i32_460
  v1390
def k0_mult83 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c256_i32_462 : BitVec 32 := 256#32
  let v1396 : BitVec 32 := Scalar.addi v1258 c256_i32_462
  v1396
def k0_mult84 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c384_i32_464 : BitVec 32 := 384#32
  let v1402 : BitVec 32 := Scalar.addi v1258 c384_i32_464
  v1402
def k0_mult85 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c512_i32_466 : BitVec 32 := 512#32
  let v1408 : BitVec 32 := Scalar.addi v1258 c512_i32_466
  v1408
def k0_mult86 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c640_i32_468 : BitVec 32 := 640#32
  let v1414 : BitVec 32 := Scalar.addi v1258 c640_i32_468
  v1414
def k0_mult87 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c768_i32_470 : BitVec 32 := 768#32
  let v1420 : BitVec 32 := Scalar.addi v1258 c768_i32_470
  v1420
def k0_mult88 (v1253 : BitVec 32) : BitVec 32 :=
  let c1024_i32_415 : BitVec 32 := 1024#32
  let v1254 : BitVec 32 := Scalar.subi v1253 c1024_i32_415
  let c7_i32_416 : BitVec 32 := 7#32
  let v1255 : BitVec 32 := Scalar.shrui v1254 c7_i32_416
  let c128_i32_417 : BitVec 32 := 128#32
  let v1256 : BitVec 32 := Scalar.muli v1255 c128_i32_417
  let c31616_i32_418 : BitVec 32 := 31616#32
  let v1257 : BitVec 32 := Scalar.minsi v1256 c31616_i32_418
  let v1258 : BitVec 32 := Scalar.subi v1256 v1257
  let c896_i32_472 : BitVec 32 := 896#32
  let v1426 : BitVec 32 := Scalar.addi v1258 c896_i32_472
  v1426

def k0_chk19 (k0_t2 : Fin k0_t2_loop.trips) (v1253 : BitVec 32) : Prop :=
  (128 ∣ (k0_mult65 v1253).toNat) ∧
  (∀ (r : Fin 8), ∀ a, (k0_off115 k0_t2 v1253 (BitVec.ofNat 32 (128 * r.val))) a + S1x64x128.size a ≤ S64x64x1152.size a) ∧
  (128 ∣ (k0_mult66 v1253).toNat) ∧
  (128 ∣ (k0_mult67 v1253).toNat) ∧
  (128 ∣ (k0_mult68 v1253).toNat) ∧
  (128 ∣ (k0_mult69 v1253).toNat) ∧
  (128 ∣ (k0_mult70 v1253).toNat) ∧
  (128 ∣ (k0_mult71 v1253).toNat) ∧
  (128 ∣ (k0_mult72 v1253).toNat) ∧
  (128 ∣ (k0_mult73 v1253).toNat) ∧
  (128 ∣ (k0_mult74 v1253).toNat) ∧
  (128 ∣ (k0_mult75 v1253).toNat) ∧
  (128 ∣ (k0_mult76 v1253).toNat) ∧
  (128 ∣ (k0_mult77 v1253).toNat) ∧
  (128 ∣ (k0_mult78 v1253).toNat) ∧
  (128 ∣ (k0_mult79 v1253).toNat) ∧
  (128 ∣ (k0_mult80 v1253).toNat) ∧
  (128 ∣ (k0_mult81 v1253).toNat) ∧
  (∀ (r : Fin 8), ∀ a, (k0_off118 k0_t2 v1253 (BitVec.ofNat 32 (128 * r.val))) a + S1x1x128.size a ≤ S64x1x1152.size a) ∧
  (128 ∣ (k0_mult82 v1253).toNat) ∧
  (128 ∣ (k0_mult83 v1253).toNat) ∧
  (128 ∣ (k0_mult84 v1253).toNat) ∧
  (128 ∣ (k0_mult85 v1253).toNat) ∧
  (128 ∣ (k0_mult86 v1253).toNat) ∧
  (128 ∣ (k0_mult87 v1253).toNat) ∧
  (128 ∣ (k0_mult88 v1253).toNat)
theorem k0_mult65_dvd : ∀ (k0_t2 : Fin k0_t2_loop.trips) (v1253 : BitVec 32) (k0_hw19 : k0_chk19 k0_t2 v1253), 128 ∣ (k0_mult65 v1253).toNat := fun k0_t2 v1253 k0_hw19 => k0_hw19.1
theorem k0_off115_inb : ∀ (k0_t2 : Fin k0_t2_loop.trips) (v1253 : BitVec 32) (k0_hw19 : k0_chk19 k0_t2 v1253), ∀ (r : Fin 8), ∀ a, (k0_off115 k0_t2 v1253 (BitVec.ofNat 32 (128 * r.val))) a + S1x64x128.size a ≤ S64x64x1152.size a := fun k0_t2 v1253 k0_hw19 r => k0_hw19.2.1 r
theorem k0_mult66_dvd : ∀ (k0_t2 : Fin k0_t2_loop.trips) (v1253 : BitVec 32) (k0_hw19 : k0_chk19 k0_t2 v1253), 128 ∣ (k0_mult66 v1253).toNat := fun k0_t2 v1253 k0_hw19 => k0_hw19.2.2.1
theorem k0_mult67_dvd : ∀ (k0_t2 : Fin k0_t2_loop.trips) (v1253 : BitVec 32) (k0_hw19 : k0_chk19 k0_t2 v1253), 128 ∣ (k0_mult67 v1253).toNat := fun k0_t2 v1253 k0_hw19 => k0_hw19.2.2.2.1
theorem k0_mult68_dvd : ∀ (k0_t2 : Fin k0_t2_loop.trips) (v1253 : BitVec 32) (k0_hw19 : k0_chk19 k0_t2 v1253), 128 ∣ (k0_mult68 v1253).toNat := fun k0_t2 v1253 k0_hw19 => k0_hw19.2.2.2.2.1
theorem k0_mult69_dvd : ∀ (k0_t2 : Fin k0_t2_loop.trips) (v1253 : BitVec 32) (k0_hw19 : k0_chk19 k0_t2 v1253), 128 ∣ (k0_mult69 v1253).toNat := fun k0_t2 v1253 k0_hw19 => k0_hw19.2.2.2.2.2.1
theorem k0_mult70_dvd : ∀ (k0_t2 : Fin k0_t2_loop.trips) (v1253 : BitVec 32) (k0_hw19 : k0_chk19 k0_t2 v1253), 128 ∣ (k0_mult70 v1253).toNat := fun k0_t2 v1253 k0_hw19 => k0_hw19.2.2.2.2.2.2.1
theorem k0_mult71_dvd : ∀ (k0_t2 : Fin k0_t2_loop.trips) (v1253 : BitVec 32) (k0_hw19 : k0_chk19 k0_t2 v1253), 128 ∣ (k0_mult71 v1253).toNat := fun k0_t2 v1253 k0_hw19 => k0_hw19.2.2.2.2.2.2.2.1
theorem k0_mult72_dvd : ∀ (k0_t2 : Fin k0_t2_loop.trips) (v1253 : BitVec 32) (k0_hw19 : k0_chk19 k0_t2 v1253), 128 ∣ (k0_mult72 v1253).toNat := fun k0_t2 v1253 k0_hw19 => k0_hw19.2.2.2.2.2.2.2.2.1
theorem k0_mult73_dvd : ∀ (k0_t2 : Fin k0_t2_loop.trips) (v1253 : BitVec 32) (k0_hw19 : k0_chk19 k0_t2 v1253), 128 ∣ (k0_mult73 v1253).toNat := fun k0_t2 v1253 k0_hw19 => k0_hw19.2.2.2.2.2.2.2.2.2.1
theorem k0_mult74_dvd : ∀ (k0_t2 : Fin k0_t2_loop.trips) (v1253 : BitVec 32) (k0_hw19 : k0_chk19 k0_t2 v1253), 128 ∣ (k0_mult74 v1253).toNat := fun k0_t2 v1253 k0_hw19 => k0_hw19.2.2.2.2.2.2.2.2.2.2.1
theorem k0_mult75_dvd : ∀ (k0_t2 : Fin k0_t2_loop.trips) (v1253 : BitVec 32) (k0_hw19 : k0_chk19 k0_t2 v1253), 128 ∣ (k0_mult75 v1253).toNat := fun k0_t2 v1253 k0_hw19 => k0_hw19.2.2.2.2.2.2.2.2.2.2.2.1
theorem k0_mult76_dvd : ∀ (k0_t2 : Fin k0_t2_loop.trips) (v1253 : BitVec 32) (k0_hw19 : k0_chk19 k0_t2 v1253), 128 ∣ (k0_mult76 v1253).toNat := fun k0_t2 v1253 k0_hw19 => k0_hw19.2.2.2.2.2.2.2.2.2.2.2.2.1
theorem k0_mult77_dvd : ∀ (k0_t2 : Fin k0_t2_loop.trips) (v1253 : BitVec 32) (k0_hw19 : k0_chk19 k0_t2 v1253), 128 ∣ (k0_mult77 v1253).toNat := fun k0_t2 v1253 k0_hw19 => k0_hw19.2.2.2.2.2.2.2.2.2.2.2.2.2.1
theorem k0_mult78_dvd : ∀ (k0_t2 : Fin k0_t2_loop.trips) (v1253 : BitVec 32) (k0_hw19 : k0_chk19 k0_t2 v1253), 128 ∣ (k0_mult78 v1253).toNat := fun k0_t2 v1253 k0_hw19 => k0_hw19.2.2.2.2.2.2.2.2.2.2.2.2.2.2.1
theorem k0_mult79_dvd : ∀ (k0_t2 : Fin k0_t2_loop.trips) (v1253 : BitVec 32) (k0_hw19 : k0_chk19 k0_t2 v1253), 128 ∣ (k0_mult79 v1253).toNat := fun k0_t2 v1253 k0_hw19 => k0_hw19.2.2.2.2.2.2.2.2.2.2.2.2.2.2.2.1
theorem k0_mult80_dvd : ∀ (k0_t2 : Fin k0_t2_loop.trips) (v1253 : BitVec 32) (k0_hw19 : k0_chk19 k0_t2 v1253), 128 ∣ (k0_mult80 v1253).toNat := fun k0_t2 v1253 k0_hw19 => k0_hw19.2.2.2.2.2.2.2.2.2.2.2.2.2.2.2.2.1
theorem k0_mult81_dvd : ∀ (k0_t2 : Fin k0_t2_loop.trips) (v1253 : BitVec 32) (k0_hw19 : k0_chk19 k0_t2 v1253), 128 ∣ (k0_mult81 v1253).toNat := fun k0_t2 v1253 k0_hw19 => k0_hw19.2.2.2.2.2.2.2.2.2.2.2.2.2.2.2.2.2.1
theorem k0_off118_inb : ∀ (k0_t2 : Fin k0_t2_loop.trips) (v1253 : BitVec 32) (k0_hw19 : k0_chk19 k0_t2 v1253), ∀ (r : Fin 8), ∀ a, (k0_off118 k0_t2 v1253 (BitVec.ofNat 32 (128 * r.val))) a + S1x1x128.size a ≤ S64x1x1152.size a := fun k0_t2 v1253 k0_hw19 r => k0_hw19.2.2.2.2.2.2.2.2.2.2.2.2.2.2.2.2.2.2.1 r
theorem k0_mult82_dvd : ∀ (k0_t2 : Fin k0_t2_loop.trips) (v1253 : BitVec 32) (k0_hw19 : k0_chk19 k0_t2 v1253), 128 ∣ (k0_mult82 v1253).toNat := fun k0_t2 v1253 k0_hw19 => k0_hw19.2.2.2.2.2.2.2.2.2.2.2.2.2.2.2.2.2.2.2.1
theorem k0_mult83_dvd : ∀ (k0_t2 : Fin k0_t2_loop.trips) (v1253 : BitVec 32) (k0_hw19 : k0_chk19 k0_t2 v1253), 128 ∣ (k0_mult83 v1253).toNat := fun k0_t2 v1253 k0_hw19 => k0_hw19.2.2.2.2.2.2.2.2.2.2.2.2.2.2.2.2.2.2.2.2.1
theorem k0_mult84_dvd : ∀ (k0_t2 : Fin k0_t2_loop.trips) (v1253 : BitVec 32) (k0_hw19 : k0_chk19 k0_t2 v1253), 128 ∣ (k0_mult84 v1253).toNat := fun k0_t2 v1253 k0_hw19 => k0_hw19.2.2.2.2.2.2.2.2.2.2.2.2.2.2.2.2.2.2.2.2.2.1
theorem k0_mult85_dvd : ∀ (k0_t2 : Fin k0_t2_loop.trips) (v1253 : BitVec 32) (k0_hw19 : k0_chk19 k0_t2 v1253), 128 ∣ (k0_mult85 v1253).toNat := fun k0_t2 v1253 k0_hw19 => k0_hw19.2.2.2.2.2.2.2.2.2.2.2.2.2.2.2.2.2.2.2.2.2.2.1
theorem k0_mult86_dvd : ∀ (k0_t2 : Fin k0_t2_loop.trips) (v1253 : BitVec 32) (k0_hw19 : k0_chk19 k0_t2 v1253), 128 ∣ (k0_mult86 v1253).toNat := fun k0_t2 v1253 k0_hw19 => k0_hw19.2.2.2.2.2.2.2.2.2.2.2.2.2.2.2.2.2.2.2.2.2.2.2.1
theorem k0_mult87_dvd : ∀ (k0_t2 : Fin k0_t2_loop.trips) (v1253 : BitVec 32) (k0_hw19 : k0_chk19 k0_t2 v1253), 128 ∣ (k0_mult87 v1253).toNat := fun k0_t2 v1253 k0_hw19 => k0_hw19.2.2.2.2.2.2.2.2.2.2.2.2.2.2.2.2.2.2.2.2.2.2.2.2.1
theorem k0_mult88_dvd : ∀ (k0_t2 : Fin k0_t2_loop.trips) (v1253 : BitVec 32) (k0_hw19 : k0_chk19 k0_t2 v1253), 128 ∣ (k0_mult88 v1253).toNat := fun k0_t2 v1253 k0_hw19 => k0_hw19.2.2.2.2.2.2.2.2.2.2.2.2.2.2.2.2.2.2.2.2.2.2.2.2.2

def k0_off119 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1432 : Index := Scalar.indexCast v1251
  let c0_474 : Index := 0#32
  let c0_475 : Index := 0#32
  ![v1432.toNat, 0, 0]
def k0_off120 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1452 : Index := Scalar.indexCast v1251
  let c0_476 : Index := 0#32
  let c0_477 : Index := 0#32
  ![v1452.toNat, 0, 0]
def k0_off121 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_413 : BitVec 32 := 8#32
  let v1250 : BitVec 32 := Scalar.muli arg19 c8_i32_413
  let c2_i32_414 : BitVec 32 := 2#32
  let v1251 : BitVec 32 := Scalar.addi v1250 c2_i32_414
  let v1458 : Index := Scalar.indexCast v1251
  let c0_480 : Index := 0#32
  ![v1458.toNat, 0]
def k0_off122 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1522 : Index := Scalar.indexCast v1521
  ![v1522.toNat]
def k0_mult89 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c0_i32_499 : BitVec 32 := 0#32
  let v1533 : BitVec 32 := Scalar.addi v1528 c0_i32_499
  v1533

def k0_off123 (k0_t2 : Fin k0_t2_loop.trips) (v1523 : BitVec 32) (c0_i32_499 : BitVec 32) : Fin 3 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1535 : Index := Scalar.indexCast v1521
  let c0_500 : Index := 0#32
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let v1533 : BitVec 32 := Scalar.addi v1528 c0_i32_499
  let v1534 : BitVec 32 := v1533
  let v1536 : Index := Scalar.indexCast v1534
  ![v1535.toNat, 0, v1536.toNat]
def k0_mult90 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c128_i32_501 : BitVec 32 := 128#32
  let v1547 : BitVec 32 := Scalar.addi v1528 c128_i32_501
  v1547
def k0_mult91 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c256_i32_503 : BitVec 32 := 256#32
  let v1553 : BitVec 32 := Scalar.addi v1528 c256_i32_503
  v1553
def k0_mult92 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c384_i32_505 : BitVec 32 := 384#32
  let v1559 : BitVec 32 := Scalar.addi v1528 c384_i32_505
  v1559
def k0_mult93 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c512_i32_507 : BitVec 32 := 512#32
  let v1565 : BitVec 32 := Scalar.addi v1528 c512_i32_507
  v1565
def k0_mult94 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c640_i32_509 : BitVec 32 := 640#32
  let v1571 : BitVec 32 := Scalar.addi v1528 c640_i32_509
  v1571
def k0_mult95 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c768_i32_511 : BitVec 32 := 768#32
  let v1577 : BitVec 32 := Scalar.addi v1528 c768_i32_511
  v1577
def k0_mult96 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c896_i32_513 : BitVec 32 := 896#32
  let v1583 : BitVec 32 := Scalar.addi v1528 c896_i32_513
  v1583
def k0_off124 (k0_t2 : Fin k0_t2_loop.trips) (c3_i32_491 : BitVec 32) : Fin 3 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let v1521 : BitVec 32 := Scalar.addi v1520 c3_i32_491
  let v1589 : Index := Scalar.indexCast v1521
  let c0_515 : Index := 0#32
  let c1024_516 : Index := 1024#32
  ![v1589.toNat, 0, 1024]
def k0_mult97 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c0_i32_517 : BitVec 32 := 0#32
  let v1592 : BitVec 32 := Scalar.addi v1528 c0_i32_517
  v1592
def k0_mult98 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c128_i32_519 : BitVec 32 := 128#32
  let v1606 : BitVec 32 := Scalar.addi v1528 c128_i32_519
  v1606
def k0_mult99 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c256_i32_521 : BitVec 32 := 256#32
  let v1612 : BitVec 32 := Scalar.addi v1528 c256_i32_521
  v1612
def k0_mult100 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c384_i32_523 : BitVec 32 := 384#32
  let v1618 : BitVec 32 := Scalar.addi v1528 c384_i32_523
  v1618
def k0_mult101 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c512_i32_525 : BitVec 32 := 512#32
  let v1624 : BitVec 32 := Scalar.addi v1528 c512_i32_525
  v1624
def k0_mult102 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c640_i32_527 : BitVec 32 := 640#32
  let v1630 : BitVec 32 := Scalar.addi v1528 c640_i32_527
  v1630
def k0_mult103 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c768_i32_529 : BitVec 32 := 768#32
  let v1636 : BitVec 32 := Scalar.addi v1528 c768_i32_529
  v1636
def k0_mult104 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c896_i32_531 : BitVec 32 := 896#32
  let v1642 : BitVec 32 := Scalar.addi v1528 c896_i32_531
  v1642
def k0_off125 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1648 : Index := Scalar.indexCast v1521
  let c0_533 : Index := 0#32
  let c1024_534 : Index := 1024#32
  ![v1648.toNat, 0, 1024]
def k0_mult105 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c0_i32_535 : BitVec 32 := 0#32
  let v1651 : BitVec 32 := Scalar.addi v1528 c0_i32_535
  v1651
def k0_off126 (k0_t2 : Fin k0_t2_loop.trips) (v1523 : BitVec 32) (c0_i32_535 : BitVec 32) : Fin 3 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1653 : Index := Scalar.indexCast v1521
  let c0_536 : Index := 0#32
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let v1651 : BitVec 32 := Scalar.addi v1528 c0_i32_535
  let v1652 : BitVec 32 := v1651
  let v1654 : Index := Scalar.indexCast v1652
  ![v1653.toNat, 0, v1654.toNat]
def k0_mult106 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c128_i32_537 : BitVec 32 := 128#32
  let v1660 : BitVec 32 := Scalar.addi v1528 c128_i32_537
  v1660
def k0_mult107 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c256_i32_539 : BitVec 32 := 256#32
  let v1666 : BitVec 32 := Scalar.addi v1528 c256_i32_539
  v1666
def k0_mult108 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c384_i32_541 : BitVec 32 := 384#32
  let v1672 : BitVec 32 := Scalar.addi v1528 c384_i32_541
  v1672
def k0_mult109 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c512_i32_543 : BitVec 32 := 512#32
  let v1678 : BitVec 32 := Scalar.addi v1528 c512_i32_543
  v1678
def k0_mult110 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c640_i32_545 : BitVec 32 := 640#32
  let v1684 : BitVec 32 := Scalar.addi v1528 c640_i32_545
  v1684
def k0_mult111 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c768_i32_547 : BitVec 32 := 768#32
  let v1690 : BitVec 32 := Scalar.addi v1528 c768_i32_547
  v1690
def k0_mult112 (v1523 : BitVec 32) : BitVec 32 :=
  let c1024_i32_492 : BitVec 32 := 1024#32
  let v1524 : BitVec 32 := Scalar.subi v1523 c1024_i32_492
  let c7_i32_493 : BitVec 32 := 7#32
  let v1525 : BitVec 32 := Scalar.shrui v1524 c7_i32_493
  let c128_i32_494 : BitVec 32 := 128#32
  let v1526 : BitVec 32 := Scalar.muli v1525 c128_i32_494
  let c31616_i32_495 : BitVec 32 := 31616#32
  let v1527 : BitVec 32 := Scalar.minsi v1526 c31616_i32_495
  let v1528 : BitVec 32 := Scalar.subi v1526 v1527
  let c896_i32_549 : BitVec 32 := 896#32
  let v1696 : BitVec 32 := Scalar.addi v1528 c896_i32_549
  v1696

def k0_chk20 (k0_t2 : Fin k0_t2_loop.trips) (v1523 : BitVec 32) : Prop :=
  (128 ∣ (k0_mult89 v1523).toNat) ∧
  (∀ (r : Fin 8), ∀ a, (k0_off123 k0_t2 v1523 (BitVec.ofNat 32 (128 * r.val))) a + S1x64x128.size a ≤ S64x64x1152.size a) ∧
  (128 ∣ (k0_mult90 v1523).toNat) ∧
  (128 ∣ (k0_mult91 v1523).toNat) ∧
  (128 ∣ (k0_mult92 v1523).toNat) ∧
  (128 ∣ (k0_mult93 v1523).toNat) ∧
  (128 ∣ (k0_mult94 v1523).toNat) ∧
  (128 ∣ (k0_mult95 v1523).toNat) ∧
  (128 ∣ (k0_mult96 v1523).toNat) ∧
  (128 ∣ (k0_mult97 v1523).toNat) ∧
  (128 ∣ (k0_mult98 v1523).toNat) ∧
  (128 ∣ (k0_mult99 v1523).toNat) ∧
  (128 ∣ (k0_mult100 v1523).toNat) ∧
  (128 ∣ (k0_mult101 v1523).toNat) ∧
  (128 ∣ (k0_mult102 v1523).toNat) ∧
  (128 ∣ (k0_mult103 v1523).toNat) ∧
  (128 ∣ (k0_mult104 v1523).toNat) ∧
  (128 ∣ (k0_mult105 v1523).toNat) ∧
  (∀ (r : Fin 8), ∀ a, (k0_off126 k0_t2 v1523 (BitVec.ofNat 32 (128 * r.val))) a + S1x1x128.size a ≤ S64x1x1152.size a) ∧
  (128 ∣ (k0_mult106 v1523).toNat) ∧
  (128 ∣ (k0_mult107 v1523).toNat) ∧
  (128 ∣ (k0_mult108 v1523).toNat) ∧
  (128 ∣ (k0_mult109 v1523).toNat) ∧
  (128 ∣ (k0_mult110 v1523).toNat) ∧
  (128 ∣ (k0_mult111 v1523).toNat) ∧
  (128 ∣ (k0_mult112 v1523).toNat)
theorem k0_mult89_dvd : ∀ (k0_t2 : Fin k0_t2_loop.trips) (v1523 : BitVec 32) (k0_hw20 : k0_chk20 k0_t2 v1523), 128 ∣ (k0_mult89 v1523).toNat := fun k0_t2 v1523 k0_hw20 => k0_hw20.1
theorem k0_off123_inb : ∀ (k0_t2 : Fin k0_t2_loop.trips) (v1523 : BitVec 32) (k0_hw20 : k0_chk20 k0_t2 v1523), ∀ (r : Fin 8), ∀ a, (k0_off123 k0_t2 v1523 (BitVec.ofNat 32 (128 * r.val))) a + S1x64x128.size a ≤ S64x64x1152.size a := fun k0_t2 v1523 k0_hw20 r => k0_hw20.2.1 r
theorem k0_mult90_dvd : ∀ (k0_t2 : Fin k0_t2_loop.trips) (v1523 : BitVec 32) (k0_hw20 : k0_chk20 k0_t2 v1523), 128 ∣ (k0_mult90 v1523).toNat := fun k0_t2 v1523 k0_hw20 => k0_hw20.2.2.1
theorem k0_mult91_dvd : ∀ (k0_t2 : Fin k0_t2_loop.trips) (v1523 : BitVec 32) (k0_hw20 : k0_chk20 k0_t2 v1523), 128 ∣ (k0_mult91 v1523).toNat := fun k0_t2 v1523 k0_hw20 => k0_hw20.2.2.2.1
theorem k0_mult92_dvd : ∀ (k0_t2 : Fin k0_t2_loop.trips) (v1523 : BitVec 32) (k0_hw20 : k0_chk20 k0_t2 v1523), 128 ∣ (k0_mult92 v1523).toNat := fun k0_t2 v1523 k0_hw20 => k0_hw20.2.2.2.2.1
theorem k0_mult93_dvd : ∀ (k0_t2 : Fin k0_t2_loop.trips) (v1523 : BitVec 32) (k0_hw20 : k0_chk20 k0_t2 v1523), 128 ∣ (k0_mult93 v1523).toNat := fun k0_t2 v1523 k0_hw20 => k0_hw20.2.2.2.2.2.1
theorem k0_mult94_dvd : ∀ (k0_t2 : Fin k0_t2_loop.trips) (v1523 : BitVec 32) (k0_hw20 : k0_chk20 k0_t2 v1523), 128 ∣ (k0_mult94 v1523).toNat := fun k0_t2 v1523 k0_hw20 => k0_hw20.2.2.2.2.2.2.1
theorem k0_mult95_dvd : ∀ (k0_t2 : Fin k0_t2_loop.trips) (v1523 : BitVec 32) (k0_hw20 : k0_chk20 k0_t2 v1523), 128 ∣ (k0_mult95 v1523).toNat := fun k0_t2 v1523 k0_hw20 => k0_hw20.2.2.2.2.2.2.2.1
theorem k0_mult96_dvd : ∀ (k0_t2 : Fin k0_t2_loop.trips) (v1523 : BitVec 32) (k0_hw20 : k0_chk20 k0_t2 v1523), 128 ∣ (k0_mult96 v1523).toNat := fun k0_t2 v1523 k0_hw20 => k0_hw20.2.2.2.2.2.2.2.2.1
theorem k0_mult97_dvd : ∀ (k0_t2 : Fin k0_t2_loop.trips) (v1523 : BitVec 32) (k0_hw20 : k0_chk20 k0_t2 v1523), 128 ∣ (k0_mult97 v1523).toNat := fun k0_t2 v1523 k0_hw20 => k0_hw20.2.2.2.2.2.2.2.2.2.1
theorem k0_mult98_dvd : ∀ (k0_t2 : Fin k0_t2_loop.trips) (v1523 : BitVec 32) (k0_hw20 : k0_chk20 k0_t2 v1523), 128 ∣ (k0_mult98 v1523).toNat := fun k0_t2 v1523 k0_hw20 => k0_hw20.2.2.2.2.2.2.2.2.2.2.1
theorem k0_mult99_dvd : ∀ (k0_t2 : Fin k0_t2_loop.trips) (v1523 : BitVec 32) (k0_hw20 : k0_chk20 k0_t2 v1523), 128 ∣ (k0_mult99 v1523).toNat := fun k0_t2 v1523 k0_hw20 => k0_hw20.2.2.2.2.2.2.2.2.2.2.2.1
theorem k0_mult100_dvd : ∀ (k0_t2 : Fin k0_t2_loop.trips) (v1523 : BitVec 32) (k0_hw20 : k0_chk20 k0_t2 v1523), 128 ∣ (k0_mult100 v1523).toNat := fun k0_t2 v1523 k0_hw20 => k0_hw20.2.2.2.2.2.2.2.2.2.2.2.2.1
theorem k0_mult101_dvd : ∀ (k0_t2 : Fin k0_t2_loop.trips) (v1523 : BitVec 32) (k0_hw20 : k0_chk20 k0_t2 v1523), 128 ∣ (k0_mult101 v1523).toNat := fun k0_t2 v1523 k0_hw20 => k0_hw20.2.2.2.2.2.2.2.2.2.2.2.2.2.1
theorem k0_mult102_dvd : ∀ (k0_t2 : Fin k0_t2_loop.trips) (v1523 : BitVec 32) (k0_hw20 : k0_chk20 k0_t2 v1523), 128 ∣ (k0_mult102 v1523).toNat := fun k0_t2 v1523 k0_hw20 => k0_hw20.2.2.2.2.2.2.2.2.2.2.2.2.2.2.1
theorem k0_mult103_dvd : ∀ (k0_t2 : Fin k0_t2_loop.trips) (v1523 : BitVec 32) (k0_hw20 : k0_chk20 k0_t2 v1523), 128 ∣ (k0_mult103 v1523).toNat := fun k0_t2 v1523 k0_hw20 => k0_hw20.2.2.2.2.2.2.2.2.2.2.2.2.2.2.2.1
theorem k0_mult104_dvd : ∀ (k0_t2 : Fin k0_t2_loop.trips) (v1523 : BitVec 32) (k0_hw20 : k0_chk20 k0_t2 v1523), 128 ∣ (k0_mult104 v1523).toNat := fun k0_t2 v1523 k0_hw20 => k0_hw20.2.2.2.2.2.2.2.2.2.2.2.2.2.2.2.2.1
theorem k0_mult105_dvd : ∀ (k0_t2 : Fin k0_t2_loop.trips) (v1523 : BitVec 32) (k0_hw20 : k0_chk20 k0_t2 v1523), 128 ∣ (k0_mult105 v1523).toNat := fun k0_t2 v1523 k0_hw20 => k0_hw20.2.2.2.2.2.2.2.2.2.2.2.2.2.2.2.2.2.1
theorem k0_off126_inb : ∀ (k0_t2 : Fin k0_t2_loop.trips) (v1523 : BitVec 32) (k0_hw20 : k0_chk20 k0_t2 v1523), ∀ (r : Fin 8), ∀ a, (k0_off126 k0_t2 v1523 (BitVec.ofNat 32 (128 * r.val))) a + S1x1x128.size a ≤ S64x1x1152.size a := fun k0_t2 v1523 k0_hw20 r => k0_hw20.2.2.2.2.2.2.2.2.2.2.2.2.2.2.2.2.2.2.1 r
theorem k0_mult106_dvd : ∀ (k0_t2 : Fin k0_t2_loop.trips) (v1523 : BitVec 32) (k0_hw20 : k0_chk20 k0_t2 v1523), 128 ∣ (k0_mult106 v1523).toNat := fun k0_t2 v1523 k0_hw20 => k0_hw20.2.2.2.2.2.2.2.2.2.2.2.2.2.2.2.2.2.2.2.1
theorem k0_mult107_dvd : ∀ (k0_t2 : Fin k0_t2_loop.trips) (v1523 : BitVec 32) (k0_hw20 : k0_chk20 k0_t2 v1523), 128 ∣ (k0_mult107 v1523).toNat := fun k0_t2 v1523 k0_hw20 => k0_hw20.2.2.2.2.2.2.2.2.2.2.2.2.2.2.2.2.2.2.2.2.1
theorem k0_mult108_dvd : ∀ (k0_t2 : Fin k0_t2_loop.trips) (v1523 : BitVec 32) (k0_hw20 : k0_chk20 k0_t2 v1523), 128 ∣ (k0_mult108 v1523).toNat := fun k0_t2 v1523 k0_hw20 => k0_hw20.2.2.2.2.2.2.2.2.2.2.2.2.2.2.2.2.2.2.2.2.2.1
theorem k0_mult109_dvd : ∀ (k0_t2 : Fin k0_t2_loop.trips) (v1523 : BitVec 32) (k0_hw20 : k0_chk20 k0_t2 v1523), 128 ∣ (k0_mult109 v1523).toNat := fun k0_t2 v1523 k0_hw20 => k0_hw20.2.2.2.2.2.2.2.2.2.2.2.2.2.2.2.2.2.2.2.2.2.2.1
theorem k0_mult110_dvd : ∀ (k0_t2 : Fin k0_t2_loop.trips) (v1523 : BitVec 32) (k0_hw20 : k0_chk20 k0_t2 v1523), 128 ∣ (k0_mult110 v1523).toNat := fun k0_t2 v1523 k0_hw20 => k0_hw20.2.2.2.2.2.2.2.2.2.2.2.2.2.2.2.2.2.2.2.2.2.2.2.1
theorem k0_mult111_dvd : ∀ (k0_t2 : Fin k0_t2_loop.trips) (v1523 : BitVec 32) (k0_hw20 : k0_chk20 k0_t2 v1523), 128 ∣ (k0_mult111 v1523).toNat := fun k0_t2 v1523 k0_hw20 => k0_hw20.2.2.2.2.2.2.2.2.2.2.2.2.2.2.2.2.2.2.2.2.2.2.2.2.1
theorem k0_mult112_dvd : ∀ (k0_t2 : Fin k0_t2_loop.trips) (v1523 : BitVec 32) (k0_hw20 : k0_chk20 k0_t2 v1523), 128 ∣ (k0_mult112 v1523).toNat := fun k0_t2 v1523 k0_hw20 => k0_hw20.2.2.2.2.2.2.2.2.2.2.2.2.2.2.2.2.2.2.2.2.2.2.2.2.2

def k0_off127 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1702 : Index := Scalar.indexCast v1521
  let c0_551 : Index := 0#32
  let c0_552 : Index := 0#32
  ![v1702.toNat, 0, 0]
def k0_off128 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1722 : Index := Scalar.indexCast v1521
  let c0_553 : Index := 0#32
  let c0_554 : Index := 0#32
  ![v1722.toNat, 0, 0]
def k0_off129 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_490 : BitVec 32 := 8#32
  let v1520 : BitVec 32 := Scalar.muli arg19 c8_i32_490
  let c3_i32_491 : BitVec 32 := 3#32
  let v1521 : BitVec 32 := Scalar.addi v1520 c3_i32_491
  let v1728 : Index := Scalar.indexCast v1521
  let c0_557 : Index := 0#32
  ![v1728.toNat, 0]
def k0_off130 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1792 : Index := Scalar.indexCast v1791
  ![v1792.toNat]
def k0_mult113 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c0_i32_576 : BitVec 32 := 0#32
  let v1803 : BitVec 32 := Scalar.addi v1798 c0_i32_576
  v1803

def k0_off131 (k0_t2 : Fin k0_t2_loop.trips) (v1793 : BitVec 32) (c0_i32_576 : BitVec 32) : Fin 3 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1805 : Index := Scalar.indexCast v1791
  let c0_577 : Index := 0#32
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let v1803 : BitVec 32 := Scalar.addi v1798 c0_i32_576
  let v1804 : BitVec 32 := v1803
  let v1806 : Index := Scalar.indexCast v1804
  ![v1805.toNat, 0, v1806.toNat]
def k0_mult114 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c128_i32_578 : BitVec 32 := 128#32
  let v1817 : BitVec 32 := Scalar.addi v1798 c128_i32_578
  v1817
def k0_mult115 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c256_i32_580 : BitVec 32 := 256#32
  let v1823 : BitVec 32 := Scalar.addi v1798 c256_i32_580
  v1823
def k0_mult116 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c384_i32_582 : BitVec 32 := 384#32
  let v1829 : BitVec 32 := Scalar.addi v1798 c384_i32_582
  v1829
def k0_mult117 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c512_i32_584 : BitVec 32 := 512#32
  let v1835 : BitVec 32 := Scalar.addi v1798 c512_i32_584
  v1835
def k0_mult118 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c640_i32_586 : BitVec 32 := 640#32
  let v1841 : BitVec 32 := Scalar.addi v1798 c640_i32_586
  v1841
def k0_mult119 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c768_i32_588 : BitVec 32 := 768#32
  let v1847 : BitVec 32 := Scalar.addi v1798 c768_i32_588
  v1847
def k0_mult120 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c896_i32_590 : BitVec 32 := 896#32
  let v1853 : BitVec 32 := Scalar.addi v1798 c896_i32_590
  v1853
def k0_off132 (k0_t2 : Fin k0_t2_loop.trips) (c4_i32_568 : BitVec 32) : Fin 3 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let v1791 : BitVec 32 := Scalar.addi v1790 c4_i32_568
  let v1859 : Index := Scalar.indexCast v1791
  let c0_592 : Index := 0#32
  let c1024_593 : Index := 1024#32
  ![v1859.toNat, 0, 1024]
def k0_mult121 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c0_i32_594 : BitVec 32 := 0#32
  let v1862 : BitVec 32 := Scalar.addi v1798 c0_i32_594
  v1862
def k0_mult122 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c128_i32_596 : BitVec 32 := 128#32
  let v1876 : BitVec 32 := Scalar.addi v1798 c128_i32_596
  v1876
def k0_mult123 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c256_i32_598 : BitVec 32 := 256#32
  let v1882 : BitVec 32 := Scalar.addi v1798 c256_i32_598
  v1882
def k0_mult124 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c384_i32_600 : BitVec 32 := 384#32
  let v1888 : BitVec 32 := Scalar.addi v1798 c384_i32_600
  v1888
def k0_mult125 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c512_i32_602 : BitVec 32 := 512#32
  let v1894 : BitVec 32 := Scalar.addi v1798 c512_i32_602
  v1894
def k0_mult126 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c640_i32_604 : BitVec 32 := 640#32
  let v1900 : BitVec 32 := Scalar.addi v1798 c640_i32_604
  v1900
def k0_mult127 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c768_i32_606 : BitVec 32 := 768#32
  let v1906 : BitVec 32 := Scalar.addi v1798 c768_i32_606
  v1906
def k0_mult128 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c896_i32_608 : BitVec 32 := 896#32
  let v1912 : BitVec 32 := Scalar.addi v1798 c896_i32_608
  v1912
def k0_off133 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1918 : Index := Scalar.indexCast v1791
  let c0_610 : Index := 0#32
  let c1024_611 : Index := 1024#32
  ![v1918.toNat, 0, 1024]
def k0_mult129 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c0_i32_612 : BitVec 32 := 0#32
  let v1921 : BitVec 32 := Scalar.addi v1798 c0_i32_612
  v1921
def k0_off134 (k0_t2 : Fin k0_t2_loop.trips) (v1793 : BitVec 32) (c0_i32_612 : BitVec 32) : Fin 3 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1923 : Index := Scalar.indexCast v1791
  let c0_613 : Index := 0#32
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let v1921 : BitVec 32 := Scalar.addi v1798 c0_i32_612
  let v1922 : BitVec 32 := v1921
  let v1924 : Index := Scalar.indexCast v1922
  ![v1923.toNat, 0, v1924.toNat]
def k0_mult130 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c128_i32_614 : BitVec 32 := 128#32
  let v1930 : BitVec 32 := Scalar.addi v1798 c128_i32_614
  v1930
def k0_mult131 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c256_i32_616 : BitVec 32 := 256#32
  let v1936 : BitVec 32 := Scalar.addi v1798 c256_i32_616
  v1936
def k0_mult132 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c384_i32_618 : BitVec 32 := 384#32
  let v1942 : BitVec 32 := Scalar.addi v1798 c384_i32_618
  v1942
def k0_mult133 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c512_i32_620 : BitVec 32 := 512#32
  let v1948 : BitVec 32 := Scalar.addi v1798 c512_i32_620
  v1948
def k0_mult134 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c640_i32_622 : BitVec 32 := 640#32
  let v1954 : BitVec 32 := Scalar.addi v1798 c640_i32_622
  v1954
def k0_mult135 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c768_i32_624 : BitVec 32 := 768#32
  let v1960 : BitVec 32 := Scalar.addi v1798 c768_i32_624
  v1960
def k0_mult136 (v1793 : BitVec 32) : BitVec 32 :=
  let c1024_i32_569 : BitVec 32 := 1024#32
  let v1794 : BitVec 32 := Scalar.subi v1793 c1024_i32_569
  let c7_i32_570 : BitVec 32 := 7#32
  let v1795 : BitVec 32 := Scalar.shrui v1794 c7_i32_570
  let c128_i32_571 : BitVec 32 := 128#32
  let v1796 : BitVec 32 := Scalar.muli v1795 c128_i32_571
  let c31616_i32_572 : BitVec 32 := 31616#32
  let v1797 : BitVec 32 := Scalar.minsi v1796 c31616_i32_572
  let v1798 : BitVec 32 := Scalar.subi v1796 v1797
  let c896_i32_626 : BitVec 32 := 896#32
  let v1966 : BitVec 32 := Scalar.addi v1798 c896_i32_626
  v1966

def k0_chk21 (k0_t2 : Fin k0_t2_loop.trips) (v1793 : BitVec 32) : Prop :=
  (128 ∣ (k0_mult113 v1793).toNat) ∧
  (∀ (r : Fin 8), ∀ a, (k0_off131 k0_t2 v1793 (BitVec.ofNat 32 (128 * r.val))) a + S1x64x128.size a ≤ S64x64x1152.size a) ∧
  (128 ∣ (k0_mult114 v1793).toNat) ∧
  (128 ∣ (k0_mult115 v1793).toNat) ∧
  (128 ∣ (k0_mult116 v1793).toNat) ∧
  (128 ∣ (k0_mult117 v1793).toNat) ∧
  (128 ∣ (k0_mult118 v1793).toNat) ∧
  (128 ∣ (k0_mult119 v1793).toNat) ∧
  (128 ∣ (k0_mult120 v1793).toNat) ∧
  (128 ∣ (k0_mult121 v1793).toNat) ∧
  (128 ∣ (k0_mult122 v1793).toNat) ∧
  (128 ∣ (k0_mult123 v1793).toNat) ∧
  (128 ∣ (k0_mult124 v1793).toNat) ∧
  (128 ∣ (k0_mult125 v1793).toNat) ∧
  (128 ∣ (k0_mult126 v1793).toNat) ∧
  (128 ∣ (k0_mult127 v1793).toNat) ∧
  (128 ∣ (k0_mult128 v1793).toNat) ∧
  (128 ∣ (k0_mult129 v1793).toNat) ∧
  (∀ (r : Fin 8), ∀ a, (k0_off134 k0_t2 v1793 (BitVec.ofNat 32 (128 * r.val))) a + S1x1x128.size a ≤ S64x1x1152.size a) ∧
  (128 ∣ (k0_mult130 v1793).toNat) ∧
  (128 ∣ (k0_mult131 v1793).toNat) ∧
  (128 ∣ (k0_mult132 v1793).toNat) ∧
  (128 ∣ (k0_mult133 v1793).toNat) ∧
  (128 ∣ (k0_mult134 v1793).toNat) ∧
  (128 ∣ (k0_mult135 v1793).toNat) ∧
  (128 ∣ (k0_mult136 v1793).toNat)
theorem k0_mult113_dvd : ∀ (k0_t2 : Fin k0_t2_loop.trips) (v1793 : BitVec 32) (k0_hw21 : k0_chk21 k0_t2 v1793), 128 ∣ (k0_mult113 v1793).toNat := fun k0_t2 v1793 k0_hw21 => k0_hw21.1
theorem k0_off131_inb : ∀ (k0_t2 : Fin k0_t2_loop.trips) (v1793 : BitVec 32) (k0_hw21 : k0_chk21 k0_t2 v1793), ∀ (r : Fin 8), ∀ a, (k0_off131 k0_t2 v1793 (BitVec.ofNat 32 (128 * r.val))) a + S1x64x128.size a ≤ S64x64x1152.size a := fun k0_t2 v1793 k0_hw21 r => k0_hw21.2.1 r
theorem k0_mult114_dvd : ∀ (k0_t2 : Fin k0_t2_loop.trips) (v1793 : BitVec 32) (k0_hw21 : k0_chk21 k0_t2 v1793), 128 ∣ (k0_mult114 v1793).toNat := fun k0_t2 v1793 k0_hw21 => k0_hw21.2.2.1
theorem k0_mult115_dvd : ∀ (k0_t2 : Fin k0_t2_loop.trips) (v1793 : BitVec 32) (k0_hw21 : k0_chk21 k0_t2 v1793), 128 ∣ (k0_mult115 v1793).toNat := fun k0_t2 v1793 k0_hw21 => k0_hw21.2.2.2.1
theorem k0_mult116_dvd : ∀ (k0_t2 : Fin k0_t2_loop.trips) (v1793 : BitVec 32) (k0_hw21 : k0_chk21 k0_t2 v1793), 128 ∣ (k0_mult116 v1793).toNat := fun k0_t2 v1793 k0_hw21 => k0_hw21.2.2.2.2.1
theorem k0_mult117_dvd : ∀ (k0_t2 : Fin k0_t2_loop.trips) (v1793 : BitVec 32) (k0_hw21 : k0_chk21 k0_t2 v1793), 128 ∣ (k0_mult117 v1793).toNat := fun k0_t2 v1793 k0_hw21 => k0_hw21.2.2.2.2.2.1
theorem k0_mult118_dvd : ∀ (k0_t2 : Fin k0_t2_loop.trips) (v1793 : BitVec 32) (k0_hw21 : k0_chk21 k0_t2 v1793), 128 ∣ (k0_mult118 v1793).toNat := fun k0_t2 v1793 k0_hw21 => k0_hw21.2.2.2.2.2.2.1
theorem k0_mult119_dvd : ∀ (k0_t2 : Fin k0_t2_loop.trips) (v1793 : BitVec 32) (k0_hw21 : k0_chk21 k0_t2 v1793), 128 ∣ (k0_mult119 v1793).toNat := fun k0_t2 v1793 k0_hw21 => k0_hw21.2.2.2.2.2.2.2.1
theorem k0_mult120_dvd : ∀ (k0_t2 : Fin k0_t2_loop.trips) (v1793 : BitVec 32) (k0_hw21 : k0_chk21 k0_t2 v1793), 128 ∣ (k0_mult120 v1793).toNat := fun k0_t2 v1793 k0_hw21 => k0_hw21.2.2.2.2.2.2.2.2.1
theorem k0_mult121_dvd : ∀ (k0_t2 : Fin k0_t2_loop.trips) (v1793 : BitVec 32) (k0_hw21 : k0_chk21 k0_t2 v1793), 128 ∣ (k0_mult121 v1793).toNat := fun k0_t2 v1793 k0_hw21 => k0_hw21.2.2.2.2.2.2.2.2.2.1
theorem k0_mult122_dvd : ∀ (k0_t2 : Fin k0_t2_loop.trips) (v1793 : BitVec 32) (k0_hw21 : k0_chk21 k0_t2 v1793), 128 ∣ (k0_mult122 v1793).toNat := fun k0_t2 v1793 k0_hw21 => k0_hw21.2.2.2.2.2.2.2.2.2.2.1
theorem k0_mult123_dvd : ∀ (k0_t2 : Fin k0_t2_loop.trips) (v1793 : BitVec 32) (k0_hw21 : k0_chk21 k0_t2 v1793), 128 ∣ (k0_mult123 v1793).toNat := fun k0_t2 v1793 k0_hw21 => k0_hw21.2.2.2.2.2.2.2.2.2.2.2.1
theorem k0_mult124_dvd : ∀ (k0_t2 : Fin k0_t2_loop.trips) (v1793 : BitVec 32) (k0_hw21 : k0_chk21 k0_t2 v1793), 128 ∣ (k0_mult124 v1793).toNat := fun k0_t2 v1793 k0_hw21 => k0_hw21.2.2.2.2.2.2.2.2.2.2.2.2.1
theorem k0_mult125_dvd : ∀ (k0_t2 : Fin k0_t2_loop.trips) (v1793 : BitVec 32) (k0_hw21 : k0_chk21 k0_t2 v1793), 128 ∣ (k0_mult125 v1793).toNat := fun k0_t2 v1793 k0_hw21 => k0_hw21.2.2.2.2.2.2.2.2.2.2.2.2.2.1
theorem k0_mult126_dvd : ∀ (k0_t2 : Fin k0_t2_loop.trips) (v1793 : BitVec 32) (k0_hw21 : k0_chk21 k0_t2 v1793), 128 ∣ (k0_mult126 v1793).toNat := fun k0_t2 v1793 k0_hw21 => k0_hw21.2.2.2.2.2.2.2.2.2.2.2.2.2.2.1
theorem k0_mult127_dvd : ∀ (k0_t2 : Fin k0_t2_loop.trips) (v1793 : BitVec 32) (k0_hw21 : k0_chk21 k0_t2 v1793), 128 ∣ (k0_mult127 v1793).toNat := fun k0_t2 v1793 k0_hw21 => k0_hw21.2.2.2.2.2.2.2.2.2.2.2.2.2.2.2.1
theorem k0_mult128_dvd : ∀ (k0_t2 : Fin k0_t2_loop.trips) (v1793 : BitVec 32) (k0_hw21 : k0_chk21 k0_t2 v1793), 128 ∣ (k0_mult128 v1793).toNat := fun k0_t2 v1793 k0_hw21 => k0_hw21.2.2.2.2.2.2.2.2.2.2.2.2.2.2.2.2.1
theorem k0_mult129_dvd : ∀ (k0_t2 : Fin k0_t2_loop.trips) (v1793 : BitVec 32) (k0_hw21 : k0_chk21 k0_t2 v1793), 128 ∣ (k0_mult129 v1793).toNat := fun k0_t2 v1793 k0_hw21 => k0_hw21.2.2.2.2.2.2.2.2.2.2.2.2.2.2.2.2.2.1
theorem k0_off134_inb : ∀ (k0_t2 : Fin k0_t2_loop.trips) (v1793 : BitVec 32) (k0_hw21 : k0_chk21 k0_t2 v1793), ∀ (r : Fin 8), ∀ a, (k0_off134 k0_t2 v1793 (BitVec.ofNat 32 (128 * r.val))) a + S1x1x128.size a ≤ S64x1x1152.size a := fun k0_t2 v1793 k0_hw21 r => k0_hw21.2.2.2.2.2.2.2.2.2.2.2.2.2.2.2.2.2.2.1 r
theorem k0_mult130_dvd : ∀ (k0_t2 : Fin k0_t2_loop.trips) (v1793 : BitVec 32) (k0_hw21 : k0_chk21 k0_t2 v1793), 128 ∣ (k0_mult130 v1793).toNat := fun k0_t2 v1793 k0_hw21 => k0_hw21.2.2.2.2.2.2.2.2.2.2.2.2.2.2.2.2.2.2.2.1
theorem k0_mult131_dvd : ∀ (k0_t2 : Fin k0_t2_loop.trips) (v1793 : BitVec 32) (k0_hw21 : k0_chk21 k0_t2 v1793), 128 ∣ (k0_mult131 v1793).toNat := fun k0_t2 v1793 k0_hw21 => k0_hw21.2.2.2.2.2.2.2.2.2.2.2.2.2.2.2.2.2.2.2.2.1
theorem k0_mult132_dvd : ∀ (k0_t2 : Fin k0_t2_loop.trips) (v1793 : BitVec 32) (k0_hw21 : k0_chk21 k0_t2 v1793), 128 ∣ (k0_mult132 v1793).toNat := fun k0_t2 v1793 k0_hw21 => k0_hw21.2.2.2.2.2.2.2.2.2.2.2.2.2.2.2.2.2.2.2.2.2.1
theorem k0_mult133_dvd : ∀ (k0_t2 : Fin k0_t2_loop.trips) (v1793 : BitVec 32) (k0_hw21 : k0_chk21 k0_t2 v1793), 128 ∣ (k0_mult133 v1793).toNat := fun k0_t2 v1793 k0_hw21 => k0_hw21.2.2.2.2.2.2.2.2.2.2.2.2.2.2.2.2.2.2.2.2.2.2.1
theorem k0_mult134_dvd : ∀ (k0_t2 : Fin k0_t2_loop.trips) (v1793 : BitVec 32) (k0_hw21 : k0_chk21 k0_t2 v1793), 128 ∣ (k0_mult134 v1793).toNat := fun k0_t2 v1793 k0_hw21 => k0_hw21.2.2.2.2.2.2.2.2.2.2.2.2.2.2.2.2.2.2.2.2.2.2.2.1
theorem k0_mult135_dvd : ∀ (k0_t2 : Fin k0_t2_loop.trips) (v1793 : BitVec 32) (k0_hw21 : k0_chk21 k0_t2 v1793), 128 ∣ (k0_mult135 v1793).toNat := fun k0_t2 v1793 k0_hw21 => k0_hw21.2.2.2.2.2.2.2.2.2.2.2.2.2.2.2.2.2.2.2.2.2.2.2.2.1
theorem k0_mult136_dvd : ∀ (k0_t2 : Fin k0_t2_loop.trips) (v1793 : BitVec 32) (k0_hw21 : k0_chk21 k0_t2 v1793), 128 ∣ (k0_mult136 v1793).toNat := fun k0_t2 v1793 k0_hw21 => k0_hw21.2.2.2.2.2.2.2.2.2.2.2.2.2.2.2.2.2.2.2.2.2.2.2.2.2

def k0_off135 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1972 : Index := Scalar.indexCast v1791
  let c0_628 : Index := 0#32
  let c0_629 : Index := 0#32
  ![v1972.toNat, 0, 0]
def k0_off136 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1992 : Index := Scalar.indexCast v1791
  let c0_630 : Index := 0#32
  let c0_631 : Index := 0#32
  ![v1992.toNat, 0, 0]
def k0_off137 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_567 : BitVec 32 := 8#32
  let v1790 : BitVec 32 := Scalar.muli arg19 c8_i32_567
  let c4_i32_568 : BitVec 32 := 4#32
  let v1791 : BitVec 32 := Scalar.addi v1790 c4_i32_568
  let v1998 : Index := Scalar.indexCast v1791
  let c0_634 : Index := 0#32
  ![v1998.toNat, 0]
def k0_off138 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2062 : Index := Scalar.indexCast v2061
  ![v2062.toNat]
def k0_mult137 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c0_i32_653 : BitVec 32 := 0#32
  let v2073 : BitVec 32 := Scalar.addi v2068 c0_i32_653
  v2073

def k0_off139 (k0_t2 : Fin k0_t2_loop.trips) (v2063 : BitVec 32) (c0_i32_653 : BitVec 32) : Fin 3 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2075 : Index := Scalar.indexCast v2061
  let c0_654 : Index := 0#32
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let v2073 : BitVec 32 := Scalar.addi v2068 c0_i32_653
  let v2074 : BitVec 32 := v2073
  let v2076 : Index := Scalar.indexCast v2074
  ![v2075.toNat, 0, v2076.toNat]
def k0_mult138 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c128_i32_655 : BitVec 32 := 128#32
  let v2087 : BitVec 32 := Scalar.addi v2068 c128_i32_655
  v2087
def k0_mult139 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c256_i32_657 : BitVec 32 := 256#32
  let v2093 : BitVec 32 := Scalar.addi v2068 c256_i32_657
  v2093
def k0_mult140 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c384_i32_659 : BitVec 32 := 384#32
  let v2099 : BitVec 32 := Scalar.addi v2068 c384_i32_659
  v2099
def k0_mult141 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c512_i32_661 : BitVec 32 := 512#32
  let v2105 : BitVec 32 := Scalar.addi v2068 c512_i32_661
  v2105
def k0_mult142 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c640_i32_663 : BitVec 32 := 640#32
  let v2111 : BitVec 32 := Scalar.addi v2068 c640_i32_663
  v2111
def k0_mult143 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c768_i32_665 : BitVec 32 := 768#32
  let v2117 : BitVec 32 := Scalar.addi v2068 c768_i32_665
  v2117
def k0_mult144 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c896_i32_667 : BitVec 32 := 896#32
  let v2123 : BitVec 32 := Scalar.addi v2068 c896_i32_667
  v2123
def k0_off140 (k0_t2 : Fin k0_t2_loop.trips) (c5_i32_645 : BitVec 32) : Fin 3 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let v2061 : BitVec 32 := Scalar.addi v2060 c5_i32_645
  let v2129 : Index := Scalar.indexCast v2061
  let c0_669 : Index := 0#32
  let c1024_670 : Index := 1024#32
  ![v2129.toNat, 0, 1024]
def k0_mult145 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c0_i32_671 : BitVec 32 := 0#32
  let v2132 : BitVec 32 := Scalar.addi v2068 c0_i32_671
  v2132
def k0_mult146 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c128_i32_673 : BitVec 32 := 128#32
  let v2146 : BitVec 32 := Scalar.addi v2068 c128_i32_673
  v2146
def k0_mult147 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c256_i32_675 : BitVec 32 := 256#32
  let v2152 : BitVec 32 := Scalar.addi v2068 c256_i32_675
  v2152
def k0_mult148 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c384_i32_677 : BitVec 32 := 384#32
  let v2158 : BitVec 32 := Scalar.addi v2068 c384_i32_677
  v2158
def k0_mult149 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c512_i32_679 : BitVec 32 := 512#32
  let v2164 : BitVec 32 := Scalar.addi v2068 c512_i32_679
  v2164
def k0_mult150 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c640_i32_681 : BitVec 32 := 640#32
  let v2170 : BitVec 32 := Scalar.addi v2068 c640_i32_681
  v2170
def k0_mult151 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c768_i32_683 : BitVec 32 := 768#32
  let v2176 : BitVec 32 := Scalar.addi v2068 c768_i32_683
  v2176
def k0_mult152 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c896_i32_685 : BitVec 32 := 896#32
  let v2182 : BitVec 32 := Scalar.addi v2068 c896_i32_685
  v2182
def k0_off141 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2188 : Index := Scalar.indexCast v2061
  let c0_687 : Index := 0#32
  let c1024_688 : Index := 1024#32
  ![v2188.toNat, 0, 1024]
def k0_mult153 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c0_i32_689 : BitVec 32 := 0#32
  let v2191 : BitVec 32 := Scalar.addi v2068 c0_i32_689
  v2191
def k0_off142 (k0_t2 : Fin k0_t2_loop.trips) (v2063 : BitVec 32) (c0_i32_689 : BitVec 32) : Fin 3 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2193 : Index := Scalar.indexCast v2061
  let c0_690 : Index := 0#32
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let v2191 : BitVec 32 := Scalar.addi v2068 c0_i32_689
  let v2192 : BitVec 32 := v2191
  let v2194 : Index := Scalar.indexCast v2192
  ![v2193.toNat, 0, v2194.toNat]
def k0_mult154 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c128_i32_691 : BitVec 32 := 128#32
  let v2200 : BitVec 32 := Scalar.addi v2068 c128_i32_691
  v2200
def k0_mult155 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c256_i32_693 : BitVec 32 := 256#32
  let v2206 : BitVec 32 := Scalar.addi v2068 c256_i32_693
  v2206
def k0_mult156 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c384_i32_695 : BitVec 32 := 384#32
  let v2212 : BitVec 32 := Scalar.addi v2068 c384_i32_695
  v2212
def k0_mult157 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c512_i32_697 : BitVec 32 := 512#32
  let v2218 : BitVec 32 := Scalar.addi v2068 c512_i32_697
  v2218
def k0_mult158 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c640_i32_699 : BitVec 32 := 640#32
  let v2224 : BitVec 32 := Scalar.addi v2068 c640_i32_699
  v2224
def k0_mult159 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c768_i32_701 : BitVec 32 := 768#32
  let v2230 : BitVec 32 := Scalar.addi v2068 c768_i32_701
  v2230
def k0_mult160 (v2063 : BitVec 32) : BitVec 32 :=
  let c1024_i32_646 : BitVec 32 := 1024#32
  let v2064 : BitVec 32 := Scalar.subi v2063 c1024_i32_646
  let c7_i32_647 : BitVec 32 := 7#32
  let v2065 : BitVec 32 := Scalar.shrui v2064 c7_i32_647
  let c128_i32_648 : BitVec 32 := 128#32
  let v2066 : BitVec 32 := Scalar.muli v2065 c128_i32_648
  let c31616_i32_649 : BitVec 32 := 31616#32
  let v2067 : BitVec 32 := Scalar.minsi v2066 c31616_i32_649
  let v2068 : BitVec 32 := Scalar.subi v2066 v2067
  let c896_i32_703 : BitVec 32 := 896#32
  let v2236 : BitVec 32 := Scalar.addi v2068 c896_i32_703
  v2236

def k0_chk22 (k0_t2 : Fin k0_t2_loop.trips) (v2063 : BitVec 32) : Prop :=
  (128 ∣ (k0_mult137 v2063).toNat) ∧
  (∀ (r : Fin 8), ∀ a, (k0_off139 k0_t2 v2063 (BitVec.ofNat 32 (128 * r.val))) a + S1x64x128.size a ≤ S64x64x1152.size a) ∧
  (128 ∣ (k0_mult138 v2063).toNat) ∧
  (128 ∣ (k0_mult139 v2063).toNat) ∧
  (128 ∣ (k0_mult140 v2063).toNat) ∧
  (128 ∣ (k0_mult141 v2063).toNat) ∧
  (128 ∣ (k0_mult142 v2063).toNat) ∧
  (128 ∣ (k0_mult143 v2063).toNat) ∧
  (128 ∣ (k0_mult144 v2063).toNat) ∧
  (128 ∣ (k0_mult145 v2063).toNat) ∧
  (128 ∣ (k0_mult146 v2063).toNat) ∧
  (128 ∣ (k0_mult147 v2063).toNat) ∧
  (128 ∣ (k0_mult148 v2063).toNat) ∧
  (128 ∣ (k0_mult149 v2063).toNat) ∧
  (128 ∣ (k0_mult150 v2063).toNat) ∧
  (128 ∣ (k0_mult151 v2063).toNat) ∧
  (128 ∣ (k0_mult152 v2063).toNat) ∧
  (128 ∣ (k0_mult153 v2063).toNat) ∧
  (∀ (r : Fin 8), ∀ a, (k0_off142 k0_t2 v2063 (BitVec.ofNat 32 (128 * r.val))) a + S1x1x128.size a ≤ S64x1x1152.size a) ∧
  (128 ∣ (k0_mult154 v2063).toNat) ∧
  (128 ∣ (k0_mult155 v2063).toNat) ∧
  (128 ∣ (k0_mult156 v2063).toNat) ∧
  (128 ∣ (k0_mult157 v2063).toNat) ∧
  (128 ∣ (k0_mult158 v2063).toNat) ∧
  (128 ∣ (k0_mult159 v2063).toNat) ∧
  (128 ∣ (k0_mult160 v2063).toNat)
theorem k0_mult137_dvd : ∀ (k0_t2 : Fin k0_t2_loop.trips) (v2063 : BitVec 32) (k0_hw22 : k0_chk22 k0_t2 v2063), 128 ∣ (k0_mult137 v2063).toNat := fun k0_t2 v2063 k0_hw22 => k0_hw22.1
theorem k0_off139_inb : ∀ (k0_t2 : Fin k0_t2_loop.trips) (v2063 : BitVec 32) (k0_hw22 : k0_chk22 k0_t2 v2063), ∀ (r : Fin 8), ∀ a, (k0_off139 k0_t2 v2063 (BitVec.ofNat 32 (128 * r.val))) a + S1x64x128.size a ≤ S64x64x1152.size a := fun k0_t2 v2063 k0_hw22 r => k0_hw22.2.1 r
theorem k0_mult138_dvd : ∀ (k0_t2 : Fin k0_t2_loop.trips) (v2063 : BitVec 32) (k0_hw22 : k0_chk22 k0_t2 v2063), 128 ∣ (k0_mult138 v2063).toNat := fun k0_t2 v2063 k0_hw22 => k0_hw22.2.2.1
theorem k0_mult139_dvd : ∀ (k0_t2 : Fin k0_t2_loop.trips) (v2063 : BitVec 32) (k0_hw22 : k0_chk22 k0_t2 v2063), 128 ∣ (k0_mult139 v2063).toNat := fun k0_t2 v2063 k0_hw22 => k0_hw22.2.2.2.1
theorem k0_mult140_dvd : ∀ (k0_t2 : Fin k0_t2_loop.trips) (v2063 : BitVec 32) (k0_hw22 : k0_chk22 k0_t2 v2063), 128 ∣ (k0_mult140 v2063).toNat := fun k0_t2 v2063 k0_hw22 => k0_hw22.2.2.2.2.1
theorem k0_mult141_dvd : ∀ (k0_t2 : Fin k0_t2_loop.trips) (v2063 : BitVec 32) (k0_hw22 : k0_chk22 k0_t2 v2063), 128 ∣ (k0_mult141 v2063).toNat := fun k0_t2 v2063 k0_hw22 => k0_hw22.2.2.2.2.2.1
theorem k0_mult142_dvd : ∀ (k0_t2 : Fin k0_t2_loop.trips) (v2063 : BitVec 32) (k0_hw22 : k0_chk22 k0_t2 v2063), 128 ∣ (k0_mult142 v2063).toNat := fun k0_t2 v2063 k0_hw22 => k0_hw22.2.2.2.2.2.2.1
theorem k0_mult143_dvd : ∀ (k0_t2 : Fin k0_t2_loop.trips) (v2063 : BitVec 32) (k0_hw22 : k0_chk22 k0_t2 v2063), 128 ∣ (k0_mult143 v2063).toNat := fun k0_t2 v2063 k0_hw22 => k0_hw22.2.2.2.2.2.2.2.1
theorem k0_mult144_dvd : ∀ (k0_t2 : Fin k0_t2_loop.trips) (v2063 : BitVec 32) (k0_hw22 : k0_chk22 k0_t2 v2063), 128 ∣ (k0_mult144 v2063).toNat := fun k0_t2 v2063 k0_hw22 => k0_hw22.2.2.2.2.2.2.2.2.1
theorem k0_mult145_dvd : ∀ (k0_t2 : Fin k0_t2_loop.trips) (v2063 : BitVec 32) (k0_hw22 : k0_chk22 k0_t2 v2063), 128 ∣ (k0_mult145 v2063).toNat := fun k0_t2 v2063 k0_hw22 => k0_hw22.2.2.2.2.2.2.2.2.2.1
theorem k0_mult146_dvd : ∀ (k0_t2 : Fin k0_t2_loop.trips) (v2063 : BitVec 32) (k0_hw22 : k0_chk22 k0_t2 v2063), 128 ∣ (k0_mult146 v2063).toNat := fun k0_t2 v2063 k0_hw22 => k0_hw22.2.2.2.2.2.2.2.2.2.2.1
theorem k0_mult147_dvd : ∀ (k0_t2 : Fin k0_t2_loop.trips) (v2063 : BitVec 32) (k0_hw22 : k0_chk22 k0_t2 v2063), 128 ∣ (k0_mult147 v2063).toNat := fun k0_t2 v2063 k0_hw22 => k0_hw22.2.2.2.2.2.2.2.2.2.2.2.1
theorem k0_mult148_dvd : ∀ (k0_t2 : Fin k0_t2_loop.trips) (v2063 : BitVec 32) (k0_hw22 : k0_chk22 k0_t2 v2063), 128 ∣ (k0_mult148 v2063).toNat := fun k0_t2 v2063 k0_hw22 => k0_hw22.2.2.2.2.2.2.2.2.2.2.2.2.1
theorem k0_mult149_dvd : ∀ (k0_t2 : Fin k0_t2_loop.trips) (v2063 : BitVec 32) (k0_hw22 : k0_chk22 k0_t2 v2063), 128 ∣ (k0_mult149 v2063).toNat := fun k0_t2 v2063 k0_hw22 => k0_hw22.2.2.2.2.2.2.2.2.2.2.2.2.2.1
theorem k0_mult150_dvd : ∀ (k0_t2 : Fin k0_t2_loop.trips) (v2063 : BitVec 32) (k0_hw22 : k0_chk22 k0_t2 v2063), 128 ∣ (k0_mult150 v2063).toNat := fun k0_t2 v2063 k0_hw22 => k0_hw22.2.2.2.2.2.2.2.2.2.2.2.2.2.2.1
theorem k0_mult151_dvd : ∀ (k0_t2 : Fin k0_t2_loop.trips) (v2063 : BitVec 32) (k0_hw22 : k0_chk22 k0_t2 v2063), 128 ∣ (k0_mult151 v2063).toNat := fun k0_t2 v2063 k0_hw22 => k0_hw22.2.2.2.2.2.2.2.2.2.2.2.2.2.2.2.1
theorem k0_mult152_dvd : ∀ (k0_t2 : Fin k0_t2_loop.trips) (v2063 : BitVec 32) (k0_hw22 : k0_chk22 k0_t2 v2063), 128 ∣ (k0_mult152 v2063).toNat := fun k0_t2 v2063 k0_hw22 => k0_hw22.2.2.2.2.2.2.2.2.2.2.2.2.2.2.2.2.1
theorem k0_mult153_dvd : ∀ (k0_t2 : Fin k0_t2_loop.trips) (v2063 : BitVec 32) (k0_hw22 : k0_chk22 k0_t2 v2063), 128 ∣ (k0_mult153 v2063).toNat := fun k0_t2 v2063 k0_hw22 => k0_hw22.2.2.2.2.2.2.2.2.2.2.2.2.2.2.2.2.2.1
theorem k0_off142_inb : ∀ (k0_t2 : Fin k0_t2_loop.trips) (v2063 : BitVec 32) (k0_hw22 : k0_chk22 k0_t2 v2063), ∀ (r : Fin 8), ∀ a, (k0_off142 k0_t2 v2063 (BitVec.ofNat 32 (128 * r.val))) a + S1x1x128.size a ≤ S64x1x1152.size a := fun k0_t2 v2063 k0_hw22 r => k0_hw22.2.2.2.2.2.2.2.2.2.2.2.2.2.2.2.2.2.2.1 r
theorem k0_mult154_dvd : ∀ (k0_t2 : Fin k0_t2_loop.trips) (v2063 : BitVec 32) (k0_hw22 : k0_chk22 k0_t2 v2063), 128 ∣ (k0_mult154 v2063).toNat := fun k0_t2 v2063 k0_hw22 => k0_hw22.2.2.2.2.2.2.2.2.2.2.2.2.2.2.2.2.2.2.2.1
theorem k0_mult155_dvd : ∀ (k0_t2 : Fin k0_t2_loop.trips) (v2063 : BitVec 32) (k0_hw22 : k0_chk22 k0_t2 v2063), 128 ∣ (k0_mult155 v2063).toNat := fun k0_t2 v2063 k0_hw22 => k0_hw22.2.2.2.2.2.2.2.2.2.2.2.2.2.2.2.2.2.2.2.2.1
theorem k0_mult156_dvd : ∀ (k0_t2 : Fin k0_t2_loop.trips) (v2063 : BitVec 32) (k0_hw22 : k0_chk22 k0_t2 v2063), 128 ∣ (k0_mult156 v2063).toNat := fun k0_t2 v2063 k0_hw22 => k0_hw22.2.2.2.2.2.2.2.2.2.2.2.2.2.2.2.2.2.2.2.2.2.1
theorem k0_mult157_dvd : ∀ (k0_t2 : Fin k0_t2_loop.trips) (v2063 : BitVec 32) (k0_hw22 : k0_chk22 k0_t2 v2063), 128 ∣ (k0_mult157 v2063).toNat := fun k0_t2 v2063 k0_hw22 => k0_hw22.2.2.2.2.2.2.2.2.2.2.2.2.2.2.2.2.2.2.2.2.2.2.1
theorem k0_mult158_dvd : ∀ (k0_t2 : Fin k0_t2_loop.trips) (v2063 : BitVec 32) (k0_hw22 : k0_chk22 k0_t2 v2063), 128 ∣ (k0_mult158 v2063).toNat := fun k0_t2 v2063 k0_hw22 => k0_hw22.2.2.2.2.2.2.2.2.2.2.2.2.2.2.2.2.2.2.2.2.2.2.2.1
theorem k0_mult159_dvd : ∀ (k0_t2 : Fin k0_t2_loop.trips) (v2063 : BitVec 32) (k0_hw22 : k0_chk22 k0_t2 v2063), 128 ∣ (k0_mult159 v2063).toNat := fun k0_t2 v2063 k0_hw22 => k0_hw22.2.2.2.2.2.2.2.2.2.2.2.2.2.2.2.2.2.2.2.2.2.2.2.2.1
theorem k0_mult160_dvd : ∀ (k0_t2 : Fin k0_t2_loop.trips) (v2063 : BitVec 32) (k0_hw22 : k0_chk22 k0_t2 v2063), 128 ∣ (k0_mult160 v2063).toNat := fun k0_t2 v2063 k0_hw22 => k0_hw22.2.2.2.2.2.2.2.2.2.2.2.2.2.2.2.2.2.2.2.2.2.2.2.2.2

def k0_off143 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2242 : Index := Scalar.indexCast v2061
  let c0_705 : Index := 0#32
  let c0_706 : Index := 0#32
  ![v2242.toNat, 0, 0]
def k0_off144 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2262 : Index := Scalar.indexCast v2061
  let c0_707 : Index := 0#32
  let c0_708 : Index := 0#32
  ![v2262.toNat, 0, 0]
def k0_off145 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_644 : BitVec 32 := 8#32
  let v2060 : BitVec 32 := Scalar.muli arg19 c8_i32_644
  let c5_i32_645 : BitVec 32 := 5#32
  let v2061 : BitVec 32 := Scalar.addi v2060 c5_i32_645
  let v2268 : Index := Scalar.indexCast v2061
  let c0_711 : Index := 0#32
  ![v2268.toNat, 0]
def k0_off146 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2332 : Index := Scalar.indexCast v2331
  ![v2332.toNat]
def k0_mult161 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c0_i32_730 : BitVec 32 := 0#32
  let v2343 : BitVec 32 := Scalar.addi v2338 c0_i32_730
  v2343

def k0_off147 (k0_t2 : Fin k0_t2_loop.trips) (v2333 : BitVec 32) (c0_i32_730 : BitVec 32) : Fin 3 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2345 : Index := Scalar.indexCast v2331
  let c0_731 : Index := 0#32
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let v2343 : BitVec 32 := Scalar.addi v2338 c0_i32_730
  let v2344 : BitVec 32 := v2343
  let v2346 : Index := Scalar.indexCast v2344
  ![v2345.toNat, 0, v2346.toNat]
def k0_mult162 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c128_i32_732 : BitVec 32 := 128#32
  let v2357 : BitVec 32 := Scalar.addi v2338 c128_i32_732
  v2357
def k0_mult163 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c256_i32_734 : BitVec 32 := 256#32
  let v2363 : BitVec 32 := Scalar.addi v2338 c256_i32_734
  v2363
def k0_mult164 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c384_i32_736 : BitVec 32 := 384#32
  let v2369 : BitVec 32 := Scalar.addi v2338 c384_i32_736
  v2369
def k0_mult165 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c512_i32_738 : BitVec 32 := 512#32
  let v2375 : BitVec 32 := Scalar.addi v2338 c512_i32_738
  v2375
def k0_mult166 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c640_i32_740 : BitVec 32 := 640#32
  let v2381 : BitVec 32 := Scalar.addi v2338 c640_i32_740
  v2381
def k0_mult167 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c768_i32_742 : BitVec 32 := 768#32
  let v2387 : BitVec 32 := Scalar.addi v2338 c768_i32_742
  v2387
def k0_mult168 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c896_i32_744 : BitVec 32 := 896#32
  let v2393 : BitVec 32 := Scalar.addi v2338 c896_i32_744
  v2393
def k0_off148 (k0_t2 : Fin k0_t2_loop.trips) (c6_i32_722 : BitVec 32) : Fin 3 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let v2331 : BitVec 32 := Scalar.addi v2330 c6_i32_722
  let v2399 : Index := Scalar.indexCast v2331
  let c0_746 : Index := 0#32
  let c1024_747 : Index := 1024#32
  ![v2399.toNat, 0, 1024]
def k0_mult169 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c0_i32_748 : BitVec 32 := 0#32
  let v2402 : BitVec 32 := Scalar.addi v2338 c0_i32_748
  v2402
def k0_mult170 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c128_i32_750 : BitVec 32 := 128#32
  let v2416 : BitVec 32 := Scalar.addi v2338 c128_i32_750
  v2416
def k0_mult171 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c256_i32_752 : BitVec 32 := 256#32
  let v2422 : BitVec 32 := Scalar.addi v2338 c256_i32_752
  v2422
def k0_mult172 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c384_i32_754 : BitVec 32 := 384#32
  let v2428 : BitVec 32 := Scalar.addi v2338 c384_i32_754
  v2428
def k0_mult173 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c512_i32_756 : BitVec 32 := 512#32
  let v2434 : BitVec 32 := Scalar.addi v2338 c512_i32_756
  v2434
def k0_mult174 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c640_i32_758 : BitVec 32 := 640#32
  let v2440 : BitVec 32 := Scalar.addi v2338 c640_i32_758
  v2440
def k0_mult175 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c768_i32_760 : BitVec 32 := 768#32
  let v2446 : BitVec 32 := Scalar.addi v2338 c768_i32_760
  v2446
def k0_mult176 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c896_i32_762 : BitVec 32 := 896#32
  let v2452 : BitVec 32 := Scalar.addi v2338 c896_i32_762
  v2452
def k0_off149 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2458 : Index := Scalar.indexCast v2331
  let c0_764 : Index := 0#32
  let c1024_765 : Index := 1024#32
  ![v2458.toNat, 0, 1024]
def k0_mult177 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c0_i32_766 : BitVec 32 := 0#32
  let v2461 : BitVec 32 := Scalar.addi v2338 c0_i32_766
  v2461
def k0_off150 (k0_t2 : Fin k0_t2_loop.trips) (v2333 : BitVec 32) (c0_i32_766 : BitVec 32) : Fin 3 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2463 : Index := Scalar.indexCast v2331
  let c0_767 : Index := 0#32
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let v2461 : BitVec 32 := Scalar.addi v2338 c0_i32_766
  let v2462 : BitVec 32 := v2461
  let v2464 : Index := Scalar.indexCast v2462
  ![v2463.toNat, 0, v2464.toNat]
def k0_mult178 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c128_i32_768 : BitVec 32 := 128#32
  let v2470 : BitVec 32 := Scalar.addi v2338 c128_i32_768
  v2470
def k0_mult179 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c256_i32_770 : BitVec 32 := 256#32
  let v2476 : BitVec 32 := Scalar.addi v2338 c256_i32_770
  v2476
def k0_mult180 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c384_i32_772 : BitVec 32 := 384#32
  let v2482 : BitVec 32 := Scalar.addi v2338 c384_i32_772
  v2482
def k0_mult181 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c512_i32_774 : BitVec 32 := 512#32
  let v2488 : BitVec 32 := Scalar.addi v2338 c512_i32_774
  v2488
def k0_mult182 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c640_i32_776 : BitVec 32 := 640#32
  let v2494 : BitVec 32 := Scalar.addi v2338 c640_i32_776
  v2494
def k0_mult183 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c768_i32_778 : BitVec 32 := 768#32
  let v2500 : BitVec 32 := Scalar.addi v2338 c768_i32_778
  v2500
def k0_mult184 (v2333 : BitVec 32) : BitVec 32 :=
  let c1024_i32_723 : BitVec 32 := 1024#32
  let v2334 : BitVec 32 := Scalar.subi v2333 c1024_i32_723
  let c7_i32_724 : BitVec 32 := 7#32
  let v2335 : BitVec 32 := Scalar.shrui v2334 c7_i32_724
  let c128_i32_725 : BitVec 32 := 128#32
  let v2336 : BitVec 32 := Scalar.muli v2335 c128_i32_725
  let c31616_i32_726 : BitVec 32 := 31616#32
  let v2337 : BitVec 32 := Scalar.minsi v2336 c31616_i32_726
  let v2338 : BitVec 32 := Scalar.subi v2336 v2337
  let c896_i32_780 : BitVec 32 := 896#32
  let v2506 : BitVec 32 := Scalar.addi v2338 c896_i32_780
  v2506

def k0_chk23 (k0_t2 : Fin k0_t2_loop.trips) (v2333 : BitVec 32) : Prop :=
  (128 ∣ (k0_mult161 v2333).toNat) ∧
  (∀ (r : Fin 8), ∀ a, (k0_off147 k0_t2 v2333 (BitVec.ofNat 32 (128 * r.val))) a + S1x64x128.size a ≤ S64x64x1152.size a) ∧
  (128 ∣ (k0_mult162 v2333).toNat) ∧
  (128 ∣ (k0_mult163 v2333).toNat) ∧
  (128 ∣ (k0_mult164 v2333).toNat) ∧
  (128 ∣ (k0_mult165 v2333).toNat) ∧
  (128 ∣ (k0_mult166 v2333).toNat) ∧
  (128 ∣ (k0_mult167 v2333).toNat) ∧
  (128 ∣ (k0_mult168 v2333).toNat) ∧
  (128 ∣ (k0_mult169 v2333).toNat) ∧
  (128 ∣ (k0_mult170 v2333).toNat) ∧
  (128 ∣ (k0_mult171 v2333).toNat) ∧
  (128 ∣ (k0_mult172 v2333).toNat) ∧
  (128 ∣ (k0_mult173 v2333).toNat) ∧
  (128 ∣ (k0_mult174 v2333).toNat) ∧
  (128 ∣ (k0_mult175 v2333).toNat) ∧
  (128 ∣ (k0_mult176 v2333).toNat) ∧
  (128 ∣ (k0_mult177 v2333).toNat) ∧
  (∀ (r : Fin 8), ∀ a, (k0_off150 k0_t2 v2333 (BitVec.ofNat 32 (128 * r.val))) a + S1x1x128.size a ≤ S64x1x1152.size a) ∧
  (128 ∣ (k0_mult178 v2333).toNat) ∧
  (128 ∣ (k0_mult179 v2333).toNat) ∧
  (128 ∣ (k0_mult180 v2333).toNat) ∧
  (128 ∣ (k0_mult181 v2333).toNat) ∧
  (128 ∣ (k0_mult182 v2333).toNat) ∧
  (128 ∣ (k0_mult183 v2333).toNat) ∧
  (128 ∣ (k0_mult184 v2333).toNat)
theorem k0_mult161_dvd : ∀ (k0_t2 : Fin k0_t2_loop.trips) (v2333 : BitVec 32) (k0_hw23 : k0_chk23 k0_t2 v2333), 128 ∣ (k0_mult161 v2333).toNat := fun k0_t2 v2333 k0_hw23 => k0_hw23.1
theorem k0_off147_inb : ∀ (k0_t2 : Fin k0_t2_loop.trips) (v2333 : BitVec 32) (k0_hw23 : k0_chk23 k0_t2 v2333), ∀ (r : Fin 8), ∀ a, (k0_off147 k0_t2 v2333 (BitVec.ofNat 32 (128 * r.val))) a + S1x64x128.size a ≤ S64x64x1152.size a := fun k0_t2 v2333 k0_hw23 r => k0_hw23.2.1 r
theorem k0_mult162_dvd : ∀ (k0_t2 : Fin k0_t2_loop.trips) (v2333 : BitVec 32) (k0_hw23 : k0_chk23 k0_t2 v2333), 128 ∣ (k0_mult162 v2333).toNat := fun k0_t2 v2333 k0_hw23 => k0_hw23.2.2.1
theorem k0_mult163_dvd : ∀ (k0_t2 : Fin k0_t2_loop.trips) (v2333 : BitVec 32) (k0_hw23 : k0_chk23 k0_t2 v2333), 128 ∣ (k0_mult163 v2333).toNat := fun k0_t2 v2333 k0_hw23 => k0_hw23.2.2.2.1
theorem k0_mult164_dvd : ∀ (k0_t2 : Fin k0_t2_loop.trips) (v2333 : BitVec 32) (k0_hw23 : k0_chk23 k0_t2 v2333), 128 ∣ (k0_mult164 v2333).toNat := fun k0_t2 v2333 k0_hw23 => k0_hw23.2.2.2.2.1
theorem k0_mult165_dvd : ∀ (k0_t2 : Fin k0_t2_loop.trips) (v2333 : BitVec 32) (k0_hw23 : k0_chk23 k0_t2 v2333), 128 ∣ (k0_mult165 v2333).toNat := fun k0_t2 v2333 k0_hw23 => k0_hw23.2.2.2.2.2.1
theorem k0_mult166_dvd : ∀ (k0_t2 : Fin k0_t2_loop.trips) (v2333 : BitVec 32) (k0_hw23 : k0_chk23 k0_t2 v2333), 128 ∣ (k0_mult166 v2333).toNat := fun k0_t2 v2333 k0_hw23 => k0_hw23.2.2.2.2.2.2.1
theorem k0_mult167_dvd : ∀ (k0_t2 : Fin k0_t2_loop.trips) (v2333 : BitVec 32) (k0_hw23 : k0_chk23 k0_t2 v2333), 128 ∣ (k0_mult167 v2333).toNat := fun k0_t2 v2333 k0_hw23 => k0_hw23.2.2.2.2.2.2.2.1
theorem k0_mult168_dvd : ∀ (k0_t2 : Fin k0_t2_loop.trips) (v2333 : BitVec 32) (k0_hw23 : k0_chk23 k0_t2 v2333), 128 ∣ (k0_mult168 v2333).toNat := fun k0_t2 v2333 k0_hw23 => k0_hw23.2.2.2.2.2.2.2.2.1
theorem k0_mult169_dvd : ∀ (k0_t2 : Fin k0_t2_loop.trips) (v2333 : BitVec 32) (k0_hw23 : k0_chk23 k0_t2 v2333), 128 ∣ (k0_mult169 v2333).toNat := fun k0_t2 v2333 k0_hw23 => k0_hw23.2.2.2.2.2.2.2.2.2.1
theorem k0_mult170_dvd : ∀ (k0_t2 : Fin k0_t2_loop.trips) (v2333 : BitVec 32) (k0_hw23 : k0_chk23 k0_t2 v2333), 128 ∣ (k0_mult170 v2333).toNat := fun k0_t2 v2333 k0_hw23 => k0_hw23.2.2.2.2.2.2.2.2.2.2.1
theorem k0_mult171_dvd : ∀ (k0_t2 : Fin k0_t2_loop.trips) (v2333 : BitVec 32) (k0_hw23 : k0_chk23 k0_t2 v2333), 128 ∣ (k0_mult171 v2333).toNat := fun k0_t2 v2333 k0_hw23 => k0_hw23.2.2.2.2.2.2.2.2.2.2.2.1
theorem k0_mult172_dvd : ∀ (k0_t2 : Fin k0_t2_loop.trips) (v2333 : BitVec 32) (k0_hw23 : k0_chk23 k0_t2 v2333), 128 ∣ (k0_mult172 v2333).toNat := fun k0_t2 v2333 k0_hw23 => k0_hw23.2.2.2.2.2.2.2.2.2.2.2.2.1
theorem k0_mult173_dvd : ∀ (k0_t2 : Fin k0_t2_loop.trips) (v2333 : BitVec 32) (k0_hw23 : k0_chk23 k0_t2 v2333), 128 ∣ (k0_mult173 v2333).toNat := fun k0_t2 v2333 k0_hw23 => k0_hw23.2.2.2.2.2.2.2.2.2.2.2.2.2.1
theorem k0_mult174_dvd : ∀ (k0_t2 : Fin k0_t2_loop.trips) (v2333 : BitVec 32) (k0_hw23 : k0_chk23 k0_t2 v2333), 128 ∣ (k0_mult174 v2333).toNat := fun k0_t2 v2333 k0_hw23 => k0_hw23.2.2.2.2.2.2.2.2.2.2.2.2.2.2.1
theorem k0_mult175_dvd : ∀ (k0_t2 : Fin k0_t2_loop.trips) (v2333 : BitVec 32) (k0_hw23 : k0_chk23 k0_t2 v2333), 128 ∣ (k0_mult175 v2333).toNat := fun k0_t2 v2333 k0_hw23 => k0_hw23.2.2.2.2.2.2.2.2.2.2.2.2.2.2.2.1
theorem k0_mult176_dvd : ∀ (k0_t2 : Fin k0_t2_loop.trips) (v2333 : BitVec 32) (k0_hw23 : k0_chk23 k0_t2 v2333), 128 ∣ (k0_mult176 v2333).toNat := fun k0_t2 v2333 k0_hw23 => k0_hw23.2.2.2.2.2.2.2.2.2.2.2.2.2.2.2.2.1
theorem k0_mult177_dvd : ∀ (k0_t2 : Fin k0_t2_loop.trips) (v2333 : BitVec 32) (k0_hw23 : k0_chk23 k0_t2 v2333), 128 ∣ (k0_mult177 v2333).toNat := fun k0_t2 v2333 k0_hw23 => k0_hw23.2.2.2.2.2.2.2.2.2.2.2.2.2.2.2.2.2.1
theorem k0_off150_inb : ∀ (k0_t2 : Fin k0_t2_loop.trips) (v2333 : BitVec 32) (k0_hw23 : k0_chk23 k0_t2 v2333), ∀ (r : Fin 8), ∀ a, (k0_off150 k0_t2 v2333 (BitVec.ofNat 32 (128 * r.val))) a + S1x1x128.size a ≤ S64x1x1152.size a := fun k0_t2 v2333 k0_hw23 r => k0_hw23.2.2.2.2.2.2.2.2.2.2.2.2.2.2.2.2.2.2.1 r
theorem k0_mult178_dvd : ∀ (k0_t2 : Fin k0_t2_loop.trips) (v2333 : BitVec 32) (k0_hw23 : k0_chk23 k0_t2 v2333), 128 ∣ (k0_mult178 v2333).toNat := fun k0_t2 v2333 k0_hw23 => k0_hw23.2.2.2.2.2.2.2.2.2.2.2.2.2.2.2.2.2.2.2.1
theorem k0_mult179_dvd : ∀ (k0_t2 : Fin k0_t2_loop.trips) (v2333 : BitVec 32) (k0_hw23 : k0_chk23 k0_t2 v2333), 128 ∣ (k0_mult179 v2333).toNat := fun k0_t2 v2333 k0_hw23 => k0_hw23.2.2.2.2.2.2.2.2.2.2.2.2.2.2.2.2.2.2.2.2.1
theorem k0_mult180_dvd : ∀ (k0_t2 : Fin k0_t2_loop.trips) (v2333 : BitVec 32) (k0_hw23 : k0_chk23 k0_t2 v2333), 128 ∣ (k0_mult180 v2333).toNat := fun k0_t2 v2333 k0_hw23 => k0_hw23.2.2.2.2.2.2.2.2.2.2.2.2.2.2.2.2.2.2.2.2.2.1
theorem k0_mult181_dvd : ∀ (k0_t2 : Fin k0_t2_loop.trips) (v2333 : BitVec 32) (k0_hw23 : k0_chk23 k0_t2 v2333), 128 ∣ (k0_mult181 v2333).toNat := fun k0_t2 v2333 k0_hw23 => k0_hw23.2.2.2.2.2.2.2.2.2.2.2.2.2.2.2.2.2.2.2.2.2.2.1
theorem k0_mult182_dvd : ∀ (k0_t2 : Fin k0_t2_loop.trips) (v2333 : BitVec 32) (k0_hw23 : k0_chk23 k0_t2 v2333), 128 ∣ (k0_mult182 v2333).toNat := fun k0_t2 v2333 k0_hw23 => k0_hw23.2.2.2.2.2.2.2.2.2.2.2.2.2.2.2.2.2.2.2.2.2.2.2.1
theorem k0_mult183_dvd : ∀ (k0_t2 : Fin k0_t2_loop.trips) (v2333 : BitVec 32) (k0_hw23 : k0_chk23 k0_t2 v2333), 128 ∣ (k0_mult183 v2333).toNat := fun k0_t2 v2333 k0_hw23 => k0_hw23.2.2.2.2.2.2.2.2.2.2.2.2.2.2.2.2.2.2.2.2.2.2.2.2.1
theorem k0_mult184_dvd : ∀ (k0_t2 : Fin k0_t2_loop.trips) (v2333 : BitVec 32) (k0_hw23 : k0_chk23 k0_t2 v2333), 128 ∣ (k0_mult184 v2333).toNat := fun k0_t2 v2333 k0_hw23 => k0_hw23.2.2.2.2.2.2.2.2.2.2.2.2.2.2.2.2.2.2.2.2.2.2.2.2.2

def k0_off151 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2512 : Index := Scalar.indexCast v2331
  let c0_782 : Index := 0#32
  let c0_783 : Index := 0#32
  ![v2512.toNat, 0, 0]
def k0_off152 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2532 : Index := Scalar.indexCast v2331
  let c0_784 : Index := 0#32
  let c0_785 : Index := 0#32
  ![v2532.toNat, 0, 0]
def k0_off153 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_721 : BitVec 32 := 8#32
  let v2330 : BitVec 32 := Scalar.muli arg19 c8_i32_721
  let c6_i32_722 : BitVec 32 := 6#32
  let v2331 : BitVec 32 := Scalar.addi v2330 c6_i32_722
  let v2538 : Index := Scalar.indexCast v2331
  let c0_788 : Index := 0#32
  ![v2538.toNat, 0]
def k0_off154 (k0_t2 : Fin k0_t2_loop.trips) : Fin 1 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2602 : Index := Scalar.indexCast v2601
  ![v2602.toNat]
def k0_mult185 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c0_i32_807 : BitVec 32 := 0#32
  let v2613 : BitVec 32 := Scalar.addi v2608 c0_i32_807
  v2613

def k0_off155 (k0_t2 : Fin k0_t2_loop.trips) (v2603 : BitVec 32) (c0_i32_807 : BitVec 32) : Fin 3 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2615 : Index := Scalar.indexCast v2601
  let c0_808 : Index := 0#32
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let v2613 : BitVec 32 := Scalar.addi v2608 c0_i32_807
  let v2614 : BitVec 32 := v2613
  let v2616 : Index := Scalar.indexCast v2614
  ![v2615.toNat, 0, v2616.toNat]
def k0_mult186 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c128_i32_809 : BitVec 32 := 128#32
  let v2627 : BitVec 32 := Scalar.addi v2608 c128_i32_809
  v2627
def k0_mult187 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c256_i32_811 : BitVec 32 := 256#32
  let v2633 : BitVec 32 := Scalar.addi v2608 c256_i32_811
  v2633
def k0_mult188 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c384_i32_813 : BitVec 32 := 384#32
  let v2639 : BitVec 32 := Scalar.addi v2608 c384_i32_813
  v2639
def k0_mult189 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c512_i32_815 : BitVec 32 := 512#32
  let v2645 : BitVec 32 := Scalar.addi v2608 c512_i32_815
  v2645
def k0_mult190 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c640_i32_817 : BitVec 32 := 640#32
  let v2651 : BitVec 32 := Scalar.addi v2608 c640_i32_817
  v2651
def k0_mult191 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c768_i32_819 : BitVec 32 := 768#32
  let v2657 : BitVec 32 := Scalar.addi v2608 c768_i32_819
  v2657
def k0_mult192 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c896_i32_821 : BitVec 32 := 896#32
  let v2663 : BitVec 32 := Scalar.addi v2608 c896_i32_821
  v2663
def k0_off156 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2669 : Index := Scalar.indexCast v2601
  let c0_823 : Index := 0#32
  let c1024_824 : Index := 1024#32
  ![v2669.toNat, 0, 1024]
def k0_mult193 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c0_i32_825 : BitVec 32 := 0#32
  let v2672 : BitVec 32 := Scalar.addi v2608 c0_i32_825
  v2672
def k0_mult194 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c128_i32_827 : BitVec 32 := 128#32
  let v2686 : BitVec 32 := Scalar.addi v2608 c128_i32_827
  v2686
def k0_mult195 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c256_i32_829 : BitVec 32 := 256#32
  let v2692 : BitVec 32 := Scalar.addi v2608 c256_i32_829
  v2692
def k0_mult196 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c384_i32_831 : BitVec 32 := 384#32
  let v2698 : BitVec 32 := Scalar.addi v2608 c384_i32_831
  v2698
def k0_mult197 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c512_i32_833 : BitVec 32 := 512#32
  let v2704 : BitVec 32 := Scalar.addi v2608 c512_i32_833
  v2704
def k0_mult198 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c640_i32_835 : BitVec 32 := 640#32
  let v2710 : BitVec 32 := Scalar.addi v2608 c640_i32_835
  v2710
def k0_mult199 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c768_i32_837 : BitVec 32 := 768#32
  let v2716 : BitVec 32 := Scalar.addi v2608 c768_i32_837
  v2716
def k0_mult200 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c896_i32_839 : BitVec 32 := 896#32
  let v2722 : BitVec 32 := Scalar.addi v2608 c896_i32_839
  v2722
def k0_off157 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2728 : Index := Scalar.indexCast v2601
  let c0_841 : Index := 0#32
  let c1024_842 : Index := 1024#32
  ![v2728.toNat, 0, 1024]
def k0_mult201 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c0_i32_843 : BitVec 32 := 0#32
  let v2731 : BitVec 32 := Scalar.addi v2608 c0_i32_843
  v2731
def k0_off158 (k0_t2 : Fin k0_t2_loop.trips) (v2603 : BitVec 32) (c0_i32_843 : BitVec 32) : Fin 3 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2733 : Index := Scalar.indexCast v2601
  let c0_844 : Index := 0#32
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let v2731 : BitVec 32 := Scalar.addi v2608 c0_i32_843
  let v2732 : BitVec 32 := v2731
  let v2734 : Index := Scalar.indexCast v2732
  ![v2733.toNat, 0, v2734.toNat]
def k0_mult202 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c128_i32_845 : BitVec 32 := 128#32
  let v2740 : BitVec 32 := Scalar.addi v2608 c128_i32_845
  v2740
def k0_mult203 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c256_i32_847 : BitVec 32 := 256#32
  let v2746 : BitVec 32 := Scalar.addi v2608 c256_i32_847
  v2746
def k0_mult204 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c384_i32_849 : BitVec 32 := 384#32
  let v2752 : BitVec 32 := Scalar.addi v2608 c384_i32_849
  v2752
def k0_mult205 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c512_i32_851 : BitVec 32 := 512#32
  let v2758 : BitVec 32 := Scalar.addi v2608 c512_i32_851
  v2758
def k0_mult206 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c640_i32_853 : BitVec 32 := 640#32
  let v2764 : BitVec 32 := Scalar.addi v2608 c640_i32_853
  v2764
def k0_mult207 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c768_i32_855 : BitVec 32 := 768#32
  let v2770 : BitVec 32 := Scalar.addi v2608 c768_i32_855
  v2770
def k0_mult208 (v2603 : BitVec 32) : BitVec 32 :=
  let c1024_i32_800 : BitVec 32 := 1024#32
  let v2604 : BitVec 32 := Scalar.subi v2603 c1024_i32_800
  let c7_i32_801 : BitVec 32 := 7#32
  let v2605 : BitVec 32 := Scalar.shrui v2604 c7_i32_801
  let c128_i32_802 : BitVec 32 := 128#32
  let v2606 : BitVec 32 := Scalar.muli v2605 c128_i32_802
  let c31616_i32_803 : BitVec 32 := 31616#32
  let v2607 : BitVec 32 := Scalar.minsi v2606 c31616_i32_803
  let v2608 : BitVec 32 := Scalar.subi v2606 v2607
  let c896_i32_857 : BitVec 32 := 896#32
  let v2776 : BitVec 32 := Scalar.addi v2608 c896_i32_857
  v2776

def k0_chk24 (k0_t2 : Fin k0_t2_loop.trips) (v2603 : BitVec 32) : Prop :=
  (128 ∣ (k0_mult185 v2603).toNat) ∧
  (∀ (r : Fin 8), ∀ a, (k0_off155 k0_t2 v2603 (BitVec.ofNat 32 (128 * r.val))) a + S1x64x128.size a ≤ S64x64x1152.size a) ∧
  (128 ∣ (k0_mult186 v2603).toNat) ∧
  (128 ∣ (k0_mult187 v2603).toNat) ∧
  (128 ∣ (k0_mult188 v2603).toNat) ∧
  (128 ∣ (k0_mult189 v2603).toNat) ∧
  (128 ∣ (k0_mult190 v2603).toNat) ∧
  (128 ∣ (k0_mult191 v2603).toNat) ∧
  (128 ∣ (k0_mult192 v2603).toNat) ∧
  (128 ∣ (k0_mult193 v2603).toNat) ∧
  (128 ∣ (k0_mult194 v2603).toNat) ∧
  (128 ∣ (k0_mult195 v2603).toNat) ∧
  (128 ∣ (k0_mult196 v2603).toNat) ∧
  (128 ∣ (k0_mult197 v2603).toNat) ∧
  (128 ∣ (k0_mult198 v2603).toNat) ∧
  (128 ∣ (k0_mult199 v2603).toNat) ∧
  (128 ∣ (k0_mult200 v2603).toNat) ∧
  (128 ∣ (k0_mult201 v2603).toNat) ∧
  (∀ (r : Fin 8), ∀ a, (k0_off158 k0_t2 v2603 (BitVec.ofNat 32 (128 * r.val))) a + S1x1x128.size a ≤ S64x1x1152.size a) ∧
  (128 ∣ (k0_mult202 v2603).toNat) ∧
  (128 ∣ (k0_mult203 v2603).toNat) ∧
  (128 ∣ (k0_mult204 v2603).toNat) ∧
  (128 ∣ (k0_mult205 v2603).toNat) ∧
  (128 ∣ (k0_mult206 v2603).toNat) ∧
  (128 ∣ (k0_mult207 v2603).toNat) ∧
  (128 ∣ (k0_mult208 v2603).toNat)
theorem k0_mult185_dvd : ∀ (k0_t2 : Fin k0_t2_loop.trips) (v2603 : BitVec 32) (k0_hw24 : k0_chk24 k0_t2 v2603), 128 ∣ (k0_mult185 v2603).toNat := fun k0_t2 v2603 k0_hw24 => k0_hw24.1
theorem k0_off155_inb : ∀ (k0_t2 : Fin k0_t2_loop.trips) (v2603 : BitVec 32) (k0_hw24 : k0_chk24 k0_t2 v2603), ∀ (r : Fin 8), ∀ a, (k0_off155 k0_t2 v2603 (BitVec.ofNat 32 (128 * r.val))) a + S1x64x128.size a ≤ S64x64x1152.size a := fun k0_t2 v2603 k0_hw24 r => k0_hw24.2.1 r
theorem k0_mult186_dvd : ∀ (k0_t2 : Fin k0_t2_loop.trips) (v2603 : BitVec 32) (k0_hw24 : k0_chk24 k0_t2 v2603), 128 ∣ (k0_mult186 v2603).toNat := fun k0_t2 v2603 k0_hw24 => k0_hw24.2.2.1
theorem k0_mult187_dvd : ∀ (k0_t2 : Fin k0_t2_loop.trips) (v2603 : BitVec 32) (k0_hw24 : k0_chk24 k0_t2 v2603), 128 ∣ (k0_mult187 v2603).toNat := fun k0_t2 v2603 k0_hw24 => k0_hw24.2.2.2.1
theorem k0_mult188_dvd : ∀ (k0_t2 : Fin k0_t2_loop.trips) (v2603 : BitVec 32) (k0_hw24 : k0_chk24 k0_t2 v2603), 128 ∣ (k0_mult188 v2603).toNat := fun k0_t2 v2603 k0_hw24 => k0_hw24.2.2.2.2.1
theorem k0_mult189_dvd : ∀ (k0_t2 : Fin k0_t2_loop.trips) (v2603 : BitVec 32) (k0_hw24 : k0_chk24 k0_t2 v2603), 128 ∣ (k0_mult189 v2603).toNat := fun k0_t2 v2603 k0_hw24 => k0_hw24.2.2.2.2.2.1
theorem k0_mult190_dvd : ∀ (k0_t2 : Fin k0_t2_loop.trips) (v2603 : BitVec 32) (k0_hw24 : k0_chk24 k0_t2 v2603), 128 ∣ (k0_mult190 v2603).toNat := fun k0_t2 v2603 k0_hw24 => k0_hw24.2.2.2.2.2.2.1
theorem k0_mult191_dvd : ∀ (k0_t2 : Fin k0_t2_loop.trips) (v2603 : BitVec 32) (k0_hw24 : k0_chk24 k0_t2 v2603), 128 ∣ (k0_mult191 v2603).toNat := fun k0_t2 v2603 k0_hw24 => k0_hw24.2.2.2.2.2.2.2.1
theorem k0_mult192_dvd : ∀ (k0_t2 : Fin k0_t2_loop.trips) (v2603 : BitVec 32) (k0_hw24 : k0_chk24 k0_t2 v2603), 128 ∣ (k0_mult192 v2603).toNat := fun k0_t2 v2603 k0_hw24 => k0_hw24.2.2.2.2.2.2.2.2.1
theorem k0_mult193_dvd : ∀ (k0_t2 : Fin k0_t2_loop.trips) (v2603 : BitVec 32) (k0_hw24 : k0_chk24 k0_t2 v2603), 128 ∣ (k0_mult193 v2603).toNat := fun k0_t2 v2603 k0_hw24 => k0_hw24.2.2.2.2.2.2.2.2.2.1
theorem k0_mult194_dvd : ∀ (k0_t2 : Fin k0_t2_loop.trips) (v2603 : BitVec 32) (k0_hw24 : k0_chk24 k0_t2 v2603), 128 ∣ (k0_mult194 v2603).toNat := fun k0_t2 v2603 k0_hw24 => k0_hw24.2.2.2.2.2.2.2.2.2.2.1
theorem k0_mult195_dvd : ∀ (k0_t2 : Fin k0_t2_loop.trips) (v2603 : BitVec 32) (k0_hw24 : k0_chk24 k0_t2 v2603), 128 ∣ (k0_mult195 v2603).toNat := fun k0_t2 v2603 k0_hw24 => k0_hw24.2.2.2.2.2.2.2.2.2.2.2.1
theorem k0_mult196_dvd : ∀ (k0_t2 : Fin k0_t2_loop.trips) (v2603 : BitVec 32) (k0_hw24 : k0_chk24 k0_t2 v2603), 128 ∣ (k0_mult196 v2603).toNat := fun k0_t2 v2603 k0_hw24 => k0_hw24.2.2.2.2.2.2.2.2.2.2.2.2.1
theorem k0_mult197_dvd : ∀ (k0_t2 : Fin k0_t2_loop.trips) (v2603 : BitVec 32) (k0_hw24 : k0_chk24 k0_t2 v2603), 128 ∣ (k0_mult197 v2603).toNat := fun k0_t2 v2603 k0_hw24 => k0_hw24.2.2.2.2.2.2.2.2.2.2.2.2.2.1
theorem k0_mult198_dvd : ∀ (k0_t2 : Fin k0_t2_loop.trips) (v2603 : BitVec 32) (k0_hw24 : k0_chk24 k0_t2 v2603), 128 ∣ (k0_mult198 v2603).toNat := fun k0_t2 v2603 k0_hw24 => k0_hw24.2.2.2.2.2.2.2.2.2.2.2.2.2.2.1
theorem k0_mult199_dvd : ∀ (k0_t2 : Fin k0_t2_loop.trips) (v2603 : BitVec 32) (k0_hw24 : k0_chk24 k0_t2 v2603), 128 ∣ (k0_mult199 v2603).toNat := fun k0_t2 v2603 k0_hw24 => k0_hw24.2.2.2.2.2.2.2.2.2.2.2.2.2.2.2.1
theorem k0_mult200_dvd : ∀ (k0_t2 : Fin k0_t2_loop.trips) (v2603 : BitVec 32) (k0_hw24 : k0_chk24 k0_t2 v2603), 128 ∣ (k0_mult200 v2603).toNat := fun k0_t2 v2603 k0_hw24 => k0_hw24.2.2.2.2.2.2.2.2.2.2.2.2.2.2.2.2.1
theorem k0_mult201_dvd : ∀ (k0_t2 : Fin k0_t2_loop.trips) (v2603 : BitVec 32) (k0_hw24 : k0_chk24 k0_t2 v2603), 128 ∣ (k0_mult201 v2603).toNat := fun k0_t2 v2603 k0_hw24 => k0_hw24.2.2.2.2.2.2.2.2.2.2.2.2.2.2.2.2.2.1
theorem k0_off158_inb : ∀ (k0_t2 : Fin k0_t2_loop.trips) (v2603 : BitVec 32) (k0_hw24 : k0_chk24 k0_t2 v2603), ∀ (r : Fin 8), ∀ a, (k0_off158 k0_t2 v2603 (BitVec.ofNat 32 (128 * r.val))) a + S1x1x128.size a ≤ S64x1x1152.size a := fun k0_t2 v2603 k0_hw24 r => k0_hw24.2.2.2.2.2.2.2.2.2.2.2.2.2.2.2.2.2.2.1 r
theorem k0_mult202_dvd : ∀ (k0_t2 : Fin k0_t2_loop.trips) (v2603 : BitVec 32) (k0_hw24 : k0_chk24 k0_t2 v2603), 128 ∣ (k0_mult202 v2603).toNat := fun k0_t2 v2603 k0_hw24 => k0_hw24.2.2.2.2.2.2.2.2.2.2.2.2.2.2.2.2.2.2.2.1
theorem k0_mult203_dvd : ∀ (k0_t2 : Fin k0_t2_loop.trips) (v2603 : BitVec 32) (k0_hw24 : k0_chk24 k0_t2 v2603), 128 ∣ (k0_mult203 v2603).toNat := fun k0_t2 v2603 k0_hw24 => k0_hw24.2.2.2.2.2.2.2.2.2.2.2.2.2.2.2.2.2.2.2.2.1
theorem k0_mult204_dvd : ∀ (k0_t2 : Fin k0_t2_loop.trips) (v2603 : BitVec 32) (k0_hw24 : k0_chk24 k0_t2 v2603), 128 ∣ (k0_mult204 v2603).toNat := fun k0_t2 v2603 k0_hw24 => k0_hw24.2.2.2.2.2.2.2.2.2.2.2.2.2.2.2.2.2.2.2.2.2.1
theorem k0_mult205_dvd : ∀ (k0_t2 : Fin k0_t2_loop.trips) (v2603 : BitVec 32) (k0_hw24 : k0_chk24 k0_t2 v2603), 128 ∣ (k0_mult205 v2603).toNat := fun k0_t2 v2603 k0_hw24 => k0_hw24.2.2.2.2.2.2.2.2.2.2.2.2.2.2.2.2.2.2.2.2.2.2.1
theorem k0_mult206_dvd : ∀ (k0_t2 : Fin k0_t2_loop.trips) (v2603 : BitVec 32) (k0_hw24 : k0_chk24 k0_t2 v2603), 128 ∣ (k0_mult206 v2603).toNat := fun k0_t2 v2603 k0_hw24 => k0_hw24.2.2.2.2.2.2.2.2.2.2.2.2.2.2.2.2.2.2.2.2.2.2.2.1
theorem k0_mult207_dvd : ∀ (k0_t2 : Fin k0_t2_loop.trips) (v2603 : BitVec 32) (k0_hw24 : k0_chk24 k0_t2 v2603), 128 ∣ (k0_mult207 v2603).toNat := fun k0_t2 v2603 k0_hw24 => k0_hw24.2.2.2.2.2.2.2.2.2.2.2.2.2.2.2.2.2.2.2.2.2.2.2.2.1
theorem k0_mult208_dvd : ∀ (k0_t2 : Fin k0_t2_loop.trips) (v2603 : BitVec 32) (k0_hw24 : k0_chk24 k0_t2 v2603), 128 ∣ (k0_mult208 v2603).toNat := fun k0_t2 v2603 k0_hw24 => k0_hw24.2.2.2.2.2.2.2.2.2.2.2.2.2.2.2.2.2.2.2.2.2.2.2.2.2

def k0_off159 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2782 : Index := Scalar.indexCast v2601
  let c0_859 : Index := 0#32
  let c0_860 : Index := 0#32
  ![v2782.toNat, 0, 0]
def k0_off160 (k0_t2 : Fin k0_t2_loop.trips) : Fin 3 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2802 : Index := Scalar.indexCast v2601
  let c0_861 : Index := 0#32
  let c0_862 : Index := 0#32
  ![v2802.toNat, 0, 0]
def k0_off161 (k0_t2 : Fin k0_t2_loop.trips) : Fin 2 → Nat :=
  let c0_i32_152 : BitVec 32 := 0#32
  let c1_i32_154 : BitVec 32 := 1#32
  let arg19 : BitVec 32 := Scf.iv c0_i32_152 c1_i32_154 k0_t2
  let c8_i32_798 : BitVec 32 := 8#32
  let v2600 : BitVec 32 := Scalar.muli arg19 c8_i32_798
  let c7_i32_799 : BitVec 32 := 7#32
  let v2601 : BitVec 32 := Scalar.addi v2600 c7_i32_799
  let v2808 : Index := Scalar.indexCast v2601
  let c0_865 : Index := 0#32
  ![v2808.toNat, 0]
abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S64x1x16x64 : Shape := ⟨4, ![64, 1, 16, 64]⟩
abbrev S64x1x1x64 : Shape := ⟨4, ![64, 1, 1, 64]⟩
abbrev S64x32768x1x64 : Shape := ⟨4, ![64, 32768, 1, 64]⟩
abbrev S64x1x64 : Shape := ⟨3, ![64, 1, 64]⟩
abbrev S64x32768x1 : Shape := ⟨3, ![64, 32768, 1]⟩
abbrev S64 : Shape := ⟨1, ![64]⟩
abbrev S64x1x1 : Shape := ⟨3, ![64, 1, 1]⟩
abbrev S64x16x64 : Shape := ⟨3, ![64, 16, 64]⟩
abbrev S64x64 : Shape := ⟨2, ![64, 64]⟩
abbrev S64x32768x64 : Shape := ⟨3, ![64, 32768, 64]⟩
abbrev S64x1x32768 : Shape := ⟨3, ![64, 1, 32768]⟩
abbrev S1x64 : Shape := ⟨2, ![1, 64]⟩
abbrev S64x1 : Shape := ⟨2, ![64, 1]⟩
abbrev S64x16x32768 : Shape := ⟨3, ![64, 16, 32768]⟩
abbrev S64x16 : Shape := ⟨2, ![64, 16]⟩
abbrev S64x16x1 : Shape := ⟨3, ![64, 16, 1]⟩

abbrev nBuf : Space → Nat
  | .hbm => 20
  | .vmem => 12
  | .smem => 0
  | _ => 0

abbrev bufTy : (tb : Table) → Fin (tcTables nBuf tb) → BufTy
  | .hbm, ⟨0, _⟩ => ⟨S64x1x16x64, .bf16⟩
  | .hbm, ⟨1, _⟩ => ⟨S64x1x1x64, .bf16⟩
  | .hbm, ⟨2, _⟩ => ⟨S64x1x1x64, .bf16⟩
  | .hbm, ⟨3, _⟩ => ⟨S64x32768x1x64, .i8⟩
  | .hbm, ⟨4, _⟩ => ⟨S64x1x64, .f32⟩
  | .hbm, ⟨5, _⟩ => ⟨S64x32768x1x64, .i8⟩
  | .hbm, ⟨6, _⟩ => ⟨S64x32768x1, .f32⟩
  | .hbm, ⟨7, _⟩ => ⟨S64, .i32⟩
  | .hbm, ⟨8, _⟩ => ⟨S64x1x1, .i32⟩
  | .hbm, ⟨9, _⟩ => ⟨S64x16x64, .bf16⟩
  | .hbm, ⟨10, _⟩ => ⟨S64x64, .bf16⟩
  | .hbm, ⟨11, _⟩ => ⟨S64x64, .bf16⟩
  | .hbm, ⟨12, _⟩ => ⟨S64x64, .f32⟩
  | .hbm, ⟨13, _⟩ => ⟨S64x32768x64, .i8⟩
  | .hbm, ⟨14, _⟩ => ⟨S64x32768x64, .i8⟩
  | .hbm, ⟨15, _⟩ => ⟨S64x1x32768, .f32⟩
  | .hbm, ⟨16, _⟩ => ⟨S64x16x64, .bf16⟩
  | .hbm, ⟨17, _⟩ => ⟨S64x64, .i8⟩
  | .hbm, ⟨18, _⟩ => ⟨S64x64, .i8⟩
  | .hbm, ⟨19, _⟩ => ⟨S1x64, .f32⟩
  | .local _ .vmem, ⟨0, _⟩ => ⟨S64x1x1, .i32⟩
  | .local _ .vmem, ⟨1, _⟩ => ⟨S64x16x64, .bf16⟩
  | .local _ .vmem, ⟨2, _⟩ => ⟨S64x64, .bf16⟩
  | .local _ .vmem, ⟨3, _⟩ => ⟨S64x64, .bf16⟩
  | .local _ .vmem, ⟨4, _⟩ => ⟨S64x64, .f32⟩
  | .local _ .vmem, ⟨5, _⟩ => ⟨S64x32768x64, .i8⟩
  | .local _ .vmem, ⟨6, _⟩ => ⟨S64x32768x64, .i8⟩
  | .local _ .vmem, ⟨7, _⟩ => ⟨S64x1x32768, .f32⟩
  | .local _ .vmem, ⟨8, _⟩ => ⟨S64x16x64, .bf16⟩
  | .local _ .vmem, ⟨9, _⟩ => ⟨S64x64, .i8⟩
  | .local _ .vmem, ⟨10, _⟩ => ⟨S64x64, .i8⟩
  | .local _ .vmem, ⟨11, _⟩ => ⟨S1x64, .f32⟩
  | _, _ => ⟨S64x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S64x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32768x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x32768x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1x32768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
/-
The integer arithmetic of the kernel: batch numbers, start of the fetched range of positions, and the
offset of the window in it, from the 32-bit words to natural numbers.
-/
module
public import Idealize.ShloMosaic.Lib.WordCmp
public import Idealize.ShloMosaic.Lib.Scf

@[expose] public section
noncomputable section

namespace Cert.Words
open Idealize.ShloMosaic

/-- First of the positions the eight 128-wide tiles of the window begin at. -/
def startN (n : ℕ) : ℕ := (n - 1024) / 128 * 128
/-- First position fetched: the 1152 positions fetched lie inside the cache. -/
def srcN (n : ℕ) : ℕ := min (startN n) 31616
/-- Where the window begins in the fetched range. -/
def offN (n : ℕ) : ℕ := startN n - srcN n

/-- The kernel's words for them. -/
def startW (v : BitVec 32) : BitVec 32 := Scalar.muli (Scalar.shrui (Scalar.subi v 1024#32) 7#32) 128#32
def srcW (v : BitVec 32) : BitVec 32 := Scalar.minsi (startW v) 31616#32
def offW (v : BitVec 32) : BitVec 32 := Scalar.subi (startW v) (srcW v)

theorem startN_le {n : ℕ} (h : n ≤ 32768) : startN n ≤ 31744 := by unfold startN; omega
theorem srcN_le (n : ℕ) : srcN n ≤ 31616 := min_le_right _ _
theorem dvd_startN (n : ℕ) : 128 ∣ startN n := Dvd.intro_left _ rfl
theorem dvd_srcN (n : ℕ) : 128 ∣ srcN n := by
  unfold srcN; rcases min_cases (startN n) 31616 with ⟨h, -⟩ | ⟨h, -⟩ <;> rw [h]
  · exact dvd_startN n
  · exact ⟨247, rfl⟩
theorem dvd_offN (n : ℕ) : 128 ∣ offN n := Nat.dvd_sub (dvd_startN n) (dvd_srcN n)
theorem offN_le {n : ℕ} (h : n ≤ 32768) : offN n ≤ 128 := by
  have := startN_le h
  unfold offN srcN; omega

theorem startW_toNat {v : BitVec 32} (h₁ : 1024 ≤ v.toNat) (h₂ : v.toNat ≤ 32768) : (startW v).toNat = startN v.toNat := by
  unfold startW startN
  show ((v - 1024#32) >>> (7 : ℕ) * 128#32).toNat = _
  have h3 : (v - 1024#32).toNat = v.toNat - 1024 := by
    rw [BitVec.toNat_sub]; simp only [BitVec.toNat_ofNat]; omega
  rw [BitVec.toNat_mul, BitVec.toNat_ushiftRight, h3]
  simp only [BitVec.toNat_ofNat, Nat.shiftRight_eq_div_pow]
  omega

theorem srcW_toNat {v : BitVec 32} (h₁ : 1024 ≤ v.toNat) (h₂ : v.toNat ≤ 32768) : (srcW v).toNat = srcN v.toNat := by
  have hs := startW_toNat h₁ h₂
  have hl := startN_le h₂
  unfold srcW srcN
  show (if (startW v).slt 31616#32 then startW v else 31616#32).toNat = _
  have h1 : (startW v).toInt = startN v.toNat := by rw [BitVec.toInt_eq_toNat_of_lt (by omega), hs]
  have h2 : (31616#32 : BitVec 32).toInt = 31616 := by decide
  have h3 : (startW v).slt 31616#32 = decide (startN v.toNat < 31616) := by
    rw [BitVec.slt_eq_decide, h1, h2]; simp only [decide_eq_decide]; omega
  rw [h3]
  by_cases h : startN v.toNat < 31616
  · rw [if_pos (by simpa using h), hs]; omega
  · rw [if_neg (by simpa using h)]; show 31616 = _; omega

theorem offW_toNat {v : BitVec 32} (h₁ : 1024 ≤ v.toNat) (h₂ : v.toNat ≤ 32768) : (offW v).toNat = offN v.toNat := by
  have hs := startW_toNat h₁ h₂
  have hc := srcW_toNat h₁ h₂
  have hl := startN_le h₂
  have : srcN v.toNat ≤ startN v.toNat := min_le_left _ _
  show (startW v - srcW v).toNat = _
  rw [BitVec.toNat_sub, hs, hc]; unfold offN; omega

theorem offW_add_toNat {v : BitVec 32} (h₁ : 1024 ≤ v.toNat) (h₂ : v.toNat ≤ 32768) (c : BitVec 32) (hc : c.toNat ≤ 1024) :
    (Scalar.addi (offW v) c).toNat = offN v.toNat + c.toNat := by
  show (offW v + c).toNat = _
  have := offN_le h₂
  rw [BitVec.toNat_add, offW_toNat h₁ h₂]; omega

/-- Batch number `8 k + i`. -/
theorem batch_toNat {n : ℕ} (k : Fin n) (hn : n ≤ 8) (i : BitVec 32) (hi : i.toNat < 8) :
    (Scalar.addi (Scalar.muli (Scf.iv 0#32 1#32 k) 8#32) i).toNat = 8 * k.val + i.toNat := by
  show ((0#32 + BitVec.ofNat 32 k.val * 1#32) * 8#32 + i).toNat = _
  have := k.isLt
  simp only [BitVec.toNat_add, BitVec.toNat_mul, BitVec.toNat_ofNat]
  omega

theorem iv_toNat {n : ℕ} (k : Fin n) (hn : n ≤ 8) : (Scf.iv 0#32 1#32 k : BitVec 32).toNat = k.val := by
  show (0#32 + BitVec.ofNat 32 k.val * 1#32).toNat = _
  have := k.isLt
  simp only [BitVec.toNat_add, BitVec.toNat_mul, BitVec.toNat_ofNat]
  omega

end Cert.Words
-- ==== Proof.Geo.lean ====
/-
The parts of the buffers that the copies touch: for arrays of 64 batches, the slab of one batch, the slabs
of the batches before or from some batch on, and of the caches the range of 1152 positions fetched for one
batch, the ranges fetched so far and what is left.
-/
module
public import Idealize.ShloMosaic.Lib.Pipeline.FrameBody
public import Idealize.ShloMosaic.Lib.Pointwise.Index
public import proofs.«01_k».proof.Proof.Words

@[expose] public section
noncomputable section

namespace Cert.Geo
open Idealize.ShloMosaic
open Idealize.SL Idealize.SL.RA Idealize.SL.BI
open scoped Idealize.SL.BI
open Idealize.SL.BI.BIBase Idealize.SL.BI.Laws

abbrev Sh (D L : ℕ) : Shape := ⟨3, ![64, D, L]⟩
/-- The batch of an index. -/
abbrev bat {D L : ℕ} (i : (Sh D L).Idx) : ℕ := (i 0).val
abbrev pos {D L : ℕ} (i : (Sh D L).Idx) : ℕ := (i 2).val

variable {D L : ℕ}

def slab (b : ℕ) : Finset (Sh D L).Idx := Finset.univ.filter fun i => bat i = b
def slabGe (n : ℕ) : Finset (Sh D L).Idx := Finset.univ.filter fun i => n ≤ bat i
def slabLt (n : ℕ) : Finset (Sh D L).Idx := Finset.univ.filter fun i => bat i < n
def win (src : ℕ → ℕ) (b : ℕ) : Finset (Sh D L).Idx :=
  Finset.univ.filter fun i => bat i = b ∧ src (bat i) ≤ pos i ∧ pos i < src (bat i) + 1152
def winLt (src : ℕ → ℕ) (n : ℕ) : Finset (Sh D L).Idx :=
  Finset.univ.filter fun i => bat i < n ∧ src (bat i) ≤ pos i ∧ pos i < src (bat i) + 1152
def winRem (src : ℕ → ℕ) (n : ℕ) : Finset (Sh D L).Idx :=
  Finset.univ.filter fun i => ¬ (bat i < n ∧ src (bat i) ≤ pos i ∧ pos i < src (bat i) + 1152)

theorem slab_subset (n : ℕ) : (slab n : Finset (Sh D L).Idx) ⊆ slabGe n := fun i hi => by
  simp only [slab, slabGe, Finset.mem_filter, Finset.mem_univ, true_and] at hi ⊢; omega
theorem slabGe_sdiff (n : ℕ) : (slabGe n : Finset (Sh D L).Idx) \ slab n = slabGe (n + 1) := by
  ext i; simp only [slab, slabGe, Finset.mem_sdiff, Finset.mem_filter, Finset.mem_univ, true_and]; omega
theorem win_subset (src : ℕ → ℕ) (n : ℕ) : (win src n : Finset (Sh D L).Idx) ⊆ winRem src n := fun i hi => by
  simp only [win, winRem, Finset.mem_filter, Finset.mem_univ, true_and] at hi ⊢; omega
theorem winRem_sdiff (src : ℕ → ℕ) (n : ℕ) : (winRem src n : Finset (Sh D L).Idx) \ win src n = winRem src (n + 1) := by
  ext i; simp only [win, winRem, Finset.mem_sdiff, Finset.mem_filter, Finset.mem_univ, true_and]; omega
theorem slabGe_zero : (slabGe 0 : Finset (Sh D L).Idx) = Finset.univ := by
  ext i; simp only [slabGe, Finset.mem_filter, Finset.mem_univ, true_and, iff_true]; omega
theorem slabGe_last : (slabGe 64 : Finset (Sh D L).Idx) = ∅ := by
  ext i; have : bat i < 64 := (i 0).isLt
  simp only [slabGe, Finset.mem_filter, Finset.mem_univ, true_and, Finset.notMem_empty, iff_false]; omega
theorem slabLt_zero : (slabLt 0 : Finset (Sh D L).Idx) = ∅ := by
  ext i; simp only [slabLt, Finset.mem_filter, Finset.mem_univ, true_and, Finset.notMem_empty, iff_false]; omega
theorem slabLt_last : (slabLt 64 : Finset (Sh D L).Idx) = Finset.univ := by
  ext i; have : bat i < 64 := (i 0).isLt
  simp only [slabLt, Finset.mem_filter, Finset.mem_univ, true_and, iff_true]; omega
theorem slabLt_succ (n : ℕ) : (slabLt (n + 1) : Finset (Sh D L).Idx) = slabLt n ∪ slab n := by
  ext i; simp only [slab, slabLt, Finset.mem_union, Finset.mem_filter, Finset.mem_univ, true_and]; omega
theorem slabLt_disjoint (n : ℕ) : Disjoint (slabLt n : Finset (Sh D L).Idx) (slab n) := by
  rw [Finset.disjoint_left]; intro i
  simp only [slab, slabLt, Finset.mem_filter, Finset.mem_univ, true_and]; omega
theorem winRem_zero (src : ℕ → ℕ) : (winRem src 0 : Finset (Sh D L).Idx) = Finset.univ := by
  ext i; simp only [winRem, Finset.mem_filter, Finset.mem_univ, true_and, iff_true]; omega
theorem winLt_zero (src : ℕ → ℕ) : (winLt src 0 : Finset (Sh D L).Idx) = ∅ := by
  ext i; simp only [winLt, Finset.mem_filter, Finset.mem_univ, true_and, Finset.notMem_empty, iff_false]; omega
theorem winLt_succ (src : ℕ → ℕ) (n : ℕ) : (winLt src (n + 1) : Finset (Sh D L).Idx) = winLt src n ∪ win src n := by
  ext i; simp only [win, winLt, Finset.mem_union, Finset.mem_filter, Finset.mem_univ, true_and]; omega
theorem winLt_disjoint (src : ℕ → ℕ) (n : ℕ) : Disjoint (winLt src n : Finset (Sh D L).Idx) (win src n) := by
  rw [Finset.disjoint_left]; intro i
  simp only [win, winLt, Finset.mem_filter, Finset.mem_univ, true_and]; omega
theorem winRem_eq (src : ℕ → ℕ) (n : ℕ) : Finset.univ \ (winLt src n : Finset (Sh D L).Idx) = winRem src n := by
  ext i; simp only [winRem, winLt, Finset.mem_sdiff, Finset.mem_filter, Finset.mem_univ, true_and]

theorem mem_unit {off size : Fin 3 → ℕ} {h : ∀ a, off a + size a ≤ (Sh D L).size a} {i : (Sh D L).Idx} :
    i ∈ (Rect.unit (s := Sh D L) off size h).set ↔ (off 0 ≤ (i 0).val ∧ (i 0).val < off 0 + size 0)
      ∧ (off 1 ≤ (i 1).val ∧ (i 1).val < off 1 + size 1) ∧ (off 2 ≤ (i 2).val ∧ (i 2).val < off 2 + size 2) :=
  Rect.mem_set_unit.trans ⟨fun H => ⟨H 0, H 1, H 2⟩, fun H a => match a with | ⟨0, _⟩ => H.1 | ⟨1, _⟩ => H.2.1 | ⟨2, _⟩ => H.2.2⟩

/-- What a buffer of 64 slabs of 1152 positions holds once every batch's range has been copied in. -/
def land {α : Type} (src : ℕ → ℕ) (f : (Sh D 32768).Idx → α) (i : (Sh D 1152).Idx) : α :=
  f (ix3 (i 0) (i 1) ⟨min (src (bat i)) 31616 + (i 2).val, by have : (i 2).val < 1152 := (i 2).isLt; show _ < 32768; omega⟩)

section Moves
variable {nD : ℕ} {τ : Topo} {sig : RefSig} {Ix : Type} [DecidableEq Ix] {Val : EltTy → Type} {Name : Type} [DecidableEq Name] {U : Type} [URA U]
  {Lvl : Type} {ℓ : Loc nD τ sig} {q : PosShare TreeShare}
local notation "𝕄" => MT nD τ sig Ix Val Name U Lvl

theorem take {S T R : Finset (Idx ℓ)} {f : Buf Val ℓ} (h : T ⊆ S) (hR : S \ T = R) :
    (ℓ ↦[S]{q} f : sProp 𝕄) ⊢ iprop((ℓ ↦[T]{q} f) ∗ ℓ ↦[R]{q} f) := by
  subst hR; exact (pointsTo_split_subset h).1
theorem put {S T R : Finset (Idx ℓ)} {f : Buf Val ℓ} (h : Disjoint S T) (hR : R = S ∪ T) :
    iprop((ℓ ↦[S]{q} f) ∗ ℓ ↦[T]{q} f) ⊢ (ℓ ↦[R]{q} f : sProp 𝕄) := by
  subst hR; exact (pointsTo_union h).2
end Moves

end Cert.Geo
-- ==== Proof.KIOffs.lean ====
/-
Where the loops of the kernel read and write, as natural numbers: the offset functions of the program at
trip `k` and, where they depend on it, at the length word `v` of the batch.
-/
module
public import proofs.«01_k».proof.KernelIdeal
public import proofs.«01_k».proof.Proof.Gen.KernelIdeal
public import proofs.«01_k».proof.Proof.Words

@[expose] public section
noncomputable section

namespace Cert.KernelIdeal.Offs
open Cert.KernelIdeal Cert.KernelIdeal.Gen
open Idealize.ShloMosaic Cert.Words

theorem trips1 : k0_t1_loop.trips = 8 := by decide
theorem trips2 : k0_t2_loop.trips = 8 := by decide
theorem b_toNat1 (k : Fin k0_t1_loop.trips) (i : BitVec 32) (hi : i.toNat < 8) :
    (Scalar.addi (Scalar.muli (Scf.iv 0#32 1#32 k) 8#32) i).toNat = 8 * k.val + i.toNat := batch_toNat k trips1.le i hi
theorem b_toNat2 (k : Fin k0_t2_loop.trips) (i : BitVec 32) (hi : i.toNat < 8) :
    (Scalar.addi (Scalar.muli (Scf.iv 0#32 1#32 k) 8#32) i).toNat = 8 * k.val + i.toNat := batch_toNat k trips2.le i hi
theorem lt1 (k : Fin k0_t1_loop.trips) : k.val < 8 := lt_of_lt_of_eq k.isLt trips1
theorem lt2 (k : Fin k0_t2_loop.trips) : k.val < 8 := lt_of_lt_of_eq k.isLt trips2

theorem tile_le (r : Fin 8) : (BitVec.ofNat 32 (128 * r.val)).toNat ≤ 1024 := by
  have := r.isLt; rw [BitVec.toNat_ofNat]; omega
theorem inb_tile {b o : ℕ} (hb : b < 64) (ho : o ≤ 128) (r : Fin 8) :
    ∀ a, (![b, 0, o + (BitVec.ofNat 32 (128 * r.val)).toNat] : Fin 3 → ℕ) a + S1x64x128.size a ≤ S64x64x1152.size a := by
  have := r.isLt
  rw [BitVec.toNat_ofNat]
  rw [Fin.forall_fin_succ, Fin.forall_fin_succ, Fin.forall_fin_succ]
  refine ⟨?_, ?_, ?_, nofun⟩
  · show b + 1 ≤ 64; omega
  · show 0 + 64 ≤ 64; omega
  · show o + 128 * r.val % 2 ^ 32 + 128 ≤ 1152; omega
theorem inb_tile' {b o : ℕ} (hb : b < 64) (ho : o ≤ 128) (r : Fin 8) :
    ∀ a, (![b, 0, o + (BitVec.ofNat 32 (128 * r.val)).toNat] : Fin 3 → ℕ) a + S1x1x128.size a ≤ S64x1x1152.size a := by
  have := r.isLt
  rw [BitVec.toNat_ofNat]
  rw [Fin.forall_fin_succ, Fin.forall_fin_succ, Fin.forall_fin_succ]
  refine ⟨?_, ?_, ?_, nofun⟩
  · show b + 1 ≤ 64; omega
  · show 0 + 1 ≤ 1; omega
  · show o + 128 * r.val % 2 ^ 32 + 128 ≤ 1152; omega

/-- What a fetch of batch `b` from position `srcN n` on has to satisfy. -/
theorem chk_of {m : ℕ} {o o' : Fin 3 → ℕ} {b n : ℕ} (hm : 128 ∣ m) (ho : o = ![b, 0, srcN n]) (ho' : o' = ![b, 0, srcN n]) (hb : b < 64) :
    (128 ∣ m) ∧
    (∀ a, o a + S1x64x1152.size a ≤ S64x64x32768.size a) ∧
    (∀ (hinb : ∀ a, o a + S1x64x1152.size a ≤ S64x64x32768.size a), (Rect.unit (s := S64x64x32768) o S1x64x1152.size hinb).WholeWords (EltTy.packing .i8)) ∧
    (∀ a, o' a + S1x1x1152.size a ≤ S64x1x32768.size a) := by
  subst ho; subst ho'
  have hs := srcN_le n
  refine ⟨hm, ?_, fun hinb => ?_, ?_⟩
  · rw [Fin.forall_fin_succ, Fin.forall_fin_succ, Fin.forall_fin_succ]
    refine ⟨?_, ?_, ?_, nofun⟩
    · show b + 1 ≤ 64; omega
    · show 0 + 64 ≤ 64; omega
    · show srcN n + 1152 ≤ 32768; omega
  · exact .inr ⟨by decide, rfl, rfl, rfl⟩
  · rw [Fin.forall_fin_succ, Fin.forall_fin_succ, Fin.forall_fin_succ]
    refine ⟨?_, ?_, ?_, nofun⟩
    · show b + 1 ≤ 64; omega
    · show 0 + 1 ≤ 1; omega
    · show srcN n + 1152 ≤ 32768; omega

theorem off1 (k : Fin k0_t1_loop.trips) : k0_off1 k = ![8 * k.val + 0] := by
  show ![(Scalar.addi (Scalar.muli (Scf.iv 0#32 1#32 k) 8#32) 0#32).toNat] = _; rw [b_toNat1 k 0#32 (by decide)]; rfl
theorem off2 (k : Fin k0_t1_loop.trips) : k0_off2 k = ![k.val] := by
  show ![(Scf.iv 0#32 1#32 k : BitVec 32).toNat] = _; rw [iv_toNat k trips1.le]
theorem off3 (k : Fin k0_t1_loop.trips) : k0_off3 k = ![8 * k.val + 0, 0, 0] := by
  show ![(Scalar.addi (Scalar.muli (Scf.iv 0#32 1#32 k) 8#32) 0#32).toNat, 0, 0] = _; rw [b_toNat1 k 0#32 (by decide)]; rfl
theorem off4 (k : Fin k0_t1_loop.trips) (v : BitVec 32) (h₁ : 1024 ≤ v.toNat) (h₂ : v.toNat ≤ 32768) : k0_off4 k v = ![8 * k.val + 0, 0, srcN v.toNat] := by
  show ![(Scalar.addi (Scalar.muli (Scf.iv 0#32 1#32 k) 8#32) 0#32).toNat, 0, (srcW v).toNat] = _; rw [b_toNat1 k 0#32 (by decide), srcW_toNat h₁ h₂]; rfl
theorem off5 (k : Fin k0_t1_loop.trips) : k0_off5 k = ![8 * k.val + 0, 0, 0] := by
  show ![(Scalar.addi (Scalar.muli (Scf.iv 0#32 1#32 k) 8#32) 0#32).toNat, 0, 0] = _; rw [b_toNat1 k 0#32 (by decide)]; rfl
theorem off6 (k : Fin k0_t1_loop.trips) (v : BitVec 32) (h₁ : 1024 ≤ v.toNat) (h₂ : v.toNat ≤ 32768) : k0_off6 k v = ![8 * k.val + 0, 0, srcN v.toNat] := by
  show ![(Scalar.addi (Scalar.muli (Scf.iv 0#32 1#32 k) 8#32) 0#32).toNat, 0, (srcW v).toNat] = _; rw [b_toNat1 k 0#32 (by decide), srcW_toNat h₁ h₂]; rfl
theorem chk1 (k : Fin k0_t1_loop.trips) (v : BitVec 32) (h₁ : 1024 ≤ v.toNat) (h₂ : v.toNat ≤ 32768) : k0_chk1 k v := by
  have hs : (srcW v).toNat = srcN v.toNat := srcW_toNat h₁ h₂
  refine chk_of (o := k0_off4 k v) (o' := k0_off6 k v) ?_ (off4 k v h₁ h₂) (off6 k v h₁ h₂) (by have := lt1 k; omega)
  show 128 ∣ (srcW v).toNat
  rw [hs]; exact dvd_srcN _
theorem off7 (k : Fin k0_t1_loop.trips) : k0_off7 k = ![8 * k.val + 1] := by
  show ![(Scalar.addi (Scalar.muli (Scf.iv 0#32 1#32 k) 8#32) 1#32).toNat] = _; rw [b_toNat1 k 1#32 (by decide)]; rfl
theorem off8 (k : Fin k0_t1_loop.trips) : k0_off8 k = ![k.val] := by
  show ![(Scf.iv 0#32 1#32 k : BitVec 32).toNat] = _; rw [iv_toNat k trips1.le]
theorem off9 (k : Fin k0_t1_loop.trips) : k0_off9 k = ![8 * k.val + 1, 0, 0] := by
  show ![(Scalar.addi (Scalar.muli (Scf.iv 0#32 1#32 k) 8#32) 1#32).toNat, 0, 0] = _; rw [b_toNat1 k 1#32 (by decide)]; rfl
theorem off10 (k : Fin k0_t1_loop.trips) (v : BitVec 32) (h₁ : 1024 ≤ v.toNat) (h₂ : v.toNat ≤ 32768) : k0_off10 k v = ![8 * k.val + 1, 0, srcN v.toNat] := by
  show ![(Scalar.addi (Scalar.muli (Scf.iv 0#32 1#32 k) 8#32) 1#32).toNat, 0, (srcW v).toNat] = _; rw [b_toNat1 k 1#32 (by decide), srcW_toNat h₁ h₂]; rfl
theorem off11 (k : Fin k0_t1_loop.trips) : k0_off11 k = ![8 * k.val + 1, 0, 0] := by
  show ![(Scalar.addi (Scalar.muli (Scf.iv 0#32 1#32 k) 8#32) 1#32).toNat, 0, 0] = _; rw [b_toNat1 k 1#32 (by decide)]; rfl
theorem off12 (k : Fin k0_t1_loop.trips) (v : BitVec 32) (h₁ : 1024 ≤ v.toNat) (h₂ : v.toNat ≤ 32768) : k0_off12 k v = ![8 * k.val + 1, 0, srcN v.toNat] := by
  show ![(Scalar.addi (Scalar.muli (Scf.iv 0#32 1#32 k) 8#32) 1#32).toNat, 0, (srcW v).toNat] = _; rw [b_toNat1 k 1#32 (by decide), srcW_toNat h₁ h₂]; rfl
theorem chk2 (k : Fin k0_t1_loop.trips) (v : BitVec 32) (h₁ : 1024 ≤ v.toNat) (h₂ : v.toNat ≤ 32768) : k0_chk2 k v := by
  have hs : (srcW v).toNat = srcN v.toNat := srcW_toNat h₁ h₂
  refine chk_of (o := k0_off10 k v) (o' := k0_off12 k v) ?_ (off10 k v h₁ h₂) (off12 k v h₁ h₂) (by have := lt1 k; omega)
  show 128 ∣ (srcW v).toNat
  rw [hs]; exact dvd_srcN _
theorem off13 (k : Fin k0_t1_loop.trips) : k0_off13 k = ![8 * k.val + 2] := by
  show ![(Scalar.addi (Scalar.muli (Scf.iv 0#32 1#32 k) 8#32) 2#32).toNat] = _; rw [b_toNat1 k 2#32 (by decide)]; rfl
theorem off14 (k : Fin k0_t1_loop.trips) : k0_off14 k = ![k.val] := by
  show ![(Scf.iv 0#32 1#32 k : BitVec 32).toNat] = _; rw [iv_toNat k trips1.le]
theorem off15 (k : Fin k0_t1_loop.trips) : k0_off15 k = ![8 * k.val + 2, 0, 0] := by
  show ![(Scalar.addi (Scalar.muli (Scf.iv 0#32 1#32 k) 8#32) 2#32).toNat, 0, 0] = _; rw [b_toNat1 k 2#32 (by decide)]; rfl
theorem off16 (k : Fin k0_t1_loop.trips) (v : BitVec 32) (h₁ : 1024 ≤ v.toNat) (h₂ : v.toNat ≤ 32768) : k0_off16 k v = ![8 * k.val + 2, 0, srcN v.toNat] := by
  show ![(Scalar.addi (Scalar.muli (Scf.iv 0#32 1#32 k) 8#32) 2#32).toNat, 0, (srcW v).toNat] = _; rw [b_toNat1 k 2#32 (by decide), srcW_toNat h₁ h₂]; rfl
theorem off17 (k : Fin k0_t1_loop.trips) : k0_off17 k = ![8 * k.val + 2, 0, 0] := by
  show ![(Scalar.addi (Scalar.muli (Scf.iv 0#32 1#32 k) 8#32) 2#32).toNat, 0, 0] = _; rw [b_toNat1 k 2#32 (by decide)]; rfl
theorem off18 (k : Fin k0_t1_loop.trips) (v : BitVec 32) (h₁ : 1024 ≤ v.toNat) (h₂ : v.toNat ≤ 32768) : k0_off18 k v = ![8 * k.val + 2, 0, srcN v.toNat] := by
  show ![(Scalar.addi (Scalar.muli (Scf.iv 0#32 1#32 k) 8#32) 2#32).toNat, 0, (srcW v).toNat] = _; rw [b_toNat1 k 2#32 (by decide), srcW_toNat h₁ h₂]; rfl
theorem chk3 (k : Fin k0_t1_loop.trips) (v : BitVec 32) (h₁ : 1024 ≤ v.toNat) (h₂ : v.toNat ≤ 32768) : k0_chk3 k v := by
  have hs : (srcW v).toNat = srcN v.toNat := srcW_toNat h₁ h₂
  refine chk_of (o := k0_off16 k v) (o' := k0_off18 k v) ?_ (off16 k v h₁ h₂) (off18 k v h₁ h₂) (by have := lt1 k; omega)
  show 128 ∣ (srcW v).toNat
  rw [hs]; exact dvd_srcN _
theorem off19 (k : Fin k0_t1_loop.trips) : k0_off19 k = ![8 * k.val + 3] := by
  show ![(Scalar.addi (Scalar.muli (Scf.iv 0#32 1#32 k) 8#32) 3#32).toNat] = _; rw [b_toNat1 k 3#32 (by decide)]; rfl
theorem off20 (k : Fin k0_t1_loop.trips) : k0_off20 k = ![k.val] := by
  show ![(Scf.iv 0#32 1#32 k : BitVec 32).toNat] = _; rw [iv_toNat k trips1.le]
theorem off21 (k : Fin k0_t1_loop.trips) : k0_off21 k = ![8 * k.val + 3, 0, 0] := by
  show ![(Scalar.addi (Scalar.muli (Scf.iv 0#32 1#32 k) 8#32) 3#32).toNat, 0, 0] = _; rw [b_toNat1 k 3#32 (by decide)]; rfl
theorem off22 (k : Fin k0_t1_loop.trips) (v : BitVec 32) (h₁ : 1024 ≤ v.toNat) (h₂ : v.toNat ≤ 32768) : k0_off22 k v = ![8 * k.val + 3, 0, srcN v.toNat] := by
  show ![(Scalar.addi (Scalar.muli (Scf.iv 0#32 1#32 k) 8#32) 3#32).toNat, 0, (srcW v).toNat] = _; rw [b_toNat1 k 3#32 (by decide), srcW_toNat h₁ h₂]; rfl
theorem off23 (k : Fin k0_t1_loop.trips) : k0_off23 k = ![8 * k.val + 3, 0, 0] := by
  show ![(Scalar.addi (Scalar.muli (Scf.iv 0#32 1#32 k) 8#32) 3#32).toNat, 0, 0] = _; rw [b_toNat1 k 3#32 (by decide)]; rfl
theorem off24 (k : Fin k0_t1_loop.trips) (v : BitVec 32) (h₁ : 1024 ≤ v.toNat) (h₂ : v.toNat ≤ 32768) : k0_off24 k v = ![8 * k.val + 3, 0, srcN v.toNat] := by
  show ![(Scalar.addi (Scalar.muli (Scf.iv 0#32 1#32 k) 8#32) 3#32).toNat, 0, (srcW v).toNat] = _; rw [b_toNat1 k 3#32 (by decide), srcW_toNat h₁ h₂]; rfl
theorem chk4 (k : Fin k0_t1_loop.trips) (v : BitVec 32) (h₁ : 1024 ≤ v.toNat) (h₂ : v.toNat ≤ 32768) : k0_chk4 k v := by
  have hs : (srcW v).toNat = srcN v.toNat := srcW_toNat h₁ h₂
  refine chk_of (o := k0_off22 k v) (o' := k0_off24 k v) ?_ (off22 k v h₁ h₂) (off24 k v h₁ h₂) (by have := lt1 k; omega)
  show 128 ∣ (srcW v).toNat
  rw [hs]; exact dvd_srcN _
theorem off25 (k : Fin k0_t1_loop.trips) : k0_off25 k = ![8 * k.val + 4] := by
  show ![(Scalar.addi (Scalar.muli (Scf.iv 0#32 1#32 k) 8#32) 4#32).toNat] = _; rw [b_toNat1 k 4#32 (by decide)]; rfl
theorem off26 (k : Fin k0_t1_loop.trips) : k0_off26 k = ![k.val] := by
  show ![(Scf.iv 0#32 1#32 k : BitVec 32).toNat] = _; rw [iv_toNat k trips1.le]
theorem off27 (k : Fin k0_t1_loop.trips) : k0_off27 k = ![8 * k.val + 4, 0, 0] := by
  show ![(Scalar.addi (Scalar.muli (Scf.iv 0#32 1#32 k) 8#32) 4#32).toNat, 0, 0] = _; rw [b_toNat1 k 4#32 (by decide)]; rfl
theorem off28 (k : Fin k0_t1_loop.trips) (v : BitVec 32) (h₁ : 1024 ≤ v.toNat) (h₂ : v.toNat ≤ 32768) : k0_off28 k v = ![8 * k.val + 4, 0, srcN v.toNat] := by
  show ![(Scalar.addi (Scalar.muli (Scf.iv 0#32 1#32 k) 8#32) 4#32).toNat, 0, (srcW v).toNat] = _; rw [b_toNat1 k 4#32 (by decide), srcW_toNat h₁ h₂]; rfl
theorem off29 (k : Fin k0_t1_loop.trips) : k0_off29 k = ![8 * k.val + 4, 0, 0] := by
  show ![(Scalar.addi (Scalar.muli (Scf.iv 0#32 1#32 k) 8#32) 4#32).toNat, 0, 0] = _; rw [b_toNat1 k 4#32 (by decide)]; rfl
theorem off30 (k : Fin k0_t1_loop.trips) (v : BitVec 32) (h₁ : 1024 ≤ v.toNat) (h₂ : v.toNat ≤ 32768) : k0_off30 k v = ![8 * k.val + 4, 0, srcN v.toNat] := by
  show ![(Scalar.addi (Scalar.muli (Scf.iv 0#32 1#32 k) 8#32) 4#32).toNat, 0, (srcW v).toNat] = _; rw [b_toNat1 k 4#32 (by decide), srcW_toNat h₁ h₂]; rfl
theorem chk5 (k : Fin k0_t1_loop.trips) (v : BitVec 32) (h₁ : 1024 ≤ v.toNat) (h₂ : v.toNat ≤ 32768) : k0_chk5 k v := by
  have hs : (srcW v).toNat = srcN v.toNat := srcW_toNat h₁ h₂
  refine chk_of (o := k0_off28 k v) (o' := k0_off30 k v) ?_ (off28 k v h₁ h₂) (off30 k v h₁ h₂) (by have := lt1 k; omega)
  show 128 ∣ (srcW v).toNat
  rw [hs]; exact dvd_srcN _
theorem off31 (k : Fin k0_t1_loop.trips) : k0_off31 k = ![8 * k.val + 5] := by
  show ![(Scalar.addi (Scalar.muli (Scf.iv 0#32 1#32 k) 8#32) 5#32).toNat] = _; rw [b_toNat1 k 5#32 (by decide)]; rfl
theorem off32 (k : Fin k0_t1_loop.trips) : k0_off32 k = ![k.val] := by
  show ![(Scf.iv 0#32 1#32 k : BitVec 32).toNat] = _; rw [iv_toNat k trips1.le]
theorem off33 (k : Fin k0_t1_loop.trips) : k0_off33 k = ![8 * k.val + 5, 0, 0] := by
  show ![(Scalar.addi (Scalar.muli (Scf.iv 0#32 1#32 k) 8#32) 5#32).toNat, 0, 0] = _; rw [b_toNat1 k 5#32 (by decide)]; rfl
theorem off34 (k : Fin k0_t1_loop.trips) (v : BitVec 32) (h₁ : 1024 ≤ v.toNat) (h₂ : v.toNat ≤ 32768) : k0_off34 k v = ![8 * k.val + 5, 0, srcN v.toNat] := by
  show ![(Scalar.addi (Scalar.muli (Scf.iv 0#32 1#32 k) 8#32) 5#32).toNat, 0, (srcW v).toNat] = _; rw [b_toNat1 k 5#32 (by decide), srcW_toNat h₁ h₂]; rfl
theorem off35 (k : Fin k0_t1_loop.trips) : k0_off35 k = ![8 * k.val + 5, 0, 0] := by
  show ![(Scalar.addi (Scalar.muli (Scf.iv 0#32 1#32 k) 8#32) 5#32).toNat, 0, 0] = _; rw [b_toNat1 k 5#32 (by decide)]; rfl
theorem off36 (k : Fin k0_t1_loop.trips) (v : BitVec 32) (h₁ : 1024 ≤ v.toNat) (h₂ : v.toNat ≤ 32768) : k0_off36 k v = ![8 * k.val + 5, 0, srcN v.toNat] := by
  show ![(Scalar.addi (Scalar.muli (Scf.iv 0#32 1#32 k) 8#32) 5#32).toNat, 0, (srcW v).toNat] = _; rw [b_toNat1 k 5#32 (by decide), srcW_toNat h₁ h₂]; rfl
theorem chk6 (k : Fin k0_t1_loop.trips) (v : BitVec 32) (h₁ : 1024 ≤ v.toNat) (h₂ : v.toNat ≤ 32768) : k0_chk6 k v := by
  have hs : (srcW v).toNat = srcN v.toNat := srcW_toNat h₁ h₂
  refine chk_of (o := k0_off34 k v) (o' := k0_off36 k v) ?_ (off34 k v h₁ h₂) (off36 k v h₁ h₂) (by have := lt1 k; omega)
  show 128 ∣ (srcW v).toNat
  rw [hs]; exact dvd_srcN _
theorem off37 (k : Fin k0_t1_loop.trips) : k0_off37 k = ![8 * k.val + 6] := by
  show ![(Scalar.addi (Scalar.muli (Scf.iv 0#32 1#32 k) 8#32) 6#32).toNat] = _; rw [b_toNat1 k 6#32 (by decide)]; rfl
theorem off38 (k : Fin k0_t1_loop.trips) : k0_off38 k = ![k.val] := by
  show ![(Scf.iv 0#32 1#32 k : BitVec 32).toNat] = _; rw [iv_toNat k trips1.le]
theorem off39 (k : Fin k0_t1_loop.trips) : k0_off39 k = ![8 * k.val + 6, 0, 0] := by
  show ![(Scalar.addi (Scalar.muli (Scf.iv 0#32 1#32 k) 8#32) 6#32).toNat, 0, 0] = _; rw [b_toNat1 k 6#32 (by decide)]; rfl
theorem off40 (k : Fin k0_t1_loop.trips) (v : BitVec 32) (h₁ : 1024 ≤ v.toNat) (h₂ : v.toNat ≤ 32768) : k0_off40 k v = ![8 * k.val + 6, 0, srcN v.toNat] := by
  show ![(Scalar.addi (Scalar.muli (Scf.iv 0#32 1#32 k) 8#32) 6#32).toNat, 0, (srcW v).toNat] = _; rw [b_toNat1 k 6#32 (by decide), srcW_toNat h₁ h₂]; rfl
theorem off41 (k : Fin k0_t1_loop.trips) : k0_off41 k = ![8 * k.val + 6, 0, 0] := by
  show ![(Scalar.addi (Scalar.muli (Scf.iv 0#32 1#32 k) 8#32) 6#32).toNat, 0, 0] = _; rw [b_toNat1 k 6#32 (by decide)]; rfl
theorem off42 (k : Fin k0_t1_loop.trips) (v : BitVec 32) (h₁ : 1024 ≤ v.toNat) (h₂ : v.toNat ≤ 32768) : k0_off42 k v = ![8 * k.val + 6, 0, srcN v.toNat] := by
  show ![(Scalar.addi (Scalar.muli (Scf.iv 0#32 1#32 k) 8#32) 6#32).toNat, 0, (srcW v).toNat] = _; rw [b_toNat1 k 6#32 (by decide), srcW_toNat h₁ h₂]; rfl
theorem chk7 (k : Fin k0_t1_loop.trips) (v : BitVec 32) (h₁ : 1024 ≤ v.toNat) (h₂ : v.toNat ≤ 32768) : k0_chk7 k v := by
  have hs : (srcW v).toNat = srcN v.toNat := srcW_toNat h₁ h₂
  refine chk_of (o := k0_off40 k v) (o' := k0_off42 k v) ?_ (off40 k v h₁ h₂) (off42 k v h₁ h₂) (by have := lt1 k; omega)
  show 128 ∣ (srcW v).toNat
  rw [hs]; exact dvd_srcN _
theorem off43 (k : Fin k0_t1_loop.trips) : k0_off43 k = ![8 * k.val + 7] := by
  show ![(Scalar.addi (Scalar.muli (Scf.iv 0#32 1#32 k) 8#32) 7#32).toNat] = _; rw [b_toNat1 k 7#32 (by decide)]; rfl
theorem off44 (k : Fin k0_t1_loop.trips) : k0_off44 k = ![k.val] := by
  show ![(Scf.iv 0#32 1#32 k : BitVec 32).toNat] = _; rw [iv_toNat k trips1.le]
theorem off45 (k : Fin k0_t1_loop.trips) : k0_off45 k = ![8 * k.val + 7, 0, 0] := by
  show ![(Scalar.addi (Scalar.muli (Scf.iv 0#32 1#32 k) 8#32) 7#32).toNat, 0, 0] = _; rw [b_toNat1 k 7#32 (by decide)]; rfl
theorem off46 (k : Fin k0_t1_loop.trips) (v : BitVec 32) (h₁ : 1024 ≤ v.toNat) (h₂ : v.toNat ≤ 32768) : k0_off46 k v = ![8 * k.val + 7, 0, srcN v.toNat] := by
  show ![(Scalar.addi (Scalar.muli (Scf.iv 0#32 1#32 k) 8#32) 7#32).toNat, 0, (srcW v).toNat] = _; rw [b_toNat1 k 7#32 (by decide), srcW_toNat h₁ h₂]; rfl
theorem off47 (k : Fin k0_t1_loop.trips) : k0_off47 k = ![8 * k.val + 7, 0, 0] := by
  show ![(Scalar.addi (Scalar.muli (Scf.iv 0#32 1#32 k) 8#32) 7#32).toNat, 0, 0] = _; rw [b_toNat1 k 7#32 (by decide)]; rfl
theorem off48 (k : Fin k0_t1_loop.trips) (v : BitVec 32) (h₁ : 1024 ≤ v.toNat) (h₂ : v.toNat ≤ 32768) : k0_off48 k v = ![8 * k.val + 7, 0, srcN v.toNat] := by
  show ![(Scalar.addi (Scalar.muli (Scf.iv 0#32 1#32 k) 8#32) 7#32).toNat, 0, (srcW v).toNat] = _; rw [b_toNat1 k 7#32 (by decide), srcW_toNat h₁ h₂]; rfl
theorem chk8 (k : Fin k0_t1_loop.trips) (v : BitVec 32) (h₁ : 1024 ≤ v.toNat) (h₂ : v.toNat ≤ 32768) : k0_chk8 k v := by
  have hs : (srcW v).toNat = srcN v.toNat := srcW_toNat h₁ h₂
  refine chk_of (o := k0_off46 k v) (o' := k0_off48 k v) ?_ (off46 k v h₁ h₂) (off48 k v h₁ h₂) (by have := lt1 k; omega)
  show 128 ∣ (srcW v).toNat
  rw [hs]; exact dvd_srcN _
theorem off49 (k : Fin k0_t2_loop.trips) : k0_off49 k = ![8 * k.val + 0] := by
  show ![(Scalar.addi (Scalar.muli (Scf.iv 0#32 1#32 k) 8#32) 0#32).toNat] = _; rw [b_toNat2 k 0#32 (by decide)]; rfl
theorem off50 (k : Fin k0_t2_loop.trips) : k0_off50 k = ![k.val] := by
  show ![(Scf.iv 0#32 1#32 k : BitVec 32).toNat] = _; rw [iv_toNat k trips2.le]
theorem off51 (k : Fin k0_t2_loop.trips) : k0_off51 k = ![8 * k.val + 0, 0, 0] := by
  show ![(Scalar.addi (Scalar.muli (Scf.iv 0#32 1#32 k) 8#32) 0#32).toNat, 0, 0] = _; rw [b_toNat2 k 0#32 (by decide)]; rfl
theorem off52 (k : Fin k0_t2_loop.trips) (v : BitVec 32) (h₁ : 1024 ≤ v.toNat) (h₂ : v.toNat ≤ 32768) : k0_off52 k v = ![8 * k.val + 0, 0, srcN v.toNat] := by
  show ![(Scalar.addi (Scalar.muli (Scf.iv 0#32 1#32 k) 8#32) 0#32).toNat, 0, (srcW v).toNat] = _; rw [b_toNat2 k 0#32 (by decide), srcW_toNat h₁ h₂]; rfl
theorem off53 (k : Fin k0_t2_loop.trips) : k0_off53 k = ![8 * k.val + 0, 0, 0] := by
  show ![(Scalar.addi (Scalar.muli (Scf.iv 0#32 1#32 k) 8#32) 0#32).toNat, 0, 0] = _; rw [b_toNat2 k 0#32 (by decide)]; rfl
theorem off54 (k : Fin k0_t2_loop.trips) (v : BitVec 32) (h₁ : 1024 ≤ v.toNat) (h₂ : v.toNat ≤ 32768) : k0_off54 k v = ![8 * k.val + 0, 0, srcN v.toNat] := by
  show ![(Scalar.addi (Scalar.muli (Scf.iv 0#32 1#32 k) 8#32) 0#32).toNat, 0, (srcW v).toNat] = _; rw [b_toNat2 k 0#32 (by decide), srcW_toNat h₁ h₂]; rfl
theorem chk9 (k : Fin k0_t2_loop.trips) (v : BitVec 32) (h₁ : 1024 ≤ v.toNat) (h₂ : v.toNat ≤ 32768) : k0_chk9 k v := by
  have hs : (srcW v).toNat = srcN v.toNat := srcW_toNat h₁ h₂
  refine chk_of (o := k0_off52 k v) (o' := k0_off54 k v) ?_ (off52 k v h₁ h₂) (off54 k v h₁ h₂) (by have := lt2 k; omega)
  show 128 ∣ (srcW v).toNat
  rw [hs]; exact dvd_srcN _
theorem off55 (k : Fin k0_t2_loop.trips) : k0_off55 k = ![8 * k.val + 1] := by
  show ![(Scalar.addi (Scalar.muli (Scf.iv 0#32 1#32 k) 8#32) 1#32).toNat] = _; rw [b_toNat2 k 1#32 (by decide)]; rfl
theorem off56 (k : Fin k0_t2_loop.trips) : k0_off56 k = ![k.val] := by
  show ![(Scf.iv 0#32 1#32 k : BitVec 32).toNat] = _; rw [iv_toNat k trips2.le]
theorem off57 (k : Fin k0_t2_loop.trips) : k0_off57 k = ![8 * k.val + 1, 0, 0] := by
  show ![(Scalar.addi (Scalar.muli (Scf.iv 0#32 1#32 k) 8#32) 1#32).toNat, 0, 0] = _; rw [b_toNat2 k 1#32 (by decide)]; rfl
theorem off58 (k : Fin k0_t2_loop.trips) (v : BitVec 32) (h₁ : 1024 ≤ v.toNat) (h₂ : v.toNat ≤ 32768) : k0_off58 k v = ![8 * k.val + 1, 0, srcN v.toNat] := by
  show ![(Scalar.addi (Scalar.muli (Scf.iv 0#32 1#32 k) 8#32) 1#32).toNat, 0, (srcW v).toNat] = _; rw [b_toNat2 k 1#32 (by decide), srcW_toNat h₁ h₂]; rfl
theorem off59 (k : Fin k0_t2_loop.trips) : k0_off59 k = ![8 * k.val + 1, 0, 0] := by
  show ![(Scalar.addi (Scalar.muli (Scf.iv 0#32 1#32 k) 8#32) 1#32).toNat, 0, 0] = _; rw [b_toNat2 k 1#32 (by decide)]; rfl
theorem off60 (k : Fin k0_t2_loop.trips) (v : BitVec 32) (h₁ : 1024 ≤ v.toNat) (h₂ : v.toNat ≤ 32768) : k0_off60 k v = ![8 * k.val + 1, 0, srcN v.toNat] := by
  show ![(Scalar.addi (Scalar.muli (Scf.iv 0#32 1#32 k) 8#32) 1#32).toNat, 0, (srcW v).toNat] = _; rw [b_toNat2 k 1#32 (by decide), srcW_toNat h₁ h₂]; rfl
theorem chk10 (k : Fin k0_t2_loop.trips) (v : BitVec 32) (h₁ : 1024 ≤ v.toNat) (h₂ : v.toNat ≤ 32768) : k0_chk10 k v := by
  have hs : (srcW v).toNat = srcN v.toNat := srcW_toNat h₁ h₂
  refine chk_of (o := k0_off58 k v) (o' := k0_off60 k v) ?_ (off58 k v h₁ h₂) (off60 k v h₁ h₂) (by have := lt2 k; omega)
  show 128 ∣ (srcW v).toNat
  rw [hs]; exact dvd_srcN _
theorem off61 (k : Fin k0_t2_loop.trips) : k0_off61 k = ![8 * k.val + 2] := by
  show ![(Scalar.addi (Scalar.muli (Scf.iv 0#32 1#32 k) 8#32) 2#32).toNat] = _; rw [b_toNat2 k 2#32 (by decide)]; rfl
theorem off62 (k : Fin k0_t2_loop.trips) : k0_off62 k = ![k.val] := by
  show ![(Scf.iv 0#32 1#32 k : BitVec 32).toNat] = _; rw [iv_toNat k trips2.le]
theorem off63 (k : Fin k0_t2_loop.trips) : k0_off63 k = ![8 * k.val + 2, 0, 0] := by
  show ![(Scalar.addi (Scalar.muli (Scf.iv 0#32 1#32 k) 8#32) 2#32).toNat, 0, 0] = _; rw [b_toNat2 k 2#32 (by decide)]; rfl
theorem off64 (k : Fin k0_t2_loop.trips) (v : BitVec 32) (h₁ : 1024 ≤ v.toNat) (h₂ : v.toNat ≤ 32768) : k0_off64 k v = ![8 * k.val + 2, 0, srcN v.toNat] := by
  show ![(Scalar.addi (Scalar.muli (Scf.iv 0#32 1#32 k) 8#32) 2#32).toNat, 0, (srcW v).toNat] = _; rw [b_toNat2 k 2#32 (by decide), srcW_toNat h₁ h₂]; rfl
theorem off65 (k : Fin k0_t2_loop.trips) : k0_off65 k = ![8 * k.val + 2, 0, 0] := by
  show ![(Scalar.addi (Scalar.muli (Scf.iv 0#32 1#32 k) 8#32) 2#32).toNat, 0, 0] = _; rw [b_toNat2 k 2#32 (by decide)]; rfl
theorem off66 (k : Fin k0_t2_loop.trips) (v : BitVec 32) (h₁ : 1024 ≤ v.toNat) (h₂ : v.toNat ≤ 32768) : k0_off66 k v = ![8 * k.val + 2, 0, srcN v.toNat] := by
  show ![(Scalar.addi (Scalar.muli (Scf.iv 0#32 1#32 k) 8#32) 2#32).toNat, 0, (srcW v).toNat] = _; rw [b_toNat2 k 2#32 (by decide), srcW_toNat h₁ h₂]; rfl
theorem chk11 (k : Fin k0_t2_loop.trips) (v : BitVec 32) (h₁ : 1024 ≤ v.toNat) (h₂ : v.toNat ≤ 32768) : k0_chk11 k v := by
  have hs : (srcW v).toNat = srcN v.toNat := srcW_toNat h₁ h₂
  refine chk_of (o := k0_off64 k v) (o' := k0_off66 k v) ?_ (off64 k v h₁ h₂) (off66 k v h₁ h₂) (by have := lt2 k; omega)
  show 128 ∣ (srcW v).toNat
  rw [hs]; exact dvd_srcN _
theorem off67 (k : Fin k0_t2_loop.trips) : k0_off67 k = ![8 * k.val + 3] := by
  show ![(Scalar.addi (Scalar.muli (Scf.iv 0#32 1#32 k) 8#32) 3#32).toNat] = _; rw [b_toNat2 k 3#32 (by decide)]; rfl
theorem off68 (k : Fin k0_t2_loop.trips) : k0_off68 k = ![k.val] := by
  show ![(Scf.iv 0#32 1#32 k : BitVec 32).toNat] = _; rw [iv_toNat k trips2.le]
theorem off69 (k : Fin k0_t2_loop.trips) : k0_off69 k = ![8 * k.val + 3, 0, 0] := by
  show ![(Scalar.addi (Scalar.muli (Scf.iv 0#32 1#32 k) 8#32) 3#32).toNat, 0, 0] = _; rw [b_toNat2 k 3#32 (by decide)]; rfl
theorem off70 (k : Fin k0_t2_loop.trips) (v : BitVec 32) (h₁ : 1024 ≤ v.toNat) (h₂ : v.toNat ≤ 32768) : k0_off70 k v = ![8 * k.val + 3, 0, srcN v.toNat] := by
  show ![(Scalar.addi (Scalar.muli (Scf.iv 0#32 1#32 k) 8#32) 3#32).toNat, 0, (srcW v).toNat] = _; rw [b_toNat2 k 3#32 (by decide), srcW_toNat h₁ h₂]; rfl
theorem off71 (k : Fin k0_t2_loop.trips) : k0_off71 k = ![8 * k.val + 3, 0, 0] := by
  show ![(Scalar.addi (Scalar.muli (Scf.iv 0#32 1#32 k) 8#32) 3#32).toNat, 0, 0] = _; rw [b_toNat2 k 3#32 (by decide)]; rfl
theorem off72 (k : Fin k0_t2_loop.trips) (v : BitVec 32) (h₁ : 1024 ≤ v.toNat) (h₂ : v.toNat ≤ 32768) : k0_off72 k v = ![8 * k.val + 3, 0, srcN v.toNat] := by
  show ![(Scalar.addi (Scalar.muli (Scf.iv 0#32 1#32 k) 8#32) 3#32).toNat, 0, (srcW v).toNat] = _; rw [b_toNat2 k 3#32 (by decide), srcW_toNat h₁ h₂]; rfl
theorem chk12 (k : Fin k0_t2_loop.trips) (v : BitVec 32) (h₁ : 1024 ≤ v.toNat) (h₂ : v.toNat ≤ 32768) : k0_chk12 k v := by
  have hs : (srcW v).toNat = srcN v.toNat := srcW_toNat h₁ h₂
  refine chk_of (o := k0_off70 k v) (o' := k0_off72 k v) ?_ (off70 k v h₁ h₂) (off72 k v h₁ h₂) (by have := lt2 k; omega)
  show 128 ∣ (srcW v).toNat
  rw [hs]; exact dvd_srcN _
theorem off73 (k : Fin k0_t2_loop.trips) : k0_off73 k = ![8 * k.val + 4] := by
  show ![(Scalar.addi (Scalar.muli (Scf.iv 0#32 1#32 k) 8#32) 4#32).toNat] = _; rw [b_toNat2 k 4#32 (by decide)]; rfl
theorem off74 (k : Fin k0_t2_loop.trips) : k0_off74 k = ![k.val] := by
  show ![(Scf.iv 0#32 1#32 k : BitVec 32).toNat] = _; rw [iv_toNat k trips2.le]
theorem off75 (k : Fin k0_t2_loop.trips) : k0_off75 k = ![8 * k.val + 4, 0, 0] := by
  show ![(Scalar.addi (Scalar.muli (Scf.iv 0#32 1#32 k) 8#32) 4#32).toNat, 0, 0] = _; rw [b_toNat2 k 4#32 (by decide)]; rfl
theorem off76 (k : Fin k0_t2_loop.trips) (v : BitVec 32) (h₁ : 1024 ≤ v.toNat) (h₂ : v.toNat ≤ 32768) : k0_off76 k v = ![8 * k.val + 4, 0, srcN v.toNat] := by
  show ![(Scalar.addi (Scalar.muli (Scf.iv 0#32 1#32 k) 8#32) 4#32).toNat, 0, (srcW v).toNat] = _; rw [b_toNat2 k 4#32 (by decide), srcW_toNat h₁ h₂]; rfl
theorem off77 (k : Fin k0_t2_loop.trips) : k0_off77 k = ![8 * k.val + 4, 0, 0] := by
  show ![(Scalar.addi (Scalar.muli (Scf.iv 0#32 1#32 k) 8#32) 4#32).toNat, 0, 0] = _; rw [b_toNat2 k 4#32 (by decide)]; rfl
theorem off78 (k : Fin k0_t2_loop.trips) (v : BitVec 32) (h₁ : 1024 ≤ v.toNat) (h₂ : v.toNat ≤ 32768) : k0_off78 k v = ![8 * k.val + 4, 0, srcN v.toNat] := by
  show ![(Scalar.addi (Scalar.muli (Scf.iv 0#32 1#32 k) 8#32) 4#32).toNat, 0, (srcW v).toNat] = _; rw [b_toNat2 k 4#32 (by decide), srcW_toNat h₁ h₂]; rfl
theorem chk13 (k : Fin k0_t2_loop.trips) (v : BitVec 32) (h₁ : 1024 ≤ v.toNat) (h₂ : v.toNat ≤ 32768) : k0_chk13 k v := by
  have hs : (srcW v).toNat = srcN v.toNat := srcW_toNat h₁ h₂
  refine chk_of (o := k0_off76 k v) (o' := k0_off78 k v) ?_ (off76 k v h₁ h₂) (off78 k v h₁ h₂) (by have := lt2 k; omega)
  show 128 ∣ (srcW v).toNat
  rw [hs]; exact dvd_srcN _
theorem off79 (k : Fin k0_t2_loop.trips) : k0_off79 k = ![8 * k.val + 5] := by
  show ![(Scalar.addi (Scalar.muli (Scf.iv 0#32 1#32 k) 8#32) 5#32).toNat] = _; rw [b_toNat2 k 5#32 (by decide)]; rfl
theorem off80 (k : Fin k0_t2_loop.trips) : k0_off80 k = ![k.val] := by
  show ![(Scf.iv 0#32 1#32 k : BitVec 32).toNat] = _; rw [iv_toNat k trips2.le]
theorem off81 (k : Fin k0_t2_loop.trips) : k0_off81 k = ![8 * k.val + 5, 0, 0] := by
  show ![(Scalar.addi (Scalar.muli (Scf.iv 0#32 1#32 k) 8#32) 5#32).toNat, 0, 0] = _; rw [b_toNat2 k 5#32 (by decide)]; rfl
theorem off82 (k : Fin k0_t2_loop.trips) (v : BitVec 32) (h₁ : 1024 ≤ v.toNat) (h₂ : v.toNat ≤ 32768) : k0_off82 k v = ![8 * k.val + 5, 0, srcN v.toNat] := by
  show ![(Scalar.addi (Scalar.muli (Scf.iv 0#32 1#32 k) 8#32) 5#32).toNat, 0, (srcW v).toNat] = _; rw [b_toNat2 k 5#32 (by decide), srcW_toNat h₁ h₂]; rfl
theorem off83 (k : Fin k0_t2_loop.trips) : k0_off83 k = ![8 * k.val + 5, 0, 0] := by
  show ![(Scalar.addi (Scalar.muli (Scf.iv 0#32 1#32 k) 8#32) 5#32).toNat, 0, 0] = _; rw [b_toNat2 k 5#32 (by decide)]; rfl
theorem off84 (k : Fin k0_t2_loop.trips) (v : BitVec 32) (h₁ : 1024 ≤ v.toNat) (h₂ : v.toNat ≤ 32768) : k0_off84 k v = ![8 * k.val + 5, 0, srcN v.toNat] := by
  show ![(Scalar.addi (Scalar.muli (Scf.iv 0#32 1#32 k) 8#32) 5#32).toNat, 0, (srcW v).toNat] = _; rw [b_toNat2 k 5#32 (by decide), srcW_toNat h₁ h₂]; rfl
theorem chk14 (k : Fin k0_t2_loop.trips) (v : BitVec 32) (h₁ : 1024 ≤ v.toNat) (h₂ : v.toNat ≤ 32768) : k0_chk14 k v := by
  have hs : (srcW v).toNat = srcN v.toNat := srcW_toNat h₁ h₂
  refine chk_of (o := k0_off82 k v) (o' := k0_off84 k v) ?_ (off82 k v h₁ h₂) (off84 k v h₁ h₂) (by have := lt2 k; omega)
  show 128 ∣ (srcW v).toNat
  rw [hs]; exact dvd_srcN _
theorem off85 (k : Fin k0_t2_loop.trips) : k0_off85 k = ![8 * k.val + 6] := by
  show ![(Scalar.addi (Scalar.muli (Scf.iv 0#32 1#32 k) 8#32) 6#32).toNat] = _; rw [b_toNat2 k 6#32 (by decide)]; rfl
theorem off86 (k : Fin k0_t2_loop.trips) : k0_off86 k = ![k.val] := by
  show ![(Scf.iv 0#32 1#32 k : BitVec 32).toNat] = _; rw [iv_toNat k trips2.le]
theorem off87 (k : Fin k0_t2_loop.trips) : k0_off87 k = ![8 * k.val + 6, 0, 0] := by
  show ![(Scalar.addi (Scalar.muli (Scf.iv 0#32 1#32 k) 8#32) 6#32).toNat, 0, 0] = _; rw [b_toNat2 k 6#32 (by decide)]; rfl
theorem off88 (k : Fin k0_t2_loop.trips) (v : BitVec 32) (h₁ : 1024 ≤ v.toNat) (h₂ : v.toNat ≤ 32768) : k0_off88 k v = ![8 * k.val + 6, 0, srcN v.toNat] := by
  show ![(Scalar.addi (Scalar.muli (Scf.iv 0#32 1#32 k) 8#32) 6#32).toNat, 0, (srcW v).toNat] = _; rw [b_toNat2 k 6#32 (by decide), srcW_toNat h₁ h₂]; rfl
theorem off89 (k : Fin k0_t2_loop.trips) : k0_off89 k = ![8 * k.val + 6, 0, 0] := by
  show ![(Scalar.addi (Scalar.muli (Scf.iv 0#32 1#32 k) 8#32) 6#32).toNat, 0, 0] = _; rw [b_toNat2 k 6#32 (by decide)]; rfl
theorem off90 (k : Fin k0_t2_loop.trips) (v : BitVec 32) (h₁ : 1024 ≤ v.toNat) (h₂ : v.toNat ≤ 32768) : k0_off90 k v = ![8 * k.val + 6, 0, srcN v.toNat] := by
  show ![(Scalar.addi (Scalar.muli (Scf.iv 0#32 1#32 k) 8#32) 6#32).toNat, 0, (srcW v).toNat] = _; rw [b_toNat2 k 6#32 (by decide), srcW_toNat h₁ h₂]; rfl
theorem chk15 (k : Fin k0_t2_loop.trips) (v : BitVec 32) (h₁ : 1024 ≤ v.toNat) (h₂ : v.toNat ≤ 32768) : k0_chk15 k v := by
  have hs : (srcW v).toNat = srcN v.toNat := srcW_toNat h₁ h₂
  refine chk_of (o := k0_off88 k v) (o' := k0_off90 k v) ?_ (off88 k v h₁ h₂) (off90 k v h₁ h₂) (by have := lt2 k; omega)
  show 128 ∣ (srcW v).toNat
  rw [hs]; exact dvd_srcN _
theorem off91 (k : Fin k0_t2_loop.trips) : k0_off91 k = ![8 * k.val + 7] := by
  show ![(Scalar.addi (Scalar.muli (Scf.iv 0#32 1#32 k) 8#32) 7#32).toNat] = _; rw [b_toNat2 k 7#32 (by decide)]; rfl
theorem off92 (k : Fin k0_t2_loop.trips) : k0_off92 k = ![k.val] := by
  show ![(Scf.iv 0#32 1#32 k : BitVec 32).toNat] = _; rw [iv_toNat k trips2.le]
theorem off93 (k : Fin k0_t2_loop.trips) : k0_off93 k = ![8 * k.val + 7, 0, 0] := by
  show ![(Scalar.addi (Scalar.muli (Scf.iv 0#32 1#32 k) 8#32) 7#32).toNat, 0, 0] = _; rw [b_toNat2 k 7#32 (by decide)]; rfl
theorem off94 (k : Fin k0_t2_loop.trips) (v : BitVec 32) (h₁ : 1024 ≤ v.toNat) (h₂ : v.toNat ≤ 32768) : k0_off94 k v = ![8 * k.val + 7, 0, srcN v.toNat] := by
  show ![(Scalar.addi (Scalar.muli (Scf.iv 0#32 1#32 k) 8#32) 7#32).toNat, 0, (srcW v).toNat] = _; rw [b_toNat2 k 7#32 (by decide), srcW_toNat h₁ h₂]; rfl
theorem off95 (k : Fin k0_t2_loop.trips) : k0_off95 k = ![8 * k.val + 7, 0, 0] := by
  show ![(Scalar.addi (Scalar.muli (Scf.iv 0#32 1#32 k) 8#32) 7#32).toNat, 0, 0] = _; rw [b_toNat2 k 7#32 (by decide)]; rfl
theorem off96 (k : Fin k0_t2_loop.trips) (v : BitVec 32) (h₁ : 1024 ≤ v.toNat) (h₂ : v.toNat ≤ 32768) : k0_off96 k v = ![8 * k.val + 7, 0, srcN v.toNat] := by
  show ![(Scalar.addi (Scalar.muli (Scf.iv 0#32 1#32 k) 8#32) 7#32).toNat, 0, (srcW v).toNat] = _; rw [b_toNat2 k 7#32 (by decide), srcW_toNat h₁ h₂]; rfl
theorem chk16 (k : Fin k0_t2_loop.trips) (v : BitVec 32) (h₁ : 1024 ≤ v.toNat) (h₂ : v.toNat ≤ 32768) : k0_chk16 k v := by
  have hs : (srcW v).toNat = srcN v.toNat := srcW_toNat h₁ h₂
  refine chk_of (o := k0_off94 k v) (o' := k0_off96 k v) ?_ (off94 k v h₁ h₂) (off96 k v h₁ h₂) (by have := lt2 k; omega)
  show 128 ∣ (srcW v).toNat
  rw [hs]; exact dvd_srcN _
theorem off97 (k : Fin k0_t2_loop.trips) : k0_off97 k = ![8 * k.val + 0] := by
  show ![(Scalar.addi (Scalar.muli (Scf.iv 0#32 1#32 k) 8#32) 0#32).toNat] = _; rw [b_toNat2 k 0#32 (by decide)]; rfl
theorem off98 (k : Fin k0_t2_loop.trips) : k0_off98 k = ![8 * k.val + 0, 0, 1024] := by
  show ![(Scalar.addi (Scalar.muli (Scf.iv 0#32 1#32 k) 8#32) 0#32).toNat, 0, 1024] = _; rw [b_toNat2 k 0#32 (by decide)]; rfl
theorem off99 (k : Fin k0_t2_loop.trips) (v : BitVec 32) (h₁ : 1024 ≤ v.toNat) (h₂ : v.toNat ≤ 32768) (c : BitVec 32) (hc : c.toNat ≤ 1024) : k0_off99 k v c = ![8 * k.val + 0, 0, offN v.toNat + c.toNat] := by
  show ![(Scalar.addi (Scalar.muli (Scf.iv 0#32 1#32 k) 8#32) 0#32).toNat, 0, (Scalar.addi (offW v) c).toNat] = _; rw [b_toNat2 k 0#32 (by decide), offW_add_toNat h₁ h₂ c hc]; rfl
theorem off100 (k : Fin k0_t2_loop.trips) (c : BitVec 32) (hc : c.toNat < 8) : k0_off100 k c = ![8 * k.val + c.toNat, 0, 1024] := by
  show ![(Scalar.addi (Scalar.muli (Scf.iv 0#32 1#32 k) 8#32) c).toNat, 0, 1024] = _; rw [b_toNat2 k c hc]
theorem off101 (k : Fin k0_t2_loop.trips) : k0_off101 k = ![8 * k.val + 0, 0, 1024] := by
  show ![(Scalar.addi (Scalar.muli (Scf.iv 0#32 1#32 k) 8#32) 0#32).toNat, 0, 1024] = _; rw [b_toNat2 k 0#32 (by decide)]; rfl
theorem off102 (k : Fin k0_t2_loop.trips) (v : BitVec 32) (h₁ : 1024 ≤ v.toNat) (h₂ : v.toNat ≤ 32768) (c : BitVec 32) (hc : c.toNat ≤ 1024) : k0_off102 k v c = ![8 * k.val + 0, 0, offN v.toNat + c.toNat] := by
  show ![(Scalar.addi (Scalar.muli (Scf.iv 0#32 1#32 k) 8#32) 0#32).toNat, 0, (Scalar.addi (offW v) c).toNat] = _; rw [b_toNat2 k 0#32 (by decide), offW_add_toNat h₁ h₂ c hc]; rfl
theorem off103 (k : Fin k0_t2_loop.trips) : k0_off103 k = ![8 * k.val + 0, 0, 0] := by
  show ![(Scalar.addi (Scalar.muli (Scf.iv 0#32 1#32 k) 8#32) 0#32).toNat, 0, 0] = _; rw [b_toNat2 k 0#32 (by decide)]; rfl
theorem off104 (k : Fin k0_t2_loop.trips) : k0_off104 k = ![8 * k.val + 0, 0, 0] := by
  show ![(Scalar.addi (Scalar.muli (Scf.iv 0#32 1#32 k) 8#32) 0#32).toNat, 0, 0] = _; rw [b_toNat2 k 0#32 (by decide)]; rfl
theorem off105 (k : Fin k0_t2_loop.trips) : k0_off105 k = ![8 * k.val + 0, 0] := by
  show ![(Scalar.addi (Scalar.muli (Scf.iv 0#32 1#32 k) 8#32) 0#32).toNat, 0] = _; rw [b_toNat2 k 0#32 (by decide)]; rfl
theorem chk17 (k : Fin k0_t2_loop.trips) (v : BitVec 32) (h₁ : 1024 ≤ v.toNat) (h₂ : v.toNat ≤ 32768) : k0_chk17 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off99 k v (BitVec.ofNat 32 (128 * r.val)) a + S1x64x128.size a ≤ S64x64x1152.size a := fun r => by
    rw [off99 k v h₁ h₂ _ (tile_le r)]
    exact inb_tile (by have := lt2 k; omega) (offN_le h₂) r
  have h4 : ∀ (r : Fin 8), ∀ a, k0_off102 k v (BitVec.ofNat 32 (128 * r.val)) a + S1x1x128.size a ≤ S64x1x1152.size a := fun r => by
    rw [off102 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off106 (k : Fin k0_t2_loop.trips) : k0_off106 k = ![8 * k.val + 1] := by
  show ![(Scalar.addi (Scalar.muli (Scf.iv 0#32 1#32 k) 8#32) 1#32).toNat] = _; rw [b_toNat2 k 1#32 (by decide)]; rfl
theorem off107 (k : Fin k0_t2_loop.trips) (v : BitVec 32) (h₁ : 1024 ≤ v.toNat) (h₂ : v.toNat ≤ 32768) (c : BitVec 32) (hc : c.toNat ≤ 1024) : k0_off107 k v c = ![8 * k.val + 1, 0, offN v.toNat + c.toNat] := by
  show ![(Scalar.addi (Scalar.muli (Scf.iv 0#32 1#32 k) 8#32) 1#32).toNat, 0, (Scalar.addi (offW v) c).toNat] = _; rw [b_toNat2 k 1#32 (by decide), offW_add_toNat h₁ h₂ c hc]; rfl
theorem off108 (k : Fin k0_t2_loop.trips) (c : BitVec 32) (hc : c.toNat < 8) : k0_off108 k c = ![8 * k.val + c.toNat, 0, 1024] := by
  show ![(Scalar.addi (Scalar.muli (Scf.iv 0#32 1#32 k) 8#32) c).toNat, 0, 1024] = _; rw [b_toNat2 k c hc]
theorem off109 (k : Fin k0_t2_loop.trips) : k0_off109 k = ![8 * k.val + 1, 0, 1024] := by
  show ![(Scalar.addi (Scalar.muli (Scf.iv 0#32 1#32 k) 8#32) 1#32).toNat, 0, 1024] = _; rw [b_toNat2 k 1#32 (by decide)]; rfl
theorem off110 (k : Fin k0_t2_loop.trips) (v : BitVec 32) (h₁ : 1024 ≤ v.toNat) (h₂ : v.toNat ≤ 32768) (c : BitVec 32) (hc : c.toNat ≤ 1024) : k0_off110 k v c = ![8 * k.val + 1, 0, offN v.toNat + c.toNat] := by
  show ![(Scalar.addi (Scalar.muli (Scf.iv 0#32 1#32 k) 8#32) 1#32).toNat, 0, (Scalar.addi (offW v) c).toNat] = _; rw [b_toNat2 k 1#32 (by decide), offW_add_toNat h₁ h₂ c hc]; rfl
theorem off111 (k : Fin k0_t2_loop.trips) : k0_off111 k = ![8 * k.val + 1, 0, 0] := by
  show ![(Scalar.addi (Scalar.muli (Scf.iv 0#32 1#32 k) 8#32) 1#32).toNat, 0, 0] = _; rw [b_toNat2 k 1#32 (by decide)]; rfl
theorem off112 (k : Fin k0_t2_loop.trips) : k0_off112 k = ![8 * k.val + 1, 0, 0] := by
  show ![(Scalar.addi (Scalar.muli (Scf.iv 0#32 1#32 k) 8#32) 1#32).toNat, 0, 0] = _; rw [b_toNat2 k 1#32 (by decide)]; rfl
theorem off113 (k : Fin k0_t2_loop.trips) : k0_off113 k = ![8 * k.val + 1, 0] := by
  show ![(Scalar.addi (Scalar.muli (Scf.iv 0#32 1#32 k) 8#32) 1#32).toNat, 0] = _; rw [b_toNat2 k 1#32 (by decide)]; rfl
theorem chk18 (k : Fin k0_t2_loop.trips) (v : BitVec 32) (h₁ : 1024 ≤ v.toNat) (h₂ : v.toNat ≤ 32768) : k0_chk18 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off107 k v (BitVec.ofNat 32 (128 * r.val)) a + S1x64x128.size a ≤ S64x64x1152.size a := fun r => by
    rw [off107 k v h₁ h₂ _ (tile_le r)]
    exact inb_tile (by have := lt2 k; omega) (offN_le h₂) r
  have h4 : ∀ (r : Fin 8), ∀ a, k0_off110 k v (BitVec.ofNat 32 (128 * r.val)) a + S1x1x128.size a ≤ S64x1x1152.size a := fun r => by
    rw [off110 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off114 (k : Fin k0_t2_loop.trips) : k0_off114 k = ![8 * k.val + 2] := by
  show ![(Scalar.addi (Scalar.muli (Scf.iv 0#32 1#32 k) 8#32) 2#32).toNat] = _; rw [b_toNat2 k 2#32 (by decide)]; rfl
theorem off115 (k : Fin k0_t2_loop.trips) (v : BitVec 32) (h₁ : 1024 ≤ v.toNat) (h₂ : v.toNat ≤ 32768) (c : BitVec 32) (hc : c.toNat ≤ 1024) : k0_off115 k v c = ![8 * k.val + 2, 0, offN v.toNat + c.toNat] := by
  show ![(Scalar.addi (Scalar.muli (Scf.iv 0#32 1#32 k) 8#32) 2#32).toNat, 0, (Scalar.addi (offW v) c).toNat] = _; rw [b_toNat2 k 2#32 (by decide), offW_add_toNat h₁ h₂ c hc]; rfl
theorem off116 (k : Fin k0_t2_loop.trips) (c : BitVec 32) (hc : c.toNat < 8) : k0_off116 k c = ![8 * k.val + c.toNat, 0, 1024] := by
  show ![(Scalar.addi (Scalar.muli (Scf.iv 0#32 1#32 k) 8#32) c).toNat, 0, 1024] = _; rw [b_toNat2 k c hc]
theorem off117 (k : Fin k0_t2_loop.trips) : k0_off117 k = ![8 * k.val + 2, 0, 1024] := by
  show ![(Scalar.addi (Scalar.muli (Scf.iv 0#32 1#32 k) 8#32) 2#32).toNat, 0, 1024] = _; rw [b_toNat2 k 2#32 (by decide)]; rfl
theorem off118 (k : Fin k0_t2_loop.trips) (v : BitVec 32) (h₁ : 1024 ≤ v.toNat) (h₂ : v.toNat ≤ 32768) (c : BitVec 32) (hc : c.toNat ≤ 1024) : k0_off118 k v c = ![8 * k.val + 2, 0, offN v.toNat + c.toNat] := by
  show ![(Scalar.addi (Scalar.muli (Scf.iv 0#32 1#32 k) 8#32) 2#32).toNat, 0, (Scalar.addi (offW v) c).toNat] = _; rw [b_toNat2 k 2#32 (by decide), offW_add_toNat h₁ h₂ c hc]; rfl
theorem off119 (k : Fin k0_t2_loop.trips) : k0_off119 k = ![8 * k.val + 2, 0, 0] := by
  show ![(Scalar.addi (Scalar.muli (Scf.iv 0#32 1#32 k) 8#32) 2#32).toNat, 0, 0] = _; rw [b_toNat2 k 2#32 (by decide)]; rfl
theorem off120 (k : Fin k0_t2_loop.trips) : k0_off120 k = ![8 * k.val + 2, 0, 0] := by
  show ![(Scalar.addi (Scalar.muli (Scf.iv 0#32 1#32 k) 8#32) 2#32).toNat, 0, 0] = _; rw [b_toNat2 k 2#32 (by decide)]; rfl
theorem off121 (k : Fin k0_t2_loop.trips) : k0_off121 k = ![8 * k.val + 2, 0] := by
  show ![(Scalar.addi (Scalar.muli (Scf.iv 0#32 1#32 k) 8#32) 2#32).toNat, 0] = _; rw [b_toNat2 k 2#32 (by decide)]; rfl
theorem chk19 (k : Fin k0_t2_loop.trips) (v : BitVec 32) (h₁ : 1024 ≤ v.toNat) (h₂ : v.toNat ≤ 32768) : k0_chk19 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off115 k v (BitVec.ofNat 32 (128 * r.val)) a + S1x64x128.size a ≤ S64x64x1152.size a := fun r => by
    rw [off115 k v h₁ h₂ _ (tile_le r)]
    exact inb_tile (by have := lt2 k; omega) (offN_le h₂) r
  have h4 : ∀ (r : Fin 8), ∀ a, k0_off118 k v (BitVec.ofNat 32 (128 * r.val)) a + S1x1x128.size a ≤ S64x1x1152.size a := fun r => by
    rw [off118 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off122 (k : Fin k0_t2_loop.trips) : k0_off122 k = ![8 * k.val + 3] := by
  show ![(Scalar.addi (Scalar.muli (Scf.iv 0#32 1#32 k) 8#32) 3#32).toNat] = _; rw [b_toNat2 k 3#32 (by decide)]; rfl
theorem off123 (k : Fin k0_t2_loop.trips) (v : BitVec 32) (h₁ : 1024 ≤ v.toNat) (h₂ : v.toNat ≤ 32768) (c : BitVec 32) (hc : c.toNat ≤ 1024) : k0_off123 k v c = ![8 * k.val + 3, 0, offN v.toNat + c.toNat] := by
  show ![(Scalar.addi (Scalar.muli (Scf.iv 0#32 1#32 k) 8#32) 3#32).toNat, 0, (Scalar.addi (offW v) c).toNat] = _; rw [b_toNat2 k 3#32 (by decide), offW_add_toNat h₁ h₂ c hc]; rfl
theorem off124 (k : Fin k0_t2_loop.trips) (c : BitVec 32) (hc : c.toNat < 8) : k0_off124 k c = ![8 * k.val + c.toNat, 0, 1024] := by
  show ![(Scalar.addi (Scalar.muli (Scf.iv 0#32 1#32 k) 8#32) c).toNat, 0, 1024] = _; rw [b_toNat2 k c hc]
theorem off125 (k : Fin k0_t2_loop.trips) : k0_off125 k = ![8 * k.val + 3, 0, 1024] := by
  show ![(Scalar.addi (Scalar.muli (Scf.iv 0#32 1#32 k) 8#32) 3#32).toNat, 0, 1024] = _; rw [b_toNat2 k 3#32 (by decide)]; rfl
theorem off126 (k : Fin k0_t2_loop.trips) (v : BitVec 32) (h₁ : 1024 ≤ v.toNat) (h₂ : v.toNat ≤ 32768) (c : BitVec 32) (hc : c.toNat ≤ 1024) : k0_off126 k v c = ![8 * k.val + 3, 0, offN v.toNat + c.toNat] := by
  show ![(Scalar.addi (Scalar.muli (Scf.iv 0#32 1#32 k) 8#32) 3#32).toNat, 0, (Scalar.addi (offW v) c).toNat] = _; rw [b_toNat2 k 3#32 (by decide), offW_add_toNat h₁ h₂ c hc]; rfl
theorem off127 (k : Fin k0_t2_loop.trips) : k0_off127 k = ![8 * k.val + 3, 0, 0] := by
  show ![(Scalar.addi (Scalar.muli (Scf.iv 0#32 1#32 k) 8#32) 3#32).toNat, 0, 0] = _; rw [b_toNat2 k 3#32 (by decide)]; rfl
theorem off128 (k : Fin k0_t2_loop.trips) : k0_off128 k = ![8 * k.val + 3, 0, 0] := by
  show ![(Scalar.addi (Scalar.muli (Scf.iv 0#32 1#32 k) 8#32) 3#32).toNat, 0, 0] = _; rw [b_toNat2 k 3#32 (by decide)]; rfl
theorem off129 (k : Fin k0_t2_loop.trips) : k0_off129 k = ![8 * k.val + 3, 0] := by
  show ![(Scalar.addi (Scalar.muli (Scf.iv 0#32 1#32 k) 8#32) 3#32).toNat, 0] = _; rw [b_toNat2 k 3#32 (by decide)]; rfl
theorem chk20 (k : Fin k0_t2_loop.trips) (v : BitVec 32) (h₁ : 1024 ≤ v.toNat) (h₂ : v.toNat ≤ 32768) : k0_chk20 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off123 k v (BitVec.ofNat 32 (128 * r.val)) a + S1x64x128.size a ≤ S64x64x1152.size a := fun r => by
    rw [off123 k v h₁ h₂ _ (tile_le r)]
    exact inb_tile (by have := lt2 k; omega) (offN_le h₂) r
  have h4 : ∀ (r : Fin 8), ∀ a, k0_off126 k v (BitVec.ofNat 32 (128 * r.val)) a + S1x1x128.size a ≤ S64x1x1152.size a := fun r => by
    rw [off126 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off130 (k : Fin k0_t2_loop.trips) : k0_off130 k = ![8 * k.val + 4] := by
  show ![(Scalar.addi (Scalar.muli (Scf.iv 0#32 1#32 k) 8#32) 4#32).toNat] = _; rw [b_toNat2 k 4#32 (by decide)]; rfl
theorem off131 (k : Fin k0_t2_loop.trips) (v : BitVec 32) (h₁ : 1024 ≤ v.toNat) (h₂ : v.toNat ≤ 32768) (c : BitVec 32) (hc : c.toNat ≤ 1024) : k0_off131 k v c = ![8 * k.val + 4, 0, offN v.toNat + c.toNat] := by
  show ![(Scalar.addi (Scalar.muli (Scf.iv 0#32 1#32 k) 8#32) 4#32).toNat, 0, (Scalar.addi (offW v) c).toNat] = _; rw [b_toNat2 k 4#32 (by decide), offW_add_toNat h₁ h₂ c hc]; rfl
theorem off132 (k : Fin k0_t2_loop.trips) (c : BitVec 32) (hc : c.toNat < 8) : k0_off132 k c = ![8 * k.val + c.toNat, 0, 1024] := by
  show ![(Scalar.addi (Scalar.muli (Scf.iv 0#32 1#32 k) 8#32) c).toNat, 0, 1024] = _; rw [b_toNat2 k c hc]
theorem off133 (k : Fin k0_t2_loop.trips) : k0_off133 k = ![8 * k.val + 4, 0, 1024] := by
  show ![(Scalar.addi (Scalar.muli (Scf.iv 0#32 1#32 k) 8#32) 4#32).toNat, 0, 1024] = _; rw [b_toNat2 k 4#32 (by decide)]; rfl
theorem off134 (k : Fin k0_t2_loop.trips) (v : BitVec 32) (h₁ : 1024 ≤ v.toNat) (h₂ : v.toNat ≤ 32768) (c : BitVec 32) (hc : c.toNat ≤ 1024) : k0_off134 k v c = ![8 * k.val + 4, 0, offN v.toNat + c.toNat] := by
  show ![(Scalar.addi (Scalar.muli (Scf.iv 0#32 1#32 k) 8#32) 4#32).toNat, 0, (Scalar.addi (offW v) c).toNat] = _; rw [b_toNat2 k 4#32 (by decide), offW_add_toNat h₁ h₂ c hc]; rfl
theorem off135 (k : Fin k0_t2_loop.trips) : k0_off135 k = ![8 * k.val + 4, 0, 0] := by
  show ![(Scalar.addi (Scalar.muli (Scf.iv 0#32 1#32 k) 8#32) 4#32).toNat, 0, 0] = _; rw [b_toNat2 k 4#32 (by decide)]; rfl
theorem off136 (k : Fin k0_t2_loop.trips) : k0_off136 k = ![8 * k.val + 4, 0, 0] := by
  show ![(Scalar.addi (Scalar.muli (Scf.iv 0#32 1#32 k) 8#32) 4#32).toNat, 0, 0] = _; rw [b_toNat2 k 4#32 (by decide)]; rfl
theorem off137 (k : Fin k0_t2_loop.trips) : k0_off137 k = ![8 * k.val + 4, 0] := by
  show ![(Scalar.addi (Scalar.muli (Scf.iv 0#32 1#32 k) 8#32) 4#32).toNat, 0] = _; rw [b_toNat2 k 4#32 (by decide)]; rfl
theorem chk21 (k : Fin k0_t2_loop.trips) (v : BitVec 32) (h₁ : 1024 ≤ v.toNat) (h₂ : v.toNat ≤ 32768) : k0_chk21 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off131 k v (BitVec.ofNat 32 (128 * r.val)) a + S1x64x128.size a ≤ S64x64x1152.size a := fun r => by
    rw [off131 k v h₁ h₂ _ (tile_le r)]
    exact inb_tile (by have := lt2 k; omega) (offN_le h₂) r
  have h4 : ∀ (r : Fin 8), ∀ a, k0_off134 k v (BitVec.ofNat 32 (128 * r.val)) a + S1x1x128.size a ≤ S64x1x1152.size a := fun r => by
    rw [off134 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off138 (k : Fin k0_t2_loop.trips) : k0_off138 k = ![8 * k.val + 5] := by
  show ![(Scalar.addi (Scalar.muli (Scf.iv 0#32 1#32 k) 8#32) 5#32).toNat] = _; rw [b_toNat2 k 5#32 (by decide)]; rfl
theorem off139 (k : Fin k0_t2_loop.trips) (v : BitVec 32) (h₁ : 1024 ≤ v.toNat) (h₂ : v.toNat ≤ 32768) (c : BitVec 32) (hc : c.toNat ≤ 1024) : k0_off139 k v c = ![8 * k.val + 5, 0, offN v.toNat + c.toNat] := by
  show ![(Scalar.addi (Scalar.muli (Scf.iv 0#32 1#32 k) 8#32) 5#32).toNat, 0, (Scalar.addi (offW v) c).toNat] = _; rw [b_toNat2 k 5#32 (by decide), offW_add_toNat h₁ h₂ c hc]; rfl
theorem off140 (k : Fin k0_t2_loop.trips) (c : BitVec 32) (hc : c.toNat < 8) : k0_off140 k c = ![8 * k.val + c.toNat, 0, 1024] := by
  show ![(Scalar.addi (Scalar.muli (Scf.iv 0#32 1#32 k) 8#32) c).toNat, 0, 1024] = _; rw [b_toNat2 k c hc]
theorem off141 (k : Fin k0_t2_loop.trips) : k0_off141 k = ![8 * k.val + 5, 0, 1024] := by
  show ![(Scalar.addi (Scalar.muli (Scf.iv 0#32 1#32 k) 8#32) 5#32).toNat, 0, 1024] = _; rw [b_toNat2 k 5#32 (by decide)]; rfl
theorem off142 (k : Fin k0_t2_loop.trips) (v : BitVec 32) (h₁ : 1024 ≤ v.toNat) (h₂ : v.toNat ≤ 32768) (c : BitVec 32) (hc : c.toNat ≤ 1024) : k0_off142 k v c = ![8 * k.val + 5, 0, offN v.toNat + c.toNat] := by
  show ![(Scalar.addi (Scalar.muli (Scf.iv 0#32 1#32 k) 8#32) 5#32).toNat, 0, (Scalar.addi (offW v) c).toNat] = _; rw [b_toNat2 k 5#32 (by decide), offW_add_toNat h₁ h₂ c hc]; rfl
theorem off143 (k : Fin k0_t2_loop.trips) : k0_off143 k = ![8 * k.val + 5, 0, 0] := by
  show ![(Scalar.addi (Scalar.muli (Scf.iv 0#32 1#32 k) 8#32) 5#32).toNat, 0, 0] = _; rw [b_toNat2 k 5#32 (by decide)]; rfl
theorem off144 (k : Fin k0_t2_loop.trips) : k0_off144 k = ![8 * k.val + 5, 0, 0] := by
  show ![(Scalar.addi (Scalar.muli (Scf.iv 0#32 1#32 k) 8#32) 5#32).toNat, 0, 0] = _; rw [b_toNat2 k 5#32 (by decide)]; rfl
theorem off145 (k : Fin k0_t2_loop.trips) : k0_off145 k = ![8 * k.val + 5, 0] := by
  show ![(Scalar.addi (Scalar.muli (Scf.iv 0#32 1#32 k) 8#32) 5#32).toNat, 0] = _; rw [b_toNat2 k 5#32 (by decide)]; rfl
theorem chk22 (k : Fin k0_t2_loop.trips) (v : BitVec 32) (h₁ : 1024 ≤ v.toNat) (h₂ : v.toNat ≤ 32768) : k0_chk22 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off139 k v (BitVec.ofNat 32 (128 * r.val)) a + S1x64x128.size a ≤ S64x64x1152.size a := fun r => by
    rw [off139 k v h₁ h₂ _ (tile_le r)]
    exact inb_tile (by have := lt2 k; omega) (offN_le h₂) r
  have h4 : ∀ (r : Fin 8), ∀ a, k0_off142 k v (BitVec.ofNat 32 (128 * r.val)) a + S1x1x128.size a ≤ S64x1x1152.size a := fun r => by
    rw [off142 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off146 (k : Fin k0_t2_loop.trips) : k0_off146 k = ![8 * k.val + 6] := by
  show ![(Scalar.addi (Scalar.muli (Scf.iv 0#32 1#32 k) 8#32) 6#32).toNat] = _; rw [b_toNat2 k 6#32 (by decide)]; rfl
theorem off147 (k : Fin k0_t2_loop.trips) (v : BitVec 32) (h₁ : 1024 ≤ v.toNat) (h₂ : v.toNat ≤ 32768) (c : BitVec 32) (hc : c.toNat ≤ 1024) : k0_off147 k v c = ![8 * k.val + 6, 0, offN v.toNat + c.toNat] := by
  show ![(Scalar.addi (Scalar.muli (Scf.iv 0#32 1#32 k) 8#32) 6#32).toNat, 0, (Scalar.addi (offW v) c).toNat] = _; rw [b_toNat2 k 6#32 (by decide), offW_add_toNat h₁ h₂ c hc]; rfl
theorem off148 (k : Fin k0_t2_loop.trips) (c : BitVec 32) (hc : c.toNat < 8) : k0_off148 k c = ![8 * k.val + c.toNat, 0, 1024] := by
  show ![(Scalar.addi (Scalar.muli (Scf.iv 0#32 1#32 k) 8#32) c).toNat, 0, 1024] = _; rw [b_toNat2 k c hc]
theorem off149 (k : Fin k0_t2_loop.trips) : k0_off149 k = ![8 * k.val + 6, 0, 1024] := by
  show ![(Scalar.addi (Scalar.muli (Scf.iv 0#32 1#32 k) 8#32) 6#32).toNat, 0, 1024] = _; rw [b_toNat2 k 6#32 (by decide)]; rfl
theorem off150 (k : Fin k0_t2_loop.trips) (v : BitVec 32) (h₁ : 1024 ≤ v.toNat) (h₂ : v.toNat ≤ 32768) (c : BitVec 32) (hc : c.toNat ≤ 1024) : k0_off150 k v c = ![8 * k.val + 6, 0, offN v.toNat + c.toNat] := by
  show ![(Scalar.addi (Scalar.muli (Scf.iv 0#32 1#32 k) 8#32) 6#32).toNat, 0, (Scalar.addi (offW v) c).toNat] = _; rw [b_toNat2 k 6#32 (by decide), offW_add_toNat h₁ h₂ c hc]; rfl
theorem off151 (k : Fin k0_t2_loop.trips) : k0_off151 k = ![8 * k.val + 6, 0, 0] := by
  show ![(Scalar.addi (Scalar.muli (Scf.iv 0#32 1#32 k) 8#32) 6#32).toNat, 0, 0] = _; rw [b_toNat2 k 6#32 (by decide)]; rfl
theorem off152 (k : Fin k0_t2_loop.trips) : k0_off152 k = ![8 * k.val + 6, 0, 0] := by
  show ![(Scalar.addi (Scalar.muli (Scf.iv 0#32 1#32 k) 8#32) 6#32).toNat, 0, 0] = _; rw [b_toNat2 k 6#32 (by decide)]; rfl
theorem off153 (k : Fin k0_t2_loop.trips) : k0_off153 k = ![8 * k.val + 6, 0] := by
  show ![(Scalar.addi (Scalar.muli (Scf.iv 0#32 1#32 k) 8#32) 6#32).toNat, 0] = _; rw [b_toNat2 k 6#32 (by decide)]; rfl
theorem chk23 (k : Fin k0_t2_loop.trips) (v : BitVec 32) (h₁ : 1024 ≤ v.toNat) (h₂ : v.toNat ≤ 32768) : k0_chk23 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off147 k v (BitVec.ofNat 32 (128 * r.val)) a + S1x64x128.size a ≤ S64x64x1152.size a := fun r => by
    rw [off147 k v h₁ h₂ _ (tile_le r)]
    exact inb_tile (by have := lt2 k; omega) (offN_le h₂) r
  have h4 : ∀ (r : Fin 8), ∀ a, k0_off150 k v (BitVec.ofNat 32 (128 * r.val)) a + S1x1x128.size a ≤ S64x1x1152.size a := fun r => by
    rw [off150 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide
theorem off154 (k : Fin k0_t2_loop.trips) : k0_off154 k = ![8 * k.val + 7] := by
  show ![(Scalar.addi (Scalar.muli (Scf.iv 0#32 1#32 k) 8#32) 7#32).toNat] = _; rw [b_toNat2 k 7#32 (by decide)]; rfl
theorem off155 (k : Fin k0_t2_loop.trips) (v : BitVec 32) (h₁ : 1024 ≤ v.toNat) (h₂ : v.toNat ≤ 32768) (c : BitVec 32) (hc : c.toNat ≤ 1024) : k0_off155 k v c = ![8 * k.val + 7, 0, offN v.toNat + c.toNat] := by
  show ![(Scalar.addi (Scalar.muli (Scf.iv 0#32 1#32 k) 8#32) 7#32).toNat, 0, (Scalar.addi (offW v) c).toNat] = _; rw [b_toNat2 k 7#32 (by decide), offW_add_toNat h₁ h₂ c hc]; rfl
theorem off156 (k : Fin k0_t2_loop.trips) : k0_off156 k = ![8 * k.val + 7, 0, 1024] := by
  show ![(Scalar.addi (Scalar.muli (Scf.iv 0#32 1#32 k) 8#32) 7#32).toNat, 0, 1024] = _; rw [b_toNat2 k 7#32 (by decide)]; rfl
theorem off157 (k : Fin k0_t2_loop.trips) : k0_off157 k = ![8 * k.val + 7, 0, 1024] := by
  show ![(Scalar.addi (Scalar.muli (Scf.iv 0#32 1#32 k) 8#32) 7#32).toNat, 0, 1024] = _; rw [b_toNat2 k 7#32 (by decide)]; rfl
theorem off158 (k : Fin k0_t2_loop.trips) (v : BitVec 32) (h₁ : 1024 ≤ v.toNat) (h₂ : v.toNat ≤ 32768) (c : BitVec 32) (hc : c.toNat ≤ 1024) : k0_off158 k v c = ![8 * k.val + 7, 0, offN v.toNat + c.toNat] := by
  show ![(Scalar.addi (Scalar.muli (Scf.iv 0#32 1#32 k) 8#32) 7#32).toNat, 0, (Scalar.addi (offW v) c).toNat] = _; rw [b_toNat2 k 7#32 (by decide), offW_add_toNat h₁ h₂ c hc]; rfl
theorem off159 (k : Fin k0_t2_loop.trips) : k0_off159 k = ![8 * k.val + 7, 0, 0] := by
  show ![(Scalar.addi (Scalar.muli (Scf.iv 0#32 1#32 k) 8#32) 7#32).toNat, 0, 0] = _; rw [b_toNat2 k 7#32 (by decide)]; rfl
theorem off160 (k : Fin k0_t2_loop.trips) : k0_off160 k = ![8 * k.val + 7, 0, 0] := by
  show ![(Scalar.addi (Scalar.muli (Scf.iv 0#32 1#32 k) 8#32) 7#32).toNat, 0, 0] = _; rw [b_toNat2 k 7#32 (by decide)]; rfl
theorem off161 (k : Fin k0_t2_loop.trips) : k0_off161 k = ![8 * k.val + 7, 0] := by
  show ![(Scalar.addi (Scalar.muli (Scf.iv 0#32 1#32 k) 8#32) 7#32).toNat, 0] = _; rw [b_toNat2 k 7#32 (by decide)]; rfl
theorem chk24 (k : Fin k0_t2_loop.trips) (v : BitVec 32) (h₁ : 1024 ≤ v.toNat) (h₂ : v.toNat ≤ 32768) : k0_chk24 k v := by
  have hm : ∀ c : BitVec 32, c.toNat ≤ 1024 → 128 ∣ c.toNat → 128 ∣ (Scalar.addi (offW v) c).toNat := fun c hc hd => by
    rw [offW_add_toNat h₁ h₂ c hc]; exact Nat.dvd_add (dvd_offN _) hd
  have h3 : ∀ (r : Fin 8), ∀ a, k0_off155 k v (BitVec.ofNat 32 (128 * r.val)) a + S1x64x128.size a ≤ S64x64x1152.size a := fun r => by
    rw [off155 k v h₁ h₂ _ (tile_le r)]
    exact inb_tile (by have := lt2 k; omega) (offN_le h₂) r
  have h4 : ∀ (r : Fin 8), ∀ a, k0_off158 k v (BitVec.ofNat 32 (128 * r.val)) a + S1x1x128.size a ≤ S64x1x1152.size a := fun r => by
    rw [off158 k v h₁ h₂ _ (tile_le r)]
    exact inb_tile' (by have := lt2 k; omega) (offN_le h₂) r
  refine ⟨hm 0#32 ?_ ?_, h3, hm 128#32 ?_ ?_, hm 256#32 ?_ ?_, hm 384#32 ?_ ?_, hm 512#32 ?_ ?_, hm 640#32 ?_ ?_, hm 768#32 ?_ ?_, hm 896#32 ?_ ?_,
    hm 0#32 ?_ ?_, hm 128#32 ?_ ?_, hm 256#32 ?_ ?_, hm 384#32 ?_ ?_, hm 512#32 ?_ ?_, hm 640#32 ?_ ?_, hm 768#32 ?_ ?_, hm 896#32 ?_ ?_,
    hm 0#32 ?_ ?_, h4, hm 128#32 ?_ ?_, hm 256#32 ?_ ?_, hm 384#32 ?_ ?_, hm 512#32 ?_ ?_, hm 640#32 ?_ ?_, hm 768#32 ?_ ?_, hm 896#32 ?_ ?_⟩ <;> decide

end Cert.KernelIdeal.Offs
-- ==== Proof.KISetup.lean ====
/-
The copies of the kernel: for each batch the key range, the value range and the scales of the values are
copied into the scratch buffers; the eight batches of a group share one semaphore. What each copy hands
back when it has landed, and the rules for starting one and for waiting for one.
-/
module
public import proofs.«01_k».proof.Proof.Geo
public import proofs.«01_k».proof.Proof.KIOffs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-! ## The buffers -/
abbrev kb : Memref sig .tc .vmem S64x64x1152 .i8 := Memref.whole cc0_scratch0
abbrev vb : Memref sig .tc .vmem S64x64x1152 .i8 := Memref.whole cc0_scratch1
abbrev sb : Memref sig .tc .vmem S64x1x1152 .f32 := Memref.whole cc0_scratch2
abbrev hk : Memref sig .tc .hbm S64x64x32768 .i8 := Memref.whole main_v1
abbrev hv : Memref sig .tc .hbm S64x64x32768 .i8 := Memref.whole main_v3
abbrev hs : Memref sig .tc .hbm S64x1x32768 .f32 := Memref.whole main_v4
abbrev HbBuf (c : Dev nD) {sp : Space} {S : Shape} {e : EltTy} (M : Memref sig .tc sp S e) : Type := Buf (Elt F) (M.view.loc (c : Thread nD τ))
abbrev onS (c : Dev nD) {sp : Space} {S : Shape} {e : EltTy} (M : Memref sig .tc sp S e) (I : Finset (Idx (M.view.loc (c : Thread nD τ))))
    (f : HbBuf (F := F) c M) : sProp 𝕄 := M.view.loc (c : Thread nD τ) ↦[I]{fullShare} f

/-! ## The copies' ends, as printed -/
abbrev dK (M : Memref sig .tc .vmem S64x64x1152 .i8) (o : Fin 3 → ℕ) (h : ∀ a, o a + S1x64x1152.size a ≤ S64x64x1152.size a) :
    Memref sig .tc .vmem S64x1152 .i8 :=
  (M.slice (Rect.unit (s := S64x64x1152) o S1x64x1152.size h) (fun _ => rfl)).squeeze S64x1152 squeezes_S1x64x1152_S64x1152
abbrev sK (M : Memref sig .tc .hbm S64x64x32768 .i8) (o : Fin 3 → ℕ) (h : ∀ a, o a + S1x64x1152.size a ≤ S64x64x32768.size a) :
    Memref sig .tc .hbm S64x1152 .i8 :=
  (M.slice (Rect.unit (s := S64x64x32768) o S1x64x1152.size h) (fun _ => rfl)).squeeze S64x1152 squeezes_S1x64x1152_S64x1152
abbrev dS (M : Memref sig .tc .vmem S64x1x1152 .f32) (o : Fin 3 → ℕ) (h : ∀ a, o a + S1x1x1152.size a ≤ S64x1x1152.size a) :
    Memref sig .tc .vmem S1x1152 .f32 :=
  (M.slice (Rect.unit (s := S64x1x1152) o S1x1x1152.size h) (fun _ => rfl)).squeeze S1x1152 squeezes_S1x1x1152_S1x1152
abbrev sS (M : Memref sig .tc .hbm S64x1x32768 .f32) (o : Fin 3 → ℕ) (h : ∀ a, o a + S1x1x1152.size a ≤ S64x1x32768.size a) :
    Memref sig .tc .hbm S1x1152 .f32 :=
  (M.slice (Rect.unit (s := S64x1x32768) o S1x1x1152.size h) (fun _ => rfl)).squeeze S1x1152 squeezes_S1x1x1152_S1x1152

theorem dsetK (b : ℕ) (o : Fin 3 → ℕ) (ho : o = ![b, 0, 0]) (h) : (dK kb o h).view.set = (slab b : Finset (Sh 64 1152).Idx) := by
  subst ho
  refine (View.set_reshape _ _).trans ((View.set_slice_whole _ _).trans ?_)
  ext i
  have h1 : (i 1).val < 64 := (i 1).isLt
  have h2 : (i 2).val < 1152 := (i 2).isLt
  refine (mem_unit (D := 64) (L := 1152)).trans ?_
  simp only [slab, Finset.mem_filter, Finset.mem_univ, true_and]
  constructor
  · rintro ⟨h, -⟩
    have h' : b ≤ (i 0).val ∧ (i 0).val < b + 1 := h
    show (i 0).val = b; omega
  · intro h'
    have h'' : (i 0).val = b := h'
    exact ⟨(by omega : b ≤ (i 0).val ∧ (i 0).val < b + 1), ⟨Nat.zero_le _, (by omega : (i 1).val < 0 + 64)⟩, ⟨Nat.zero_le _, (by omega : (i 2).val < 0 + 1152)⟩⟩
theorem ssetK (src : ℕ → ℕ) (b : ℕ) (o : Fin 3 → ℕ) (ho : o = ![b, 0, src b]) (h) : (sK hk o h).view.set = (win src b : Finset (Sh 64 32768).Idx) := by
  subst ho
  refine (View.set_reshape _ _).trans ((View.set_slice_whole _ _).trans ?_)
  ext i
  have h1 : (i 1).val < 64 := (i 1).isLt
  refine (mem_unit (D := 64) (L := 32768)).trans ?_
  simp only [win, Finset.mem_filter, Finset.mem_univ, true_and]
  constructor
  · rintro ⟨h, -, h3⟩
    have h' : b ≤ (i 0).val ∧ (i 0).val < b + 1 := h
    have hb : (i 0).val = b := by omega
    have h3' : src b ≤ (i 2).val ∧ (i 2).val < src b + 1152 := h3
    have hb' : bat (D := 64) (L := 32768) i = b := hb
    exact ⟨hb', by rw [hb']; exact h3'⟩
  · rintro ⟨h', h3⟩
    rw [h'] at h3
    have h'' : (i 0).val = b := h'
    exact ⟨(by omega : b ≤ (i 0).val ∧ (i 0).val < b + 1), ⟨Nat.zero_le _, (by omega : (i 1).val < 0 + 64)⟩, h3⟩
/-- What a copy leaves in its slab is what `land` says. -/
theorem landedK (c : Dev nD) (src : ℕ → ℕ) (b : ℕ) (hsrc : src b ≤ 31616) (o o' : Fin 3 → ℕ) (ho : o = ![b, 0, 0]) (ho' : o' = ![b, 0, src b]) (h) (h')
    (fd : HbBuf (F := F) c kb) (fs : HbBuf (F := F) c hk) :
    ∀ i ∈ (slab b : Finset (Sh 64 1152).Idx),
      (dK kb o h).view.write (Elt F) fd (ReadAs.same.apply ((sK hk o' h').view.read (Elt F) fs)) Finset.univ i = land (D := 64) src fs i := by
  intro i hi
  rw [← dsetK b o ho h] at hi
  obtain ⟨x, -, rfl⟩ := Finset.mem_map.mp hi
  refine (View.write_emb_of_mem _ _ (Finset.mem_univ x)).trans ?_
  show fs ((sK hk o' h').view.emb x) = _
  unfold land
  refine congrArg fs (funext fun a => Fin.ext ?_)
  generalize hy : Shape.reshapeEquiv (s := S1x64x1152) (s' := _) squeezes_S1x64x1152_S64x1152.numel_eq x = y
  have e1 : ∀ a, (((sK hk o' h').view.emb x a).val : ℕ) = o' a + 1 * (y a).val := fun a => by rw [← hy]; rfl
  have e2 : ∀ a, (((dK kb o h).view.emb x a).val : ℕ) = o a + 1 * (y a).val := fun a => by rw [← hy]; rfl
  have hy0 : (y 0).val < 1 := (y 0).isLt
  have hb0 : (((dK kb o h).view.emb x 0).val : ℕ) = b := by rw [e2]; subst ho; show b + 1 * (y 0).val = b; omega
  rw [e1]
  match a with
  | ⟨0, _⟩ =>
    show _ = (((dK kb o h).view.emb x 0).val : ℕ)
    rw [hb0]; subst ho'; show b + 1 * (y 0).val = b; omega
  | ⟨1, _⟩ =>
    show _ = (((dK kb o h).view.emb x 1).val : ℕ)
    rw [e2]; subst ho; subst ho'; rfl
  | ⟨2, _⟩ =>
    show _ = min (src (((dK kb o h).view.emb x 0).val : ℕ)) 31616 + (((dK kb o h).view.emb x 2).val : ℕ)
    rw [hb0, e2, min_eq_left hsrc]; subst ho; subst ho'
    show src b + 1 * (y 2).val = src b + (0 + 1 * (y 2).val); omega

theorem dsetV (b : ℕ) (o : Fin 3 → ℕ) (ho : o = ![b, 0, 0]) (h) : (dK vb o h).view.set = (slab b : Finset (Sh 64 1152).Idx) := by
  subst ho
  refine (View.set_reshape _ _).trans ((View.set_slice_whole _ _).trans ?_)
  ext i
  have h1 : (i 1).val < 64 := (i 1).isLt
  have h2 : (i 2).val < 1152 := (i 2).isLt
  refine (mem_unit (D := 64) (L := 1152)).trans ?_
  simp only [slab, Finset.mem_filter, Finset.mem_univ, true_and]
  constructor
  · rintro ⟨h, -⟩
    have h' : b ≤ (i 0).val ∧ (i 0).val < b + 1 := h
    show (i 0).val = b; omega
  · intro h'
    have h'' : (i 0).val = b := h'
    exact ⟨(by omega : b ≤ (i 0).val ∧ (i 0).val < b + 1), ⟨Nat.zero_le _, (by omega : (i 1).val < 0 + 64)⟩, ⟨Nat.zero_le _, (by omega : (i 2).val < 0 + 1152)⟩⟩
theorem ssetV (src : ℕ → ℕ) (b : ℕ) (o : Fin 3 → ℕ) (ho : o = ![b, 0, src b]) (h) : (sK hv o h).view.set = (win src b : Finset (Sh 64 32768).Idx) := by
  subst ho
  refine (View.set_reshape _ _).trans ((View.set_slice_whole _ _).trans ?_)
  ext i
  have h1 : (i 1).val < 64 := (i 1).isLt
  refine (mem_unit (D := 64) (L := 32768)).trans ?_
  simp only [win, Finset.mem_filter, Finset.mem_univ, true_and]
  constructor
  · rintro ⟨h, -, h3⟩
    have h' : b ≤ (i 0).val ∧ (i 0).val < b + 1 := h
    have hb : (i 0).val = b := by omega
    have h3' : src b ≤ (i 2).val ∧ (i 2).val < src b + 1152 := h3
    have hb' : bat (D := 64) (L := 32768) i = b := hb
    exact ⟨hb', by rw [hb']; exact h3'⟩
  · rintro ⟨h', h3⟩
    rw [h'] at h3
    have h'' : (i 0).val = b := h'
    exact ⟨(by omega : b ≤ (i 0).val ∧ (i 0).val < b + 1), ⟨Nat.zero_le _, (by omega : (i 1).val < 0 + 64)⟩, h3⟩
/-- What a copy leaves in its slab is what `land` says. -/
theorem landedV (c : Dev nD) (src : ℕ → ℕ) (b : ℕ) (hsrc : src b ≤ 31616) (o o' : Fin 3 → ℕ) (ho : o = ![b, 0, 0]) (ho' : o' = ![b, 0, src b]) (h) (h')
    (fd : HbBuf (F := F) c vb) (fs : HbBuf (F := F) c hv) :
    ∀ i ∈ (slab b : Finset (Sh 64 1152).Idx),
      (dK vb o h).view.write (Elt F) fd (ReadAs.same.apply ((sK hv o' h').view.read (Elt F) fs)) Finset.univ i = land (D := 64) src fs i := by
  intro i hi
  rw [← dsetV b o ho h] at hi
  obtain ⟨x, -, rfl⟩ := Finset.mem_map.mp hi
  refine (View.write_emb_of_mem _ _ (Finset.mem_univ x)).trans ?_
  show fs ((sK hv o' h').view.emb x) = _
  unfold land
  refine congrArg fs (funext fun a => Fin.ext ?_)
  generalize hy : Shape.reshapeEquiv (s := S1x64x1152) (s' := _) squeezes_S1x64x1152_S64x1152.numel_eq x = y
  have e1 : ∀ a, (((sK hv o' h').view.emb x a).val : ℕ) = o' a + 1 * (y a).val := fun a => by rw [← hy]; rfl
  have e2 : ∀ a, (((dK vb o h).view.emb x a).val : ℕ) = o a + 1 * (y a).val := fun a => by rw [← hy]; rfl
  have hy0 : (y 0).val < 1 := (y 0).isLt
  have hb0 : (((dK vb o h).view.emb x 0).val : ℕ) = b := by rw [e2]; subst ho; show b + 1 * (y 0).val = b; omega
  rw [e1]
  match a with
  | ⟨0, _⟩ =>
    show _ = (((dK vb o h).view.emb x 0).val : ℕ)
    rw [hb0]; subst ho'; show b + 1 * (y 0).val = b; omega
  | ⟨1, _⟩ =>
    show _ = (((dK vb o h).view.emb x 1).val : ℕ)
    rw [e2]; subst ho; subst ho'; rfl
  | ⟨2, _⟩ =>
    show _ = min (src (((dK vb o h).view.emb x 0).val : ℕ)) 31616 + (((dK vb o h).view.emb x 2).val : ℕ)
    rw [hb0, e2, min_eq_left hsrc]; subst ho; subst ho'
    show src b + 1 * (y 2).val = src b + (0 + 1 * (y 2).val); omega

theorem dsetS (b : ℕ) (o : Fin 3 → ℕ) (ho : o = ![b, 0, 0]) (h) : (dS sb o h).view.set = (slab b : Finset (Sh 1 1152).Idx) := by
  subst ho
  refine (View.set_reshape _ _).trans ((View.set_slice_whole _ _).trans ?_)
  ext i
  have h1 : (i 1).val < 1 := (i 1).isLt
  have h2 : (i 2).val < 1152 := (i 2).isLt
  refine (mem_unit (D := 1) (L := 1152)).trans ?_
  simp only [slab, Finset.mem_filter, Finset.mem_univ, true_and]
  constructor
  · rintro ⟨h, -⟩
    have h' : b ≤ (i 0).val ∧ (i 0).val < b + 1 := h
    show (i 0).val = b; omega
  · intro h'
    have h'' : (i 0).val = b := h'
    exact ⟨(by omega : b ≤ (i 0).val ∧ (i 0).val < b + 1), ⟨Nat.zero_le _, (by omega : (i 1).val < 0 + 1)⟩, ⟨Nat.zero_le _, (by omega : (i 2).val < 0 + 1152)⟩⟩
theorem ssetS (src : ℕ → ℕ) (b : ℕ) (o : Fin 3 → ℕ) (ho : o = ![b, 0, src b]) (h) : (sS hs o h).view.set = (win src b : Finset (Sh 1 32768).Idx) := by
  subst ho
  refine (View.set_reshape _ _).trans ((View.set_slice_whole _ _).trans ?_)
  ext i
  have h1 : (i 1).val < 1 := (i 1).isLt
  refine (mem_unit (D := 1) (L := 32768)).trans ?_
  simp only [win, Finset.mem_filter, Finset.mem_univ, true_and]
  constructor
  · rintro ⟨h, -, h3⟩
    have h' : b ≤ (i 0).val ∧ (i 0).val < b + 1 := h
    have hb : (i 0).val = b := by omega
    have h3' : src b ≤ (i 2).val ∧ (i 2).val < src b + 1152 := h3
    have hb' : bat (D := 1) (L := 32768) i = b := hb
    exact ⟨hb', by rw [hb']; exact h3'⟩
  · rintro ⟨h', h3⟩
    rw [h'] at h3
    have h'' : (i 0).val = b := h'
    exact ⟨(by omega : b ≤ (i 0).val ∧ (i 0).val < b + 1), ⟨Nat.zero_le _, (by omega : (i 1).val < 0 + 1)⟩, h3⟩
/-- What a copy leaves in its slab is what `land` says. -/
theorem landedS (c : Dev nD) (src : ℕ → ℕ) (b : ℕ) (hsrc : src b ≤ 31616) (o o' : Fin 3 → ℕ) (ho : o = ![b, 0, 0]) (ho' : o' = ![b, 0, src b]) (h) (h')
    (fd : HbBuf (F := F) c sb) (fs : HbBuf (F := F) c hs) :
    ∀ i ∈ (slab b : Finset (Sh 1 1152).Idx),
      (dS sb o h).view.write (Elt F) fd (ReadAs.same.apply ((sS hs o' h').view.read (Elt F) fs)) Finset.univ i = land (D := 1) src fs i := by
  intro i hi
  rw [← dsetS b o ho h] at hi
  obtain ⟨x, -, rfl⟩ := Finset.mem_map.mp hi
  refine (View.write_emb_of_mem _ _ (Finset.mem_univ x)).trans ?_
  show fs ((sS hs o' h').view.emb x) = _
  unfold land
  refine congrArg fs (funext fun a => Fin.ext ?_)
  generalize hy : Shape.reshapeEquiv (s := S1x1x1152) (s' := _) squeezes_S1x1x1152_S1x1152.numel_eq x = y
  have e1 : ∀ a, (((sS hs o' h').view.emb x a).val : ℕ) = o' a + 1 * (y a).val := fun a => by rw [← hy]; rfl
  have e2 : ∀ a, (((dS sb o h).view.emb x a).val : ℕ) = o a + 1 * (y a).val := fun a => by rw [← hy]; rfl
  have hy0 : (y 0).val < 1 := (y 0).isLt
  have hb0 : (((dS sb o h).view.emb x 0).val : ℕ) = b := by rw [e2]; subst ho; show b + 1 * (y 0).val = b; omega
  rw [e1]
  match a with
  | ⟨0, _⟩ =>
    show _ = (((dS sb o h).view.emb x 0).val : ℕ)
    rw [hb0]; subst ho'; show b + 1 * (y 0).val = b; omega
  | ⟨1, _⟩ =>
    show _ = (((dS sb o h).view.emb x 1).val : ℕ)
    rw [e2]; subst ho; subst ho'; rfl
  | ⟨2, _⟩ =>
    show _ = min (src (((dS sb o h).view.emb x 0).val : ℕ)) 31616 + (((dS sb o h).view.emb x 2).val : ℕ)
    rw [hb0, e2, min_eq_left hsrc]; subst ho; subst ho'
    show src b + 1 * (y 2).val = src b + (0 + 1 * (y 2).val); omega

/-! ## The batch of copies of a group -/

/-- The units of the copies on the group's semaphore, three copies a batch. -/
def amt (t : Fin 24) : ℕ := if t.val % 3 = 2 then 144 else 2304
/-- What copy `t` of group `g` hands back: the slab of its destination, landed, and its source range. -/
def deliv (c : Dev nD) (src : ℕ → ℕ) (fk : HbBuf (F := F) c hk) (fv : HbBuf (F := F) c hv) (fs : HbBuf (F := F) c hs) (g : ℕ) (t : Fin 24) : sProp 𝕄 :=
  if t.val % 3 = 0 then iprop(onS c kb (slab (8 * g + t.val / 3)) (land (D := 64) src fk) ∗ onS c hk (win src (8 * g + t.val / 3)) fk)
  else if t.val % 3 = 1 then iprop(onS c vb (slab (8 * g + t.val / 3)) (land (D := 64) src fv) ∗ onS c hv (win src (8 * g + t.val / 3)) fv)
  else iprop(onS c sb (slab (8 * g + t.val / 3)) (land (D := 1) src fs) ∗ onS c hs (win src (8 * g + t.val / 3)) fs)
instance deliv_storable (c : Dev nD) (src : ℕ → ℕ) (fk : HbBuf (F := F) c hk) (fv : HbBuf (F := F) c hv) (fs : HbBuf (F := F) c hs) (g : ℕ) (t : Fin 24) :
    Storable (upEmb : UEmb _ 𝕄) (deliv c src fk fv fs g t) := by
  unfold deliv; split_ifs <;> infer_instance
/-- The group's semaphore cell. -/
abbrev cell (g : ℕ) (hg : g < 8) : DmaSem sig := ⟨9 + g, by show 9 + g < 17; omega⟩
abbrev EC : UEmb Counters 𝕄 := countersEmb (U := Pipeline.UD sig nD τ)

/-- The group's copies, `j` of them started and `u` units waited for. -/
abbrev batch (c : Dev nD) (src : ℕ → ℕ) (fk : HbBuf (F := F) c hk) (fv : HbBuf (F := F) c hv) (fs : HbBuf (F := F) c hs) (g : ℕ) (hg : g < 8) (j u : ℕ) : sProp 𝕄 :=
  Transfers.MixedBatch (EC (F := F)) (c : Thread nD τ) (SemLoc.dma (cell g hg)) () amt (deliv c src fk fv fs g) j u

theorem issueK (c : Dev nD) {α : Type} {Q : α → sProp 𝕄} {k : PUnit → Prog (TpuEff nD τ sig (Elt F) Λ₀ .tc) α}
    (src : ℕ → ℕ) (fk : HbBuf (F := F) c hk) (fv : HbBuf (F := F) c hv) (fs : HbBuf (F := F) c hs) (fd : HbBuf (F := F) c kb)
    (g j b : ℕ) (hg : g < 8) (hj : j < 24) (hm : j % 3 = 0) (hb : b = 8 * g + j / 3) (hsrc : src b ≤ 31616)
    (o o' : Fin 3 → ℕ) (ho : o = ![b, 0, 0]) (ho' : o' = ![b, 0, src b]) (h) (h') {sm : DmaSem sig} (hsm : sm = cell g hg)
    {h1 : (sK hk o' h').view.WordExact} {h2 : (dK kb o h).view.WordExact} {h3 : DmaTarget.Typed (nD := nD) (τ := τ) (p := .tc) .hbm (SemLoc.dma sm) (.here (dK kb o h))} :
    iprop(onS c hk (winRem src b) fk ∗ onS c kb (slabGe b) fd ∗ batch c src fk fv fs g hg j 0)
      ⊢ iprop((iprop(onS c hk (winRem src (b + 1)) fk ∗ onS c kb (slabGe (b + 1)) fd ∗ batch c src fk fv fs g hg (j + 1) 0)
            -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs (sK hk o' h') (.here (dK kb o h)) ReadAs.same (.dma sm) h1 h2 h3) k) Q) := by
  subst hsm
  have eS := ssetK src b o' ho' h'
  have eD := dsetK b o ho h
  have hA : (dK kb o h).view.amount (SemLoc.dma (cell g hg)) = amt ⟨j, hj⟩ := by
    unfold amt; rw [if_neg (by show ¬ j % 3 = 2; omega)]; rfl
  have hD : iprop(((dK kb o h).view.loc (c : Thread nD τ) ↦[(slab b : Finset (Sh 64 1152).Idx)]{fullShare}
        ((dK kb o h).view.write (Elt F) fd (ReadAs.same.apply ((sK hk o' h').view.read (Elt F) fk)) Finset.univ))
      ∗ ((sK hk o' h').view.loc (c : Thread nD τ) ↦[(sK hk o' h').view.set]{fullShare} fk)) ⊢ (deliv c src fk fv fs g ⟨j, hj⟩ : sProp 𝕄) := by
    unfold deliv; rw [if_pos hm]
    refine sep_mono (Entails.of_eq ?_) (Entails.of_eq ?_)
    · have := hb; subst this
      exact pointsTo_congr (landedK c src _ hsrc o o' ho ho' h h' fd fk)
    · rw [eS, hb]
  iintro ⟨Hs, Hd, HB⟩ Hk
  ihave Hs' := (take (win_subset src b) (winRem_sdiff src b)) $$ Hs
  icases Hs' with ⟨Hsw, Hsr⟩
  ihave Hd' := (take (slab_subset b) (slabGe_sdiff b)) $$ Hd
  icases Hd' with ⟨Hdw, Hdr⟩
  ihave Hsw' := (Entails.of_eq (show onS c hk (win src b) fk = ((sK hk o' h').view.loc (c : Thread nD τ) ↦[(sK hk o' h').view.set]{fullShare} fk : sProp 𝕄) by rw [eS])) $$ Hsw
  iapply (Transfers.wp_dmaMixedBatch (EC (F := F)) Variants.none (c : Thread nD τ) none (src := sK hk o' h') (dst := dK kb o h) (via := ReadAs.same) (sm := SemLoc.dma (cell g hg)) (hsrc := h1) (hdst := h2) (hsem := h3) (k := k) (Q := Q) (q := fullShare) (fs := fk) (Sd := (slab b : Finset (Sh 64 1152).Idx)) (fd := fd) (D := deliv c src fk fv fs g) (j := j) (u := 0) () amt eD.le hj hA (Nat.zero_le _) hD) $$ [Hsw' Hdw HB]
  · isplitl [Hsw']; · iexact Hsw'
    isplitl [Hdw]; · iexact Hdw
    iexact HB
  iintro HB
  iapply Hk
  isplitl [Hsr]; · iexact Hsr
  isplitl [Hdr]; · iexact Hdr
  iexact HB

theorem issueV (c : Dev nD) {α : Type} {Q : α → sProp 𝕄} {k : PUnit → Prog (TpuEff nD τ sig (Elt F) Λ₀ .tc) α}
    (src : ℕ → ℕ) (fk : HbBuf (F := F) c hk) (fv : HbBuf (F := F) c hv) (fs : HbBuf (F := F) c hs) (fd : HbBuf (F := F) c vb)
    (g j b : ℕ) (hg : g < 8) (hj : j < 24) (hm : j % 3 = 1) (hb : b = 8 * g + j / 3) (hsrc : src b ≤ 31616)
    (o o' : Fin 3 → ℕ) (ho : o = ![b, 0, 0]) (ho' : o' = ![b, 0, src b]) (h) (h') {sm : DmaSem sig} (hsm : sm = cell g hg)
    {h1 : (sK hv o' h').view.WordExact} {h2 : (dK vb o h).view.WordExact} {h3 : DmaTarget.Typed (nD := nD) (τ := τ) (p := .tc) .hbm (SemLoc.dma sm) (.here (dK vb o h))} :
    iprop(onS c hv (winRem src b) fv ∗ onS c vb (slabGe b) fd ∗ batch c src fk fv fs g hg j 0)
      ⊢ iprop((iprop(onS c hv (winRem src (b + 1)) fv ∗ onS c vb (slabGe (b + 1)) fd ∗ batch c src fk fv fs g hg (j + 1) 0)
            -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs (sK hv o' h') (.here (dK vb o h)) ReadAs.same (.dma sm) h1 h2 h3) k) Q) := by
  subst hsm
  have eS := ssetV src b o' ho' h'
  have eD := dsetV b o ho h
  have hA : (dK vb o h).view.amount (SemLoc.dma (cell g hg)) = amt ⟨j, hj⟩ := by
    unfold amt; rw [if_neg (by show ¬ j % 3 = 2; omega)]; rfl
  have hD : iprop(((dK vb o h).view.loc (c : Thread nD τ) ↦[(slab b : Finset (Sh 64 1152).Idx)]{fullShare}
        ((dK vb o h).view.write (Elt F) fd (ReadAs.same.apply ((sK hv o' h').view.read (Elt F) fv)) Finset.univ))
      ∗ ((sK hv o' h').view.loc (c : Thread nD τ) ↦[(sK hv o' h').view.set]{fullShare} fv)) ⊢ (deliv c src fk fv fs g ⟨j, hj⟩ : sProp 𝕄) := by
    unfold deliv; rw [if_neg (by show ¬ j % 3 = 0; omega), if_pos hm]
    refine sep_mono (Entails.of_eq ?_) (Entails.of_eq ?_)
    · have := hb; subst this
      exact pointsTo_congr (landedV c src _ hsrc o o' ho ho' h h' fd fv)
    · rw [eS, hb]
  iintro ⟨Hs, Hd, HB⟩ Hk
  ihave Hs' := (take (win_subset src b) (winRem_sdiff src b)) $$ Hs
  icases Hs' with ⟨Hsw, Hsr⟩
  ihave Hd' := (take (slab_subset b) (slabGe_sdiff b)) $$ Hd
  icases Hd' with ⟨Hdw, Hdr⟩
  ihave Hsw' := (Entails.of_eq (show onS c hv (win src b) fv = ((sK hv o' h').view.loc (c : Thread nD τ) ↦[(sK hv o' h').view.set]{fullShare} fv : sProp 𝕄) by rw [eS])) $$ Hsw
  iapply (Transfers.wp_dmaMixedBatch (EC (F := F)) Variants.none (c : Thread nD τ) none (src := sK hv o' h') (dst := dK vb o h) (via := ReadAs.same) (sm := SemLoc.dma (cell g hg)) (hsrc := h1) (hdst := h2) (hsem := h3) (k := k) (Q := Q) (q := fullShare) (fs := fv) (Sd := (slab b : Finset (Sh 64 1152).Idx)) (fd := fd) (D := deliv c src fk fv fs g) (j := j) (u := 0) () amt eD.le hj hA (Nat.zero_le _) hD) $$ [Hsw' Hdw HB]
  · isplitl [Hsw']; · iexact Hsw'
    isplitl [Hdw]; · iexact Hdw
    iexact HB
  iintro HB
  iapply Hk
  isplitl [Hsr]; · iexact Hsr
  isplitl [Hdr]; · iexact Hdr
  iexact HB

theorem issueS (c : Dev nD) {α : Type} {Q : α → sProp 𝕄} {k : PUnit → Prog (TpuEff nD τ sig (Elt F) Λ₀ .tc) α}
    (src : ℕ → ℕ) (fk : HbBuf (F := F) c hk) (fv : HbBuf (F := F) c hv) (fs : HbBuf (F := F) c hs) (fd : HbBuf (F := F) c sb)
    (g j b : ℕ) (hg : g < 8) (hj : j < 24) (hm : j % 3 = 2) (hb : b = 8 * g + j / 3) (hsrc : src b ≤ 31616)
    (o o' : Fin 3 → ℕ) (ho : o = ![b, 0, 0]) (ho' : o' = ![b, 0, src b]) (h) (h') {sm : DmaSem sig} (hsm : sm = cell g hg)
    {h1 : (sS hs o' h').view.WordExact} {h2 : (dS sb o h).view.WordExact} {h3 : DmaTarget.Typed (nD := nD) (τ := τ) (p := .tc) .hbm (SemLoc.dma sm) (.here (dS sb o h))} :
    iprop(onS c hs (winRem src b) fs ∗ onS c sb (slabGe b) fd ∗ batch c src fk fv fs g hg j 0)
      ⊢ iprop((iprop(onS c hs (winRem src (b + 1)) fs ∗ onS c sb (slabGe (b + 1)) fd ∗ batch c src fk fv fs g hg (j + 1) 0)
            -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs (sS hs o' h') (.here (dS sb o h)) ReadAs.same (.dma sm) h1 h2 h3) k) Q) := by
  subst hsm
  have eS := ssetS src b o' ho' h'
  have eD := dsetS b o ho h
  have hA : (dS sb o h).view.amount (SemLoc.dma (cell g hg)) = amt ⟨j, hj⟩ := by
    unfold amt; rw [if_pos (by show j % 3 = 2; omega)]; rfl
  have hD : iprop(((dS sb o h).view.loc (c : Thread nD τ) ↦[(slab b : Finset (Sh 1 1152).Idx)]{fullShare}
        ((dS sb o h).view.write (Elt F) fd (ReadAs.same.apply ((sS hs o' h').view.read (Elt F) fs)) Finset.univ))
      ∗ ((sS hs o' h').view.loc (c : Thread nD τ) ↦[(sS hs o' h').view.set]{fullShare} fs)) ⊢ (deliv c src fk fv fs g ⟨j, hj⟩ : sProp 𝕄) := by
    unfold deliv; rw [if_neg (by show ¬ j % 3 = 0; omega), if_neg (by show ¬ j % 3 = 1; omega)]
    refine sep_mono (Entails.of_eq ?_) (Entails.of_eq ?_)
    · have := hb; subst this
      exact pointsTo_congr (landedS c src _ hsrc o o' ho ho' h h' fd fs)
    · rw [eS, hb]
  iintro ⟨Hs, Hd, HB⟩ Hk
  ihave Hs' := (take (win_subset src b) (winRem_sdiff src b)) $$ Hs
  icases Hs' with ⟨Hsw, Hsr⟩
  ihave Hd' := (take (slab_subset b) (slabGe_sdiff b)) $$ Hd
  icases Hd' with ⟨Hdw, Hdr⟩
  ihave Hsw' := (Entails.of_eq (show onS c hs (win src b) fs = ((sS hs o' h').view.loc (c : Thread nD τ) ↦[(sS hs o' h').view.set]{fullShare} fs : sProp 𝕄) by rw [eS])) $$ Hsw
  iapply (Transfers.wp_dmaMixedBatch (EC (F := F)) Variants.none (c : Thread nD τ) none (src := sS hs o' h') (dst := dS sb o h) (via := ReadAs.same) (sm := SemLoc.dma (cell g hg)) (hsrc := h1) (hdst := h2) (hsem := h3) (k := k) (Q := Q) (q := fullShare) (fs := fs) (Sd := (slab b : Finset (Sh 1 1152).Idx)) (fd := fd) (D := deliv c src fk fv fs g) (j := j) (u := 0) () amt eD.le hj hA (Nat.zero_le _) hD) $$ [Hsw' Hdw HB]
  · isplitl [Hsw']; · iexact Hsw'
    isplitl [Hdw]; · iexact Hdw
    iexact HB
  iintro HB
  iapply Hk
  isplitl [Hsr]; · iexact Hsr
  isplitl [Hdr]; · iexact Hdr
  iexact HB

end Cert.KernelIdeal.Hand
-- ==== Proof.KIWords.lean ====
/-
What the loops share: the words of the lengths as the kernel reads them, and the semaphores.
-/
module
public import proofs.«01_k».proof.Proof.KISetup
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

abbrev xb : Memref sig .tc .vmem S64x64x128 .bf16 := Memref.whole cc0_scratch3
abbrev nb : Memref sig .tc .vmem S64x64 .f32 := Memref.whole cc0_scratch4
abbrev mb : Memref sig .tc .vmem S64x64 .f32 := Memref.whole cc0_scratch5

/-- The length of batch `b`, as the kernel's scalar memory holds it. -/
def word (c : Dev nD) (arg0 : Memref sig .tc .smem S64 .i32) (f0 : HbBuf (F := F) c arg0) (b : ℕ) : BitVec 32 :=
  if h : b < 64 then arg0.view.read (Elt F) f0 (ix1 ⟨b, h⟩) else 0

/-- The lengths lie in the window's range and `src` is where the kernel starts each copy. -/
structure Words (c : Dev nD) (arg0 : Memref sig .tc .smem S64 .i32) (f0 : HbBuf (F := F) c arg0) (src : ℕ → ℕ) : Prop where
  lo : ∀ b, b < 64 → 1024 ≤ (word c arg0 f0 b).toNat
  hi : ∀ b, b < 64 → (word c arg0 f0 b).toNat ≤ 32768
  eq : ∀ b, b < 64 → src b = srcN (word c arg0 f0 b).toNat

/-- The scalar load at `![b]` reads the word of batch `b`. -/
theorem readAt_word (c : Dev nD) (arg0 : Memref sig .tc .smem S64 .i32) (f0 : HbBuf (F := F) c arg0)
    (o : Fin 1 → ℕ) (b : ℕ) (ho : o = ![b]) (h : ∀ a, o a + S1.size a ≤ S64.size a) (hp) :
    (View.readAt (Elt F) arg0.view (Rect.unit (s := S64) o S1.size h).toLoadRect f0 (Shape.Idx.first hp) : BitVec 32)
      = word c arg0 f0 b := by
  subst ho
  have hb : b < 64 := by have : b + 1 ≤ 64 := h 0; omega
  unfold word
  rw [dif_pos hb]
  show View.read (Elt F) arg0.view f0 _ = View.read (Elt F) arg0.view f0 _
  congr 1
  funext a
  match a with
  | 0 => apply Fin.ext; show b + 1 * 0 = b; omega

theorem Words.lo' {c : Dev nD} {arg0 : Memref sig .tc .smem S64 .i32} {f0 : HbBuf (F := F) c arg0} {src : ℕ → ℕ} (H : Words c arg0 f0 src)
    {o : Fin 1 → ℕ} {b : ℕ} (ho : o = ![b]) (h : ∀ a, o a + S1.size a ≤ S64.size a) (hp) :
    1024 ≤ (View.readAt (Elt F) arg0.view (Rect.unit (s := S64) o S1.size h).toLoadRect f0 (Shape.Idx.first hp) : BitVec 32).toNat := by
  rw [readAt_word c arg0 f0 o b ho h hp]
  subst ho
  exact H.lo b (by have : b + 1 ≤ 64 := h 0; omega)

theorem Words.hi' {c : Dev nD} {arg0 : Memref sig .tc .smem S64 .i32} {f0 : HbBuf (F := F) c arg0} {src : ℕ → ℕ} (H : Words c arg0 f0 src)
    {o : Fin 1 → ℕ} {b : ℕ} (ho : o = ![b]) (h : ∀ a, o a + S1.size a ≤ S64.size a) (hp) :
    (View.readAt (Elt F) arg0.view (Rect.unit (s := S64) o S1.size h).toLoadRect f0 (Shape.Idx.first hp) : BitVec 32).toNat ≤ 32768 := by
  rw [readAt_word c arg0 f0 o b ho h hp]
  subst ho
  exact H.hi b (by have : b + 1 ≤ 64 := h 0; omega)

theorem Words.eq' {c : Dev nD} {arg0 : Memref sig .tc .smem S64 .i32} {f0 : HbBuf (F := F) c arg0} {src : ℕ → ℕ} (H : Words c arg0 f0 src)
    {o : Fin 1 → ℕ} {b : ℕ} (ho : o = ![b]) (h : ∀ a, o a + S1.size a ≤ S64.size a) (hp) :
    srcN (View.readAt (Elt F) arg0.view (Rect.unit (s := S64) o S1.size h).toLoadRect f0 (Shape.Idx.first hp) : BitVec 32).toNat = src b := by
  rw [readAt_word c arg0 f0 o b ho h hp]
  subst ho
  exact (H.eq b (by have : b + 1 ≤ 64 := h 0; omega)).symm

theorem Words.le {c : Dev nD} {arg0 : Memref sig .tc .smem S64 .i32} {f0 : HbBuf (F := F) c arg0} {src : ℕ → ℕ} (H : Words c arg0 f0 src)
    {b : ℕ} (hb : b < 64) : src b ≤ 31616 := by
  rw [H.eq b hb]; unfold srcN; omega

/-- A program that has returned satisfies what its result satisfies. -/
theorem wp_done (c : Dev nD) {α : Type} {a : α} {Q : α → sProp 𝕄} :
    Q a ⊢ wp frame (wpE (defs₀ (F := F)) Variants.none (c : Thread nD τ) none) Set.univ
      (.ret a : Prog (TpuEff nD τ sig (Elt F) Λ₀ .tc) α) Q := by
  rw [wp_ret]
  iintro H
  imodintro
  iexact H

/-- The semaphore the kernel names by `![g]` is cell `g`. -/
theorem sem_at (o : Fin 1 → ℕ) (g : ℕ) (hg : g < 8) (ho : o = ![g]) (h : ∀ a, o a + S1.size a ≤ S8.size a) (h'') :
    ((SemArray.slice cc0_scratch6 (Rect.unit (s := S8) o S1.size h)).squeeze S_ h'').sem = cell g hg := by
  subst ho
  have e : ∀ x : (Rect.unit (s := S8) ![g] S1.size h).shape.Idx, (Rect.unit (s := S8) ![g] S1.size h).emb x = ix1 ⟨g, hg⟩ := by
    intro x
    funext a
    match a with
    | 0 =>
      apply Fin.ext
      have hx : (x 0).val < 1 := (x 0).isLt
      show g + 1 * (x 0).val = g
      omega
  show cc0_scratch6.ix ((Rect.unit (s := S8) ![g] S1.size h).emb _) = _
  rw [e]
  match g, hg with
  | 0, _ => rfl
  | 1, _ => rfl
  | 2, _ => rfl
  | 3, _ => rfl
  | 4, _ => rfl
  | 5, _ => rfl
  | 6, _ => rfl
  | 7, _ => rfl

end Cert.KernelIdeal.Hand
-- ==== Proof.KISteps.lean ====
/-
One step each of the second loop: a wait that leaves the group's copies unfinished, the wait that
finishes them, the loads and the store of a batch's row.
-/
module
public import proofs.«01_k».proof.Proof.KIWords
public import Idealize.ShloMosaic.Lib.WritesUnit
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- What the core owes, whatever it has waited for. -/
abbrev ow (c : Dev nD) : sProp 𝕄 := iprop(∃ W, owes (c : Thread nD τ) 0 W)

theorem sum_amt : Transfers.sumTo amt 24 = 38016 := by decide

theorem creditK (o : Fin 3 → ℕ) (h) : (dK kb o h).view.dmaCredit = 2304 := rfl
theorem creditV (o : Fin 3 → ℕ) (h) : (dK vb o h).view.dmaCredit = 2304 := rfl
theorem creditS (o : Fin 3 → ℕ) (h) : (dS sb o h).view.dmaCredit = 144 := rfl

/-- A wait that does not reach the group's total. -/
theorem waitT (c : Dev nD) {α : Type} {Q : α → sProp 𝕄} {k : PUnit → Prog (TpuEff nD τ sig (Elt F) Λ₀ .tc) α}
    (src : ℕ → ℕ) (fk : HbBuf (F := F) c hk) (fv : HbBuf (F := F) c hv) (fs : HbBuf (F := F) c hs) (g : ℕ) (hg : g < 8)
    (u J : ℕ) (hu : u + J ≤ 38016) {sp' sp : Space} {s' s : Shape} {e' e : EltTy} {srcw : Memref sig .tc sp' s' e'} {dstw : Memref sig .tc sp s e}
    (hJ : dstw.view.dmaCredit = J) {sm : DmaSem sig} (hsm : sm = cell g hg) {h1 : srcw.view.WordExact} {h2 : dstw.view.WordExact} :
    iprop(batch c src fk fv fs g hg 24 u ∗ ow c)
      ⊢ iprop((iprop(batch c src fk fv fs g hg 24 (u + J) ∗ ow c) -∗ wp frame (wpE (defs₀ (F := F)) Variants.none (c : Thread nD τ) none) Set.univ (k ⟨⟩) Q)
          -∗ wp frame (wpE (defs₀ (F := F)) Variants.none (c : Thread nD τ) none) Set.univ (.op (.waitDma2 sm srcw dstw h1 h2) k) Q) := by
  subst hsm
  iintro ⟨HB, %W, HO⟩ Hk
  iapply (Transfers.wp_waitMixedBatch (EC (F := F)) Variants.none (c : Thread nD τ) none () (A := amt) hJ (D := deliv c src fk fv fs g) (j := 24) (u := u) (by rw [sum_amt]; exact hu) (W := W)) $$ [HB HO]
  · isplitl [HB]; · iexact HB
    iexact HO
  iintro ⟨HB, HO⟩
  iapply Hk
  isplitl [HB]; · iexact HB
  iexists _; iexact HO

theorem amt_pos (t : Fin 24) : 0 < amt t := by unfold amt; split_ifs <;> omega

/-- The wait that reaches the group's total hands back everything its copies delivered. -/
theorem waitAll (c : Dev nD) {α : Type} {Q : α → sProp 𝕄} {k : PUnit → Prog (TpuEff nD τ sig (Elt F) Λ₀ .tc) α}
    (src : ℕ → ℕ) (fk : HbBuf (F := F) c hk) (fv : HbBuf (F := F) c hv) (fs : HbBuf (F := F) c hs) (g : ℕ) (hg : g < 8)
    (u J : ℕ) (hu : u + J = 38016) {sp' sp : Space} {s' s : Shape} {e' e : EltTy} {srcw : Memref sig .tc sp' s' e'} {dstw : Memref sig .tc sp s e}
    (hJ : dstw.view.dmaCredit = J) {sm : DmaSem sig} (hsm : sm = cell g hg) {h1 : srcw.view.WordExact} {h2 : dstw.view.WordExact} :
    iprop(batch c src fk fv fs g hg 24 u ∗ ow c)
      ⊢ iprop((iprop(bigSep Finset.univ (deliv c src fk fv fs g) ∗ semVal ((c : Thread nD τ), SemLoc.dma (cell g hg)) 0 ∗ ow c) -∗ wp frame (wpE (defs₀ (F := F)) Variants.none (c : Thread nD τ) none) Set.univ (k ⟨⟩) Q)
          -∗ wp frame (wpE (defs₀ (F := F)) Variants.none (c : Thread nD τ) none) Set.univ (.op (.waitDma2 sm srcw dstw h1 h2) k) Q) := by
  subst hsm
  iintro ⟨HB, %W, HO⟩ Hk
  iapply (Transfers.wp_waitMixedBatchAll (EC (F := F)) Variants.none (c : Thread nD τ) none () (A := amt) hJ amt_pos (D := deliv c src fk fv fs g) (u := u) (by rw [sum_amt]; exact hu) (W := W)) $$ [HB HO]
  · isplitl [HB]; · iexact HB
    iexact HO
  iintro ⟨HB, HV, HO⟩
  iapply Hk
  isplitl [HB]; · iexact HB
  isplitl [HV]; · iexact HV
  iexists _; iexact HO

/-- Positions `p .. p + 127` of slab `b`. -/
def tile {β : Type} {D : ℕ} (f : (Sh D 1152).Idx → β) (b p : ℕ) (x : (⟨3, ![1, D, 128]⟩ : Shape).Idx) : β :=
  f (ix3 (Fin.ofNat 64 b) (x 1) (Fin.ofNat 1152 (p + (x 2).val)))
/-- Row `b` of an array of 64 matrices. -/
def row3 {β : Type} {D L : ℕ} (f : (⟨3, ![64, D, L]⟩ : Shape).Idx → β) (b : ℕ) (x : (⟨3, ![1, D, L]⟩ : Shape).Idx) : β :=
  f (ix3 (Fin.ofNat 64 b) (x 1) (x 2))
/-- Row `b` of a matrix of 64 rows. -/
def row2 {β : Type} {L : ℕ} (f : (⟨2, ![64, L]⟩ : Shape).Idx → β) (b : ℕ) (x : (⟨2, ![1, L]⟩ : Shape).Idx) : β :=
  f (ix2 (Fin.ofNat 64 b) (x 1))

theorem loadK (c : Dev nD) {α : Type} {Q : α → sProp 𝕄} (n b p : ℕ) (hb : b < n) {o : Fin 3 → ℕ} (ho : o = ![b, 0, p])
    {h : ∀ a, o a + S1x64x128.size a ≤ S64x64x1152.size a} {hl} {f : HbBuf (F := F) c kb}
    {k : Vec F S1x64x128 .i8 → Prog (TpuEff nD τ sig (Elt F) Λ₀ .tc) α} :
    onS c kb (slabLt n) f ⊢ iprop((onS c kb (slabLt n) f -∗ wp frame (wpE (defs₀ (F := F)) Variants.none (c : Thread nD τ) none) Set.univ (k (tile (D := 64) f b p)) Q)
        -∗ wp frame (wpE (defs₀ (F := F)) Variants.none (c : Thread nD τ) none) Set.univ (.op (.load kb (Rect.unit (s := S64x64x1152) o S1x64x128.size h).toLoadRect hl) k) Q) := by
  subst ho
  have hb0 : b + 1 ≤ 64 := h 0
  have hp0 : p + 128 ≤ 1152 := h 2
  have e : (kb.access (Rect.unit (s := S64x64x1152) ![b, 0, p] S1x64x128.size h)).read (Elt F) f = tile (D := 64) f b p := by
    funext x
    have h0 : (x 0).val < 1 := (x 0).isLt
    have h2 : (x 2).val < 128 := (x 2).isLt
    unfold tile
    show f _ = f _
    congr 1
    funext a
    match a with
    | 0 => apply Fin.ext; show b + 1 * (x 0).val = b % 64; omega
    | 1 => apply Fin.ext; show 0 + 1 * (x 1).val = (x 1).val; omega
    | 2 => apply Fin.ext; show p + 1 * (x 2).val = (p + (x 2).val) % 1152; omega
  have hS : (kb.access (Rect.unit (s := S64x64x1152) ![b, 0, p] S1x64x128.size h)).set ⊆ (slabLt n : Finset (Sh 64 1152).Idx) := by
    intro i hi
    have hi2 : i ∈ (Rect.unit (s := Sh 64 1152) ![b, 0, p] S1x64x128.size h).set :=
      (show (kb.access (Rect.unit (s := S64x64x1152) ![b, 0, p] S1x64x128.size h)).set = _ from View.set_slice_whole _ _) ▸ hi
    have hi0 : b ≤ (i 0).val ∧ (i 0).val < b + 1 := ((mem_unit (D := 64) (L := 1152)).1 hi2).1
    exact Finset.mem_filter.2 ⟨Finset.mem_univ _, show (i 0).val < n by omega⟩
  have H := wp_load_rect (defs := defs₀ (F := F)) Variants.none (c : Thread nD τ) none (Γ := PendingWaitsCtx.empty) Set.univ (Q := Q) (m := kb) (r := Rect.unit (s := S64x64x1152) ![b, 0, p] S1x64x128.size h) (hl := hl) (k := k) (S := (slabLt n : Finset (Sh 64 1152).Idx)) (q := fullShare) (f := f) hS
  rw [e] at H
  exact H

theorem loadV (c : Dev nD) {α : Type} {Q : α → sProp 𝕄} (n b p : ℕ) (hb : b < n) {o : Fin 3 → ℕ} (ho : o = ![b, 0, p])
    {h : ∀ a, o a + S1x64x128.size a ≤ S64x64x1152.size a} {hl} {f : HbBuf (F := F) c vb}
    {k : Vec F S1x64x128 .i8 → Prog (TpuEff nD τ sig (Elt F) Λ₀ .tc) α} :
    onS c vb (slabLt n) f ⊢ iprop((onS c vb (slabLt n) f -∗ wp frame (wpE (defs₀ (F := F)) Variants.none (c : Thread nD τ) none) Set.univ (k (tile (D := 64) f b p)) Q)
        -∗ wp frame (wpE (defs₀ (F := F)) Variants.none (c : Thread nD τ) none) Set.univ (.op (.load vb (Rect.unit (s := S64x64x1152) o S1x64x128.size h).toLoadRect hl) k) Q) := by
  subst ho
  have hb0 : b + 1 ≤ 64 := h 0
  have hp0 : p + 128 ≤ 1152 := h 2
  have e : (vb.access (Rect.unit (s := S64x64x1152) ![b, 0, p] S1x64x128.size h)).read (Elt F) f = tile (D := 64) f b p := by
    funext x
    have h0 : (x 0).val < 1 := (x 0).isLt
    have h2 : (x 2).val < 128 := (x 2).isLt
    unfold tile
    show f _ = f _
    congr 1
    funext a
    match a with
    | 0 => apply Fin.ext; show b + 1 * (x 0).val = b % 64; omega
    | 1 => apply Fin.ext; show 0 + 1 * (x 1).val = (x 1).val; omega
    | 2 => apply Fin.ext; show p + 1 * (x 2).val = (p + (x 2).val) % 1152; omega
  have hS : (vb.access (Rect.unit (s := S64x64x1152) ![b, 0, p] S1x64x128.size h)).set ⊆ (slabLt n : Finset (Sh 64 1152).Idx) := by
    intro i hi
    have hi2 : i ∈ (Rect.unit (s := Sh 64 1152) ![b, 0, p] S1x64x128.size h).set :=
      (show (vb.access (Rect.unit (s := S64x64x1152) ![b, 0, p] S1x64x128.size h)).set = _ from View.set_slice_whole _ _) ▸ hi
    have hi0 : b ≤ (i 0).val ∧ (i 0).val < b + 1 := ((mem_unit (D := 64) (L := 1152)).1 hi2).1
    exact Finset.mem_filter.2 ⟨Finset.mem_univ _, show (i 0).val < n by omega⟩
  have H := wp_load_rect (defs := defs₀ (F := F)) Variants.none (c : Thread nD τ) none (Γ := PendingWaitsCtx.empty) Set.univ (Q := Q) (m := vb) (r := Rect.unit (s := S64x64x1152) ![b, 0, p] S1x64x128.size h) (hl := hl) (k := k) (S := (slabLt n : Finset (Sh 64 1152).Idx)) (q := fullShare) (f := f) hS
  rw [e] at H
  exact H

theorem loadS (c : Dev nD) {α : Type} {Q : α → sProp 𝕄} (n b p : ℕ) (hb : b < n) {o : Fin 3 → ℕ} (ho : o = ![b, 0, p])
    {h : ∀ a, o a + S1x1x128.size a ≤ S64x1x1152.size a} {hl} {f : HbBuf (F := F) c sb}
    {k : Vec F S1x1x128 .f32 → Prog (TpuEff nD τ sig (Elt F) Λ₀ .tc) α} :
    onS c sb (slabLt n) f ⊢ iprop((onS c sb (slabLt n) f -∗ wp frame (wpE (defs₀ (F := F)) Variants.none (c : Thread nD τ) none) Set.univ (k (tile (D := 1) f b p)) Q)
        -∗ wp frame (wpE (defs₀ (F := F)) Variants.none (c : Thread nD τ) none) Set.univ (.op (.load sb (Rect.unit (s := S64x1x1152) o S1x1x128.size h).toLoadRect hl) k) Q) := by
  subst ho
  have hb0 : b + 1 ≤ 64 := h 0
  have hp0 : p + 128 ≤ 1152 := h 2
  have e : (sb.access (Rect.unit (s := S64x1x1152) ![b, 0, p] S1x1x128.size h)).read (Elt F) f = tile (D := 1) f b p := by
    funext x
    have h0 : (x 0).val < 1 := (x 0).isLt
    have h2 : (x 2).val < 128 := (x 2).isLt
    unfold tile
    show f _ = f _
    congr 1
    funext a
    match a with
    | 0 => apply Fin.ext; show b + 1 * (x 0).val = b % 64; omega
    | 1 => apply Fin.ext; show 0 + 1 * (x 1).val = (x 1).val; omega
    | 2 => apply Fin.ext; show p + 1 * (x 2).val = (p + (x 2).val) % 1152; omega
  have hS : (sb.access (Rect.unit (s := S64x1x1152) ![b, 0, p] S1x1x128.size h)).set ⊆ (slabLt n : Finset (Sh 1 1152).Idx) := by
    intro i hi
    have hi2 : i ∈ (Rect.unit (s := Sh 1 1152) ![b, 0, p] S1x1x128.size h).set :=
      (show (sb.access (Rect.unit (s := S64x1x1152) ![b, 0, p] S1x1x128.size h)).set = _ from View.set_slice_whole _ _) ▸ hi
    have hi0 : b ≤ (i 0).val ∧ (i 0).val < b + 1 := ((mem_unit (D := 1) (L := 1152)).1 hi2).1
    exact Finset.mem_filter.2 ⟨Finset.mem_univ _, show (i 0).val < n by omega⟩
  have H := wp_load_rect (defs := defs₀ (F := F)) Variants.none (c : Thread nD τ) none (Γ := PendingWaitsCtx.empty) Set.univ (Q := Q) (m := sb) (r := Rect.unit (s := S64x1x1152) ![b, 0, p] S1x1x128.size h) (hl := hl) (k := k) (S := (slabLt n : Finset (Sh 1 1152).Idx)) (q := fullShare) (f := f) hS
  rw [e] at H
  exact H

/-- A load of row `b` from a buffer of 64 matrices held whole. -/
theorem loadR3 (c : Dev nD) {α : Type} {Q : α → sProp 𝕄} {D L : ℕ} {e : EltTy} (m : Memref sig .tc .vmem ⟨3, ![64, D, L]⟩ e) (b : ℕ) {o : Fin 3 → ℕ} (ho : o = ![b, 0, 0])
    {h : ∀ a, o a + (⟨3, ![1, D, L]⟩ : Shape).size a ≤ (⟨3, ![64, D, L]⟩ : Shape).size a} {hl} {f : HbBuf (F := F) c m}
    {k : Vec F ⟨3, ![1, D, L]⟩ e → Prog (TpuEff nD τ sig (Elt F) Λ₀ .tc) α} :
    onS c m m.view.set f ⊢ iprop((onS c m m.view.set f -∗ wp frame (wpE (defs₀ (F := F)) Variants.none (c : Thread nD τ) none) Set.univ (k (row3 (m.view.read (Elt F) f) b)) Q)
        -∗ wp frame (wpE (defs₀ (F := F)) Variants.none (c : Thread nD τ) none) Set.univ (.op (.load m (Rect.unit (s := ⟨3, ![64, D, L]⟩) o (⟨3, ![1, D, L]⟩ : Shape).size h).toLoadRect hl) k) Q) := by
  subst ho
  have hb0 : b + 1 ≤ 64 := h 0
  have e : (m.access (Rect.unit (s := ⟨3, ![64, D, L]⟩) ![b, 0, 0] (⟨3, ![1, D, L]⟩ : Shape).size h)).read (Elt F) f = row3 (m.view.read (Elt F) f) b := by
    funext x
    have h0 : (x 0).val < 1 := (x 0).isLt
    unfold row3
    show m.view.read (Elt F) f _ = m.view.read (Elt F) f _
    congr 1
    funext a
    match a with
    | 0 => apply Fin.ext; show b + 1 * (x 0).val = b % 64; omega
    | 1 => apply Fin.ext; show 0 + 1 * (x 1).val = (x 1).val; omega
    | 2 => apply Fin.ext; show 0 + 1 * (x 2).val = (x 2).val; omega
  have H := wp_load_rect (defs := defs₀ (F := F)) Variants.none (c : Thread nD τ) none (Γ := PendingWaitsCtx.empty) Set.univ (Q := Q) (m := m) (r := Rect.unit (s := ⟨3, ![64, D, L]⟩) ![b, 0, 0] (⟨3, ![1, D, L]⟩ : Shape).size h) (hl := hl) (k := k) (S := (show Finset (Idx (m.view.loc (c : Thread nD τ))) from m.view.set)) (q := fullShare) (f := f) (View.set_slice_subset m.view _)
  rw [e] at H
  exact H

/-- A load of row `b` from a matrix of 64 rows held whole. -/
theorem loadR2 (c : Dev nD) {α : Type} {Q : α → sProp 𝕄} {L : ℕ} {e : EltTy} (m : Memref sig .tc .vmem ⟨2, ![64, L]⟩ e) (b : ℕ) {o : Fin 2 → ℕ} (ho : o = ![b, 0])
    {h : ∀ a, o a + (⟨2, ![1, L]⟩ : Shape).size a ≤ (⟨2, ![64, L]⟩ : Shape).size a} {hl} {f : HbBuf (F := F) c m}
    {k : Vec F ⟨2, ![1, L]⟩ e → Prog (TpuEff nD τ sig (Elt F) Λ₀ .tc) α} :
    onS c m m.view.set f ⊢ iprop((onS c m m.view.set f -∗ wp frame (wpE (defs₀ (F := F)) Variants.none (c : Thread nD τ) none) Set.univ (k (row2 (m.view.read (Elt F) f) b)) Q)
        -∗ wp frame (wpE (defs₀ (F := F)) Variants.none (c : Thread nD τ) none) Set.univ (.op (.load m (Rect.unit (s := ⟨2, ![64, L]⟩) o (⟨2, ![1, L]⟩ : Shape).size h).toLoadRect hl) k) Q) := by
  subst ho
  have hb0 : b + 1 ≤ 64 := h 0
  have e : (m.access (Rect.unit (s := ⟨2, ![64, L]⟩) ![b, 0] (⟨2, ![1, L]⟩ : Shape).size h)).read (Elt F) f = row2 (m.view.read (Elt F) f) b := by
    funext x
    have h0 : (x 0).val < 1 := (x 0).isLt
    unfold row2
    show m.view.read (Elt F) f _ = m.view.read (Elt F) f _
    congr 1
    funext a
    match a with
    | 0 => apply Fin.ext; show b + 1 * (x 0).val = b % 64; omega
    | 1 => apply Fin.ext; show 0 + 1 * (x 1).val = (x 1).val; omega
  have H := wp_load_rect (defs := defs₀ (F := F)) Variants.none (c : Thread nD τ) none (Γ := PendingWaitsCtx.empty) Set.univ (Q := Q) (m := m) (r := Rect.unit (s := ⟨2, ![64, L]⟩) ![b, 0] (⟨2, ![1, L]⟩ : Shape).size h) (hl := hl) (k := k) (S := (show Finset (Idx (m.view.loc (c : Thread nD τ))) from m.view.set)) (q := fullShare) (f := f) (View.set_slice_subset m.view _)
  rw [e] at H
  exact H

/-- The buffer of 64 matrices `m` holds `R` on its first `n` rows. -/
def Rows {D L : ℕ} {e : EltTy} (c : Dev nD) (m : Memref sig .tc .vmem ⟨3, ![64, D, L]⟩ e) (R : (⟨3, ![64, D, L]⟩ : Shape).Idx → Elt F e) (n : ℕ) : sProp 𝕄 :=
  iprop(∃ f : HbBuf (F := F) c m, ⌜∀ x, (x 0).val < n → m.view.read (Elt F) f x = R x⌝ ∗ onS c m m.view.set f)

/-- A store of row `n`: one row more holds `R`. -/
theorem storeR3 (c : Dev nD) {α : Type} {Q : α → sProp 𝕄} {D L : ℕ} {e : EltTy} (m : Memref sig .tc .vmem ⟨3, ![64, D, L]⟩ e) (R : (⟨3, ![64, D, L]⟩ : Shape).Idx → Elt F e)
    (b : ℕ) {o : Fin 3 → ℕ} (ho : o = ![b, 0, 0])
    {h : ∀ a, o a + (⟨3, ![1, D, L]⟩ : Shape).size a ≤ (⟨3, ![64, D, L]⟩ : Shape).size a} {w : Vec F ⟨3, ![1, D, L]⟩ e} {hx hm}
    {k : PUnit → Prog (TpuEff nD τ sig (Elt F) Λ₀ .tc) α} (hw : w = row3 R b) :
    Rows c m R b ⊢ iprop((Rows c m R (b + 1) -∗ wp frame (wpE (defs₀ (F := F)) Variants.none (c : Thread nD τ) none) Set.univ (k ⟨⟩) Q)
        -∗ wp frame (wpE (defs₀ (F := F)) Variants.none (c : Thread nD τ) none) Set.univ (.op (.store m (Rect.unit (s := ⟨3, ![64, D, L]⟩) o (⟨3, ![1, D, L]⟩ : Shape).size h) w Finset.univ hx hm) k) Q) := by
  subst ho hw
  have hb0 : b + 1 ≤ 64 := h 0
  unfold Rows
  iintro ⟨%f, %hf, H⟩ Hk
  have hS : (m.access (Rect.unit (s := ⟨3, ![64, D, L]⟩) ![b, 0, 0] (⟨3, ![1, D, L]⟩ : Shape).size h)).setOn Finset.univ ⊆ m.view.set := View.setOn_slice_subset_set _ _ _
  have HS := wp_store (defs := defs₀ (F := F)) Variants.none (c : Thread nD τ) none (Γ := PendingWaitsCtx.empty) Set.univ (Q := Q) (m := m) (r := Rect.unit (s := ⟨3, ![64, D, L]⟩) ![b, 0, 0] (⟨3, ![1, D, L]⟩ : Shape).size h) (w := row3 R b) (hx := hx) (hm := hm) (k := k) (S := (show Finset (Idx (m.view.loc (c : Thread nD τ))) from m.view.set)) (f := f) hS
  iapply HS $$ H
  iintro H
  iapply Hk
  iexists _
  isplitr
  rotate_left
  · iexact H
  · ipureintro
    intro x hx0
    refine (View.read_writes_cons_unit m.view f h _ [] x rfl).trans ?_
    split
    next hc =>
      show R _ = R _
      congr 1
      funext a
      have hc0 : b ≤ (x 0).val ∧ (x 0).val < b + 1 := hc 0
      match a with
      | 0 => apply Fin.ext; show b % 64 = (x 0).val; omega
      | 1 => apply Fin.ext; show (x 1).val - 0 = (x 1).val; omega
      | 2 => apply Fin.ext; show (x 2).val - 0 = (x 2).val; omega
    next hc =>
      refine hf x ?_
      by_contra hlt
      refine hc fun a => ?_
      match a with
      | 0 => show b ≤ (x 0).val ∧ (x 0).val < b + 1; omega
      | 1 => show 0 ≤ (x 1).val ∧ (x 1).val < 0 + D; have : (x 1).val < D := (x 1).isLt; omega
      | 2 => show 0 ≤ (x 2).val ∧ (x 2).val < 0 + L; have : (x 2).val < L := (x 2).isLt; omega

/-- A load of a row whose value is not used. -/
theorem loadRows (c : Dev nD) {α : Type} {Q : α → sProp 𝕄} {D L : ℕ} {e : EltTy} (m : Memref sig .tc .vmem ⟨3, ![64, D, L]⟩ e) (R : (⟨3, ![64, D, L]⟩ : Shape).Idx → Elt F e)
    (n : ℕ) {r : Rect (⟨3, ![64, D, L]⟩ : Shape)} {hl}
    {k : (r.shape.Idx → Elt F e) → Prog (TpuEff nD τ sig (Elt F) Λ₀ .tc) α} :
    Rows c m R n ⊢ iprop((∀ v, Rows c m R n -∗ wp frame (wpE (defs₀ (F := F)) Variants.none (c : Thread nD τ) none) Set.univ (k v) Q)
        -∗ wp frame (wpE (defs₀ (F := F)) Variants.none (c : Thread nD τ) none) Set.univ (.op (.load m r.toLoadRect hl) k) Q) := by
  unfold Rows
  iintro ⟨%f, %hf, H⟩ Hk
  have HS := wp_load_rect (defs := defs₀ (F := F)) Variants.none (c : Thread nD τ) none (Γ := PendingWaitsCtx.empty) Set.univ (Q := Q) (m := m) (r := r) (hl := hl) (k := k) (S := (show Finset (Idx (m.view.loc (c : Thread nD τ))) from m.view.set)) (q := fullShare) (f := f) (View.set_slice_subset m.view _)
  iapply HS $$ H
  iintro H
  iapply Hk
  iexists f
  isplitr
  rotate_left
  · iexact H
  · ipureintro; exact hf

end Cert.KernelIdeal.Hand
-- ==== Proof.KIRow.lean ====
/-
What the second loop computes for one batch, and the steps it takes on the buffers it reads.
-/
module
public import proofs.«01_k».proof.Proof.KISteps
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The buffer `m` holds `R`. -/
def Has {S : Shape} {e : EltTy} (c : Dev nD) (m : Memref sig .tc .vmem S e) (R : S.Idx → Elt F e) : sProp 𝕄 :=
  iprop(∃ f : HbBuf (F := F) c m, ⌜m.view.read (Elt F) f = R⌝ ∗ onS c m m.view.set f)
/-- A scalar load at the head of a program. -/
theorem smem_bind {α : Type} {S : Shape} {e : EltTy} (m : Memref sig .tc .smem S e) (r : Rect S) (h1 : r.shape.numel = 1) (hp : e.packing = 1)
    (k : Elt F e → Prog (TpuEff nD τ sig (Elt F) Λ₀ .tc) α) :
    (smemLoad (nD := nD) (τ := τ) (Λ := Λ₀) m r h1 hp >>= k) = .op (.load m r.toLoadRect (View.loadsAt_rect (View.loads_smem_one hp h1))) fun f => k (f (Shape.Idx.first (h1.symm ▸ Nat.one_pos))) := rfl
/-- The scalar memory that holds the lengths. -/
def Lens (c : Dev nD) (arg0 : Memref sig .tc .smem S64 .i32) (f0 : HbBuf (F := F) c arg0) : sProp 𝕄 := onS c arg0 arg0.view.set f0

theorem loadLen (c : Dev nD) {α : Type} {Q : α → sProp 𝕄} (arg0 : Memref sig .tc .smem S64 .i32) (f0 : HbBuf (F := F) c arg0) (b : ℕ) {o : Fin 1 → ℕ} (ho : o = ![b])
    {h : ∀ a, o a + S1.size a ≤ S64.size a} {hl} {k : (S1.Idx → Elt F .i32) → Prog (TpuEff nD τ sig (Elt F) Λ₀ .tc) α} :
    Lens c arg0 f0 ⊢ iprop((Lens c arg0 f0 -∗ wp frame (wpE (defs₀ (F := F)) Variants.none (c : Thread nD τ) none) Set.univ (k (fun _ => word c arg0 f0 b)) Q)
        -∗ wp frame (wpE (defs₀ (F := F)) Variants.none (c : Thread nD τ) none) Set.univ (.op (.load arg0 (Rect.unit (s := S64) o S1.size h).toLoadRect hl) k) Q) := by
  subst ho
  have hb0 : b + 1 ≤ 64 := h 0
  have hb : b < 64 := by omega
  have e : (arg0.access (Rect.unit (s := S64) ![b] S1.size h)).read (Elt F) f0 = fun _ => word c arg0 f0 b := by
    funext x
    have h0 : (x 0).val < 1 := (x 0).isLt
    unfold word
    rw [dif_pos hb]
    show arg0.view.read (Elt F) f0 _ = arg0.view.read (Elt F) f0 _
    congr 1
    funext a
    match a with
    | 0 => apply Fin.ext; show b + 1 * (x 0).val = b; omega
  have H := wp_load_rect (defs := defs₀ (F := F)) Variants.none (c : Thread nD τ) none (Γ := PendingWaitsCtx.empty) Set.univ (Q := Q) (m := arg0) (r := Rect.unit (s := S64) ![b] S1.size h) (hl := hl) (k := k) (S := (show Finset (Idx (arg0.view.loc (c : Thread nD τ))) from arg0.view.set)) (q := fullShare) (f := f0) (View.set_slice_subset arg0.view _)
  rw [e] at H
  exact H

theorem hasR3 (c : Dev nD) {α : Type} {Q : α → sProp 𝕄} {D L : ℕ} {e : EltTy} (m : Memref sig .tc .vmem ⟨3, ![64, D, L]⟩ e) (R : (⟨3, ![64, D, L]⟩ : Shape).Idx → Elt F e) (b : ℕ) {o : Fin 3 → ℕ} (ho : o = ![b, 0, 0])
    {h : ∀ a, o a + (⟨3, ![1, D, L]⟩ : Shape).size a ≤ (⟨3, ![64, D, L]⟩ : Shape).size a} {hl}
    {k : Vec F ⟨3, ![1, D, L]⟩ e → Prog (TpuEff nD τ sig (Elt F) Λ₀ .tc) α} :
    Has c m R ⊢ iprop((Has c m R -∗ wp frame (wpE (defs₀ (F := F)) Variants.none (c : Thread nD τ) none) Set.univ (k (row3 R b)) Q)
        -∗ wp frame (wpE (defs₀ (F := F)) Variants.none (c : Thread nD τ) none) Set.univ (.op (.load m (Rect.unit (s := ⟨3, ![64, D, L]⟩) o (⟨3, ![1, D, L]⟩ : Shape).size h).toLoadRect hl) k) Q) := by
  unfold Has
  iintro ⟨%f, %hf, H⟩ Hk
  subst hf
  iapply (loadR3 c m b ho (f := f)) $$ H
  iintro H
  iapply Hk
  iexists f
  isplitr
  rotate_left
  · iexact H
  · ipureintro; rfl

theorem hasR2 (c : Dev nD) {α : Type} {Q : α → sProp 𝕄} {L : ℕ} {e : EltTy} (m : Memref sig .tc .vmem ⟨2, ![64, L]⟩ e) (R : (⟨2, ![64, L]⟩ : Shape).Idx → Elt F e) (b : ℕ) {o : Fin 2 → ℕ} (ho : o = ![b, 0])
    {h : ∀ a, o a + (⟨2, ![1, L]⟩ : Shape).size a ≤ (⟨2, ![64, L]⟩ : Shape).size a} {hl}
    {k : Vec F ⟨2, ![1, L]⟩ e → Prog (TpuEff nD τ sig (Elt F) Λ₀ .tc) α} :
    Has c m R ⊢ iprop((Has c m R -∗ wp frame (wpE (defs₀ (F := F)) Variants.none (c : Thread nD τ) none) Set.univ (k (row2 R b)) Q)
        -∗ wp frame (wpE (defs₀ (F := F)) Variants.none (c : Thread nD τ) none) Set.univ (.op (.load m (Rect.unit (s := ⟨2, ![64, L]⟩) o (⟨2, ![1, L]⟩ : Shape).size h).toLoadRect hl) k) Q) := by
  unfold Has
  iintro ⟨%f, %hf, H⟩ Hk
  subst hf
  iapply (loadR2 c m b ho (f := f)) $$ H
  iintro H
  iapply Hk
  iexists f
  isplitr
  rotate_left
  · iexact H
  · ipureintro; rfl

/-- The slabs below `n`, landed, and the source windows below `n`. -/
def got (c : Dev nD) (src : ℕ → ℕ) (fk : HbBuf (F := F) c hk) (fv : HbBuf (F := F) c hv) (fs : HbBuf (F := F) c hs) (n : ℕ) : sProp 𝕄 :=
  iprop(onS c kb (slabLt n) (land (D := 64) src fk) ∗ onS c vb (slabLt n) (land (D := 64) src fv) ∗ onS c sb (slabLt n) (land (D := 1) src fs)
    ∗ onS c hk (winLt src n) fk ∗ onS c hv (winLt src n) fv ∗ onS c hs (winLt src n) fs)

theorem got_step (c : Dev nD) (src : ℕ → ℕ) (fk : HbBuf (F := F) c hk) (fv : HbBuf (F := F) c hv) (fs : HbBuf (F := F) c hs) (g i : ℕ) (hi : i < 8) :
    iprop(bigSep (Ring.rangeSet 24 (3 * i) 24) (deliv c src fk fv fs g) ∗ got c src fk fv fs (8 * g + i))
      ⊢ iprop(bigSep (Ring.rangeSet 24 (3 * i + 3) 24) (deliv c src fk fv fs g) ∗ got c src fk fv fs (8 * g + i + 1)) := by
  rw [Ring.bigSep_rangeSet_head (NB := 24) (lo := 3 * i) (hi := 24) (Φ := deliv c src fk fv fs g) (by omega) (by omega),
    Ring.bigSep_rangeSet_head (NB := 24) (lo := 3 * i + 1) (hi := 24) (Φ := deliv c src fk fv fs g) (by omega) (by omega),
    Ring.bigSep_rangeSet_head (NB := 24) (lo := 3 * i + 1 + 1) (hi := 24) (Φ := deliv c src fk fv fs g) (by omega) (by omega)]
  have d0 : deliv c src fk fv fs g ⟨3 * i, by omega⟩ = iprop(onS c kb (slab (8 * g + i)) (land (D := 64) src fk) ∗ onS c hk (win src (8 * g + i)) fk) := by
    unfold deliv
    rw [if_pos (show (3 * i) % 3 = 0 by omega), show (⟨3 * i, by omega⟩ : Fin 24).val / 3 = i from (by show 3 * i / 3 = i; omega)]
  have d1 : deliv c src fk fv fs g ⟨3 * i + 1, by omega⟩ = iprop(onS c vb (slab (8 * g + i)) (land (D := 64) src fv) ∗ onS c hv (win src (8 * g + i)) fv) := by
    unfold deliv
    rw [if_neg (show ¬ (3 * i + 1) % 3 = 0 by omega), if_pos (show (3 * i + 1) % 3 = 1 by omega), show (⟨3 * i + 1, by omega⟩ : Fin 24).val / 3 = i from (by show (3 * i + 1) / 3 = i; omega)]
  have d2 : deliv c src fk fv fs g ⟨3 * i + 1 + 1, by omega⟩ = iprop(onS c sb (slab (8 * g + i)) (land (D := 1) src fs) ∗ onS c hs (win src (8 * g + i)) fs) := by
    unfold deliv
    rw [if_neg (show ¬ (3 * i + 1 + 1) % 3 = 0 by omega), if_neg (show ¬ (3 * i + 1 + 1) % 3 = 1 by omega), show (⟨3 * i + 1 + 1, by omega⟩ : Fin 24).val / 3 = i from (by show (3 * i + 1 + 1) / 3 = i; omega)]
  rw [d0, d1, d2]
  unfold got
  iintro ⟨⟨⟨HK, Hk⟩, ⟨HV, Hv⟩, ⟨HS, Hs⟩, HD⟩, GK, GV, GS, Gk, Gv, Gs⟩
  isplitl [HD]; · iexact HD
  isplitl [HK GK]
  · iapply (put (slabLt_disjoint (8 * g + i)) (slabLt_succ (8 * g + i)))
    isplitl [GK]; · iexact GK
    iexact HK
  isplitl [HV GV]
  · iapply (put (slabLt_disjoint (8 * g + i)) (slabLt_succ (8 * g + i)))
    isplitl [GV]; · iexact GV
    iexact HV
  isplitl [HS GS]
  · iapply (put (slabLt_disjoint (8 * g + i)) (slabLt_succ (8 * g + i)))
    isplitl [GS]; · iexact GS
    iexact HS
  isplitl [Hk Gk]
  · iapply (put (winLt_disjoint src (8 * g + i)) (winLt_succ src (8 * g + i)))
    isplitl [Gk]; · iexact Gk
    iexact Hk
  isplitl [Hv Gv]
  · iapply (put (winLt_disjoint src (8 * g + i)) (winLt_succ src (8 * g + i)))
    isplitl [Gv]; · iexact Gv
    iexact Hv
  · iapply (put (winLt_disjoint src (8 * g + i)) (winLt_succ src (8 * g + i)))
    isplitl [Gs]; · iexact Gs
    iexact Hs

/-- All of a group's deliveries join what was there. -/
theorem got_group (c : Dev nD) (src : ℕ → ℕ) (fk : HbBuf (F := F) c hk) (fv : HbBuf (F := F) c hv) (fs : HbBuf (F := F) c hs) (g : ℕ) :
    iprop(bigSep Finset.univ (deliv c src fk fv fs g) ∗ got c src fk fv fs (8 * g)) ⊢ got c src fk fv fs (8 * g + 8) := by
  have key : ∀ i, i ≤ 8 → iprop(bigSep Finset.univ (deliv c src fk fv fs g) ∗ got c src fk fv fs (8 * g))
      ⊢ iprop(bigSep (Ring.rangeSet 24 (3 * i) 24) (deliv c src fk fv fs g) ∗ got c src fk fv fs (8 * g + i)) := by
    intro i
    induction i with
    | zero => intro _; rw [← Ring.rangeSet_univ]; exact .rfl
    | succ i ih => intro h; exact (ih (by omega)).trans (got_step c src fk fv fs g i (by omega))
  refine (key 8 le_rfl).trans ?_
  iintro ⟨-, H⟩
  iexact H

theorem gotK (c : Dev nD) {α : Type} {Q : α → sProp 𝕄} {src : ℕ → ℕ} {fk : HbBuf (F := F) c hk} {fv : HbBuf (F := F) c hv} {fs : HbBuf (F := F) c hs} (n b p : ℕ) (hb : b < n) {o : Fin 3 → ℕ} (ho : o = ![b, 0, p])
    {h : ∀ a, o a + S1x64x128.size a ≤ S64x64x1152.size a} {hl}
    {k : Vec F S1x64x128 .i8 → Prog (TpuEff nD τ sig (Elt F) Λ₀ .tc) α} :
    got c src fk fv fs n ⊢ iprop((got c src fk fv fs n -∗ wp frame (wpE (defs₀ (F := F)) Variants.none (c : Thread nD τ) none) Set.univ (k (tile (D := 64) (land (D := 64) src fk) b p)) Q)
        -∗ wp frame (wpE (defs₀ (F := F)) Variants.none (c : Thread nD τ) none) Set.univ (.op (.load kb (Rect.unit (s := S64x64x1152) o S1x64x128.size h).toLoadRect hl) k) Q) := by
  unfold got
  iintro ⟨GK, GV, GS, Gk, Gv, Gs⟩ Hk
  iapply (loadK c n b p hb ho (f := land (D := 64) src fk)) $$ GK
  iintro GK
  iapply Hk
  isplitl [GK]; · iexact GK
  isplitl [GV]; · iexact GV
  isplitl [GS]; · iexact GS
  isplitl [Gk]; · iexact Gk
  isplitl [Gv]; · iexact Gv
  iexact Gs

theorem gotV (c : Dev nD) {α : Type} {Q : α → sProp 𝕄} {src : ℕ → ℕ} {fk : HbBuf (F := F) c hk} {fv : HbBuf (F := F) c hv} {fs : HbBuf (F := F) c hs} (n b p : ℕ) (hb : b < n) {o : Fin 3 → ℕ} (ho : o = ![b, 0, p])
    {h : ∀ a, o a + S1x64x128.size a ≤ S64x64x1152.size a} {hl}
    {k : Vec F S1x64x128 .i8 → Prog (TpuEff nD τ sig (Elt F) Λ₀ .tc) α} :
    got c src fk fv fs n ⊢ iprop((got c src fk fv fs n -∗ wp frame (wpE (defs₀ (F := F)) Variants.none (c : Thread nD τ) none) Set.univ (k (tile (D := 64) (land (D := 64) src fv) b p)) Q)
        -∗ wp frame (wpE (defs₀ (F := F)) Variants.none (c : Thread nD τ) none) Set.univ (.op (.load vb (Rect.unit (s := S64x64x1152) o S1x64x128.size h).toLoadRect hl) k) Q) := by
  unfold got
  iintro ⟨GK, GV, GS, Gk, Gv, Gs⟩ Hk
  iapply (loadV c n b p hb ho (f := land (D := 64) src fv)) $$ GV
  iintro GV
  iapply Hk
  isplitl [GK]; · iexact GK
  isplitl [GV]; · iexact GV
  isplitl [GS]; · iexact GS
  isplitl [Gk]; · iexact Gk
  isplitl [Gv]; · iexact Gv
  iexact Gs

theorem gotS (c : Dev nD) {α : Type} {Q : α → sProp 𝕄} {src : ℕ → ℕ} {fk : HbBuf (F := F) c hk} {fv : HbBuf (F := F) c hv} {fs : HbBuf (F := F) c hs} (n b p : ℕ) (hb : b < n) {o : Fin 3 → ℕ} (ho : o = ![b, 0, p])
    {h : ∀ a, o a + S1x1x128.size a ≤ S64x1x1152.size a} {hl}
    {k : Vec F S1x1x128 .f32 → Prog (TpuEff nD τ sig (Elt F) Λ₀ .tc) α} :
    got c src fk fv fs n ⊢ iprop((got c src fk fv fs n -∗ wp frame (wpE (defs₀ (F := F)) Variants.none (c : Thread nD τ) none) Set.univ (k (tile (D := 1) (land (D := 1) src fs) b p)) Q)
        -∗ wp frame (wpE (defs₀ (F := F)) Variants.none (c : Thread nD τ) none) Set.univ (.op (.load sb (Rect.unit (s := S64x1x1152) o S1x1x128.size h).toLoadRect hl) k) Q) := by
  unfold got
  iintro ⟨GK, GV, GS, Gk, Gv, Gs⟩ Hk
  iapply (loadS c n b p hb ho (f := land (D := 1) src fs)) $$ GS
  iintro GS
  iapply Hk
  isplitl [GK]; · iexact GK
  isplitl [GV]; · iexact GV
  isplitl [GS]; · iexact GS
  isplitl [Gk]; · iexact Gk
  isplitl [Gv]; · iexact Gv
  iexact Gs

/-- One batch of attention: the kernel's chain of values, from the batch's length, its
    nine tiles of K codes, V codes and scales, and its rows of x, q, and the new key and value. -/
def rowF (w : BitVec 32) (Ks : Vec F S1x64x128 .i8) (K : ℕ → Vec F S1x64x128 .i8) (Vs : Vec F S1x64x128 .i8) (V : ℕ → Vec F S1x64x128 .i8)
    (Ss : Vec F S1x1x128 .f32) (S : ℕ → Vec F S1x1x128 .f32) (x : Vec F S1x64x128 .bf16) (q : Vec F S1x16x64 .bf16) (kn vn : Vec F S1x64 .f32) : FVec F S1x16x64 .bf16 :=
  have io : IVec S1x128 32 := iota .tc S1x128 32 [1] iota_S1x128_d1_w32
  have r : BitVec 32 := Scalar.andi w 127#32
  k0_pay35 io r (k0_pay14 io (k0_pay11 Vs) (k0_pay12 (V 0)) (k0_pay13 r)) (k0_pay15 (V 128)) (k0_pay16 (V 256)) (k0_pay17 (V 384)) (k0_pay18 (V 512)) (k0_pay19 (V 640)) (k0_pay20 (V 768)) (k0_pay21 (V 896))
    (k0_pay22 io r Ss (S 0)) (k0_pay23 (S 128)) (k0_pay24 (S 256)) (k0_pay25 (S 384)) (k0_pay26 (S 512)) (k0_pay27 (S 640)) (k0_pay28 (S 768)) (k0_pay29 (S 896))
    (k0_pay31 (k0_pay3 io w Ks (K 0)) (k0_pay4 (K 128)) (k0_pay5 (K 256)) (k0_pay6 (K 384)) (k0_pay7 (K 512)) (k0_pay8 (K 640)) (k0_pay9 (K 768)) (k0_pay10 (K 896)) x q)
    (k0_pay32 q kn) (k0_pay33 io r)
    (k0_pay34 (k0_pay3 io w Ks (K 0)) (k0_pay4 (K 128)) (k0_pay5 (K 256)) (k0_pay6 (K 384)) (k0_pay7 (K 512)) (k0_pay8 (K 640)) (k0_pay9 (K 768)) (k0_pay10 (K 896)) x q) vn

/-- `rowF` at batch `b` of whole arrays. -/
def rowB (wd : ℕ → BitVec 32) (K V : (Sh 64 1152).Idx → Elt F .i8) (S : (Sh 1 1152).Idx → Elt F .f32) (X : S64x64x128.Idx → Elt F .bf16) (q : S64x16x64.Idx → Elt F .bf16)
    (kn vn : S64x64.Idx → Elt F .f32) (b : ℕ) : FVec F S1x16x64 .bf16 :=
  rowF (wd b) (tile (D := 64) K b 1024) (fun p => tile (D := 64) K b (offN (wd b).toNat + p)) (tile (D := 64) V b 1024) (fun p => tile (D := 64) V b (offN (wd b).toNat + p))
    (tile (D := 1) S b 1024) (fun p => tile (D := 1) S b (offN (wd b).toNat + p)) (row3 X b) (row3 q b) (row2 kn b) (row2 vn b)

/-- The result's array: row `b` is `rowB` at `b`. -/
def outR (wd : ℕ → BitVec 32) (K V : (Sh 64 1152).Idx → Elt F .i8) (S : (Sh 1 1152).Idx → Elt F .f32) (X : S64x64x128.Idx → Elt F .bf16) (q : S64x16x64.Idx → Elt F .bf16)
    (kn vn : S64x64.Idx → Elt F .f32) (i : S64x16x64.Idx) : Elt F .bf16 :=
  rowB wd K V S X q kn vn (i 0).val (ix3 (0 : Fin 1) (i 1) (i 2))

theorem row3_outR (wd : ℕ → BitVec 32) (K V : (Sh 64 1152).Idx → Elt F .i8) (S : (Sh 1 1152).Idx → Elt F .f32) (X : S64x64x128.Idx → Elt F .bf16) (q : S64x16x64.Idx → Elt F .bf16)
    (kn vn : S64x64.Idx → Elt F .f32) (b : ℕ) (hb : b < 64) : rowB wd K V S X q kn vn b = row3 (outR wd K V S X q kn vn) b := by
  funext x
  have h0 : (x 0).val < 1 := (x 0).isLt
  show _ = rowB wd K V S X q kn vn (b % 64) _
  rw [Nat.mod_eq_of_lt hb]
  congr 1
  funext a
  match a with
  | 0 => apply Fin.ext; show (x 0).val = 0; omega
  | 1 => rfl
  | 2 => rfl

end Cert.KernelIdeal.Hand
-- ==== Proof.KIPays.lean ====
/-
The other seven batches of a trip: the kernel prints their chains of values cut into other
pieces; each is the first batch's chain.
-/
module
public import proofs.«01_k».proof.Proof.KIRow
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (w : BitVec 32) (Ks : Vec F S1x64x128 .i8) (K : ℕ → Vec F S1x64x128 .i8) (Vs : Vec F S1x64x128 .i8) (V : ℕ → Vec F S1x64x128 .i8)
    (Ss : Vec F S1x1x128 .f32) (S : ℕ → Vec F S1x1x128 .f32) (x : Vec F S1x64x128 .bf16) (q : Vec F S1x16x64 .bf16) (kn vn : Vec F S1x64 .f32)

set_option maxHeartbeats 4000000 in
theorem row_0 : k0_pay35 (F := F) (iota .tc S1x128 32 [1] iota_S1x128_d1_w32) (Scalar.andi w 127#32) (k0_pay14 (iota .tc S1x128 32 [1] iota_S1x128_d1_w32) (k0_pay11 (F := F) Vs) (k0_pay12 (F := F) (V 0)) (k0_pay13 (Scalar.andi w 127#32))) (k0_pay15 (F := F) (V 128)) (k0_pay16 (F := F) (V 256)) (k0_pay17 (F := F) (V 384)) (k0_pay18 (F := F) (V 512)) (k0_pay19 (F := F) (V 640)) (k0_pay20 (F := F) (V 768)) (k0_pay21 (F := F) (V 896)) (k0_pay22 (F := F) (iota .tc S1x128 32 [1] iota_S1x128_d1_w32) (Scalar.andi w 127#32) Ss (S 0)) (k0_pay23 (F := F) (S 128)) (k0_pay24 (F := F) (S 256)) (k0_pay25 (F := F) (S 384)) (k0_pay26 (F := F) (S 512)) (k0_pay27 (F := F) (S 640)) (k0_pay28 (F := F) (S 768)) (k0_pay29 (F := F) (S 896)) (k0_pay31 (F := F) (k0_pay3 (F := F) (iota .tc S1x128 32 [1] iota_S1x128_d1_w32) w Ks (K 0)) (k0_pay4 (F := F) (K 128)) (k0_pay5 (F := F) (K 256)) (k0_pay6 (F := F) (K 384)) (k0_pay7 (F := F) (K 512)) (k0_pay8 (F := F) (K 640)) (k0_pay9 (F := F) (K 768)) (k0_pay10 (F := F) (K 896)) x q) (k0_pay32 (F := F) q kn) (k0_pay33 (iota .tc S1x128 32 [1] iota_S1x128_d1_w32) (Scalar.andi w 127#32)) (k0_pay34 (F := F) (k0_pay3 (F := F) (iota .tc S1x128 32 [1] iota_S1x128_d1_w32) w Ks (K 0)) (k0_pay4 (F := F) (K 128)) (k0_pay5 (F := F) (K 256)) (k0_pay6 (F := F) (K 384)) (k0_pay7 (F := F) (K 512)) (k0_pay8 (F := F) (K 640)) (k0_pay9 (F := F) (K 768)) (k0_pay10 (F := F) (K 896)) x q) vn = rowF w Ks K Vs V Ss S x q kn vn := by
  rfl

set_option maxHeartbeats 4000000 in
theorem row_1 : k0_pay66 (F := F) (iota .tc S1x128 32 [1] iota_S1x128_d1_w32) (Scalar.andi w 127#32) (k0_pay44 (F := F) (iota .tc S1x128 32 [1] iota_S1x128_d1_w32) (Scalar.andi w 127#32) Vs (V 0)) (k0_pay45 (F := F) (V 128)) (k0_pay46 (F := F) (V 256)) (k0_pay47 (F := F) (V 384)) (k0_pay48 (F := F) (V 512)) (k0_pay49 (F := F) (V 640)) (k0_pay50 (F := F) (V 768)) (k0_pay51 (F := F) (V 896)) (k0_pay53 (F := F) (iota .tc S1x128 32 [1] iota_S1x128_d1_w32) (Scalar.andi w 127#32) (k0_pay52 (F := F) Ss) (S 0)) (k0_pay54 (F := F) (S 128)) (k0_pay55 (F := F) (S 256)) (k0_pay56 (F := F) (S 384)) (k0_pay57 (F := F) (S 512)) (k0_pay58 (F := F) (S 640)) (k0_pay59 (F := F) (S 768)) (k0_pay60 (F := F) (S 896)) (k0_pay62 (F := F) q kn) (k0_pay63 (F := F) (iota .tc S1x128 32 [1] iota_S1x128_d1_w32) (Scalar.andi w 127#32) (k0_pay36 (F := F) (iota .tc S1x128 32 [1] iota_S1x128_d1_w32) w Ks (K 0)) (k0_pay37 (F := F) (K 128)) (k0_pay38 (F := F) (K 256)) (k0_pay39 (F := F) (K 384)) (k0_pay40 (F := F) (K 512)) (k0_pay41 (F := F) (K 640)) (k0_pay42 (F := F) (K 768)) (k0_pay43 (F := F) (K 896)) x q kn) (k0_pay64 (F := F) (iota .tc S1x128 32 [1] iota_S1x128_d1_w32) (Scalar.andi w 127#32) (k0_pay36 (F := F) (iota .tc S1x128 32 [1] iota_S1x128_d1_w32) w Ks (K 0)) (k0_pay37 (F := F) (K 128)) (k0_pay38 (F := F) (K 256)) (k0_pay39 (F := F) (K 384)) (k0_pay40 (F := F) (K 512)) (k0_pay41 (F := F) (K 640)) (k0_pay42 (F := F) (K 768)) (k0_pay43 (F := F) (K 896)) x q kn) (k0_pay65 (F := F) (iota .tc S1x128 32 [1] iota_S1x128_d1_w32) (Scalar.andi w 127#32) (k0_pay36 (F := F) (iota .tc S1x128 32 [1] iota_S1x128_d1_w32) w Ks (K 0)) (k0_pay37 (F := F) (K 128)) (k0_pay38 (F := F) (K 256)) (k0_pay39 (F := F) (K 384)) (k0_pay40 (F := F) (K 512)) (k0_pay41 (F := F) (K 640)) (k0_pay42 (F := F) (K 768)) (k0_pay43 (F := F) (K 896)) x q kn) vn = rowF w Ks K Vs V Ss S x q kn vn := by
  rfl

set_option maxHeartbeats 4000000 in
theorem row_2 : k0_pay102 (F := F) (k0_pay75 (F := F) (iota .tc S1x128 32 [1] iota_S1x128_d1_w32) (Scalar.andi w 127#32) Vs (V 0)) (k0_pay76 (F := F) (V 128)) (k0_pay77 (F := F) (V 256)) (k0_pay78 (F := F) (V 384)) (k0_pay79 (F := F) (V 512)) (k0_pay80 (F := F) (V 640)) (k0_pay81 (F := F) (V 768)) (k0_pay82 (F := F) (V 896)) (k0_pay84 (F := F) (S 128)) (k0_pay85 (F := F) (S 256)) (k0_pay86 (F := F) (S 384)) (k0_pay87 (F := F) (S 512)) (k0_pay88 (F := F) (S 640)) (k0_pay89 (F := F) (S 768)) (k0_pay90 (F := F) (S 896)) (k0_pay95 (F := F) q kn) (k0_pay97 (F := F) (iota .tc S1x128 32 [1] iota_S1x128_d1_w32) (Scalar.andi w 127#32) (k0_pay69 (F := F) (K 256)) (k0_pay70 (F := F) (K 384)) (k0_pay71 (F := F) (K 512)) (k0_pay72 (F := F) (K 640)) (k0_pay73 (F := F) (K 768)) (k0_pay74 (F := F) (K 896)) (k0_pay91 (F := F) x) (k0_pay92 (F := F) (k0_pay67 (F := F) (iota .tc S1x128 32 [1] iota_S1x128_d1_w32) w Ks (K 0)) x) (k0_pay93 (F := F) (k0_pay68 (F := F) (K 128)) x) q kn) (k0_pay98 (F := F) (iota .tc S1x128 32 [1] iota_S1x128_d1_w32) (Scalar.andi w 127#32) (k0_pay69 (F := F) (K 256)) (k0_pay70 (F := F) (K 384)) (k0_pay71 (F := F) (K 512)) (k0_pay72 (F := F) (K 640)) (k0_pay73 (F := F) (K 768)) (k0_pay74 (F := F) (K 896)) (k0_pay91 (F := F) x) (k0_pay92 (F := F) (k0_pay67 (F := F) (iota .tc S1x128 32 [1] iota_S1x128_d1_w32) w Ks (K 0)) x) (k0_pay93 (F := F) (k0_pay68 (F := F) (K 128)) x) q kn) (k0_pay99 (F := F) (iota .tc S1x128 32 [1] iota_S1x128_d1_w32) (Scalar.andi w 127#32) (k0_pay69 (F := F) (K 256)) (k0_pay70 (F := F) (K 384)) (k0_pay71 (F := F) (K 512)) (k0_pay72 (F := F) (K 640)) (k0_pay73 (F := F) (K 768)) (k0_pay74 (F := F) (K 896)) (k0_pay91 (F := F) x) (k0_pay92 (F := F) (k0_pay67 (F := F) (iota .tc S1x128 32 [1] iota_S1x128_d1_w32) w Ks (K 0)) x) (k0_pay93 (F := F) (k0_pay68 (F := F) (K 128)) x) q kn) (k0_pay100 (F := F) (iota .tc S1x128 32 [1] iota_S1x128_d1_w32) (Scalar.andi w 127#32) (k0_pay83 (F := F) (iota .tc S1x128 32 [1] iota_S1x128_d1_w32) (Scalar.andi w 127#32) Ss (S 0))) (k0_pay101 (F := F) (iota .tc S1x128 32 [1] iota_S1x128_d1_w32) (Scalar.andi w 127#32) (k0_pay69 (F := F) (K 256)) (k0_pay70 (F := F) (K 384)) (k0_pay71 (F := F) (K 512)) (k0_pay72 (F := F) (K 640)) (k0_pay73 (F := F) (K 768)) (k0_pay74 (F := F) (K 896)) (k0_pay91 (F := F) x) (k0_pay92 (F := F) (k0_pay67 (F := F) (iota .tc S1x128 32 [1] iota_S1x128_d1_w32) w Ks (K 0)) x) (k0_pay93 (F := F) (k0_pay68 (F := F) (K 128)) x) q kn) vn = rowF w Ks K Vs V Ss S x q kn vn := by
  rfl

set_option maxHeartbeats 4000000 in
theorem row_3 : k0_pay151 (F := F) (k0_pay119 (F := F) (V 896)) (k0_pay138 (F := F) q kn) (k0_pay140 (F := F) (iota .tc S1x128 32 [1] iota_S1x128_d1_w32) (Scalar.andi w 127#32) (k0_pay128 (F := F) x) (k0_pay129 (F := F) (k0_pay104 (F := F) (iota .tc S1x128 32 [1] iota_S1x128_d1_w32) (Scalar.andi w 127#32) (k0_pay103 (F := F) Ks) (K 0)) x) (k0_pay130 (F := F) (k0_pay105 (F := F) (K 128)) x) (k0_pay131 (F := F) (k0_pay106 (F := F) (K 256)) x) (k0_pay132 (F := F) (k0_pay107 (F := F) (K 384)) x) (k0_pay133 (F := F) (k0_pay108 (F := F) (K 512)) x) (k0_pay134 (F := F) (k0_pay109 (F := F) (K 640)) x) (k0_pay135 (F := F) (k0_pay110 (F := F) (K 768)) x) (k0_pay136 (F := F) (k0_pay111 (F := F) (K 896))) q kn) (k0_pay142 (F := F) (iota .tc S1x128 32 [1] iota_S1x128_d1_w32) (Scalar.andi w 127#32) (k0_pay128 (F := F) x) (k0_pay129 (F := F) (k0_pay104 (F := F) (iota .tc S1x128 32 [1] iota_S1x128_d1_w32) (Scalar.andi w 127#32) (k0_pay103 (F := F) Ks) (K 0)) x) (k0_pay130 (F := F) (k0_pay105 (F := F) (K 128)) x) (k0_pay131 (F := F) (k0_pay106 (F := F) (K 256)) x) (k0_pay132 (F := F) (k0_pay107 (F := F) (K 384)) x) (k0_pay133 (F := F) (k0_pay108 (F := F) (K 512)) x) (k0_pay134 (F := F) (k0_pay109 (F := F) (K 640)) x) (k0_pay135 (F := F) (k0_pay110 (F := F) (K 768)) x) (k0_pay136 (F := F) (k0_pay111 (F := F) (K 896))) q kn) (k0_pay143 (F := F) (iota .tc S1x128 32 [1] iota_S1x128_d1_w32) (Scalar.andi w 127#32) (k0_pay120 (F := F) (iota .tc S1x128 32 [1] iota_S1x128_d1_w32) (Scalar.andi w 127#32) Ss (S 0)) (k0_pay121 (F := F) (S 128)) (k0_pay122 (F := F) (S 256)) (k0_pay123 (F := F) (S 384)) (k0_pay124 (F := F) (S 512)) (k0_pay125 (F := F) (S 640)) (k0_pay126 (F := F) (S 768)) (k0_pay127 (F := F) (S 896)) (k0_pay128 (F := F) x) (k0_pay129 (F := F) (k0_pay104 (F := F) (iota .tc S1x128 32 [1] iota_S1x128_d1_w32) (Scalar.andi w 127#32) (k0_pay103 (F := F) Ks) (K 0)) x) (k0_pay130 (F := F) (k0_pay105 (F := F) (K 128)) x) (k0_pay131 (F := F) (k0_pay106 (F := F) (K 256)) x) (k0_pay132 (F := F) (k0_pay107 (F := F) (K 384)) x) (k0_pay133 (F := F) (k0_pay108 (F := F) (K 512)) x) (k0_pay134 (F := F) (k0_pay109 (F := F) (K 640)) x) (k0_pay135 (F := F) (k0_pay110 (F := F) (K 768)) x) (k0_pay136 (F := F) (k0_pay111 (F := F) (K 896))) q kn) (k0_pay144 (F := F) (k0_pay112 (F := F) (iota .tc S1x128 32 [1] iota_S1x128_d1_w32) (Scalar.andi w 127#32) Vs (V 0))) (k0_pay145 (F := F) (k0_pay113 (F := F) (V 128))) (k0_pay146 (F := F) (k0_pay114 (F := F) (V 256))) (k0_pay147 (F := F) (k0_pay115 (F := F) (V 384))) (k0_pay148 (F := F) (k0_pay116 (F := F) (V 512))) (k0_pay149 (F := F) (k0_pay117 (F := F) (V 640))) (k0_pay150 (F := F) (k0_pay118 (F := F) (V 768))) vn = rowF w Ks K Vs V Ss S x q kn vn := by
  rfl

set_option maxHeartbeats 4000000 in
theorem row_4 : k0_pay189 (F := F) (k0_pay187 (F := F) (iota .tc S1x128 32 [1] iota_S1x128_d1_w32) (Scalar.andi w 127#32) (k0_pay163 (F := F) (iota .tc S1x128 32 [1] iota_S1x128_d1_w32) (Scalar.andi w 127#32) Vs (V 0)) (k0_pay164 (F := F) (V 128)) (k0_pay165 (F := F) (V 256)) (k0_pay166 (F := F) (V 384)) (k0_pay167 (F := F) (V 512)) (k0_pay168 (F := F) (V 640)) (k0_pay169 (F := F) (V 768)) (k0_pay170 (F := F) (V 896)) (k0_pay171 (F := F) (iota .tc S1x128 32 [1] iota_S1x128_d1_w32) (Scalar.andi w 127#32) Ss (S 0)) (k0_pay172 (F := F) (S 128)) (k0_pay173 (F := F) (S 256)) (k0_pay174 (F := F) (S 384)) (k0_pay175 (F := F) (S 512)) (k0_pay176 (F := F) (S 640)) (k0_pay177 (F := F) (S 768)) (k0_pay178 (F := F) (S 896)) (k0_pay179 (F := F) q) (k0_pay180 (F := F) (k0_pay155 (k0_pay152 (F := F) Ks) (k0_pay153 (F := F) (K 0)) (k0_pay154 (F := F) (iota .tc S1x128 32 [1] iota_S1x128_d1_w32) w)) (k0_pay156 (F := F) (K 128)) (k0_pay157 (F := F) (K 256)) (k0_pay158 (F := F) (K 384)) (k0_pay159 (F := F) (K 512)) (k0_pay160 (F := F) (K 640)) (k0_pay161 (F := F) (K 768)) (k0_pay162 (F := F) (K 896)) x q) (k0_pay181 (F := F)) kn) (k0_pay188 (F := F) (iota .tc S1x128 32 [1] iota_S1x128_d1_w32) (Scalar.andi w 127#32) (k0_pay179 (F := F) q) (k0_pay180 (F := F) (k0_pay155 (k0_pay152 (F := F) Ks) (k0_pay153 (F := F) (K 0)) (k0_pay154 (F := F) (iota .tc S1x128 32 [1] iota_S1x128_d1_w32) w)) (k0_pay156 (F := F) (K 128)) (k0_pay157 (F := F) (K 256)) (k0_pay158 (F := F) (K 384)) (k0_pay159 (F := F) (K 512)) (k0_pay160 (F := F) (K 640)) (k0_pay161 (F := F) (K 768)) (k0_pay162 (F := F) (K 896)) x q) (k0_pay181 (F := F)) kn) vn = rowF w Ks K Vs V Ss S x q kn vn := by
  rfl

set_option maxHeartbeats 4000000 in
theorem row_5 : k0_pay219 (F := F) (k0_pay218 (F := F) (iota .tc S1x128 32 [1] iota_S1x128_d1_w32) (Scalar.andi w 127#32) (k0_pay199 (F := F) (iota .tc S1x128 32 [1] iota_S1x128_d1_w32) (Scalar.andi w 127#32) (k0_pay198 (F := F) Vs) (V 0)) (k0_pay200 (F := F) (V 128)) (k0_pay201 (F := F) (V 256)) (k0_pay202 (F := F) (V 384)) (k0_pay203 (F := F) (V 512)) (k0_pay204 (F := F) (V 640)) (k0_pay205 (F := F) (V 768)) (k0_pay206 (F := F) (V 896)) (k0_pay207 (F := F) (iota .tc S1x128 32 [1] iota_S1x128_d1_w32) (Scalar.andi w 127#32) Ss (S 0)) (k0_pay208 (F := F) (S 128)) (k0_pay209 (F := F) (S 256)) (k0_pay210 (F := F) (S 384)) (k0_pay211 (F := F) (S 512)) (k0_pay212 (F := F) (S 640)) (k0_pay213 (F := F) (S 768)) (k0_pay214 (F := F) (S 896)) (k0_pay216 (F := F) (k0_pay190 (F := F) (iota .tc S1x128 32 [1] iota_S1x128_d1_w32) w Ks (K 0)) (k0_pay191 (F := F) (K 128)) (k0_pay192 (F := F) (K 256)) (k0_pay193 (F := F) (K 384)) (k0_pay194 (F := F) (K 512)) (k0_pay195 (F := F) (K 640)) (k0_pay196 (F := F) (K 768)) (k0_pay197 (F := F) (K 896)) x q) (k0_pay217 (F := F) q kn) (Scalar.ofBits .f32 0x3E000000#32) vn) = rowF w Ks K Vs V Ss S x q kn vn := by
  rfl

set_option maxHeartbeats 4000000 in
theorem row_6 : k0_pay250 (F := F) (iota .tc S1x128 32 [1] iota_S1x128_d1_w32) (Scalar.andi w 127#32) (k0_pay228 (F := F) (iota .tc S1x128 32 [1] iota_S1x128_d1_w32) (Scalar.andi w 127#32) Vs (V 0)) (k0_pay229 (F := F) (V 128)) (k0_pay230 (F := F) (V 256)) (k0_pay231 (F := F) (V 384)) (k0_pay232 (F := F) (V 512)) (k0_pay233 (F := F) (V 640)) (k0_pay234 (F := F) (V 768)) (k0_pay235 (F := F) (V 896)) (k0_pay237 (F := F) (iota .tc S1x128 32 [1] iota_S1x128_d1_w32) (Scalar.andi w 127#32) (k0_pay236 (F := F) Ss) (S 0)) (k0_pay238 (F := F) (S 128)) (k0_pay239 (F := F) (S 256)) (k0_pay240 (F := F) (S 384)) (k0_pay241 (F := F) (S 512)) (k0_pay242 (F := F) (S 640)) (k0_pay243 (F := F) (S 768)) (k0_pay244 (F := F) (S 896)) (k0_pay247 (F := F) q kn) (k0_pay248 (F := F) (iota .tc S1x128 32 [1] iota_S1x128_d1_w32) (Scalar.andi w 127#32) (k0_pay220 (F := F) (iota .tc S1x128 32 [1] iota_S1x128_d1_w32) w Ks (K 0)) (k0_pay221 (F := F) (K 128)) (k0_pay222 (F := F) (K 256)) (k0_pay223 (F := F) (K 384)) (k0_pay224 (F := F) (K 512)) (k0_pay225 (F := F) (K 640)) (k0_pay226 (F := F) (K 768)) (k0_pay227 (F := F) (K 896)) x q kn) (k0_pay249 (F := F) (k0_pay220 (F := F) (iota .tc S1x128 32 [1] iota_S1x128_d1_w32) w Ks (K 0)) (k0_pay221 (F := F) (K 128)) (k0_pay222 (F := F) (K 256)) (k0_pay223 (F := F) (K 384)) (k0_pay224 (F := F) (K 512)) (k0_pay225 (F := F) (K 640)) (k0_pay226 (F := F) (K 768)) (k0_pay227 (F := F) (K 896)) x q) vn = rowF w Ks K Vs V Ss S x q kn vn := by
  rfl

set_option maxHeartbeats 4000000 in
theorem row_7 : k0_pay2 (F := F) (k0_pay259 (F := F) (iota .tc S1x128 32 [1] iota_S1x128_d1_w32) (Scalar.andi w 127#32) Vs (V 0)) (k0_pay260 (F := F) (V 128)) (k0_pay261 (F := F) (V 256)) (k0_pay262 (F := F) (V 384)) (k0_pay263 (F := F) (V 512)) (k0_pay264 (F := F) (V 640)) (k0_pay265 (F := F) (V 768)) (k0_pay266 (F := F) (V 896)) (k0_pay276 (F := F) q kn) (k0_pay278 (F := F) (iota .tc S1x128 32 [1] iota_S1x128_d1_w32) (Scalar.andi w 127#32) (k0_pay251 (F := F) (iota .tc S1x128 32 [1] iota_S1x128_d1_w32) w Ks (K 0)) (k0_pay252 (F := F) (K 128)) (k0_pay253 (F := F) (K 256)) (k0_pay254 (F := F) (K 384)) (k0_pay255 (F := F) (K 512)) (k0_pay256 (F := F) (K 640)) (k0_pay257 (F := F) (K 768)) (k0_pay258 (F := F) (K 896)) x q kn) (k0_pay280 (F := F) (iota .tc S1x128 32 [1] iota_S1x128_d1_w32) (Scalar.andi w 127#32) (k0_pay251 (F := F) (iota .tc S1x128 32 [1] iota_S1x128_d1_w32) w Ks (K 0)) (k0_pay252 (F := F) (K 128)) (k0_pay253 (F := F) (K 256)) (k0_pay254 (F := F) (K 384)) (k0_pay255 (F := F) (K 512)) (k0_pay256 (F := F) (K 640)) (k0_pay257 (F := F) (K 768)) (k0_pay258 (F := F) (K 896)) x q kn) (k0_pay282 (F := F) (k0_pay279 (F := F) (iota .tc S1x128 32 [1] iota_S1x128_d1_w32) (Scalar.andi w 127#32) (k0_pay251 (F := F) (iota .tc S1x128 32 [1] iota_S1x128_d1_w32) w Ks (K 0)) (k0_pay252 (F := F) (K 128)) (k0_pay253 (F := F) (K 256)) (k0_pay254 (F := F) (K 384)) (k0_pay255 (F := F) (K 512)) (k0_pay256 (F := F) (K 640)) (k0_pay257 (F := F) (K 768)) (k0_pay258 (F := F) (K 896)) x q kn) (k0_pay280 (F := F) (iota .tc S1x128 32 [1] iota_S1x128_d1_w32) (Scalar.andi w 127#32) (k0_pay251 (F := F) (iota .tc S1x128 32 [1] iota_S1x128_d1_w32) w Ks (K 0)) (k0_pay252 (F := F) (K 128)) (k0_pay253 (F := F) (K 256)) (k0_pay254 (F := F) (K 384)) (k0_pay255 (F := F) (K 512)) (k0_pay256 (F := F) (K 640)) (k0_pay257 (F := F) (K 768)) (k0_pay258 (F := F) (K 896)) x q kn)) (k0_pay283 (F := F) (iota .tc S1x128 32 [1] iota_S1x128_d1_w32) (k0_pay267 (F := F) (iota .tc S1x128 32 [1] iota_S1x128_d1_w32) (Scalar.andi w 127#32) Ss (S 0)) (k0_pay268 (F := F) (S 128)) (k0_pay269 (F := F) (S 256)) (k0_pay270 (F := F) (S 384)) (k0_pay271 (F := F) (S 512)) (k0_pay272 (F := F) (S 640)) (k0_pay273 (F := F) (S 768)) (k0_pay274 (F := F) (S 896)) (k0_pay281 (Scalar.andi w 127#32))) vn = rowF w Ks K Vs V Ss S x q kn vn := by
  rfl

end Cert.KernelIdeal.Hand
-- ==== Proof.KIT2.lean ====
/-
The second loop: trip `k` waits for the copies of group `k`, then computes its eight batches.
-/
module
public import proofs.«01_k».proof.Proof.KIPays
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (arg0 : Memref sig .tc .smem S64 .i32) (harg0 : arg0.IsWhole) (arg1 : Memref sig .tc .vmem S64x16x64 .bf16) (harg1 : arg1.IsWhole)
  (arg2 : Memref sig .tc .vmem S64x64 .bf16) (harg2 : arg2.IsWhole) (arg3 : Memref sig .tc .vmem S64x64 .bf16) (harg3 : arg3.IsWhole)
  (arg4 : Memref sig .tc .vmem S64x64 .f32) (harg4 : arg4.IsWhole) (arg8 : Memref sig .tc .vmem S64x16x64 .bf16) (harg8 : arg8.IsWhole)
  (arg9 : Memref sig .tc .vmem S64x64 .i8) (harg9 : arg9.IsWhole) (arg10 : Memref sig .tc .vmem S64x64 .i8) (harg10 : arg10.IsWhole)
  (arg11 : Memref sig .tc .vmem S1x64 .f32) (harg11 : arg11.IsWhole)

set_option pp.maxSteps 500 in
set_option maxHeartbeats 8000000 in
set_option maxRecDepth 8000 in
theorem trip2 (c : Dev nD) (k : Fin k0_t2_loop.trips) (f0 : HbBuf (F := F) c arg0) (src : ℕ → ℕ)
    (fk : HbBuf (F := F) c hk) (fv : HbBuf (F := F) c hv) (fs : HbBuf (F := F) c hs)
    (X : S64x64x128.Idx → Elt F .bf16) (q : S64x16x64.Idx → Elt F .bf16) (kn vn : S64x64.Idx → Elt F .f32) (Q : Unit → sProp 𝕄)
    (hW : Words c arg0 f0 src) :
    iprop(Lens c arg0 f0 ∗ batch c src fk fv fs k.val (Offs.lt2 k) 24 0 ∗ ow c ∗ got c src fk fv fs (8 * k.val)
        ∗ Has c arg1 q ∗ Has c xb X ∗ Has c nb kn ∗ Has c mb vn ∗ Rows c arg8 (outR (word c arg0 f0) (land (D := 64) src fk) (land (D := 64) src fv) (land (D := 1) src fs) X q kn vn) (8 * k.val)
        ∗ (iprop(Lens c arg0 f0 ∗ semVal ((c : Thread nD τ), SemLoc.dma (cell k.val (Offs.lt2 k))) 0 ∗ ow c ∗ got c src fk fv fs (8 * k.val + 8)
            ∗ Has c arg1 q ∗ Has c xb X ∗ Has c nb kn ∗ Has c mb vn ∗ Rows c arg8 (outR (word c arg0 f0) (land (D := 64) src fk) (land (D := 64) src fv) (land (D := 1) src fs) X q kn vn) (8 * k.val + 8)) -∗ Q ()))
      ⊢ wp frame (wpE (defs₀ (F := F)) Variants.none (c : Thread nD τ) none) Set.univ
        (k0_t2_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6 (iota .tc S1x128 32 [1] iota_S1x128_d1_w32) k ()) Q := by
  have hk8 := Offs.lt2 k
  iintro ⟨H0, HB, HO, HG, Hq, HX, Hkn, Hvn, HR, HQ⟩
  unfold k0_t2_body
  simp only [k0_part59_eq_skeleton]
  unfold k0_part59_skel
  simp only [bind_assoc, pure_bind, Prog.bind_lift, Prog.bind_op, Prog.bind_ret]
  simp only [k0_part7_eq_skeleton]
  unfold k0_part7_skel
  simp only [smem_bind, bind_assoc, pure_bind, Prog.bind_lift, Prog.bind_op, Prog.bind_ret]
  iapply (loadLen c arg0 f0 (8 * k.val + 0) (Offs.off49 k)) $$ H0
  iintro H0
  iapply (wp_assume Variants.none (c : Thread nD τ) none Set.univ (Offs.chk9 k _ (hW.lo (8 * k.val + 0) (by omega)) (hW.hi (8 * k.val + 0) (by omega))))
  iapply (waitT c src fk fv fs k.val (Offs.lt2 k) 0 2304 (by omega) (creditK _ _) (sem_at _ _ (Offs.lt2 k) (Offs.off50 k) _ _)) $$ [HB HO]
  · isplitl [HB]; · iexact HB
    iexact HO
  iintro ⟨HB, HO⟩
  iapply (waitT c src fk fv fs k.val (Offs.lt2 k) 2304 2304 (by omega) (creditV _ _) (sem_at _ _ (Offs.lt2 k) (Offs.off50 k) _ _)) $$ [HB HO]
  · isplitl [HB]; · iexact HB
    iexact HO
  iintro ⟨HB, HO⟩
  iapply (waitT c src fk fv fs k.val (Offs.lt2 k) 4608 144 (by omega) (creditS _ _) (sem_at _ _ (Offs.lt2 k) (Offs.off50 k) _ _)) $$ [HB HO]
  · isplitl [HB]; · iexact HB
    iexact HO
  iintro ⟨HB, HO⟩
  iapply (loadLen c arg0 f0 (8 * k.val + 1) (Offs.off55 k)) $$ H0
  iintro H0
  iapply (wp_assume Variants.none (c : Thread nD τ) none Set.univ (Offs.chk10 k _ (hW.lo (8 * k.val + 1) (by omega)) (hW.hi (8 * k.val + 1) (by omega))))
  simp only [k0_part8_eq_skeleton]
  unfold k0_part8_skel
  simp only [smem_bind, bind_assoc, pure_bind, Prog.bind_lift, Prog.bind_op, Prog.bind_ret]
  iapply (waitT c src fk fv fs k.val (Offs.lt2 k) 4752 2304 (by omega) (creditK _ _) (sem_at _ _ (Offs.lt2 k) (Offs.off56 k) _ _)) $$ [HB HO]
  · isplitl [HB]; · iexact HB
    iexact HO
  iintro ⟨HB, HO⟩
  iapply (waitT c src fk fv fs k.val (Offs.lt2 k) 7056 2304 (by omega) (creditV _ _) (sem_at _ _ (Offs.lt2 k) (Offs.off56 k) _ _)) $$ [HB HO]
  · isplitl [HB]; · iexact HB
    iexact HO
  iintro ⟨HB, HO⟩
  iapply (waitT c src fk fv fs k.val (Offs.lt2 k) 9360 144 (by omega) (creditS _ _) (sem_at _ _ (Offs.lt2 k) (Offs.off56 k) _ _)) $$ [HB HO]
  · isplitl [HB]; · iexact HB
    iexact HO
  iintro ⟨HB, HO⟩
  iapply (loadLen c arg0 f0 (8 * k.val + 2) (Offs.off61 k)) $$ H0
  iintro H0
  iapply (wp_assume Variants.none (c : Thread nD τ) none Set.univ (Offs.chk11 k _ (hW.lo (8 * k.val + 2) (by omega)) (hW.hi (8 * k.val + 2) (by omega))))
  iapply (waitT c src fk fv fs k.val (Offs.lt2 k) 9504 2304 (by omega) (creditK _ _) (sem_at _ _ (Offs.lt2 k) (Offs.off62 k) _ _)) $$ [HB HO]
  · isplitl [HB]; · iexact HB
    iexact HO
  iintro ⟨HB, HO⟩
  simp only [k0_part9_eq_skeleton]
  unfold k0_part9_skel
  simp only [smem_bind, bind_assoc, pure_bind, Prog.bind_lift, Prog.bind_op, Prog.bind_ret]
  iapply (waitT c src fk fv fs k.val (Offs.lt2 k) 11808 2304 (by omega) (creditV _ _) (sem_at _ _ (Offs.lt2 k) (Offs.off62 k) _ _)) $$ [HB HO]
  · isplitl [HB]; · iexact HB
    iexact HO
  iintro ⟨HB, HO⟩
  iapply (waitT c src fk fv fs k.val (Offs.lt2 k) 14112 144 (by omega) (creditS _ _) (sem_at _ _ (Offs.lt2 k) (Offs.off62 k) _ _)) $$ [HB HO]
  · isplitl [HB]; · iexact HB
    iexact HO
  iintro ⟨HB, HO⟩
  iapply (loadLen c arg0 f0 (8 * k.val + 3) (Offs.off67 k)) $$ H0
  iintro H0
  iapply (wp_assume Variants.none (c : Thread nD τ) none Set.univ (Offs.chk12 k _ (hW.lo (8 * k.val + 3) (by omega)) (hW.hi (8 * k.val + 3) (by omega))))
  iapply (waitT c src fk fv fs k.val (Offs.lt2 k) 14256 2304 (by omega) (creditK _ _) (sem_at _ _ (Offs.lt2 k) (Offs.off68 k) _ _)) $$ [HB HO]
  · isplitl [HB]; · iexact HB
    iexact HO
  iintro ⟨HB, HO⟩
  iapply (waitT c src fk fv fs k.val (Offs.lt2 k) 16560 2304 (by omega) (creditV _ _) (sem_at _ _ (Offs.lt2 k) (Offs.off68 k) _ _)) $$ [HB HO]
  · isplitl [HB]; · iexact HB
    iexact HO
  iintro ⟨HB, HO⟩
  simp only [k0_part10_eq_skeleton]
  unfold k0_part10_skel
  simp only [smem_bind, bind_assoc, pure_bind, Prog.bind_lift, Prog.bind_op, Prog.bind_ret]
  iapply (waitT c src fk fv fs k.val (Offs.lt2 k) 18864 144 (by omega) (creditS _ _) (sem_at _ _ (Offs.lt2 k) (Offs.off68 k) _ _)) $$ [HB HO]
  · isplitl [HB]; · iexact HB
    iexact HO
  iintro ⟨HB, HO⟩
  iapply (loadLen c arg0 f0 (8 * k.val + 4) (Offs.off73 k)) $$ H0
  iintro H0
  iapply (wp_assume Variants.none (c : Thread nD τ) none Set.univ (Offs.chk13 k _ (hW.lo (8 * k.val + 4) (by omega)) (hW.hi (8 * k.val + 4) (by omega))))
  iapply (waitT c src fk fv fs k.val (Offs.lt2 k) 19008 2304 (by omega) (creditK _ _) (sem_at _ _ (Offs.lt2 k) (Offs.off74 k) _ _)) $$ [HB HO]
  · isplitl [HB]; · iexact HB
    iexact HO
  iintro ⟨HB, HO⟩
  iapply (waitT c src fk fv fs k.val (Offs.lt2 k) 21312 2304 (by omega) (creditV _ _) (sem_at _ _ (Offs.lt2 k) (Offs.off74 k) _ _)) $$ [HB HO]
  · isplitl [HB]; · iexact HB
    iexact HO
  iintro ⟨HB, HO⟩
  iapply (waitT c src fk fv fs k.val (Offs.lt2 k) 23616 144 (by omega) (creditS _ _) (sem_at _ _ (Offs.lt2 k) (Offs.off74 k) _ _)) $$ [HB HO]
  · isplitl [HB]; · iexact HB
    iexact HO
  iintro ⟨HB, HO⟩
  iapply (loadLen c arg0 f0 (8 * k.val + 5) (Offs.off79 k)) $$ H0
  iintro H0
  iapply (wp_assume Variants.none (c : Thread nD τ) none Set.univ (Offs.chk14 k _ (hW.lo (8 * k.val + 5) (by omega)) (hW.hi (8 * k.val + 5) (by omega))))
  simp only [k0_part11_eq_skeleton]
  unfold k0_part11_skel
  simp only [smem_bind, bind_assoc, pure_bind, Prog.bind_lift, Prog.bind_op, Prog.bind_ret]
  iapply (waitT c src fk fv fs k.val (Offs.lt2 k) 23760 2304 (by omega) (creditK _ _) (sem_at _ _ (Offs.lt2 k) (Offs.off80 k) _ _)) $$ [HB HO]
  · isplitl [HB]; · iexact HB
    iexact HO
  iintro ⟨HB, HO⟩
  iapply (waitT c src fk fv fs k.val (Offs.lt2 k) 26064 2304 (by omega) (creditV _ _) (sem_at _ _ (Offs.lt2 k) (Offs.off80 k) _ _)) $$ [HB HO]
  · isplitl [HB]; · iexact HB
    iexact HO
  iintro ⟨HB, HO⟩
  iapply (waitT c src fk fv fs k.val (Offs.lt2 k) 28368 144 (by omega) (creditS _ _) (sem_at _ _ (Offs.lt2 k) (Offs.off80 k) _ _)) $$ [HB HO]
  · isplitl [HB]; · iexact HB
    iexact HO
  iintro ⟨HB, HO⟩
  iapply (loadLen c arg0 f0 (8 * k.val + 6) (Offs.off85 k)) $$ H0
  iintro H0
  iapply (wp_assume Variants.none (c : Thread nD τ) none Set.univ (Offs.chk15 k _ (hW.lo (8 * k.val + 6) (by omega)) (hW.hi (8 * k.val + 6) (by omega))))
  simp only [k0_part12_eq_skeleton]
  unfold k0_part12_skel
  simp only [smem_bind, bind_assoc, pure_bind, Prog.bind_lift, Prog.bind_op, Prog.bind_ret]
  iapply (waitT c src fk fv fs k.val (Offs.lt2 k) 28512 2304 (by omega) (creditK _ _) (sem_at _ _ (Offs.lt2 k) (Offs.off86 k) _ _)) $$ [HB HO]
  · isplitl [HB]; · iexact HB
    iexact HO
  iintro ⟨HB, HO⟩
  iapply (waitT c src fk fv fs k.val (Offs.lt2 k) 30816 2304 (by omega) (creditV _ _) (sem_at _ _ (Offs.lt2 k) (Offs.off86 k) _ _)) $$ [HB HO]
  · isplitl [HB]; · iexact HB
    iexact HO
  iintro ⟨HB, HO⟩
  iapply (waitT c src fk fv fs k.val (Offs.lt2 k) 33120 144 (by omega) (creditS _ _) (sem_at _ _ (Offs.lt2 k) (Offs.off86 k) _ _)) $$ [HB HO]
  · isplitl [HB]; · iexact HB
    iexact HO
  iintro ⟨HB, HO⟩
  iapply (loadLen c arg0 f0 (8 * k.val + 7) (Offs.off91 k)) $$ H0
  iintro H0
  iapply (wp_assume Variants.none (c : Thread nD τ) none Set.univ (Offs.chk16 k _ (hW.lo (8 * k.val + 7) (by omega)) (hW.hi (8 * k.val + 7) (by omega))))
  iapply (waitT c src fk fv fs k.val (Offs.lt2 k) 33264 2304 (by omega) (creditK _ _) (sem_at _ _ (Offs.lt2 k) (Offs.off92 k) _ _)) $$ [HB HO]
  · isplitl [HB]; · iexact HB
    iexact HO
  iintro ⟨HB, HO⟩
  iapply (waitT c src fk fv fs k.val (Offs.lt2 k) 35568 2304 (by omega) (creditV _ _) (sem_at _ _ (Offs.lt2 k) (Offs.off92 k) _ _)) $$ [HB HO]
  · isplitl [HB]; · iexact HB
    iexact HO
  iintro ⟨HB, HO⟩
  simp only [k0_part13_eq_skeleton]
  unfold k0_part13_skel
  simp only [smem_bind, bind_assoc, pure_bind, Prog.bind_lift, Prog.bind_op, Prog.bind_ret]
  iapply (waitAll c src fk fv fs k.val (Offs.lt2 k) 37872 144 (by omega) (creditS _ _) (sem_at _ _ (Offs.lt2 k) (Offs.off92 k) _ _)) $$ [HB HO]
  · isplitl [HB]; · iexact HB
    iexact HO
  iintro ⟨HD, HV, HO⟩
  ihave HG := (got_group c src fk fv fs k.val) $$ [HD HG]
  · isplitl [HD]; · iexact HD
    iexact HG
  iapply (loadLen c arg0 f0 (8 * k.val + 0) (Offs.off97 k)) $$ H0
  iintro H0
  iapply (wp_assume Variants.none (c : Thread nD τ) none Set.univ (Offs.chk17 k _ (hW.lo (8 * k.val + 0) (by omega)) (hW.hi (8 * k.val + 0) (by omega))))
  iapply (gotK c (8 * k.val + 8) (8 * k.val + 0) (1024) (by omega) (Offs.off98 k)) $$ HG
  iintro HG
  iapply (gotK c (8 * k.val + 8) (8 * k.val + 0) (offN (word c arg0 f0 (8 * k.val + 0)).toNat + 0) (by omega) (Offs.off99 k _ (hW.lo (8 * k.val + 0) (by omega)) (hW.hi (8 * k.val + 0) (by omega)) 0#32 (by decide))) $$ HG
  iintro HG
  iapply (gotK c (8 * k.val + 8) (8 * k.val + 0) (offN (word c arg0 f0 (8 * k.val + 0)).toNat + 128) (by omega) (Offs.off99 k _ (hW.lo (8 * k.val + 0) (by omega)) (hW.hi (8 * k.val + 0) (by omega)) 128#32 (by decide))) $$ HG
  iintro HG
  simp only [k0_part14_eq_skeleton]
  unfold k0_part14_skel
  simp only [smem_bind, bind_assoc, pure_bind, Prog.bind_lift, Prog.bind_op, Prog.bind_ret]
  iapply (gotK c (8 * k.val + 8) (8 * k.val + 0) (offN (word c arg0 f0 (8 * k.val + 0)).toNat + 256) (by omega) (Offs.off99 k _ (hW.lo (8 * k.val + 0) (by omega)) (hW.hi (8 * k.val + 0) (by omega)) 256#32 (by decide))) $$ HG
  iintro HG
  iapply (gotK c (8 * k.val + 8) (8 * k.val + 0) (offN (word c arg0 f0 (8 * k.val + 0)).toNat + 384) (by omega) (Offs.off99 k _ (hW.lo (8 * k.val + 0) (by omega)) (hW.hi (8 * k.val + 0) (by omega)) 384#32 (by decide))) $$ HG
  iintro HG
  iapply (gotK c (8 * k.val + 8) (8 * k.val + 0) (offN (word c arg0 f0 (8 * k.val + 0)).toNat + 512) (by omega) (Offs.off99 k _ (hW.lo (8 * k.val + 0) (by omega)) (hW.hi (8 * k.val + 0) (by omega)) 512#32 (by decide))) $$ HG
  iintro HG
  iapply (gotK c (8 * k.val + 8) (8 * k.val + 0) (offN (word c arg0 f0 (8 * k.val + 0)).toNat + 640) (by omega) (Offs.off99 k _ (hW.lo (8 * k.val + 0) (by omega)) (hW.hi (8 * k.val + 0) (by omega)) 640#32 (by decide))) $$ HG
  iintro HG
  iapply (gotK c (8 * k.val + 8) (8 * k.val + 0) (offN (word c arg0 f0 (8 * k.val + 0)).toNat + 768) (by omega) (Offs.off99 k _ (hW.lo (8 * k.val + 0) (by omega)) (hW.hi (8 * k.val + 0) (by omega)) 768#32 (by decide))) $$ HG
  iintro HG
  iapply (gotK c (8 * k.val + 8) (8 * k.val + 0) (offN (word c arg0 f0 (8 * k.val + 0)).toNat + 896) (by omega) (Offs.off99 k _ (hW.lo (8 * k.val + 0) (by omega)) (hW.hi (8 * k.val + 0) (by omega)) 896#32 (by decide))) $$ HG
  iintro HG
  iapply (gotV c (8 * k.val + 8) (8 * k.val + 0) (1024) (by omega) (Offs.off100 k 0#32 (by decide))) $$ HG
  iintro HG
  iapply (gotV c (8 * k.val + 8) (8 * k.val + 0) (offN (word c arg0 f0 (8 * k.val + 0)).toNat + 0) (by omega) (Offs.off99 k _ (hW.lo (8 * k.val + 0) (by omega)) (hW.hi (8 * k.val + 0) (by omega)) 0#32 (by decide))) $$ HG
  iintro HG
  simp only [k0_part15_eq_skeleton]
  unfold k0_part15_skel
  simp only [smem_bind, bind_assoc, pure_bind, Prog.bind_lift, Prog.bind_op, Prog.bind_ret]
  iapply (gotV c (8 * k.val + 8) (8 * k.val + 0) (offN (word c arg0 f0 (8 * k.val + 0)).toNat + 128) (by omega) (Offs.off99 k _ (hW.lo (8 * k.val + 0) (by omega)) (hW.hi (8 * k.val + 0) (by omega)) 128#32 (by decide))) $$ HG
  iintro HG
  iapply (gotV c (8 * k.val + 8) (8 * k.val + 0) (offN (word c arg0 f0 (8 * k.val + 0)).toNat + 256) (by omega) (Offs.off99 k _ (hW.lo (8 * k.val + 0) (by omega)) (hW.hi (8 * k.val + 0) (by omega)) 256#32 (by decide))) $$ HG
  iintro HG
  iapply (gotV c (8 * k.val + 8) (8 * k.val + 0) (offN (word c arg0 f0 (8 * k.val + 0)).toNat + 384) (by omega) (Offs.off99 k _ (hW.lo (8 * k.val + 0) (by omega)) (hW.hi (8 * k.val + 0) (by omega)) 384#32 (by decide))) $$ HG
  iintro HG
  iapply (gotV c (8 * k.val + 8) (8 * k.val + 0) (offN (word c arg0 f0 (8 * k.val + 0)).toNat + 512) (by omega) (Offs.off99 k _ (hW.lo (8 * k.val + 0) (by omega)) (hW.hi (8 * k.val + 0) (by omega)) 512#32 (by decide))) $$ HG
  iintro HG
  iapply (gotV c (8 * k.val + 8) (8 * k.val + 0) (offN (word c arg0 f0 (8 * k.val + 0)).toNat + 640) (by omega) (Offs.off99 k _ (hW.lo (8 * k.val + 0) (by omega)) (hW.hi (8 * k.val + 0) (by omega)) 640#32 (by decide))) $$ HG
  iintro HG
  iapply (gotV c (8 * k.val + 8) (8 * k.val + 0) (offN (word c arg0 f0 (8 * k.val + 0)).toNat + 768) (by omega) (Offs.off99 k _ (hW.lo (8 * k.val + 0) (by omega)) (hW.hi (8 * k.val + 0) (by omega)) 768#32 (by decide))) $$ HG
  iintro HG
  iapply (gotV c (8 * k.val + 8) (8 * k.val + 0) (offN (word c arg0 f0 (8 * k.val + 0)).toNat + 896) (by omega) (Offs.off99 k _ (hW.lo (8 * k.val + 0) (by omega)) (hW.hi (8 * k.val + 0) (by omega)) 896#32 (by decide))) $$ HG
  iintro HG
  simp only [k0_part16_eq_skeleton]
  unfold k0_part16_skel
  simp only [smem_bind, bind_assoc, pure_bind, Prog.bind_lift, Prog.bind_op, Prog.bind_ret]
  iapply (gotS c (8 * k.val + 8) (8 * k.val + 0) (1024) (by omega) (Offs.off101 k)) $$ HG
  iintro HG
  iapply (gotS c (8 * k.val + 8) (8 * k.val + 0) (offN (word c arg0 f0 (8 * k.val + 0)).toNat + 0) (by omega) (Offs.off102 k _ (hW.lo (8 * k.val + 0) (by omega)) (hW.hi (8 * k.val + 0) (by omega)) 0#32 (by decide))) $$ HG
  iintro HG
  iapply (gotS c (8 * k.val + 8) (8 * k.val + 0) (offN (word c arg0 f0 (8 * k.val + 0)).toNat + 128) (by omega) (Offs.off102 k _ (hW.lo (8 * k.val + 0) (by omega)) (hW.hi (8 * k.val + 0) (by omega)) 128#32 (by decide))) $$ HG
  iintro HG
  iapply (gotS c (8 * k.val + 8) (8 * k.val + 0) (offN (word c arg0 f0 (8 * k.val + 0)).toNat + 256) (by omega) (Offs.off102 k _ (hW.lo (8 * k.val + 0) (by omega)) (hW.hi (8 * k.val + 0) (by omega)) 256#32 (by decide))) $$ HG
  iintro HG
  iapply (gotS c (8 * k.val + 8) (8 * k.val + 0) (offN (word c arg0 f0 (8 * k.val + 0)).toNat + 384) (by omega) (Offs.off102 k _ (hW.lo (8 * k.val + 0) (by omega)) (hW.hi (8 * k.val + 0) (by omega)) 384#32 (by decide))) $$ HG
  iintro HG
  iapply (gotS c (8 * k.val + 8) (8 * k.val + 0) (offN (word c arg0 f0 (8 * k.val + 0)).toNat + 512) (by omega) (Offs.off102 k _ (hW.lo (8 * k.val + 0) (by omega)) (hW.hi (8 * k.val + 0) (by omega)) 512#32 (by decide))) $$ HG
  iintro HG
  iapply (gotS c (8 * k.val + 8) (8 * k.val + 0) (offN (word c arg0 f0 (8 * k.val + 0)).toNat + 640) (by omega) (Offs.off102 k _ (hW.lo (8 * k.val + 0) (by omega)) (hW.hi (8 * k.val + 0) (by omega)) 640#32 (by decide))) $$ HG
  iintro HG
  simp only [k0_part17_eq_skeleton]
  unfold k0_part17_skel
  simp only [smem_bind, bind_assoc, pure_bind, Prog.bind_lift, Prog.bind_op, Prog.bind_ret]
  iapply (gotS c (8 * k.val + 8) (8 * k.val + 0) (offN (word c arg0 f0 (8 * k.val + 0)).toNat + 768) (by omega) (Offs.off102 k _ (hW.lo (8 * k.val + 0) (by omega)) (hW.hi (8 * k.val + 0) (by omega)) 768#32 (by decide))) $$ HG
  iintro HG
  iapply (gotS c (8 * k.val + 8) (8 * k.val + 0) (offN (word c arg0 f0 (8 * k.val + 0)).toNat + 896) (by omega) (Offs.off102 k _ (hW.lo (8 * k.val + 0) (by omega)) (hW.hi (8 * k.val + 0) (by omega)) 896#32 (by decide))) $$ HG
  iintro HG
  iapply (hasR3 c xb X (8 * k.val + 0) (Offs.off103 k)) $$ HX
  iintro HX
  iapply (hasR3 c arg1 q (8 * k.val + 0) (Offs.off104 k)) $$ Hq
  iintro Hq
  iapply (hasR2 c nb kn (8 * k.val + 0) (Offs.off105 k)) $$ Hkn
  iintro Hkn
  simp only [k0_part18_eq_skeleton]
  unfold k0_part18_skel
  simp only [smem_bind, bind_assoc, pure_bind, Prog.bind_lift, Prog.bind_op, Prog.bind_ret]
  iapply (hasR2 c mb vn (8 * k.val + 0) (Offs.off105 k)) $$ Hvn
  iintro Hvn
  iapply (loadRows c arg8 (outR (word c arg0 f0) (land (D := 64) src fk) (land (D := 64) src fv) (land (D := 1) src fs) X q kn vn) (8 * k.val + 0)) $$ HR
  iintro %_ HR
  iapply (storeR3 c arg8 (outR (word c arg0 f0) (land (D := 64) src fk) (land (D := 64) src fv) (land (D := 1) src fs) X q kn vn) (8 * k.val + 0) (Offs.off104 k) ((row_0 _ _ _ _ _ _ _ _ _ _ _).trans (row3_outR _ _ _ _ _ _ _ _ _ (by omega)))) $$ HR
  iintro HR
  simp only [k0_part19_eq_skeleton]
  unfold k0_part19_skel
  simp only [smem_bind, bind_assoc, pure_bind, Prog.bind_lift, Prog.bind_op, Prog.bind_ret]
  iapply (loadLen c arg0 f0 (8 * k.val + 1) (Offs.off106 k)) $$ H0
  iintro H0
  iapply (wp_assume Variants.none (c : Thread nD τ) none Set.univ (Offs.chk18 k _ (hW.lo (8 * k.val + 1) (by omega)) (hW.hi (8 * k.val + 1) (by omega))))
  iapply (gotK c (8 * k.val + 8) (8 * k.val + 1) (1024) (by omega) (Offs.off100 k 1#32 (by decide))) $$ HG
  iintro HG
  iapply (gotK c (8 * k.val + 8) (8 * k.val + 1) (offN (word c arg0 f0 (8 * k.val + 1)).toNat + 0) (by omega) (Offs.off107 k _ (hW.lo (8 * k.val + 1) (by omega)) (hW.hi (8 * k.val + 1) (by omega)) 0#32 (by decide))) $$ HG
  iintro HG
  iapply (gotK c (8 * k.val + 8) (8 * k.val + 1) (offN (word c arg0 f0 (8 * k.val + 1)).toNat + 128) (by omega) (Offs.off107 k _ (hW.lo (8 * k.val + 1) (by omega)) (hW.hi (8 * k.val + 1) (by omega)) 128#32 (by decide))) $$ HG
  iintro HG
  iapply (gotK c (8 * k.val + 8) (8 * k.val + 1) (offN (word c arg0 f0 (8 * k.val + 1)).toNat + 256) (by omega) (Offs.off107 k _ (hW.lo (8 * k.val + 1) (by omega)) (hW.hi (8 * k.val + 1) (by omega)) 256#32 (by decide))) $$ HG
  iintro HG
  iapply (gotK c (8 * k.val + 8) (8 * k.val + 1) (offN (word c arg0 f0 (8 * k.val + 1)).toNat + 384) (by omega) (Offs.off107 k _ (hW.lo (8 * k.val + 1) (by omega)) (hW.hi (8 * k.val + 1) (by omega)) 384#32 (by decide))) $$ HG
  iintro HG
  simp only [k0_part20_eq_skeleton]
  unfold k0_part20_skel
  simp only [smem_bind, bind_assoc, pure_bind, Prog.bind_lift, Prog.bind_op, Prog.bind_ret]
  iapply (gotK c (8 * k.val + 8) (8 * k.val + 1) (offN (word c arg0 f0 (8 * k.val + 1)).toNat + 512) (by omega) (Offs.off107 k _ (hW.lo (8 * k.val + 1) (by omega)) (hW.hi (8 * k.val + 1) (by omega)) 512#32 (by decide))) $$ HG
  iintro HG
  iapply (gotK c (8 * k.val + 8) (8 * k.val + 1) (offN (word c arg0 f0 (8 * k.val + 1)).toNat + 640) (by omega) (Offs.off107 k _ (hW.lo (8 * k.val + 1) (by omega)) (hW.hi (8 * k.val + 1) (by omega)) 640#32 (by decide))) $$ HG
  iintro HG
  iapply (gotK c (8 * k.val + 8) (8 * k.val + 1) (offN (word c arg0 f0 (8 * k.val + 1)).toNat + 768) (by omega) (Offs.off107 k _ (hW.lo (8 * k.val + 1) (by omega)) (hW.hi (8 * k.val + 1) (by omega)) 768#32 (by decide))) $$ HG
  iintro HG
  iapply (gotK c (8 * k.val + 8) (8 * k.val + 1) (offN (word c arg0 f0 (8 * k.val + 1)).toNat + 896) (by omega) (Offs.off107 k _ (hW.lo (8 * k.val + 1) (by omega)) (hW.hi (8 * k.val + 1) (by omega)) 896#32 (by decide))) $$ HG
  iintro HG
  iapply (gotV c (8 * k.val + 8) (8 * k.val + 1) (1024) (by omega) (Offs.off108 k 1#32 (by decide))) $$ HG
  iintro HG
  iapply (gotV c (8 * k.val + 8) (8 * k.val + 1) (offN (word c arg0 f0 (8 * k.val + 1)).toNat + 0) (by omega) (Offs.off107 k _ (hW.lo (8 * k.val + 1) (by omega)) (hW.hi (8 * k.val + 1) (by omega)) 0#32 (by decide))) $$ HG
  iintro HG
  simp only [k0_part21_eq_skeleton]
  unfold k0_part21_skel
  simp only [smem_bind, bind_assoc, pure_bind, Prog.bind_lift, Prog.bind_op, Prog.bind_ret]
  iapply (gotV c (8 * k.val + 8) (8 * k.val + 1) (offN (word c arg0 f0 (8 * k.val + 1)).toNat + 128) (by omega) (Offs.off107 k _ (hW.lo (8 * k.val + 1) (by omega)) (hW.hi (8 * k.val + 1) (by omega)) 128#32 (by decide))) $$ HG
  iintro HG
  iapply (gotV c (8 * k.val + 8) (8 * k.val + 1) (offN (word c arg0 f0 (8 * k.val + 1)).toNat + 256) (by omega) (Offs.off107 k _ (hW.lo (8 * k.val + 1) (by omega)) (hW.hi (8 * k.val + 1) (by omega)) 256#32 (by decide))) $$ HG
  iintro HG
  iapply (gotV c (8 * k.val + 8) (8 * k.val + 1) (offN (word c arg0 f0 (8 * k.val + 1)).toNat + 384) (by omega) (Offs.off107 k _ (hW.lo (8 * k.val + 1) (by omega)) (hW.hi (8 * k.val + 1) (by omega)) 384#32 (by decide))) $$ HG
  iintro HG
  iapply (gotV c (8 * k.val + 8) (8 * k.val + 1) (offN (word c arg0 f0 (8 * k.val + 1)).toNat + 512) (by omega) (Offs.off107 k _ (hW.lo (8 * k.val + 1) (by omega)) (hW.hi (8 * k.val + 1) (by omega)) 512#32 (by decide))) $$ HG
  iintro HG
  iapply (gotV c (8 * k.val + 8) (8 * k.val + 1) (offN (word c arg0 f0 (8 * k.val + 1)).toNat + 640) (by omega) (Offs.off107 k _ (hW.lo (8 * k.val + 1) (by omega)) (hW.hi (8 * k.val + 1) (by omega)) 640#32 (by decide))) $$ HG
  iintro HG
  iapply (gotV c (8 * k.val + 8) (8 * k.val + 1) (offN (word c arg0 f0 (8 * k.val + 1)).toNat + 768) (by omega) (Offs.off107 k _ (hW.lo (8 * k.val + 1) (by omega)) (hW.hi (8 * k.val + 1) (by omega)) 768#32 (by decide))) $$ HG
  iintro HG
  iapply (gotV c (8 * k.val + 8) (8 * k.val + 1) (offN (word c arg0 f0 (8 * k.val + 1)).toNat + 896) (by omega) (Offs.off107 k _ (hW.lo (8 * k.val + 1) (by omega)) (hW.hi (8 * k.val + 1) (by omega)) 896#32 (by decide))) $$ HG
  iintro HG
  iapply (gotS c (8 * k.val + 8) (8 * k.val + 1) (1024) (by omega) (Offs.off109 k)) $$ HG
  iintro HG
  simp only [k0_part22_eq_skeleton]
  unfold k0_part22_skel
  simp only [smem_bind, bind_assoc, pure_bind, Prog.bind_lift, Prog.bind_op, Prog.bind_ret]
  iapply (gotS c (8 * k.val + 8) (8 * k.val + 1) (offN (word c arg0 f0 (8 * k.val + 1)).toNat + 0) (by omega) (Offs.off110 k _ (hW.lo (8 * k.val + 1) (by omega)) (hW.hi (8 * k.val + 1) (by omega)) 0#32 (by decide))) $$ HG
  iintro HG
  iapply (gotS c (8 * k.val + 8) (8 * k.val + 1) (offN (word c arg0 f0 (8 * k.val + 1)).toNat + 128) (by omega) (Offs.off110 k _ (hW.lo (8 * k.val + 1) (by omega)) (hW.hi (8 * k.val + 1) (by omega)) 128#32 (by decide))) $$ HG
  iintro HG
  iapply (gotS c (8 * k.val + 8) (8 * k.val + 1) (offN (word c arg0 f0 (8 * k.val + 1)).toNat + 256) (by omega) (Offs.off110 k _ (hW.lo (8 * k.val + 1) (by omega)) (hW.hi (8 * k.val + 1) (by omega)) 256#32 (by decide))) $$ HG
  iintro HG
  iapply (gotS c (8 * k.val + 8) (8 * k.val + 1) (offN (word c arg0 f0 (8 * k.val + 1)).toNat + 384) (by omega) (Offs.off110 k _ (hW.lo (8 * k.val + 1) (by omega)) (hW.hi (8 * k.val + 1) (by omega)) 384#32 (by decide))) $$ HG
  iintro HG
  iapply (gotS c (8 * k.val + 8) (8 * k.val + 1) (offN (word c arg0 f0 (8 * k.val + 1)).toNat + 512) (by omega) (Offs.off110 k _ (hW.lo (8 * k.val + 1) (by omega)) (hW.hi (8 * k.val + 1) (by omega)) 512#32 (by decide))) $$ HG
  iintro HG
  iapply (gotS c (8 * k.val + 8) (8 * k.val + 1) (offN (word c arg0 f0 (8 * k.val + 1)).toNat + 640) (by omega) (Offs.off110 k _ (hW.lo (8 * k.val + 1) (by omega)) (hW.hi (8 * k.val + 1) (by omega)) 640#32 (by decide))) $$ HG
  iintro HG
  iapply (gotS c (8 * k.val + 8) (8 * k.val + 1) (offN (word c arg0 f0 (8 * k.val + 1)).toNat + 768) (by omega) (Offs.off110 k _ (hW.lo (8 * k.val + 1) (by omega)) (hW.hi (8 * k.val + 1) (by omega)) 768#32 (by decide))) $$ HG
  iintro HG
  simp only [k0_part23_eq_skeleton]
  unfold k0_part23_skel
  simp only [smem_bind, bind_assoc, pure_bind, Prog.bind_lift, Prog.bind_op, Prog.bind_ret]
  iapply (gotS c (8 * k.val + 8) (8 * k.val + 1) (offN (word c arg0 f0 (8 * k.val + 1)).toNat + 896) (by omega) (Offs.off110 k _ (hW.lo (8 * k.val + 1) (by omega)) (hW.hi (8 * k.val + 1) (by omega)) 896#32 (by decide))) $$ HG
  iintro HG
  iapply (hasR3 c xb X (8 * k.val + 1) (Offs.off111 k)) $$ HX
  iintro HX
  iapply (hasR3 c arg1 q (8 * k.val + 1) (Offs.off112 k)) $$ Hq
  iintro Hq
  iapply (hasR2 c nb kn (8 * k.val + 1) (Offs.off113 k)) $$ Hkn
  iintro Hkn
  simp only [k0_part24_eq_skeleton]
  unfold k0_part24_skel
  simp only [smem_bind, bind_assoc, pure_bind, Prog.bind_lift, Prog.bind_op, Prog.bind_ret]
  iapply (hasR2 c mb vn (8 * k.val + 1) (Offs.off113 k)) $$ Hvn
  iintro Hvn
  iapply (loadRows c arg8 (outR (word c arg0 f0) (land (D := 64) src fk) (land (D := 64) src fv) (land (D := 1) src fs) X q kn vn) (8 * k.val + 1)) $$ HR
  iintro %_ HR
  iapply (storeR3 c arg8 (outR (word c arg0 f0) (land (D := 64) src fk) (land (D := 64) src fv) (land (D := 1) src fs) X q kn vn) (8 * k.val + 1) (Offs.off112 k) ((row_1 _ _ _ _ _ _ _ _ _ _ _).trans (row3_outR _ _ _ _ _ _ _ _ _ (by omega)))) $$ HR
  iintro HR
  iapply (loadLen c arg0 f0 (8 * k.val + 2) (Offs.off114 k)) $$ H0
  iintro H0
  iapply (wp_assume Variants.none (c : Thread nD τ) none Set.univ (Offs.chk19 k _ (hW.lo (8 * k.val + 2) (by omega)) (hW.hi (8 * k.val + 2) (by omega))))
  simp only [k0_part25_eq_skeleton]
  unfold k0_part25_skel
  simp only [smem_bind, bind_assoc, pure_bind, Prog.bind_lift, Prog.bind_op, Prog.bind_ret]
  iapply (gotK c (8 * k.val + 8) (8 * k.val + 2) (1024) (by omega) (Offs.off108 k 2#32 (by decide))) $$ HG
  iintro HG
  iapply (gotK c (8 * k.val + 8) (8 * k.val + 2) (offN (word c arg0 f0 (8 * k.val + 2)).toNat + 0) (by omega) (Offs.off115 k _ (hW.lo (8 * k.val + 2) (by omega)) (hW.hi (8 * k.val + 2) (by omega)) 0#32 (by decide))) $$ HG
  iintro HG
  iapply (gotK c (8 * k.val + 8) (8 * k.val + 2) (offN (word c arg0 f0 (8 * k.val + 2)).toNat + 128) (by omega) (Offs.off115 k _ (hW.lo (8 * k.val + 2) (by omega)) (hW.hi (8 * k.val + 2) (by omega)) 128#32 (by decide))) $$ HG
  iintro HG
  iapply (gotK c (8 * k.val + 8) (8 * k.val + 2) (offN (word c arg0 f0 (8 * k.val + 2)).toNat + 256) (by omega) (Offs.off115 k _ (hW.lo (8 * k.val + 2) (by omega)) (hW.hi (8 * k.val + 2) (by omega)) 256#32 (by decide))) $$ HG
  iintro HG
  iapply (gotK c (8 * k.val + 8) (8 * k.val + 2) (offN (word c arg0 f0 (8 * k.val + 2)).toNat + 384) (by omega) (Offs.off115 k _ (hW.lo (8 * k.val + 2) (by omega)) (hW.hi (8 * k.val + 2) (by omega)) 384#32 (by decide))) $$ HG
  iintro HG
  iapply (gotK c (8 * k.val + 8) (8 * k.val + 2) (offN (word c arg0 f0 (8 * k.val + 2)).toNat + 512) (by omega) (Offs.off115 k _ (hW.lo (8 * k.val + 2) (by omega)) (hW.hi (8 * k.val + 2) (by omega)) 512#32 (by decide))) $$ HG
  iintro HG
  simp only [k0_part26_eq_skeleton]
  unfold k0_part26_skel
  simp only [smem_bind, bind_assoc, pure_bind, Prog.bind_lift, Prog.bind_op, Prog.bind_ret]
  iapply (gotK c (8 * k.val + 8) (8 * k.val + 2) (offN (word c arg0 f0 (8 * k.val + 2)).toNat + 640) (by omega) (Offs.off115 k _ (hW.lo (8 * k.val + 2) (by omega)) (hW.hi (8 * k.val + 2) (by omega)) 640#32 (by decide))) $$ HG
  iintro HG
  iapply (gotK c (8 * k.val + 8) (8 * k.val + 2) (offN (word c arg0 f0 (8 * k.val + 2)).toNat + 768) (by omega) (Offs.off115 k _ (hW.lo (8 * k.val + 2) (by omega)) (hW.hi (8 * k.val + 2) (by omega)) 768#32 (by decide))) $$ HG
  iintro HG
  iapply (gotK c (8 * k.val + 8) (8 * k.val + 2) (offN (word c arg0 f0 (8 * k.val + 2)).toNat + 896) (by omega) (Offs.off115 k _ (hW.lo (8 * k.val + 2) (by omega)) (hW.hi (8 * k.val + 2) (by omega)) 896#32 (by decide))) $$ HG
  iintro HG
  iapply (gotV c (8 * k.val + 8) (8 * k.val + 2) (1024) (by omega) (Offs.off116 k 2#32 (by decide))) $$ HG
  iintro HG
  iapply (gotV c (8 * k.val + 8) (8 * k.val + 2) (offN (word c arg0 f0 (8 * k.val + 2)).toNat + 0) (by omega) (Offs.off115 k _ (hW.lo (8 * k.val + 2) (by omega)) (hW.hi (8 * k.val + 2) (by omega)) 0#32 (by decide))) $$ HG
  iintro HG
  iapply (gotV c (8 * k.val + 8) (8 * k.val + 2) (offN (word c arg0 f0 (8 * k.val + 2)).toNat + 128) (by omega) (Offs.off115 k _ (hW.lo (8 * k.val + 2) (by omega)) (hW.hi (8 * k.val + 2) (by omega)) 128#32 (by decide))) $$ HG
  iintro HG
  iapply (gotV c (8 * k.val + 8) (8 * k.val + 2) (offN (word c arg0 f0 (8 * k.val + 2)).toNat + 256) (by omega) (Offs.off115 k _ (hW.lo (8 * k.val + 2) (by omega)) (hW.hi (8 * k.val + 2) (by omega)) 256#32 (by decide))) $$ HG
  iintro HG
  simp only [k0_part27_eq_skeleton]
  unfold k0_part27_skel
  simp only [smem_bind, bind_assoc, pure_bind, Prog.bind_lift, Prog.bind_op, Prog.bind_ret]
  iapply (gotV c (8 * k.val + 8) (8 * k.val + 2) (offN (word c arg0 f0 (8 * k.val + 2)).toNat + 384) (by omega) (Offs.off115 k _ (hW.lo (8 * k.val + 2) (by omega)) (hW.hi (8 * k.val + 2) (by omega)) 384#32 (by decide))) $$ HG
  iintro HG
  iapply (gotV c (8 * k.val + 8) (8 * k.val + 2) (offN (word c arg0 f0 (8 * k.val + 2)).toNat + 512) (by omega) (Offs.off115 k _ (hW.lo (8 * k.val + 2) (by omega)) (hW.hi (8 * k.val + 2) (by omega)) 512#32 (by decide))) $$ HG
  iintro HG
  iapply (gotV c (8 * k.val + 8) (8 * k.val + 2) (offN (word c arg0 f0 (8 * k.val + 2)).toNat + 640) (by omega) (Offs.off115 k _ (hW.lo (8 * k.val + 2) (by omega)) (hW.hi (8 * k.val + 2) (by omega)) 640#32 (by decide))) $$ HG
  iintro HG
  iapply (gotV c (8 * k.val + 8) (8 * k.val + 2) (offN (word c arg0 f0 (8 * k.val + 2)).toNat + 768) (by omega) (Offs.off115 k _ (hW.lo (8 * k.val + 2) (by omega)) (hW.hi (8 * k.val + 2) (by omega)) 768#32 (by decide))) $$ HG
  iintro HG
  iapply (gotV c (8 * k.val + 8) (8 * k.val + 2) (offN (word c arg0 f0 (8 * k.val + 2)).toNat + 896) (by omega) (Offs.off115 k _ (hW.lo (8 * k.val + 2) (by omega)) (hW.hi (8 * k.val + 2) (by omega)) 896#32 (by decide))) $$ HG
  iintro HG
  iapply (gotS c (8 * k.val + 8) (8 * k.val + 2) (1024) (by omega) (Offs.off117 k)) $$ HG
  iintro HG
  iapply (gotS c (8 * k.val + 8) (8 * k.val + 2) (offN (word c arg0 f0 (8 * k.val + 2)).toNat + 0) (by omega) (Offs.off118 k _ (hW.lo (8 * k.val + 2) (by omega)) (hW.hi (8 * k.val + 2) (by omega)) 0#32 (by decide))) $$ HG
  iintro HG
  simp only [k0_part28_eq_skeleton]
  unfold k0_part28_skel
  simp only [smem_bind, bind_assoc, pure_bind, Prog.bind_lift, Prog.bind_op, Prog.bind_ret]
  iapply (gotS c (8 * k.val + 8) (8 * k.val + 2) (offN (word c arg0 f0 (8 * k.val + 2)).toNat + 128) (by omega) (Offs.off118 k _ (hW.lo (8 * k.val + 2) (by omega)) (hW.hi (8 * k.val + 2) (by omega)) 128#32 (by decide))) $$ HG
  iintro HG
  iapply (gotS c (8 * k.val + 8) (8 * k.val + 2) (offN (word c arg0 f0 (8 * k.val + 2)).toNat + 256) (by omega) (Offs.off118 k _ (hW.lo (8 * k.val + 2) (by omega)) (hW.hi (8 * k.val + 2) (by omega)) 256#32 (by decide))) $$ HG
  iintro HG
  iapply (gotS c (8 * k.val + 8) (8 * k.val + 2) (offN (word c arg0 f0 (8 * k.val + 2)).toNat + 384) (by omega) (Offs.off118 k _ (hW.lo (8 * k.val + 2) (by omega)) (hW.hi (8 * k.val + 2) (by omega)) 384#32 (by decide))) $$ HG
  iintro HG
  iapply (gotS c (8 * k.val + 8) (8 * k.val + 2) (offN (word c arg0 f0 (8 * k.val + 2)).toNat + 512) (by omega) (Offs.off118 k _ (hW.lo (8 * k.val + 2) (by omega)) (hW.hi (8 * k.val + 2) (by omega)) 512#32 (by decide))) $$ HG
  iintro HG
  iapply (gotS c (8 * k.val + 8) (8 * k.val + 2) (offN (word c arg0 f0 (8 * k.val + 2)).toNat + 640) (by omega) (Offs.off118 k _ (hW.lo (8 * k.val + 2) (by omega)) (hW.hi (8 * k.val + 2) (by omega)) 640#32 (by decide))) $$ HG
  iintro HG
  iapply (gotS c (8 * k.val + 8) (8 * k.val + 2) (offN (word c arg0 f0 (8 * k.val + 2)).toNat + 768) (by omega) (Offs.off118 k _ (hW.lo (8 * k.val + 2) (by omega)) (hW.hi (8 * k.val + 2) (by omega)) 768#32 (by decide))) $$ HG
  iintro HG
  iapply (gotS c (8 * k.val + 8) (8 * k.val + 2) (offN (word c arg0 f0 (8 * k.val + 2)).toNat + 896) (by omega) (Offs.off118 k _ (hW.lo (8 * k.val + 2) (by omega)) (hW.hi (8 * k.val + 2) (by omega)) 896#32 (by decide))) $$ HG
  iintro HG
  iapply (hasR3 c xb X (8 * k.val + 2) (Offs.off119 k)) $$ HX
  iintro HX
  simp only [k0_part29_eq_skeleton]
  unfold k0_part29_skel
  simp only [smem_bind, bind_assoc, pure_bind, Prog.bind_lift, Prog.bind_op, Prog.bind_ret]
  iapply (hasR3 c arg1 q (8 * k.val + 2) (Offs.off120 k)) $$ Hq
  iintro Hq
  iapply (hasR2 c nb kn (8 * k.val + 2) (Offs.off121 k)) $$ Hkn
  iintro Hkn
  simp only [k0_part30_eq_skeleton]
  unfold k0_part30_skel
  simp only [smem_bind, bind_assoc, pure_bind, Prog.bind_lift, Prog.bind_op, Prog.bind_ret]
  iapply (hasR2 c mb vn (8 * k.val + 2) (Offs.off121 k)) $$ Hvn
  iintro Hvn
  iapply (loadRows c arg8 (outR (word c arg0 f0) (land (D := 64) src fk) (land (D := 64) src fv) (land (D := 1) src fs) X q kn vn) (8 * k.val + 2)) $$ HR
  iintro %_ HR
  iapply (storeR3 c arg8 (outR (word c arg0 f0) (land (D := 64) src fk) (land (D := 64) src fv) (land (D := 1) src fs) X q kn vn) (8 * k.val + 2) (Offs.off120 k) ((row_2 _ _ _ _ _ _ _ _ _ _ _).trans (row3_outR _ _ _ _ _ _ _ _ _ (by omega)))) $$ HR
  iintro HR
  iapply (loadLen c arg0 f0 (8 * k.val + 3) (Offs.off122 k)) $$ H0
  iintro H0
  iapply (wp_assume Variants.none (c : Thread nD τ) none Set.univ (Offs.chk20 k _ (hW.lo (8 * k.val + 3) (by omega)) (hW.hi (8 * k.val + 3) (by omega))))
  iapply (gotK c (8 * k.val + 8) (8 * k.val + 3) (1024) (by omega) (Offs.off116 k 3#32 (by decide))) $$ HG
  iintro HG
  simp only [k0_part31_eq_skeleton]
  unfold k0_part31_skel
  simp only [smem_bind, bind_assoc, pure_bind, Prog.bind_lift, Prog.bind_op, Prog.bind_ret]
  iapply (gotK c (8 * k.val + 8) (8 * k.val + 3) (offN (word c arg0 f0 (8 * k.val + 3)).toNat + 0) (by omega) (Offs.off123 k _ (hW.lo (8 * k.val + 3) (by omega)) (hW.hi (8 * k.val + 3) (by omega)) 0#32 (by decide))) $$ HG
  iintro HG
  iapply (gotK c (8 * k.val + 8) (8 * k.val + 3) (offN (word c arg0 f0 (8 * k.val + 3)).toNat + 128) (by omega) (Offs.off123 k _ (hW.lo (8 * k.val + 3) (by omega)) (hW.hi (8 * k.val + 3) (by omega)) 128#32 (by decide))) $$ HG
  iintro HG
  iapply (gotK c (8 * k.val + 8) (8 * k.val + 3) (offN (word c arg0 f0 (8 * k.val + 3)).toNat + 256) (by omega) (Offs.off123 k _ (hW.lo (8 * k.val + 3) (by omega)) (hW.hi (8 * k.val + 3) (by omega)) 256#32 (by decide))) $$ HG
  iintro HG
  iapply (gotK c (8 * k.val + 8) (8 * k.val + 3) (offN (word c arg0 f0 (8 * k.val + 3)).toNat + 384) (by omega) (Offs.off123 k _ (hW.lo (8 * k.val + 3) (by omega)) (hW.hi (8 * k.val + 3) (by omega)) 384#32 (by decide))) $$ HG
  iintro HG
  iapply (gotK c (8 * k.val + 8) (8 * k.val + 3) (offN (word c arg0 f0 (8 * k.val + 3)).toNat + 512) (by omega) (Offs.off123 k _ (hW.lo (8 * k.val + 3) (by omega)) (hW.hi (8 * k.val + 3) (by omega)) 512#32 (by decide))) $$ HG
  iintro HG
  iapply (gotK c (8 * k.val + 8) (8 * k.val + 3) (offN (word c arg0 f0 (8 * k.val + 3)).toNat + 640) (by omega) (Offs.off123 k _ (hW.lo (8 * k.val + 3) (by omega)) (hW.hi (8 * k.val + 3) (by omega)) 640#32 (by decide))) $$ HG
  iintro HG
  simp only [k0_part32_eq_skeleton]
  unfold k0_part32_skel
  simp only [smem_bind, bind_assoc, pure_bind, Prog.bind_lift, Prog.bind_op, Prog.bind_ret]
  iapply (gotK c (8 * k.val + 8) (8 * k.val + 3) (offN (word c arg0 f0 (8 * k.val + 3)).toNat + 768) (by omega) (Offs.off123 k _ (hW.lo (8 * k.val + 3) (by omega)) (hW.hi (8 * k.val + 3) (by omega)) 768#32 (by decide))) $$ HG
  iintro HG
  iapply (gotK c (8 * k.val + 8) (8 * k.val + 3) (offN (word c arg0 f0 (8 * k.val + 3)).toNat + 896) (by omega) (Offs.off123 k _ (hW.lo (8 * k.val + 3) (by omega)) (hW.hi (8 * k.val + 3) (by omega)) 896#32 (by decide))) $$ HG
  iintro HG
  iapply (gotV c (8 * k.val + 8) (8 * k.val + 3) (1024) (by omega) (Offs.off124 k 3#32 (by decide))) $$ HG
  iintro HG
  iapply (gotV c (8 * k.val + 8) (8 * k.val + 3) (offN (word c arg0 f0 (8 * k.val + 3)).toNat + 0) (by omega) (Offs.off123 k _ (hW.lo (8 * k.val + 3) (by omega)) (hW.hi (8 * k.val + 3) (by omega)) 0#32 (by decide))) $$ HG
  iintro HG
  iapply (gotV c (8 * k.val + 8) (8 * k.val + 3) (offN (word c arg0 f0 (8 * k.val + 3)).toNat + 128) (by omega) (Offs.off123 k _ (hW.lo (8 * k.val + 3) (by omega)) (hW.hi (8 * k.val + 3) (by omega)) 128#32 (by decide))) $$ HG
  iintro HG
  iapply (gotV c (8 * k.val + 8) (8 * k.val + 3) (offN (word c arg0 f0 (8 * k.val + 3)).toNat + 256) (by omega) (Offs.off123 k _ (hW.lo (8 * k.val + 3) (by omega)) (hW.hi (8 * k.val + 3) (by omega)) 256#32 (by decide))) $$ HG
  iintro HG
  iapply (gotV c (8 * k.val + 8) (8 * k.val + 3) (offN (word c arg0 f0 (8 * k.val + 3)).toNat + 384) (by omega) (Offs.off123 k _ (hW.lo (8 * k.val + 3) (by omega)) (hW.hi (8 * k.val + 3) (by omega)) 384#32 (by decide))) $$ HG
  iintro HG
  simp only [k0_part33_eq_skeleton]
  unfold k0_part33_skel
  simp only [smem_bind, bind_assoc, pure_bind, Prog.bind_lift, Prog.bind_op, Prog.bind_ret]
  iapply (gotV c (8 * k.val + 8) (8 * k.val + 3) (offN (word c arg0 f0 (8 * k.val + 3)).toNat + 512) (by omega) (Offs.off123 k _ (hW.lo (8 * k.val + 3) (by omega)) (hW.hi (8 * k.val + 3) (by omega)) 512#32 (by decide))) $$ HG
  iintro HG
  iapply (gotV c (8 * k.val + 8) (8 * k.val + 3) (offN (word c arg0 f0 (8 * k.val + 3)).toNat + 640) (by omega) (Offs.off123 k _ (hW.lo (8 * k.val + 3) (by omega)) (hW.hi (8 * k.val + 3) (by omega)) 640#32 (by decide))) $$ HG
  iintro HG
  iapply (gotV c (8 * k.val + 8) (8 * k.val + 3) (offN (word c arg0 f0 (8 * k.val + 3)).toNat + 768) (by omega) (Offs.off123 k _ (hW.lo (8 * k.val + 3) (by omega)) (hW.hi (8 * k.val + 3) (by omega)) 768#32 (by decide))) $$ HG
  iintro HG
  iapply (gotV c (8 * k.val + 8) (8 * k.val + 3) (offN (word c arg0 f0 (8 * k.val + 3)).toNat + 896) (by omega) (Offs.off123 k _ (hW.lo (8 * k.val + 3) (by omega)) (hW.hi (8 * k.val + 3) (by omega)) 896#32 (by decide))) $$ HG
  iintro HG
  iapply (gotS c (8 * k.val + 8) (8 * k.val + 3) (1024) (by omega) (Offs.off125 k)) $$ HG
  iintro HG
  iapply (gotS c (8 * k.val + 8) (8 * k.val + 3) (offN (word c arg0 f0 (8 * k.val + 3)).toNat + 0) (by omega) (Offs.off126 k _ (hW.lo (8 * k.val + 3) (by omega)) (hW.hi (8 * k.val + 3) (by omega)) 0#32 (by decide))) $$ HG
  iintro HG
  iapply (gotS c (8 * k.val + 8) (8 * k.val + 3) (offN (word c arg0 f0 (8 * k.val + 3)).toNat + 128) (by omega) (Offs.off126 k _ (hW.lo (8 * k.val + 3) (by omega)) (hW.hi (8 * k.val + 3) (by omega)) 128#32 (by decide))) $$ HG
  iintro HG
  iapply (gotS c (8 * k.val + 8) (8 * k.val + 3) (offN (word c arg0 f0 (8 * k.val + 3)).toNat + 256) (by omega) (Offs.off126 k _ (hW.lo (8 * k.val + 3) (by omega)) (hW.hi (8 * k.val + 3) (by omega)) 256#32 (by decide))) $$ HG
  iintro HG
  simp only [k0_part34_eq_skeleton]
  unfold k0_part34_skel
  simp only [smem_bind, bind_assoc, pure_bind, Prog.bind_lift, Prog.bind_op, Prog.bind_ret]
  iapply (gotS c (8 * k.val + 8) (8 * k.val + 3) (offN (word c arg0 f0 (8 * k.val + 3)).toNat + 384) (by omega) (Offs.off126 k _ (hW.lo (8 * k.val + 3) (by omega)) (hW.hi (8 * k.val + 3) (by omega)) 384#32 (by decide))) $$ HG
  iintro HG
  iapply (gotS c (8 * k.val + 8) (8 * k.val + 3) (offN (word c arg0 f0 (8 * k.val + 3)).toNat + 512) (by omega) (Offs.off126 k _ (hW.lo (8 * k.val + 3) (by omega)) (hW.hi (8 * k.val + 3) (by omega)) 512#32 (by decide))) $$ HG
  iintro HG
  iapply (gotS c (8 * k.val + 8) (8 * k.val + 3) (offN (word c arg0 f0 (8 * k.val + 3)).toNat + 640) (by omega) (Offs.off126 k _ (hW.lo (8 * k.val + 3) (by omega)) (hW.hi (8 * k.val + 3) (by omega)) 640#32 (by decide))) $$ HG
  iintro HG
  iapply (gotS c (8 * k.val + 8) (8 * k.val + 3) (offN (word c arg0 f0 (8 * k.val + 3)).toNat + 768) (by omega) (Offs.off126 k _ (hW.lo (8 * k.val + 3) (by omega)) (hW.hi (8 * k.val + 3) (by omega)) 768#32 (by decide))) $$ HG
  iintro HG
  iapply (gotS c (8 * k.val + 8) (8 * k.val + 3) (offN (word c arg0 f0 (8 * k.val + 3)).toNat + 896) (by omega) (Offs.off126 k _ (hW.lo (8 * k.val + 3) (by omega)) (hW.hi (8 * k.val + 3) (by omega)) 896#32 (by decide))) $$ HG
  iintro HG
  iapply (hasR3 c xb X (8 * k.val + 3) (Offs.off127 k)) $$ HX
  iintro HX
  simp only [k0_part35_eq_skeleton]
  unfold k0_part35_skel
  simp only [smem_bind, bind_assoc, pure_bind, Prog.bind_lift, Prog.bind_op, Prog.bind_ret]
  iapply (hasR3 c arg1 q (8 * k.val + 3) (Offs.off128 k)) $$ Hq
  iintro Hq
  iapply (hasR2 c nb kn (8 * k.val + 3) (Offs.off129 k)) $$ Hkn
  iintro Hkn
  simp only [k0_part36_eq_skeleton]
  unfold k0_part36_skel
  simp only [smem_bind, bind_assoc, pure_bind, Prog.bind_lift, Prog.bind_op, Prog.bind_ret]
  iapply (hasR2 c mb vn (8 * k.val + 3) (Offs.off129 k)) $$ Hvn
  iintro Hvn
  iapply (loadRows c arg8 (outR (word c arg0 f0) (land (D := 64) src fk) (land (D := 64) src fv) (land (D := 1) src fs) X q kn vn) (8 * k.val + 3)) $$ HR
  iintro %_ HR
  iapply (storeR3 c arg8 (outR (word c arg0 f0) (land (D := 64) src fk) (land (D := 64) src fv) (land (D := 1) src fs) X q kn vn) (8 * k.val + 3) (Offs.off128 k) ((row_3 _ _ _ _ _ _ _ _ _ _ _).trans (row3_outR _ _ _ _ _ _ _ _ _ (by omega)))) $$ HR
  iintro HR
  iapply (loadLen c arg0 f0 (8 * k.val + 4) (Offs.off130 k)) $$ H0
  iintro H0
  iapply (wp_assume Variants.none (c : Thread nD τ) none Set.univ (Offs.chk21 k _ (hW.lo (8 * k.val + 4) (by omega)) (hW.hi (8 * k.val + 4) (by omega))))
  iapply (gotK c (8 * k.val + 8) (8 * k.val + 4) (1024) (by omega) (Offs.off124 k 4#32 (by decide))) $$ HG
  iintro HG
  iapply (gotK c (8 * k.val + 8) (8 * k.val + 4) (offN (word c arg0 f0 (8 * k.val + 4)).toNat + 0) (by omega) (Offs.off131 k _ (hW.lo (8 * k.val + 4) (by omega)) (hW.hi (8 * k.val + 4) (by omega)) 0#32 (by decide))) $$ HG
  iintro HG
  simp only [k0_part37_eq_skeleton]
  unfold k0_part37_skel
  simp only [smem_bind, bind_assoc, pure_bind, Prog.bind_lift, Prog.bind_op, Prog.bind_ret]
  iapply (gotK c (8 * k.val + 8) (8 * k.val + 4) (offN (word c arg0 f0 (8 * k.val + 4)).toNat + 128) (by omega) (Offs.off131 k _ (hW.lo (8 * k.val + 4) (by omega)) (hW.hi (8 * k.val + 4) (by omega)) 128#32 (by decide))) $$ HG
  iintro HG
  iapply (gotK c (8 * k.val + 8) (8 * k.val + 4) (offN (word c arg0 f0 (8 * k.val + 4)).toNat + 256) (by omega) (Offs.off131 k _ (hW.lo (8 * k.val + 4) (by omega)) (hW.hi (8 * k.val + 4) (by omega)) 256#32 (by decide))) $$ HG
  iintro HG
  iapply (gotK c (8 * k.val + 8) (8 * k.val + 4) (offN (word c arg0 f0 (8 * k.val + 4)).toNat + 384) (by omega) (Offs.off131 k _ (hW.lo (8 * k.val + 4) (by omega)) (hW.hi (8 * k.val + 4) (by omega)) 384#32 (by decide))) $$ HG
  iintro HG
  iapply (gotK c (8 * k.val + 8) (8 * k.val + 4) (offN (word c arg0 f0 (8 * k.val + 4)).toNat + 512) (by omega) (Offs.off131 k _ (hW.lo (8 * k.val + 4) (by omega)) (hW.hi (8 * k.val + 4) (by omega)) 512#32 (by decide))) $$ HG
  iintro HG
  iapply (gotK c (8 * k.val + 8) (8 * k.val + 4) (offN (word c arg0 f0 (8 * k.val + 4)).toNat + 640) (by omega) (Offs.off131 k _ (hW.lo (8 * k.val + 4) (by omega)) (hW.hi (8 * k.val + 4) (by omega)) 640#32 (by decide))) $$ HG
  iintro HG
  iapply (gotK c (8 * k.val + 8) (8 * k.val + 4) (offN (word c arg0 f0 (8 * k.val + 4)).toNat + 768) (by omega) (Offs.off131 k _ (hW.lo (8 * k.val + 4) (by omega)) (hW.hi (8 * k.val + 4) (by omega)) 768#32 (by decide))) $$ HG
  iintro HG
  iapply (gotK c (8 * k.val + 8) (8 * k.val + 4) (offN (word c arg0 f0 (8 * k.val + 4)).toNat + 896) (by omega) (Offs.off131 k _ (hW.lo (8 * k.val + 4) (by omega)) (hW.hi (8 * k.val + 4) (by omega)) 896#32 (by decide))) $$ HG
  iintro HG
  simp only [k0_part38_eq_skeleton]
  unfold k0_part38_skel
  simp only [smem_bind, bind_assoc, pure_bind, Prog.bind_lift, Prog.bind_op, Prog.bind_ret]
  iapply (gotV c (8 * k.val + 8) (8 * k.val + 4) (1024) (by omega) (Offs.off132 k 4#32 (by decide))) $$ HG
  iintro HG
  iapply (gotV c (8 * k.val + 8) (8 * k.val + 4) (offN (word c arg0 f0 (8 * k.val + 4)).toNat + 0) (by omega) (Offs.off131 k _ (hW.lo (8 * k.val + 4) (by omega)) (hW.hi (8 * k.val + 4) (by omega)) 0#32 (by decide))) $$ HG
  iintro HG
  iapply (gotV c (8 * k.val + 8) (8 * k.val + 4) (offN (word c arg0 f0 (8 * k.val + 4)).toNat + 128) (by omega) (Offs.off131 k _ (hW.lo (8 * k.val + 4) (by omega)) (hW.hi (8 * k.val + 4) (by omega)) 128#32 (by decide))) $$ HG
  iintro HG
  iapply (gotV c (8 * k.val + 8) (8 * k.val + 4) (offN (word c arg0 f0 (8 * k.val + 4)).toNat + 256) (by omega) (Offs.off131 k _ (hW.lo (8 * k.val + 4) (by omega)) (hW.hi (8 * k.val + 4) (by omega)) 256#32 (by decide))) $$ HG
  iintro HG
  iapply (gotV c (8 * k.val + 8) (8 * k.val + 4) (offN (word c arg0 f0 (8 * k.val + 4)).toNat + 384) (by omega) (Offs.off131 k _ (hW.lo (8 * k.val + 4) (by omega)) (hW.hi (8 * k.val + 4) (by omega)) 384#32 (by decide))) $$ HG
  iintro HG
  iapply (gotV c (8 * k.val + 8) (8 * k.val + 4) (offN (word c arg0 f0 (8 * k.val + 4)).toNat + 512) (by omega) (Offs.off131 k _ (hW.lo (8 * k.val + 4) (by omega)) (hW.hi (8 * k.val + 4) (by omega)) 512#32 (by decide))) $$ HG
  iintro HG
  iapply (gotV c (8 * k.val + 8) (8 * k.val + 4) (offN (word c arg0 f0 (8 * k.val + 4)).toNat + 640) (by omega) (Offs.off131 k _ (hW.lo (8 * k.val + 4) (by omega)) (hW.hi (8 * k.val + 4) (by omega)) 640#32 (by decide))) $$ HG
  iintro HG
  simp only [k0_part39_eq_skeleton]
  unfold k0_part39_skel
  simp only [smem_bind, bind_assoc, pure_bind, Prog.bind_lift, Prog.bind_op, Prog.bind_ret]
  iapply (gotV c (8 * k.val + 8) (8 * k.val + 4) (offN (word c arg0 f0 (8 * k.val + 4)).toNat + 768) (by omega) (Offs.off131 k _ (hW.lo (8 * k.val + 4) (by omega)) (hW.hi (8 * k.val + 4) (by omega)) 768#32 (by decide))) $$ HG
  iintro HG
  iapply (gotV c (8 * k.val + 8) (8 * k.val + 4) (offN (word c arg0 f0 (8 * k.val + 4)).toNat + 896) (by omega) (Offs.off131 k _ (hW.lo (8 * k.val + 4) (by omega)) (hW.hi (8 * k.val + 4) (by omega)) 896#32 (by decide))) $$ HG
  iintro HG
  iapply (gotS c (8 * k.val + 8) (8 * k.val + 4) (1024) (by omega) (Offs.off133 k)) $$ HG
  iintro HG
  iapply (gotS c (8 * k.val + 8) (8 * k.val + 4) (offN (word c arg0 f0 (8 * k.val + 4)).toNat + 0) (by omega) (Offs.off134 k _ (hW.lo (8 * k.val + 4) (by omega)) (hW.hi (8 * k.val + 4) (by omega)) 0#32 (by decide))) $$ HG
  iintro HG
  iapply (gotS c (8 * k.val + 8) (8 * k.val + 4) (offN (word c arg0 f0 (8 * k.val + 4)).toNat + 128) (by omega) (Offs.off134 k _ (hW.lo (8 * k.val + 4) (by omega)) (hW.hi (8 * k.val + 4) (by omega)) 128#32 (by decide))) $$ HG
  iintro HG
  iapply (gotS c (8 * k.val + 8) (8 * k.val + 4) (offN (word c arg0 f0 (8 * k.val + 4)).toNat + 256) (by omega) (Offs.off134 k _ (hW.lo (8 * k.val + 4) (by omega)) (hW.hi (8 * k.val + 4) (by omega)) 256#32 (by decide))) $$ HG
  iintro HG
  iapply (gotS c (8 * k.val + 8) (8 * k.val + 4) (offN (word c arg0 f0 (8 * k.val + 4)).toNat + 384) (by omega) (Offs.off134 k _ (hW.lo (8 * k.val + 4) (by omega)) (hW.hi (8 * k.val + 4) (by omega)) 384#32 (by decide))) $$ HG
  iintro HG
  simp only [k0_part40_eq_skeleton]
  unfold k0_part40_skel
  simp only [smem_bind, bind_assoc, pure_bind, Prog.bind_lift, Prog.bind_op, Prog.bind_ret]
  iapply (gotS c (8 * k.val + 8) (8 * k.val + 4) (offN (word c arg0 f0 (8 * k.val + 4)).toNat + 512) (by omega) (Offs.off134 k _ (hW.lo (8 * k.val + 4) (by omega)) (hW.hi (8 * k.val + 4) (by omega)) 512#32 (by decide))) $$ HG
  iintro HG
  iapply (gotS c (8 * k.val + 8) (8 * k.val + 4) (offN (word c arg0 f0 (8 * k.val + 4)).toNat + 640) (by omega) (Offs.off134 k _ (hW.lo (8 * k.val + 4) (by omega)) (hW.hi (8 * k.val + 4) (by omega)) 640#32 (by decide))) $$ HG
  iintro HG
  iapply (gotS c (8 * k.val + 8) (8 * k.val + 4) (offN (word c arg0 f0 (8 * k.val + 4)).toNat + 768) (by omega) (Offs.off134 k _ (hW.lo (8 * k.val + 4) (by omega)) (hW.hi (8 * k.val + 4) (by omega)) 768#32 (by decide))) $$ HG
  iintro HG
  iapply (gotS c (8 * k.val + 8) (8 * k.val + 4) (offN (word c arg0 f0 (8 * k.val + 4)).toNat + 896) (by omega) (Offs.off134 k _ (hW.lo (8 * k.val + 4) (by omega)) (hW.hi (8 * k.val + 4) (by omega)) 896#32 (by decide))) $$ HG
  iintro HG
  iapply (hasR3 c xb X (8 * k.val + 4) (Offs.off135 k)) $$ HX
  iintro HX
  iapply (hasR3 c arg1 q (8 * k.val + 4) (Offs.off136 k)) $$ Hq
  iintro Hq
  simp only [k0_part41_eq_skeleton]
  unfold k0_part41_skel
  simp only [smem_bind, bind_assoc, pure_bind, Prog.bind_lift, Prog.bind_op, Prog.bind_ret]
  iapply (hasR2 c nb kn (8 * k.val + 4) (Offs.off137 k)) $$ Hkn
  iintro Hkn
  simp only [k0_part42_eq_skeleton]
  unfold k0_part42_skel
  simp only [smem_bind, bind_assoc, pure_bind, Prog.bind_lift, Prog.bind_op, Prog.bind_ret]
  iapply (hasR2 c mb vn (8 * k.val + 4) (Offs.off137 k)) $$ Hvn
  iintro Hvn
  iapply (loadRows c arg8 (outR (word c arg0 f0) (land (D := 64) src fk) (land (D := 64) src fv) (land (D := 1) src fs) X q kn vn) (8 * k.val + 4)) $$ HR
  iintro %_ HR
  iapply (storeR3 c arg8 (outR (word c arg0 f0) (land (D := 64) src fk) (land (D := 64) src fv) (land (D := 1) src fs) X q kn vn) (8 * k.val + 4) (Offs.off136 k) ((row_4 _ _ _ _ _ _ _ _ _ _ _).trans (row3_outR _ _ _ _ _ _ _ _ _ (by omega)))) $$ HR
  iintro HR
  iapply (loadLen c arg0 f0 (8 * k.val + 5) (Offs.off138 k)) $$ H0
  iintro H0
  iapply (wp_assume Variants.none (c : Thread nD τ) none Set.univ (Offs.chk22 k _ (hW.lo (8 * k.val + 5) (by omega)) (hW.hi (8 * k.val + 5) (by omega))))
  iapply (gotK c (8 * k.val + 8) (8 * k.val + 5) (1024) (by omega) (Offs.off132 k 5#32 (by decide))) $$ HG
  iintro HG
  iapply (gotK c (8 * k.val + 8) (8 * k.val + 5) (offN (word c arg0 f0 (8 * k.val + 5)).toNat + 0) (by omega) (Offs.off139 k _ (hW.lo (8 * k.val + 5) (by omega)) (hW.hi (8 * k.val + 5) (by omega)) 0#32 (by decide))) $$ HG
  iintro HG
  iapply (gotK c (8 * k.val + 8) (8 * k.val + 5) (offN (word c arg0 f0 (8 * k.val + 5)).toNat + 128) (by omega) (Offs.off139 k _ (hW.lo (8 * k.val + 5) (by omega)) (hW.hi (8 * k.val + 5) (by omega)) 128#32 (by decide))) $$ HG
  iintro HG
  simp only [k0_part43_eq_skeleton]
  unfold k0_part43_skel
  simp only [smem_bind, bind_assoc, pure_bind, Prog.bind_lift, Prog.bind_op, Prog.bind_ret]
  iapply (gotK c (8 * k.val + 8) (8 * k.val + 5) (offN (word c arg0 f0 (8 * k.val + 5)).toNat + 256) (by omega) (Offs.off139 k _ (hW.lo (8 * k.val + 5) (by omega)) (hW.hi (8 * k.val + 5) (by omega)) 256#32 (by decide))) $$ HG
  iintro HG
  iapply (gotK c (8 * k.val + 8) (8 * k.val + 5) (offN (word c arg0 f0 (8 * k.val + 5)).toNat + 384) (by omega) (Offs.off139 k _ (hW.lo (8 * k.val + 5) (by omega)) (hW.hi (8 * k.val + 5) (by omega)) 384#32 (by decide))) $$ HG
  iintro HG
  iapply (gotK c (8 * k.val + 8) (8 * k.val + 5) (offN (word c arg0 f0 (8 * k.val + 5)).toNat + 512) (by omega) (Offs.off139 k _ (hW.lo (8 * k.val + 5) (by omega)) (hW.hi (8 * k.val + 5) (by omega)) 512#32 (by decide))) $$ HG
  iintro HG
  iapply (gotK c (8 * k.val + 8) (8 * k.val + 5) (offN (word c arg0 f0 (8 * k.val + 5)).toNat + 640) (by omega) (Offs.off139 k _ (hW.lo (8 * k.val + 5) (by omega)) (hW.hi (8 * k.val + 5) (by omega)) 640#32 (by decide))) $$ HG
  iintro HG
  iapply (gotK c (8 * k.val + 8) (8 * k.val + 5) (offN (word c arg0 f0 (8 * k.val + 5)).toNat + 768) (by omega) (Offs.off139 k _ (hW.lo (8 * k.val + 5) (by omega)) (hW.hi (8 * k.val + 5) (by omega)) 768#32 (by decide))) $$ HG
  iintro HG
  iapply (gotK c (8 * k.val + 8) (8 * k.val + 5) (offN (word c arg0 f0 (8 * k.val + 5)).toNat + 896) (by omega) (Offs.off139 k _ (hW.lo (8 * k.val + 5) (by omega)) (hW.hi (8 * k.val + 5) (by omega)) 896#32 (by decide))) $$ HG
  iintro HG
  iapply (gotV c (8 * k.val + 8) (8 * k.val + 5) (1024) (by omega) (Offs.off140 k 5#32 (by decide))) $$ HG
  iintro HG
  simp only [k0_part44_eq_skeleton]
  unfold k0_part44_skel
  simp only [smem_bind, bind_assoc, pure_bind, Prog.bind_lift, Prog.bind_op, Prog.bind_ret]
  iapply (gotV c (8 * k.val + 8) (8 * k.val + 5) (offN (word c arg0 f0 (8 * k.val + 5)).toNat + 0) (by omega) (Offs.off139 k _ (hW.lo (8 * k.val + 5) (by omega)) (hW.hi (8 * k.val + 5) (by omega)) 0#32 (by decide))) $$ HG
  iintro HG
  iapply (gotV c (8 * k.val + 8) (8 * k.val + 5) (offN (word c arg0 f0 (8 * k.val + 5)).toNat + 128) (by omega) (Offs.off139 k _ (hW.lo (8 * k.val + 5) (by omega)) (hW.hi (8 * k.val + 5) (by omega)) 128#32 (by decide))) $$ HG
  iintro HG
  iapply (gotV c (8 * k.val + 8) (8 * k.val + 5) (offN (word c arg0 f0 (8 * k.val + 5)).toNat + 256) (by omega) (Offs.off139 k _ (hW.lo (8 * k.val + 5) (by omega)) (hW.hi (8 * k.val + 5) (by omega)) 256#32 (by decide))) $$ HG
  iintro HG
  iapply (gotV c (8 * k.val + 8) (8 * k.val + 5) (offN (word c arg0 f0 (8 * k.val + 5)).toNat + 384) (by omega) (Offs.off139 k _ (hW.lo (8 * k.val + 5) (by omega)) (hW.hi (8 * k.val + 5) (by omega)) 384#32 (by decide))) $$ HG
  iintro HG
  iapply (gotV c (8 * k.val + 8) (8 * k.val + 5) (offN (word c arg0 f0 (8 * k.val + 5)).toNat + 512) (by omega) (Offs.off139 k _ (hW.lo (8 * k.val + 5) (by omega)) (hW.hi (8 * k.val + 5) (by omega)) 512#32 (by decide))) $$ HG
  iintro HG
  iapply (gotV c (8 * k.val + 8) (8 * k.val + 5) (offN (word c arg0 f0 (8 * k.val + 5)).toNat + 640) (by omega) (Offs.off139 k _ (hW.lo (8 * k.val + 5) (by omega)) (hW.hi (8 * k.val + 5) (by omega)) 640#32 (by decide))) $$ HG
  iintro HG
  iapply (gotV c (8 * k.val + 8) (8 * k.val + 5) (offN (word c arg0 f0 (8 * k.val + 5)).toNat + 768) (by omega) (Offs.off139 k _ (hW.lo (8 * k.val + 5) (by omega)) (hW.hi (8 * k.val + 5) (by omega)) 768#32 (by decide))) $$ HG
  iintro HG
  simp only [k0_part45_eq_skeleton]
  unfold k0_part45_skel
  simp only [smem_bind, bind_assoc, pure_bind, Prog.bind_lift, Prog.bind_op, Prog.bind_ret]
  iapply (gotV c (8 * k.val + 8) (8 * k.val + 5) (offN (word c arg0 f0 (8 * k.val + 5)).toNat + 896) (by omega) (Offs.off139 k _ (hW.lo (8 * k.val + 5) (by omega)) (hW.hi (8 * k.val + 5) (by omega)) 896#32 (by decide))) $$ HG
  iintro HG
  iapply (gotS c (8 * k.val + 8) (8 * k.val + 5) (1024) (by omega) (Offs.off141 k)) $$ HG
  iintro HG
  iapply (gotS c (8 * k.val + 8) (8 * k.val + 5) (offN (word c arg0 f0 (8 * k.val + 5)).toNat + 0) (by omega) (Offs.off142 k _ (hW.lo (8 * k.val + 5) (by omega)) (hW.hi (8 * k.val + 5) (by omega)) 0#32 (by decide))) $$ HG
  iintro HG
  iapply (gotS c (8 * k.val + 8) (8 * k.val + 5) (offN (word c arg0 f0 (8 * k.val + 5)).toNat + 128) (by omega) (Offs.off142 k _ (hW.lo (8 * k.val + 5) (by omega)) (hW.hi (8 * k.val + 5) (by omega)) 128#32 (by decide))) $$ HG
  iintro HG
  iapply (gotS c (8 * k.val + 8) (8 * k.val + 5) (offN (word c arg0 f0 (8 * k.val + 5)).toNat + 256) (by omega) (Offs.off142 k _ (hW.lo (8 * k.val + 5) (by omega)) (hW.hi (8 * k.val + 5) (by omega)) 256#32 (by decide))) $$ HG
  iintro HG
  iapply (gotS c (8 * k.val + 8) (8 * k.val + 5) (offN (word c arg0 f0 (8 * k.val + 5)).toNat + 384) (by omega) (Offs.off142 k _ (hW.lo (8 * k.val + 5) (by omega)) (hW.hi (8 * k.val + 5) (by omega)) 384#32 (by decide))) $$ HG
  iintro HG
  iapply (gotS c (8 * k.val + 8) (8 * k.val + 5) (offN (word c arg0 f0 (8 * k.val + 5)).toNat + 512) (by omega) (Offs.off142 k _ (hW.lo (8 * k.val + 5) (by omega)) (hW.hi (8 * k.val + 5) (by omega)) 512#32 (by decide))) $$ HG
  iintro HG
  simp only [k0_part46_eq_skeleton]
  unfold k0_part46_skel
  simp only [smem_bind, bind_assoc, pure_bind, Prog.bind_lift, Prog.bind_op, Prog.bind_ret]
  iapply (gotS c (8 * k.val + 8) (8 * k.val + 5) (offN (word c arg0 f0 (8 * k.val + 5)).toNat + 640) (by omega) (Offs.off142 k _ (hW.lo (8 * k.val + 5) (by omega)) (hW.hi (8 * k.val + 5) (by omega)) 640#32 (by decide))) $$ HG
  iintro HG
  iapply (gotS c (8 * k.val + 8) (8 * k.val + 5) (offN (word c arg0 f0 (8 * k.val + 5)).toNat + 768) (by omega) (Offs.off142 k _ (hW.lo (8 * k.val + 5) (by omega)) (hW.hi (8 * k.val + 5) (by omega)) 768#32 (by decide))) $$ HG
  iintro HG
  iapply (gotS c (8 * k.val + 8) (8 * k.val + 5) (offN (word c arg0 f0 (8 * k.val + 5)).toNat + 896) (by omega) (Offs.off142 k _ (hW.lo (8 * k.val + 5) (by omega)) (hW.hi (8 * k.val + 5) (by omega)) 896#32 (by decide))) $$ HG
  iintro HG
  iapply (hasR3 c xb X (8 * k.val + 5) (Offs.off143 k)) $$ HX
  iintro HX
  iapply (hasR3 c arg1 q (8 * k.val + 5) (Offs.off144 k)) $$ Hq
  iintro Hq
  iapply (hasR2 c nb kn (8 * k.val + 5) (Offs.off145 k)) $$ Hkn
  iintro Hkn
  simp only [k0_part47_eq_skeleton]
  unfold k0_part47_skel
  simp only [smem_bind, bind_assoc, pure_bind, Prog.bind_lift, Prog.bind_op, Prog.bind_ret]
  iapply (hasR2 c mb vn (8 * k.val + 5) (Offs.off145 k)) $$ Hvn
  iintro Hvn
  iapply (loadRows c arg8 (outR (word c arg0 f0) (land (D := 64) src fk) (land (D := 64) src fv) (land (D := 1) src fs) X q kn vn) (8 * k.val + 5)) $$ HR
  iintro %_ HR
  simp only [k0_part48_eq_skeleton]
  unfold k0_part48_skel
  simp only [smem_bind, bind_assoc, pure_bind, Prog.bind_lift, Prog.bind_op, Prog.bind_ret]
  iapply (storeR3 c arg8 (outR (word c arg0 f0) (land (D := 64) src fk) (land (D := 64) src fv) (land (D := 1) src fs) X q kn vn) (8 * k.val + 5) (Offs.off144 k) ((row_5 _ _ _ _ _ _ _ _ _ _ _).trans (row3_outR _ _ _ _ _ _ _ _ _ (by omega)))) $$ HR
  iintro HR
  iapply (loadLen c arg0 f0 (8 * k.val + 6) (Offs.off146 k)) $$ H0
  iintro H0
  iapply (wp_assume Variants.none (c : Thread nD τ) none Set.univ (Offs.chk23 k _ (hW.lo (8 * k.val + 6) (by omega)) (hW.hi (8 * k.val + 6) (by omega))))
  iapply (gotK c (8 * k.val + 8) (8 * k.val + 6) (1024) (by omega) (Offs.off140 k 6#32 (by decide))) $$ HG
  iintro HG
  iapply (gotK c (8 * k.val + 8) (8 * k.val + 6) (offN (word c arg0 f0 (8 * k.val + 6)).toNat + 0) (by omega) (Offs.off147 k _ (hW.lo (8 * k.val + 6) (by omega)) (hW.hi (8 * k.val + 6) (by omega)) 0#32 (by decide))) $$ HG
  iintro HG
  iapply (gotK c (8 * k.val + 8) (8 * k.val + 6) (offN (word c arg0 f0 (8 * k.val + 6)).toNat + 128) (by omega) (Offs.off147 k _ (hW.lo (8 * k.val + 6) (by omega)) (hW.hi (8 * k.val + 6) (by omega)) 128#32 (by decide))) $$ HG
  iintro HG
  iapply (gotK c (8 * k.val + 8) (8 * k.val + 6) (offN (word c arg0 f0 (8 * k.val + 6)).toNat + 256) (by omega) (Offs.off147 k _ (hW.lo (8 * k.val + 6) (by omega)) (hW.hi (8 * k.val + 6) (by omega)) 256#32 (by decide))) $$ HG
  iintro HG
  simp only [k0_part49_eq_skeleton]
  unfold k0_part49_skel
  simp only [smem_bind, bind_assoc, pure_bind, Prog.bind_lift, Prog.bind_op, Prog.bind_ret]
  iapply (gotK c (8 * k.val + 8) (8 * k.val + 6) (offN (word c arg0 f0 (8 * k.val + 6)).toNat + 384) (by omega) (Offs.off147 k _ (hW.lo (8 * k.val + 6) (by omega)) (hW.hi (8 * k.val + 6) (by omega)) 384#32 (by decide))) $$ HG
  iintro HG
  iapply (gotK c (8 * k.val + 8) (8 * k.val + 6) (offN (word c arg0 f0 (8 * k.val + 6)).toNat + 512) (by omega) (Offs.off147 k _ (hW.lo (8 * k.val + 6) (by omega)) (hW.hi (8 * k.val + 6) (by omega)) 512#32 (by decide))) $$ HG
  iintro HG
  iapply (gotK c (8 * k.val + 8) (8 * k.val + 6) (offN (word c arg0 f0 (8 * k.val + 6)).toNat + 640) (by omega) (Offs.off147 k _ (hW.lo (8 * k.val + 6) (by omega)) (hW.hi (8 * k.val + 6) (by omega)) 640#32 (by decide))) $$ HG
  iintro HG
  iapply (gotK c (8 * k.val + 8) (8 * k.val + 6) (offN (word c arg0 f0 (8 * k.val + 6)).toNat + 768) (by omega) (Offs.off147 k _ (hW.lo (8 * k.val + 6) (by omega)) (hW.hi (8 * k.val + 6) (by omega)) 768#32 (by decide))) $$ HG
  iintro HG
  iapply (gotK c (8 * k.val + 8) (8 * k.val + 6) (offN (word c arg0 f0 (8 * k.val + 6)).toNat + 896) (by omega) (Offs.off147 k _ (hW.lo (8 * k.val + 6) (by omega)) (hW.hi (8 * k.val + 6) (by omega)) 896#32 (by decide))) $$ HG
  iintro HG
  iapply (gotV c (8 * k.val + 8) (8 * k.val + 6) (1024) (by omega) (Offs.off148 k 6#32 (by decide))) $$ HG
  iintro HG
  iapply (gotV c (8 * k.val + 8) (8 * k.val + 6) (offN (word c arg0 f0 (8 * k.val + 6)).toNat + 0) (by omega) (Offs.off147 k _ (hW.lo (8 * k.val + 6) (by omega)) (hW.hi (8 * k.val + 6) (by omega)) 0#32 (by decide))) $$ HG
  iintro HG
  simp only [k0_part50_eq_skeleton]
  unfold k0_part50_skel
  simp only [smem_bind, bind_assoc, pure_bind, Prog.bind_lift, Prog.bind_op, Prog.bind_ret]
  iapply (gotV c (8 * k.val + 8) (8 * k.val + 6) (offN (word c arg0 f0 (8 * k.val + 6)).toNat + 128) (by omega) (Offs.off147 k _ (hW.lo (8 * k.val + 6) (by omega)) (hW.hi (8 * k.val + 6) (by omega)) 128#32 (by decide))) $$ HG
  iintro HG
  iapply (gotV c (8 * k.val + 8) (8 * k.val + 6) (offN (word c arg0 f0 (8 * k.val + 6)).toNat + 256) (by omega) (Offs.off147 k _ (hW.lo (8 * k.val + 6) (by omega)) (hW.hi (8 * k.val + 6) (by omega)) 256#32 (by decide))) $$ HG
  iintro HG
  iapply (gotV c (8 * k.val + 8) (8 * k.val + 6) (offN (word c arg0 f0 (8 * k.val + 6)).toNat + 384) (by omega) (Offs.off147 k _ (hW.lo (8 * k.val + 6) (by omega)) (hW.hi (8 * k.val + 6) (by omega)) 384#32 (by decide))) $$ HG
  iintro HG
  iapply (gotV c (8 * k.val + 8) (8 * k.val + 6) (offN (word c arg0 f0 (8 * k.val + 6)).toNat + 512) (by omega) (Offs.off147 k _ (hW.lo (8 * k.val + 6) (by omega)) (hW.hi (8 * k.val + 6) (by omega)) 512#32 (by decide))) $$ HG
  iintro HG
  iapply (gotV c (8 * k.val + 8) (8 * k.val + 6) (offN (word c arg0 f0 (8 * k.val + 6)).toNat + 640) (by omega) (Offs.off147 k _ (hW.lo (8 * k.val + 6) (by omega)) (hW.hi (8 * k.val + 6) (by omega)) 640#32 (by decide))) $$ HG
  iintro HG
  iapply (gotV c (8 * k.val + 8) (8 * k.val + 6) (offN (word c arg0 f0 (8 * k.val + 6)).toNat + 768) (by omega) (Offs.off147 k _ (hW.lo (8 * k.val + 6) (by omega)) (hW.hi (8 * k.val + 6) (by omega)) 768#32 (by decide))) $$ HG
  iintro HG
  iapply (gotV c (8 * k.val + 8) (8 * k.val + 6) (offN (word c arg0 f0 (8 * k.val + 6)).toNat + 896) (by omega) (Offs.off147 k _ (hW.lo (8 * k.val + 6) (by omega)) (hW.hi (8 * k.val + 6) (by omega)) 896#32 (by decide))) $$ HG
  iintro HG
  iapply (gotS c (8 * k.val + 8) (8 * k.val + 6) (1024) (by omega) (Offs.off149 k)) $$ HG
  iintro HG
  simp only [k0_part51_eq_skeleton]
  unfold k0_part51_skel
  simp only [smem_bind, bind_assoc, pure_bind, Prog.bind_lift, Prog.bind_op, Prog.bind_ret]
  iapply (gotS c (8 * k.val + 8) (8 * k.val + 6) (offN (word c arg0 f0 (8 * k.val + 6)).toNat + 0) (by omega) (Offs.off150 k _ (hW.lo (8 * k.val + 6) (by omega)) (hW.hi (8 * k.val + 6) (by omega)) 0#32 (by decide))) $$ HG
  iintro HG
  iapply (gotS c (8 * k.val + 8) (8 * k.val + 6) (offN (word c arg0 f0 (8 * k.val + 6)).toNat + 128) (by omega) (Offs.off150 k _ (hW.lo (8 * k.val + 6) (by omega)) (hW.hi (8 * k.val + 6) (by omega)) 128#32 (by decide))) $$ HG
  iintro HG
  iapply (gotS c (8 * k.val + 8) (8 * k.val + 6) (offN (word c arg0 f0 (8 * k.val + 6)).toNat + 256) (by omega) (Offs.off150 k _ (hW.lo (8 * k.val + 6) (by omega)) (hW.hi (8 * k.val + 6) (by omega)) 256#32 (by decide))) $$ HG
  iintro HG
  iapply (gotS c (8 * k.val + 8) (8 * k.val + 6) (offN (word c arg0 f0 (8 * k.val + 6)).toNat + 384) (by omega) (Offs.off150 k _ (hW.lo (8 * k.val + 6) (by omega)) (hW.hi (8 * k.val + 6) (by omega)) 384#32 (by decide))) $$ HG
  iintro HG
  iapply (gotS c (8 * k.val + 8) (8 * k.val + 6) (offN (word c arg0 f0 (8 * k.val + 6)).toNat + 512) (by omega) (Offs.off150 k _ (hW.lo (8 * k.val + 6) (by omega)) (hW.hi (8 * k.val + 6) (by omega)) 512#32 (by decide))) $$ HG
  iintro HG
  iapply (gotS c (8 * k.val + 8) (8 * k.val + 6) (offN (word c arg0 f0 (8 * k.val + 6)).toNat + 640) (by omega) (Offs.off150 k _ (hW.lo (8 * k.val + 6) (by omega)) (hW.hi (8 * k.val + 6) (by omega)) 640#32 (by decide))) $$ HG
  iintro HG
  iapply (gotS c (8 * k.val + 8) (8 * k.val + 6) (offN (word c arg0 f0 (8 * k.val + 6)).toNat + 768) (by omega) (Offs.off150 k _ (hW.lo (8 * k.val + 6) (by omega)) (hW.hi (8 * k.val + 6) (by omega)) 768#32 (by decide))) $$ HG
  iintro HG
  simp only [k0_part52_eq_skeleton]
  unfold k0_part52_skel
  simp only [smem_bind, bind_assoc, pure_bind, Prog.bind_lift, Prog.bind_op, Prog.bind_ret]
  iapply (gotS c (8 * k.val + 8) (8 * k.val + 6) (offN (word c arg0 f0 (8 * k.val + 6)).toNat + 896) (by omega) (Offs.off150 k _ (hW.lo (8 * k.val + 6) (by omega)) (hW.hi (8 * k.val + 6) (by omega)) 896#32 (by decide))) $$ HG
  iintro HG
  iapply (hasR3 c xb X (8 * k.val + 6) (Offs.off151 k)) $$ HX
  iintro HX
  iapply (hasR3 c arg1 q (8 * k.val + 6) (Offs.off152 k)) $$ Hq
  iintro Hq
  iapply (hasR2 c nb kn (8 * k.val + 6) (Offs.off153 k)) $$ Hkn
  iintro Hkn
  simp only [k0_part53_eq_skeleton]
  unfold k0_part53_skel
  simp only [smem_bind, bind_assoc, pure_bind, Prog.bind_lift, Prog.bind_op, Prog.bind_ret]
  iapply (hasR2 c mb vn (8 * k.val + 6) (Offs.off153 k)) $$ Hvn
  iintro Hvn
  iapply (loadRows c arg8 (outR (word c arg0 f0) (land (D := 64) src fk) (land (D := 64) src fv) (land (D := 1) src fs) X q kn vn) (8 * k.val + 6)) $$ HR
  iintro %_ HR
  iapply (storeR3 c arg8 (outR (word c arg0 f0) (land (D := 64) src fk) (land (D := 64) src fv) (land (D := 1) src fs) X q kn vn) (8 * k.val + 6) (Offs.off152 k) ((row_6 _ _ _ _ _ _ _ _ _ _ _).trans (row3_outR _ _ _ _ _ _ _ _ _ (by omega)))) $$ HR
  iintro HR
  iapply (loadLen c arg0 f0 (8 * k.val + 7) (Offs.off154 k)) $$ H0
  iintro H0
  iapply (wp_assume Variants.none (c : Thread nD τ) none Set.univ (Offs.chk24 k _ (hW.lo (8 * k.val + 7) (by omega)) (hW.hi (8 * k.val + 7) (by omega))))
  simp only [k0_part54_eq_skeleton]
  unfold k0_part54_skel
  simp only [smem_bind, bind_assoc, pure_bind, Prog.bind_lift, Prog.bind_op, Prog.bind_ret]
  iapply (gotK c (8 * k.val + 8) (8 * k.val + 7) (1024) (by omega) (Offs.off148 k 7#32 (by decide))) $$ HG
  iintro HG
  iapply (gotK c (8 * k.val + 8) (8 * k.val + 7) (offN (word c arg0 f0 (8 * k.val + 7)).toNat + 0) (by omega) (Offs.off155 k _ (hW.lo (8 * k.val + 7) (by omega)) (hW.hi (8 * k.val + 7) (by omega)) 0#32 (by decide))) $$ HG
  iintro HG
  iapply (gotK c (8 * k.val + 8) (8 * k.val + 7) (offN (word c arg0 f0 (8 * k.val + 7)).toNat + 128) (by omega) (Offs.off155 k _ (hW.lo (8 * k.val + 7) (by omega)) (hW.hi (8 * k.val + 7) (by omega)) 128#32 (by decide))) $$ HG
  iintro HG
  iapply (gotK c (8 * k.val + 8) (8 * k.val + 7) (offN (word c arg0 f0 (8 * k.val + 7)).toNat + 256) (by omega) (Offs.off155 k _ (hW.lo (8 * k.val + 7) (by omega)) (hW.hi (8 * k.val + 7) (by omega)) 256#32 (by decide))) $$ HG
  iintro HG
  iapply (gotK c (8 * k.val + 8) (8 * k.val + 7) (offN (word c arg0 f0 (8 * k.val + 7)).toNat + 384) (by omega) (Offs.off155 k _ (hW.lo (8 * k.val + 7) (by omega)) (hW.hi (8 * k.val + 7) (by omega)) 384#32 (by decide))) $$ HG
  iintro HG
  simp only [k0_part55_eq_skeleton]
  unfold k0_part55_skel
  simp only [smem_bind, bind_assoc, pure_bind, Prog.bind_lift, Prog.bind_op, Prog.bind_ret]
  iapply (gotK c (8 * k.val + 8) (8 * k.val + 7) (offN (word c arg0 f0 (8 * k.val + 7)).toNat + 512) (by omega) (Offs.off155 k _ (hW.lo (8 * k.val + 7) (by omega)) (hW.hi (8 * k.val + 7) (by omega)) 512#32 (by decide))) $$ HG
  iintro HG
  iapply (gotK c (8 * k.val + 8) (8 * k.val + 7) (offN (word c arg0 f0 (8 * k.val + 7)).toNat + 640) (by omega) (Offs.off155 k _ (hW.lo (8 * k.val + 7) (by omega)) (hW.hi (8 * k.val + 7) (by omega)) 640#32 (by decide))) $$ HG
  iintro HG
  iapply (gotK c (8 * k.val + 8) (8 * k.val + 7) (offN (word c arg0 f0 (8 * k.val + 7)).toNat + 768) (by omega) (Offs.off155 k _ (hW.lo (8 * k.val + 7) (by omega)) (hW.hi (8 * k.val + 7) (by omega)) 768#32 (by decide))) $$ HG
  iintro HG
  iapply (gotK c (8 * k.val + 8) (8 * k.val + 7) (offN (word c arg0 f0 (8 * k.val + 7)).toNat + 896) (by omega) (Offs.off155 k _ (hW.lo (8 * k.val + 7) (by omega)) (hW.hi (8 * k.val + 7) (by omega)) 896#32 (by decide))) $$ HG
  iintro HG
  iapply (gotV c (8 * k.val + 8) (8 * k.val + 7) (1024) (by omega) (Offs.off156 k)) $$ HG
  iintro HG
  iapply (gotV c (8 * k.val + 8) (8 * k.val + 7) (offN (word c arg0 f0 (8 * k.val + 7)).toNat + 0) (by omega) (Offs.off155 k _ (hW.lo (8 * k.val + 7) (by omega)) (hW.hi (8 * k.val + 7) (by omega)) 0#32 (by decide))) $$ HG
  iintro HG
  iapply (gotV c (8 * k.val + 8) (8 * k.val + 7) (offN (word c arg0 f0 (8 * k.val + 7)).toNat + 128) (by omega) (Offs.off155 k _ (hW.lo (8 * k.val + 7) (by omega)) (hW.hi (8 * k.val + 7) (by omega)) 128#32 (by decide))) $$ HG
  iintro HG
  simp only [k0_part56_eq_skeleton]
  unfold k0_part56_skel
  simp only [smem_bind, bind_assoc, pure_bind, Prog.bind_lift, Prog.bind_op, Prog.bind_ret]
  iapply (gotV c (8 * k.val + 8) (8 * k.val + 7) (offN (word c arg0 f0 (8 * k.val + 7)).toNat + 256) (by omega) (Offs.off155 k _ (hW.lo (8 * k.val + 7) (by omega)) (hW.hi (8 * k.val + 7) (by omega)) 256#32 (by decide))) $$ HG
  iintro HG
  iapply (gotV c (8 * k.val + 8) (8 * k.val + 7) (offN (word c arg0 f0 (8 * k.val + 7)).toNat + 384) (by omega) (Offs.off155 k _ (hW.lo (8 * k.val + 7) (by omega)) (hW.hi (8 * k.val + 7) (by omega)) 384#32 (by decide))) $$ HG
  iintro HG
  iapply (gotV c (8 * k.val + 8) (8 * k.val + 7) (offN (word c arg0 f0 (8 * k.val + 7)).toNat + 512) (by omega) (Offs.off155 k _ (hW.lo (8 * k.val + 7) (by omega)) (hW.hi (8 * k.val + 7) (by omega)) 512#32 (by decide))) $$ HG
  iintro HG
  iapply (gotV c (8 * k.val + 8) (8 * k.val + 7) (offN (word c arg0 f0 (8 * k.val + 7)).toNat + 640) (by omega) (Offs.off155 k _ (hW.lo (8 * k.val + 7) (by omega)) (hW.hi (8 * k.val + 7) (by omega)) 640#32 (by decide))) $$ HG
  iintro HG
  iapply (gotV c (8 * k.val + 8) (8 * k.val + 7) (offN (word c arg0 f0 (8 * k.val + 7)).toNat + 768) (by omega) (Offs.off155 k _ (hW.lo (8 * k.val + 7) (by omega)) (hW.hi (8 * k.val + 7) (by omega)) 768#32 (by decide))) $$ HG
  iintro HG
  iapply (gotV c (8 * k.val + 8) (8 * k.val + 7) (offN (word c arg0 f0 (8 * k.val + 7)).toNat + 896) (by omega) (Offs.off155 k _ (hW.lo (8 * k.val + 7) (by omega)) (hW.hi (8 * k.val + 7) (by omega)) 896#32 (by decide))) $$ HG
  iintro HG
  iapply (gotS c (8 * k.val + 8) (8 * k.val + 7) (1024) (by omega) (Offs.off157 k)) $$ HG
  iintro HG
  iapply (gotS c (8 * k.val + 8) (8 * k.val + 7) (offN (word c arg0 f0 (8 * k.val + 7)).toNat + 0) (by omega) (Offs.off158 k _ (hW.lo (8 * k.val + 7) (by omega)) (hW.hi (8 * k.val + 7) (by omega)) 0#32 (by decide))) $$ HG
  iintro HG
  simp only [k0_part57_eq_skeleton]
  unfold k0_part57_skel
  simp only [smem_bind, bind_assoc, pure_bind, Prog.bind_lift, Prog.bind_op, Prog.bind_ret]
  iapply (gotS c (8 * k.val + 8) (8 * k.val + 7) (offN (word c arg0 f0 (8 * k.val + 7)).toNat + 128) (by omega) (Offs.off158 k _ (hW.lo (8 * k.val + 7) (by omega)) (hW.hi (8 * k.val + 7) (by omega)) 128#32 (by decide))) $$ HG
  iintro HG
  iapply (gotS c (8 * k.val + 8) (8 * k.val + 7) (offN (word c arg0 f0 (8 * k.val + 7)).toNat + 256) (by omega) (Offs.off158 k _ (hW.lo (8 * k.val + 7) (by omega)) (hW.hi (8 * k.val + 7) (by omega)) 256#32 (by decide))) $$ HG
  iintro HG
  iapply (gotS c (8 * k.val + 8) (8 * k.val + 7) (offN (word c arg0 f0 (8 * k.val + 7)).toNat + 384) (by omega) (Offs.off158 k _ (hW.lo (8 * k.val + 7) (by omega)) (hW.hi (8 * k.val + 7) (by omega)) 384#32 (by decide))) $$ HG
  iintro HG
  iapply (gotS c (8 * k.val + 8) (8 * k.val + 7) (offN (word c arg0 f0 (8 * k.val + 7)).toNat + 512) (by omega) (Offs.off158 k _ (hW.lo (8 * k.val + 7) (by omega)) (hW.hi (8 * k.val + 7) (by omega)) 512#32 (by decide))) $$ HG
  iintro HG
  iapply (gotS c (8 * k.val + 8) (8 * k.val + 7) (offN (word c arg0 f0 (8 * k.val + 7)).toNat + 640) (by omega) (Offs.off158 k _ (hW.lo (8 * k.val + 7) (by omega)) (hW.hi (8 * k.val + 7) (by omega)) 640#32 (by decide))) $$ HG
  iintro HG
  iapply (gotS c (8 * k.val + 8) (8 * k.val + 7) (offN (word c arg0 f0 (8 * k.val + 7)).toNat + 768) (by omega) (Offs.off158 k _ (hW.lo (8 * k.val + 7) (by omega)) (hW.hi (8 * k.val + 7) (by omega)) 768#32 (by decide))) $$ HG
  iintro HG
  iapply (gotS c (8 * k.val + 8) (8 * k.val + 7) (offN (word c arg0 f0 (8 * k.val + 7)).toNat + 896) (by omega) (Offs.off158 k _ (hW.lo (8 * k.val + 7) (by omega)) (hW.hi (8 * k.val + 7) (by omega)) 896#32 (by decide))) $$ HG
  iintro HG
  iapply (hasR3 c xb X (8 * k.val + 7) (Offs.off159 k)) $$ HX
  iintro HX
  simp only [k0_part58_eq_skeleton]
  unfold k0_part58_skel
  simp only [smem_bind, bind_assoc, pure_bind, Prog.bind_lift, Prog.bind_op, Prog.bind_ret]
  iapply (hasR3 c arg1 q (8 * k.val + 7) (Offs.off160 k)) $$ Hq
  iintro Hq
  iapply (hasR2 c nb kn (8 * k.val + 7) (Offs.off161 k)) $$ Hkn
  iintro Hkn
  iapply (hasR2 c mb vn (8 * k.val + 7) (Offs.off161 k)) $$ Hvn
  iintro Hvn
  iapply (loadRows c arg8 (outR (word c arg0 f0) (land (D := 64) src fk) (land (D := 64) src fv) (land (D := 1) src fs) X q kn vn) (8 * k.val + 7)) $$ HR
  iintro %_ HR
  iapply (storeR3 c arg8 (outR (word c arg0 f0) (land (D := 64) src fk) (land (D := 64) src fv) (land (D := 1) src fs) X q kn vn) (8 * k.val + 7) (Offs.off160 k) ((row_7 _ _ _ _ _ _ _ _ _ _ _).trans (row3_outR _ _ _ _ _ _ _ _ _ (by omega)))) $$ HR
  iintro HR
  iapply (wp_done c (Q := Q))
  iapply HQ
  isplitl [H0]; · iexact H0
  isplitl [HV]; · iexact HV
  isplitl [HO]; · iexact HO
  isplitl [HG]; · iexact HG
  isplitl [Hq]; · iexact Hq
  isplitl [HX]; · iexact HX
  isplitl [Hkn]; · iexact Hkn
  isplitl [Hvn]; · iexact Hvn
  iexact HR

end Cert.KernelIdeal.Hand
-- ==== Proof.KIL2.lean ====
/-
The second loop: the groups of copies are waited for in order and their batches computed.
-/
module
public import proofs.«01_k».proof.Proof.KIT2
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (arg0 : Memref sig .tc .smem S64 .i32) (harg0 : arg0.IsWhole) (arg1 : Memref sig .tc .vmem S64x16x64 .bf16) (harg1 : arg1.IsWhole)
  (arg2 : Memref sig .tc .vmem S64x64 .bf16) (harg2 : arg2.IsWhole) (arg3 : Memref sig .tc .vmem S64x64 .bf16) (harg3 : arg3.IsWhole)
  (arg4 : Memref sig .tc .vmem S64x64 .f32) (harg4 : arg4.IsWhole) (arg8 : Memref sig .tc .vmem S64x16x64 .bf16) (harg8 : arg8.IsWhole)
  (arg9 : Memref sig .tc .vmem S64x64 .i8) (harg9 : arg9.IsWhole) (arg10 : Memref sig .tc .vmem S64x64 .i8) (harg10 : arg10.IsWhole)
  (arg11 : Memref sig .tc .vmem S1x64 .f32) (harg11 : arg11.IsWhole)

/-- Before trip `k` of the second loop: the first `k` groups have landed and their output rows are written. -/
def inv2 (c : Dev nD) (arg0 : Memref sig .tc .smem S64 .i32) (arg1 : Memref sig .tc .vmem S64x16x64 .bf16) (arg8 : Memref sig .tc .vmem S64x16x64 .bf16) (f0 : HbBuf (F := F) c arg0) (src : ℕ → ℕ)
    (fk : HbBuf (F := F) c hk) (fv : HbBuf (F := F) c hv) (fs : HbBuf (F := F) c hs)
    (X : S64x64x128.Idx → Elt F .bf16) (q : S64x16x64.Idx → Elt F .bf16) (kn vn : S64x64.Idx → Elt F .f32) (k : ℕ) : sProp 𝕄 :=
  iprop(Lens c arg0 f0 ∗ ow c ∗ got c src fk fv fs (8 * k) ∗ Has c arg1 q ∗ Has c xb X ∗ Has c nb kn ∗ Has c mb vn ∗ Rows c arg8 (outR (word c arg0 f0) (land (D := 64) src fk) (land (D := 64) src fv) (land (D := 1) src fs) X q kn vn) (8 * k)
    ∗ bigSep (Ring.rangeSet 8 0 k) (fun g => semVal ((c : Thread nD τ), SemLoc.dma (cell g.val g.isLt)) 0)
    ∗ bigSep (Ring.rangeSet 8 k 8) (fun g => batch c src fk fv fs g.val g.isLt 24 0))

theorem loop2_step (c : Dev nD) (f0 : HbBuf (F := F) c arg0) (src : ℕ → ℕ)
    (fk : HbBuf (F := F) c hk) (fv : HbBuf (F := F) c hv) (fs : HbBuf (F := F) c hs)
    (X : S64x64x128.Idx → Elt F .bf16) (q : S64x16x64.Idx → Elt F .bf16) (kn vn : S64x64.Idx → Elt F .f32)
    (hW : Words c arg0 f0 src) (k : Fin k0_t2_loop.trips) (acc : Unit) :
    inv2 c arg0 arg1 arg8 f0 src fk fv fs X q kn vn k.val ⊢
      wp frame (wpE (defs₀ (F := F)) Variants.none (c : Thread nD τ) none) Set.univ
        (k0_t2_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6 (iota .tc S1x128 32 [1] iota_S1x128_d1_w32) k acc) (fun _ => inv2 c arg0 arg1 arg8 f0 src fk fv fs X q kn vn (k.val + 1)) := by
  have hk8 := Offs.lt2 k
  unfold inv2
  rw [Ring.bigSep_rangeSet_head (NB := 8) (lo := k.val) (hi := 8) (Φ := fun g : Fin 8 => batch c src fk fv fs g.val g.isLt 24 0) hk8 hk8]
  iintro ⟨H0, HO, HG, Hq, HX, Hkn, Hvn, HR, Hcs, HB, HBs⟩
  iapply (trip2 (F := F) arg0 harg0 arg1 harg1 arg2 harg2 arg3 harg3 arg4 harg4 arg8 harg8 arg9 harg9 arg10 harg10 arg11 harg11 c k f0 src fk fv fs X q kn vn _ hW)
  isplitl [H0]; · iexact H0
  isplitl [HB]; · iexact HB
  isplitl [HO]; · iexact HO
  isplitl [HG]; · iexact HG
  isplitl [Hq]; · iexact Hq
  isplitl [HX]; · iexact HX
  isplitl [Hkn]; · iexact Hkn
  isplitl [Hvn]; · iexact Hvn
  isplitl [HR]; · iexact HR
  iintro ⟨H0, Hc, HO, HG, Hq, HX, Hkn, Hvn, HR⟩
  isplitl [H0]; · iexact H0
  isplitl [HO]; · iexact HO
  isplitl [HG]; · iexact HG
  isplitl [Hq]; · iexact Hq
  isplitl [HX]; · iexact HX
  isplitl [Hkn]; · iexact Hkn
  isplitl [Hvn]; · iexact Hvn
  isplitl [HR]; · iexact HR
  rw [Ring.bigSep_rangeSet_last (NB := 8) (lo := 0) (hi := k.val + 1) (Φ := fun g : Fin 8 => semVal ((c : Thread nD τ), SemLoc.dma (cell g.val g.isLt)) 0) (by omega) (by omega)]
  isplitr [HBs]
  · isplitl [Hc]; · iexact Hc
    iexact Hcs
  iexact HBs

set_option maxRecDepth 8000 in
set_option pp.maxSteps 200 in
theorem loop2 (c : Dev nD) (f0 : HbBuf (F := F) c arg0) (src : ℕ → ℕ)
    (fk : HbBuf (F := F) c hk) (fv : HbBuf (F := F) c hv) (fs : HbBuf (F := F) c hs)
    (X : S64x64x128.Idx → Elt F .bf16) (q : S64x16x64.Idx → Elt F .bf16) (kn vn : S64x64.Idx → Elt F .f32)
    (hW : Words c arg0 f0 src) {β : Type} {kk : Unit → Prog (TpuEff nD τ sig (Elt F) Λ₀ .tc) β} {Q : β → sProp 𝕄} :
    inv2 c arg0 arg1 arg8 f0 src fk fv fs X q kn vn 0 ⊢
      iprop((inv2 c arg0 arg1 arg8 f0 src fk fv fs X q kn vn 8 -∗ wp frame (wpE (defs₀ (F := F)) Variants.none (c : Thread nD τ) none) Set.univ (kk ()) Q)
        -∗ wp frame (wpE (defs₀ (F := F)) Variants.none (c : Thread nD τ) none) Set.univ
          (Scf.Loop.for k0_t2_loop k0_t2_ok ⟨⟩ (k0_t2_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6 (iota .tc S1x128 32 [1] iota_S1x128_d1_w32)) >>= kk) Q) := by
  refine (Scf.wp_for_bind frame (wpE (defs₀ (F := F)) Variants.none (c : Thread nD τ) none) Set.univ _ _ _ k0_t2_ok () (k0_t2_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6 (iota .tc S1x128 32 [1] iota_S1x128_d1_w32))
    (fun k _ => inv2 c arg0 arg1 arg8 f0 src fk fv fs X q kn vn k)
    ?st (kk := kk) (Q := Q)).trans ?_
  case st =>
    intro k acc
    have H := loop2_step (F := F) arg0 harg0 arg1 harg1 arg2 harg2 arg3 harg3 arg4 harg4 arg8 harg8 arg9 harg9 arg10 harg10 arg11 harg11 c f0 src fk fv fs X q kn vn hW k acc
    convert H using 1
  refine wand_mono_left ?_
  iintro H %acc
  have e : k0_t2_loop.trips = 8 := Offs.trips2
  rw [show Scf.trips k0_t2_loop.lb k0_t2_loop.ub k0_t2_loop.st = 8 from e]
  iexact H

end Cert.KernelIdeal.Hand
-- ==== Proof.KIT1.lean ====
/-
The first loop: trip `k` starts the copies of the eight batches of group `k`.
-/
module
public import proofs.«01_k».proof.Proof.KIWords
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (arg0 : Memref sig .tc .smem S64 .i32) (harg0 : arg0.IsWhole) (arg1 : Memref sig .tc .vmem S64x16x64 .bf16) (harg1 : arg1.IsWhole)
  (arg2 : Memref sig .tc .vmem S64x64 .bf16) (harg2 : arg2.IsWhole) (arg3 : Memref sig .tc .vmem S64x64 .bf16) (harg3 : arg3.IsWhole)
  (arg4 : Memref sig .tc .vmem S64x64 .f32) (harg4 : arg4.IsWhole) (arg8 : Memref sig .tc .vmem S64x16x64 .bf16) (harg8 : arg8.IsWhole)
  (arg9 : Memref sig .tc .vmem S64x64 .i8) (harg9 : arg9.IsWhole) (arg10 : Memref sig .tc .vmem S64x64 .i8) (harg10 : arg10.IsWhole)
  (arg11 : Memref sig .tc .vmem S1x64 .f32) (harg11 : arg11.IsWhole)

theorem trip1 (c : Dev nD) (k : Fin k0_t1_loop.trips) (f0 : HbBuf (F := F) c arg0) (src : ℕ → ℕ)
    (fk : HbBuf (F := F) c hk) (fv : HbBuf (F := F) c hv) (fs : HbBuf (F := F) c hs)
    (fdk : HbBuf (F := F) c kb) (fdv : HbBuf (F := F) c vb) (fds : HbBuf (F := F) c sb) (Q : Unit → sProp 𝕄)
    (hW : Words c arg0 f0 src) :
    iprop(onS c arg0 arg0.view.set f0 ∗ onS c hk (winRem src (8 * k.val)) fk ∗ onS c hv (winRem src (8 * k.val)) fv ∗ onS c hs (winRem src (8 * k.val)) fs
        ∗ onS c kb (slabGe (8 * k.val)) fdk ∗ onS c vb (slabGe (8 * k.val)) fdv ∗ onS c sb (slabGe (8 * k.val)) fds
        ∗ batch c src fk fv fs k.val (Offs.lt1 k) 0 0
        ∗ (iprop(onS c arg0 arg0.view.set f0 ∗ onS c hk (winRem src (8 * k.val + 8)) fk ∗ onS c hv (winRem src (8 * k.val + 8)) fv ∗ onS c hs (winRem src (8 * k.val + 8)) fs
            ∗ onS c kb (slabGe (8 * k.val + 8)) fdk ∗ onS c vb (slabGe (8 * k.val + 8)) fdv ∗ onS c sb (slabGe (8 * k.val + 8)) fds
            ∗ batch c src fk fv fs k.val (Offs.lt1 k) 24 0) -∗ Q ()))
      ⊢ wp frame (wpE (defs₀ (F := F)) Variants.none (c : Thread nD τ) none) Set.univ
        (k0_t1_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6 k ()) Q := by
  have hk8 := Offs.lt1 k
  iintro ⟨H0, Hk, Hv, Hs, Hdk, Hdv, Hds, HB, HQ⟩
  unfold k0_t1_body
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  sl_exec
  iapply (wp_assume Variants.none (c : Thread nD τ) none Set.univ (Offs.chk1 k _ (hW.lo' (Offs.off1 k) _ _) (hW.hi' (Offs.off1 k) _ _)))
  sl_exec
  iapply (issueK c src fk fv fs fdk k.val 0 (8 * k.val + 0) (Offs.lt1 k) (by omega) (by omega) (by omega) (hW.le (by omega))
    _ _ (Offs.off3 k) ((Offs.off4 k _ (hW.lo' (Offs.off1 k) _ _) (hW.hi' (Offs.off1 k) _ _)).trans (by rw [hW.eq' (Offs.off1 k) _ _])) _ _ (sem_at _ _ (Offs.lt1 k) (Offs.off2 k) _ _)) $$ [Hk Hdk HB]
  · isplitl [Hk]; · iexact Hk
    isplitl [Hdk]; · iexact Hdk
    iexact HB
  iintro ⟨Hk, Hdk, HB⟩
  sl_exec
  iapply (issueV c src fk fv fs fdv k.val 1 (8 * k.val + 0) (Offs.lt1 k) (by omega) (by omega) (by omega) (hW.le (by omega))
    _ _ (Offs.off3 k) ((Offs.off4 k _ (hW.lo' (Offs.off1 k) _ _) (hW.hi' (Offs.off1 k) _ _)).trans (by rw [hW.eq' (Offs.off1 k) _ _])) _ _ (sem_at _ _ (Offs.lt1 k) (Offs.off2 k) _ _)) $$ [Hv Hdv HB]
  · isplitl [Hv]; · iexact Hv
    isplitl [Hdv]; · iexact Hdv
    iexact HB
  iintro ⟨Hv, Hdv, HB⟩
  sl_exec
  iapply (issueS c src fk fv fs fds k.val 2 (8 * k.val + 0) (Offs.lt1 k) (by omega) (by omega) (by omega) (hW.le (by omega))
    _ _ (Offs.off5 k) ((Offs.off6 k _ (hW.lo' (Offs.off1 k) _ _) (hW.hi' (Offs.off1 k) _ _)).trans (by rw [hW.eq' (Offs.off1 k) _ _])) _ _ (sem_at _ _ (Offs.lt1 k) (Offs.off2 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk2 k _ (hW.lo' (Offs.off7 k) _ _) (hW.hi' (Offs.off7 k) _ _)))
  sl_exec
  iapply (issueK c src fk fv fs fdk k.val 3 (8 * k.val + 1) (Offs.lt1 k) (by omega) (by omega) (by omega) (hW.le (by omega))
    _ _ (Offs.off9 k) ((Offs.off10 k _ (hW.lo' (Offs.off7 k) _ _) (hW.hi' (Offs.off7 k) _ _)).trans (by rw [hW.eq' (Offs.off7 k) _ _])) _ _ (sem_at _ _ (Offs.lt1 k) (Offs.off8 k) _ _)) $$ [Hk Hdk HB]
  · isplitl [Hk]; · iexact Hk
    isplitl [Hdk]; · iexact Hdk
    iexact HB
  iintro ⟨Hk, Hdk, HB⟩
  sl_exec
  iapply (issueV c src fk fv fs fdv k.val 4 (8 * k.val + 1) (Offs.lt1 k) (by omega) (by omega) (by omega) (hW.le (by omega))
    _ _ (Offs.off9 k) ((Offs.off10 k _ (hW.lo' (Offs.off7 k) _ _) (hW.hi' (Offs.off7 k) _ _)).trans (by rw [hW.eq' (Offs.off7 k) _ _])) _ _ (sem_at _ _ (Offs.lt1 k) (Offs.off8 k) _ _)) $$ [Hv Hdv HB]
  · isplitl [Hv]; · iexact Hv
    isplitl [Hdv]; · iexact Hdv
    iexact HB
  iintro ⟨Hv, Hdv, HB⟩
  sl_exec
  iapply (issueS c src fk fv fs fds k.val 5 (8 * k.val + 1) (Offs.lt1 k) (by omega) (by omega) (by omega) (hW.le (by omega))
    _ _ (Offs.off11 k) ((Offs.off12 k _ (hW.lo' (Offs.off7 k) _ _) (hW.hi' (Offs.off7 k) _ _)).trans (by rw [hW.eq' (Offs.off7 k) _ _])) _ _ (sem_at _ _ (Offs.lt1 k) (Offs.off8 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk3 k _ (hW.lo' (Offs.off13 k) _ _) (hW.hi' (Offs.off13 k) _ _)))
  sl_exec
  iapply (issueK c src fk fv fs fdk k.val 6 (8 * k.val + 2) (Offs.lt1 k) (by omega) (by omega) (by omega) (hW.le (by omega))
    _ _ (Offs.off15 k) ((Offs.off16 k _ (hW.lo' (Offs.off13 k) _ _) (hW.hi' (Offs.off13 k) _ _)).trans (by rw [hW.eq' (Offs.off13 k) _ _])) _ _ (sem_at _ _ (Offs.lt1 k) (Offs.off14 k) _ _)) $$ [Hk Hdk HB]
  · isplitl [Hk]; · iexact Hk
    isplitl [Hdk]; · iexact Hdk
    iexact HB
  iintro ⟨Hk, Hdk, HB⟩
  sl_exec
  iapply (issueV c src fk fv fs fdv k.val 7 (8 * k.val + 2) (Offs.lt1 k) (by omega) (by omega) (by omega) (hW.le (by omega))
    _ _ (Offs.off15 k) ((Offs.off16 k _ (hW.lo' (Offs.off13 k) _ _) (hW.hi' (Offs.off13 k) _ _)).trans (by rw [hW.eq' (Offs.off13 k) _ _])) _ _ (sem_at _ _ (Offs.lt1 k) (Offs.off14 k) _ _)) $$ [Hv Hdv HB]
  · isplitl [Hv]; · iexact Hv
    isplitl [Hdv]; · iexact Hdv
    iexact HB
  iintro ⟨Hv, Hdv, HB⟩
  sl_exec
  iapply (issueS c src fk fv fs fds k.val 8 (8 * k.val + 2) (Offs.lt1 k) (by omega) (by omega) (by omega) (hW.le (by omega))
    _ _ (Offs.off17 k) ((Offs.off18 k _ (hW.lo' (Offs.off13 k) _ _) (hW.hi' (Offs.off13 k) _ _)).trans (by rw [hW.eq' (Offs.off13 k) _ _])) _ _ (sem_at _ _ (Offs.lt1 k) (Offs.off14 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk4 k _ (hW.lo' (Offs.off19 k) _ _) (hW.hi' (Offs.off19 k) _ _)))
  sl_exec
  iapply (issueK c src fk fv fs fdk k.val 9 (8 * k.val + 3) (Offs.lt1 k) (by omega) (by omega) (by omega) (hW.le (by omega))
    _ _ (Offs.off21 k) ((Offs.off22 k _ (hW.lo' (Offs.off19 k) _ _) (hW.hi' (Offs.off19 k) _ _)).trans (by rw [hW.eq' (Offs.off19 k) _ _])) _ _ (sem_at _ _ (Offs.lt1 k) (Offs.off20 k) _ _)) $$ [Hk Hdk HB]
  · isplitl [Hk]; · iexact Hk
    isplitl [Hdk]; · iexact Hdk
    iexact HB
  iintro ⟨Hk, Hdk, HB⟩
  sl_exec
  iapply (issueV c src fk fv fs fdv k.val 10 (8 * k.val + 3) (Offs.lt1 k) (by omega) (by omega) (by omega) (hW.le (by omega))
    _ _ (Offs.off21 k) ((Offs.off22 k _ (hW.lo' (Offs.off19 k) _ _) (hW.hi' (Offs.off19 k) _ _)).trans (by rw [hW.eq' (Offs.off19 k) _ _])) _ _ (sem_at _ _ (Offs.lt1 k) (Offs.off20 k) _ _)) $$ [Hv Hdv HB]
  · isplitl [Hv]; · iexact Hv
    isplitl [Hdv]; · iexact Hdv
    iexact HB
  iintro ⟨Hv, Hdv, HB⟩
  sl_exec
  iapply (issueS c src fk fv fs fds k.val 11 (8 * k.val + 3) (Offs.lt1 k) (by omega) (by omega) (by omega) (hW.le (by omega))
    _ _ (Offs.off23 k) ((Offs.off24 k _ (hW.lo' (Offs.off19 k) _ _) (hW.hi' (Offs.off19 k) _ _)).trans (by rw [hW.eq' (Offs.off19 k) _ _])) _ _ (sem_at _ _ (Offs.lt1 k) (Offs.off20 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk5 k _ (hW.lo' (Offs.off25 k) _ _) (hW.hi' (Offs.off25 k) _ _)))
  sl_exec
  iapply (issueK c src fk fv fs fdk k.val 12 (8 * k.val + 4) (Offs.lt1 k) (by omega) (by omega) (by omega) (hW.le (by omega))
    _ _ (Offs.off27 k) ((Offs.off28 k _ (hW.lo' (Offs.off25 k) _ _) (hW.hi' (Offs.off25 k) _ _)).trans (by rw [hW.eq' (Offs.off25 k) _ _])) _ _ (sem_at _ _ (Offs.lt1 k) (Offs.off26 k) _ _)) $$ [Hk Hdk HB]
  · isplitl [Hk]; · iexact Hk
    isplitl [Hdk]; · iexact Hdk
    iexact HB
  iintro ⟨Hk, Hdk, HB⟩
  sl_exec
  iapply (issueV c src fk fv fs fdv k.val 13 (8 * k.val + 4) (Offs.lt1 k) (by omega) (by omega) (by omega) (hW.le (by omega))
    _ _ (Offs.off27 k) ((Offs.off28 k _ (hW.lo' (Offs.off25 k) _ _) (hW.hi' (Offs.off25 k) _ _)).trans (by rw [hW.eq' (Offs.off25 k) _ _])) _ _ (sem_at _ _ (Offs.lt1 k) (Offs.off26 k) _ _)) $$ [Hv Hdv HB]
  · isplitl [Hv]; · iexact Hv
    isplitl [Hdv]; · iexact Hdv
    iexact HB
  iintro ⟨Hv, Hdv, HB⟩
  sl_exec
  iapply (issueS c src fk fv fs fds k.val 14 (8 * k.val + 4) (Offs.lt1 k) (by omega) (by omega) (by omega) (hW.le (by omega))
    _ _ (Offs.off29 k) ((Offs.off30 k _ (hW.lo' (Offs.off25 k) _ _) (hW.hi' (Offs.off25 k) _ _)).trans (by rw [hW.eq' (Offs.off25 k) _ _])) _ _ (sem_at _ _ (Offs.lt1 k) (Offs.off26 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk6 k _ (hW.lo' (Offs.off31 k) _ _) (hW.hi' (Offs.off31 k) _ _)))
  sl_exec
  iapply (issueK c src fk fv fs fdk k.val 15 (8 * k.val + 5) (Offs.lt1 k) (by omega) (by omega) (by omega) (hW.le (by omega))
    _ _ (Offs.off33 k) ((Offs.off34 k _ (hW.lo' (Offs.off31 k) _ _) (hW.hi' (Offs.off31 k) _ _)).trans (by rw [hW.eq' (Offs.off31 k) _ _])) _ _ (sem_at _ _ (Offs.lt1 k) (Offs.off32 k) _ _)) $$ [Hk Hdk HB]
  · isplitl [Hk]; · iexact Hk
    isplitl [Hdk]; · iexact Hdk
    iexact HB
  iintro ⟨Hk, Hdk, HB⟩
  sl_exec
  iapply (issueV c src fk fv fs fdv k.val 16 (8 * k.val + 5) (Offs.lt1 k) (by omega) (by omega) (by omega) (hW.le (by omega))
    _ _ (Offs.off33 k) ((Offs.off34 k _ (hW.lo' (Offs.off31 k) _ _) (hW.hi' (Offs.off31 k) _ _)).trans (by rw [hW.eq' (Offs.off31 k) _ _])) _ _ (sem_at _ _ (Offs.lt1 k) (Offs.off32 k) _ _)) $$ [Hv Hdv HB]
  · isplitl [Hv]; · iexact Hv
    isplitl [Hdv]; · iexact Hdv
    iexact HB
  iintro ⟨Hv, Hdv, HB⟩
  sl_exec
  iapply (issueS c src fk fv fs fds k.val 17 (8 * k.val + 5) (Offs.lt1 k) (by omega) (by omega) (by omega) (hW.le (by omega))
    _ _ (Offs.off35 k) ((Offs.off36 k _ (hW.lo' (Offs.off31 k) _ _) (hW.hi' (Offs.off31 k) _ _)).trans (by rw [hW.eq' (Offs.off31 k) _ _])) _ _ (sem_at _ _ (Offs.lt1 k) (Offs.off32 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk7 k _ (hW.lo' (Offs.off37 k) _ _) (hW.hi' (Offs.off37 k) _ _)))
  sl_exec
  iapply (issueK c src fk fv fs fdk k.val 18 (8 * k.val + 6) (Offs.lt1 k) (by omega) (by omega) (by omega) (hW.le (by omega))
    _ _ (Offs.off39 k) ((Offs.off40 k _ (hW.lo' (Offs.off37 k) _ _) (hW.hi' (Offs.off37 k) _ _)).trans (by rw [hW.eq' (Offs.off37 k) _ _])) _ _ (sem_at _ _ (Offs.lt1 k) (Offs.off38 k) _ _)) $$ [Hk Hdk HB]
  · isplitl [Hk]; · iexact Hk
    isplitl [Hdk]; · iexact Hdk
    iexact HB
  iintro ⟨Hk, Hdk, HB⟩
  sl_exec
  iapply (issueV c src fk fv fs fdv k.val 19 (8 * k.val + 6) (Offs.lt1 k) (by omega) (by omega) (by omega) (hW.le (by omega))
    _ _ (Offs.off39 k) ((Offs.off40 k _ (hW.lo' (Offs.off37 k) _ _) (hW.hi' (Offs.off37 k) _ _)).trans (by rw [hW.eq' (Offs.off37 k) _ _])) _ _ (sem_at _ _ (Offs.lt1 k) (Offs.off38 k) _ _)) $$ [Hv Hdv HB]
  · isplitl [Hv]; · iexact Hv
    isplitl [Hdv]; · iexact Hdv
    iexact HB
  iintro ⟨Hv, Hdv, HB⟩
  sl_exec
  iapply (issueS c src fk fv fs fds k.val 20 (8 * k.val + 6) (Offs.lt1 k) (by omega) (by omega) (by omega) (hW.le (by omega))
    _ _ (Offs.off41 k) ((Offs.off42 k _ (hW.lo' (Offs.off37 k) _ _) (hW.hi' (Offs.off37 k) _ _)).trans (by rw [hW.eq' (Offs.off37 k) _ _])) _ _ (sem_at _ _ (Offs.lt1 k) (Offs.off38 k) _ _)) $$ [Hs Hds HB]
  · isplitl [Hs]; · iexact Hs
    isplitl [Hds]; · iexact Hds
    iexact HB
  iintro ⟨Hs, Hds, HB⟩
  sl_exec
  iapply (wp_assume Variants.none (c : Thread nD τ) none Set.univ (Offs.chk8 k _ (hW.lo' (Offs.off43 k) _ _) (hW.hi' (Offs.off43 k) _ _)))
  sl_exec
  iapply (issueK c src fk fv fs fdk k.val 21 (8 * k.val + 7) (Offs.lt1 k) (by omega) (by omega) (by omega) (hW.le (by omega))
    _ _ (Offs.off45 k) ((Offs.off46 k _ (hW.lo' (Offs.off43 k) _ _) (hW.hi' (Offs.off43 k) _ _)).trans (by rw [hW.eq' (Offs.off43 k) _ _])) _ _ (sem_at _ _ (Offs.lt1 k) (Offs.off44 k) _ _)) $$ [Hk Hdk HB]
  · isplitl [Hk]; · iexact Hk
    isplitl [Hdk]; · iexact Hdk
    iexact HB
  iintro ⟨Hk, Hdk, HB⟩
  sl_exec
  iapply (issueV c src fk fv fs fdv k.val 22 (8 * k.val + 7) (Offs.lt1 k) (by omega) (by omega) (by omega) (hW.le (by omega))
    _ _ (Offs.off45 k) ((Offs.off46 k _ (hW.lo' (Offs.off43 k) _ _) (hW.hi' (Offs.off43 k) _ _)).trans (by rw [hW.eq' (Offs.off43 k) _ _])) _ _ (sem_at _ _ (Offs.lt1 k) (Offs.off44 k) _ _)) $$ [Hv Hdv HB]
  · isplitl [Hv]; · iexact Hv
    isplitl [Hdv]; · iexact Hdv
    iexact HB
  iintro ⟨Hv, Hdv, HB⟩
  iapply (issueS c src fk fv fs fds k.val 23 (8 * k.val + 7) (Offs.lt1 k) (by omega) (by omega) (by omega) (hW.le (by omega))
    _ _ (Offs.off47 k) ((Offs.off48 k _ (hW.lo' (Offs.off43 k) _ _) (hW.hi' (Offs.off43 k) _ _)).trans (by rw [hW.eq' (Offs.off43 k) _ _])) _ _ (sem_at _ _ (Offs.lt1 k) (Offs.off44 k) _ _)) $$ [Hs Hds HB]
  · isplitl [Hs]; · iexact Hs
    isplitl [Hds]; · iexact Hds
    iexact HB
  iintro ⟨Hs, Hds, HB⟩
  iapply (wp_done c (Q := Q))
  iapply HQ
  isplitl [H0]; · iexact H0
  isplitl [Hk]; · iexact Hk
  isplitl [Hv]; · iexact Hv
  isplitl [Hs]; · iexact Hs
  isplitl [Hdk]; · iexact Hdk
  isplitl [Hdv]; · iexact Hdv
  isplitl [Hds]; · iexact Hds
  iexact HB

end Cert.KernelIdeal.Hand
-- ==== Proof.KIL1.lean ====
/-
The first loop: all copies are started, group by group.
-/
module
public import proofs.«01_k».proof.Proof.KIT1
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (arg0 : Memref sig .tc .smem S64 .i32) (harg0 : arg0.IsWhole) (arg1 : Memref sig .tc .vmem S64x16x64 .bf16) (harg1 : arg1.IsWhole)
  (arg2 : Memref sig .tc .vmem S64x64 .bf16) (harg2 : arg2.IsWhole) (arg3 : Memref sig .tc .vmem S64x64 .bf16) (harg3 : arg3.IsWhole)
  (arg4 : Memref sig .tc .vmem S64x64 .f32) (harg4 : arg4.IsWhole) (arg8 : Memref sig .tc .vmem S64x16x64 .bf16) (harg8 : arg8.IsWhole)
  (arg9 : Memref sig .tc .vmem S64x64 .i8) (harg9 : arg9.IsWhole) (arg10 : Memref sig .tc .vmem S64x64 .i8) (harg10 : arg10.IsWhole)
  (arg11 : Memref sig .tc .vmem S1x64 .f32) (harg11 : arg11.IsWhole)

/-- Before trip `k` of the first loop: the copies of the first `k` groups are in flight. -/
def inv1 (c : Dev nD) (arg0 : Memref sig .tc .smem S64 .i32) (f0 : HbBuf (F := F) c arg0) (src : ℕ → ℕ)
    (fk : HbBuf (F := F) c hk) (fv : HbBuf (F := F) c hv) (fs : HbBuf (F := F) c hs)
    (fdk : HbBuf (F := F) c kb) (fdv : HbBuf (F := F) c vb) (fds : HbBuf (F := F) c sb) (k : ℕ) : sProp 𝕄 :=
  iprop(onS c arg0 arg0.view.set f0 ∗ onS c hk (winRem src (8 * k)) fk ∗ onS c hv (winRem src (8 * k)) fv ∗ onS c hs (winRem src (8 * k)) fs
    ∗ onS c kb (slabGe (8 * k)) fdk ∗ onS c vb (slabGe (8 * k)) fdv ∗ onS c sb (slabGe (8 * k)) fds
    ∗ bigSep (Ring.rangeSet 8 0 k) (fun g => batch c src fk fv fs g.val g.isLt 24 0)
    ∗ bigSep (Ring.rangeSet 8 k 8) (fun g => semVal ((c : Thread nD τ), SemLoc.dma (cell g.val g.isLt)) 0))

theorem loop1_step (c : Dev nD) (f0 : HbBuf (F := F) c arg0) (src : ℕ → ℕ)
    (fk : HbBuf (F := F) c hk) (fv : HbBuf (F := F) c hv) (fs : HbBuf (F := F) c hs)
    (fdk : HbBuf (F := F) c kb) (fdv : HbBuf (F := F) c vb) (fds : HbBuf (F := F) c sb)
    (hW : Words c arg0 f0 src) (k : Fin k0_t1_loop.trips) (acc : Unit) :
    inv1 c arg0 f0 src fk fv fs fdk fdv fds k.val ⊢
      wp frame (wpE (defs₀ (F := F)) Variants.none (c : Thread nD τ) none) Set.univ
        (k0_t1_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6 k acc) (fun _ => inv1 c arg0 f0 src fk fv fs fdk fdv fds (k.val + 1)) := by
  have hk8 := Offs.lt1 k
  unfold inv1
  rw [Ring.bigSep_rangeSet_head (NB := 8) (lo := k.val) (hi := 8) (Φ := fun g : Fin 8 => semVal ((c : Thread nD τ), SemLoc.dma (cell g.val g.isLt)) 0) hk8 hk8]
  iintro ⟨H0, Hk, Hv, Hs, Hdk, Hdv, Hds, HBs, Hc, Hcs⟩
  imod (Transfers.mixedBatch_alloc' (Lvl := ℕ) (EC (F := F)) (c : Thread nD τ) () amt (deliv c src fk fv fs k.val) (sm := SemLoc.dma (cell k.val hk8)) (E := Set.univ)) $$ Hc with HB
  iapply (trip1 (F := F) arg0 harg0 arg1 harg1 arg2 harg2 arg3 harg3 arg4 harg4 arg8 harg8 arg9 harg9 arg10 harg10 arg11 harg11 c k f0 src fk fv fs fdk fdv fds _ hW)
  isplitl [H0]; · iexact H0
  isplitl [Hk]; · iexact Hk
  isplitl [Hv]; · iexact Hv
  isplitl [Hs]; · iexact Hs
  isplitl [Hdk]; · iexact Hdk
  isplitl [Hdv]; · iexact Hdv
  isplitl [Hds]; · iexact Hds
  isplitl [HB]; · iexact HB
  iintro ⟨H0, Hk, Hv, Hs, Hdk, Hdv, Hds, HB⟩
  isplitl [H0]; · iexact H0
  isplitl [Hk]; · iexact Hk
  isplitl [Hv]; · iexact Hv
  isplitl [Hs]; · iexact Hs
  isplitl [Hdk]; · iexact Hdk
  isplitl [Hdv]; · iexact Hdv
  isplitl [Hds]; · iexact Hds
  rw [Ring.bigSep_rangeSet_last (NB := 8) (lo := 0) (hi := k.val + 1) (Φ := fun g : Fin 8 => batch c src fk fv fs g.val g.isLt 24 0) (by omega) (by omega)]
  isplitr [Hcs]
  · isplitl [HB]; · iexact HB
    iexact HBs
  iexact Hcs

theorem loop1 (c : Dev nD) (f0 : HbBuf (F := F) c arg0) (src : ℕ → ℕ)
    (fk : HbBuf (F := F) c hk) (fv : HbBuf (F := F) c hv) (fs : HbBuf (F := F) c hs)
    (fdk : HbBuf (F := F) c kb) (fdv : HbBuf (F := F) c vb) (fds : HbBuf (F := F) c sb)
    (hW : Words c arg0 f0 src) {β : Type} {kk : Unit → Prog (TpuEff nD τ sig (Elt F) Λ₀ .tc) β} {Q : β → sProp 𝕄} :
    inv1 c arg0 f0 src fk fv fs fdk fdv fds 0 ⊢
      iprop((inv1 c arg0 f0 src fk fv fs fdk fdv fds 8 -∗ wp frame (wpE (defs₀ (F := F)) Variants.none (c : Thread nD τ) none) Set.univ (kk ()) Q)
        -∗ wp frame (wpE (defs₀ (F := F)) Variants.none (c : Thread nD τ) none) Set.univ
          (Scf.Loop.for k0_t1_loop k0_t1_ok ⟨⟩ (k0_t1_body (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6) >>= kk) Q) := by
  refine (Scf.wp_for_bind frame (wpE (defs₀ (F := F)) Variants.none (c : Thread nD τ) none) Set.univ _ _ _ k0_t1_ok () _
    (fun k _ => inv1 c arg0 f0 src fk fv fs fdk fdv fds k)
    (fun k acc => loop1_step (F := F) arg0 harg0 arg1 harg1 arg2 harg2 arg3 harg3 arg4 harg4 arg8 harg8 arg9 harg9 arg10 harg10 arg11 harg11 c f0 src fk fv fs fdk fdv fds hW k acc) (kk := kk) (Q := Q)).trans ?_
  refine wand_mono_left ?_
  iintro H %acc
  have e : k0_t1_loop.trips = 8 := Offs.trips1
  rw [show Scf.trips k0_t1_loop.lb k0_t1_loop.ub k0_t1_loop.st = 8 from e]
  iexact H

end Cert.KernelIdeal.Hand
-- ==== Proof.KIBody.lean ====
/-
The whole body of the kernel: the first loop, the new token's codes and scales, the expanded
scales, and the second loop.
-/
module
public import proofs.«01_k».proof.Proof.KIL2
public import proofs.«01_k».proof.Proof.KIL1
public import Idealize.ShloMosaic.Lib.Pipeline.Value
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The buffer `m` holds something. -/
def Any {S : Shape} {e : EltTy} (c : Dev nD) (m : Memref sig .tc .vmem S e) : sProp 𝕄 := iprop(∃ R, Has (F := F) c m R)

/-- A load of the whole buffer. -/
theorem loadW (c : Dev nD) {α : Type} {Q : α → sProp 𝕄} {S : Shape} {e : EltTy} (m : Memref sig .tc .vmem S e) (R : S.Idx → Elt F e) {o : Fin S.rank → ℕ} (ho : ∀ a, o a = 0)
    {h : ∀ a, o a + S.size a ≤ S.size a} {hl} {k : (S.Idx → Elt F e) → Prog (TpuEff nD τ sig (Elt F) Λ₀ .tc) α} :
    Has c m R ⊢ iprop((Has c m R -∗ wp frame (wpE (defs₀ (F := F)) Variants.none (c : Thread nD τ) none) Set.univ (k R) Q)
        -∗ wp frame (wpE (defs₀ (F := F)) Variants.none (c : Thread nD τ) none) Set.univ (.op (.load m (Rect.unit (s := S) o S.size h).toLoadRect hl) k) Q) := by
  unfold Has
  iintro ⟨%f, %hf, H⟩ Hk
  subst hf
  have e : (m.access (Rect.unit (s := S) o S.size h)).read (Elt F) f = m.view.read (Elt F) f := by
    funext x
    show m.view.read (Elt F) f _ = m.view.read (Elt F) f _
    congr 1
    funext a
    apply Fin.ext; show o a + 1 * (x a).val = (x a).val
    rw [ho a]; omega
  have HS := wp_load_rect (defs := defs₀ (F := F)) Variants.none (c : Thread nD τ) none (Γ := PendingWaitsCtx.empty) Set.univ (Q := Q) (m := m) (r := Rect.unit (s := S) o S.size h) (hl := hl) (k := k) (S := (show Finset (Idx (m.view.loc (c : Thread nD τ))) from m.view.set)) (q := fullShare) (f := f) (View.set_slice_subset m.view _)
  rw [e] at HS
  iapply HS $$ H
  iintro H
  iapply Hk
  iexists f
  isplitr
  rotate_left
  · iexact H
  · ipureintro; rfl

/-- A load whose value is not used. -/
theorem loadD (c : Dev nD) {α : Type} {Q : α → sProp 𝕄} {S : Shape} {e : EltTy} (m : Memref sig .tc .vmem S e) {r : Rect S} {hl}
    {k : (r.shape.Idx → Elt F e) → Prog (TpuEff nD τ sig (Elt F) Λ₀ .tc) α} :
    Any c m ⊢ iprop((∀ v, Any c m -∗ wp frame (wpE (defs₀ (F := F)) Variants.none (c : Thread nD τ) none) Set.univ (k v) Q)
        -∗ wp frame (wpE (defs₀ (F := F)) Variants.none (c : Thread nD τ) none) Set.univ (.op (.load m r.toLoadRect hl) k) Q) := by
  unfold Any Has
  iintro ⟨%R, %f, %hf, H⟩ Hk
  have HS := wp_load_rect (defs := defs₀ (F := F)) Variants.none (c : Thread nD τ) none (Γ := PendingWaitsCtx.empty) Set.univ (Q := Q) (m := m) (r := r) (hl := hl) (k := k) (S := (show Finset (Idx (m.view.loc (c : Thread nD τ))) from m.view.set)) (q := fullShare) (f := f) (View.set_slice_subset m.view _)
  iapply HS $$ H
  iintro H
  iapply Hk
  iexists R, f
  isplitr
  rotate_left
  · iexact H
  · ipureintro; exact hf

/-- A store of the whole buffer. -/
theorem storeW (c : Dev nD) {α : Type} {Q : α → sProp 𝕄} {S : Shape} {e : EltTy} (m : Memref sig .tc .vmem S e) (R : S.Idx → Elt F e) {o : Fin S.rank → ℕ} (ho : ∀ a, o a = 0)
    {h : ∀ a, o a + S.size a ≤ S.size a} {hx hm} {k : PUnit → Prog (TpuEff nD τ sig (Elt F) Λ₀ .tc) α} :
    Any c m ⊢ iprop((Has c m R -∗ wp frame (wpE (defs₀ (F := F)) Variants.none (c : Thread nD τ) none) Set.univ (k ⟨⟩) Q)
        -∗ wp frame (wpE (defs₀ (F := F)) Variants.none (c : Thread nD τ) none) Set.univ (.op (.store m (Rect.unit (s := S) o S.size h) R Finset.univ hx hm) k) Q) := by
  unfold Any Has
  iintro ⟨%R', %f, %hf, H⟩ Hk
  have hS : (m.access (Rect.unit (s := S) o S.size h)).setOn Finset.univ ⊆ m.view.set := View.setOn_slice_subset_set _ _ _
  have HS := wp_store (defs := defs₀ (F := F)) Variants.none (c : Thread nD τ) none (Γ := PendingWaitsCtx.empty) Set.univ (Q := Q) (m := m) (r := Rect.unit (s := S) o S.size h) (w := R) (hx := hx) (hm := hm) (k := k) (S := (show Finset (Idx (m.view.loc (c : Thread nD τ))) from m.view.set)) (f := f) hS
  iapply HS $$ H
  iintro H
  iapply Hk
  iexists _
  isplitr
  rotate_left
  · iexact H
  · ipureintro
    funext x
    exact View.read_writes_cons_unit_of_mem m.view f h R [] x x rfl (fun a => by rw [ho a]; omega)

theorem rows_zero (c : Dev nD) {D L : ℕ} {e : EltTy} (m : Memref sig .tc .vmem ⟨3, ![64, D, L]⟩ e) (R : (⟨3, ![64, D, L]⟩ : Shape).Idx → Elt F e) :
    Any c m ⊢ Rows c m R 0 := by
  unfold Any Has Rows
  iintro ⟨%R', %f, %hf, H⟩
  iexists f
  isplitr
  rotate_left
  · iexact H
  · ipureintro; intro x hx; omega

theorem rows_all (c : Dev nD) {D L : ℕ} {e : EltTy} (m : Memref sig .tc .vmem ⟨3, ![64, D, L]⟩ e) (R : (⟨3, ![64, D, L]⟩ : Shape).Idx → Elt F e) :
    Rows c m R 64 ⊢ Has c m R := by
  unfold Has Rows
  iintro ⟨%f, %hf, H⟩
  iexists f
  isplitr
  rotate_left
  · iexact H
  · ipureintro; funext x; exact hf x (show (x 0).val < 64 from (x 0).isLt)

theorem has_any (c : Dev nD) {S : Shape} {e : EltTy} (m : Memref sig .tc .vmem S e) (R : S.Idx → Elt F e) : Has c m R ⊢ Any c m := by
  unfold Any
  iintro H
  iexists R; iexact H

theorem onS_empty (c : Dev nD) {sp : Space} {S : Shape} {e : EltTy} (M : Memref sig .tc sp S e) (I : Finset (Idx (M.view.loc (c : Thread nD τ)))) (f : HbBuf (F := F) c M)
    (h : I = ∅) : (emp : sProp 𝕄) ⊢ onS c M I f := by
  subst h
  rw [onS, pointsTo_empty]

theorem got_zero (c : Dev nD) (src : ℕ → ℕ) (fk : HbBuf (F := F) c hk) (fv : HbBuf (F := F) c hv) (fs : HbBuf (F := F) c hs) : (emp : sProp 𝕄) ⊢ got c src fk fv fs 0 := by
  unfold got
  iintro -
  isplitr; · iapply (onS_empty c kb _ _ slabLt_zero); iempintro
  isplitr; · iapply (onS_empty c vb _ _ slabLt_zero); iempintro
  isplitr; · iapply (onS_empty c sb _ _ slabLt_zero); iempintro
  isplitr; · iapply (onS_empty c hk _ _ (winLt_zero src)); iempintro
  isplitr; · iapply (onS_empty c hv _ _ (winLt_zero src)); iempintro
  iapply (onS_empty c hs _ _ (winLt_zero src)); iempintro

/-- A column of `T`, narrowed and repeated across 128 lanes. -/
def xcol (T : FVec F S64x64 .f32) (b : ℕ) (h : S64x64.Slices ![0, b] S64x1) : FVec F S1x64x128 .bf16 :=
  shapeCast S1x64x128 (truncf .bf16 (broadcastTo S64x128 (shapeCast S64x1 (extractStridedSlice S64x1 ![0, b] T h) shapeCasts_S64x1_S64x1)
    broadcasts_S64x1_S64x128) bitsLt_bf16_f32) shapeCasts_S64x128_S1x64x128
/-- The array of all these columns. -/
def colX (T : FVec F S64x64 .f32) (i : S64x64x128.Idx) : Elt F .bf16 := FloatOps.truncf .bf16 bitsLt_bf16_f32 (T (ix2 (i 1) (i 0)))

theorem xcol_eq (T : FVec F S64x64 .f32) (b : ℕ) (h : S64x64.Slices ![0, b] S64x1) (hb : b < 64) : xcol T b h = row3 (colX T) b := by
  funext x
  have h0 : (x 0).val < 1 := (x 0).isLt
  have h1 : (x 1).val < 64 := (x 1).isLt
  have h2 : (x 2).val < 128 := (x 2).isLt
  refine (shapeCast_apply (s := S64x128) (t := S1x64x128) _ _ x (ix2 (⟨_, h1⟩ : Fin 64) (⟨_, h2⟩ : Fin 128)) ?_).trans ?_
  · refine (Shape.rowMajor_val_two _).trans (Eq.trans ?_ (Shape.rowMajor_val_three _).symm)
    show (x 1).val * 128 + (x 2).val = ((x 0).val * 64 + (x 1).val) * 128 + (x 2).val
    omega
  show FloatOps.truncf .bf16 bitsLt_bf16_f32 (broadcastTo S64x128 _ _ _) = FloatOps.truncf .bf16 bitsLt_bf16_f32 _
  congr 1
  refine (broadcastTo_apply (s := S64x1) (t := S64x128) _ _ _ (ix2 (⟨_, h1⟩ : Fin 64) (0 : Fin 1)) (fun a => by match a with | 0 => rfl | 1 => rfl)).trans ?_
  refine (shapeCast_apply (s := S64x1) (t := S64x1) _ _ _ (ix2 (⟨_, h1⟩ : Fin 64) (0 : Fin 1)) rfl).trans ?_
  refine (extractStridedSlice_apply (s := S64x64) (t := S64x1) _ _ _ _ (ix2 (⟨_, h1⟩ : Fin 64) (Fin.ofNat 64 b)) (fun a => by
    match a with
    | 0 => show (x 1).val = 0 + (x 1).val; omega
    | 1 => show b % 64 = b + 0; omega)).trans ?_
  rfl
variable (arg0 : Memref sig .tc .smem S64 .i32) (harg0 : arg0.IsWhole) (arg1 : Memref sig .tc .vmem S64x16x64 .bf16) (harg1 : arg1.IsWhole)
  (arg2 : Memref sig .tc .vmem S64x64 .bf16) (harg2 : arg2.IsWhole) (arg3 : Memref sig .tc .vmem S64x64 .bf16) (harg3 : arg3.IsWhole)
  (arg4 : Memref sig .tc .vmem S64x64 .f32) (harg4 : arg4.IsWhole) (arg8 : Memref sig .tc .vmem S64x16x64 .bf16) (harg8 : arg8.IsWhole)
  (arg9 : Memref sig .tc .vmem S64x64 .i8) (harg9 : arg9.IsWhole) (arg10 : Memref sig .tc .vmem S64x64 .i8) (harg10 : arg10.IsWhole)
  (arg11 : Memref sig .tc .vmem S1x64 .f32) (harg11 : arg11.IsWhole)

set_option pp.maxSteps 100 in
set_option maxHeartbeats 8000000 in
set_option maxRecDepth 8000 in
theorem body (c : Dev nD) (f0 : HbBuf (F := F) c arg0) (src : ℕ → ℕ)
    (fk : HbBuf (F := F) c hk) (fv : HbBuf (F := F) c hv) (fs : HbBuf (F := F) c hs)
    (q : S64x16x64.Idx → Elt F .bf16) (x2 x3 : S64x64.Idx → Elt F .bf16) (s4 : S64x64.Idx → Elt F .f32) (Q : PUnit → sProp 𝕄)
    (hW : Words c arg0 f0 src) :
    iprop(Lens c arg0 f0 ∗ Has c arg1 q ∗ Has c arg2 x2 ∗ Has c arg3 x3 ∗ Has c arg4 s4 ∗ Any (F := F) c arg8 ∗ Any (F := F) c arg9 ∗ Any (F := F) c arg10 ∗ Any (F := F) c arg11
      ∗ onS c hk Finset.univ fk ∗ onS c hv Finset.univ fv ∗ onS c hs Finset.univ fs
      ∗ (∃ f, onS c kb Finset.univ f) ∗ (∃ f, onS c vb Finset.univ f) ∗ (∃ f, onS c sb Finset.univ f) ∗ Any (F := F) c xb ∗ Any (F := F) c nb ∗ Any (F := F) c mb
      ∗ bigSep (Ring.rangeSet 8 0 8) (fun g => semVal ((c : Thread nD τ), SemLoc.dma (cell g.val g.isLt)) 0) ∗ ow c
      ∗ (iprop(Lens c arg0 f0 ∗ Has c arg1 q ∗ Has c arg2 x2 ∗ Has c arg3 x3 ∗ Has c arg4 s4
        ∗ Has c arg8 (outR (word c arg0 f0) (land (D := 64) src fk) (land (D := 64) src fv) (land (D := 1) src fs) (colX (k0_pay294 (k0_pay284 s4))) q (k0_pay286 x2) (k0_pay289 x3)) ∗ Has c arg9 (k0_pay287 s4 x2) ∗ Has c arg10 (k0_pay292 (k0_pay291 x3)) ∗ Has c arg11 (k0_pay293 (k0_pay290 x3))
        ∗ onS c hk Finset.univ fk ∗ onS c hv Finset.univ fv ∗ onS c hs Finset.univ fs
        ∗ (∃ f, onS c kb Finset.univ f) ∗ (∃ f, onS c vb Finset.univ f) ∗ (∃ f, onS c sb Finset.univ f) ∗ Any (F := F) c xb ∗ Any (F := F) c nb ∗ Any (F := F) c mb
        ∗ bigSep (Ring.rangeSet 8 0 8) (fun g => semVal ((c : Thread nD τ), SemLoc.dma (cell g.val g.isLt)) 0) ∗ ow c) -∗ Q ⟨⟩))
      ⊢ wp frame (wpE (defs₀ (F := F)) Variants.none (c : Thread nD τ) none) Set.univ
        (cc0_decode_attn (F := F) arg0 harg0 arg1 harg1 arg2 harg2 arg3 harg3 arg4 harg4 hk (Memref.isWhole_whole _) hv (Memref.isWhole_whole _) hs (Memref.isWhole_whole _) arg8 harg8 arg9 harg9 arg10 harg10 arg11 harg11 kb (Memref.isWhole_whole _) vb (Memref.isWhole_whole _) sb (Memref.isWhole_whole _) xb (Memref.isWhole_whole _) nb (Memref.isWhole_whole _) mb (Memref.isWhole_whole _) cc0_scratch6) Q := by
  iintro ⟨H0, H1, H2, H3, H4, H8, H9, H10, H11, Hk, Hv, Hs, ⟨%fdk, Hdk⟩, ⟨%fdv, Hdv⟩, ⟨%fds, Hds⟩, HX, HN, HM, HC, HO, HQ⟩
  simp only [cc0_decode_attn_eq_skeleton]
  unfold cc0_decode_attn_skel
  simp only [k0_part60_eq_skeleton]
  unfold k0_part60_skel
  simp only [bind_assoc, pure_bind, Prog.bind_lift, Prog.bind_op, Prog.bind_ret]
  iapply (loop1 (F := F) arg0 harg0 arg1 harg1 arg2 harg2 arg3 harg3 arg4 harg4 arg8 harg8 arg9 harg9 arg10 harg10 arg11 harg11 c f0 src fk fv fs fdk fdv fds hW) $$ [H0 Hk Hv Hs Hdk Hdv Hds HC]
  · unfold inv1 Lens
    rw [winRem_zero, winRem_zero, slabGe_zero, slabGe_zero, Ring.bigSep_rangeSet_empty (NB := 8) (le_refl 0)]
    isplitl [H0]; · iexact H0
    isplitl [Hk]; · iexact Hk
    isplitl [Hv]; · iexact Hv
    isplitl [Hs]; · iexact Hs
    isplitl [Hdk]; · iexact Hdk
    isplitl [Hdv]; · iexact Hdv
    isplitl [Hds]; · iexact Hds
    isplitr [HC]; · iempintro
    iexact HC
  unfold inv1
  iintro ⟨H0, Hk, Hv, Hs, -, -, -, HBs, -⟩
  iapply (loadW c arg4 s4 (by decide)) $$ H4
  iintro H4
  iapply (loadW c arg2 x2 (by decide)) $$ H2
  iintro H2
  iapply (loadD c nb) $$ HN
  iintro %_ HN
  iapply (storeW c nb (k0_pay286 x2) (by decide)) $$ HN
  iintro HN
  iapply (loadD c arg9) $$ H9
  iintro %_ H9
  iapply (storeW c arg9 (k0_pay287 s4 x2) (by decide)) $$ H9
  iintro H9
  iapply (loadW c arg3 x3 (by decide)) $$ H3
  iintro H3
  iapply (loadD c mb) $$ HM
  iintro %_ HM
  iapply (storeW c mb (k0_pay289 x3) (by decide)) $$ HM
  iintro HM
  simp only [k0_part61_eq_skeleton]
  unfold k0_part61_skel
  simp only [bind_assoc, pure_bind, Prog.bind_lift, Prog.bind_op, Prog.bind_ret]
  iapply (loadD c arg10) $$ H10
  iintro %_ H10
  iapply (storeW c arg10 (k0_pay292 (k0_pay291 x3)) (by decide)) $$ H10
  iintro H10
  iapply (loadD c arg11) $$ H11
  iintro %_ H11
  iapply (storeW c arg11 (k0_pay293 (k0_pay290 x3)) (by decide)) $$ H11
  iintro H11
  ihave HX := (rows_zero c xb (colX (k0_pay294 (k0_pay284 s4)))) $$ HX
  iapply (loadRows c xb (colX (k0_pay294 (k0_pay284 s4))) 0) $$ HX
  iintro %_ HX
  iapply (storeR3 c xb (colX (k0_pay294 (k0_pay284 s4))) 0 rfl (xcol_eq (k0_pay294 (k0_pay284 s4)) 0 slices_S64x64_o0_0_S64x1 (by omega))) $$ HX
  iintro HX
  iapply (loadRows c xb (colX (k0_pay294 (k0_pay284 s4))) 1) $$ HX
  iintro %_ HX
  iapply (storeR3 c xb (colX (k0_pay294 (k0_pay284 s4))) 1 rfl (xcol_eq (k0_pay294 (k0_pay284 s4)) 1 slices_S64x64_o0_1_S64x1 (by omega))) $$ HX
  iintro HX
  iapply (loadRows c xb (colX (k0_pay294 (k0_pay284 s4))) 2) $$ HX
  iintro %_ HX
  iapply (storeR3 c xb (colX (k0_pay294 (k0_pay284 s4))) 2 rfl (xcol_eq (k0_pay294 (k0_pay284 s4)) 2 slices_S64x64_o0_2_S64x1 (by omega))) $$ HX
  iintro HX
  iapply (loadRows c xb (colX (k0_pay294 (k0_pay284 s4))) 3) $$ HX
  iintro %_ HX
  simp only [k0_part62_eq_skeleton]
  unfold k0_part62_skel
  simp only [bind_assoc, pure_bind, Prog.bind_lift, Prog.bind_op, Prog.bind_ret]
  iapply (storeR3 c xb (colX (k0_pay294 (k0_pay284 s4))) 3 rfl (xcol_eq (k0_pay294 (k0_pay284 s4)) 3 slices_S64x64_o0_3_S64x1 (by omega))) $$ HX
  iintro HX
  iapply (loadRows c xb (colX (k0_pay294 (k0_pay284 s4))) 4) $$ HX
  iintro %_ HX
  iapply (storeR3 c xb (colX (k0_pay294 (k0_pay284 s4))) 4 rfl (xcol_eq (k0_pay294 (k0_pay284 s4)) 4 slices_S64x64_o0_4_S64x1 (by omega))) $$ HX
  iintro HX
  iapply (loadRows c xb (colX (k0_pay294 (k0_pay284 s4))) 5) $$ HX
  iintro %_ HX
  iapply (storeR3 c xb (colX (k0_pay294 (k0_pay284 s4))) 5 rfl (xcol_eq (k0_pay294 (k0_pay284 s4)) 5 slices_S64x64_o0_5_S64x1 (by omega))) $$ HX
  iintro HX
  iapply (loadRows c xb (colX (k0_pay294 (k0_pay284 s4))) 6) $$ HX
  iintro %_ HX
  iapply (storeR3 c xb (colX (k0_pay294 (k0_pay284 s4))) 6 rfl (xcol_eq (k0_pay294 (k0_pay284 s4)) 6 slices_S64x64_o0_6_S64x1 (by omega))) $$ HX
  iintro HX
  iapply (loadRows c xb (colX (k0_pay294 (k0_pay284 s4))) 7) $$ HX
  iintro %_ HX
  iapply (storeR3 c xb (colX (k0_pay294 (k0_pay284 s4))) 7 rfl (xcol_eq (k0_pay294 (k0_pay284 s4)) 7 slices_S64x64_o0_7_S64x1 (by omega))) $$ HX
  iintro HX
  iapply (loadRows c xb (colX (k0_pay294 (k0_pay284 s4))) 8) $$ HX
  iintro %_ HX
  iapply (storeR3 c xb (colX (k0_pay294 (k0_pay284 s4))) 8 rfl (xcol_eq (k0_pay294 (k0_pay284 s4)) 8 slices_S64x64_o0_8_S64x1 (by omega))) $$ HX
  iintro HX
  simp only [k0_part63_eq_skeleton]
  unfold k0_part63_skel
  simp only [bind_assoc, pure_bind, Prog.bind_lift, Prog.bind_op, Prog.bind_ret]
  iapply (loadRows c xb (colX (k0_pay294 (k0_pay284 s4))) 9) $$ HX
  iintro %_ HX
  iapply (storeR3 c xb (colX (k0_pay294 (k0_pay284 s4))) 9 rfl (xcol_eq (k0_pay294 (k0_pay284 s4)) 9 slices_S64x64_o0_9_S64x1 (by omega))) $$ HX
  iintro HX
  iapply (loadRows c xb (colX (k0_pay294 (k0_pay284 s4))) 10) $$ HX
  iintro %_ HX
  iapply (storeR3 c xb (colX (k0_pay294 (k0_pay284 s4))) 10 rfl (xcol_eq (k0_pay294 (k0_pay284 s4)) 10 slices_S64x64_o0_10_S64x1 (by omega))) $$ HX
  iintro HX
  iapply (loadRows c xb (colX (k0_pay294 (k0_pay284 s4))) 11) $$ HX
  iintro %_ HX
  iapply (storeR3 c xb (colX (k0_pay294 (k0_pay284 s4))) 11 rfl (xcol_eq (k0_pay294 (k0_pay284 s4)) 11 slices_S64x64_o0_11_S64x1 (by omega))) $$ HX
  iintro HX
  iapply (loadRows c xb (colX (k0_pay294 (k0_pay284 s4))) 12) $$ HX
  iintro %_ HX
  iapply (storeR3 c xb (colX (k0_pay294 (k0_pay284 s4))) 12 rfl (xcol_eq (k0_pay294 (k0_pay284 s4)) 12 slices_S64x64_o0_12_S64x1 (by omega))) $$ HX
  iintro HX
  iapply (loadRows c xb (colX (k0_pay294 (k0_pay284 s4))) 13) $$ HX
  iintro %_ HX
  iapply (storeR3 c xb (colX (k0_pay294 (k0_pay284 s4))) 13 rfl (xcol_eq (k0_pay294 (k0_pay284 s4)) 13 slices_S64x64_o0_13_S64x1 (by omega))) $$ HX
  iintro HX
  iapply (loadRows c xb (colX (k0_pay294 (k0_pay284 s4))) 14) $$ HX
  iintro %_ HX
  simp only [k0_part64_eq_skeleton]
  unfold k0_part64_skel
  simp only [bind_assoc, pure_bind, Prog.bind_lift, Prog.bind_op, Prog.bind_ret]
  iapply (storeR3 c xb (colX (k0_pay294 (k0_pay284 s4))) 14 rfl (xcol_eq (k0_pay294 (k0_pay284 s4)) 14 slices_S64x64_o0_14_S64x1 (by omega))) $$ HX
  iintro HX
  iapply (loadRows c xb (colX (k0_pay294 (k0_pay284 s4))) 15) $$ HX
  iintro %_ HX
  iapply (storeR3 c xb (colX (k0_pay294 (k0_pay284 s4))) 15 rfl (xcol_eq (k0_pay294 (k0_pay284 s4)) 15 slices_S64x64_o0_15_S64x1 (by omega))) $$ HX
  iintro HX
  iapply (loadRows c xb (colX (k0_pay294 (k0_pay284 s4))) 16) $$ HX
  iintro %_ HX
  iapply (storeR3 c xb (colX (k0_pay294 (k0_pay284 s4))) 16 rfl (xcol_eq (k0_pay294 (k0_pay284 s4)) 16 slices_S64x64_o0_16_S64x1 (by omega))) $$ HX
  iintro HX
  iapply (loadRows c xb (colX (k0_pay294 (k0_pay284 s4))) 17) $$ HX
  iintro %_ HX
  iapply (storeR3 c xb (colX (k0_pay294 (k0_pay284 s4))) 17 rfl (xcol_eq (k0_pay294 (k0_pay284 s4)) 17 slices_S64x64_o0_17_S64x1 (by omega))) $$ HX
  iintro HX
  iapply (loadRows c xb (colX (k0_pay294 (k0_pay284 s4))) 18) $$ HX
  iintro %_ HX
  iapply (storeR3 c xb (colX (k0_pay294 (k0_pay284 s4))) 18 rfl (xcol_eq (k0_pay294 (k0_pay284 s4)) 18 slices_S64x64_o0_18_S64x1 (by omega))) $$ HX
  iintro HX
  iapply (loadRows c xb (colX (k0_pay294 (k0_pay284 s4))) 19) $$ HX
  iintro %_ HX
  iapply (storeR3 c xb (colX (k0_pay294 (k0_pay284 s4))) 19 rfl (xcol_eq (k0_pay294 (k0_pay284 s4)) 19 slices_S64x64_o0_19_S64x1 (by omega))) $$ HX
  iintro HX
  simp only [k0_part65_eq_skeleton]
  unfold k0_part65_skel
  simp only [bind_assoc, pure_bind, Prog.bind_lift, Prog.bind_op, Prog.bind_ret]
  iapply (loadRows c xb (colX (k0_pay294 (k0_pay284 s4))) 20) $$ HX
  iintro %_ HX
  iapply (storeR3 c xb (colX (k0_pay294 (k0_pay284 s4))) 20 rfl (xcol_eq (k0_pay294 (k0_pay284 s4)) 20 slices_S64x64_o0_20_S64x1 (by omega))) $$ HX
  iintro HX
  iapply (loadRows c xb (colX (k0_pay294 (k0_pay284 s4))) 21) $$ HX
  iintro %_ HX
  iapply (storeR3 c xb (colX (k0_pay294 (k0_pay284 s4))) 21 rfl (xcol_eq (k0_pay294 (k0_pay284 s4)) 21 slices_S64x64_o0_21_S64x1 (by omega))) $$ HX
  iintro HX
  iapply (loadRows c xb (colX (k0_pay294 (k0_pay284 s4))) 22) $$ HX
  iintro %_ HX
  iapply (storeR3 c xb (colX (k0_pay294 (k0_pay284 s4))) 22 rfl (xcol_eq (k0_pay294 (k0_pay284 s4)) 22 slices_S64x64_o0_22_S64x1 (by omega))) $$ HX
  iintro HX
  iapply (loadRows c xb (colX (k0_pay294 (k0_pay284 s4))) 23) $$ HX
  iintro %_ HX
  iapply (storeR3 c xb (colX (k0_pay294 (k0_pay284 s4))) 23 rfl (xcol_eq (k0_pay294 (k0_pay284 s4)) 23 slices_S64x64_o0_23_S64x1 (by omega))) $$ HX
  iintro HX
  iapply (loadRows c xb (colX (k0_pay294 (k0_pay284 s4))) 24) $$ HX
  iintro %_ HX
  iapply (storeR3 c xb (colX (k0_pay294 (k0_pay284 s4))) 24 rfl (xcol_eq (k0_pay294 (k0_pay284 s4)) 24 slices_S64x64_o0_24_S64x1 (by omega))) $$ HX
  iintro HX
  simp only [k0_part66_eq_skeleton]
  unfold k0_part66_skel
  simp only [bind_assoc, pure_bind, Prog.bind_lift, Prog.bind_op, Prog.bind_ret]
  iapply (loadRows c xb (colX (k0_pay294 (k0_pay284 s4))) 25) $$ HX
  iintro %_ HX
  iapply (storeR3 c xb (colX (k0_pay294 (k0_pay284 s4))) 25 rfl (xcol_eq (k0_pay294 (k0_pay284 s4)) 25 slices_S64x64_o0_25_S64x1 (by omega))) $$ HX
  iintro HX
  iapply (loadRows c xb (colX (k0_pay294 (k0_pay284 s4))) 26) $$ HX
  iintro %_ HX
  iapply (storeR3 c xb (colX (k0_pay294 (k0_pay284 s4))) 26 rfl (xcol_eq (k0_pay294 (k0_pay284 s4)) 26 slices_S64x64_o0_26_S64x1 (by omega))) $$ HX
  iintro HX
  iapply (loadRows c xb (colX (k0_pay294 (k0_pay284 s4))) 27) $$ HX
  iintro %_ HX
  iapply (storeR3 c xb (colX (k0_pay294 (k0_pay284 s4))) 27 rfl (xcol_eq (k0_pay294 (k0_pay284 s4)) 27 slices_S64x64_o0_27_S64x1 (by omega))) $$ HX
  iintro HX
  iapply (loadRows c xb (colX (k0_pay294 (k0_pay284 s4))) 28) $$ HX
  iintro %_ HX
  iapply (storeR3 c xb (colX (k0_pay294 (k0_pay284 s4))) 28 rfl (xcol_eq (k0_pay294 (k0_pay284 s4)) 28 slices_S64x64_o0_28_S64x1 (by omega))) $$ HX
  iintro HX
  iapply (loadRows c xb (colX (k0_pay294 (k0_pay284 s4))) 29) $$ HX
  iintro %_ HX
  iapply (storeR3 c xb (colX (k0_pay294 (k0_pay284 s4))) 29 rfl (xcol_eq (k0_pay294 (k0_pay284 s4)) 29 slices_S64x64_o0_29_S64x1 (by omega))) $$ HX
  iintro HX
  iapply (loadRows c xb (colX (k0_pay294 (k0_pay284 s4))) 30) $$ HX
  iintro %_ HX
  iapply (storeR3 c xb (colX (k0_pay294 (k0_pay284 s4))) 30 rfl (xcol_eq (k0_pay294 (k0_pay284 s4)) 30 slices_S64x64_o0_30_S64x1 (by omega))) $$ HX
  iintro HX
  simp only [k0_part67_eq_skeleton]
  unfold k0_part67_skel
  simp only [bind_assoc, pure_bind, Prog.bind_lift, Prog.bind_op, Prog.bind_ret]
  iapply (loadRows c xb (colX (k0_pay294 (k0_pay284 s4))) 31) $$ HX
  iintro %_ HX
  iapply (storeR3 c xb (colX (k0_pay294 (k0_pay284 s4))) 31 rfl (xcol_eq (k0_pay294 (k0_pay284 s4)) 31 slices_S64x64_o0_31_S64x1 (by omega))) $$ HX
  iintro HX
  iapply (loadRows c xb (colX (k0_pay294 (k0_pay284 s4))) 32) $$ HX
  iintro %_ HX
  iapply (storeR3 c xb (colX (k0_pay294 (k0_pay284 s4))) 32 rfl (xcol_eq (k0_pay294 (k0_pay284 s4)) 32 slices_S64x64_o0_32_S64x1 (by omega))) $$ HX
  iintro HX
  iapply (loadRows c xb (colX (k0_pay294 (k0_pay284 s4))) 33) $$ HX
  iintro %_ HX
  iapply (storeR3 c xb (colX (k0_pay294 (k0_pay284 s4))) 33 rfl (xcol_eq (k0_pay294 (k0_pay284 s4)) 33 slices_S64x64_o0_33_S64x1 (by omega))) $$ HX
  iintro HX
  iapply (loadRows c xb (colX (k0_pay294 (k0_pay284 s4))) 34) $$ HX
  iintro %_ HX
  iapply (storeR3 c xb (colX (k0_pay294 (k0_pay284 s4))) 34 rfl (xcol_eq (k0_pay294 (k0_pay284 s4)) 34 slices_S64x64_o0_34_S64x1 (by omega))) $$ HX
  iintro HX
  iapply (loadRows c xb (colX (k0_pay294 (k0_pay284 s4))) 35) $$ HX
  iintro %_ HX
  iapply (storeR3 c xb (colX (k0_pay294 (k0_pay284 s4))) 35 rfl (xcol_eq (k0_pay294 (k0_pay284 s4)) 35 slices_S64x64_o0_35_S64x1 (by omega))) $$ HX
  iintro HX
  simp only [k0_part68_eq_skeleton]
  unfold k0_part68_skel
  simp only [bind_assoc, pure_bind, Prog.bind_lift, Prog.bind_op, Prog.bind_ret]
  iapply (loadRows c xb (colX (k0_pay294 (k0_pay284 s4))) 36) $$ HX
  iintro %_ HX
  iapply (storeR3 c xb (colX (k0_pay294 (k0_pay284 s4))) 36 rfl (xcol_eq (k0_pay294 (k0_pay284 s4)) 36 slices_S64x64_o0_36_S64x1 (by omega))) $$ HX
  iintro HX
  iapply (loadRows c xb (colX (k0_pay294 (k0_pay284 s4))) 37) $$ HX
  iintro %_ HX
  iapply (storeR3 c xb (colX (k0_pay294 (k0_pay284 s4))) 37 rfl (xcol_eq (k0_pay294 (k0_pay284 s4)) 37 slices_S64x64_o0_37_S64x1 (by omega))) $$ HX
  iintro HX
  iapply (loadRows c xb (colX (k0_pay294 (k0_pay284 s4))) 38) $$ HX
  iintro %_ HX
  iapply (storeR3 c xb (colX (k0_pay294 (k0_pay284 s4))) 38 rfl (xcol_eq (k0_pay294 (k0_pay284 s4)) 38 slices_S64x64_o0_38_S64x1 (by omega))) $$ HX
  iintro HX
  iapply (loadRows c xb (colX (k0_pay294 (k0_pay284 s4))) 39) $$ HX
  iintro %_ HX
  iapply (storeR3 c xb (colX (k0_pay294 (k0_pay284 s4))) 39 rfl (xcol_eq (k0_pay294 (k0_pay284 s4)) 39 slices_S64x64_o0_39_S64x1 (by omega))) $$ HX
  iintro HX
  iapply (loadRows c xb (colX (k0_pay294 (k0_pay284 s4))) 40) $$ HX
  iintro %_ HX
  iapply (storeR3 c xb (colX (k0_pay294 (k0_pay284 s4))) 40 rfl (xcol_eq (k0_pay294 (k0_pay284 s4)) 40 slices_S64x64_o0_40_S64x1 (by omega))) $$ HX
  iintro HX
  iapply (loadRows c xb (colX (k0_pay294 (k0_pay284 s4))) 41) $$ HX
  iintro %_ HX
  iapply (storeR3 c xb (colX (k0_pay294 (k0_pay284 s4))) 41 rfl (xcol_eq (k0_pay294 (k0_pay284 s4)) 41 slices_S64x64_o0_41_S64x1 (by omega))) $$ HX
  iintro HX
  simp only [k0_part69_eq_skeleton]
  unfold k0_part69_skel
  simp only [bind_assoc, pure_bind, Prog.bind_lift, Prog.bind_op, Prog.bind_ret]
  iapply (loadRows c xb (colX (k0_pay294 (k0_pay284 s4))) 42) $$ HX
  iintro %_ HX
  iapply (storeR3 c xb (colX (k0_pay294 (k0_pay284 s4))) 42 rfl (xcol_eq (k0_pay294 (k0_pay284 s4)) 42 slices_S64x64_o0_42_S64x1 (by omega))) $$ HX
  iintro HX
  iapply (loadRows c xb (colX (k0_pay294 (k0_pay284 s4))) 43) $$ HX
  iintro %_ HX
  iapply (storeR3 c xb (colX (k0_pay294 (k0_pay284 s4))) 43 rfl (xcol_eq (k0_pay294 (k0_pay284 s4)) 43 slices_S64x64_o0_43_S64x1 (by omega))) $$ HX
  iintro HX
  iapply (loadRows c xb (colX (k0_pay294 (k0_pay284 s4))) 44) $$ HX
  iintro %_ HX
  iapply (storeR3 c xb (colX (k0_pay294 (k0_pay284 s4))) 44 rfl (xcol_eq (k0_pay294 (k0_pay284 s4)) 44 slices_S64x64_o0_44_S64x1 (by omega))) $$ HX
  iintro HX
  iapply (loadRows c xb (colX (k0_pay294 (k0_pay284 s4))) 45) $$ HX
  iintro %_ HX
  iapply (storeR3 c xb (colX (k0_pay294 (k0_pay284 s4))) 45 rfl (xcol_eq (k0_pay294 (k0_pay284 s4)) 45 slices_S64x64_o0_45_S64x1 (by omega))) $$ HX
  iintro HX
  iapply (loadRows c xb (colX (k0_pay294 (k0_pay284 s4))) 46) $$ HX
  iintro %_ HX
  iapply (storeR3 c xb (colX (k0_pay294 (k0_pay284 s4))) 46 rfl (xcol_eq (k0_pay294 (k0_pay284 s4)) 46 slices_S64x64_o0_46_S64x1 (by omega))) $$ HX
  iintro HX
  simp only [k0_part70_eq_skeleton]
  unfold k0_part70_skel
  simp only [bind_assoc, pure_bind, Prog.bind_lift, Prog.bind_op, Prog.bind_ret]
  iapply (loadRows c xb (colX (k0_pay294 (k0_pay284 s4))) 47) $$ HX
  iintro %_ HX
  iapply (storeR3 c xb (colX (k0_pay294 (k0_pay284 s4))) 47 rfl (xcol_eq (k0_pay294 (k0_pay284 s4)) 47 slices_S64x64_o0_47_S64x1 (by omega))) $$ HX
  iintro HX
  iapply (loadRows c xb (colX (k0_pay294 (k0_pay284 s4))) 48) $$ HX
  iintro %_ HX
  iapply (storeR3 c xb (colX (k0_pay294 (k0_pay284 s4))) 48 rfl (xcol_eq (k0_pay294 (k0_pay284 s4)) 48 slices_S64x64_o0_48_S64x1 (by omega))) $$ HX
  iintro HX
  iapply (loadRows c xb (colX (k0_pay294 (k0_pay284 s4))) 49) $$ HX
  iintro %_ HX
  iapply (storeR3 c xb (colX (k0_pay294 (k0_pay284 s4))) 49 rfl (xcol_eq (k0_pay294 (k0_pay284 s4)) 49 slices_S64x64_o0_49_S64x1 (by omega))) $$ HX
  iintro HX
  iapply (loadRows c xb (colX (k0_pay294 (k0_pay284 s4))) 50) $$ HX
  iintro %_ HX
  iapply (storeR3 c xb (colX (k0_pay294 (k0_pay284 s4))) 50 rfl (xcol_eq (k0_pay294 (k0_pay284 s4)) 50 slices_S64x64_o0_50_S64x1 (by omega))) $$ HX
  iintro HX
  iapply (loadRows c xb (colX (k0_pay294 (k0_pay284 s4))) 51) $$ HX
  iintro %_ HX
  iapply (storeR3 c xb (colX (k0_pay294 (k0_pay284 s4))) 51 rfl (xcol_eq (k0_pay294 (k0_pay284 s4)) 51 slices_S64x64_o0_51_S64x1 (by omega))) $$ HX
  iintro HX
  iapply (loadRows c xb (colX (k0_pay294 (k0_pay284 s4))) 52) $$ HX
  iintro %_ HX
  simp only [k0_part71_eq_skeleton]
  unfold k0_part71_skel
  simp only [bind_assoc, pure_bind, Prog.bind_lift, Prog.bind_op, Prog.bind_ret]
  iapply (storeR3 c xb (colX (k0_pay294 (k0_pay284 s4))) 52 rfl (xcol_eq (k0_pay294 (k0_pay284 s4)) 52 slices_S64x64_o0_52_S64x1 (by omega))) $$ HX
  iintro HX
  iapply (loadRows c xb (colX (k0_pay294 (k0_pay284 s4))) 53) $$ HX
  iintro %_ HX
  iapply (storeR3 c xb (colX (k0_pay294 (k0_pay284 s4))) 53 rfl (xcol_eq (k0_pay294 (k0_pay284 s4)) 53 slices_S64x64_o0_53_S64x1 (by omega))) $$ HX
  iintro HX
  iapply (loadRows c xb (colX (k0_pay294 (k0_pay284 s4))) 54) $$ HX
  iintro %_ HX
  iapply (storeR3 c xb (colX (k0_pay294 (k0_pay284 s4))) 54 rfl (xcol_eq (k0_pay294 (k0_pay284 s4)) 54 slices_S64x64_o0_54_S64x1 (by omega))) $$ HX
  iintro HX
  iapply (loadRows c xb (colX (k0_pay294 (k0_pay284 s4))) 55) $$ HX
  iintro %_ HX
  iapply (storeR3 c xb (colX (k0_pay294 (k0_pay284 s4))) 55 rfl (xcol_eq (k0_pay294 (k0_pay284 s4)) 55 slices_S64x64_o0_55_S64x1 (by omega))) $$ HX
  iintro HX
  iapply (loadRows c xb (colX (k0_pay294 (k0_pay284 s4))) 56) $$ HX
  iintro %_ HX
  iapply (storeR3 c xb (colX (k0_pay294 (k0_pay284 s4))) 56 rfl (xcol_eq (k0_pay294 (k0_pay284 s4)) 56 slices_S64x64_o0_56_S64x1 (by omega))) $$ HX
  iintro HX
  iapply (loadRows c xb (colX (k0_pay294 (k0_pay284 s4))) 57) $$ HX
  iintro %_ HX
  iapply (storeR3 c xb (colX (k0_pay294 (k0_pay284 s4))) 57 rfl (xcol_eq (k0_pay294 (k0_pay284 s4)) 57 slices_S64x64_o0_57_S64x1 (by omega))) $$ HX
  iintro HX
  simp only [k0_part72_eq_skeleton]
  unfold k0_part72_skel
  simp only [bind_assoc, pure_bind, Prog.bind_lift, Prog.bind_op, Prog.bind_ret]
  iapply (loadRows c xb (colX (k0_pay294 (k0_pay284 s4))) 58) $$ HX
  iintro %_ HX
  iapply (storeR3 c xb (colX (k0_pay294 (k0_pay284 s4))) 58 rfl (xcol_eq (k0_pay294 (k0_pay284 s4)) 58 slices_S64x64_o0_58_S64x1 (by omega))) $$ HX
  iintro HX
  iapply (loadRows c xb (colX (k0_pay294 (k0_pay284 s4))) 59) $$ HX
  iintro %_ HX
  iapply (storeR3 c xb (colX (k0_pay294 (k0_pay284 s4))) 59 rfl (xcol_eq (k0_pay294 (k0_pay284 s4)) 59 slices_S64x64_o0_59_S64x1 (by omega))) $$ HX
  iintro HX
  iapply (loadRows c xb (colX (k0_pay294 (k0_pay284 s4))) 60) $$ HX
  iintro %_ HX
  iapply (storeR3 c xb (colX (k0_pay294 (k0_pay284 s4))) 60 rfl (xcol_eq (k0_pay294 (k0_pay284 s4)) 60 slices_S64x64_o0_60_S64x1 (by omega))) $$ HX
  iintro HX
  iapply (loadRows c xb (colX (k0_pay294 (k0_pay284 s4))) 61) $$ HX
  iintro %_ HX
  iapply (storeR3 c xb (colX (k0_pay294 (k0_pay284 s4))) 61 rfl (xcol_eq (k0_pay294 (k0_pay284 s4)) 61 slices_S64x64_o0_61_S64x1 (by omega))) $$ HX
  iintro HX
  iapply (loadRows c xb (colX (k0_pay294 (k0_pay284 s4))) 62) $$ HX
  iintro %_ HX
  iapply (storeR3 c xb (colX (k0_pay294 (k0_pay284 s4))) 62 rfl (xcol_eq (k0_pay294 (k0_pay284 s4)) 62 slices_S64x64_o0_62_S64x1 (by omega))) $$ HX
  iintro HX
  iapply (loadRows c xb (colX (k0_pay294 (k0_pay284 s4))) 63) $$ HX
  iintro %_ HX
  iapply (storeR3 c xb (colX (k0_pay294 (k0_pay284 s4))) 63 rfl (xcol_eq (k0_pay294 (k0_pay284 s4)) 63 slices_S64x64_o0_63_S64x1 (by omega))) $$ HX
  iintro HX
  ihave HX := (rows_all c xb (colX (k0_pay294 (k0_pay284 s4)))) $$ HX
  ihave H8 := (rows_zero c arg8 (outR (word c arg0 f0) (land (D := 64) src fk) (land (D := 64) src fv) (land (D := 1) src fs) (colX (k0_pay294 (k0_pay284 s4))) q (k0_pay286 x2) (k0_pay289 x3))) $$ H8
  iapply (loop2 (F := F) arg0 harg0 arg1 harg1 arg2 harg2 arg3 harg3 arg4 harg4 arg8 harg8 arg9 harg9 arg10 harg10 arg11 harg11 c f0 src fk fv fs (colX (k0_pay294 (k0_pay284 s4))) q (k0_pay286 x2) (k0_pay289 x3) hW) $$ [H0 HO H1 HX HN HM H8 HBs]
  · unfold inv2 Lens
    rw [Ring.bigSep_rangeSet_empty (NB := 8) (le_refl 0)]
    isplitl [H0]; · iexact H0
    isplitl [HO]; · iexact HO
    isplitr [H1 HX HN HM H8 HBs]; · iapply (got_zero c src fk fv fs); iempintro
    isplitl [H1]; · iexact H1
    isplitl [HX]; · iexact HX
    isplitl [HN]; · iexact HN
    isplitl [HM]; · iexact HM
    isplitl [H8]; · iexact H8
    isplitr [HBs]; · iempintro
    iexact HBs
  unfold inv2 got
  iintro ⟨H0, HO, ⟨Gk, Gv, Gs, Lk, Lv, Ls⟩, H1, HX, HN, HM, H8, HC, -⟩
  ihave H8 := (rows_all c arg8 (outR (word c arg0 f0) (land (D := 64) src fk) (land (D := 64) src fv) (land (D := 1) src fs) (colX (k0_pay294 (k0_pay284 s4))) q (k0_pay286 x2) (k0_pay289 x3))) $$ H8
  ihave HX := (has_any c xb _) $$ HX
  ihave HN := (has_any c nb _) $$ HN
  ihave HM := (has_any c mb _) $$ HM
  ihave Hk := (pointsTo_split_subset (ℓ := hk.view.loc (c : Thread nD τ)) (q := fullShare) (f := fk) (Finset.subset_univ (winLt src 64))).2 $$ [Lk Hk]
  · rw [winRem_eq]
    isplitl [Lk]; · iexact Lk
    iexact Hk
  ihave Hv := (pointsTo_split_subset (ℓ := hv.view.loc (c : Thread nD τ)) (q := fullShare) (f := fv) (Finset.subset_univ (winLt src 64))).2 $$ [Lv Hv]
  · rw [winRem_eq]
    isplitl [Lv]; · iexact Lv
    iexact Hv
  ihave Hs := (pointsTo_split_subset (ℓ := hs.view.loc (c : Thread nD τ)) (q := fullShare) (f := fs) (Finset.subset_univ (winLt src 64))).2 $$ [Ls Hs]
  · rw [winRem_eq]
    isplitl [Ls]; · iexact Ls
    iexact Hs
  iapply (wp_done c (Q := Q))
  iapply HQ
  isplitl [H0]; · iexact H0
  isplitl [H1]; · iexact H1
  isplitl [H2]; · iexact H2
  isplitl [H3]; · iexact H3
  isplitl [H4]; · iexact H4
  isplitl [H8]; · iexact H8
  isplitl [H9]; · iexact H9
  isplitl [H10]; · iexact H10
  isplitl [H11]; · iexact H11
  isplitl [Hk]; · iexact Hk
  isplitl [Hv]; · iexact Hv
  isplitl [Hs]; · iexact Hs
  isplitl [Gk]
  · iexists _; rw [← slabLt_last]; iexact Gk
  isplitl [Gv]
  · iexists _; rw [← slabLt_last]; iexact Gv
  isplitl [Gs]
  · iexists _; rw [← slabLt_last]; iexact Gs
  isplitl [HX]; · iexact HX
  isplitl [HN]; · iexact HN
  isplitl [HM]; · iexact HM
  isplitl [HC]; · iexact HC
  iexact HO

end Cert.KernelIdeal.Hand
-- ==== Proof.KIFrame.lean ====
/-
The run of the whole program. The kernel's buffers, its eight semaphore cells and the three arrays
it reads in place are the invariant; its one grid point is `body`. Under the range of the lengths
every run ends with the arguments as launched, every counter at zero, and the four results at the
values of `body`.
-/
module
public import proofs.«01_k».proof.Proof.KIBody
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section
noncomputable section

namespace Cert.KernelIdeal.Hand
open Cert.KernelIdeal Cert.KernelIdeal.Gen Cert.Words Cert.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The cells and the arrays read in place -/
abbrev osem0 : Fin 8 → SemLoc sig := fun j => (![SemLoc.dma 9, SemLoc.dma 10, SemLoc.dma 11, SemLoc.dma 12, SemLoc.dma 13, SemLoc.dma 14, SemLoc.dma 15, SemLoc.dma 16] : Fin 8 → SemLoc sig) j
theorem ownSemFacts0 : Pipeline.OwnSemFacts spec0 osem0 := by decide
theorem osem0_cell (g : Fin 8) : osem0 g = SemLoc.dma (cell g.val g.isLt) := by
  revert g; decide
theorem ownSems00_eq (c : Dev nD) :
    (Pipeline.ownSems0 (Ix := Unit) (Name := ℕ) (U := Pipeline.UD sig nD τ) (Lvl := ℕ) (Val := Elt F) (τ := τ) osem0 c : sProp 𝕄)
      = bigSep (Ring.rangeSet 8 0 8) (fun g => semVal ((c : Thread nD τ), SemLoc.dma (cell g.val g.isLt)) 0) := by
  rw [Ring.rangeSet_univ]
  unfold Pipeline.ownSems0
  exact congrArg (bigSep Finset.univ) (funext fun g => by rw [← osem0_cell])
def H0 : Finset (Ref sig .tc) := {main_v1, main_v3, main_v4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(onS c hk Finset.univ (V m c main_v1) ∗ onS c hv Finset.univ (V m c main_v3) ∗ onS c hs Finset.univ (V m c main_v4)) := by
  rw [BI.bigSep_eq_bigSepL_of_eq [main_v1, main_v3, main_v4] (by decide) (by decide)]; rfl

/-- A whole buffer at some contents. -/
theorem any_of (c : Dev nD) {S : Shape} {e : EltTy} (M : Memref sig .tc .vmem S e) (h : M.view.set = Finset.univ) :
    iprop(∃ f, onS (F := F) c M Finset.univ f) ⊢ Any (F := F) c M := by
  unfold Any Has
  rw [h]
  iintro ⟨%f, H⟩
  iexists _; iexists f
  isplitr; · ipureintro; rfl
  iexact H
theorem of_any (c : Dev nD) {S : Shape} {e : EltTy} (M : Memref sig .tc .vmem S e) (h : M.view.set = Finset.univ) :
    Any (F := F) c M ⊢ iprop(∃ f, onS (F := F) c M Finset.univ f) := by
  unfold Any Has
  rw [h]
  iintro ⟨%R, %f, %hf, H⟩
  iexists f; iexact H

theorem PhiD0_eq (c : Dev nD) :
    (Pipeline.ΦD osem0 spec0 H0 (V m) c : sProp 𝕄)
      = iprop(iprop((∃ f, onS (F := F) c kb Finset.univ f) ∗ (∃ f, onS (F := F) c vb Finset.univ f) ∗ (∃ f, onS (F := F) c sb Finset.univ f)
            ∗ (∃ f, onS (F := F) c xb Finset.univ f) ∗ (∃ f, onS (F := F) c nb Finset.univ f) ∗ (∃ f, onS (F := F) c mb Finset.univ f))
          ∗ (∃ r, prngReg c r)
          ∗ bigSep (Ring.rangeSet 8 0 8) (fun g => semVal ((c : Thread nD τ), SemLoc.dma (cell g.val g.isLt)) 0)
          ∗ iprop(onS c hk Finset.univ (V m c main_v1) ∗ onS c hv Finset.univ (V m c main_v3) ∗ onS c hs Finset.univ (V m c main_v4))) := by
  rw [Pipeline.ΦD_eq, scopedRest0_eq, ownSems00_eq, hbmPts0_eq]
  try rfl

/-! ## Each window's block is its whole array -/
theorem idx_zero0 : ∀ t : Fin cfg0.N, win0_0.index t (0 : Fin 1) = 0 :=
  (by decide +kernel : ∀ t : Fin grid0.N, _)
theorem emb0 (t : Fin cfg0.N) (j : S64.Idx) : ((cfg0.win 0).blk t).view.emb j = j := by
  have e0 := idx_zero0 t
  funext a; apply Fin.ext
  match a with
  | ⟨0, _⟩ => show win0_0.index t (0 : Fin 1) * 64 + 1 * (j 0).val = (j 0).val; omega
theorem iblk0_eq (c : Dev nD) (t : Fin cfg0.N) : iblk m c 0 t = V m c main_arg7 := by
  funext j; show V m c main_arg7 (((cfg0.win 0).blk t).view.emb j) = V m c main_arg7 j; rw [emb0]
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem emb1 (t : Fin cfg0.N) (j : S64x16x64.Idx) : ((cfg0.win 1).blk t).view.emb j = j := by
  obtain ⟨e0, e1, e2⟩ := idx_zero1 t
  funext a; apply Fin.ext
  match a with
  | ⟨0, _⟩ => show win0_1.index t (0 : Fin 3) * 64 + 1 * (j 0).val = (j 0).val; omega
  | ⟨1, _⟩ => show win0_1.index t (1 : Fin 3) * 16 + 1 * (j 1).val = (j 1).val; omega
  | ⟨2, _⟩ => show win0_1.index t (2 : Fin 3) * 64 + 1 * (j 2).val = (j 2).val; omega
theorem iblk1_eq (c : Dev nD) (t : Fin cfg0.N) : iblk m c 1 t = V m c main_v5 := by
  funext j; show V m c main_v5 (((cfg0.win 1).blk t).view.emb j) = V m c main_v5 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S64x64.Idx) : ((cfg0.win 2).blk t).view.emb j = j := by
  obtain ⟨e0, e1⟩ := idx_zero2 t
  funext a; apply Fin.ext
  match a with
  | ⟨0, _⟩ => show win0_2.index t (0 : Fin 2) * 64 + 1 * (j 0).val = (j 0).val; omega
  | ⟨1, _⟩ => show win0_2.index t (1 : Fin 2) * 64 + 1 * (j 1).val = (j 1).val; omega
theorem iblk2_eq (c : Dev nD) (t : Fin cfg0.N) : iblk m c 2 t = V m c main_v6 := by
  funext j; show V m c main_v6 (((cfg0.win 2).blk t).view.emb j) = V m c main_v6 j; rw [emb2]
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S64x64.Idx) : ((cfg0.win 3).blk t).view.emb j = j := by
  obtain ⟨e0, e1⟩ := idx_zero3 t
  funext a; apply Fin.ext
  match a with
  | ⟨0, _⟩ => show win0_3.index t (0 : Fin 2) * 64 + 1 * (j 0).val = (j 0).val; omega
  | ⟨1, _⟩ => show win0_3.index t (1 : Fin 2) * 64 + 1 * (j 1).val = (j 1).val; omega
theorem iblk3_eq (c : Dev nD) (t : Fin cfg0.N) : iblk m c 3 t = V m c main_v7 := by
  funext j; show V m c main_v7 (((cfg0.win 3).blk t).view.emb j) = V m c main_v7 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S64x64.Idx) : ((cfg0.win 4).blk t).view.emb j = j := by
  obtain ⟨e0, e1⟩ := idx_zero4 t
  funext a; apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega
theorem iblk4_eq (c : Dev nD) (t : Fin cfg0.N) : iblk m c 4 t = V m c main_v8 := by
  funext j; show V m c main_v8 (((cfg0.win 4).blk t).view.emb j) = V m c main_v8 j; rw [emb4]
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)
theorem emb5 (t : Fin cfg0.N) (j : S64x16x64.Idx) : ((cfg0.win 5).blk t).view.emb j = j := by
  obtain ⟨e0, e1, e2⟩ := idx_zero5 t
  funext a; apply Fin.ext
  match a with
  | ⟨0, _⟩ => show win0_5.index t (0 : Fin 3) * 64 + 1 * (j 0).val = (j 0).val; omega
  | ⟨1, _⟩ => show win0_5.index t (1 : Fin 3) * 16 + 1 * (j 1).val = (j 1).val; omega
  | ⟨2, _⟩ => show win0_5.index t (2 : Fin 3) * 64 + 1 * (j 2).val = (j 2).val; omega
theorem idx_zero6 : ∀ t : Fin cfg0.N, win0_6.index t (0 : Fin 2) = 0 ∧ win0_6.index t (1 : Fin 2) = 0 :=
  (by decide +kernel : ∀ t : Fin grid0.N, _)
theorem emb6 (t : Fin cfg0.N) (j : S64x64.Idx) : ((cfg0.win 6).blk t).view.emb j = j := by
  obtain ⟨e0, e1⟩ := idx_zero6 t
  funext a; apply Fin.ext
  match a with
  | ⟨0, _⟩ => show win0_6.index t (0 : Fin 2) * 64 + 1 * (j 0).val = (j 0).val; omega
  | ⟨1, _⟩ => show win0_6.index t (1 : Fin 2) * 64 + 1 * (j 1).val = (j 1).val; omega
theorem idx_zero7 : ∀ t : Fin cfg0.N, win0_7.index t (0 : Fin 2) = 0 ∧ win0_7.index t (1 : Fin 2) = 0 :=
  (by decide +kernel : ∀ t : Fin grid0.N, _)
theorem emb7 (t : Fin cfg0.N) (j : S64x64.Idx) : ((cfg0.win 7).blk t).view.emb j = j := by
  obtain ⟨e0, e1⟩ := idx_zero7 t
  funext a; apply Fin.ext
  match a with
  | ⟨0, _⟩ => show win0_7.index t (0 : Fin 2) * 64 + 1 * (j 0).val = (j 0).val; omega
  | ⟨1, _⟩ => show win0_7.index t (1 : Fin 2) * 64 + 1 * (j 1).val = (j 1).val; omega
theorem idx_zero8 : ∀ t : Fin cfg0.N, win0_8.index t (0 : Fin 2) = 0 ∧ win0_8.index t (1 : Fin 2) = 0 :=
  (by decide +kernel : ∀ t : Fin grid0.N, _)
theorem emb8 (t : Fin cfg0.N) (j : S1x64.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 64 + 1 * (j 1).val = (j 1).val; omega

/-- The length of batch `b`. -/
def lenW (c : Dev nD) (b : ℕ) : BitVec 32 := if h : b < 64 then V m c main_arg7 (ix1 ⟨b, h⟩) else 0
/-- Where the copies of batch `b` start. -/
def srcW (c : Dev nD) (b : ℕ) : ℕ := srcN (lenW m c b).toNat
/-- The range of the lengths. -/
def LenOk : Prop := ∀ (c : Dev nD) (b : ℕ), b < 64 → 1024 ≤ (lenW m c b).toNat ∧ (lenW m c b).toNat ≤ 32768

/-- The four results. -/
def res0 (c : Dev nD) : S64x16x64.Idx → Elt F .bf16 :=
  outR (lenW m c) (land (D := 64) (srcW m c) (V m c main_v1)) (land (D := 64) (srcW m c) (V m c main_v3)) (land (D := 1) (srcW m c) (V m c main_v4))
    (colX (k0_pay294 (k0_pay284 (V m c main_v8)))) (V m c main_v5) (k0_pay286 (V m c main_v6)) (k0_pay289 (V m c main_v7))
def res1 (c : Dev nD) : S64x64.Idx → Elt F .i8 := k0_pay287 (V m c main_v8) (V m c main_v6)
def res2 (c : Dev nD) : S64x64.Idx → Elt F .i8 := k0_pay292 (k0_pay291 (V m c main_v7))
def res3 (c : Dev nD) : S1x64.Idx → Elt F .f32 := k0_pay293 (k0_pay290 (V m c main_v7))

def dats (_ : Fin 1) (c : Dev nD) : Dat τ (Elt F) Unit ℕ (Pipeline.UD sig nD τ) ℕ cfg0 c where
  A w := V m c (Pipeline.arrRef spec0 w)
  after w t :=
    match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res0 m c
    | ⟨6, _⟩ => res1 m c
    | ⟨7, _⟩ => res2 m c
    | ⟨8, _⟩ => res3 m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = res0 m c := by dsimp only [dats]
theorem after0_6 (c : Dev nD) (t : Fin cfg0.N) : (dats m 0 c).after 6 t = res1 m c := by dsimp only [dats]
theorem after0_7 (c : Dev nD) (t : Fin cfg0.N) : (dats m 0 c).after 7 t = res2 m c := by dsimp only [dats]
theorem after0_8 (c : Dev nD) (t : Fin cfg0.N) : (dats m 0 c).after 8 t = res3 m c := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at the one grid point. -/
theorem sound_body (hlen : LenOk m) (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [before0_0, before0_1, before0_2, before0_3, before0_4, iblk0_eq, iblk1_eq, iblk2_eq, iblk3_eq, iblk4_eq]
  iintro ⟨⟨⟨HS0, HS1, HS2, HS3, HS4, HS5⟩, Hg, HC, ⟨Hk, Hv, Hs⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold owns res0 res1 res2 res3
  icases H0 with ⟨%f0, %hf0, H0⟩
  have hw : ∀ b, word c (st0_0 t) f0 b = lenW m c b := by
    intro b; unfold word lenW
    split
    · exact congrFun hf0 _
    · rfl
  have hW : Words c (st0_0 t) f0 (srcW m c) :=
    ⟨fun b hb => by rw [hw]; exact (hlen c b hb).1, fun b hb => by rw [hw]; exact (hlen c b hb).2, fun b hb => by rw [hw]; rfl⟩
  have hww : word c (st0_0 t) f0 = lenW m c := funext hw
  iapply (body (F := F) (st0_0 t) (hstage0_0 0) (st0_1 t) (hstage0_1 0) (st0_2 t) (hstage0_2 0) (st0_3 t) (hstage0_3 0) (st0_4 t) (hstage0_4 0)
    (st0_5 t) (hstage0_5 0) (st0_6 t) (hstage0_6 0) (st0_7 t) (hstage0_7 0) (st0_8 t) (hstage0_8 0) c f0 (srcW m c) (V m c main_v1) (V m c main_v3) (V m c main_v4)
    (V m c main_v5) (V m c main_v6) (V m c main_v7) (V m c main_v8) _ hW)
  rw [hww]
  unfold Lens Has
  isplitl [H0]; · iexact H0
  isplitl [H1]; · iexact H1
  isplitl [H2]; · iexact H2
  isplitl [H3]; · iexact H3
  isplitl [H4]; · iexact H4
  isplitl [H5]; · unfold Any Has; iexists _; iexact H5
  isplitl [H6]; · unfold Any Has; iexists _; iexact H6
  isplitl [H7]; · unfold Any Has; iexists _; iexact H7
  isplitl [H8]; · unfold Any Has; iexists _; iexact H8
  isplitl [Hk]; · iexact Hk
  isplitl [Hv]; · iexact Hv
  isplitl [Hs]; · iexact Hs
  isplitl [HS0]; · iexact HS0
  isplitl [HS1]; · iexact HS1
  isplitl [HS2]; · iexact HS2
  isplitl [HS3]; · iapply (any_of (F := F) c xb (View.set_whole _)); iexact HS3
  isplitl [HS4]; · iapply (any_of (F := F) c nb (View.set_whole _)); iexact HS4
  isplitl [HS5]; · iapply (any_of (F := F) c mb (View.set_whole _)); iexact HS5
  isplitl [HC]; · iexact HC
  isplitl [HW]; · iexists W; iexact HW
  iintro ⟨H0, H1, H2, H3, H4, H5, H6, H7, H8, Hk, Hv, Hs, HS0, HS1, HS2, HS3, HS4, HS5, HC, ⟨%W', HW'⟩⟩
  isplitl [HS0 HS1 HS2 HS3 HS4 HS5 Hg HC Hk Hv Hs]
  · isplitl [HS0 HS1 HS2 HS3 HS4 HS5]
    · isplitl [HS0]; · iexact HS0
      isplitl [HS1]; · iexact HS1
      isplitl [HS2]; · iexact HS2
      isplitl [HS3]; · iapply (of_any (F := F) c xb (View.set_whole _)); iexact HS3
      isplitl [HS4]; · iapply (of_any (F := F) c nb (View.set_whole _)); iexact HS4
      iapply (of_any (F := F) c mb (View.set_whole _)); iexact HS5
    isplitl [Hg]; · iexact Hg
    isplitl [HC]; · iexact HC
    isplitl [Hk]; · iexact Hk
    isplitl [Hv]; · iexact Hv
    iexact Hs
  isplitl [HW']
  · iexists W'; isplitr; · ipureintro; exact fun _ _ => Or.inl trivial
    iexact HW'
  isplitl [H0]
  · iexists f0; isplitr; · ipureintro; exact hf0
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (hlen : LenOk m) (c : Dev nD) : BodyObligation (dats (F := F) m 0 c) (defs₀ (F := F)) Variants.none () Set.univ := fun t => by
  rw [bigSep_W0, bigSep_W0, defs₀_row]
  exact triple_restated (sound_body m hlen c t) rfl .rfl fun _ => .rfl

/-! ## The run -/

set_option backward.isDefEq.respectTransparency.types false in
theorem run_main (hlen : LenOk m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hlen c).loose) (hshare := fun c => (dats m 0 c).share_full fun _ => rfl)
    (howed := fun _ _ => rfl) (V := V m) (hmain := hmainD m Variants.none) (hA := A_eq m)
    (hin := fun _ => .rfl) (hout := fun _ => .rfl)

theorem flushed5_eq (c : Dev nD) (t : Fin cfg0.N) :
    (dats m 0 c).flushed 5 t = ((cfg0.win 5).blk t).view.read (Elt F) (res0 m c) := by
  show (cfg0.win 5).cut (grid0.coords t) ((dats m 0 c).after 5 t) = _
  rw [after0_5]
  funext j
  show res0 m c j = res0 m c (((cfg0.win 5).blk t).view.emb j)
  rw [emb5]
theorem covered5 (i : S64x16x64.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
/-- The array of result 1 after the run. -/
theorem final5 (c : Dev nD) : (dats m 0 c).arrAt 5 cfg0.N = res0 m c :=
  (dats m 0 c).arrAt_eq_of_cover 5 (res0 m c) (fun t _ => flushed5_eq m c t) covered5

theorem flushed6_eq (c : Dev nD) (t : Fin cfg0.N) :
    (dats m 0 c).flushed 6 t = ((cfg0.win 6).blk t).view.read (Elt F) (res1 m c) := by
  show (cfg0.win 6).cut (grid0.coords t) ((dats m 0 c).after 6 t) = _
  rw [after0_6]
  funext j
  show res1 m c j = res1 m c (((cfg0.win 6).blk t).view.emb j)
  rw [emb6]
theorem covered6 (i : S64x64.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
/-- The array of result 2 after the run. -/
theorem final6 (c : Dev nD) : (dats m 0 c).arrAt 6 cfg0.N = res1 m c :=
  (dats m 0 c).arrAt_eq_of_cover 6 (res1 m c) (fun t _ => flushed6_eq m c t) covered6

theorem flushed7_eq (c : Dev nD) (t : Fin cfg0.N) :
    (dats m 0 c).flushed 7 t = ((cfg0.win 7).blk t).view.read (Elt F) (res2 m c) := by
  show (cfg0.win 7).cut (grid0.coords t) ((dats m 0 c).after 7 t) = _
  rw [after0_7]
  funext j
  show res2 m c j = res2 m c (((cfg0.win 7).blk t).view.emb j)
  rw [emb7]
theorem covered7 (i : S64x64.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩
/-- The array of result 3 after the run. -/
theorem final7 (c : Dev nD) : (dats m 0 c).arrAt 7 cfg0.N = res2 m c :=
  (dats m 0 c).arrAt_eq_of_cover 7 (res2 m c) (fun t _ => flushed7_eq m c t) covered7

theorem flushed8_eq (c : Dev nD) (t : Fin cfg0.N) :
    (dats m 0 c).flushed 8 t = ((cfg0.win 8).blk t).view.read (Elt F) (res3 m c) := by
  show (cfg0.win 8).cut (grid0.coords t) ((dats m 0 c).after 8 t) = _
  rw [after0_8]
  funext j
  show res3 m c j = res3 m c (((cfg0.win 8).blk t).view.emb j)
  rw [emb8]
theorem covered8 (i : S1x64.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩
/-- The array of result 4 after the run. -/
theorem final8 (c : Dev nD) : (dats m 0 c).arrAt 8 cfg0.N = res3 m c :=
  (dats m 0 c).arrAt_eq_of_cover 8 (res3 m c) (fun t _ => flushed8_eq m c t) covered8

/-- THE RUN: the results at their values, the arguments as launched, every counter at zero. -/
theorem run (hlen : LenOk m) : θ_run defs (onTc (τ := τ) (main (F := F))) ⟨m, fun _ => 0, ρ⟩ (fun r => (∀ c : Dev nD,
      (r.2.mem ((c.tc : Thread nD τ).loc main_v9_0) = res0 m c
      ∧ r.2.mem ((c.tc : Thread nD τ).loc main_v9_1) = res1 m c
      ∧ r.2.mem ((c.tc : Thread nD τ).loc main_v9_2) = res2 m c
      ∧ r.2.mem ((c.tc : Thread nD τ).loc main_v9_3) = res3 m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)))
      ∧ r.2.sem = fun _ => 0) :=
  (θ_run defs _ _).mono (fun _ h => ⟨fun c => ⟨⟨((h.1 c).1 5).trans (final5 m c),
      ((h.1 c).1 6).trans (final6 m c),
      ((h.1 c).1 7).trans (final7 m c),
      ((h.1 c).1 8).trans (final8 m c)⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).1 0).trans (((dats m 0 c).arrAt_in 0 rfl _).trans ((A_eq m c 0).trans (V_main_arg7 m c)))⟩, h.2⟩) (run_main m ρ hlen)

/-- The frame. -/
theorem frame (hlen : LenOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run m ρ hlen)

end Cert.KernelIdeal.Hand

end
-- ==== Proof.KFrame.lean ====
/-
The program as printed and the program read over the reals are one text: no operation was rewritten.
So the run proved for the one at every arithmetic is the run of the other.
-/
module
public import proofs.«01_k».proof.Proof.KIFrame
public import proofs.«01_k».proof.Proof.Gen.Kernel
@[expose] public section
noncomputable section
namespace Cert.Kernel.Hand
open Idealize.ShloMosaic Idealize.SL.Sem Idealize.ShloMosaic.TcCoe
attribute [local instance] Cert.Kernel.Gen.facts Cert.KernelIdeal.Gen.facts
variable {F : FTy → Type} [FloatOps F]
set_option maxHeartbeats 4000000
open Cert.Kernel
/-- One body table. -/
theorem defs₀_eq : (Cert.Kernel.defs₀ (F := F)) = (Cert.KernelIdeal.defs₀ (F := F)) := by
  funext p
  match p with
  | .scScalar _ => rfl
  | .scVector _ _ => rfl
  | .tc =>
    funext l a
    match l, a with
    | ⟨0, _⟩, (t, s) => rfl
/-- One table with the pipeline. -/
theorem defs_eq : (Cert.Kernel.defs (F := F)) = (Cert.KernelIdeal.defs (F := F)) := by
  show Pipeline.defs Cert.Kernel.pcfgs Cert.Kernel.defs₀ = _
  rw [defs₀_eq]; rfl
/-- The frame of the program as printed. -/
theorem frame (m : (ℓ : Loc nD τ sig) → Buf (Elt F) ℓ) (ρ : Dev nD → PrngReg) (hlen : Cert.KernelIdeal.Hand.LenOk (F := F) m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq]
  exact Cert.KernelIdeal.Hand.frame (F := F) m ρ hlen
end Cert.Kernel.Hand
end
-- ==== Proof.Pre.lean ====
/-
The precondition read at one length: every length lies between the window and the cache.
-/
module
public import proofs.«01_k».proof.Pre_window_in_cache
public import Idealize.ShloMosaic.Lib.Tactic

@[expose] public section
noncomputable section

namespace Cert.PreFacts
open Idealize.ShloMosaic Cert.Pre_window_in_cache

/-- The one shape relation of the precondition. -/
theorem facts : Cert.Pre_window_in_cache.Facts where
  bcast_S_S64 := by decide

theorem range {F : FTy → Type} [FloatOps F] [Cert.Pre_window_in_cache.Facts]
    {a0 a1 a2 a3 a4 a5 a6} {a7 : IVec S64 32} (h : Cert.Pre_window_in_cache.fn (F := F) a0 a1 a2 a3 a4 a5 a6 a7 = fun _ => 1#1) (y : S64.Idx) :
    1024 ≤ (a7 y).toNat ∧ (a7 y).toNat ≤ 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_window_in_cache.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.PreFacts

end
-- ==== Proof.Reads.lean ====
/-
Vector operations read at one element: the largest entry of a row, eight tiles side by side, and a selection made on
words of four bytes.
-/
module
public import Idealize.ShloMosaic.Lib.Pointwise
public import Idealize.ShloMosaic.Lib.BitcastFour
public import Idealize.ShloMosaic.Lib.Pipeline.Value

@[expose] public section
noncomputable section

namespace Cert.Reads
open Idealize.ShloMosaic

/-- The pattern of minus infinity is the least extended real. -/
theorem bot_bits : Ideal.ofBits .f32 0xFF800000#32 = (⊥ : EReal) := by simp [Ideal.ofBits, Ideal.ieee]

theorem top_bits : Ideal.ofBits .f32 0x7F800000#32 = (⊤ : EReal) := by simp [Ideal.ofBits, Ideal.ieee]

theorem top_bits16 : Ideal.ofBits .bf16 0x7F80#16 = (⊤ : EReal) := by simp [Ideal.ofBits, Ideal.ieee]

/-- The scale of the scores is one eighth. -/
theorem eighth_bits : Ideal.ofBits .f32 0x3E000000#32 = ((1 / 8 : ℝ) : EReal) := by
  simp [Ideal.ofBits, Ideal.ieee]
  norm_num
  rw [← EReal.coe_mul]
  congr 1
  norm_num

/-- The largest entry of a row. -/
theorem max2 {A B : ℕ} (v : FVec Ideal ⟨2, ![A, B]⟩ .f32) (h : Shape.Reduces ⟨2, ![A, B]⟩ [1] ⟨1, ![A]⟩)
    (hφ : FKind.Formats .f32) (hacc : (0xFF800000#32 : BitVec 32) = FKind.maximumf.neutral .f32 hφ) (i : Fin A) :
    multiReduction .maximumf [1] ⟨1, ![A]⟩ v 0xFF800000#32 h hφ hacc (ix1 i) = Finset.univ.fold max ⊥ (fun j => v (ix2 i j)) := by
  refine (Ideal.multiReduction_maximumf_single v _ h hφ hacc (ix1 i)).trans ?_
  show Finset.univ.fold max (Ideal.ofBits .f32 0xFF800000#32) _ = _
  rw [bot_bits]
  congr 1
  funext j
  refine congrArg v (funext fun a => Fin.ext ?_)
  match a with
  | ⟨0, _⟩ => rfl
  | ⟨1, _⟩ => rfl

theorem max3 {A B C : ℕ} (v : FVec Ideal ⟨3, ![A, B, C]⟩ .f32) (h : Shape.Reduces ⟨3, ![A, B, C]⟩ [2] ⟨2, ![A, B]⟩)
    (hφ : FKind.Formats .f32) (hacc : (0xFF800000#32 : BitVec 32) = FKind.maximumf.neutral .f32 hφ) (a : Fin A) (i : Fin B) :
    multiReduction .maximumf [2] ⟨2, ![A, B]⟩ v 0xFF800000#32 h hφ hacc (ix2 a i) = Finset.univ.fold max ⊥ (fun j => v (ix3 a i j)) := by
  refine (Ideal.multiReduction_maximumf_single v _ h hφ hacc (ix2 a i)).trans ?_
  show Finset.univ.fold max (Ideal.ofBits .f32 0xFF800000#32) _ = _
  rw [bot_bits]
  congr 1
  funext j
  refine congrArg v (funext fun a => Fin.ext ?_)
  match a with
  | ⟨0, _⟩ => rfl
  | ⟨1, _⟩ => rfl
  | ⟨2, _⟩ => rfl

/-- Eight tiles of 128 columns side by side. -/
theorem cat8 {α : Type} {R : ℕ} (f : Fin 8 → (⟨2, ![R, 128]⟩ : Shape).Idx → α)
    (h : Shape.Concatenates [⟨2, ![R, 128]⟩, ⟨2, ![R, 128]⟩, ⟨2, ![R, 128]⟩, ⟨2, ![R, 128]⟩, ⟨2, ![R, 128]⟩, ⟨2, ![R, 128]⟩, ⟨2, ![R, 128]⟩,
      ⟨2, ![R, 128]⟩] ⟨2, ![R, 1024]⟩ 1) (i : Fin R) (j : Fin 1024) :
    concatenate (⟨2, ![R, 1024]⟩ : Shape) 1 [⟨⟨2, ![R, 128]⟩, f 0⟩, ⟨⟨2, ![R, 128]⟩, f 1⟩, ⟨⟨2, ![R, 128]⟩, f 2⟩, ⟨⟨2, ![R, 128]⟩, f 3⟩,
      ⟨⟨2, ![R, 128]⟩, f 4⟩, ⟨⟨2, ![R, 128]⟩, f 5⟩, ⟨⟨2, ![R, 128]⟩, f 6⟩, ⟨⟨2, ![R, 128]⟩, f 7⟩] h (ix2 i j)
      = f ⟨j.val / 128, by omega⟩ (ix2 i ⟨j.val % 128, by omega⟩) := by
  refine concatenate_ofFn_apply (t := ⟨2, ![R, 1024]⟩) (s₁ := ⟨2, ![R, 128]⟩) 1 f h rfl 128 rfl (ix2 i j) ⟨j.val / 128, by omega⟩ rfl
    (ix2 i ⟨j.val % 128, by omega⟩) rfl fun b hb => ?_
  match b with
  | ⟨0, _⟩ => rfl
  | ⟨1, _⟩ => exact absurd rfl hb

/-- Rows of bytes taken four to a word, selected lane by lane and taken apart again: each byte is selected by its lane. -/
theorem bytes_select {R r n : ℕ} (x y : (⟨2, ![R, n]⟩ : Shape).Idx → BitVec 8) (c : IVec ⟨2, ![r, n]⟩ 1) (c' : Fin n → BitVec 1)
    (hc : ∀ a l, c (ix2 a l) = c' l)
    (h : (⟨2, ![R, n]⟩ : Shape).Bitcasts 8 ⟨2, ![r, n]⟩ 32) (h' : (⟨2, ![r, n]⟩ : Shape).Bitcasts 32 ⟨2, ![R, n]⟩ 8)
    (k : Fin R) (l : Fin n) :
    bitcast ⟨2, ![R, n]⟩ 8 (select c (bitcast ⟨2, ![r, n]⟩ 32 x h) (bitcast ⟨2, ![r, n]⟩ 32 y h)) h' (ix2 k l)
      = Scalar.select (c' l) (x (ix2 k l)) (y (ix2 k l)) := by
  apply BitVec.eq_of_getLsbD_eq
  intro q hq
  rw [bitcast_getLsbD _ h' _ q hq (by decide)]
  have hsrc : ∀ hp, h'.srcIdx (ix2 k l) ((((⟨2, ![R, n]⟩ : Shape).row (ix2 k l)) * 8 + q) / 32) hp
      = ix2 ⟨(k.val * 8 + q) / 32, hp ⟨0, Nat.zero_lt_two⟩ rfl⟩ l := by
    intro hp
    funext a
    match a with
    | ⟨0, _⟩ => exact Fin.ext (h'.srcIdx_row _ _ _ ⟨0, Nat.zero_lt_two⟩ rfl)
    | ⟨1, _⟩ => exact Fin.ext (h'.srcIdx_other _ _ _ ⟨1, Nat.one_lt_two⟩ (by show ¬ 1 + 2 = 2; omega))
  rw [hsrc]
  show (select c (bitcast ⟨2, ![r, n]⟩ 32 x h) (bitcast ⟨2, ![r, n]⟩ 32 y h) (ix2 ⟨(k.val * 8 + q) / 32, _⟩ l)).getLsbD ((k.val * 8 + q) % 32) = _
  have hb : ∀ (z : (⟨2, ![R, n]⟩ : Shape).Idx → BitVec 8) (a : Fin r), a.val = (k.val * 8 + q) / 32 →
      (bitcast ⟨2, ![r, n]⟩ 32 z h (ix2 a l)).getLsbD ((k.val * 8 + q) % 32) = (z (ix2 k l)).getLsbD q := by
    intro z a ha
    rw [ix2_eq_valueIdx, bitcast_8_32_getLsbD_ix2 z h a l _ (by omega) k (by omega), ← ix2_eq_valueIdx]
    congr 1
    omega
  rw [ValueIdx.select_apply, hc]
  by_cases e : c' l = 1#1
  · rw [e, ValueIdx.select_one, ValueIdx.select_one]; exact hb x _ rfl
  · rw [ValueIdx.eq_zero_of_ne_one e, ValueIdx.select_zero, ValueIdx.select_zero]; exact hb y _ rfl

end Cert.Reads

end
-- ==== Proof.KIVal.lean ====
/-
What the second loop computes for one batch, read at one element of the result over the extended reals.
-/
module
public import proofs.«01_k».proof.Proof.KIRow
public import proofs.«01_k».proof.Proof.Reads

@[expose] public section
noncomputable section

namespace Cert.KernelIdeal.Hand
open Cert.KernelIdeal Cert.KernelIdeal.Gen Cert.Words Cert.Geo
open Idealize.ShloMosaic

abbrev io : IVec S1x128 32 := iota .tc S1x128 32 [1] iota_S1x128_d1_w32

/-- The lanes before `r`. -/
def before (r : BitVec 32) (l : Fin 128) : BitVec 1 := IntOp.cmpi .slt (BitVec.ofNat 32 l.val) r

/-- Lane `r`. -/
def isAt (r : BitVec 32) (l : Fin 128) : BitVec 1 := IntOp.cmpi .eq (BitVec.ofNat 32 l.val) r

theorem rows_before (r : BitVec 32) (a : Fin 16) (l : Fin 128) :
    broadcastTo S16x128 (shapeCast S1x128 (cmpi .slt io (broadcast S1x128 r)) shapeCasts_S1x128_S1x128) broadcasts_S1x128_S16x128 (ix2 a l)
      = before r l := by
  pointwise [io]
  rfl

/-- The lane-by-lane choice of whole words, seen by its bytes. -/
theorem tile_select (c : IVec S16x128 1) (Ks K0 : IVec S1x64x128 8) (c' : Fin 128 → BitVec 1) (hc : ∀ a l, c (ix2 a l) = c' l) (k : Fin 64) (l : Fin 128) :
    bitcast S64x128 8 (select c (bitcast S16x128 32 (shapeCast S64x128 Ks shapeCasts_S1x64x128_S64x128) bitcasts_S64x128_w8_S16x128_w32)
      (bitcast S16x128 32 (shapeCast S64x128 K0 shapeCasts_S1x64x128_S64x128) bitcasts_S64x128_w8_S16x128_w32)) bitcasts_S16x128_w32_S64x128_w8 (ix2 k l)
      = Scalar.select (c' l) (Ks (ix3 0 k l)) (K0 (ix3 0 k l)) := by
  have e (z : IVec S1x64x128 8) : shapeCast S64x128 z shapeCasts_S1x64x128_S64x128 (ix2 k l) = z (ix3 0 k l) := by pointwise
  refine (Reads.bytes_select (R := 64) (r := 16) (n := 128) _ _ c c' hc bitcasts_S64x128_w8_S16x128_w32 bitcasts_S16x128_w32_S64x128_w8 k l).trans ?_
  rw [e, e]

/-- The first tile of codes: the tail's codes before lane `r`, the window's from it on. -/
theorem tile0 (w : BitVec 32) (Ks K0 : Vec Ideal S1x64x128 .i8) (k : Fin 64) (l : Fin 128) :
    k0_pay3 (F := Ideal) io w Ks K0 (ix2 k l) = Scalar.select (before (Scalar.andi w 127#32) l) (Ks (ix3 0 k l)) (K0 (ix3 0 k l)) := by
  unfold k0_pay3
  exact tile_select _ Ks K0 _ (rows_before (Scalar.andi w 127#32)) k l

theorem tile0V (r : BitVec 32) (Vs V0 : Vec Ideal S1x64x128 .i8) (k : Fin 64) (l : Fin 128) :
    k0_pay14 io (k0_pay11 (F := Ideal) Vs) (k0_pay12 (F := Ideal) V0) (k0_pay13 r) (ix2 k l) = Scalar.select (before r l) (Vs (ix3 0 k l)) (V0 (ix3 0 k l)) := by
  unfold k0_pay14 k0_pay11 k0_pay12 k0_pay13
  exact tile_select _ Vs V0 _ (rows_before r) k l

theorem tile_cast (z : Vec Ideal S1x64x128 .i8) (k : Fin 64) (l : Fin 128) :
    shapeCast S64x128 z shapeCasts_S1x64x128_S64x128 (ix2 k l) = z (ix3 0 k l) := by pointwise

theorem scale_cast (z : Vec Ideal S1x1x128 .f32) (l : Fin 128) :
    shapeCast S1x128 z shapeCasts_S1x1x128_S1x128 (ix2 0 l) = z (ix3 0 0 l) := by pointwise

/-- A slot's entry: of the eight tiles' the tail's in the slots before `r`. -/
def slot {D : ℕ} {α : Type} (r : BitVec 32) (Ks : (⟨3, ![1, D, 128]⟩ : Shape).Idx → α) (K : ℕ → (⟨3, ![1, D, 128]⟩ : Shape).Idx → α) (k : Fin D) (j : Fin 1024) : α :=
  if j.val < 128 then Scalar.select (before r ⟨j.val % 128, by omega⟩) (Ks (ix3 0 k ⟨j.val % 128, by omega⟩)) (K 0 (ix3 0 k ⟨j.val % 128, by omega⟩))
  else K (128 * (j.val / 128)) (ix3 0 k ⟨j.val % 128, by omega⟩)

section
variable (w : BitVec 32) (Ks : Vec Ideal S1x64x128 .i8) (K : ℕ → Vec Ideal S1x64x128 .i8) (Ss : Vec Ideal S1x1x128 .f32) (S : ℕ → Vec Ideal S1x1x128 .f32)
  (x : FVec Ideal S1x64x128 .bf16) (q : FVec Ideal S1x16x64 .bf16) (kn vn : Vec Ideal S1x64 .f32)

/-- The eight tiles of codes. -/
def tilesK : Fin 8 → IVec S64x128 8 :=
  ![k0_pay3 (F := Ideal) io w Ks (K 0), k0_pay4 (F := Ideal) (K 128), k0_pay5 (F := Ideal) (K 256), k0_pay6 (F := Ideal) (K 384), k0_pay7 (F := Ideal) (K 512), k0_pay8 (F := Ideal) (K 640), k0_pay9 (F := Ideal) (K 768), k0_pay10 (F := Ideal) (K 896)]

theorem tilesK_zero : tilesK w Ks K 0 = k0_pay3 (F := Ideal) io w Ks (K 0) :=
  Matrix.cons_val_zero _ _

theorem tilesK_succ (g : Fin 8) (hg : g ≠ 0) : tilesK w Ks K g = shapeCast S64x128 (K (128 * g.val)) shapeCasts_S1x64x128_S64x128 := by
  match g, hg with
  | 0, hg => exact absurd rfl hg
  | 1, _ => rfl
  | 2, _ => rfl
  | 3, _ => rfl
  | 4, _ => rfl
  | 5, _ => rfl
  | 6, _ => rfl
  | 7, _ => rfl

theorem tilesK_apply (j : Fin 1024) (k : Fin 64) :
    tilesK w Ks K ⟨j.val / 128, by omega⟩ (ix2 k ⟨j.val % 128, by omega⟩) = slot (Scalar.andi w 127#32) Ks K k j := by
  unfold slot
  by_cases h : j.val < 128
  · have e : (⟨j.val / 128, by omega⟩ : Fin 8) = 0 := Fin.ext (show j.val / 128 = 0 by omega)
    rw [if_pos h, e, tilesK_zero, tile0]
  · have e : (⟨j.val / 128, by omega⟩ : Fin 8) ≠ 0 := fun e => h (by have := congrArg Fin.val e; simp only [Fin.val_zero] at this; omega)
    rw [if_neg h, tilesK_succ w Ks K _ e, tile_cast]

def tilesV : Fin 8 → IVec S64x128 8 :=
  ![k0_pay14 io (k0_pay11 (F := Ideal) Ks) (k0_pay12 (F := Ideal) (K 0)) (k0_pay13 (Scalar.andi w 127#32)), k0_pay15 (F := Ideal) (K 128), k0_pay16 (F := Ideal) (K 256), k0_pay17 (F := Ideal) (K 384), k0_pay18 (F := Ideal) (K 512), k0_pay19 (F := Ideal) (K 640), k0_pay20 (F := Ideal) (K 768), k0_pay21 (F := Ideal) (K 896)]

theorem tilesV_zero : tilesV w Ks K 0 = k0_pay14 io (k0_pay11 (F := Ideal) Ks) (k0_pay12 (F := Ideal) (K 0)) (k0_pay13 (Scalar.andi w 127#32)) :=
  Matrix.cons_val_zero _ _

theorem tilesV_succ (g : Fin 8) (hg : g ≠ 0) : tilesV w Ks K g = shapeCast S64x128 (K (128 * g.val)) shapeCasts_S1x64x128_S64x128 := by
  match g, hg with
  | 0, hg => exact absurd rfl hg
  | 1, _ => rfl
  | 2, _ => rfl
  | 3, _ => rfl
  | 4, _ => rfl
  | 5, _ => rfl
  | 6, _ => rfl
  | 7, _ => rfl

theorem tilesV_apply (j : Fin 1024) (k : Fin 64) :
    tilesV w Ks K ⟨j.val / 128, by omega⟩ (ix2 k ⟨j.val % 128, by omega⟩) = slot (Scalar.andi w 127#32) Ks K k j := by
  unfold slot
  by_cases h : j.val < 128
  · have e : (⟨j.val / 128, by omega⟩ : Fin 8) = 0 := Fin.ext (show j.val / 128 = 0 by omega)
    rw [if_pos h, e, tilesV_zero, tile0V]
  · have e : (⟨j.val / 128, by omega⟩ : Fin 8) ≠ 0 := fun e => h (by have := congrArg Fin.val e; simp only [Fin.val_zero] at this; omega)
    rw [if_neg h, tilesV_succ w Ks K _ e, tile_cast]

/-- The score before the new token's is put in. -/
def sRaw (h : Fin 16) (j : Fin 1024) : EReal :=
  (∑ k : Fin 64, q (ix3 0 h k) * ((((slot (Scalar.andi w 127#32) Ks K k j : BitVec 8).toInt : ℝ) : EReal) * x (ix3 0 k ⟨j.val % 128, by omega⟩)))
    * Ideal.ofBits .f32 0x3E000000#32

theorem mm1 (A : FVec Ideal S16x64 .bf16) (B : FVec Ideal S64x1024 .bf16) (h : Fin 16) (j : Fin 1024) :
    matmul dot_S16x64_S64x1024_S16x1024_1_0_0_1_n_n none A B (constant S16x1024 .f32 0x00000000#32) (ix2 h j) = ∑ k : Fin 64, A (ix2 h k) * B (ix2 k j) := by
  pointwise

theorem scores (h : Fin 16) (j : Fin 1024) :
    k0_pay31 (F := Ideal) (tilesK w Ks K 0) (tilesK w Ks K 1) (tilesK w Ks K 2) (tilesK w Ks K 3) (tilesK w Ks K 4) (tilesK w Ks K 5) (tilesK w Ks K 6) (tilesK w Ks K 7) x q (ix2 h j)
      = sRaw w Ks K x q h j := by
  refine congrArg (· * Ideal.ofBits .f32 0x3E000000#32) ?_
  refine (mm1 _ _ h j).trans (Finset.sum_congr rfl fun k _ => ?_)
  refine congrArg₂ (· * ·) ?_ ?_
  · show shapeCast S16x64 q shapeCasts_S1x16x64_S16x64 (ix2 h k) = _
    pointwise
  · refine (Reads.cat8 (R := 64) (fun g => mulf (sitofp .bf16 (tilesK w Ks K g)) (shapeCast S64x128 x shapeCasts_S1x64x128_S64x128)) _ k j).trans ?_
    refine congrArg₂ (· * ·) ?_ ?_
    · show ((((tilesK w Ks K _ _ : BitVec 8)).toInt : ℝ) : EReal) = _
      rw [tilesK_apply]
    · pointwise

/-- The new token's score. -/
def sNew (h : Fin 16) : EReal := (∑ k : Fin 64, q (ix3 0 h k) * kn (ix2 0 k)) * Ideal.ofBits .f32 0x3E000000#32

theorem score_new (h : Fin 16) : k0_pay32 q kn (ix2 h 0) = sNew q kn h := by
  unfold sNew k0_pay32 k0_pay30
  pointwise

/-- The eight tiles of value scales. -/
def tilesS : Fin 8 → FVec Ideal S1x128 .f32 :=
  ![select (k0_pay33 io (Scalar.andi w 127#32)) (broadcast S1x128 (Scalar.ofBits .f32 0x00000000#32)) (k0_pay22 io (Scalar.andi w 127#32) Ss (S 0)), k0_pay23 (F := Ideal) (S 128), k0_pay24 (F := Ideal) (S 256), k0_pay25 (F := Ideal) (S 384), k0_pay26 (F := Ideal) (S 512), k0_pay27 (F := Ideal) (S 640), k0_pay28 (F := Ideal) (S 768), k0_pay29 (F := Ideal) (S 896)]

theorem tilesS_zero : tilesS w Ss S 0 = select (k0_pay33 io (Scalar.andi w 127#32)) (broadcast S1x128 (Scalar.ofBits .f32 0x00000000#32)) (k0_pay22 io (Scalar.andi w 127#32) Ss (S 0)) :=
  Matrix.cons_val_zero _ _

theorem tilesS_succ (g : Fin 8) (hg : g ≠ 0) : tilesS w Ss S g = shapeCast S1x128 (S (128 * g.val)) shapeCasts_S1x1x128_S1x128 := by
  match g, hg with
  | 0, hg => exact absurd rfl hg
  | 1, _ => rfl
  | 2, _ => rfl
  | 3, _ => rfl
  | 4, _ => rfl
  | 5, _ => rfl
  | 6, _ => rfl
  | 7, _ => rfl

theorem tileS0 (r : BitVec 32) (Ss S0 : Vec Ideal S1x1x128 .f32) (l : Fin 128) :
    select (k0_pay33 io r) (broadcast S1x128 (Scalar.ofBits (F := Ideal) .f32 0x00000000#32)) (k0_pay22 io r Ss S0) (ix2 0 l)
      = Scalar.select (isAt r l) (0 : EReal) (Scalar.select (before r l) (Ss (ix3 0 0 l)) (S0 (ix3 0 0 l))) := by
  have e1 : k0_pay33 io r (ix2 0 l) = isAt r l := by
    unfold k0_pay33 io
    pointwise
    rfl
  have e2 : k0_pay22 io r Ss S0 (ix2 0 l) = Scalar.select (before r l) (Ss (ix3 0 0 l)) (S0 (ix3 0 0 l)) := by
    unfold k0_pay22 io
    pointwise
    rfl
  show Scalar.select (k0_pay33 io r (ix2 0 l)) (Ideal.ofBits .f32 0x00000000#32) (k0_pay22 io r Ss S0 (ix2 0 l)) = _
  rw [e1, e2, Ideal.ofBits_zero]

theorem tilesS_apply (j : Fin 1024) :
    tilesS w Ss S ⟨j.val / 128, by omega⟩ (ix2 0 ⟨j.val % 128, by omega⟩)
      = if j.val < 128 then Scalar.select (isAt (Scalar.andi w 127#32) ⟨j.val % 128, by omega⟩) (0 : EReal) (slot (Scalar.andi w 127#32) Ss S 0 j)
        else slot (Scalar.andi w 127#32) Ss S 0 j := by
  unfold slot
  by_cases h : j.val < 128
  · have e : (⟨j.val / 128, by omega⟩ : Fin 8) = 0 := Fin.ext (show j.val / 128 = 0 by omega)
    rw [if_pos h, if_pos h, e, tilesS_zero, tileS0]
  · have e : (⟨j.val / 128, by omega⟩ : Fin 8) ≠ 0 := fun e => h (by have := congrArg Fin.val e; simp only [Fin.val_zero] at this; omega)
    rw [if_neg h, if_neg h, tilesS_succ w Ss S _ e, scale_cast]

end

section
variable (s : FVec Ideal S16x1024 .f32) (sn : FVec Ideal S16x1 .f32) (sc : FVec Ideal S1x1024 .f32) (v : FVec Ideal S64x1024 .bf16) (vn : FVec Ideal S1x64 .f32)

/-- The largest score of each head. -/
def top : FVec Ideal S16x1 .f32 :=
  shapeCast S16x1 (multiReduction .maximumf [1] S16 s 0xFF800000#32 reduces_S16x1024_S16 (.inl rfl) rfl) shapeCasts_S16_S16x1

/-- The weights before they are divided by their sum. -/
def ex (m : FVec Ideal S16x1 .f32) : FVec Ideal S16x1024 .f32 := exp (subf s (broadcastTo S16x1024 m broadcasts_S16x1_S16x1024))

/-- Their sum. -/
def den (e : FVec Ideal S16x1024 .f32) : FVec Ideal S16x1 .f32 :=
  shapeCast S16x1 (multiReduction .add [1] S16 e 0x00000000#32 reduces_S16x1024_S16 (.inl rfl) rfl) shapeCasts_S16_S16x1

/-- The weighted values. -/
def mixed (e : FVec Ideal S16x1024 .f32) (m D : FVec Ideal S16x1 .f32) : FVec Ideal S1x16x64 .bf16 :=
  shapeCast S1x16x64 (truncf .bf16 (addf
    (matmul dot_S16x1024_S64x1024_S16x64_1_1_0_0_n_n none
      (truncf .bf16 (mulf (divf e (broadcastTo S16x1024 D broadcasts_S16x1_S16x1024)) (broadcastTo S16x1024 sc broadcasts_S1x1024_S16x1024)) bitsLt_bf16_f32)
      v (constant S16x64 .f32 0x00000000#32))
    (mulf (broadcastTo S16x64 (extf .f32 (truncf .bf16 (divf (exp (subf sn m)) D) bitsLt_bf16_f32) bitsLt_bf16_f32) broadcasts_S16x1_S16x64)
      (broadcastTo S16x64 vn broadcasts_S1x64_S16x64))) bitsLt_bf16_f32) shapeCasts_S16x64_S1x16x64

theorem top_apply (h : Fin 16) : top s (ix2 h 0) = Finset.univ.fold max ⊥ (fun j => s (ix2 h j)) := by
  have e (z : FVec Ideal S16 .f32) : shapeCast S16x1 z shapeCasts_S16_S16x1 (ix2 h 0) = z (ix1 h) := by pointwise
  exact (e _).trans (Reads.max2 _ _ _ _ h)

theorem ex_apply (m : FVec Ideal S16x1 .f32) (h : Fin 16) (j : Fin 1024) : ex s m (ix2 h j) = Ideal.exp (s (ix2 h j) - m (ix2 h 0)) := by
  unfold ex
  pointwise

theorem den_apply (e : FVec Ideal S16x1024 .f32) (h : Fin 16) : den e (ix2 h 0) = ∑ j, e (ix2 h j) := by
  unfold den
  pointwise

theorem mixed_apply (e : FVec Ideal S16x1024 .f32) (m D : FVec Ideal S16x1 .f32) (h : Fin 16) (d : Fin 64) :
    mixed sn sc v vn e m D (ix3 0 h d)
      = (∑ j : Fin 1024, Ideal.div (e (ix2 h j)) (D (ix2 h 0)) * sc (ix2 0 j) * v (ix2 d j))
        + Ideal.div (Ideal.exp (sn (ix2 h 0) - m (ix2 h 0))) (D (ix2 h 0)) * vn (ix2 0 d) := by
  unfold mixed
  pointwise

/-- The scores with the new token's in the first tile. -/
def withNew (c : IVec S1x128 1) (s0 : FVec Ideal S16x128 .f32) : FVec Ideal S16x1024 .f32 :=
  concatenate S16x1024 1 [⟨S16x128, select (broadcastTo S16x128 (shapeCast S1x128 c shapeCasts_S1x128_S1x128) broadcasts_S1x128_S16x128)
      (broadcastTo S16x128 (shapeCast S16x1 sn shapeCasts_S16x1_S16x1) broadcasts_S16x1_S16x128) s0⟩,
    ⟨S16x896, extractStridedSlice S16x896 ![0, 128] s slices_S16x1024_o0_128_S16x896⟩] concatenates_S16x128_S16x896_S16x1024_d1

theorem withNew_apply (c : IVec S1x128 1) (s0 : FVec Ideal S16x128 .f32) (h : Fin 16) (j : Fin 1024)
    (hs0 : ∀ l : Fin 128, s0 (ix2 h l) = s (ix2 h ⟨l.val, by omega⟩)) :
    withNew s sn c s0 (ix2 h j)
      = if j.val < 128 then Scalar.select (c (ix2 0 ⟨j.val % 128, by omega⟩)) (sn (ix2 h 0)) (s (ix2 h j)) else s (ix2 h j) := by
  by_cases hj : j.val < 128
  · rw [if_pos hj]
    refine (concatenate_pair_apply_left (t := S16x1024) (s₁ := S16x128) (s₂ := S16x896) 1 _ _ _ (ix2 h j) rfl (ix2 h (⟨j.val, hj⟩ : Fin 128)) ?_).trans ?_
    · intro b
      match b with
      | 0 => rfl
      | 1 => rfl
    · have e : (⟨j.val % 128, by omega⟩ : Fin 128) = ⟨j.val, hj⟩ := Fin.ext (Nat.mod_eq_of_lt hj)
      rw [e]
      refine Eq.trans ?_ (congrArg (Scalar.select _ _) (hs0 ⟨j.val, hj⟩))
      pointwise
  · rw [if_neg hj]
    refine (concatenate_pair_apply_right (t := S16x1024) (s₁ := S16x128) (s₂ := S16x896) 1 _ _ _ (ix2 h j) rfl rfl (ix2 h (⟨j.val - 128, by omega⟩ : Fin 896)) ?_ ?_).trans ?_
    · intro b hb
      match b with
      | 0 => rfl
      | 1 => exact absurd rfl hb
    · show j.val - 128 + 128 = j.val
      omega
    · refine extractStridedSlice_apply _ s _ _ _ fun a => ?_
      match a with
      | 0 => show h.val = 0 + h.val; omega
      | 1 => show j.val = 128 + (j.val - 128); omega

theorem pay35_def (i0 : IVec S1x128 32) (r : BitVec 32) (T : Fin 8 → IVec S64x128 8) (c1 : FVec Ideal S1x128 .f32) (S : Fin 8 → FVec Ideal S1x128 .f32)
    (s0 : FVec Ideal S16x128 .f32) (c : IVec S1x128 1)
    (h0 : S 0 = select (k0_pay33 i0 r) (broadcast S1x128 (Scalar.ofBits .f32 0x00000000#32)) c1) :
    k0_pay35 i0 r (T 0) (T 1) (T 2) (T 3) (T 4) (T 5) (T 6) (T 7) c1 (S 1) (S 2) (S 3) (S 4) (S 5) (S 6) (S 7) s sn c s0 vn
      = (let t := withNew s sn c s0
         mixed sn
          (concatenate S1x1024 1 [⟨S1x128, S 0⟩, ⟨S1x128, S 1⟩, ⟨S1x128, S 2⟩, ⟨S1x128, S 3⟩, ⟨S1x128, S 4⟩, ⟨S1x128, S 5⟩, ⟨S1x128, S 6⟩, ⟨S1x128, S 7⟩]
            concatenates_S1x128_S1x128_S1x128_S1x128_S1x128_S1x128_S1x128_S1x128_S1x1024_d1)
          (concatenate S64x1024 1 [⟨S64x128, sitofp .bf16 (T 0)⟩, ⟨S64x128, sitofp .bf16 (T 1)⟩, ⟨S64x128, sitofp .bf16 (T 2)⟩, ⟨S64x128, sitofp .bf16 (T 3)⟩, ⟨S64x128, sitofp .bf16 (T 4)⟩,
            ⟨S64x128, sitofp .bf16 (T 5)⟩, ⟨S64x128, sitofp .bf16 (T 6)⟩, ⟨S64x128, sitofp .bf16 (T 7)⟩] concatenates_S64x128_S64x128_S64x128_S64x128_S64x128_S64x128_S64x128_S64x128_S64x1024_d1)
          vn (ex t (top t)) (top t) (den (ex t (top t)))) := by
  rw [h0]
  rfl

end

section
variable (w : BitVec 32) (Ks : Vec Ideal S1x64x128 .i8) (K : ℕ → Vec Ideal S1x64x128 .i8) (Vs : Vec Ideal S1x64x128 .i8) (V : ℕ → Vec Ideal S1x64x128 .i8)
  (Ss : Vec Ideal S1x1x128 .f32) (S : ℕ → Vec Ideal S1x1x128 .f32) (x : FVec Ideal S1x64x128 .bf16) (q : FVec Ideal S1x16x64 .bf16) (kn vn : FVec Ideal S1x64 .f32)

theorem rowF_tiles : rowF w Ks K Vs V Ss S x q kn vn
    = k0_pay35 io (Scalar.andi w 127#32) (tilesV w Vs V 0) (tilesV w Vs V 1) (tilesV w Vs V 2) (tilesV w Vs V 3) (tilesV w Vs V 4) (tilesV w Vs V 5) (tilesV w Vs V 6) (tilesV w Vs V 7)
      (k0_pay22 io (Scalar.andi w 127#32) Ss (S 0)) (tilesS w Ss S 1) (tilesS w Ss S 2) (tilesS w Ss S 3) (tilesS w Ss S 4) (tilesS w Ss S 5) (tilesS w Ss S 6) (tilesS w Ss S 7)
      (k0_pay31 (tilesK w Ks K 0) (tilesK w Ks K 1) (tilesK w Ks K 2) (tilesK w Ks K 3) (tilesK w Ks K 4) (tilesK w Ks K 5) (tilesK w Ks K 6) (tilesK w Ks K 7) x q)
      (k0_pay32 q kn) (k0_pay33 io (Scalar.andi w 127#32))
      (k0_pay34 (tilesK w Ks K 0) (tilesK w Ks K 1) (tilesK w Ks K 2) (tilesK w Ks K 3) (tilesK w Ks K 4) (tilesK w Ks K 5) (tilesK w Ks K 6) (tilesK w Ks K 7) x q) vn := by
  rw [tilesK_zero, tilesV_zero]
  rfl

/-- The score in each slot: the new token's in slot `r`. -/
def sSlot (h : Fin 16) (j : Fin 1024) : EReal :=
  if j.val < 128 then Scalar.select (isAt (Scalar.andi w 127#32) ⟨j.val % 128, by omega⟩) (sNew q kn h) (sRaw w Ks K x q h j) else sRaw w Ks K x q h j

/-- The value scale in each slot: none in slot `r`. -/
def wSlot (j : Fin 1024) : EReal :=
  if j.val < 128 then Scalar.select (isAt (Scalar.andi w 127#32) ⟨j.val % 128, by omega⟩) (0 : EReal) (slot (Scalar.andi w 127#32) Ss S 0 j)
  else slot (Scalar.andi w 127#32) Ss S 0 j

/-- One element of a batch's result: attention over the 1024 slots and the new token. -/
theorem rowF_apply (h : Fin 16) (d : Fin 64) :
    rowF w Ks K Vs V Ss S x q kn vn (ix3 0 h d)
      = (let M := Finset.univ.fold max ⊥ (sSlot w Ks K x q kn h)
         let D := ∑ j, Ideal.exp (sSlot w Ks K x q kn h j - M)
         (∑ j : Fin 1024, Ideal.div (Ideal.exp (sSlot w Ks K x q kn h j - M)) D * wSlot w Ss S j * (((slot (Scalar.andi w 127#32) Vs V d j : BitVec 8).toInt : ℝ) : EReal))
          + Ideal.div (Ideal.exp (sNew q kn h - M)) D * vn (ix2 0 d)) := by
  rw [rowF_tiles, pay35_def _ _ _ io (Scalar.andi w 127#32) (tilesV w Vs V) _ (tilesS w Ss S) _ _ (tilesS_zero w Ss S)]
  have hs : ∀ j, withNew (k0_pay31 (F := Ideal) (tilesK w Ks K 0) (tilesK w Ks K 1) (tilesK w Ks K 2) (tilesK w Ks K 3) (tilesK w Ks K 4) (tilesK w Ks K 5) (tilesK w Ks K 6) (tilesK w Ks K 7) x q)
      (k0_pay32 q kn) (k0_pay33 io (Scalar.andi w 127#32))
      (k0_pay34 (F := Ideal) (tilesK w Ks K 0) (tilesK w Ks K 1) (tilesK w Ks K 2) (tilesK w Ks K 3) (tilesK w Ks K 4) (tilesK w Ks K 5) (tilesK w Ks K 6) (tilesK w Ks K 7) x q) (ix2 h j)
      = sSlot w Ks K x q kn h j := by
    intro j
    rw [withNew_apply, score_new, scores]
    · unfold sSlot
      have e1 (l : Fin 128) : k0_pay33 io (Scalar.andi w 127#32) (ix2 0 l) = isAt (Scalar.andi w 127#32) l := by
        unfold k0_pay33 io
        pointwise
        rfl
      rw [e1]
    · intro l
      unfold k0_pay34
      refine extractStridedSlice_apply (s := S16x1024) (t := S16x128) ![0, 0] _ slices_S16x1024_o0_0_S16x128 (ix2 h l) (ix2 h ⟨l.val, by omega⟩) fun a => ?_
      match a with
      | 0 => show h.val = 0 + h.val; omega
      | 1 => show l.val = 0 + l.val; omega
  generalize withNew _ _ _ _ = t at hs ⊢
  show mixed _ _ _ _ _ _ _ (ix3 0 h d) = _
  rw [mixed_apply]
  have htop : top t (ix2 h 0) = Finset.univ.fold max ⊥ (sSlot w Ks K x q kn h) :=
    (top_apply t h).trans (congrArg (fun f => Finset.univ.fold max ⊥ f) (funext hs))
  have hex (j : Fin 1024) : ex t (top t) (ix2 h j) = Ideal.exp (sSlot w Ks K x q kn h j - Finset.univ.fold max ⊥ (sSlot w Ks K x q kn h)) := by
    rw [ex_apply, hs, htop]
  have hden : den (ex t (top t)) (ix2 h 0) = ∑ j, Ideal.exp (sSlot w Ks K x q kn h j - Finset.univ.fold max ⊥ (sSlot w Ks K x q kn h)) :=
    (den_apply _ h).trans (Finset.sum_congr rfl fun j _ => hex j)
  rw [htop, hden, score_new]
  refine congrArg (· + _) (Finset.sum_congr rfl fun j _ => ?_)
  rw [hex]
  refine congrArg₂ (· * ·) (congrArg₂ (· * ·) rfl ?_) ?_
  · exact (Reads.cat8 (tilesS w Ss S) _ 0 j).trans (tilesS_apply w Ss S j)
  · refine (Reads.cat8 (R := 64) (fun g => sitofp (F := Ideal) .bf16 (tilesV w Vs V g)) _ d j).trans ?_
    show ((((tilesV w Vs V _ _ : BitVec 8)).toInt : ℝ) : EReal) = _
    rw [tilesV_apply]

end

end Cert.KernelIdeal.Hand

end
-- ==== Proof.Sums.lean ====
/-
A softmax over slots and a softmax over positions give one weighted sum, when the slots hold the positions of the window.
-/
module
public import Idealize.ShloMosaic.PureOps.Ideal.Laws

@[expose] public section
noncomputable section

namespace Cert.Sums
open Idealize.ShloMosaic

/-- The slots but one, `r`, hold the positions `p` with `ok p`, each once. -/
structure Ring {N P : Nat} (r : Fin N) (pos : Fin N → Fin P) (ok : Fin P → Prop) : Prop where
  okay : ∀ j, j ≠ r → ok (pos j)
  inj : ∀ i j, i ≠ r → j ≠ r → pos i = pos j → i = j
  onto : ∀ p, ok p → ∃ j, j ≠ r ∧ pos j = p

variable {N P : Nat} {r : Fin N} {pos : Fin N → Fin P} {ok : Fin P → Prop} [DecidablePred ok]

/-- A sum over the slots is the sum over the window, with the value of slot `r` added. -/
theorem Ring.sum (h : Ring r pos ok) (f : Fin N → EReal) (g : Fin P → EReal)
    (hfg : ∀ j, j ≠ r → f j = g (pos j)) (hg : ∀ p, ¬ ok p → g p = 0) :
    ∑ j, f j = (∑ p, g p) + f r := by
  rw [← Finset.sum_erase_add _ _ (Finset.mem_univ r)]
  congr 1
  rw [← Finset.sum_filter_add_sum_filter_not Finset.univ ok g,
    Finset.sum_eq_zero (s := Finset.univ.filter fun p => ¬ ok p) (fun p hp => hg p (Finset.mem_filter.mp hp).2), add_zero]
  refine Finset.sum_bij (fun j _ => pos j) ?_ ?_ ?_ ?_
  · intro j hj; exact Finset.mem_filter.mpr ⟨Finset.mem_univ _, h.okay j (Finset.ne_of_mem_erase hj)⟩
  · intro i hi j hj e; exact h.inj i j (Finset.ne_of_mem_erase hi) (Finset.ne_of_mem_erase hj) e
  · intro p hp
    obtain ⟨j, hj, e⟩ := h.onto p (Finset.mem_filter.mp hp).2
    exact ⟨j, Finset.mem_erase.mpr ⟨hj, Finset.mem_univ _⟩, e⟩
  · intro j hj; exact hfg j (Finset.ne_of_mem_erase hj)

/-- The largest score over the slots is the largest over the window and slot `r`. -/
theorem Ring.max (h : Ring r pos ok) (s : Fin N → EReal) (t : Fin P → EReal)
    (hst : ∀ j, j ≠ r → s j = t (pos j)) (ht : ∀ p, ¬ ok p → t p = ⊥) :
    Finset.univ.fold max ⊥ s = max (Finset.univ.fold max ⊥ t) (s r) := by
  apply le_antisymm
  · refine (Finset.fold_max_le _).mpr ⟨bot_le, fun j _ => ?_⟩
    by_cases e : j = r
    · subst e; exact le_max_right _ _
    · exact le_trans (Finset.le_fold_max _ |>.mpr (Or.inr ⟨pos j, Finset.mem_univ _, (hst j e).le⟩)) (le_max_left _ _)
  · refine max_le ((Finset.fold_max_le _).mpr ⟨bot_le, fun p _ => ?_⟩) ?_
    · by_cases o : ok p
      · obtain ⟨j, hj, e⟩ := h.onto p o
        exact (Finset.le_fold_max _).mpr (Or.inr ⟨j, Finset.mem_univ _, by rw [hst j hj, e]⟩)
      · rw [ht p o]; exact bot_le
    · exact (Finset.le_fold_max _).mpr (Or.inr ⟨r, Finset.mem_univ _, le_rfl⟩)

/-- The exponential over the extended reals, of which nothing but its zero at `⊥` and its sign is used. -/
theorem exp_bot_sub (m : EReal) : Ideal.exp (⊥ - m) = 0 := by
  rw [EReal.bot_sub]; rfl

theorem exp_nonneg (x : EReal) : 0 ≤ Ideal.exp x := by
  induction x using EReal.rec with
  | bot => exact le_rfl
  | top => exact le_top
  | coe x => exact EReal.coe_nonneg.mpr (Real.exp_pos x).le

theorem exp_pos_of_finite (x : EReal) (h : x ≠ ⊥) : 0 < Ideal.exp x := by
  induction x using EReal.rec with
  | bot => exact absurd rfl h
  | top => exact EReal.zero_lt_top
  | coe x => exact EReal.coe_pos.mpr (Real.exp_pos x)

theorem div_zero_left {d : EReal} (h : d ≠ 0) : Ideal.div 0 d = 0 := by
  rw [Ideal.div, if_neg h, zero_mul]

/-- The attention of one query: the slots' weighted sum is the positions' weighted sum. `sn` is the new token's score,
    which slot `r` carries and the positions have beside them. -/
theorem attention (h : Ring r pos ok) (s : Fin N → EReal) (t : Fin P → EReal) (w v : Fin N → EReal) (w' v' : Fin P → EReal)
    (sn vn : EReal)
    (hst : ∀ j, j ≠ r → s j = t (pos j)) (hr : s r = sn) (ht : ∀ p, ¬ ok p → t p = ⊥)
    (hw : ∀ j, j ≠ r → w j = w' (pos j)) (hwr : w r = 0) (hv : ∀ j, j ≠ r → v j = v' (pos j))
    (hsn : sn ≠ ⊥) (hM : Finset.univ.fold max ⊥ s ≠ ⊤) :
    let M := Finset.univ.fold max ⊥ s
    let D := ∑ j, Ideal.exp (s j - M)
    let M' := max (Finset.univ.fold max ⊥ t) sn
    let D' := (∑ p, Ideal.exp (t p - M')) + Ideal.exp (sn - M')
    (∑ j, Ideal.div (Ideal.exp (s j - M)) D * w j * v j) + Ideal.div (Ideal.exp (sn - M)) D * vn
      = (∑ p, Ideal.div (Ideal.exp (t p - M')) D' * w' p * v' p) + Ideal.div (Ideal.exp (sn - M')) D' * vn := by
  subst hr
  intro M D M' D'
  have hMM : M = M' := h.max s t hst ht
  have hDD : D = D' := by
    show ∑ j, Ideal.exp (s j - M) = (∑ p, Ideal.exp (t p - M')) + Ideal.exp (s r - M')
    rw [← hMM]
    refine h.sum _ (fun p => Ideal.exp (t p - M)) (fun j hj => by rw [hst j hj]) fun p hp => ?_
    rw [ht p hp]; exact exp_bot_sub M
  have hD : D ≠ 0 := by
    intro e
    have p : 0 < Ideal.exp (s r - M) := by
      refine exp_pos_of_finite _ ?_
      intro e
      rw [sub_eq_add_neg, EReal.add_eq_bot_iff, EReal.neg_eq_bot_iff] at e
      exact e.elim hsn hM
    have : Ideal.exp (s r - M) ≤ D :=
      Finset.single_le_sum (f := fun j => Ideal.exp (s j - M)) (fun j _ => exp_nonneg _) (Finset.mem_univ r)
    exact absurd (lt_of_lt_of_le p this) (by rw [e]; exact lt_irrefl _)
  rw [← hMM, ← hDD]
  congr 1
  refine (h.sum _ (fun p => Ideal.div (Ideal.exp (t p - M)) D * w' p * v' p) (fun j hj => by rw [hst j hj, hw j hj, hv j hj])
    fun p hp => ?_).trans ?_
  · rw [ht p hp, exp_bot_sub, div_zero_left hD, zero_mul, zero_mul]
  · rw [hwr, mul_zero, zero_mul, add_zero]

end Cert.Sums

end
-- ==== Proof.Window.lean ====
/-
The window laid out in slots. Position `n - 1024` falls in slot `r = n % 128`; slots before it hold
the window's last positions, slots after it the positions in order.
-/
module
public import proofs.«01_k».proof.Proof.KIVal
public import proofs.«01_k».proof.Proof.Sums

@[expose] public section
noncomputable section

namespace Cert.KernelIdeal.Hand
open Cert.Words Cert.Geo Idealize.ShloMosaic

/-- The slot of position `n - 1024`. -/
def rSlot (n : ℕ) : Fin 1024 := ⟨n % 128, by omega⟩

/-- The position in each slot. -/
def posOf (n : ℕ) (j : Fin 1024) : Fin 32768 := Fin.ofNat 32768 (if j.val < n % 128 then startN n + 1024 + j.val else startN n + j.val)

/-- The positions in the window. -/
def inWin (n : ℕ) (p : Fin 32768) : Prop := n - 1024 < p.val ∧ p.val < n

instance (n : ℕ) : DecidablePred (inWin n) := fun p => inferInstanceAs (Decidable (_ ∧ _))

theorem start_add {n : ℕ} (h₁ : 1024 ≤ n) : startN n + n % 128 = n - 1024 := by
  unfold startN; omega

theorem posOf_val {n : ℕ} (h₁ : 1024 ≤ n) (h₂ : n ≤ 32768) (j : Fin 1024) :
    (posOf n j).val = if j.val < n % 128 then startN n + 1024 + j.val else startN n + j.val := by
  have e := start_add h₁
  have hd := dvd_startN n
  refine Nat.mod_eq_of_lt ?_
  split <;> omega

/-- The slots other than `r` hold the window, each position once. -/
theorem ring {n : ℕ} (h₁ : 1024 ≤ n) (h₂ : n ≤ 32768) : Cert.Sums.Ring (rSlot n) (posOf n) (inWin n) where
  okay j hj := by
    have e := start_add h₁
    have hr : j.val ≠ n % 128 := fun h => hj (Fin.ext h)
    unfold inWin
    rw [posOf_val h₁ h₂]
    split <;> omega
  inj i j hi hj h := by
    have e := start_add h₁
    have h' := congrArg Fin.val h
    have hir : i.val ≠ n % 128 := fun h => hi (Fin.ext h)
    have hjr : j.val ≠ n % 128 := fun h => hj (Fin.ext h)
    rw [posOf_val h₁ h₂, posOf_val h₁ h₂] at h'
    apply Fin.ext
    split at h' <;> split at h' <;> omega
  onto p hp := by
    have e := start_add h₁
    obtain ⟨hlo, hhi⟩ := hp
    by_cases hc : p.val < startN n + 1024
    · refine ⟨⟨p.val - startN n, by omega⟩, fun h => ?_, Fin.ext ?_⟩
      · have := congrArg Fin.val h
        have e2 : p.val - startN n = n % 128 := this
        omega
      · rw [posOf_val h₁ h₂]
        show (if p.val - startN n < n % 128 then _ else _) = _
        rw [if_neg (by omega)]
        show startN n + (p.val - startN n) = p.val
        omega
    · refine ⟨⟨p.val - startN n - 1024, by omega⟩, fun h => ?_, Fin.ext ?_⟩
      · have := congrArg Fin.val h
        have e2 : p.val - startN n - 1024 = n % 128 := this
        omega
      · rw [posOf_val h₁ h₂]
        show (if p.val - startN n - 1024 < n % 128 then _ else _) = _
        rw [if_pos (by omega)]
        show startN n + 1024 + (p.val - startN n - 1024) = p.val
        omega

theorem and127 (w : BitVec 32) : (Scalar.andi w 127#32).toNat = w.toNat % 128 := by
  show (w &&& 127#32).toNat = _
  rw [BitVec.toNat_and]
  exact Nat.and_two_pow_sub_one_eq_mod w.toNat 7

theorem before_eq (w : BitVec 32) (l : Fin 128) :
    before (Scalar.andi w 127#32) l = if l.val < w.toNat % 128 then 1#1 else 0#1 := by
  have hr := and127 w
  have hl : (BitVec.ofNat 32 l.val).toNat = l.val := by rw [BitVec.toNat_ofNat]; omega
  show BitVec.ofBool ((BitVec.ofNat 32 l.val).slt (Scalar.andi w 127#32)) = _
  have e : (BitVec.ofNat 32 l.val).slt (Scalar.andi w 127#32) = decide (l.val < w.toNat % 128) := by
    unfold BitVec.slt
    rw [BitVec.toInt_eq_toNat_of_lt (by omega), BitVec.toInt_eq_toNat_of_lt (by omega), hr, hl]
    simp only [Nat.cast_lt]
  rw [e]
  by_cases h : l.val < w.toNat % 128 <;> simp [h]

theorem isAt_eq (w : BitVec 32) (l : Fin 128) :
    isAt (Scalar.andi w 127#32) l = if l.val = w.toNat % 128 then 1#1 else 0#1 := by
  have hr := and127 w
  have hl : (BitVec.ofNat 32 l.val).toNat = l.val := by rw [BitVec.toNat_ofNat]; omega
  show BitVec.ofBool (BitVec.ofNat 32 l.val == Scalar.andi w 127#32) = _
  have e : (BitVec.ofNat 32 l.val == Scalar.andi w 127#32) = decide (l.val = w.toNat % 128) := by
    rw [← hr, beq_eq_decide]
    refine decide_eq_decide.mpr ⟨fun h => ?_, fun h => BitVec.eq_of_toNat_eq (hl.trans h)⟩
    rw [← h, hl]
  rw [e]
  by_cases h : l.val = w.toNat % 128 <;> simp [h]

theorem land_tile {D : ℕ} {α : Type} (src : ℕ → ℕ) (f : (⟨3, ![64, D, 32768]⟩ : Shape).Idx → α) (b : Fin 64) (p : ℕ) (k : Fin D) (l : Fin 128) (t : Fin 32768)
    (hs : src b.val ≤ 31616) (hp : p + l.val < 1152) (ht : t.val = src b.val + (p + l.val)) :
    tile (D := D) (land (D := D) src f) b.val p (ix3 0 k l) = f (ix3 b k t) := by
  unfold tile land
  refine congrArg f ?_
  funext a
  have hb : b.val < 64 := b.isLt
  match a with
  | 0 => apply Fin.ext; show b.val % 64 = b.val; omega
  | 1 => rfl
  | 2 =>
    apply Fin.ext
    show min (src (b.val % 64)) 31616 + (p + l.val) % 1152 = t.val
    rw [Nat.mod_eq_of_lt hb]
    omega

/-- What a slot holds: the array's entry at its position. -/
theorem slot_land {D : ℕ} {α : Type} (w : BitVec 32) (h₁ : 1024 ≤ w.toNat) (h₂ : w.toNat ≤ 32768) (src : ℕ → ℕ) (f : (⟨3, ![64, D, 32768]⟩ : Shape).Idx → α)
    (b : Fin 64) (hs : src b.val = srcN w.toNat) (k : Fin D) (j : Fin 1024) :
    slot (Scalar.andi w 127#32) (tile (D := D) (land (D := D) src f) b.val 1024) (fun p => tile (D := D) (land (D := D) src f) b.val (offN w.toNat + p)) k j
      = f (ix3 b k (posOf w.toNat j)) := by
  have e := start_add h₁
  have hsl := srcN_le w.toNat
  have ho := offN_le h₂
  have hso : srcN w.toNat + offN w.toNat = startN w.toNat := by unfold offN srcN; omega
  have hpos := posOf_val h₁ h₂ j
  unfold slot
  by_cases hj : j.val < 128
  · rw [if_pos hj, before_eq]
    have hm : j.val % 128 = j.val := Nat.mod_eq_of_lt hj
    by_cases hl : j.val < w.toNat % 128
    · rw [if_pos (show j.val % 128 < w.toNat % 128 by omega), ValueIdx.select_one]
      rw [if_pos hl] at hpos
      refine land_tile src f b 1024 k ⟨j.val % 128, by omega⟩ _ (by omega) (show 1024 + j.val % 128 < 1152 by omega) (show _ = src b.val + (1024 + j.val % 128) from ?_)
      have h0 : startN w.toNat ≤ 31616 := by
        have hd := dvd_startN w.toNat
        omega
      have h1 : srcN w.toNat = startN w.toNat := by unfold srcN; omega
      omega
    · rw [if_neg (show ¬ j.val % 128 < w.toNat % 128 by omega), ValueIdx.select_zero]
      rw [if_neg hl] at hpos
      exact land_tile src f b _ k ⟨j.val % 128, by omega⟩ _ (by omega) (show offN w.toNat + 0 + j.val % 128 < 1152 by omega) (show _ = src b.val + (offN w.toNat + 0 + j.val % 128) by omega)
  · rw [if_neg hj]
    rw [if_neg (by omega)] at hpos
    exact land_tile src f b _ k ⟨j.val % 128, by omega⟩ _ (by omega) (show offN w.toNat + 128 * (j.val / 128) + j.val % 128 < 1152 by omega)
      (show _ = src b.val + (offN w.toNat + 128 * (j.val / 128) + j.val % 128) by omega)

end Cert.KernelIdeal.Hand

end
-- ==== Proof.PreFinite.lean ====
/-
The precondition of the value claim read at one batch: the length lies between the window and the
cache, and the query, the new key and the key scales are numbers.
-/
module
public import proofs.«01_k».proof.Pre_finite_window
public import proofs.«01_k».proof.Proof.Reads
public import Idealize.ShloMosaic.Lib.Tactic

@[expose] public section
noncomputable section

namespace Cert.PreFinite
open Idealize.ShloMosaic Cert.Pre_finite_window

/-- The shape relations of the precondition. -/
theorem facts : Cert.Pre_finite_window.Facts where
  bcast_S_S64 := by decide
  bcast_S64x1x64_S64x1x1x64_0_2_3 := by decide
  bcast_S_S64x1x16x64 := by decide
  bcast_S_S64x1x1x64 := by decide
  bcast_S64x1x1x64_S64x1x16x64_0_1_2_3 := by decide
  bcast_S64_S64x1x1x1_0 := by decide
  bcast_S64x1x1x1_S64x1x16x64_0_1_2_3 := by decide

/-- A number: neither of the two infinities. -/
def IsNum (x : EReal) : Prop := ∃ a : ℝ, x = (a : EReal)

theorem and_one {p q : BitVec 1} (h : IntOp.andi p q = 1#1) : p = 1#1 ∧ q = 1#1 := by
  revert p q; decide

/-- An absolute value below the top is a number's. -/
theorem isNum {x : EReal} (h : Ideal.cmp .olt (max x (-x)) ⊤ = 1#1) : IsNum x := by
  have h' : max x (-x) < ⊤ := by
    by_contra hc
    have e : Ideal.cmp .olt (max x (-x)) ⊤ = 0#1 := by
      unfold Ideal.cmp
      simp [hc]
    rw [e] at h
    exact absurd h (by decide)
  induction x using EReal.rec with
  | bot => simp at h'
  | top => simp at h'
  | coe a => exact ⟨a, rfl⟩

variable [Cert.Pre_finite_window.Facts]
variable {a0 : FVec Ideal S64x1x16x64 .bf16} {a1 a2 : FVec Ideal S64x1x1x64 .bf16} {a3 : IVec S64x32768x1x64 8} {a4 : FVec Ideal S64x1x64 .f32} {a5 : IVec S64x32768x1x64 8}
  {a6 : FVec Ideal S64x32768x1 .f32} {a7 : IVec S64 32}

set_option maxRecDepth 16384 in
theorem fn_at (b : Fin 64) (h : Fin 16) (k : Fin 64) : Cert.Pre_finite_window.fn (F := Ideal) a0 a1 a2 a3 a4 a5 a6 a7 (ix4 b 0 h k)
    = IntOp.andi (IntOp.andi (IntOp.andi (Ideal.cmp .olt (max (a0 (ix4 b 0 h k)) (-(a0 (ix4 b 0 h k)))) ⊤) (Ideal.cmp .olt (max (a1 (ix4 b 0 0 k)) (-(a1 (ix4 b 0 0 k)))) ⊤))
        (Ideal.cmp .olt (max (a4 (ix3 b 0 k)) (-(a4 (ix3 b 0 k)))) ⊤))
      (IntOp.andi (IntOp.cmpi .sge (a7 (ix1 b)) 1024#32) (IntOp.cmpi .sle (a7 (ix1 b)) 32768#32)) := by
  rw [← Reads.top_bits]
  unfold Cert.Pre_finite_window.fn Cert.Pre_finite_window.fn_part1
  pointwise
  rw [Reads.top_bits16, Reads.top_bits]
  rfl

theorem elems (h : Cert.Pre_finite_window.fn (F := Ideal) a0 a1 a2 a3 a4 a5 a6 a7 = fun _ => 1#1) (b : Fin 64) :
    (1024 ≤ (a7 (ix1 b)).toNat ∧ (a7 (ix1 b)).toNat ≤ 32768) ∧ (∀ i k, IsNum (a0 (ix4 b 0 i k))) ∧ (∀ k, IsNum (a1 (ix4 b 0 0 k))) ∧ ∀ k, IsNum (a4 (ix3 b 0 k)) := by
  have e (i : Fin 16) (k : Fin 64) := (fn_at (a0 := a0) (a1 := a1) (a2 := a2) (a3 := a3) (a4 := a4) (a5 := a5) (a6 := a6) (a7 := a7) b i k).symm.trans (congrFun h _)
  refine ⟨?_, fun i k => ?_, fun k => ?_, fun k => ?_⟩
  · obtain ⟨hge, hle⟩ := and_one (and_one (e 0 0)).2
    have ofBool_eq_one (p : Bool) : (BitVec.ofBool p = 1#1) ↔ p = true := by cases p <;> decide
    simp only [IntOp.cmpi, ofBool_eq_one] at hge hle
    simp only [BitVec.sle, BitVec.slt, decide_eq_true_eq, BitVec.toInt, BitVec.toNat_ofNat] at hge hle
    omega
  · exact isNum (and_one (and_one (and_one (e i k)).1).1).1
  · exact isNum (and_one (and_one (and_one (e 0 k)).1).1).2
  · exact isNum (and_one (and_one (e 0 k)).1).2

end Cert.PreFinite

end
-- ==== Proof.KIHost.lean ====
/-
The arrays the kernel's program reads, at an index, as the arguments' elements.
-/
module
public import proofs.«01_k».proof.Proof.KIFrame
public import Idealize.ShloMosaic.Lib.StableHlo.ReadAt

@[expose] public section
noncomputable section

namespace Cert.KernelIdeal.Hand
open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem V1_at (c : Dev nD) (b : Fin 64) (k : Fin 64) (p : Fin 32768) : V m c main_v1 (ix3 b k p) = m ((c : Thread nD τ).loc main_arg3) (ix4 b p 0 k) := by
  unfold V
  after_reads_at

theorem V3_at (c : Dev nD) (b : Fin 64) (k : Fin 64) (p : Fin 32768) : V m c main_v3 (ix3 b k p) = m ((c : Thread nD τ).loc main_arg5) (ix4 b p 0 k) := by
  unfold V
  after_reads_at

theorem V4_at (c : Dev nD) (b : Fin 64) (p : Fin 32768) : V m c main_v4 (ix3 b 0 p) = m ((c : Thread nD τ).loc main_arg6) (ix3 b p 0) := by
  unfold V
  after_reads_at

theorem V5_at (c : Dev nD) (b : Fin 64) (h : Fin 16) (k : Fin 64) : V m c main_v5 (ix3 b h k) = m ((c : Thread nD τ).loc main_arg0) (ix4 b 0 h k) := by
  unfold V
  after_reads_at

theorem V6_at (c : Dev nD) (b k : Fin 64) : V m c main_v6 (ix2 b k) = m ((c : Thread nD τ).loc main_arg1) (ix4 b 0 0 k) := by
  unfold V
  after_reads_at

theorem V7_at (c : Dev nD) (b k : Fin 64) : V m c main_v7 (ix2 b k) = m ((c : Thread nD τ).loc main_arg2) (ix4 b 0 0 k) := by
  unfold V
  after_reads_at

theorem V8_at (c : Dev nD) (b k : Fin 64) : V m c main_v8 (ix2 b k) = m ((c : Thread nD τ).loc main_arg4) (ix3 b 0 k) := by
  unfold V
  after_reads_at

end Cert.KernelIdeal.Hand

end
-- ==== Proof.RVal.lean ====
/-
The reference's attention read at one result element.
-/
module
public import proofs.«01_k».proof.Proof.Gen.ReferenceIdeal.Value
public import proofs.«01_k».proof.Proof.Reads

@[expose] public section
noncomputable section

namespace Cert.ReferenceIdeal.Hand
open Cert.ReferenceIdeal Cert.ReferenceIdeal.Gen
open Idealize.ShloMosaic

variable (x0 : Vec Ideal S64x1x1 .i32) (x1 : Vec Ideal S64x16x64 .bf16) (x2 x3 : Vec Ideal S64x64 .bf16) (x4 : Vec Ideal S64x64 .f32)
  (x5 x6 : Vec Ideal S64x32768x64 .i8) (x7 : Vec Ideal S64x1x32768 .f32)

/-- The score of the new token. -/
def sN (b : Fin 64) (h : Fin 16) : EReal := (∑ k : Fin 64, x1 (ix3 b h k) * x2 (ix2 b k)) * Ideal.ofBits .f32 0x3E000000#32

/-- The score of position `p` of the cache, whether it lies in the window or not. -/
def sC (b : Fin 64) (h : Fin 16) (p : Fin 32768) : EReal :=
  (∑ k : Fin 64, x1 (ix3 b h k) * ((((x5 (ix3 b p k) : BitVec 8).toInt : ℝ) : EReal) * x4 (ix2 b k))) * Ideal.ofBits .f32 0x3E000000#32

set_option maxRecDepth 16384 in
theorem scoreN (b : Fin 64) (h : Fin 16) : k0_pay10 (k0_pay3 x2) x1 (ix3 b h 0) = sN x1 x2 b h := by
  pointwise [k0_pay10, k0_pay9, k0_pay3]
  rfl

set_option maxRecDepth 16384 in
theorem score (b : Fin 64) (h : Fin 16) (p : Fin 32768) :
    k0_pay11 (k0_pay2 x4) x1 x5 x0 (ix3 b h p)
      = Scalar.select (IntOp.andi (IntOp.cmpi .slt (BitVec.ofNat 32 p.val) (x0 (ix3 b 0 0)))
          (IntOp.cmpi .sgt (BitVec.ofNat 32 p.val) (IntOp.subi (x0 (ix3 b 0 0)) 1024#32))) (sC x1 x4 x5 b h p) ⊥ := by
  pointwise [k0_pay11, k0_pay9, k0_pay2]
  rw [Reads.bot_bits]
  rfl

theorem shapeCast_ab_ab1 {α : Type} {a b : ℕ} (x : (⟨2, ![a, b]⟩ : Shape).Idx → α) (h : (⟨2, ![a, b]⟩ : Shape).ShapeCasts ⟨3, ![a, b, 1]⟩)
    (i : Fin a) (j : Fin b) : shapeCast ⟨3, ![a, b, 1]⟩ x h (ix3 i j 0) = x (ix2 i j) :=
  shapeCast_apply x h _ _ (by
    rw [Shape.rowMajor_val_three, Shape.rowMajor_val_two]
    show i.val * b + j.val = (i.val * b + j.val) * 1 + 0
    omega)

variable (y4 y2 : FVec Ideal S64x64 .f32)

/-- The largest of a row and one more score. -/
theorem max_row {A B C : ℕ} (v : FVec Ideal ⟨3, ![A, B, C]⟩ .f32) (y : FVec Ideal ⟨3, ![A, B, 1]⟩ .f32) (h : Shape.Reduces ⟨3, ![A, B, C]⟩ [2] ⟨2, ![A, B]⟩)
    (hs : (⟨2, ![A, B]⟩ : Shape).ShapeCasts ⟨3, ![A, B, 1]⟩)
    (hφ : FKind.Formats .f32) (hacc : (0xFF800000#32 : BitVec 32) = FKind.maximumf.neutral .f32 hφ) (a : Fin A) (i : Fin B) :
    maximumf (shapeCast ⟨3, ![A, B, 1]⟩ (multiReduction .maximumf [2] ⟨2, ![A, B]⟩ v 0xFF800000#32 h hφ hacc) hs) y (ix3 a i 0)
      = max (Finset.univ.fold max ⊥ (fun j => v (ix3 a i j))) (y (ix3 a i 0)) := by
  refine congrArg (fun z => max z (y (ix3 a i 0))) ?_
  exact (shapeCast_ab_ab1 _ _ a i).trans (Reads.max3 _ _ _ _ a i)

theorem largest_def : k0_pay12 y4 y2 x1 x5 x0 = maximumf (shapeCast S64x16x1 (multiReduction .maximumf [2] S64x16 (k0_pay11 y4 x1 x5 x0) 0xFF800000#32 reduces_S64x16x32768_S64x16
    (.inl rfl) rfl) shapeCasts_S64x16_S64x16x1) (k0_pay10 y2 x1) := rfl

theorem largest (b : Fin 64) (h : Fin 16) :
    k0_pay12 y4 y2 x1 x5 x0 (ix3 b h 0)
      = max (Finset.univ.fold max ⊥ fun p => k0_pay11 y4 x1 x5 x0 (ix3 b h p)) (k0_pay10 y2 x1 (ix3 b h 0)) := by
  rw [largest_def]
  generalize k0_pay11 y4 x1 x5 x0 = v
  generalize k0_pay10 y2 x1 = y
  exact max_row (A := 64) (B := 16) (C := 32768) v y _ _ _ _ b h

set_option maxRecDepth 16384 in
theorem total (b : Fin 64) (h : Fin 16) :
    k0_pay15 y4 y2 x1 x5 x0 (ix3 b h 0)
      = (∑ p, Ideal.exp (k0_pay11 y4 x1 x5 x0 (ix3 b h p) - k0_pay12 y4 y2 x1 x5 x0 (ix3 b h 0)))
        + Ideal.exp (k0_pay10 y2 x1 (ix3 b h 0) - k0_pay12 y4 y2 x1 x5 x0 (ix3 b h 0)) := by
  pointwise [k0_pay15, k0_pay13, k0_pay14]

set_option maxRecDepth 16384 in
theorem weighted (b : Fin 64) (h : Fin 16) (d : Fin 64) (u w : FVec Ideal S64x16x32768 .f32) (v y : FVec Ideal S64x16x1 .f32) :
    k0_pay1 (k0_pay5 x3) u v y w x7 x6 (ix3 b h d)
      = (∑ p, Ideal.div (u (ix3 b h p)) (w (ix3 b h p)) * x7 (ix3 b 0 p) * (((x6 (ix3 b p d) : BitVec 8).toInt : ℝ) : EReal))
        + Ideal.div (v (ix3 b h 0)) (y (ix3 b h 0)) * x3 (ix2 b d) := by
  pointwise [k0_pay1, k0_pay5]
  rfl

set_option maxRecDepth 16384 in
theorem weight (b : Fin 64) (h : Fin 16) (p : Fin 32768) :
    k0_pay13 y4 y2 x1 x5 x0 (ix3 b h p) = Ideal.exp (k0_pay11 y4 x1 x5 x0 (ix3 b h p) - k0_pay12 y4 y2 x1 x5 x0 (ix3 b h 0)) := by
  pointwise [k0_pay13]

set_option maxRecDepth 16384 in
theorem weightN (b : Fin 64) (h : Fin 16) :
    k0_pay14 y4 y2 x1 x5 x0 (ix3 b h 0) = Ideal.exp (k0_pay10 y2 x1 (ix3 b h 0) - k0_pay12 y4 y2 x1 x5 x0 (ix3 b h 0)) := by
  pointwise [k0_pay14]

set_option maxRecDepth 16384 in
theorem totals (b : Fin 64) (h : Fin 16) (p : Fin 32768) :
    k0_pay16 y4 y2 x1 x5 x0 (ix3 b h p) = k0_pay15 y4 y2 x1 x5 x0 (ix3 b h 0) := by
  pointwise [k0_pay16]

/-- The reference's attention at one element. -/
theorem attention (b : Fin 64) (h : Fin 16) (d : Fin 64) :
    k0_pay1 (k0_pay5 x3) (k0_pay13 (k0_pay2 x4) (k0_pay3 x2) x1 x5 x0) (k0_pay14 (k0_pay2 x4) (k0_pay3 x2) x1 x5 x0)
        (k0_pay15 (k0_pay2 x4) (k0_pay3 x2) x1 x5 x0) (k0_pay16 (k0_pay2 x4) (k0_pay3 x2) x1 x5 x0) x7 x6 (ix3 b h d)
      = (let t : Fin 32768 → EReal := fun p => Scalar.select (IntOp.andi (IntOp.cmpi .slt (BitVec.ofNat 32 p.val) (x0 (ix3 b 0 0)))
          (IntOp.cmpi .sgt (BitVec.ofNat 32 p.val) (IntOp.subi (x0 (ix3 b 0 0)) 1024#32))) (sC x1 x4 x5 b h p) ⊥
        let M := max (Finset.univ.fold max ⊥ t) (sN x1 x2 b h)
        let D := (∑ p, Ideal.exp (t p - M)) + Ideal.exp (sN x1 x2 b h - M)
        (∑ p, Ideal.div (Ideal.exp (t p - M)) D * x7 (ix3 b 0 p) * (((x6 (ix3 b p d) : BitVec 8).toInt : ℝ) : EReal))
          + Ideal.div (Ideal.exp (sN x1 x2 b h - M)) D * x3 (ix2 b d)) := by
  rw [weighted]
  simp only [weight, weightN, totals, total, largest, scoreN, score]

end Cert.ReferenceIdeal.Hand

end
-- ==== Proof.RRun.lean ====
/-
The reference's run: its four results as the payloads of its arguments.
-/
module
public import proofs.«01_k».proof.Proof.RVal
public import Idealize.ShloMosaic.Lib.StableHlo.ReadAt

@[expose] public section
noncomputable section

namespace Cert.ReferenceIdeal.Hand
open Cert.ReferenceIdeal Cert.ReferenceIdeal.Gen Cert.ReferenceIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Each window's block is its whole array -/
theorem emb0 (t : Fin cfg0.N) (j : S64x1x1.Idx) : ((cfg0.win 0).blk t).view.emb j = j := by
  funext a; apply Fin.ext; show 0 * _ + 1 * (j a).val = (j a).val; omega
theorem iblk0_eq (c : Dev nD) (t : Fin cfg0.N) : iblk m c 0 t = V m c main_v0 := by
  funext j; show V m c main_v0 (((cfg0.win 0).blk t).view.emb j) = V m c main_v0 j; rw [emb0]
theorem emb1 (t : Fin cfg0.N) (j : S64x16x64.Idx) : ((cfg0.win 1).blk t).view.emb j = j := by
  funext a; apply Fin.ext; show 0 * _ + 1 * (j a).val = (j a).val; omega
theorem iblk1_eq (c : Dev nD) (t : Fin cfg0.N) : iblk m c 1 t = V m c main_v1 := by
  funext j; show V m c main_v1 (((cfg0.win 1).blk t).view.emb j) = V m c main_v1 j; rw [emb1]
theorem emb2 (t : Fin cfg0.N) (j : S64x64.Idx) : ((cfg0.win 2).blk t).view.emb j = j := by
  funext a; apply Fin.ext; show 0 * _ + 1 * (j a).val = (j a).val; omega
theorem iblk2_eq (c : Dev nD) (t : Fin cfg0.N) : iblk m c 2 t = V m c main_v2 := by
  funext j; show V m c main_v2 (((cfg0.win 2).blk t).view.emb j) = V m c main_v2 j; rw [emb2]
theorem emb3 (t : Fin cfg0.N) (j : S64x64.Idx) : ((cfg0.win 3).blk t).view.emb j = j := by
  funext a; apply Fin.ext; show 0 * _ + 1 * (j a).val = (j a).val; omega
theorem iblk3_eq (c : Dev nD) (t : Fin cfg0.N) : iblk m c 3 t = V m c main_v3 := by
  funext j; show V m c main_v3 (((cfg0.win 3).blk t).view.emb j) = V m c main_v3 j; rw [emb3]
theorem emb4 (t : Fin cfg0.N) (j : S64x64.Idx) : ((cfg0.win 4).blk t).view.emb j = j := by
  funext a; apply Fin.ext; show 0 * _ + 1 * (j a).val = (j a).val; omega
theorem iblk4_eq (c : Dev nD) (t : Fin cfg0.N) : iblk m c 4 t = V m c main_v4 := by
  funext j; show V m c main_v4 (((cfg0.win 4).blk t).view.emb j) = V m c main_v4 j; rw [emb4]
theorem emb5 (t : Fin cfg0.N) (j : S64x32768x64.Idx) : ((cfg0.win 5).blk t).view.emb j = j := by
  funext a; apply Fin.ext; show 0 * _ + 1 * (j a).val = (j a).val; omega
theorem iblk5_eq (c : Dev nD) (t : Fin cfg0.N) : iblk m c 5 t = V m c main_v5 := by
  funext j; show V m c main_v5 (((cfg0.win 5).blk t).view.emb j) = V m c main_v5 j; rw [emb5]
theorem emb6 (t : Fin cfg0.N) (j : S64x32768x64.Idx) : ((cfg0.win 6).blk t).view.emb j = j := by
  funext a; apply Fin.ext; show 0 * _ + 1 * (j a).val = (j a).val; omega
theorem iblk6_eq (c : Dev nD) (t : Fin cfg0.N) : iblk m c 6 t = V m c main_v6 := by
  funext j; show V m c main_v6 (((cfg0.win 6).blk t).view.emb j) = V m c main_v6 j; rw [emb6]
theorem emb7 (t : Fin cfg0.N) (j : S64x1x32768.Idx) : ((cfg0.win 7).blk t).view.emb j = j := by
  funext a; apply Fin.ext; show 0 * _ + 1 * (j a).val = (j a).val; omega
theorem iblk7_eq (c : Dev nD) (t : Fin cfg0.N) : iblk m c 7 t = V m c main_v7 := by
  funext j; show V m c main_v7 (((cfg0.win 7).blk t).view.emb j) = V m c main_v7 j; rw [emb7]
theorem emb8 (t : Fin cfg0.N) (j : S64x16x64.Idx) : ((cfg0.win 8).blk t).view.emb j = j := by
  funext a; apply Fin.ext; show 0 * _ + 1 * (j a).val = (j a).val; omega
theorem emb9 (t : Fin cfg0.N) (j : S64x64.Idx) : ((cfg0.win 9).blk t).view.emb j = j := by
  funext a; apply Fin.ext; show 0 * _ + 1 * (j a).val = (j a).val; omega
theorem emb10 (t : Fin cfg0.N) (j : S64x64.Idx) : ((cfg0.win 10).blk t).view.emb j = j := by
  funext a; apply Fin.ext; show 0 * _ + 1 * (j a).val = (j a).val; omega
theorem emb11 (t : Fin cfg0.N) (j : S1x64.Idx) : ((cfg0.win 11).blk t).view.emb j = j := by
  funext a; apply Fin.ext; show 0 * _ + 1 * (j a).val = (j a).val; omega

/-! ## The results -/
def rres0 (c : Dev nD) : Vec F S64x16x64 .bf16 :=
  k0_pay1 (k0_pay5 (V m c main_v3))
    (k0_pay13 (k0_pay2 (V m c main_v4)) (k0_pay3 (V m c main_v2)) (V m c main_v1) (V m c main_v5) (V m c main_v0))
    (k0_pay14 (k0_pay2 (V m c main_v4)) (k0_pay3 (V m c main_v2)) (V m c main_v1) (V m c main_v5) (V m c main_v0))
    (k0_pay15 (k0_pay2 (V m c main_v4)) (k0_pay3 (V m c main_v2)) (V m c main_v1) (V m c main_v5) (V m c main_v0))
    (k0_pay16 (k0_pay2 (V m c main_v4)) (k0_pay3 (V m c main_v2)) (V m c main_v1) (V m c main_v5) (V m c main_v0))
    (V m c main_v7) (V m c main_v6)
def rres1 (c : Dev nD) : Vec F S64x64 .i8 := k0_pay4 (V m c main_v4) (V m c main_v2)
def rres2 (c : Dev nD) : Vec F S64x64 .i8 := k0_pay7 (V m c main_v3)
def rres3 (c : Dev nD) : Vec F S1x64 .f32 := k0_pay8 (V m c main_v3)

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec F S64x1x1 .i32) (x1 : Vec F S64x16x64 .bf16) (x2 x3 : Vec F S64x64 .bf16) (x4 : Vec F S64x64 .f32)
  (x5 x6 : Vec F S64x32768x64 .i8) (x7 : Vec F S64x1x32768 .f32)

theorem out8_eq : out0_8 x0 x1 x2 x3 x4 x5 x6 x7 = k0_pay1 (k0_pay5 x3) (k0_pay13 (k0_pay2 x4) (k0_pay3 x2) x1 x5 x0) (k0_pay14 (k0_pay2 x4) (k0_pay3 x2) x1 x5 x0)
    (k0_pay15 (k0_pay2 x4) (k0_pay3 x2) x1 x5 x0) (k0_pay16 (k0_pay2 x4) (k0_pay3 x2) x1 x5 x0) x7 x6 := by
  unfold out0_8 k0_pay17 k0_pay18
  rw [View.canon_unit_zero hz3, View.ld_unit_zero hz2 _ x3, View.ld_unit_zero hz2 _ x4, View.ld_unit_zero hz2 _ x2, View.ld_unit_zero hz3 _ x1, View.ld_unit_zero hz3 _ x5,
    View.ld_unit_zero hz3 _ x0, View.ld_unit_zero hz3 _ x7, View.ld_unit_zero hz3 _ x6]
theorem out9_eq : out0_9 x0 x1 x2 x3 x4 x5 x6 x7 = k0_pay4 x4 x2 := by
  unfold out0_9
  rw [View.canon_unit_zero hz2, View.ld_unit_zero hz2 _ x4, View.ld_unit_zero hz2 _ x2]
theorem out10_eq : out0_10 x0 x1 x2 x3 x4 x5 x6 x7 = k0_pay7 x3 := by
  unfold out0_10
  rw [View.canon_unit_zero hz2, View.ld_unit_zero hz2 _ x3]
theorem out11_eq : out0_11 x0 x1 x2 x3 x4 x5 x6 x7 = k0_pay8 x3 := by
  unfold out0_11
  rw [View.canon_unit_zero hz2, View.ld_unit_zero hz2 _ x3]
end

theorem final8 (c : Dev nD) : (dats m 0 c).arrAt 8 cfg0.N = rres0 m c :=
  (dats m 0 c).arrAt_eq_of_cover 8 (rres0 m c) (fun t _ => by
    rw [flushed8, out8_eq]
    simp only [iblk0_eq, iblk1_eq, iblk2_eq, iblk3_eq, iblk4_eq, iblk5_eq, iblk6_eq, iblk7_eq]
    funext j
    show rres0 m c j = rres0 m c (((cfg0.win 8).blk t).view.emb j)
    rw [emb8]) fun i => ⟨(⟨0, by decide⟩ : Fin cfg0.N), flush0_8 _, by
      have h := ((cfg0.win 8).blk (⟨0, by decide⟩ : Fin cfg0.N)).view.emb_mem_set i; rwa [emb8] at h⟩

theorem final9 (c : Dev nD) : (dats m 0 c).arrAt 9 cfg0.N = rres1 m c :=
  (dats m 0 c).arrAt_eq_of_cover 9 (rres1 m c) (fun t _ => by
    rw [flushed9, out9_eq]
    simp only [iblk0_eq, iblk1_eq, iblk2_eq, iblk3_eq, iblk4_eq, iblk5_eq, iblk6_eq, iblk7_eq]
    funext j
    show rres1 m c j = rres1 m c (((cfg0.win 9).blk t).view.emb j)
    rw [emb9]) fun i => ⟨(⟨0, by decide⟩ : Fin cfg0.N), flush0_9 _, by
      have h := ((cfg0.win 9).blk (⟨0, by decide⟩ : Fin cfg0.N)).view.emb_mem_set i; rwa [emb9] at h⟩

theorem final10 (c : Dev nD) : (dats m 0 c).arrAt 10 cfg0.N = rres2 m c :=
  (dats m 0 c).arrAt_eq_of_cover 10 (rres2 m c) (fun t _ => by
    rw [flushed10, out10_eq]
    simp only [iblk0_eq, iblk1_eq, iblk2_eq, iblk3_eq, iblk4_eq, iblk5_eq, iblk6_eq, iblk7_eq]
    funext j
    show rres2 m c j = rres2 m c (((cfg0.win 10).blk t).view.emb j)
    rw [emb10]) fun i => ⟨(⟨0, by decide⟩ : Fin cfg0.N), flush0_10 _, by
      have h := ((cfg0.win 10).blk (⟨0, by decide⟩ : Fin cfg0.N)).view.emb_mem_set i; rwa [emb10] at h⟩

theorem final11 (c : Dev nD) : (dats m 0 c).arrAt 11 cfg0.N = rres3 m c :=
  (dats m 0 c).arrAt_eq_of_cover 11 (rres3 m c) (fun t _ => by
    rw [flushed11, out11_eq]
    simp only [iblk0_eq, iblk1_eq, iblk2_eq, iblk3_eq, iblk4_eq, iblk5_eq, iblk6_eq, iblk7_eq]
    funext j
    show rres3 m c j = rres3 m c (((cfg0.win 11).blk t).view.emb j)
    rw [emb11]) fun i => ⟨(⟨0, by decide⟩ : Fin cfg0.N), flush0_11 _, by
      have h := ((cfg0.win 11).blk (⟨0, by decide⟩ : Fin cfg0.N)).view.emb_mem_set i; rwa [emb11] at h⟩

/-- The arguments' elements where the windows read them. -/
theorem V0_at (c : Dev nD) (b : Fin 64) : V m c main_v0 (ix3 b 0 0) = m ((c : Thread nD τ).loc main_arg7) (ix1 b) := by
  unfold V
  after_reads_at
theorem V1_at (c : Dev nD) (b : Fin 64) (h : Fin 16) (k : Fin 64) : V m c main_v1 (ix3 b h k) = m ((c : Thread nD τ).loc main_arg0) (ix4 b 0 h k) := by
  unfold V
  after_reads_at
theorem V2_at (c : Dev nD) (b : Fin 64) (k : Fin 64) : V m c main_v2 (ix2 b k) = m ((c : Thread nD τ).loc main_arg1) (ix4 b 0 0 k) := by
  unfold V
  after_reads_at
theorem V3_at (c : Dev nD) (b : Fin 64) (k : Fin 64) : V m c main_v3 (ix2 b k) = m ((c : Thread nD τ).loc main_arg2) (ix4 b 0 0 k) := by
  unfold V
  after_reads_at
theorem V4_at (c : Dev nD) (b : Fin 64) (k : Fin 64) : V m c main_v4 (ix2 b k) = m ((c : Thread nD τ).loc main_arg4) (ix3 b 0 k) := by
  unfold V
  after_reads_at
theorem V5_at (c : Dev nD) (b : Fin 64) (p : Fin 32768) (k : Fin 64) : V m c main_v5 (ix3 b p k) = m ((c : Thread nD τ).loc main_arg3) (ix4 b p 0 k) := by
  unfold V
  after_reads_at
theorem V6_at (c : Dev nD) (b : Fin 64) (p : Fin 32768) (k : Fin 64) : V m c main_v6 (ix3 b p k) = m ((c : Thread nD τ).loc main_arg5) (ix4 b p 0 k) := by
  unfold V
  after_reads_at
theorem V7_at (c : Dev nD) (b : Fin 64) (p : Fin 32768) : V m c main_v7 (ix3 b 0 p) = m ((c : Thread nD τ).loc main_arg6) (ix3 b p 0) := by
  unfold V
  after_reads_at

end Cert.ReferenceIdeal.Hand

end
-- ==== Proof.Alg.lean ====
/-
The first result of the kernel's program and of the reference, element by element: attention over
the window, summed over slots by one and over positions of the cache by the other.
-/
module
public import proofs.«01_k».proof.Proof.Window
public import proofs.«01_k».proof.Proof.PreFinite
public import proofs.«01_k».proof.Proof.KIHost
public import proofs.«01_k».proof.Proof.RRun

@[expose] public section
noncomputable section

namespace Cert.Alg
open Cert.PreFinite Cert.Words Cert.Geo
open Idealize.ShloMosaic Idealize.ShloMosaic.TcCoe Idealize.SL.Sem
open Cert.KernelIdeal.Hand (rSlot posOf inWin ring slot sSlot wSlot sNew sRaw)

theorem isNum_mul {x y : EReal} (hx : IsNum x) (hy : IsNum y) : IsNum (x * y) := by
  obtain ⟨a, rfl⟩ := hx
  obtain ⟨b, rfl⟩ := hy
  exact ⟨a * b, (EReal.coe_mul a b).symm⟩

theorem isNum_sum {ι : Type} (s : Finset ι) (f : ι → EReal) (h : ∀ i, IsNum (f i)) : IsNum (∑ i ∈ s, f i) := by
  classical
  induction s using Finset.induction_on with
  | empty => exact ⟨0, by simp⟩
  | insert a s ha ih =>
    rw [Finset.sum_insert ha]
    obtain ⟨x, hx⟩ := h a
    obtain ⟨y, hy⟩ := ih
    exact ⟨x + y, by rw [hx, hy, EReal.coe_add]⟩

theorem isNum_eighth : IsNum (Ideal.ofBits .f32 0x3E000000#32) := ⟨1 / 8, Reads.eighth_bits⟩

theorem isNum_ne_bot {x : EReal} (h : IsNum x) : x ≠ ⊥ := by
  obtain ⟨a, rfl⟩ := h
  exact EReal.coe_ne_bot a

theorem isNum_lt_top {x : EReal} (h : IsNum x) : x < ⊤ := by
  obtain ⟨a, rfl⟩ := h
  exact EReal.coe_lt_top a

/-- The reference's mask at a position: one in the window, zero outside it. -/
theorem mask_eq (w : BitVec 32) (h₁ : 1024 ≤ w.toNat) (h₂ : w.toNat ≤ 32768) (p : Fin 32768) :
    IntOp.andi (IntOp.cmpi .slt (BitVec.ofNat 32 p.val) w) (IntOp.cmpi .sgt (BitVec.ofNat 32 p.val) (IntOp.subi w 1024#32))
      = if inWin w.toNat p then 1#1 else 0#1 := by
  have hp : (BitVec.ofNat 32 p.val).toNat = p.val := by rw [BitVec.toNat_ofNat]; omega
  have hs : (IntOp.subi w 1024#32).toNat = w.toNat - 1024 := by
    show (w - 1024#32).toNat = _
    rw [BitVec.toNat_sub]
    have : (1024#32 : BitVec 32).toNat = 1024 := rfl
    omega
  have e1 : (BitVec.ofNat 32 p.val).slt w = decide (p.val < w.toNat) := by
    unfold BitVec.slt
    rw [BitVec.toInt_eq_toNat_of_lt (by omega), BitVec.toInt_eq_toNat_of_lt (by omega), hp]
    simp only [Nat.cast_lt]
  have e2 : (IntOp.subi w 1024#32).slt (BitVec.ofNat 32 p.val) = decide (w.toNat - 1024 < p.val) := by
    unfold BitVec.slt
    rw [BitVec.toInt_eq_toNat_of_lt (by omega), BitVec.toInt_eq_toNat_of_lt (by omega), hp, hs]
    simp only [Nat.cast_lt]
  show BitVec.ofBool ((BitVec.ofNat 32 p.val).slt w) &&& BitVec.ofBool ((IntOp.subi w 1024#32).slt (BitVec.ofNat 32 p.val)) = _
  rw [e1, e2]
  unfold inWin
  by_cases a : p.val < w.toNat <;> by_cases b : w.toNat - 1024 < p.val <;> simp [a, b]

/-! Attention over the window, in terms of the numbers it reads. -/
section
variable (w : BitVec 32) (qf : Fin 16 → Fin 64 → EReal) (kf vf : Fin 64 → EReal) (kc : Fin 32768 → Fin 64 → BitVec 8) (ks : Fin 64 → EReal)
  (vc : Fin 32768 → Fin 64 → BitVec 8) (vs : Fin 32768 → EReal)

/-- The new token's score, and the score of a position of the cache. -/
def newScore (h : Fin 16) : EReal := (∑ k : Fin 64, qf h k * kf k) * Ideal.ofBits .f32 0x3E000000#32
def oldScore (h : Fin 16) (p : Fin 32768) : EReal :=
  (∑ k : Fin 64, qf h k * ((((kc p k).toInt : ℝ) : EReal) * ks k)) * Ideal.ofBits .f32 0x3E000000#32

/-- The masked scores. -/
def maskedScore (h : Fin 16) (p : Fin 32768) : EReal := if inWin w.toNat p then oldScore qf kc ks h p else ⊥

/-- One element of attention over the window and the new token. -/
def attend (h : Fin 16) (d : Fin 64) : EReal :=
  let M := max (Finset.univ.fold max ⊥ (maskedScore w qf kc ks h)) (newScore qf kf h)
  let D := (∑ p, Ideal.exp (maskedScore w qf kc ks h p - M)) + Ideal.exp (newScore qf kf h - M)
  (∑ p, Ideal.div (Ideal.exp (maskedScore w qf kc ks h p - M)) D * vs p * (((vc p d).toInt : ℝ) : EReal))
    + Ideal.div (Ideal.exp (newScore qf kf h - M)) D * vf d

open Cert.KernelIdeal (S1x64x128 S1x1x128 S1x16x64 S1x64) in
/-- A row of the kernel's result, once each slot is known to hold its position's entry. -/
theorem row_attend (Ks : Vec Ideal S1x64x128 .i8) (K : ℕ → Vec Ideal S1x64x128 .i8) (Vs : Vec Ideal S1x64x128 .i8) (V : ℕ → Vec Ideal S1x64x128 .i8)
    (Ss : Vec Ideal S1x1x128 .f32) (S : ℕ → Vec Ideal S1x1x128 .f32) (x : Vec Ideal S1x64x128 .bf16) (q : Vec Ideal S1x16x64 .bf16) (kn vn : Vec Ideal S1x64 .f32)
    (h₁ : 1024 ≤ w.toNat) (h₂ : w.toNat ≤ 32768)
    (cK : ∀ k j, slot (Scalar.andi w 127#32) Ks K k j = kc (posOf w.toNat j) k) (cV : ∀ k j, slot (Scalar.andi w 127#32) Vs V k j = vc (posOf w.toNat j) k)
    (cS : ∀ j, slot (Scalar.andi w 127#32) Ss S 0 j = vs (posOf w.toNat j))
    (e5 : ∀ h k, q (ix3 0 h k) = qf h k) (e6 : ∀ k, kn (ix2 0 k) = kf k) (e7 : ∀ k, vn (ix2 0 k) = vf k) (e8 : ∀ k l, x (ix3 0 k l) = ks k)
    (hq : ∀ h k, IsNum (qf h k)) (hk : ∀ k, IsNum (kf k)) (hs : ∀ k, IsNum (ks k)) (h : Fin 16) (d : Fin 64) :
    Cert.KernelIdeal.Hand.rowF w Ks K Vs V Ss S x q kn vn (ix3 0 h d) = attend w qf kf vf kc ks vc vs h d := by
  rw [Cert.KernelIdeal.Hand.rowF_apply]
  have hnew : sNew q kn h = newScore qf kf h := by
    unfold sNew newScore
    simp only [e5, e6]
  have hraw (j : Fin 1024) : sRaw w Ks K x q h j = oldScore qf kc ks h (posOf w.toNat j) := by
    unfold sRaw oldScore
    refine congrArg (· * _) (Finset.sum_congr rfl fun k _ => ?_)
    rw [e5, e8]
    exact congrArg (fun z : BitVec 8 => qf h k * ((((z.toInt : ℝ) : EReal)) * ks k)) (cK k j)
  have hnum : ∀ p, IsNum (oldScore qf kc ks h p) := fun p =>
    isNum_mul (isNum_sum _ _ fun k => isNum_mul (hq h k) (isNum_mul ⟨_, rfl⟩ (hs k))) isNum_eighth
  have hnumN : IsNum (newScore qf kf h) := isNum_mul (isNum_sum _ _ fun k => isNum_mul (hq h k) (hk k)) isNum_eighth
  have hat {α : Type} (j : Fin 1024) (hj : j.val < 128) (a z : α) :
      Scalar.select (Cert.KernelIdeal.Hand.isAt (Scalar.andi w 127#32) ⟨j.val % 128, by omega⟩) a z = if j = rSlot w.toNat then a else z := by
    rw [Cert.KernelIdeal.Hand.isAt_eq]
    by_cases hr : j = rSlot w.toNat
    · have e : j.val = w.toNat % 128 := congrArg Fin.val hr
      rw [if_pos (show j.val % 128 = _ by omega), if_pos hr, ValueIdx.select_one]
    · have e : ¬ j.val = w.toNat % 128 := fun e => hr (Fin.ext e)
      rw [if_neg (show ¬ j.val % 128 = _ by omega), if_neg hr, ValueIdx.select_zero]
  have hfar (j : Fin 1024) (hj : ¬ j.val < 128) : j ≠ rSlot w.toNat := fun e => by
    have : j.val = w.toNat % 128 := congrArg Fin.val e
    omega
  have hS (j : Fin 1024) : sSlot w Ks K x q kn h j = if j = rSlot w.toNat then newScore qf kf h else oldScore qf kc ks h (posOf w.toNat j) := by
    unfold sSlot
    rw [hraw, hnew]
    by_cases hj : j.val < 128
    · rw [if_pos hj, hat j hj]
    · rw [if_neg hj, if_neg (hfar j hj)]
  have hW (j : Fin 1024) : wSlot w Ss S j = if j = rSlot w.toNat then 0 else vs (posOf w.toNat j) := by
    unfold wSlot
    rw [cS]
    by_cases hj : j.val < 128
    · rw [if_pos hj, hat j hj]
    · rw [if_neg hj, if_neg (hfar j hj)]
  rw [hnew, e7]
  unfold attend
  refine Cert.Sums.attention (ring h₁ h₂) _ (maskedScore w qf kc ks h) _ _ vs (fun p => (((vc p d).toInt : ℝ) : EReal)) (newScore qf kf h) (vf d)
    (fun j hj => ?_) ?_ (fun p hp => if_neg hp) (fun j hj => ?_) ?_ (fun j hj => ?_) (isNum_ne_bot hnumN) ?_
  · rw [hS, if_neg hj]
    exact (if_pos ((ring h₁ h₂).okay j hj)).symm
  · rw [hS, if_pos rfl]
  · rw [hW, if_neg hj]
  · rw [hW, if_pos rfl]
  · exact congrArg (fun z : BitVec 8 => ((z.toInt : ℝ) : EReal)) (cV d j)
  · refine ne_of_lt ((Finset.fold_max_lt _).mpr ⟨bot_lt_top, fun j _ => ?_⟩)
    rw [hS]
    split
    · exact isNum_lt_top hnumN
    · exact isNum_lt_top (hnum _)

end

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs' arguments agree. -/
structure Agree (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

section
variable (c : Dev Cert.KernelIdeal.nD) (b : Fin 64)

/-- The length of a batch, the query, the new key and value, the codes and the scales, as numbers of the arguments. -/
def wd : BitVec 32 := m ((c.tc : Thread Cert.KernelIdeal.nD Cert.KernelIdeal.τ).loc Cert.KernelIdeal.main_arg7) (ix1 b)
def qA (h : Fin 16) (k : Fin 64) : EReal := m ((c.tc : Thread Cert.KernelIdeal.nD Cert.KernelIdeal.τ).loc Cert.KernelIdeal.main_arg0) (ix4 b 0 h k)
def knA (k : Fin 64) : EReal := m ((c.tc : Thread Cert.KernelIdeal.nD Cert.KernelIdeal.τ).loc Cert.KernelIdeal.main_arg1) (ix4 b 0 0 k)
def vnA (k : Fin 64) : EReal := m ((c.tc : Thread Cert.KernelIdeal.nD Cert.KernelIdeal.τ).loc Cert.KernelIdeal.main_arg2) (ix4 b 0 0 k)
def kcA (p : Fin 32768) (k : Fin 64) : BitVec 8 := m ((c.tc : Thread Cert.KernelIdeal.nD Cert.KernelIdeal.τ).loc Cert.KernelIdeal.main_arg3) (ix4 b p 0 k)
def ksA (k : Fin 64) : EReal := m ((c.tc : Thread Cert.KernelIdeal.nD Cert.KernelIdeal.τ).loc Cert.KernelIdeal.main_arg4) (ix3 b 0 k)
def vcA (p : Fin 32768) (k : Fin 64) : BitVec 8 := m ((c.tc : Thread Cert.KernelIdeal.nD Cert.KernelIdeal.τ).loc Cert.KernelIdeal.main_arg5) (ix4 b p 0 k)
def vsA (p : Fin 32768) : EReal := m ((c.tc : Thread Cert.KernelIdeal.nD Cert.KernelIdeal.τ).loc Cert.KernelIdeal.main_arg6) (ix3 b p 0)

end

/-- The reference's first result. -/
theorem reference_attend (c : Dev Cert.KernelIdeal.nD) (ha : Agree m m' c) (b : Fin 64) (h₁ : 1024 ≤ (wd m c b).toNat) (h₂ : (wd m c b).toNat ≤ 32768) (h : Fin 16) (d : Fin 64) :
    Cert.ReferenceIdeal.Hand.rres0 m' c (ix3 b h d) = attend (wd m c b) (qA m c b) (knA m c b) (vnA m c b) (kcA m c b) (ksA m c b) (vcA m c b) (vsA m c b) h d := by
  unfold Cert.ReferenceIdeal.Hand.rres0
  rw [Cert.ReferenceIdeal.Hand.attention]
  have e0 : Cert.ReferenceIdeal.Gen.V m' c Cert.ReferenceIdeal.main_v0 (ix3 b 0 0) = wd m c b := by rw [Cert.ReferenceIdeal.Hand.V0_at, ha.a7]; rfl
  have e1 (h : Fin 16) (k : Fin 64) : Cert.ReferenceIdeal.Gen.V m' c Cert.ReferenceIdeal.main_v1 (ix3 b h k) = qA m c b h k := by rw [Cert.ReferenceIdeal.Hand.V1_at, ha.a0]; rfl
  have e2 (k : Fin 64) : Cert.ReferenceIdeal.Gen.V m' c Cert.ReferenceIdeal.main_v2 (ix2 b k) = knA m c b k := by rw [Cert.ReferenceIdeal.Hand.V2_at, ha.a1]; rfl
  have e3 (k : Fin 64) : Cert.ReferenceIdeal.Gen.V m' c Cert.ReferenceIdeal.main_v3 (ix2 b k) = vnA m c b k := by rw [Cert.ReferenceIdeal.Hand.V3_at, ha.a2]; rfl
  have e4 (k : Fin 64) : Cert.ReferenceIdeal.Gen.V m' c Cert.ReferenceIdeal.main_v4 (ix2 b k) = ksA m c b k := by rw [Cert.ReferenceIdeal.Hand.V4_at, ha.a4]; rfl
  have e5 (p : Fin 32768) (k : Fin 64) : Cert.ReferenceIdeal.Gen.V m' c Cert.ReferenceIdeal.main_v5 (ix3 b p k) = kcA m c b p k := by rw [Cert.ReferenceIdeal.Hand.V5_at, ha.a3]; rfl
  have e6 (p : Fin 32768) (k : Fin 64) : Cert.ReferenceIdeal.Gen.V m' c Cert.ReferenceIdeal.main_v6 (ix3 b p k) = vcA m c b p k := by rw [Cert.ReferenceIdeal.Hand.V6_at, ha.a5]; rfl
  have e7 (p : Fin 32768) : Cert.ReferenceIdeal.Gen.V m' c Cert.ReferenceIdeal.main_v7 (ix3 b 0 p) = vsA m c b p := by rw [Cert.ReferenceIdeal.Hand.V7_at, ha.a6]; rfl
  generalize Cert.ReferenceIdeal.Gen.V m' c Cert.ReferenceIdeal.main_v0 = x0 at *
  generalize Cert.ReferenceIdeal.Gen.V m' c Cert.ReferenceIdeal.main_v1 = x1 at *
  generalize Cert.ReferenceIdeal.Gen.V m' c Cert.ReferenceIdeal.main_v2 = x2 at *
  generalize Cert.ReferenceIdeal.Gen.V m' c Cert.ReferenceIdeal.main_v3 = x3 at *
  generalize Cert.ReferenceIdeal.Gen.V m' c Cert.ReferenceIdeal.main_v4 = x4 at *
  generalize Cert.ReferenceIdeal.Gen.V m' c Cert.ReferenceIdeal.main_v5 = x5 at *
  generalize Cert.ReferenceIdeal.Gen.V m' c Cert.ReferenceIdeal.main_v6 = x6 at *
  generalize Cert.ReferenceIdeal.Gen.V m' c Cert.ReferenceIdeal.main_v7 = x7 at *
  have hn : Cert.ReferenceIdeal.Hand.sN x1 x2 b h = newScore (qA m c b) (knA m c b) h := by
    unfold Cert.ReferenceIdeal.Hand.sN newScore
    simp only [e1, e2]
  have ho (p : Fin 32768) : Cert.ReferenceIdeal.Hand.sC x1 x4 x5 b h p = oldScore (qA m c b) (kcA m c b) (ksA m c b) h p := by
    unfold Cert.ReferenceIdeal.Hand.sC oldScore
    simp only [e1, e4, e5]
  have hm (p : Fin 32768) : Scalar.select (IntOp.andi (IntOp.cmpi .slt (BitVec.ofNat 32 p.val) (x0 (ix3 b 0 0)))
      (IntOp.cmpi .sgt (BitVec.ofNat 32 p.val) (IntOp.subi (x0 (ix3 b 0 0)) 1024#32))) (Cert.ReferenceIdeal.Hand.sC x1 x4 x5 b h p) ⊥ = maskedScore (wd m c b) (qA m c b) (kcA m c b) (ksA m c b) h p := by
    rw [e0, mask_eq _ h₁ h₂, ho]
    unfold maskedScore
    by_cases hw : inWin (wd m c b).toNat p
    · rw [if_pos hw, if_pos hw, ValueIdx.select_one]
    · rw [if_neg hw, if_neg hw, ValueIdx.select_zero]
  simp only [hm, hn, e3, e6, e7]
  rfl

section
open Cert.KernelIdeal.Gen Cert.KernelIdeal.Hand
open Cert.KernelIdeal (S64x16x64 S64x64)

theorem fin_ofNat (b : Fin 64) : Fin.ofNat 64 b.val = b := Fin.ext (Nat.mod_eq_of_lt b.isLt)

theorem row3_at {β : Type} {D L : ℕ} (f : (⟨3, ![64, D, L]⟩ : Shape).Idx → β) (b : Fin 64) (k : Fin D) (l : Fin L) : row3 f b.val (ix3 0 k l) = f (ix3 b k l) := by
  show f (ix3 (Fin.ofNat 64 b.val) k l) = _
  rw [fin_ofNat]

theorem row2_at {β : Type} {L : ℕ} (f : (⟨2, ![64, L]⟩ : Shape).Idx → β) (b : Fin 64) (l : Fin L) : row2 f b.val (ix2 0 l) = f (ix2 b l) := by
  show f (ix2 (Fin.ofNat 64 b.val) l) = _
  rw [fin_ofNat]

set_option maxRecDepth 16384 in
theorem pay286_at (x : FVec Ideal S64x64 .bf16) (b k : Fin 64) : k0_pay286 (F := Ideal) x (ix2 b k) = x (ix2 b k) := by
  unfold k0_pay286 k0_pay285
  pointwise

set_option maxRecDepth 16384 in
theorem pay289_at (x : FVec Ideal S64x64 .bf16) (b k : Fin 64) : k0_pay289 (F := Ideal) x (ix2 b k) = x (ix2 b k) := by
  unfold k0_pay289 k0_pay288
  pointwise

set_option maxRecDepth 16384 in
theorem scale_at (x : FVec Ideal S64x64 .f32) (b k : Fin 64) : k0_pay294 (F := Ideal) (k0_pay284 x) (ix2 k b) = x (ix2 b k) := by
  unfold k0_pay294 k0_pay284
  pointwise

theorem colX_at (T : FVec Ideal S64x64 .f32) (b k : Fin 64) (l : Fin 128) : colX T (ix3 b k l) = T (ix2 k b) := rfl

/-- The kernel's first result, from the arrays it reads. -/
theorem outR_attend (wdf : ℕ → BitVec 32) (src : ℕ → ℕ) (K V : (⟨3, ![64, 64, 32768]⟩ : Shape).Idx → BitVec 8) (S : (⟨3, ![64, 1, 32768]⟩ : Shape).Idx → EReal)
    (sc : FVec Ideal S64x64 .f32) (q : FVec Ideal S64x16x64 .bf16) (kn vn : FVec Ideal S64x64 .bf16) (b : Fin 64)
    (hsrc : src b.val = srcN (wdf b.val).toNat) (h₁ : 1024 ≤ (wdf b.val).toNat) (h₂ : (wdf b.val).toNat ≤ 32768)
    (hq : ∀ h k, IsNum (q (ix3 b h k))) (hk : ∀ k, IsNum (kn (ix2 b k))) (hs : ∀ k, IsNum (sc (ix2 b k))) (h : Fin 16) (d : Fin 64) :
    outR (F := Ideal) wdf (land (D := 64) src K) (land (D := 64) src V) (land (D := 1) src S) (colX (k0_pay294 (k0_pay284 sc))) q (k0_pay286 (F := Ideal) kn) (k0_pay289 (F := Ideal) vn) (ix3 b h d)
      = attend (wdf b.val) (fun h k => q (ix3 b h k)) (fun k => kn (ix2 b k)) (fun k => vn (ix2 b k)) (fun p k => K (ix3 b k p)) (fun k => sc (ix2 b k)) (fun p k => V (ix3 b k p))
          (fun p => S (ix3 b 0 p)) h d := by
  show rowB (F := Ideal) wdf _ _ _ _ _ _ _ b.val (ix3 0 h d) = _
  unfold rowB
  exact row_attend (wdf b.val) _ _ _ _ _ _ _ _ _ _ _ _ _ _ _ _ _ h₁ h₂
    (fun k j => slot_land (wdf b.val) h₁ h₂ src K b hsrc k j) (fun k j => slot_land (wdf b.val) h₁ h₂ src V b hsrc k j)
    (fun j => slot_land (wdf b.val) h₁ h₂ src S b hsrc 0 j)
    (fun h k => row3_at q b h k) (fun k => (row2_at _ b k).trans (pay286_at kn b k)) (fun k => (row2_at _ b k).trans (pay289_at vn b k))
    (fun k l => (row3_at _ b k l).trans ((colX_at _ b k l).trans (scale_at sc b k))) hq hk hs h d

/-- The kernel's first result. -/
theorem kernel_attend (c : Dev Cert.KernelIdeal.nD) (b : Fin 64) (h₁ : 1024 ≤ (wd m c b).toNat) (h₂ : (wd m c b).toNat ≤ 32768)
    (hq : ∀ h k, IsNum (qA m c b h k)) (hk : ∀ k, IsNum (knA m c b k)) (hs : ∀ k, IsNum (ksA m c b k)) (h : Fin 16) (d : Fin 64) :
    res0 m c (ix3 b h d) = attend (wd m c b) (qA m c b) (knA m c b) (vnA m c b) (kcA m c b) (ksA m c b) (vcA m c b) (vsA m c b) h d := by
  have hlen : lenW m c b.val = wd m c b := by
    unfold lenW
    rw [dif_pos b.isLt, V_main_arg7]
    rfl
  have hsrc : srcW m c b.val = srcN (lenW m c b.val).toNat := rfl
  have e5 : (fun h k => V m c Cert.KernelIdeal.main_v5 (ix3 b h k)) = qA m c b := funext fun h => funext fun k => V5_at m c b h k
  have e6 : (fun k => V m c Cert.KernelIdeal.main_v6 (ix2 b k)) = knA m c b := funext fun k => V6_at m c b k
  have e7 : (fun k => V m c Cert.KernelIdeal.main_v7 (ix2 b k)) = vnA m c b := funext fun k => V7_at m c b k
  have e8 : (fun k => V m c Cert.KernelIdeal.main_v8 (ix2 b k)) = ksA m c b := funext fun k => V8_at m c b k
  have e1 : (fun p k => V m c Cert.KernelIdeal.main_v1 (ix3 b k p)) = kcA m c b := funext fun p => funext fun k => V1_at m c b k p
  have e3 : (fun p k => V m c Cert.KernelIdeal.main_v3 (ix3 b k p)) = vcA m c b := funext fun p => funext fun k => V3_at m c b k p
  have e4 : (fun p => V m c Cert.KernelIdeal.main_v4 (ix3 b 0 p)) = vsA m c b := funext fun p => V4_at m c b p
  rw [← hlen] at h₁ h₂
  refine (outR_attend (lenW m c) (srcW m c) (V m c Cert.KernelIdeal.main_v1) (V m c Cert.KernelIdeal.main_v3) (V m c Cert.KernelIdeal.main_v4) (V m c Cert.KernelIdeal.main_v8)
    (V m c Cert.KernelIdeal.main_v5) (V m c Cert.KernelIdeal.main_v6) (V m c Cert.KernelIdeal.main_v7) b hsrc h₁ h₂
    (fun h k => (congrArg IsNum (V5_at m c b h k)).mpr (hq h k)) (fun k => (congrArg IsNum (V6_at m c b k)).mpr (hk k)) (fun k => (congrArg IsNum (V8_at m c b k)).mpr (hs k)) h d).trans ?_
  rw [e1, e3, e4, e5, e6, e7, e8, hlen]

end

end Cert.Alg

end
-- ==== Proof.Equal.lean ====
/-
The four results of the two programs are equal, and with the runs of both this is the value claim.
The first result is attention, read element by element; the other three are the quantised key, the
quantised value and its scale, which both programs compute by the same operations on equal arrays.
-/
module
public import proofs.«01_k».proof.Defs
public import proofs.«01_k».proof.Proof.Alg

@[expose] public section
noncomputable section

namespace Cert.Alg
open Cert.PreFinite
open Idealize.ShloMosaic Idealize.ShloMosaic.TcCoe Idealize.SL.Sem

/-! The operations of the three quantised results, in either program. -/

theorem codes_key (s : Vec Ideal Cert.KernelIdeal.S64x64 .f32) (k : Vec Ideal Cert.KernelIdeal.S64x64 .bf16) :
    Cert.ReferenceIdeal.Gen.k0_pay4 (F := Ideal) s k = Cert.KernelIdeal.Gen.k0_pay287 (F := Ideal) s k := rfl

theorem scale_value (v : Vec Ideal Cert.KernelIdeal.S64x64 .bf16) :
    Cert.ReferenceIdeal.Gen.k0_pay6 (F := Ideal) v = Cert.KernelIdeal.Gen.k0_pay290 (F := Ideal) v := rfl

theorem codes_value (v : Vec Ideal Cert.KernelIdeal.S64x64 .bf16) :
    Cert.ReferenceIdeal.Gen.k0_pay7 (F := Ideal) v = Cert.KernelIdeal.Gen.k0_pay292 (F := Ideal) (Cert.KernelIdeal.Gen.k0_pay291 (F := Ideal) v) := rfl

theorem scale_row (v : Vec Ideal Cert.KernelIdeal.S64x64 .bf16) :
    Cert.ReferenceIdeal.Gen.k0_pay8 (F := Ideal) v = Cert.KernelIdeal.Gen.k0_pay293 (F := Ideal) (Cert.KernelIdeal.Gen.k0_pay290 (F := Ideal) v) := rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ha : Agree m m' c)
include ha

/-- Both programs pass their pallas_call the same new key, new value and key scale. -/
theorem new_key : Cert.ReferenceIdeal.Gen.V m' c Cert.ReferenceIdeal.main_v2 = Cert.KernelIdeal.Gen.V m c Cert.KernelIdeal.main_v6 := by
  funext i
  obtain ⟨a, b, rfl⟩ : ∃ a b, i = ix2 a b := ⟨_, _, eq_ix2 i⟩
  refine (Cert.ReferenceIdeal.Hand.V2_at m' c _ _).trans (Eq.trans ?_ (Cert.KernelIdeal.Hand.V6_at m c _ _).symm)
  rw [ha.a1]

theorem new_value : Cert.ReferenceIdeal.Gen.V m' c Cert.ReferenceIdeal.main_v3 = Cert.KernelIdeal.Gen.V m c Cert.KernelIdeal.main_v7 := by
  funext i
  obtain ⟨a, b, rfl⟩ : ∃ a b, i = ix2 a b := ⟨_, _, eq_ix2 i⟩
  refine (Cert.ReferenceIdeal.Hand.V3_at m' c _ _).trans (Eq.trans ?_ (Cert.KernelIdeal.Hand.V7_at m c _ _).symm)
  rw [ha.a2]

theorem key_scale : Cert.ReferenceIdeal.Gen.V m' c Cert.ReferenceIdeal.main_v4 = Cert.KernelIdeal.Gen.V m c Cert.KernelIdeal.main_v8 := by
  funext i
  obtain ⟨a, b, rfl⟩ : ∃ a b, i = ix2 a b := ⟨_, _, eq_ix2 i⟩
  refine (Cert.ReferenceIdeal.Hand.V4_at m' c _ _).trans (Eq.trans ?_ (Cert.KernelIdeal.Hand.V8_at m c _ _).symm)
  rw [ha.a4]

theorem eq1 : Cert.ReferenceIdeal.Hand.rres1 m' c = Cert.KernelIdeal.Hand.res1 m c := by
  unfold Cert.ReferenceIdeal.Hand.rres1 Cert.KernelIdeal.Hand.res1
  rw [new_key m m' c ha, key_scale m m' c ha]
  exact codes_key _ _

theorem eq2 : Cert.ReferenceIdeal.Hand.rres2 m' c = Cert.KernelIdeal.Hand.res2 m c := by
  unfold Cert.ReferenceIdeal.Hand.rres2 Cert.KernelIdeal.Hand.res2
  rw [new_value m m' c ha]
  exact codes_value _

theorem eq3 : Cert.ReferenceIdeal.Hand.rres3 m' c = Cert.KernelIdeal.Hand.res3 m c := by
  unfold Cert.ReferenceIdeal.Hand.rres3 Cert.KernelIdeal.Hand.res3
  rw [new_value m m' c ha]
  exact scale_row _

theorem eq0 [Cert.Pre_finite_window.Facts] (hp : Cert.Pre_KernelIdeal_finite_window m) : Cert.ReferenceIdeal.Hand.rres0 m' c = Cert.KernelIdeal.Hand.res0 m c := by
  funext i
  obtain ⟨b, h, d, rfl⟩ : ∃ b h d, i = ix3 b h d := ⟨_, _, _, eq_ix3 i⟩
  have e := elems (hp c) b
  exact (reference_attend m m' c ha b e.1.1 e.1.2 h d).trans
    (kernel_attend m c b e.1.1 e.1.2 e.2.1 e.2.2.1 e.2.2.2 h d).symm

omit ha in
/-- The precondition of the value claim puts every length in range. -/
theorem lenOk [Cert.Pre_finite_window.Facts] (hp : Cert.Pre_KernelIdeal_finite_window m) : Cert.KernelIdeal.Hand.LenOk (F := Ideal) m := by
  intro c b hb
  unfold Cert.KernelIdeal.Hand.lenW
  rw [dif_pos hb, Cert.KernelIdeal.Gen.V_main_arg7]
  exact (elems (hp c) ⟨b, hb⟩).1

omit ha in
theorem algebraic [Cert.Pre_finite_window.Facts] : Cert.algebraic_KernelIdeal_ReferenceIdeal_pre_finite_window := by
  intro m g m' g' hp hargs
  have ha (c : Dev Cert.KernelIdeal.nD) : Agree m m' c := by
    obtain ⟨h0, h1, h2, h3, h4, h5, h6, h7⟩ := hargs c
    exact ⟨h0, h1, h2, h3, h4, h5, h6, h7⟩
  refine ⟨Cert.KernelIdeal.Hand.res0 m, Cert.KernelIdeal.Hand.res1 m, Cert.KernelIdeal.Hand.res2 m, Cert.KernelIdeal.Hand.res3 m, ?_, ?_⟩
  · refine (θ_run _ _ _).mono (fun r h c => ?_) (Cert.KernelIdeal.Hand.run m g (lenOk m hp))
    obtain ⟨⟨h0, h1, h2, h3⟩, hk⟩ := h.1 c
    exact ⟨h0, h1, h2, h3, hk⟩
  · refine (θ_run _ _ _).mono (fun r h c => ?_) (Cert.ReferenceIdeal.Value.run_blocks m' g')
    obtain ⟨h0, h1, h2, h3, hk⟩ := h c
    exact ⟨h0.trans ((Cert.ReferenceIdeal.Hand.final8 m' c).trans (eq0 m m' c (ha c) hp)),
      h1.trans ((Cert.ReferenceIdeal.Hand.final9 m' c).trans (eq1 m m' c (ha c))),
      h2.trans ((Cert.ReferenceIdeal.Hand.final10 m' c).trans (eq2 m m' c (ha c))),
      h3.trans ((Cert.ReferenceIdeal.Hand.final11 m' c).trans (eq3 m m' c (ha c))), hk⟩

end Cert.Alg

end
-- ==== Proof.lean ====
/-
The claim assembled: the frames, and the value claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init
public import proofs.«01_k».proof.Proof.KFrame
public import proofs.«01_k».proof.Proof.Pre
public import proofs.«01_k».proof.Proof.Equal

@[expose] public section

noncomputable section

namespace Cert.Proof

open Idealize.ShloMosaic Idealize.ShloMosaic.TcCoe Idealize.SL.Sem

/-- The precondition puts every length in range: the program as printed. -/
theorem lenOkK [Cert.Pre_window_in_cache.Facts] (m : (ℓ : Loc Cert.Kernel.nD Cert.Kernel.τ Cert.Kernel.sig) → Buf (Elt Bits) ℓ)
    (h : Cert.Pre_Kernel m) : Cert.KernelIdeal.Hand.LenOk (F := Bits) m := by
  intro c b hb
  unfold Cert.KernelIdeal.Hand.lenW
  rw [dif_pos hb, Cert.KernelIdeal.Gen.V_main_arg7]
  exact Cert.PreFacts.range (h c) _

/-- The precondition puts every length in range: the program over the reals. -/
theorem lenOkI [Cert.Pre_window_in_cache.Facts] (m : (ℓ : Loc Cert.KernelIdeal.nD Cert.KernelIdeal.τ Cert.KernelIdeal.sig) → Buf (Elt Ideal) ℓ)
    (h : Cert.Pre_KernelIdeal m) : Cert.KernelIdeal.Hand.LenOk (F := Ideal) m := by
  intro c b hb
  unfold Cert.KernelIdeal.Hand.lenW
  rw [dif_pos hb, Cert.KernelIdeal.Gen.V_main_arg7]
  exact Cert.PreFacts.range (h c) _

theorem claim : Cert.Claim :=
  ⟨Cert.Kernel.Gen.facts, Cert.KernelIdeal.Gen.facts, Cert.ReferenceIdeal.Gen.facts,
   Cert.PreFacts.facts, Cert.PreFinite.facts,
   fun m g h => Cert.Kernel.Hand.frame m g (letI := Cert.PreFacts.facts; lenOkK m h),
   fun m g h => Cert.KernelIdeal.Hand.frame m g (letI := Cert.PreFacts.facts; lenOkI m h),
   fun m g h => Cert.KernelIdeal.Hand.frame m g (letI := Cert.PreFinite.facts; Cert.Alg.lenOk m h),
   fun m g _ => Cert.ReferenceIdeal.Gen.frame m g,
   fun m g _ => Cert.ReferenceIdeal.Gen.frame m g,
   trivial,
   letI := Cert.PreFinite.facts; Cert.Alg.algebraic⟩

end Cert.Proof

end
